-- ==== Defs.lean ====
def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpIdeal_finite_gmlp [hPre_finite_gmlp : Cert.Pre_finite_gmlp.Facts] (m : (ℓ : Loc Cert.GmlpIdeal.nD Cert.GmlpIdeal.τ Cert.GmlpIdeal.sig) → Buf (Elt Ideal) ℓ) : Prop :=
  ∀ c : Dev Cert.GmlpIdeal.nD,
    (Cert.Pre_finite_gmlp.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).1 = (fun _ => 1#1)
    ∧ (Cert.Pre_finite_gmlp.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.1 = (fun _ => 1#1)
    ∧ (Cert.Pre_finite_gmlp.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.2.1 = (fun _ => 1#1)
    ∧ (Cert.Pre_finite_gmlp.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.2.2.1 = (fun _ => 1#1)
    ∧ (Cert.Pre_finite_gmlp.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.2.2.2 = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_finite_gmlp [hPre_finite_gmlp : Cert.Pre_finite_gmlp.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))).1 = (fun _ => 1#1)
    ∧ (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))).2.1 = (fun _ => 1#1)
    ∧ (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))).2.2.1 = (fun _ => 1#1)
    ∧ (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))).2.2.2.1 = (fun _ => 1#1)
    ∧ (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))).2.2.2.2 = (fun _ => 1#1)

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemIdeal_finite_mem [hPre_finite_mem : Cert.Pre_finite_mem.Facts] (m : (ℓ : Loc Cert.MemIdeal.nD Cert.MemIdeal.τ Cert.MemIdeal.sig) → Buf (Elt Ideal) ℓ) : Prop :=
  ∀ c : Dev Cert.MemIdeal.nD,
    (Cert.Pre_finite_mem.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2))).1 = (fun _ => 1#1)
    ∧ (Cert.Pre_finite_mem.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2))).2.1 = (fun _ => 1#1)
    ∧ (Cert.Pre_finite_mem.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2))).2.2 = (fun _ => 1#1)

def Pre_MemReferIdeal (m : (ℓ : Loc Cert.MemReferIdeal.nD Cert.MemReferIdeal.τ Cert.MemReferIdeal.sig) → Buf (Elt Ideal) ℓ) : Prop :=
  True

def Pre_MemReferIdeal_finite_mem [hPre_finite_mem : Cert.Pre_finite_mem.Facts] (m : (ℓ : Loc Cert.MemReferIdeal.nD Cert.MemReferIdeal.τ Cert.MemReferIdeal.sig) → Buf (Elt Ideal) ℓ) : Prop :=
  ∀ c : Dev Cert.MemReferIdeal.nD,
    (Cert.Pre_finite_mem.fn (F := Ideal) (m ((c.tc : Thread Cert.MemReferIdeal.nD Cert.MemReferIdeal.τ).loc Cert.MemReferIdeal.main_arg0)) (m ((c.tc : Thread Cert.MemReferIdeal.nD Cert.MemReferIdeal.τ).loc Cert.MemReferIdeal.main_arg1)) (m ((c.tc : Thread Cert.MemReferIdeal.nD Cert.MemReferIdeal.τ).loc Cert.MemReferIdeal.main_arg2))).1 = (fun _ => 1#1)
    ∧ (Cert.Pre_finite_mem.fn (F := Ideal) (m ((c.tc : Thread Cert.MemReferIdeal.nD Cert.MemReferIdeal.τ).loc Cert.MemReferIdeal.main_arg0)) (m ((c.tc : Thread Cert.MemReferIdeal.nD Cert.MemReferIdeal.τ).loc Cert.MemReferIdeal.main_arg1)) (m ((c.tc : Thread Cert.MemReferIdeal.nD Cert.MemReferIdeal.τ).loc Cert.MemReferIdeal.main_arg2))).2.1 = (fun _ => 1#1)
    ∧ (Cert.Pre_finite_mem.fn (F := Ideal) (m ((c.tc : Thread Cert.MemReferIdeal.nD Cert.MemReferIdeal.τ).loc Cert.MemReferIdeal.main_arg0)) (m ((c.tc : Thread Cert.MemReferIdeal.nD Cert.MemReferIdeal.τ).loc Cert.MemReferIdeal.main_arg1)) (m ((c.tc : Thread Cert.MemReferIdeal.nD Cert.MemReferIdeal.τ).loc Cert.MemReferIdeal.main_arg2))).2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_finite_down [hPre_finite_down : Cert.Pre_finite_down.Facts] (m : (ℓ : Loc Cert.DownIdeal.nD Cert.DownIdeal.τ Cert.DownIdeal.sig) → Buf (Elt Ideal) ℓ) : Prop :=
  ∀ c : Dev Cert.DownIdeal.nD,
    (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).2.2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).2.2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_finite_down [hPre_finite_down : Cert.Pre_finite_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).2.2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).2.2.2 = (fun _ => 1#1)

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite_up [hPre_finite_up : Cert.Pre_finite_up.Facts] (m : (ℓ : Loc Cert.UpIdeal.nD Cert.UpIdeal.τ Cert.UpIdeal.sig) → Buf (Elt Ideal) ℓ) : Prop :=
  ∀ c : Dev Cert.UpIdeal.nD,
    (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.2.2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.2.2.2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.2.2.2.2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))).2.2.2.2.2.2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_finite_up [hPre_finite_up : Cert.Pre_finite_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))).1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))).2.1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))).2.2.1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))).2.2.2.1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))).2.2.2.2.1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))).2.2.2.2.2.1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))).2.2.2.2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Blend (m : (ℓ : Loc Cert.Blend.nD Cert.Blend.τ Cert.Blend.sig) → Buf (Elt Bits) ℓ) : Prop :=
  True

def Pre_BlendIdeal (m : (ℓ : Loc Cert.BlendIdeal.nD Cert.BlendIdeal.τ Cert.BlendIdeal.sig) → Buf (Elt Ideal) ℓ) : Prop :=
  True

def Pre_BlendRefIdeal (m : (ℓ : Loc Cert.BlendRefIdeal.nD Cert.BlendRefIdeal.τ Cert.BlendRefIdeal.sig) → Buf (Elt Ideal) ℓ) : Prop :=
  True

def Pre_Dout (m : (ℓ : Loc Cert.Dout.nD Cert.Dout.τ Cert.Dout.sig) → Buf (Elt Bits) ℓ) : Prop :=
  True

def Pre_DoutIdeal (m : (ℓ : Loc Cert.DoutIdeal.nD Cert.DoutIdeal.τ Cert.DoutIdeal.sig) → Buf (Elt Ideal) ℓ) : Prop :=
  True

def Pre_DoutRefIdeal (m : (ℓ : Loc Cert.DoutRefIdeal.nD Cert.DoutRefIdeal.τ Cert.DoutRefIdeal.sig) → Buf (Elt Ideal) ℓ) : Prop :=
  True

def Pre_Outtok (m : (ℓ : Loc Cert.Outtok.nD Cert.Outtok.τ Cert.Outtok.sig) → Buf (Elt Bits) ℓ) : Prop :=
  True

def Pre_OuttokIdeal (m : (ℓ : Loc Cert.OuttokIdeal.nD Cert.OuttokIdeal.τ Cert.OuttokIdeal.sig) → Buf (Elt Ideal) ℓ) : Prop :=
  True

def Pre_OuttokRefIdeal (m : (ℓ : Loc Cert.OuttokRefIdeal.nD Cert.OuttokRefIdeal.τ Cert.OuttokRefIdeal.sig) → Buf (Elt Ideal) ℓ) : Prop :=
  True

def Pre_Outmem (m : (ℓ : Loc Cert.Outmem.nD Cert.Outmem.τ Cert.Outmem.sig) → Buf (Elt Bits) ℓ) : Prop :=
  True

def Pre_OutmemIdeal (m : (ℓ : Loc Cert.OutmemIdeal.nD Cert.OutmemIdeal.τ Cert.OutmemIdeal.sig) → Buf (Elt Ideal) ℓ) : Prop :=
  True

def Pre_OutmemRefIdeal (m : (ℓ : Loc Cert.OutmemRefIdeal.nD Cert.OutmemRefIdeal.τ Cert.OutmemRefIdeal.sig) → Buf (Elt Ideal) ℓ) : Prop :=
  True

def Pre_Intok (m : (ℓ : Loc Cert.Intok.nD Cert.Intok.τ Cert.Intok.sig) → Buf (Elt Bits) ℓ) : Prop :=
  True

def Pre_IntokIdeal (m : (ℓ : Loc Cert.IntokIdeal.nD Cert.IntokIdeal.τ Cert.IntokIdeal.sig) → Buf (Elt Ideal) ℓ) : Prop :=
  True

def Pre_IntokRefIdeal (m : (ℓ : Loc Cert.IntokRefIdeal.nD Cert.IntokRefIdeal.τ Cert.IntokRefIdeal.sig) → Buf (Elt Ideal) ℓ) : Prop :=
  True

def Pre_Inmem (m : (ℓ : Loc Cert.Inmem.nD Cert.Inmem.τ Cert.Inmem.sig) → Buf (Elt Bits) ℓ) : Prop :=
  True

def Pre_InmemIdeal (m : (ℓ : Loc Cert.InmemIdeal.nD Cert.InmemIdeal.τ Cert.InmemIdeal.sig) → Buf (Elt Ideal) ℓ) : Prop :=
  True

def Pre_InmemRefIdeal (m : (ℓ : Loc Cert.InmemRefIdeal.nD Cert.InmemRefIdeal.τ Cert.InmemRefIdeal.sig) → Buf (Elt Ideal) ℓ) : Prop :=
  True

def Pre_Din (m : (ℓ : Loc Cert.Din.nD Cert.Din.τ Cert.Din.sig) → Buf (Elt Bits) ℓ) : Prop :=
  True

def Pre_DinIdeal (m : (ℓ : Loc Cert.DinIdeal.nD Cert.DinIdeal.τ Cert.DinIdeal.sig) → Buf (Elt Ideal) ℓ) : Prop :=
  True

def Pre_DinIdeal_finite_din [hPre_finite_din : Cert.Pre_finite_din.Facts] (m : (ℓ : Loc Cert.DinIdeal.nD Cert.DinIdeal.τ Cert.DinIdeal.sig) → Buf (Elt Ideal) ℓ) : Prop :=
  ∀ c : Dev Cert.DinIdeal.nD,
    (Cert.Pre_finite_din.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5))).1 = (fun _ => 1#1)
    ∧ (Cert.Pre_finite_din.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5))).2.1 = (fun _ => 1#1)
    ∧ (Cert.Pre_finite_din.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5))).2.2.1 = (fun _ => 1#1)
    ∧ (Cert.Pre_finite_din.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5))).2.2.2.1 = (fun _ => 1#1)
    ∧ (Cert.Pre_finite_din.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5))).2.2.2.2.1 = (fun _ => 1#1)
    ∧ (Cert.Pre_finite_din.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4)) (m ((c.tc : Thread Cert.DinIdeal.nD Cert.DinIdeal.τ).loc Cert.DinIdeal.main_arg5))).2.2.2.2.2 = (fun _ => 1#1)

def Pre_DinRefIdeal (m : (ℓ : Loc Cert.DinRefIdeal.nD Cert.DinRefIdeal.τ Cert.DinRefIdeal.sig) → Buf (Elt Ideal) ℓ) : Prop :=
  True

def Pre_DinRefIdeal_finite_din [hPre_finite_din : Cert.Pre_finite_din.Facts] (m : (ℓ : Loc Cert.DinRefIdeal.nD Cert.DinRefIdeal.τ Cert.DinRefIdeal.sig) → Buf (Elt Ideal) ℓ) : Prop :=
  ∀ c : Dev Cert.DinRefIdeal.nD,
    (Cert.Pre_finite_din.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5))).1 = (fun _ => 1#1)
    ∧ (Cert.Pre_finite_din.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5))).2.1 = (fun _ => 1#1)
    ∧ (Cert.Pre_finite_din.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5))).2.2.1 = (fun _ => 1#1)
    ∧ (Cert.Pre_finite_din.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5))).2.2.2.1 = (fun _ => 1#1)
    ∧ (Cert.Pre_finite_din.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5))).2.2.2.2.1 = (fun _ => 1#1)
    ∧ (Cert.Pre_finite_din.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4)) (m ((c.tc : Thread Cert.DinRefIdeal.nD Cert.DinRefIdeal.τ).loc Cert.DinRefIdeal.main_arg5))).2.2.2.2.2 = (fun _ => 1#1)

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_Recall (m : (ℓ : Loc Cert.Recall.nD Cert.Recall.τ Cert.Recall.sig) → Buf (Elt Bits) ℓ) : Prop :=
  True

def Pre_RecallIdeal (m : (ℓ : Loc Cert.RecallIdeal.nD Cert.RecallIdeal.τ Cert.RecallIdeal.sig) → Buf (Elt Ideal) ℓ) : Prop :=
  True

def Pre_RecallIdeal_finite_recall [hPre_finite_recall : Cert.Pre_finite_recall.Facts] (m : (ℓ : Loc Cert.RecallIdeal.nD Cert.RecallIdeal.τ Cert.RecallIdeal.sig) → Buf (Elt Ideal) ℓ) : Prop :=
  ∀ c : Dev Cert.RecallIdeal.nD,
    (Cert.Pre_finite_recall.fn (F := Ideal) (m ((c.tc : Thread Cert.RecallIdeal.nD Cert.RecallIdeal.τ).loc Cert.RecallIdeal.main_arg0)) (m ((c.tc : Thread Cert.RecallIdeal.nD Cert.RecallIdeal.τ).loc Cert.RecallIdeal.main_arg1))).1 = (fun _ => 1#1)
    ∧ (Cert.Pre_finite_recall.fn (F := Ideal) (m ((c.tc : Thread Cert.RecallIdeal.nD Cert.RecallIdeal.τ).loc Cert.RecallIdeal.main_arg0)) (m ((c.tc : Thread Cert.RecallIdeal.nD Cert.RecallIdeal.τ).loc Cert.RecallIdeal.main_arg1))).2 = (fun _ => 1#1)

def Pre_RecallRefIdeal (m : (ℓ : Loc Cert.RecallRefIdeal.nD Cert.RecallRefIdeal.τ Cert.RecallRefIdeal.sig) → Buf (Elt Ideal) ℓ) : Prop :=
  True

def Pre_RecallRefIdeal_finite_recall [hPre_finite_recall : Cert.Pre_finite_recall.Facts] (m : (ℓ : Loc Cert.RecallRefIdeal.nD Cert.RecallRefIdeal.τ Cert.RecallRefIdeal.sig) → Buf (Elt Ideal) ℓ) : Prop :=
  ∀ c : Dev Cert.RecallRefIdeal.nD,
    (Cert.Pre_finite_recall.fn (F := Ideal) (m ((c.tc : Thread Cert.RecallRefIdeal.nD Cert.RecallRefIdeal.τ).loc Cert.RecallRefIdeal.main_arg0)) (m ((c.tc : Thread Cert.RecallRefIdeal.nD Cert.RecallRefIdeal.τ).loc Cert.RecallRefIdeal.main_arg1))).1 = (fun _ => 1#1)
    ∧ (Cert.Pre_finite_recall.fn (F := Ideal) (m ((c.tc : Thread Cert.RecallRefIdeal.nD Cert.RecallRefIdeal.τ).loc Cert.RecallRefIdeal.main_arg0)) (m ((c.tc : Thread Cert.RecallRefIdeal.nD Cert.RecallRefIdeal.τ).loc Cert.RecallRefIdeal.main_arg1))).2 = (fun _ => 1#1)

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Kin (m : (ℓ : Loc Cert.Kin.nD Cert.Kin.τ Cert.Kin.sig) → Buf (Elt Bits) ℓ) : Prop :=
  True

def Pre_KinIdeal (m : (ℓ : Loc Cert.KinIdeal.nD Cert.KinIdeal.τ Cert.KinIdeal.sig) → Buf (Elt Ideal) ℓ) : Prop :=
  True

def Pre_KinIdeal_finite_kin [hPre_finite_kin : Cert.Pre_finite_kin.Facts] (m : (ℓ : Loc Cert.KinIdeal.nD Cert.KinIdeal.τ Cert.KinIdeal.sig) → Buf (Elt Ideal) ℓ) : Prop :=
  ∀ c : Dev Cert.KinIdeal.nD,
    (Cert.Pre_finite_kin.fn (F := Ideal) (m ((c.tc : Thread Cert.KinIdeal.nD Cert.KinIdeal.τ).loc Cert.KinIdeal.main_arg0)) (m ((c.tc : Thread Cert.KinIdeal.nD Cert.KinIdeal.τ).loc Cert.KinIdeal.main_arg1)) (m ((c.tc : Thread Cert.KinIdeal.nD Cert.KinIdeal.τ).loc Cert.KinIdeal.main_arg2)) (m ((c.tc : Thread Cert.KinIdeal.nD Cert.KinIdeal.τ).loc Cert.KinIdeal.main_arg3)) (m ((c.tc : Thread Cert.KinIdeal.nD Cert.KinIdeal.τ).loc Cert.KinIdeal.main_arg4)) (m ((c.tc : Thread Cert.KinIdeal.nD Cert.KinIdeal.τ).loc Cert.KinIdeal.main_arg5))).1 = (fun _ => 1#1)
    ∧ (Cert.Pre_finite_kin.fn (F := Ideal) (m ((c.tc : Thread Cert.KinIdeal.nD Cert.KinIdeal.τ).loc Cert.KinIdeal.main_arg0)) (m ((c.tc : Thread Cert.KinIdeal.nD Cert.KinIdeal.τ).loc Cert.KinIdeal.main_arg1)) (m ((c.tc : Thread Cert.KinIdeal.nD Cert.KinIdeal.τ).loc Cert.KinIdeal.main_arg2)) (m ((c.tc : Thread Cert.KinIdeal.nD Cert.KinIdeal.τ).loc Cert.KinIdeal.main_arg3)) (m ((c.tc : Thread Cert.KinIdeal.nD Cert.KinIdeal.τ).loc Cert.KinIdeal.main_arg4)) (m ((c.tc : Thread Cert.KinIdeal.nD Cert.KinIdeal.τ).loc Cert.KinIdeal.main_arg5))).2.1 = (fun _ => 1#1)
    ∧ (Cert.Pre_finite_kin.fn (F := Ideal) (m ((c.tc : Thread Cert.KinIdeal.nD Cert.KinIdeal.τ).loc Cert.KinIdeal.main_arg0)) (m ((c.tc : Thread Cert.KinIdeal.nD Cert.KinIdeal.τ).loc Cert.KinIdeal.main_arg1)) (m ((c.tc : Thread Cert.KinIdeal.nD Cert.KinIdeal.τ).loc Cert.KinIdeal.main_arg2)) (m ((c.tc : Thread Cert.KinIdeal.nD Cert.KinIdeal.τ).loc Cert.KinIdeal.main_arg3)) (m ((c.tc : Thread Cert.KinIdeal.nD Cert.KinIdeal.τ).loc Cert.KinIdeal.main_arg4)) (m ((c.tc : Thread Cert.KinIdeal.nD Cert.KinIdeal.τ).loc Cert.KinIdeal.main_arg5))).2.2.1 = (fun _ => 1#1)
    ∧ (Cert.Pre_finite_kin.fn (F := Ideal) (m ((c.tc : Thread Cert.KinIdeal.nD Cert.KinIdeal.τ).loc Cert.KinIdeal.main_arg0)) (m ((c.tc : Thread Cert.KinIdeal.nD Cert.KinIdeal.τ).loc Cert.KinIdeal.main_arg1)) (m ((c.tc : Thread Cert.KinIdeal.nD Cert.KinIdeal.τ).loc Cert.KinIdeal.main_arg2)) (m ((c.tc : Thread Cert.KinIdeal.nD Cert.KinIdeal.τ).loc Cert.KinIdeal.main_arg3)) (m ((c.tc : Thread Cert.KinIdeal.nD Cert.KinIdeal.τ).loc Cert.KinIdeal.main_arg4)) (m ((c.tc : Thread Cert.KinIdeal.nD Cert.KinIdeal.τ).loc Cert.KinIdeal.main_arg5))).2.2.2.1 = (fun _ => 1#1)
    ∧ (Cert.Pre_finite_kin.fn (F := Ideal) (m ((c.tc : Thread Cert.KinIdeal.nD Cert.KinIdeal.τ).loc Cert.KinIdeal.main_arg0)) (m ((c.tc : Thread Cert.KinIdeal.nD Cert.KinIdeal.τ).loc Cert.KinIdeal.main_arg1)) (m ((c.tc : Thread Cert.KinIdeal.nD Cert.KinIdeal.τ).loc Cert.KinIdeal.main_arg2)) (m ((c.tc : Thread Cert.KinIdeal.nD Cert.KinIdeal.τ).loc Cert.KinIdeal.main_arg3)) (m ((c.tc : Thread Cert.KinIdeal.nD Cert.KinIdeal.τ).loc Cert.KinIdeal.main_arg4)) (m ((c.tc : Thread Cert.KinIdeal.nD Cert.KinIdeal.τ).loc Cert.KinIdeal.main_arg5))).2.2.2.2.1 = (fun _ => 1#1)
    ∧ (Cert.Pre_finite_kin.fn (F := Ideal) (m ((c.tc : Thread Cert.KinIdeal.nD Cert.KinIdeal.τ).loc Cert.KinIdeal.main_arg0)) (m ((c.tc : Thread Cert.KinIdeal.nD Cert.KinIdeal.τ).loc Cert.KinIdeal.main_arg1)) (m ((c.tc : Thread Cert.KinIdeal.nD Cert.KinIdeal.τ).loc Cert.KinIdeal.main_arg2)) (m ((c.tc : Thread Cert.KinIdeal.nD Cert.KinIdeal.τ).loc Cert.KinIdeal.main_arg3)) (m ((c.tc : Thread Cert.KinIdeal.nD Cert.KinIdeal.τ).loc Cert.KinIdeal.main_arg4)) (m ((c.tc : Thread Cert.KinIdeal.nD Cert.KinIdeal.τ).loc Cert.KinIdeal.main_arg5))).2.2.2.2.2 = (fun _ => 1#1)

def Pre_KinRefIdeal (m : (ℓ : Loc Cert.KinRefIdeal.nD Cert.KinRefIdeal.τ Cert.KinRefIdeal.sig) → Buf (Elt Ideal) ℓ) : Prop :=
  True

def Pre_KinRefIdeal_finite_kin [hPre_finite_kin : Cert.Pre_finite_kin.Facts] (m : (ℓ : Loc Cert.KinRefIdeal.nD Cert.KinRefIdeal.τ Cert.KinRefIdeal.sig) → Buf (Elt Ideal) ℓ) : Prop :=
  ∀ c : Dev Cert.KinRefIdeal.nD,
    (Cert.Pre_finite_kin.fn (F := Ideal) (m ((c.tc : Thread Cert.KinRefIdeal.nD Cert.KinRefIdeal.τ).loc Cert.KinRefIdeal.main_arg0)) (m ((c.tc : Thread Cert.KinRefIdeal.nD Cert.KinRefIdeal.τ).loc Cert.KinRefIdeal.main_arg1)) (m ((c.tc : Thread Cert.KinRefIdeal.nD Cert.KinRefIdeal.τ).loc Cert.KinRefIdeal.main_arg2)) (m ((c.tc : Thread Cert.KinRefIdeal.nD Cert.KinRefIdeal.τ).loc Cert.KinRefIdeal.main_arg3)) (m ((c.tc : Thread Cert.KinRefIdeal.nD Cert.KinRefIdeal.τ).loc Cert.KinRefIdeal.main_arg4)) (m ((c.tc : Thread Cert.KinRefIdeal.nD Cert.KinRefIdeal.τ).loc Cert.KinRefIdeal.main_arg5))).1 = (fun _ => 1#1)
    ∧ (Cert.Pre_finite_kin.fn (F := Ideal) (m ((c.tc : Thread Cert.KinRefIdeal.nD Cert.KinRefIdeal.τ).loc Cert.KinRefIdeal.main_arg0)) (m ((c.tc : Thread Cert.KinRefIdeal.nD Cert.KinRefIdeal.τ).loc Cert.KinRefIdeal.main_arg1)) (m ((c.tc : Thread Cert.KinRefIdeal.nD Cert.KinRefIdeal.τ).loc Cert.KinRefIdeal.main_arg2)) (m ((c.tc : Thread Cert.KinRefIdeal.nD Cert.KinRefIdeal.τ).loc Cert.KinRefIdeal.main_arg3)) (m ((c.tc : Thread Cert.KinRefIdeal.nD Cert.KinRefIdeal.τ).loc Cert.KinRefIdeal.main_arg4)) (m ((c.tc : Thread Cert.KinRefIdeal.nD Cert.KinRefIdeal.τ).loc Cert.KinRefIdeal.main_arg5))).2.1 = (fun _ => 1#1)
    ∧ (Cert.Pre_finite_kin.fn (F := Ideal) (m ((c.tc : Thread Cert.KinRefIdeal.nD Cert.KinRefIdeal.τ).loc Cert.KinRefIdeal.main_arg0)) (m ((c.tc : Thread Cert.KinRefIdeal.nD Cert.KinRefIdeal.τ).loc Cert.KinRefIdeal.main_arg1)) (m ((c.tc : Thread Cert.KinRefIdeal.nD Cert.KinRefIdeal.τ).loc Cert.KinRefIdeal.main_arg2)) (m ((c.tc : Thread Cert.KinRefIdeal.nD Cert.KinRefIdeal.τ).loc Cert.KinRefIdeal.main_arg3)) (m ((c.tc : Thread Cert.KinRefIdeal.nD Cert.KinRefIdeal.τ).loc Cert.KinRefIdeal.main_arg4)) (m ((c.tc : Thread Cert.KinRefIdeal.nD Cert.KinRefIdeal.τ).loc Cert.KinRefIdeal.main_arg5))).2.2.1 = (fun _ => 1#1)
    ∧ (Cert.Pre_finite_kin.fn (F := Ideal) (m ((c.tc : Thread Cert.KinRefIdeal.nD Cert.KinRefIdeal.τ).loc Cert.KinRefIdeal.main_arg0)) (m ((c.tc : Thread Cert.KinRefIdeal.nD Cert.KinRefIdeal.τ).loc Cert.KinRefIdeal.main_arg1)) (m ((c.tc : Thread Cert.KinRefIdeal.nD Cert.KinRefIdeal.τ).loc Cert.KinRefIdeal.main_arg2)) (m ((c.tc : Thread Cert.KinRefIdeal.nD Cert.KinRefIdeal.τ).loc Cert.KinRefIdeal.main_arg3)) (m ((c.tc : Thread Cert.KinRefIdeal.nD Cert.KinRefIdeal.τ).loc Cert.KinRefIdeal.main_arg4)) (m ((c.tc : Thread Cert.KinRefIdeal.nD Cert.KinRefIdeal.τ).loc Cert.KinRefIdeal.main_arg5))).2.2.2.1 = (fun _ => 1#1)
    ∧ (Cert.Pre_finite_kin.fn (F := Ideal) (m ((c.tc : Thread Cert.KinRefIdeal.nD Cert.KinRefIdeal.τ).loc Cert.KinRefIdeal.main_arg0)) (m ((c.tc : Thread Cert.KinRefIdeal.nD Cert.KinRefIdeal.τ).loc Cert.KinRefIdeal.main_arg1)) (m ((c.tc : Thread Cert.KinRefIdeal.nD Cert.KinRefIdeal.τ).loc Cert.KinRefIdeal.main_arg2)) (m ((c.tc : Thread Cert.KinRefIdeal.nD Cert.KinRefIdeal.τ).loc Cert.KinRefIdeal.main_arg3)) (m ((c.tc : Thread Cert.KinRefIdeal.nD Cert.KinRefIdeal.τ).loc Cert.KinRefIdeal.main_arg4)) (m ((c.tc : Thread Cert.KinRefIdeal.nD Cert.KinRefIdeal.τ).loc Cert.KinRefIdeal.main_arg5))).2.2.2.2.1 = (fun _ => 1#1)
    ∧ (Cert.Pre_finite_kin.fn (F := Ideal) (m ((c.tc : Thread Cert.KinRefIdeal.nD Cert.KinRefIdeal.τ).loc Cert.KinRefIdeal.main_arg0)) (m ((c.tc : Thread Cert.KinRefIdeal.nD Cert.KinRefIdeal.τ).loc Cert.KinRefIdeal.main_arg1)) (m ((c.tc : Thread Cert.KinRefIdeal.nD Cert.KinRefIdeal.τ).loc Cert.KinRefIdeal.main_arg2)) (m ((c.tc : Thread Cert.KinRefIdeal.nD Cert.KinRefIdeal.τ).loc Cert.KinRefIdeal.main_arg3)) (m ((c.tc : Thread Cert.KinRefIdeal.nD Cert.KinRefIdeal.τ).loc Cert.KinRefIdeal.main_arg4)) (m ((c.tc : Thread Cert.KinRefIdeal.nD Cert.KinRefIdeal.τ).loc Cert.KinRefIdeal.main_arg5))).2.2.2.2.2 = (fun _ => 1#1)

def Pre_Btok (m : (ℓ : Loc Cert.Btok.nD Cert.Btok.τ Cert.Btok.sig) → Buf (Elt Bits) ℓ) : Prop :=
  True

def Pre_BtokIdeal (m : (ℓ : Loc Cert.BtokIdeal.nD Cert.BtokIdeal.τ Cert.BtokIdeal.sig) → Buf (Elt Ideal) ℓ) : Prop :=
  True

def Pre_BtokRefIdeal (m : (ℓ : Loc Cert.BtokRefIdeal.nD Cert.BtokRefIdeal.τ Cert.BtokRefIdeal.sig) → Buf (Elt Ideal) ℓ) : Prop :=
  True

def Pre_Bproj (m : (ℓ : Loc Cert.Bproj.nD Cert.Bproj.τ Cert.Bproj.sig) → Buf (Elt Bits) ℓ) : Prop :=
  True

def Pre_BprojIdeal (m : (ℓ : Loc Cert.BprojIdeal.nD Cert.BprojIdeal.τ Cert.BprojIdeal.sig) → Buf (Elt Ideal) ℓ) : Prop :=
  True

def Pre_BprojRefIdeal (m : (ℓ : Loc Cert.BprojRefIdeal.nD Cert.BprojRefIdeal.τ Cert.BprojRefIdeal.sig) → Buf (Elt Ideal) ℓ) : Prop :=
  True

def Pre_Bin (m : (ℓ : Loc Cert.Bin.nD Cert.Bin.τ Cert.Bin.sig) → Buf (Elt Bits) ℓ) : Prop :=
  True

def Pre_BinIdeal (m : (ℓ : Loc Cert.BinIdeal.nD Cert.BinIdeal.τ Cert.BinIdeal.sig) → Buf (Elt Ideal) ℓ) : Prop :=
  True

def Pre_BinIdeal_finite_bin [hPre_finite_bin : Cert.Pre_finite_bin.Facts] (m : (ℓ : Loc Cert.BinIdeal.nD Cert.BinIdeal.τ Cert.BinIdeal.sig) → Buf (Elt Ideal) ℓ) : Prop :=
  ∀ c : Dev Cert.BinIdeal.nD,
    (Cert.Pre_finite_bin.fn (F := Ideal) (m ((c.tc : Thread Cert.BinIdeal.nD Cert.BinIdeal.τ).loc Cert.BinIdeal.main_arg0)) (m ((c.tc : Thread Cert.BinIdeal.nD Cert.BinIdeal.τ).loc Cert.BinIdeal.main_arg1)) (m ((c.tc : Thread Cert.BinIdeal.nD Cert.BinIdeal.τ).loc Cert.BinIdeal.main_arg2)) (m ((c.tc : Thread Cert.BinIdeal.nD Cert.BinIdeal.τ).loc Cert.BinIdeal.main_arg3)) (m ((c.tc : Thread Cert.BinIdeal.nD Cert.BinIdeal.τ).loc Cert.BinIdeal.main_arg4)) (m ((c.tc : Thread Cert.BinIdeal.nD Cert.BinIdeal.τ).loc Cert.BinIdeal.main_arg5))).1 = (fun _ => 1#1)
    ∧ (Cert.Pre_finite_bin.fn (F := Ideal) (m ((c.tc : Thread Cert.BinIdeal.nD Cert.BinIdeal.τ).loc Cert.BinIdeal.main_arg0)) (m ((c.tc : Thread Cert.BinIdeal.nD Cert.BinIdeal.τ).loc Cert.BinIdeal.main_arg1)) (m ((c.tc : Thread Cert.BinIdeal.nD Cert.BinIdeal.τ).loc Cert.BinIdeal.main_arg2)) (m ((c.tc : Thread Cert.BinIdeal.nD Cert.BinIdeal.τ).loc Cert.BinIdeal.main_arg3)) (m ((c.tc : Thread Cert.BinIdeal.nD Cert.BinIdeal.τ).loc Cert.BinIdeal.main_arg4)) (m ((c.tc : Thread Cert.BinIdeal.nD Cert.BinIdeal.τ).loc Cert.BinIdeal.main_arg5))).2.1 = (fun _ => 1#1)
    ∧ (Cert.Pre_finite_bin.fn (F := Ideal) (m ((c.tc : Thread Cert.BinIdeal.nD Cert.BinIdeal.τ).loc Cert.BinIdeal.main_arg0)) (m ((c.tc : Thread Cert.BinIdeal.nD Cert.BinIdeal.τ).loc Cert.BinIdeal.main_arg1)) (m ((c.tc : Thread Cert.BinIdeal.nD Cert.BinIdeal.τ).loc Cert.BinIdeal.main_arg2)) (m ((c.tc : Thread Cert.BinIdeal.nD Cert.BinIdeal.τ).loc Cert.BinIdeal.main_arg3)) (m ((c.tc : Thread Cert.BinIdeal.nD Cert.BinIdeal.τ).loc Cert.BinIdeal.main_arg4)) (m ((c.tc : Thread Cert.BinIdeal.nD Cert.BinIdeal.τ).loc Cert.BinIdeal.main_arg5))).2.2.1 = (fun _ => 1#1)
    ∧ (Cert.Pre_finite_bin.fn (F := Ideal) (m ((c.tc : Thread Cert.BinIdeal.nD Cert.BinIdeal.τ).loc Cert.BinIdeal.main_arg0)) (m ((c.tc : Thread Cert.BinIdeal.nD Cert.BinIdeal.τ).loc Cert.BinIdeal.main_arg1)) (m ((c.tc : Thread Cert.BinIdeal.nD Cert.BinIdeal.τ).loc Cert.BinIdeal.main_arg2)) (m ((c.tc : Thread Cert.BinIdeal.nD Cert.BinIdeal.τ).loc Cert.BinIdeal.main_arg3)) (m ((c.tc : Thread Cert.BinIdeal.nD Cert.BinIdeal.τ).loc Cert.BinIdeal.main_arg4)) (m ((c.tc : Thread Cert.BinIdeal.nD Cert.BinIdeal.τ).loc Cert.BinIdeal.main_arg5))).2.2.2.1 = (fun _ => 1#1)
    ∧ (Cert.Pre_finite_bin.fn (F := Ideal) (m ((c.tc : Thread Cert.BinIdeal.nD Cert.BinIdeal.τ).loc Cert.BinIdeal.main_arg0)) (m ((c.tc : Thread Cert.BinIdeal.nD Cert.BinIdeal.τ).loc Cert.BinIdeal.main_arg1)) (m ((c.tc : Thread Cert.BinIdeal.nD Cert.BinIdeal.τ).loc Cert.BinIdeal.main_arg2)) (m ((c.tc : Thread Cert.BinIdeal.nD Cert.BinIdeal.τ).loc Cert.BinIdeal.main_arg3)) (m ((c.tc : Thread Cert.BinIdeal.nD Cert.BinIdeal.τ).loc Cert.BinIdeal.main_arg4)) (m ((c.tc : Thread Cert.BinIdeal.nD Cert.BinIdeal.τ).loc Cert.BinIdeal.main_arg5))).2.2.2.2.1 = (fun _ => 1#1)
    ∧ (Cert.Pre_finite_bin.fn (F := Ideal) (m ((c.tc : Thread Cert.BinIdeal.nD Cert.BinIdeal.τ).loc Cert.BinIdeal.main_arg0)) (m ((c.tc : Thread Cert.BinIdeal.nD Cert.BinIdeal.τ).loc Cert.BinIdeal.main_arg1)) (m ((c.tc : Thread Cert.BinIdeal.nD Cert.BinIdeal.τ).loc Cert.BinIdeal.main_arg2)) (m ((c.tc : Thread Cert.BinIdeal.nD Cert.BinIdeal.τ).loc Cert.BinIdeal.main_arg3)) (m ((c.tc : Thread Cert.BinIdeal.nD Cert.BinIdeal.τ).loc Cert.BinIdeal.main_arg4)) (m ((c.tc : Thread Cert.BinIdeal.nD Cert.BinIdeal.τ).loc Cert.BinIdeal.main_arg5))).2.2.2.2.2 = (fun _ => 1#1)

def Pre_BinRefIdeal (m : (ℓ : Loc Cert.BinRefIdeal.nD Cert.BinRefIdeal.τ Cert.BinRefIdeal.sig) → Buf (Elt Ideal) ℓ) : Prop :=
  True

def Pre_BinRefIdeal_finite_bin [hPre_finite_bin : Cert.Pre_finite_bin.Facts] (m : (ℓ : Loc Cert.BinRefIdeal.nD Cert.BinRefIdeal.τ Cert.BinRefIdeal.sig) → Buf (Elt Ideal) ℓ) : Prop :=
  ∀ c : Dev Cert.BinRefIdeal.nD,
    (Cert.Pre_finite_bin.fn (F := Ideal) (m ((c.tc : Thread Cert.BinRefIdeal.nD Cert.BinRefIdeal.τ).loc Cert.BinRefIdeal.main_arg0)) (m ((c.tc : Thread Cert.BinRefIdeal.nD Cert.BinRefIdeal.τ).loc Cert.BinRefIdeal.main_arg1)) (m ((c.tc : Thread Cert.BinRefIdeal.nD Cert.BinRefIdeal.τ).loc Cert.BinRefIdeal.main_arg2)) (m ((c.tc : Thread Cert.BinRefIdeal.nD Cert.BinRefIdeal.τ).loc Cert.BinRefIdeal.main_arg3)) (m ((c.tc : Thread Cert.BinRefIdeal.nD Cert.BinRefIdeal.τ).loc Cert.BinRefIdeal.main_arg4)) (m ((c.tc : Thread Cert.BinRefIdeal.nD Cert.BinRefIdeal.τ).loc Cert.BinRefIdeal.main_arg5))).1 = (fun _ => 1#1)
    ∧ (Cert.Pre_finite_bin.fn (F := Ideal) (m ((c.tc : Thread Cert.BinRefIdeal.nD Cert.BinRefIdeal.τ).loc Cert.BinRefIdeal.main_arg0)) (m ((c.tc : Thread Cert.BinRefIdeal.nD Cert.BinRefIdeal.τ).loc Cert.BinRefIdeal.main_arg1)) (m ((c.tc : Thread Cert.BinRefIdeal.nD Cert.BinRefIdeal.τ).loc Cert.BinRefIdeal.main_arg2)) (m ((c.tc : Thread Cert.BinRefIdeal.nD Cert.BinRefIdeal.τ).loc Cert.BinRefIdeal.main_arg3)) (m ((c.tc : Thread Cert.BinRefIdeal.nD Cert.BinRefIdeal.τ).loc Cert.BinRefIdeal.main_arg4)) (m ((c.tc : Thread Cert.BinRefIdeal.nD Cert.BinRefIdeal.τ).loc Cert.BinRefIdeal.main_arg5))).2.1 = (fun _ => 1#1)
    ∧ (Cert.Pre_finite_bin.fn (F := Ideal) (m ((c.tc : Thread Cert.BinRefIdeal.nD Cert.BinRefIdeal.τ).loc Cert.BinRefIdeal.main_arg0)) (m ((c.tc : Thread Cert.BinRefIdeal.nD Cert.BinRefIdeal.τ).loc Cert.BinRefIdeal.main_arg1)) (m ((c.tc : Thread Cert.BinRefIdeal.nD Cert.BinRefIdeal.τ).loc Cert.BinRefIdeal.main_arg2)) (m ((c.tc : Thread Cert.BinRefIdeal.nD Cert.BinRefIdeal.τ).loc Cert.BinRefIdeal.main_arg3)) (m ((c.tc : Thread Cert.BinRefIdeal.nD Cert.BinRefIdeal.τ).loc Cert.BinRefIdeal.main_arg4)) (m ((c.tc : Thread Cert.BinRefIdeal.nD Cert.BinRefIdeal.τ).loc Cert.BinRefIdeal.main_arg5))).2.2.1 = (fun _ => 1#1)
    ∧ (Cert.Pre_finite_bin.fn (F := Ideal) (m ((c.tc : Thread Cert.BinRefIdeal.nD Cert.BinRefIdeal.τ).loc Cert.BinRefIdeal.main_arg0)) (m ((c.tc : Thread Cert.BinRefIdeal.nD Cert.BinRefIdeal.τ).loc Cert.BinRefIdeal.main_arg1)) (m ((c.tc : Thread Cert.BinRefIdeal.nD Cert.BinRefIdeal.τ).loc Cert.BinRefIdeal.main_arg2)) (m ((c.tc : Thread Cert.BinRefIdeal.nD Cert.BinRefIdeal.τ).loc Cert.BinRefIdeal.main_arg3)) (m ((c.tc : Thread Cert.BinRefIdeal.nD Cert.BinRefIdeal.τ).loc Cert.BinRefIdeal.main_arg4)) (m ((c.tc : Thread Cert.BinRefIdeal.nD Cert.BinRefIdeal.τ).loc Cert.BinRefIdeal.main_arg5))).2.2.2.1 = (fun _ => 1#1)
    ∧ (Cert.Pre_finite_bin.fn (F := Ideal) (m ((c.tc : Thread Cert.BinRefIdeal.nD Cert.BinRefIdeal.τ).loc Cert.BinRefIdeal.main_arg0)) (m ((c.tc : Thread Cert.BinRefIdeal.nD Cert.BinRefIdeal.τ).loc Cert.BinRefIdeal.main_arg1)) (m ((c.tc : Thread Cert.BinRefIdeal.nD Cert.BinRefIdeal.τ).loc Cert.BinRefIdeal.main_arg2)) (m ((c.tc : Thread Cert.BinRefIdeal.nD Cert.BinRefIdeal.τ).loc Cert.BinRefIdeal.main_arg3)) (m ((c.tc : Thread Cert.BinRefIdeal.nD Cert.BinRefIdeal.τ).loc Cert.BinRefIdeal.main_arg4)) (m ((c.tc : Thread Cert.BinRefIdeal.nD Cert.BinRefIdeal.τ).loc Cert.BinRefIdeal.main_arg5))).2.2.2.2.1 = (fun _ => 1#1)
    ∧ (Cert.Pre_finite_bin.fn (F := Ideal) (m ((c.tc : Thread Cert.BinRefIdeal.nD Cert.BinRefIdeal.τ).loc Cert.BinRefIdeal.main_arg0)) (m ((c.tc : Thread Cert.BinRefIdeal.nD Cert.BinRefIdeal.τ).loc Cert.BinRefIdeal.main_arg1)) (m ((c.tc : Thread Cert.BinRefIdeal.nD Cert.BinRefIdeal.τ).loc Cert.BinRefIdeal.main_arg2)) (m ((c.tc : Thread Cert.BinRefIdeal.nD Cert.BinRefIdeal.τ).loc Cert.BinRefIdeal.main_arg3)) (m ((c.tc : Thread Cert.BinRefIdeal.nD Cert.BinRefIdeal.τ).loc Cert.BinRefIdeal.main_arg4)) (m ((c.tc : Thread Cert.BinRefIdeal.nD Cert.BinRefIdeal.τ).loc Cert.BinRefIdeal.main_arg5))).2.2.2.2.2 = (fun _ => 1#1)

def Pre_Slot (m : (ℓ : Loc Cert.Slot.nD Cert.Slot.τ Cert.Slot.sig) → Buf (Elt Bits) ℓ) : Prop :=
  True

def Pre_SlotIdeal (m : (ℓ : Loc Cert.SlotIdeal.nD Cert.SlotIdeal.τ Cert.SlotIdeal.sig) → Buf (Elt Ideal) ℓ) : Prop :=
  True

def Pre_SlotRefIdeal (m : (ℓ : Loc Cert.SlotRefIdeal.nD Cert.SlotRefIdeal.τ Cert.SlotRefIdeal.sig) → Buf (Elt Ideal) ℓ) : Prop :=
  True

def Pre_Slotw (m : (ℓ : Loc Cert.Slotw.nD Cert.Slotw.τ Cert.Slotw.sig) → Buf (Elt Bits) ℓ) : Prop :=
  True

def Pre_SlotwIdeal (m : (ℓ : Loc Cert.SlotwIdeal.nD Cert.SlotwIdeal.τ Cert.SlotwIdeal.sig) → Buf (Elt Ideal) ℓ) : Prop :=
  True

def Pre_SlotwRefIdeal (m : (ℓ : Loc Cert.SlotwRefIdeal.nD Cert.SlotwRefIdeal.τ Cert.SlotwRefIdeal.sig) → Buf (Elt Ideal) ℓ) : Prop :=
  True

def Pre_Slotb (m : (ℓ : Loc Cert.Slotb.nD Cert.Slotb.τ Cert.Slotb.sig) → Buf (Elt Bits) ℓ) : Prop :=
  True

def Pre_SlotbIdeal (m : (ℓ : Loc Cert.SlotbIdeal.nD Cert.SlotbIdeal.τ Cert.SlotbIdeal.sig) → Buf (Elt Ideal) ℓ) : Prop :=
  True

def Pre_SlotbRefIdeal (m : (ℓ : Loc Cert.SlotbRefIdeal.nD Cert.SlotbRefIdeal.τ Cert.SlotbRefIdeal.sig) → Buf (Elt Ideal) ℓ) : Prop :=
  True

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpIdeal_pre_finite_gmlp [hGmlpIdeal : Cert.GmlpIdeal.Facts] [hPre_finite_gmlp : Cert.Pre_finite_gmlp.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal_finite_gmlp m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_GmlpRefIdeal_pre_finite_gmlp [hGmlpRefIdeal : Cert.GmlpRefIdeal.Facts] [hPre_finite_gmlp : Cert.Pre_finite_gmlp.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_finite_gmlp m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ r.2.sem = fun _ => 0)

def quiescent_MemIdeal_pre_finite_mem [hMemIdeal : Cert.MemIdeal.Facts] [hPre_finite_mem : Cert.Pre_finite_mem.Facts] : Prop :=
  ∀ (m : (ℓ : Loc Cert.MemIdeal.nD Cert.MemIdeal.τ Cert.MemIdeal.sig) → Buf (Elt Ideal) ℓ) (g : Dev Cert.MemIdeal.nD → PrngReg), Pre_MemIdeal_finite_mem m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ r.2.sem = fun _ => 0)

def quiescent_MemReferIdeal [hMemReferIdeal : Cert.MemReferIdeal.Facts] : Prop :=
  ∀ (m : (ℓ : Loc Cert.MemReferIdeal.nD Cert.MemReferIdeal.τ Cert.MemReferIdeal.sig) → Buf (Elt Ideal) ℓ) (g : Dev Cert.MemReferIdeal.nD → PrngReg), Pre_MemReferIdeal m →
    θ_run (Cert.MemReferIdeal.defs (F := Ideal)) (onTc (τ := Cert.MemReferIdeal.τ) (Cert.MemReferIdeal.main (F := Ideal))) ⟨m, fun _ => 0, g⟩ (fun r => (∀ c : Dev Cert.MemReferIdeal.nD,
      r.2.mem ((c.tc : Thread Cert.MemReferIdeal.nD Cert.MemReferIdeal.τ).loc Cert.MemReferIdeal.main_arg0) = m ((c.tc : Thread Cert.MemReferIdeal.nD Cert.MemReferIdeal.τ).loc Cert.MemReferIdeal.main_arg0)
      ∧ r.2.mem ((c.tc : Thread Cert.MemReferIdeal.nD Cert.MemReferIdeal.τ).loc Cert.MemReferIdeal.main_arg1) = m ((c.tc : Thread Cert.MemReferIdeal.nD Cert.MemReferIdeal.τ).loc Cert.MemReferIdeal.main_arg1)
      ∧ r.2.mem ((c.tc : Thread Cert.MemReferIdeal.nD Cert.MemReferIdeal.τ).loc Cert.MemReferIdeal.main_arg2) = m ((c.tc : Thread Cert.MemReferIdeal.nD Cert.MemReferIdeal.τ).loc Cert.MemReferIdeal.main_arg2))
      ∧ r.2.sem = fun _ => 0)

def quiescent_MemReferIdeal_pre_finite_mem [hMemReferIdeal : Cert.MemReferIdeal.Facts] [hPre_finite_mem : Cert.Pre_finite_mem.Facts] : Prop :=
  ∀ (m : (ℓ : Loc Cert.MemReferIdeal.nD Cert.MemReferIdeal.τ Cert.MemReferIdeal.sig) → Buf (Elt Ideal) ℓ) (g : Dev Cert.MemReferIdeal.nD → PrngReg), Pre_MemReferIdeal_finite_mem m →
    θ_run (Cert.MemReferIdeal.defs (F := Ideal)) (onTc (τ := Cert.MemReferIdeal.τ) (Cert.MemReferIdeal.main (F := Ideal))) ⟨m, fun _ => 0, g⟩ (fun r => (∀ c : Dev Cert.MemReferIdeal.nD,
      r.2.mem ((c.tc : Thread Cert.MemReferIdeal.nD Cert.MemReferIdeal.τ).loc Cert.MemReferIdeal.main_arg0) = m ((c.tc : Thread Cert.MemReferIdeal.nD Cert.MemReferIdeal.τ).loc Cert.MemReferIdeal.main_arg0)
      ∧ r.2.mem ((c.tc : Thread Cert.MemReferIdeal.nD Cert.MemReferIdeal.τ).loc Cert.MemReferIdeal.main_arg1) = m ((c.tc : Thread Cert.MemReferIdeal.nD Cert.MemReferIdeal.τ).loc Cert.MemReferIdeal.main_arg1)
      ∧ r.2.mem ((c.tc : Thread Cert.MemReferIdeal.nD Cert.MemReferIdeal.τ).loc Cert.MemReferIdeal.main_arg2) = m ((c.tc : Thread Cert.MemReferIdeal.nD Cert.MemReferIdeal.τ).loc Cert.MemReferIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownIdeal_pre_finite_down [hDownIdeal : Cert.DownIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal_finite_down m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_finite_down [hDownRefIdeal : Cert.DownRefIdeal.Facts] [hPre_finite_down : Cert.Pre_finite_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_finite_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0)
      ∧ r.2.mem ((c.tc : Thread Cert.Pair.nD Cert.Pair.τ).loc Cert.Pair.main_arg1) = m ((c.tc : Thread Cert.Pair.nD Cert.Pair.τ).loc Cert.Pair.main_arg1)
      ∧ r.2.mem ((c.tc : Thread Cert.Pair.nD Cert.Pair.τ).loc Cert.Pair.main_arg2) = m ((c.tc : Thread Cert.Pair.nD Cert.Pair.τ).loc Cert.Pair.main_arg2))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0)
      ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
      ∧ r.2.mem ((c.tc : Thread Cert.PairIdeal.nD Cert.PairIdeal.τ).loc Cert.PairIdeal.main_arg2) = m ((c.tc : Thread Cert.PairIdeal.nD Cert.PairIdeal.τ).loc Cert.PairIdeal.main_arg2))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0)
      ∧ r.2.mem ((c.tc : Thread Cert.PairRefIdeal.nD Cert.PairRefIdeal.τ).loc Cert.PairRefIdeal.main_arg1) = m ((c.tc : Thread Cert.PairRefIdeal.nD Cert.PairRefIdeal.τ).loc Cert.PairRefIdeal.main_arg1)
      ∧ r.2.mem ((c.tc : Thread Cert.PairRefIdeal.nD Cert.PairRefIdeal.τ).loc Cert.PairRefIdeal.main_arg2) = m ((c.tc : Thread Cert.PairRefIdeal.nD Cert.PairRefIdeal.τ).loc Cert.PairRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpIdeal_pre_finite_up [hUpIdeal : Cert.UpIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_UpRefIdeal_pre_finite_up [hUpRefIdeal : Cert.UpRefIdeal.Facts] [hPre_finite_up : Cert.Pre_finite_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_finite_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Blend [hBlend : Cert.Blend.Facts] : Prop :=
  ∀ (m : (ℓ : Loc Cert.Blend.nD Cert.Blend.τ Cert.Blend.sig) → Buf (Elt Bits) ℓ) (g : Dev Cert.Blend.nD → PrngReg), Pre_Blend m →
    θ_run (Cert.Blend.defs (F := Bits)) (onTc (τ := Cert.Blend.τ) (Cert.Blend.main (F := Bits))) ⟨m, fun _ => 0, g⟩ (fun r => (∀ c : Dev Cert.Blend.nD,
      r.2.mem ((c.tc : Thread Cert.Blend.nD Cert.Blend.τ).loc Cert.Blend.main_arg0) = m ((c.tc : Thread Cert.Blend.nD Cert.Blend.τ).loc Cert.Blend.main_arg0)
      ∧ r.2.mem ((c.tc : Thread Cert.Blend.nD Cert.Blend.τ).loc Cert.Blend.main_arg1) = m ((c.tc : Thread Cert.Blend.nD Cert.Blend.τ).loc Cert.Blend.main_arg1)
      ∧ r.2.mem ((c.tc : Thread Cert.Blend.nD Cert.Blend.τ).loc Cert.Blend.main_arg2) = m ((c.tc : Thread Cert.Blend.nD Cert.Blend.τ).loc Cert.Blend.main_arg2)
      ∧ r.2.mem ((c.tc : Thread Cert.Blend.nD Cert.Blend.τ).loc Cert.Blend.main_arg3) = m ((c.tc : Thread Cert.Blend.nD Cert.Blend.τ).loc Cert.Blend.main_arg3)
      ∧ r.2.mem ((c.tc : Thread Cert.Blend.nD Cert.Blend.τ).loc Cert.Blend.main_arg4) = m ((c.tc : Thread Cert.Blend.nD Cert.Blend.τ).loc Cert.Blend.main_arg4))
      ∧ r.2.sem = fun _ => 0)

def quiescent_BlendIdeal [hBlendIdeal : Cert.BlendIdeal.Facts] : Prop :=
  ∀ (m : (ℓ : Loc Cert.BlendIdeal.nD Cert.BlendIdeal.τ Cert.BlendIdeal.sig) → Buf (Elt Ideal) ℓ) (g : Dev Cert.BlendIdeal.nD → PrngReg), Pre_BlendIdeal m →
    θ_run (Cert.BlendIdeal.defs (F := Ideal)) (onTc (τ := Cert.BlendIdeal.τ) (Cert.BlendIdeal.main (F := Ideal))) ⟨m, fun _ => 0, g⟩ (fun r => (∀ c : Dev Cert.BlendIdeal.nD,
      r.2.mem ((c.tc : Thread Cert.BlendIdeal.nD Cert.BlendIdeal.τ).loc Cert.BlendIdeal.main_arg0) = m ((c.tc : Thread Cert.BlendIdeal.nD Cert.BlendIdeal.τ).loc Cert.BlendIdeal.main_arg0)
      ∧ r.2.mem ((c.tc : Thread Cert.BlendIdeal.nD Cert.BlendIdeal.τ).loc Cert.BlendIdeal.main_arg1) = m ((c.tc : Thread Cert.BlendIdeal.nD Cert.BlendIdeal.τ).loc Cert.BlendIdeal.main_arg1)
      ∧ r.2.mem ((c.tc : Thread Cert.BlendIdeal.nD Cert.BlendIdeal.τ).loc Cert.BlendIdeal.main_arg2) = m ((c.tc : Thread Cert.BlendIdeal.nD Cert.BlendIdeal.τ).loc Cert.BlendIdeal.main_arg2)
      ∧ r.2.mem ((c.tc : Thread Cert.BlendIdeal.nD Cert.BlendIdeal.τ).loc Cert.BlendIdeal.main_arg3) = m ((c.tc : Thread Cert.BlendIdeal.nD Cert.BlendIdeal.τ).loc Cert.BlendIdeal.main_arg3)
      ∧ r.2.mem ((c.tc : Thread Cert.BlendIdeal.nD Cert.BlendIdeal.τ).loc Cert.BlendIdeal.main_arg4) = m ((c.tc : Thread Cert.BlendIdeal.nD Cert.BlendIdeal.τ).loc Cert.BlendIdeal.main_arg4))
      ∧ r.2.sem = fun _ => 0)

def quiescent_BlendRefIdeal [hBlendRefIdeal : Cert.BlendRefIdeal.Facts] : Prop :=
  ∀ (m : (ℓ : Loc Cert.BlendRefIdeal.nD Cert.BlendRefIdeal.τ Cert.BlendRefIdeal.sig) → Buf (Elt Ideal) ℓ) (g : Dev Cert.BlendRefIdeal.nD → PrngReg), Pre_BlendRefIdeal m →
    θ_run (Cert.BlendRefIdeal.defs (F := Ideal)) (onTc (τ := Cert.BlendRefIdeal.τ) (Cert.BlendRefIdeal.main (F := Ideal))) ⟨m, fun _ => 0, g⟩ (fun r => (∀ c : Dev Cert.BlendRefIdeal.nD,
      r.2.mem ((c.tc : Thread Cert.BlendRefIdeal.nD Cert.BlendRefIdeal.τ).loc Cert.BlendRefIdeal.main_arg0) = m ((c.tc : Thread Cert.BlendRefIdeal.nD Cert.BlendRefIdeal.τ).loc Cert.BlendRefIdeal.main_arg0)
      ∧ r.2.mem ((c.tc : Thread Cert.BlendRefIdeal.nD Cert.BlendRefIdeal.τ).loc Cert.BlendRefIdeal.main_arg1) = m ((c.tc : Thread Cert.BlendRefIdeal.nD Cert.BlendRefIdeal.τ).loc Cert.BlendRefIdeal.main_arg1)
      ∧ r.2.mem ((c.tc : Thread Cert.BlendRefIdeal.nD Cert.BlendRefIdeal.τ).loc Cert.BlendRefIdeal.main_arg2) = m ((c.tc : Thread Cert.BlendRefIdeal.nD Cert.BlendRefIdeal.τ).loc Cert.BlendRefIdeal.main_arg2)
      ∧ r.2.mem ((c.tc : Thread Cert.BlendRefIdeal.nD Cert.BlendRefIdeal.τ).loc Cert.BlendRefIdeal.main_arg3) = m ((c.tc : Thread Cert.BlendRefIdeal.nD Cert.BlendRefIdeal.τ).loc Cert.BlendRefIdeal.main_arg3)
      ∧ r.2.mem ((c.tc : Thread Cert.BlendRefIdeal.nD Cert.BlendRefIdeal.τ).loc Cert.BlendRefIdeal.main_arg4) = m ((c.tc : Thread Cert.BlendRefIdeal.nD Cert.BlendRefIdeal.τ).loc Cert.BlendRefIdeal.main_arg4))
      ∧ r.2.sem = fun _ => 0)

def quiescent_Dout [hDout : Cert.Dout.Facts] : Prop :=
  ∀ (m : (ℓ : Loc Cert.Dout.nD Cert.Dout.τ Cert.Dout.sig) → Buf (Elt Bits) ℓ) (g : Dev Cert.Dout.nD → PrngReg), Pre_Dout m →
    θ_run (Cert.Dout.defs (F := Bits)) (onTc (τ := Cert.Dout.τ) (Cert.Dout.main (F := Bits))) ⟨m, fun _ => 0, g⟩ (fun r => (∀ c : Dev Cert.Dout.nD,
      r.2.mem ((c.tc : Thread Cert.Dout.nD Cert.Dout.τ).loc Cert.Dout.main_arg0) = m ((c.tc : Thread Cert.Dout.nD Cert.Dout.τ).loc Cert.Dout.main_arg0)
      ∧ r.2.mem ((c.tc : Thread Cert.Dout.nD Cert.Dout.τ).loc Cert.Dout.main_arg1) = m ((c.tc : Thread Cert.Dout.nD Cert.Dout.τ).loc Cert.Dout.main_arg1))
      ∧ r.2.sem = fun _ => 0)

def quiescent_DoutIdeal [hDoutIdeal : Cert.DoutIdeal.Facts] : Prop :=
  ∀ (m : (ℓ : Loc Cert.DoutIdeal.nD Cert.DoutIdeal.τ Cert.DoutIdeal.sig) → Buf (Elt Ideal) ℓ) (g : Dev Cert.DoutIdeal.nD → PrngReg), Pre_DoutIdeal m →
    θ_run (Cert.DoutIdeal.defs (F := Ideal)) (onTc (τ := Cert.DoutIdeal.τ) (Cert.DoutIdeal.main (F := Ideal))) ⟨m, fun _ => 0, g⟩ (fun r => (∀ c : Dev Cert.DoutIdeal.nD,
      r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
      ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1))
      ∧ r.2.sem = fun _ => 0)

def quiescent_DoutRefIdeal [hDoutRefIdeal : Cert.DoutRefIdeal.Facts] : Prop :=
  ∀ (m : (ℓ : Loc Cert.DoutRefIdeal.nD Cert.DoutRefIdeal.τ Cert.DoutRefIdeal.sig) → Buf (Elt Ideal) ℓ) (g : Dev Cert.DoutRefIdeal.nD → PrngReg), Pre_DoutRefIdeal m →
    θ_run (Cert.DoutRefIdeal.defs (F := Ideal)) (onTc (τ := Cert.DoutRefIdeal.τ) (Cert.DoutRefIdeal.main (F := Ideal))) ⟨m, fun _ => 0, g⟩ (fun r => (∀ c : Dev Cert.DoutRefIdeal.nD,
      r.2.mem ((c.tc : Thread Cert.DoutRefIdeal.nD Cert.DoutRefIdeal.τ).loc Cert.DoutRefIdeal.main_arg0) = m ((c.tc : Thread Cert.DoutRefIdeal.nD Cert.DoutRefIdeal.τ).loc Cert.DoutRefIdeal.main_arg0)
      ∧ r.2.mem ((c.tc : Thread Cert.DoutRefIdeal.nD Cert.DoutRefIdeal.τ).loc Cert.DoutRefIdeal.main_arg1) = m ((c.tc : Thread Cert.DoutRefIdeal.nD Cert.DoutRefIdeal.τ).loc Cert.DoutRefIdeal.main_arg1))
      ∧ r.2.sem = fun _ => 0)

def quiescent_Outtok [hOuttok : Cert.Outtok.Facts] : Prop :=
  ∀ (m : (ℓ : Loc Cert.Outtok.nD Cert.Outtok.τ Cert.Outtok.sig) → Buf (Elt Bits) ℓ) (g : Dev Cert.Outtok.nD → PrngReg), Pre_Outtok m →
    θ_run (Cert.Outtok.defs (F := Bits)) (onTc (τ := Cert.Outtok.τ) (Cert.Outtok.main (F := Bits))) ⟨m, fun _ => 0, g⟩ (fun r => (∀ c : Dev Cert.Outtok.nD,
      r.2.mem ((c.tc : Thread Cert.Outtok.nD Cert.Outtok.τ).loc Cert.Outtok.main_arg0) = m ((c.tc : Thread Cert.Outtok.nD Cert.Outtok.τ).loc Cert.Outtok.main_arg0)
      ∧ r.2.mem ((c.tc : Thread Cert.Outtok.nD Cert.Outtok.τ).loc Cert.Outtok.main_arg1) = m ((c.tc : Thread Cert.Outtok.nD Cert.Outtok.τ).loc Cert.Outtok.main_arg1))
      ∧ r.2.sem = fun _ => 0)

def quiescent_OuttokIdeal [hOuttokIdeal : Cert.OuttokIdeal.Facts] : Prop :=
  ∀ (m : (ℓ : Loc Cert.OuttokIdeal.nD Cert.OuttokIdeal.τ Cert.OuttokIdeal.sig) → Buf (Elt Ideal) ℓ) (g : Dev Cert.OuttokIdeal.nD → PrngReg), Pre_OuttokIdeal m →
    θ_run (Cert.OuttokIdeal.defs (F := Ideal)) (onTc (τ := Cert.OuttokIdeal.τ) (Cert.OuttokIdeal.main (F := Ideal))) ⟨m, fun _ => 0, g⟩ (fun r => (∀ c : Dev Cert.OuttokIdeal.nD,
      r.2.mem ((c.tc : Thread Cert.OuttokIdeal.nD Cert.OuttokIdeal.τ).loc Cert.OuttokIdeal.main_arg0) = m ((c.tc : Thread Cert.OuttokIdeal.nD Cert.OuttokIdeal.τ).loc Cert.OuttokIdeal.main_arg0)
      ∧ r.2.mem ((c.tc : Thread Cert.OuttokIdeal.nD Cert.OuttokIdeal.τ).loc Cert.OuttokIdeal.main_arg1) = m ((c.tc : Thread Cert.OuttokIdeal.nD Cert.OuttokIdeal.τ).loc Cert.OuttokIdeal.main_arg1))
      ∧ r.2.sem = fun _ => 0)

def quiescent_OuttokRefIdeal [hOuttokRefIdeal : Cert.OuttokRefIdeal.Facts] : Prop :=
  ∀ (m : (ℓ : Loc Cert.OuttokRefIdeal.nD Cert.OuttokRefIdeal.τ Cert.OuttokRefIdeal.sig) → Buf (Elt Ideal) ℓ) (g : Dev Cert.OuttokRefIdeal.nD → PrngReg), Pre_OuttokRefIdeal m →
    θ_run (Cert.OuttokRefIdeal.defs (F := Ideal)) (onTc (τ := Cert.OuttokRefIdeal.τ) (Cert.OuttokRefIdeal.main (F := Ideal))) ⟨m, fun _ => 0, g⟩ (fun r => (∀ c : Dev Cert.OuttokRefIdeal.nD,
      r.2.mem ((c.tc : Thread Cert.OuttokRefIdeal.nD Cert.OuttokRefIdeal.τ).loc Cert.OuttokRefIdeal.main_arg0) = m ((c.tc : Thread Cert.OuttokRefIdeal.nD Cert.OuttokRefIdeal.τ).loc Cert.OuttokRefIdeal.main_arg0)
      ∧ r.2.mem ((c.tc : Thread Cert.OuttokRefIdeal.nD Cert.OuttokRefIdeal.τ).loc Cert.OuttokRefIdeal.main_arg1) = m ((c.tc : Thread Cert.OuttokRefIdeal.nD Cert.OuttokRefIdeal.τ).loc Cert.OuttokRefIdeal.main_arg1))
      ∧ r.2.sem = fun _ => 0)

def quiescent_Outmem [hOutmem : Cert.Outmem.Facts] : Prop :=
  ∀ (m : (ℓ : Loc Cert.Outmem.nD Cert.Outmem.τ Cert.Outmem.sig) → Buf (Elt Bits) ℓ) (g : Dev Cert.Outmem.nD → PrngReg), Pre_Outmem m →
    θ_run (Cert.Outmem.defs (F := Bits)) (onTc (τ := Cert.Outmem.τ) (Cert.Outmem.main (F := Bits))) ⟨m, fun _ => 0, g⟩ (fun r => (∀ c : Dev Cert.Outmem.nD,
      r.2.mem ((c.tc : Thread Cert.Outmem.nD Cert.Outmem.τ).loc Cert.Outmem.main_arg0) = m ((c.tc : Thread Cert.Outmem.nD Cert.Outmem.τ).loc Cert.Outmem.main_arg0)
      ∧ r.2.mem ((c.tc : Thread Cert.Outmem.nD Cert.Outmem.τ).loc Cert.Outmem.main_arg1) = m ((c.tc : Thread Cert.Outmem.nD Cert.Outmem.τ).loc Cert.Outmem.main_arg1))
      ∧ r.2.sem = fun _ => 0)

def quiescent_OutmemIdeal [hOutmemIdeal : Cert.OutmemIdeal.Facts] : Prop :=
  ∀ (m : (ℓ : Loc Cert.OutmemIdeal.nD Cert.OutmemIdeal.τ Cert.OutmemIdeal.sig) → Buf (Elt Ideal) ℓ) (g : Dev Cert.OutmemIdeal.nD → PrngReg), Pre_OutmemIdeal m →
    θ_run (Cert.OutmemIdeal.defs (F := Ideal)) (onTc (τ := Cert.OutmemIdeal.τ) (Cert.OutmemIdeal.main (F := Ideal))) ⟨m, fun _ => 0, g⟩ (fun r => (∀ c : Dev Cert.OutmemIdeal.nD,
      r.2.mem ((c.tc : Thread Cert.OutmemIdeal.nD Cert.OutmemIdeal.τ).loc Cert.OutmemIdeal.main_arg0) = m ((c.tc : Thread Cert.OutmemIdeal.nD Cert.OutmemIdeal.τ).loc Cert.OutmemIdeal.main_arg0)
      ∧ r.2.mem ((c.tc : Thread Cert.OutmemIdeal.nD Cert.OutmemIdeal.τ).loc Cert.OutmemIdeal.main_arg1) = m ((c.tc : Thread Cert.OutmemIdeal.nD Cert.OutmemIdeal.τ).loc Cert.OutmemIdeal.main_arg1))
      ∧ r.2.sem = fun _ => 0)

def quiescent_OutmemRefIdeal [hOutmemRefIdeal : Cert.OutmemRefIdeal.Facts] : Prop :=
  ∀ (m : (ℓ : Loc Cert.OutmemRefIdeal.nD Cert.OutmemRefIdeal.τ Cert.OutmemRefIdeal.sig) → Buf (Elt Ideal) ℓ) (g : Dev Cert.OutmemRefIdeal.nD → PrngReg), Pre_OutmemRefIdeal m →
    θ_run (Cert.OutmemRefIdeal.defs (F := Ideal)) (onTc (τ := Cert.OutmemRefIdeal.τ) (Cert.OutmemRefIdeal.main (F := Ideal))) ⟨m, fun _ => 0, g⟩ (fun r => (∀ c : Dev Cert.OutmemRefIdeal.nD,
      r.2.mem ((c.tc : Thread Cert.OutmemRefIdeal.nD Cert.OutmemRefIdeal.τ).loc Cert.OutmemRefIdeal.main_arg0) = m ((c.tc : Thread Cert.OutmemRefIdeal.nD Cert.OutmemRefIdeal.τ).loc Cert.OutmemRefIdeal.main_arg0)
      ∧ r.2.mem ((c.tc : Thread Cert.OutmemRefIdeal.nD Cert.OutmemRefIdeal.τ).loc Cert.OutmemRefIdeal.main_arg1) = m ((c.tc : Thread Cert.OutmemRefIdeal.nD Cert.OutmemRefIdeal.τ).loc Cert.OutmemRefIdeal.main_arg1))
      ∧ r.2.sem = fun _ => 0)

def quiescent_Intok [hIntok : Cert.Intok.Facts] : Prop :=
  ∀ (m : (ℓ : Loc Cert.Intok.nD Cert.Intok.τ Cert.Intok.sig) → Buf (Elt Bits) ℓ) (g : Dev Cert.Intok.nD → PrngReg), Pre_Intok m →
    θ_run (Cert.Intok.defs (F := Bits)) (onTc (τ := Cert.Intok.τ) (Cert.Intok.main (F := Bits))) ⟨m, fun _ => 0, g⟩ (fun r => (∀ c : Dev Cert.Intok.nD,
      r.2.mem ((c.tc : Thread Cert.Intok.nD Cert.Intok.τ).loc Cert.Intok.main_arg0) = m ((c.tc : Thread Cert.Intok.nD Cert.Intok.τ).loc Cert.Intok.main_arg0)
      ∧ r.2.mem ((c.tc : Thread Cert.Intok.nD Cert.Intok.τ).loc Cert.Intok.main_arg1) = m ((c.tc : Thread Cert.Intok.nD Cert.Intok.τ).loc Cert.Intok.main_arg1))
      ∧ r.2.sem = fun _ => 0)

def quiescent_IntokIdeal [hIntokIdeal : Cert.IntokIdeal.Facts] : Prop :=
  ∀ (m : (ℓ : Loc Cert.IntokIdeal.nD Cert.IntokIdeal.τ Cert.IntokIdeal.sig) → Buf (Elt Ideal) ℓ) (g : Dev Cert.IntokIdeal.nD → PrngReg), Pre_IntokIdeal m →
    θ_run (Cert.IntokIdeal.defs (F := Ideal)) (onTc (τ := Cert.IntokIdeal.τ) (Cert.IntokIdeal.main (F := Ideal))) ⟨m, fun _ => 0, g⟩ (fun r => (∀ c : Dev Cert.IntokIdeal.nD,
      r.2.mem ((c.tc : Thread Cert.IntokIdeal.nD Cert.IntokIdeal.τ).loc Cert.IntokIdeal.main_arg0) = m ((c.tc : Thread Cert.IntokIdeal.nD Cert.IntokIdeal.τ).loc Cert.IntokIdeal.main_arg0)
      ∧ r.2.mem ((c.tc : Thread Cert.IntokIdeal.nD Cert.IntokIdeal.τ).loc Cert.IntokIdeal.main_arg1) = m ((c.tc : Thread Cert.IntokIdeal.nD Cert.IntokIdeal.τ).loc Cert.IntokIdeal.main_arg1))
      ∧ r.2.sem = fun _ => 0)

def quiescent_IntokRefIdeal [hIntokRefIdeal : Cert.IntokRefIdeal.Facts] : Prop :=
  ∀ (m : (ℓ : Loc Cert.IntokRefIdeal.nD Cert.IntokRefIdeal.τ Cert.IntokRefIdeal.sig) → Buf (Elt Ideal) ℓ) (g : Dev Cert.IntokRefIdeal.nD → PrngReg), Pre_IntokRefIdeal m →
    θ_run (Cert.IntokRefIdeal.defs (F := Ideal)) (onTc (τ := Cert.IntokRefIdeal.τ) (Cert.IntokRefIdeal.main (F := Ideal))) ⟨m, fun _ => 0, g⟩ (fun r => (∀ c : Dev Cert.IntokRefIdeal.nD,
      r.2.mem ((c.tc : Thread Cert.IntokRefIdeal.nD Cert.IntokRefIdeal.τ).loc Cert.IntokRefIdeal.main_arg0) = m ((c.tc : Thread Cert.IntokRefIdeal.nD Cert.IntokRefIdeal.τ).loc Cert.IntokRefIdeal.main_arg0)
      ∧ r.2.mem ((c.tc : Thread Cert.IntokRefIdeal.nD Cert.IntokRefIdeal.τ).loc Cert.IntokRefIdeal.main_arg1) = m ((c.tc : Thread Cert.IntokRefIdeal.nD Cert.IntokRefIdeal.τ).loc Cert.IntokRefIdeal.main_arg1))
      ∧ r.2.sem = fun _ => 0)

def quiescent_Inmem [hInmem : Cert.Inmem.Facts] : Prop :=
  ∀ (m : (ℓ : Loc Cert.Inmem.nD Cert.Inmem.τ Cert.Inmem.sig) → Buf (Elt Bits) ℓ) (g : Dev Cert.Inmem.nD → PrngReg), Pre_Inmem m →
    θ_run (Cert.Inmem.defs (F := Bits)) (onTc (τ := Cert.Inmem.τ) (Cert.Inmem.main (F := Bits))) ⟨m, fun _ => 0, g⟩ (fun r => (∀ c : Dev Cert.Inmem.nD,
      r.2.mem ((c.tc : Thread Cert.Inmem.nD Cert.Inmem.τ).loc Cert.Inmem.main_arg0) = m ((c.tc : Thread Cert.Inmem.nD Cert.Inmem.τ).loc Cert.Inmem.main_arg0)
      ∧ r.2.mem ((c.tc : Thread Cert.Inmem.nD Cert.Inmem.τ).loc Cert.Inmem.main_arg1) = m ((c.tc : Thread Cert.Inmem.nD Cert.Inmem.τ).loc Cert.Inmem.main_arg1))
      ∧ r.2.sem = fun _ => 0)

def quiescent_InmemIdeal [hInmemIdeal : Cert.InmemIdeal.Facts] : Prop :=
  ∀ (m : (ℓ : Loc Cert.InmemIdeal.nD Cert.InmemIdeal.τ Cert.InmemIdeal.sig) → Buf (Elt Ideal) ℓ) (g : Dev Cert.InmemIdeal.nD → PrngReg), Pre_InmemIdeal m →
    θ_run (Cert.InmemIdeal.defs (F := Ideal)) (onTc (τ := Cert.InmemIdeal.τ) (Cert.InmemIdeal.main (F := Ideal))) ⟨m, fun _ => 0, g⟩ (fun r => (∀ c : Dev Cert.InmemIdeal.nD,
      r.2.mem ((c.tc : Thread Cert.InmemIdeal.nD Cert.InmemIdeal.τ).loc Cert.InmemIdeal.main_arg0) = m ((c.tc : Thread Cert.InmemIdeal.nD Cert.InmemIdeal.τ).loc Cert.InmemIdeal.main_arg0)
      ∧ r.2.mem ((c.tc : Thread Cert.InmemIdeal.nD Cert.InmemIdeal.τ).loc Cert.InmemIdeal.main_arg1) = m ((c.tc : Thread Cert.InmemIdeal.nD Cert.InmemIdeal.τ).loc Cert.InmemIdeal.main_arg1))
      ∧ r.2.sem = fun _ => 0)

def quiescent_InmemRefIdeal [hInmemRefIdeal : Cert.InmemRefIdeal.Facts] : Prop :=
  ∀ (m : (ℓ : Loc Cert.InmemRefIdeal.nD Cert.InmemRefIdeal.τ Cert.InmemRefIdeal.sig) → Buf (Elt Ideal) ℓ) (g : Dev Cert.InmemRefIdeal.nD → PrngReg), Pre_InmemRefIdeal m →
    θ_run (Cert.InmemRefIdeal.defs (F := Ideal)) (onTc (τ := Cert.InmemRefIdeal.τ) (Cert.InmemRefIdeal.main (F := Ideal))) ⟨m, fun _ => 0, g⟩ (fun r => (∀ c : Dev Cert.InmemRefIdeal.nD,
      r.2.mem ((c.tc : Thread Cert.InmemRefIdeal.nD Cert.InmemRefIdeal.τ).loc Cert.InmemRefIdeal.main_arg0) = m ((c.tc : Thread Cert.InmemRefIdeal.nD Cert.InmemRefIdeal.τ).loc Cert.InmemRefIdeal.main_arg0)
      ∧ r.2.mem ((c.tc : Thread Cert.InmemRefIdeal.nD Cert.InmemRefIdeal.τ).loc Cert.InmemRefIdeal.main_arg1) = m ((c.tc : Thread Cert.InmemRefIdeal.nD Cert.InmemRefIdeal.τ).loc Cert.InmemRefIdeal.main_arg1))
      ∧ r.2.sem = fun _ => 0)

def quiescent_Din [hDin : Cert.Din.Facts] : Prop :=
  ∀ (m : (ℓ : Loc Cert.Din.nD Cert.Din.τ Cert.Din.sig) → Buf (Elt Bits) ℓ) (g : Dev Cert.Din.nD → PrngReg), Pre_Din m →
    θ_run (Cert.Din.defs (F := Bits)) (onTc (τ := Cert.Din.τ) (Cert.Din.main (F := Bits))) ⟨m, fun _ => 0, g⟩ (fun r => (∀ c : Dev Cert.Din.nD,
      r.2.mem ((c.tc : Thread Cert.Din.nD Cert.Din.τ).loc Cert.Din.main_arg0) = m ((c.tc : Thread Cert.Din.nD Cert.Din.τ).loc Cert.Din.main_arg0)
      ∧ r.2.mem ((c.tc : Thread Cert.Din.nD Cert.Din.τ).loc Cert.Din.main_arg1) = m ((c.tc : Thread Cert.Din.nD Cert.Din.τ).loc Cert.Din.main_arg1)
      ∧ r.2.mem ((c.tc : Thread Cert.Din.nD Cert.Din.τ).loc Cert.Din.main_arg2) = m ((c.tc : Thread Cert.Din.nD Cert.Din.τ).loc Cert.Din.main_arg2)
      ∧ r.2.mem ((c.tc : Thread Cert.Din.nD Cert.Din.τ).loc Cert.Din.main_arg3) = m ((c.tc : Thread Cert.Din.nD Cert.Din.τ).loc Cert.Din.main_arg3)
      ∧ r.2.mem ((c.tc : Thread Cert.Din.nD Cert.Din.τ).loc Cert.Din.main_arg4) = m ((c.tc : Thread Cert.Din.nD Cert.Din.τ).loc Cert.Din.main_arg4)
      ∧ r.2.mem ((c.tc : Thread Cert.Din.nD Cert.Din.τ).loc Cert.Din.main_arg5) = m ((c.tc : Thread Cert.Din.nD Cert.Din.τ).loc Cert.Din.main_arg5))
      ∧ r.2.sem = fun _ => 0)

def quiescent_DinIdeal [hDinIdeal : Cert.DinIdeal.Facts] : Prop :=
  ∀ (m : (ℓ : Loc Cert.DinIdeal.nD Cert.DinIdeal.τ Cert.DinIdeal.sig) → Buf (Elt Ideal) ℓ) (g : Dev Cert.DinIdeal.nD → PrngReg), Pre_DinIdeal m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
      ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
      ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
      ∧ r.2.mem ((c.tc : Thread Cert.DinIdeal.nD Cert.DinIdeal.τ).loc Cert.DinIdeal.main_arg4) = m ((c.tc : Thread Cert.DinIdeal.nD Cert.DinIdeal.τ).loc Cert.DinIdeal.main_arg4)
      ∧ r.2.mem ((c.tc : Thread Cert.DinIdeal.nD Cert.DinIdeal.τ).loc Cert.DinIdeal.main_arg5) = m ((c.tc : Thread Cert.DinIdeal.nD Cert.DinIdeal.τ).loc Cert.DinIdeal.main_arg5))
      ∧ r.2.sem = fun _ => 0)

def quiescent_DinIdeal_pre_finite_din [hDinIdeal : Cert.DinIdeal.Facts] [hPre_finite_din : Cert.Pre_finite_din.Facts] : Prop :=
  ∀ (m : (ℓ : Loc Cert.DinIdeal.nD Cert.DinIdeal.τ Cert.DinIdeal.sig) → Buf (Elt Ideal) ℓ) (g : Dev Cert.DinIdeal.nD → PrngReg), Pre_DinIdeal_finite_din m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
      ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
      ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
      ∧ r.2.mem ((c.tc : Thread Cert.DinIdeal.nD Cert.DinIdeal.τ).loc Cert.DinIdeal.main_arg4) = m ((c.tc : Thread Cert.DinIdeal.nD Cert.DinIdeal.τ).loc Cert.DinIdeal.main_arg4)
      ∧ r.2.mem ((c.tc : Thread Cert.DinIdeal.nD Cert.DinIdeal.τ).loc Cert.DinIdeal.main_arg5) = m ((c.tc : Thread Cert.DinIdeal.nD Cert.DinIdeal.τ).loc Cert.DinIdeal.main_arg5))
      ∧ r.2.sem = fun _ => 0)

def quiescent_DinRefIdeal [hDinRefIdeal : Cert.DinRefIdeal.Facts] : Prop :=
  ∀ (m : (ℓ : Loc Cert.DinRefIdeal.nD Cert.DinRefIdeal.τ Cert.DinRefIdeal.sig) → Buf (Elt Ideal) ℓ) (g : Dev Cert.DinRefIdeal.nD → PrngReg), Pre_DinRefIdeal m →
    θ_run (Cert.DinRefIdeal.defs (F := Ideal)) (onTc (τ := Cert.DinRefIdeal.τ) (Cert.DinRefIdeal.main (F := Ideal))) ⟨m, fun _ => 0, g⟩ (fun r => (∀ c : Dev Cert.DinRefIdeal.nD,
      r.2.mem ((c.tc : Thread Cert.DinRefIdeal.nD Cert.DinRefIdeal.τ).loc Cert.DinRefIdeal.main_arg0) = m ((c.tc : Thread Cert.DinRefIdeal.nD Cert.DinRefIdeal.τ).loc Cert.DinRefIdeal.main_arg0)
      ∧ r.2.mem ((c.tc : Thread Cert.DinRefIdeal.nD Cert.DinRefIdeal.τ).loc Cert.DinRefIdeal.main_arg1) = m ((c.tc : Thread Cert.DinRefIdeal.nD Cert.DinRefIdeal.τ).loc Cert.DinRefIdeal.main_arg1)
      ∧ r.2.mem ((c.tc : Thread Cert.DinRefIdeal.nD Cert.DinRefIdeal.τ).loc Cert.DinRefIdeal.main_arg2) = m ((c.tc : Thread Cert.DinRefIdeal.nD Cert.DinRefIdeal.τ).loc Cert.DinRefIdeal.main_arg2)
      ∧ r.2.mem ((c.tc : Thread Cert.DinRefIdeal.nD Cert.DinRefIdeal.τ).loc Cert.DinRefIdeal.main_arg3) = m ((c.tc : Thread Cert.DinRefIdeal.nD Cert.DinRefIdeal.τ).loc Cert.DinRefIdeal.main_arg3)
      ∧ r.2.mem ((c.tc : Thread Cert.DinRefIdeal.nD Cert.DinRefIdeal.τ).loc Cert.DinRefIdeal.main_arg4) = m ((c.tc : Thread Cert.DinRefIdeal.nD Cert.DinRefIdeal.τ).loc Cert.DinRefIdeal.main_arg4)
      ∧ r.2.mem ((c.tc : Thread Cert.DinRefIdeal.nD Cert.DinRefIdeal.τ).loc Cert.DinRefIdeal.main_arg5) = m ((c.tc : Thread Cert.DinRefIdeal.nD Cert.DinRefIdeal.τ).loc Cert.DinRefIdeal.main_arg5))
      ∧ r.2.sem = fun _ => 0)

def quiescent_DinRefIdeal_pre_finite_din [hDinRefIdeal : Cert.DinRefIdeal.Facts] [hPre_finite_din : Cert.Pre_finite_din.Facts] : Prop :=
  ∀ (m : (ℓ : Loc Cert.DinRefIdeal.nD Cert.DinRefIdeal.τ Cert.DinRefIdeal.sig) → Buf (Elt Ideal) ℓ) (g : Dev Cert.DinRefIdeal.nD → PrngReg), Pre_DinRefIdeal_finite_din m →
    θ_run (Cert.DinRefIdeal.defs (F := Ideal)) (onTc (τ := Cert.DinRefIdeal.τ) (Cert.DinRefIdeal.main (F := Ideal))) ⟨m, fun _ => 0, g⟩ (fun r => (∀ c : Dev Cert.DinRefIdeal.nD,
      r.2.mem ((c.tc : Thread Cert.DinRefIdeal.nD Cert.DinRefIdeal.τ).loc Cert.DinRefIdeal.main_arg0) = m ((c.tc : Thread Cert.DinRefIdeal.nD Cert.DinRefIdeal.τ).loc Cert.DinRefIdeal.main_arg0)
      ∧ r.2.mem ((c.tc : Thread Cert.DinRefIdeal.nD Cert.DinRefIdeal.τ).loc Cert.DinRefIdeal.main_arg1) = m ((c.tc : Thread Cert.DinRefIdeal.nD Cert.DinRefIdeal.τ).loc Cert.DinRefIdeal.main_arg1)
      ∧ r.2.mem ((c.tc : Thread Cert.DinRefIdeal.nD Cert.DinRefIdeal.τ).loc Cert.DinRefIdeal.main_arg2) = m ((c.tc : Thread Cert.DinRefIdeal.nD Cert.DinRefIdeal.τ).loc Cert.DinRefIdeal.main_arg2)
      ∧ r.2.mem ((c.tc : Thread Cert.DinRefIdeal.nD Cert.DinRefIdeal.τ).loc Cert.DinRefIdeal.main_arg3) = m ((c.tc : Thread Cert.DinRefIdeal.nD Cert.DinRefIdeal.τ).loc Cert.DinRefIdeal.main_arg3)
      ∧ r.2.mem ((c.tc : Thread Cert.DinRefIdeal.nD Cert.DinRefIdeal.τ).loc Cert.DinRefIdeal.main_arg4) = m ((c.tc : Thread Cert.DinRefIdeal.nD Cert.DinRefIdeal.τ).loc Cert.DinRefIdeal.main_arg4)
      ∧ r.2.mem ((c.tc : Thread Cert.DinRefIdeal.nD Cert.DinRefIdeal.τ).loc Cert.DinRefIdeal.main_arg5) = m ((c.tc : Thread Cert.DinRefIdeal.nD Cert.DinRefIdeal.τ).loc Cert.DinRefIdeal.main_arg5))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3))
      ∧ r.2.sem = fun _ => 0)

def quiescent_Recall [hRecall : Cert.Recall.Facts] : Prop :=
  ∀ (m : (ℓ : Loc Cert.Recall.nD Cert.Recall.τ Cert.Recall.sig) → Buf (Elt Bits) ℓ) (g : Dev Cert.Recall.nD → PrngReg), Pre_Recall m →
    θ_run (Cert.Recall.defs (F := Bits)) (onTc (τ := Cert.Recall.τ) (Cert.Recall.main (F := Bits))) ⟨m, fun _ => 0, g⟩ (fun r => (∀ c : Dev Cert.Recall.nD,
      r.2.mem ((c.tc : Thread Cert.Recall.nD Cert.Recall.τ).loc Cert.Recall.main_arg0) = m ((c.tc : Thread Cert.Recall.nD Cert.Recall.τ).loc Cert.Recall.main_arg0)
      ∧ r.2.mem ((c.tc : Thread Cert.Recall.nD Cert.Recall.τ).loc Cert.Recall.main_arg1) = m ((c.tc : Thread Cert.Recall.nD Cert.Recall.τ).loc Cert.Recall.main_arg1))
      ∧ r.2.sem = fun _ => 0)

def quiescent_RecallIdeal [hRecallIdeal : Cert.RecallIdeal.Facts] : Prop :=
  ∀ (m : (ℓ : Loc Cert.RecallIdeal.nD Cert.RecallIdeal.τ Cert.RecallIdeal.sig) → Buf (Elt Ideal) ℓ) (g : Dev Cert.RecallIdeal.nD → PrngReg), Pre_RecallIdeal m →
    θ_run (Cert.RecallIdeal.defs (F := Ideal)) (onTc (τ := Cert.RecallIdeal.τ) (Cert.RecallIdeal.main (F := Ideal))) ⟨m, fun _ => 0, g⟩ (fun r => (∀ c : Dev Cert.RecallIdeal.nD,
      r.2.mem ((c.tc : Thread Cert.RecallIdeal.nD Cert.RecallIdeal.τ).loc Cert.RecallIdeal.main_arg0) = m ((c.tc : Thread Cert.RecallIdeal.nD Cert.RecallIdeal.τ).loc Cert.RecallIdeal.main_arg0)
      ∧ r.2.mem ((c.tc : Thread Cert.RecallIdeal.nD Cert.RecallIdeal.τ).loc Cert.RecallIdeal.main_arg1) = m ((c.tc : Thread Cert.RecallIdeal.nD Cert.RecallIdeal.τ).loc Cert.RecallIdeal.main_arg1))
      ∧ r.2.sem = fun _ => 0)

def quiescent_RecallIdeal_pre_finite_recall [hRecallIdeal : Cert.RecallIdeal.Facts] [hPre_finite_recall : Cert.Pre_finite_recall.Facts] : Prop :=
  ∀ (m : (ℓ : Loc Cert.RecallIdeal.nD Cert.RecallIdeal.τ Cert.RecallIdeal.sig) → Buf (Elt Ideal) ℓ) (g : Dev Cert.RecallIdeal.nD → PrngReg), Pre_RecallIdeal_finite_recall m →
    θ_run (Cert.RecallIdeal.defs (F := Ideal)) (onTc (τ := Cert.RecallIdeal.τ) (Cert.RecallIdeal.main (F := Ideal))) ⟨m, fun _ => 0, g⟩ (fun r => (∀ c : Dev Cert.RecallIdeal.nD,
      r.2.mem ((c.tc : Thread Cert.RecallIdeal.nD Cert.RecallIdeal.τ).loc Cert.RecallIdeal.main_arg0) = m ((c.tc : Thread Cert.RecallIdeal.nD Cert.RecallIdeal.τ).loc Cert.RecallIdeal.main_arg0)
      ∧ r.2.mem ((c.tc : Thread Cert.RecallIdeal.nD Cert.RecallIdeal.τ).loc Cert.RecallIdeal.main_arg1) = m ((c.tc : Thread Cert.RecallIdeal.nD Cert.RecallIdeal.τ).loc Cert.RecallIdeal.main_arg1))
      ∧ r.2.sem = fun _ => 0)

def quiescent_RecallRefIdeal [hRecallRefIdeal : Cert.RecallRefIdeal.Facts] : Prop :=
  ∀ (m : (ℓ : Loc Cert.RecallRefIdeal.nD Cert.RecallRefIdeal.τ Cert.RecallRefIdeal.sig) → Buf (Elt Ideal) ℓ) (g : Dev Cert.RecallRefIdeal.nD → PrngReg), Pre_RecallRefIdeal m →
    θ_run (Cert.RecallRefIdeal.defs (F := Ideal)) (onTc (τ := Cert.RecallRefIdeal.τ) (Cert.RecallRefIdeal.main (F := Ideal))) ⟨m, fun _ => 0, g⟩ (fun r => (∀ c : Dev Cert.RecallRefIdeal.nD,
      r.2.mem ((c.tc : Thread Cert.RecallRefIdeal.nD Cert.RecallRefIdeal.τ).loc Cert.RecallRefIdeal.main_arg0) = m ((c.tc : Thread Cert.RecallRefIdeal.nD Cert.RecallRefIdeal.τ).loc Cert.RecallRefIdeal.main_arg0)
      ∧ r.2.mem ((c.tc : Thread Cert.RecallRefIdeal.nD Cert.RecallRefIdeal.τ).loc Cert.RecallRefIdeal.main_arg1) = m ((c.tc : Thread Cert.RecallRefIdeal.nD Cert.RecallRefIdeal.τ).loc Cert.RecallRefIdeal.main_arg1))
      ∧ r.2.sem = fun _ => 0)

def quiescent_RecallRefIdeal_pre_finite_recall [hRecallRefIdeal : Cert.RecallRefIdeal.Facts] [hPre_finite_recall : Cert.Pre_finite_recall.Facts] : Prop :=
  ∀ (m : (ℓ : Loc Cert.RecallRefIdeal.nD Cert.RecallRefIdeal.τ Cert.RecallRefIdeal.sig) → Buf (Elt Ideal) ℓ) (g : Dev Cert.RecallRefIdeal.nD → PrngReg), Pre_RecallRefIdeal_finite_recall m →
    θ_run (Cert.RecallRefIdeal.defs (F := Ideal)) (onTc (τ := Cert.RecallRefIdeal.τ) (Cert.RecallRefIdeal.main (F := Ideal))) ⟨m, fun _ => 0, g⟩ (fun r => (∀ c : Dev Cert.RecallRefIdeal.nD,
      r.2.mem ((c.tc : Thread Cert.RecallRefIdeal.nD Cert.RecallRefIdeal.τ).loc Cert.RecallRefIdeal.main_arg0) = m ((c.tc : Thread Cert.RecallRefIdeal.nD Cert.RecallRefIdeal.τ).loc Cert.RecallRefIdeal.main_arg0)
      ∧ r.2.mem ((c.tc : Thread Cert.RecallRefIdeal.nD Cert.RecallRefIdeal.τ).loc Cert.RecallRefIdeal.main_arg1) = m ((c.tc : Thread Cert.RecallRefIdeal.nD Cert.RecallRefIdeal.τ).loc Cert.RecallRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Kin [hKin : Cert.Kin.Facts] : Prop :=
  ∀ (m : (ℓ : Loc Cert.Kin.nD Cert.Kin.τ Cert.Kin.sig) → Buf (Elt Bits) ℓ) (g : Dev Cert.Kin.nD → PrngReg), Pre_Kin m →
    θ_run (Cert.Kin.defs (F := Bits)) (onTc (τ := Cert.Kin.τ) (Cert.Kin.main (F := Bits))) ⟨m, fun _ => 0, g⟩ (fun r => (∀ c : Dev Cert.Kin.nD,
      r.2.mem ((c.tc : Thread Cert.Kin.nD Cert.Kin.τ).loc Cert.Kin.main_arg0) = m ((c.tc : Thread Cert.Kin.nD Cert.Kin.τ).loc Cert.Kin.main_arg0)
      ∧ r.2.mem ((c.tc : Thread Cert.Kin.nD Cert.Kin.τ).loc Cert.Kin.main_arg1) = m ((c.tc : Thread Cert.Kin.nD Cert.Kin.τ).loc Cert.Kin.main_arg1)
      ∧ r.2.mem ((c.tc : Thread Cert.Kin.nD Cert.Kin.τ).loc Cert.Kin.main_arg2) = m ((c.tc : Thread Cert.Kin.nD Cert.Kin.τ).loc Cert.Kin.main_arg2)
      ∧ r.2.mem ((c.tc : Thread Cert.Kin.nD Cert.Kin.τ).loc Cert.Kin.main_arg3) = m ((c.tc : Thread Cert.Kin.nD Cert.Kin.τ).loc Cert.Kin.main_arg3)
      ∧ r.2.mem ((c.tc : Thread Cert.Kin.nD Cert.Kin.τ).loc Cert.Kin.main_arg4) = m ((c.tc : Thread Cert.Kin.nD Cert.Kin.τ).loc Cert.Kin.main_arg4)
      ∧ r.2.mem ((c.tc : Thread Cert.Kin.nD Cert.Kin.τ).loc Cert.Kin.main_arg5) = m ((c.tc : Thread Cert.Kin.nD Cert.Kin.τ).loc Cert.Kin.main_arg5))
      ∧ r.2.sem = fun _ => 0)

def quiescent_KinIdeal [hKinIdeal : Cert.KinIdeal.Facts] : Prop :=
  ∀ (m : (ℓ : Loc Cert.KinIdeal.nD Cert.KinIdeal.τ Cert.KinIdeal.sig) → Buf (Elt Ideal) ℓ) (g : Dev Cert.KinIdeal.nD → PrngReg), Pre_KinIdeal m →
    θ_run (Cert.KinIdeal.defs (F := Ideal)) (onTc (τ := Cert.KinIdeal.τ) (Cert.KinIdeal.main (F := Ideal))) ⟨m, fun _ => 0, g⟩ (fun r => (∀ c : Dev Cert.KinIdeal.nD,
      r.2.mem ((c.tc : Thread Cert.KinIdeal.nD Cert.KinIdeal.τ).loc Cert.KinIdeal.main_arg0) = m ((c.tc : Thread Cert.KinIdeal.nD Cert.KinIdeal.τ).loc Cert.KinIdeal.main_arg0)
      ∧ r.2.mem ((c.tc : Thread Cert.KinIdeal.nD Cert.KinIdeal.τ).loc Cert.KinIdeal.main_arg1) = m ((c.tc : Thread Cert.KinIdeal.nD Cert.KinIdeal.τ).loc Cert.KinIdeal.main_arg1)
      ∧ r.2.mem ((c.tc : Thread Cert.KinIdeal.nD Cert.KinIdeal.τ).loc Cert.KinIdeal.main_arg2) = m ((c.tc : Thread Cert.KinIdeal.nD Cert.KinIdeal.τ).loc Cert.KinIdeal.main_arg2)
      ∧ r.2.mem ((c.tc : Thread Cert.KinIdeal.nD Cert.KinIdeal.τ).loc Cert.KinIdeal.main_arg3) = m ((c.tc : Thread Cert.KinIdeal.nD Cert.KinIdeal.τ).loc Cert.KinIdeal.main_arg3)
      ∧ r.2.mem ((c.tc : Thread Cert.KinIdeal.nD Cert.KinIdeal.τ).loc Cert.KinIdeal.main_arg4) = m ((c.tc : Thread Cert.KinIdeal.nD Cert.KinIdeal.τ).loc Cert.KinIdeal.main_arg4)
      ∧ r.2.mem ((c.tc : Thread Cert.KinIdeal.nD Cert.KinIdeal.τ).loc Cert.KinIdeal.main_arg5) = m ((c.tc : Thread Cert.KinIdeal.nD Cert.KinIdeal.τ).loc Cert.KinIdeal.main_arg5))
      ∧ r.2.sem = fun _ => 0)

def quiescent_KinIdeal_pre_finite_kin [hKinIdeal : Cert.KinIdeal.Facts] [hPre_finite_kin : Cert.Pre_finite_kin.Facts] : Prop :=
  ∀ (m : (ℓ : Loc Cert.KinIdeal.nD Cert.KinIdeal.τ Cert.KinIdeal.sig) → Buf (Elt Ideal) ℓ) (g : Dev Cert.KinIdeal.nD → PrngReg), Pre_KinIdeal_finite_kin m →
    θ_run (Cert.KinIdeal.defs (F := Ideal)) (onTc (τ := Cert.KinIdeal.τ) (Cert.KinIdeal.main (F := Ideal))) ⟨m, fun _ => 0, g⟩ (fun r => (∀ c : Dev Cert.KinIdeal.nD,
      r.2.mem ((c.tc : Thread Cert.KinIdeal.nD Cert.KinIdeal.τ).loc Cert.KinIdeal.main_arg0) = m ((c.tc : Thread Cert.KinIdeal.nD Cert.KinIdeal.τ).loc Cert.KinIdeal.main_arg0)
      ∧ r.2.mem ((c.tc : Thread Cert.KinIdeal.nD Cert.KinIdeal.τ).loc Cert.KinIdeal.main_arg1) = m ((c.tc : Thread Cert.KinIdeal.nD Cert.KinIdeal.τ).loc Cert.KinIdeal.main_arg1)
      ∧ r.2.mem ((c.tc : Thread Cert.KinIdeal.nD Cert.KinIdeal.τ).loc Cert.KinIdeal.main_arg2) = m ((c.tc : Thread Cert.KinIdeal.nD Cert.KinIdeal.τ).loc Cert.KinIdeal.main_arg2)
      ∧ r.2.mem ((c.tc : Thread Cert.KinIdeal.nD Cert.KinIdeal.τ).loc Cert.KinIdeal.main_arg3) = m ((c.tc : Thread Cert.KinIdeal.nD Cert.KinIdeal.τ).loc Cert.KinIdeal.main_arg3)
      ∧ r.2.mem ((c.tc : Thread Cert.KinIdeal.nD Cert.KinIdeal.τ).loc Cert.KinIdeal.main_arg4) = m ((c.tc : Thread Cert.KinIdeal.nD Cert.KinIdeal.τ).loc Cert.KinIdeal.main_arg4)
      ∧ r.2.mem ((c.tc : Thread Cert.KinIdeal.nD Cert.KinIdeal.τ).loc Cert.KinIdeal.main_arg5) = m ((c.tc : Thread Cert.KinIdeal.nD Cert.KinIdeal.τ).loc Cert.KinIdeal.main_arg5))
      ∧ r.2.sem = fun _ => 0)

def quiescent_KinRefIdeal [hKinRefIdeal : Cert.KinRefIdeal.Facts] : Prop :=
  ∀ (m : (ℓ : Loc Cert.KinRefIdeal.nD Cert.KinRefIdeal.τ Cert.KinRefIdeal.sig) → Buf (Elt Ideal) ℓ) (g : Dev Cert.KinRefIdeal.nD → PrngReg), Pre_KinRefIdeal m →
    θ_run (Cert.KinRefIdeal.defs (F := Ideal)) (onTc (τ := Cert.KinRefIdeal.τ) (Cert.KinRefIdeal.main (F := Ideal))) ⟨m, fun _ => 0, g⟩ (fun r => (∀ c : Dev Cert.KinRefIdeal.nD,
      r.2.mem ((c.tc : Thread Cert.KinRefIdeal.nD Cert.KinRefIdeal.τ).loc Cert.KinRefIdeal.main_arg0) = m ((c.tc : Thread Cert.KinRefIdeal.nD Cert.KinRefIdeal.τ).loc Cert.KinRefIdeal.main_arg0)
      ∧ r.2.mem ((c.tc : Thread Cert.KinRefIdeal.nD Cert.KinRefIdeal.τ).loc Cert.KinRefIdeal.main_arg1) = m ((c.tc : Thread Cert.KinRefIdeal.nD Cert.KinRefIdeal.τ).loc Cert.KinRefIdeal.main_arg1)
      ∧ r.2.mem ((c.tc : Thread Cert.KinRefIdeal.nD Cert.KinRefIdeal.τ).loc Cert.KinRefIdeal.main_arg2) = m ((c.tc : Thread Cert.KinRefIdeal.nD Cert.KinRefIdeal.τ).loc Cert.KinRefIdeal.main_arg2)
      ∧ r.2.mem ((c.tc : Thread Cert.KinRefIdeal.nD Cert.KinRefIdeal.τ).loc Cert.KinRefIdeal.main_arg3) = m ((c.tc : Thread Cert.KinRefIdeal.nD Cert.KinRefIdeal.τ).loc Cert.KinRefIdeal.main_arg3)
      ∧ r.2.mem ((c.tc : Thread Cert.KinRefIdeal.nD Cert.KinRefIdeal.τ).loc Cert.KinRefIdeal.main_arg4) = m ((c.tc : Thread Cert.KinRefIdeal.nD Cert.KinRefIdeal.τ).loc Cert.KinRefIdeal.main_arg4)
      ∧ r.2.mem ((c.tc : Thread Cert.KinRefIdeal.nD Cert.KinRefIdeal.τ).loc Cert.KinRefIdeal.main_arg5) = m ((c.tc : Thread Cert.KinRefIdeal.nD Cert.KinRefIdeal.τ).loc Cert.KinRefIdeal.main_arg5))
      ∧ r.2.sem = fun _ => 0)

def quiescent_KinRefIdeal_pre_finite_kin [hKinRefIdeal : Cert.KinRefIdeal.Facts] [hPre_finite_kin : Cert.Pre_finite_kin.Facts] : Prop :=
  ∀ (m : (ℓ : Loc Cert.KinRefIdeal.nD Cert.KinRefIdeal.τ Cert.KinRefIdeal.sig) → Buf (Elt Ideal) ℓ) (g : Dev Cert.KinRefIdeal.nD → PrngReg), Pre_KinRefIdeal_finite_kin m →
    θ_run (Cert.KinRefIdeal.defs (F := Ideal)) (onTc (τ := Cert.KinRefIdeal.τ) (Cert.KinRefIdeal.main (F := Ideal))) ⟨m, fun _ => 0, g⟩ (fun r => (∀ c : Dev Cert.KinRefIdeal.nD,
      r.2.mem ((c.tc : Thread Cert.KinRefIdeal.nD Cert.KinRefIdeal.τ).loc Cert.KinRefIdeal.main_arg0) = m ((c.tc : Thread Cert.KinRefIdeal.nD Cert.KinRefIdeal.τ).loc Cert.KinRefIdeal.main_arg0)
      ∧ r.2.mem ((c.tc : Thread Cert.KinRefIdeal.nD Cert.KinRefIdeal.τ).loc Cert.KinRefIdeal.main_arg1) = m ((c.tc : Thread Cert.KinRefIdeal.nD Cert.KinRefIdeal.τ).loc Cert.KinRefIdeal.main_arg1)
      ∧ r.2.mem ((c.tc : Thread Cert.KinRefIdeal.nD Cert.KinRefIdeal.τ).loc Cert.KinRefIdeal.main_arg2) = m ((c.tc : Thread Cert.KinRefIdeal.nD Cert.KinRefIdeal.τ).loc Cert.KinRefIdeal.main_arg2)
      ∧ r.2.mem ((c.tc : Thread Cert.KinRefIdeal.nD Cert.KinRefIdeal.τ).loc Cert.KinRefIdeal.main_arg3) = m ((c.tc : Thread Cert.KinRefIdeal.nD Cert.KinRefIdeal.τ).loc Cert.KinRefIdeal.main_arg3)
      ∧ r.2.mem ((c.tc : Thread Cert.KinRefIdeal.nD Cert.KinRefIdeal.τ).loc Cert.KinRefIdeal.main_arg4) = m ((c.tc : Thread Cert.KinRefIdeal.nD Cert.KinRefIdeal.τ).loc Cert.KinRefIdeal.main_arg4)
      ∧ r.2.mem ((c.tc : Thread Cert.KinRefIdeal.nD Cert.KinRefIdeal.τ).loc Cert.KinRefIdeal.main_arg5) = m ((c.tc : Thread Cert.KinRefIdeal.nD Cert.KinRefIdeal.τ).loc Cert.KinRefIdeal.main_arg5))
      ∧ r.2.sem = fun _ => 0)

def quiescent_Btok [hBtok : Cert.Btok.Facts] : Prop :=
  ∀ (m : (ℓ : Loc Cert.Btok.nD Cert.Btok.τ Cert.Btok.sig) → Buf (Elt Bits) ℓ) (g : Dev Cert.Btok.nD → PrngReg), Pre_Btok m →
    θ_run (Cert.Btok.defs (F := Bits)) (onTc (τ := Cert.Btok.τ) (Cert.Btok.main (F := Bits))) ⟨m, fun _ => 0, g⟩ (fun r => (∀ c : Dev Cert.Btok.nD,
      r.2.mem ((c.tc : Thread Cert.Btok.nD Cert.Btok.τ).loc Cert.Btok.main_arg0) = m ((c.tc : Thread Cert.Btok.nD Cert.Btok.τ).loc Cert.Btok.main_arg0)
      ∧ r.2.mem ((c.tc : Thread Cert.Btok.nD Cert.Btok.τ).loc Cert.Btok.main_arg1) = m ((c.tc : Thread Cert.Btok.nD Cert.Btok.τ).loc Cert.Btok.main_arg1))
      ∧ r.2.sem = fun _ => 0)

def quiescent_BtokIdeal [hBtokIdeal : Cert.BtokIdeal.Facts] : Prop :=
  ∀ (m : (ℓ : Loc Cert.BtokIdeal.nD Cert.BtokIdeal.τ Cert.BtokIdeal.sig) → Buf (Elt Ideal) ℓ) (g : Dev Cert.BtokIdeal.nD → PrngReg), Pre_BtokIdeal m →
    θ_run (Cert.BtokIdeal.defs (F := Ideal)) (onTc (τ := Cert.BtokIdeal.τ) (Cert.BtokIdeal.main (F := Ideal))) ⟨m, fun _ => 0, g⟩ (fun r => (∀ c : Dev Cert.BtokIdeal.nD,
      r.2.mem ((c.tc : Thread Cert.BtokIdeal.nD Cert.BtokIdeal.τ).loc Cert.BtokIdeal.main_arg0) = m ((c.tc : Thread Cert.BtokIdeal.nD Cert.BtokIdeal.τ).loc Cert.BtokIdeal.main_arg0)
      ∧ r.2.mem ((c.tc : Thread Cert.BtokIdeal.nD Cert.BtokIdeal.τ).loc Cert.BtokIdeal.main_arg1) = m ((c.tc : Thread Cert.BtokIdeal.nD Cert.BtokIdeal.τ).loc Cert.BtokIdeal.main_arg1))
      ∧ r.2.sem = fun _ => 0)

def quiescent_BtokRefIdeal [hBtokRefIdeal : Cert.BtokRefIdeal.Facts] : Prop :=
  ∀ (m : (ℓ : Loc Cert.BtokRefIdeal.nD Cert.BtokRefIdeal.τ Cert.BtokRefIdeal.sig) → Buf (Elt Ideal) ℓ) (g : Dev Cert.BtokRefIdeal.nD → PrngReg), Pre_BtokRefIdeal m →
    θ_run (Cert.BtokRefIdeal.defs (F := Ideal)) (onTc (τ := Cert.BtokRefIdeal.τ) (Cert.BtokRefIdeal.main (F := Ideal))) ⟨m, fun _ => 0, g⟩ (fun r => (∀ c : Dev Cert.BtokRefIdeal.nD,
      r.2.mem ((c.tc : Thread Cert.BtokRefIdeal.nD Cert.BtokRefIdeal.τ).loc Cert.BtokRefIdeal.main_arg0) = m ((c.tc : Thread Cert.BtokRefIdeal.nD Cert.BtokRefIdeal.τ).loc Cert.BtokRefIdeal.main_arg0)
      ∧ r.2.mem ((c.tc : Thread Cert.BtokRefIdeal.nD Cert.BtokRefIdeal.τ).loc Cert.BtokRefIdeal.main_arg1) = m ((c.tc : Thread Cert.BtokRefIdeal.nD Cert.BtokRefIdeal.τ).loc Cert.BtokRefIdeal.main_arg1))
      ∧ r.2.sem = fun _ => 0)

def quiescent_Bproj [hBproj : Cert.Bproj.Facts] : Prop :=
  ∀ (m : (ℓ : Loc Cert.Bproj.nD Cert.Bproj.τ Cert.Bproj.sig) → Buf (Elt Bits) ℓ) (g : Dev Cert.Bproj.nD → PrngReg), Pre_Bproj m →
    θ_run (Cert.Bproj.defs (F := Bits)) (onTc (τ := Cert.Bproj.τ) (Cert.Bproj.main (F := Bits))) ⟨m, fun _ => 0, g⟩ (fun r => (∀ c : Dev Cert.Bproj.nD,
      r.2.mem ((c.tc : Thread Cert.Bproj.nD Cert.Bproj.τ).loc Cert.Bproj.main_arg0) = m ((c.tc : Thread Cert.Bproj.nD Cert.Bproj.τ).loc Cert.Bproj.main_arg0)
      ∧ r.2.mem ((c.tc : Thread Cert.Bproj.nD Cert.Bproj.τ).loc Cert.Bproj.main_arg1) = m ((c.tc : Thread Cert.Bproj.nD Cert.Bproj.τ).loc Cert.Bproj.main_arg1))
      ∧ r.2.sem = fun _ => 0)

def quiescent_BprojIdeal [hBprojIdeal : Cert.BprojIdeal.Facts] : Prop :=
  ∀ (m : (ℓ : Loc Cert.BprojIdeal.nD Cert.BprojIdeal.τ Cert.BprojIdeal.sig) → Buf (Elt Ideal) ℓ) (g : Dev Cert.BprojIdeal.nD → PrngReg), Pre_BprojIdeal m →
    θ_run (Cert.BprojIdeal.defs (F := Ideal)) (onTc (τ := Cert.BprojIdeal.τ) (Cert.BprojIdeal.main (F := Ideal))) ⟨m, fun _ => 0, g⟩ (fun r => (∀ c : Dev Cert.BprojIdeal.nD,
      r.2.mem ((c.tc : Thread Cert.BprojIdeal.nD Cert.BprojIdeal.τ).loc Cert.BprojIdeal.main_arg0) = m ((c.tc : Thread Cert.BprojIdeal.nD Cert.BprojIdeal.τ).loc Cert.BprojIdeal.main_arg0)
      ∧ r.2.mem ((c.tc : Thread Cert.BprojIdeal.nD Cert.BprojIdeal.τ).loc Cert.BprojIdeal.main_arg1) = m ((c.tc : Thread Cert.BprojIdeal.nD Cert.BprojIdeal.τ).loc Cert.BprojIdeal.main_arg1))
      ∧ r.2.sem = fun _ => 0)

def quiescent_BprojRefIdeal [hBprojRefIdeal : Cert.BprojRefIdeal.Facts] : Prop :=
  ∀ (m : (ℓ : Loc Cert.BprojRefIdeal.nD Cert.BprojRefIdeal.τ Cert.BprojRefIdeal.sig) → Buf (Elt Ideal) ℓ) (g : Dev Cert.BprojRefIdeal.nD → PrngReg), Pre_BprojRefIdeal m →
    θ_run (Cert.BprojRefIdeal.defs (F := Ideal)) (onTc (τ := Cert.BprojRefIdeal.τ) (Cert.BprojRefIdeal.main (F := Ideal))) ⟨m, fun _ => 0, g⟩ (fun r => (∀ c : Dev Cert.BprojRefIdeal.nD,
      r.2.mem ((c.tc : Thread Cert.BprojRefIdeal.nD Cert.BprojRefIdeal.τ).loc Cert.BprojRefIdeal.main_arg0) = m ((c.tc : Thread Cert.BprojRefIdeal.nD Cert.BprojRefIdeal.τ).loc Cert.BprojRefIdeal.main_arg0)
      ∧ r.2.mem ((c.tc : Thread Cert.BprojRefIdeal.nD Cert.BprojRefIdeal.τ).loc Cert.BprojRefIdeal.main_arg1) = m ((c.tc : Thread Cert.BprojRefIdeal.nD Cert.BprojRefIdeal.τ).loc Cert.BprojRefIdeal.main_arg1))
      ∧ r.2.sem = fun _ => 0)

def quiescent_Bin [hBin : Cert.Bin.Facts] : Prop :=
  ∀ (m : (ℓ : Loc Cert.Bin.nD Cert.Bin.τ Cert.Bin.sig) → Buf (Elt Bits) ℓ) (g : Dev Cert.Bin.nD → PrngReg), Pre_Bin m →
    θ_run (Cert.Bin.defs (F := Bits)) (onTc (τ := Cert.Bin.τ) (Cert.Bin.main (F := Bits))) ⟨m, fun _ => 0, g⟩ (fun r => (∀ c : Dev Cert.Bin.nD,
      r.2.mem ((c.tc : Thread Cert.Bin.nD Cert.Bin.τ).loc Cert.Bin.main_arg0) = m ((c.tc : Thread Cert.Bin.nD Cert.Bin.τ).loc Cert.Bin.main_arg0)
      ∧ r.2.mem ((c.tc : Thread Cert.Bin.nD Cert.Bin.τ).loc Cert.Bin.main_arg1) = m ((c.tc : Thread Cert.Bin.nD Cert.Bin.τ).loc Cert.Bin.main_arg1)
      ∧ r.2.mem ((c.tc : Thread Cert.Bin.nD Cert.Bin.τ).loc Cert.Bin.main_arg2) = m ((c.tc : Thread Cert.Bin.nD Cert.Bin.τ).loc Cert.Bin.main_arg2)
      ∧ r.2.mem ((c.tc : Thread Cert.Bin.nD Cert.Bin.τ).loc Cert.Bin.main_arg3) = m ((c.tc : Thread Cert.Bin.nD Cert.Bin.τ).loc Cert.Bin.main_arg3)
      ∧ r.2.mem ((c.tc : Thread Cert.Bin.nD Cert.Bin.τ).loc Cert.Bin.main_arg4) = m ((c.tc : Thread Cert.Bin.nD Cert.Bin.τ).loc Cert.Bin.main_arg4)
      ∧ r.2.mem ((c.tc : Thread Cert.Bin.nD Cert.Bin.τ).loc Cert.Bin.main_arg5) = m ((c.tc : Thread Cert.Bin.nD Cert.Bin.τ).loc Cert.Bin.main_arg5))
      ∧ r.2.sem = fun _ => 0)

def quiescent_BinIdeal [hBinIdeal : Cert.BinIdeal.Facts] : Prop :=
  ∀ (m : (ℓ : Loc Cert.BinIdeal.nD Cert.BinIdeal.τ Cert.BinIdeal.sig) → Buf (Elt Ideal) ℓ) (g : Dev Cert.BinIdeal.nD → PrngReg), Pre_BinIdeal m →
    θ_run (Cert.BinIdeal.defs (F := Ideal)) (onTc (τ := Cert.BinIdeal.τ) (Cert.BinIdeal.main (F := Ideal))) ⟨m, fun _ => 0, g⟩ (fun r => (∀ c : Dev Cert.BinIdeal.nD,
      r.2.mem ((c.tc : Thread Cert.BinIdeal.nD Cert.BinIdeal.τ).loc Cert.BinIdeal.main_arg0) = m ((c.tc : Thread Cert.BinIdeal.nD Cert.BinIdeal.τ).loc Cert.BinIdeal.main_arg0)
      ∧ r.2.mem ((c.tc : Thread Cert.BinIdeal.nD Cert.BinIdeal.τ).loc Cert.BinIdeal.main_arg1) = m ((c.tc : Thread Cert.BinIdeal.nD Cert.BinIdeal.τ).loc Cert.BinIdeal.main_arg1)
      ∧ r.2.mem ((c.tc : Thread Cert.BinIdeal.nD Cert.BinIdeal.τ).loc Cert.BinIdeal.main_arg2) = m ((c.tc : Thread Cert.BinIdeal.nD Cert.BinIdeal.τ).loc Cert.BinIdeal.main_arg2)
      ∧ r.2.mem ((c.tc : Thread Cert.BinIdeal.nD Cert.BinIdeal.τ).loc Cert.BinIdeal.main_arg3) = m ((c.tc : Thread Cert.BinIdeal.nD Cert.BinIdeal.τ).loc Cert.BinIdeal.main_arg3)
      ∧ r.2.mem ((c.tc : Thread Cert.BinIdeal.nD Cert.BinIdeal.τ).loc Cert.BinIdeal.main_arg4) = m ((c.tc : Thread Cert.BinIdeal.nD Cert.BinIdeal.τ).loc Cert.BinIdeal.main_arg4)
      ∧ r.2.mem ((c.tc : Thread Cert.BinIdeal.nD Cert.BinIdeal.τ).loc Cert.BinIdeal.main_arg5) = m ((c.tc : Thread Cert.BinIdeal.nD Cert.BinIdeal.τ).loc Cert.BinIdeal.main_arg5))
      ∧ r.2.sem = fun _ => 0)

def quiescent_BinIdeal_pre_finite_bin [hBinIdeal : Cert.BinIdeal.Facts] [hPre_finite_bin : Cert.Pre_finite_bin.Facts] : Prop :=
  ∀ (m : (ℓ : Loc Cert.BinIdeal.nD Cert.BinIdeal.τ Cert.BinIdeal.sig) → Buf (Elt Ideal) ℓ) (g : Dev Cert.BinIdeal.nD → PrngReg), Pre_BinIdeal_finite_bin m →
    θ_run (Cert.BinIdeal.defs (F := Ideal)) (onTc (τ := Cert.BinIdeal.τ) (Cert.BinIdeal.main (F := Ideal))) ⟨m, fun _ => 0, g⟩ (fun r => (∀ c : Dev Cert.BinIdeal.nD,
      r.2.mem ((c.tc : Thread Cert.BinIdeal.nD Cert.BinIdeal.τ).loc Cert.BinIdeal.main_arg0) = m ((c.tc : Thread Cert.BinIdeal.nD Cert.BinIdeal.τ).loc Cert.BinIdeal.main_arg0)
      ∧ r.2.mem ((c.tc : Thread Cert.BinIdeal.nD Cert.BinIdeal.τ).loc Cert.BinIdeal.main_arg1) = m ((c.tc : Thread Cert.BinIdeal.nD Cert.BinIdeal.τ).loc Cert.BinIdeal.main_arg1)
      ∧ r.2.mem ((c.tc : Thread Cert.BinIdeal.nD Cert.BinIdeal.τ).loc Cert.BinIdeal.main_arg2) = m ((c.tc : Thread Cert.BinIdeal.nD Cert.BinIdeal.τ).loc Cert.BinIdeal.main_arg2)
      ∧ r.2.mem ((c.tc : Thread Cert.BinIdeal.nD Cert.BinIdeal.τ).loc Cert.BinIdeal.main_arg3) = m ((c.tc : Thread Cert.BinIdeal.nD Cert.BinIdeal.τ).loc Cert.BinIdeal.main_arg3)
      ∧ r.2.mem ((c.tc : Thread Cert.BinIdeal.nD Cert.BinIdeal.τ).loc Cert.BinIdeal.main_arg4) = m ((c.tc : Thread Cert.BinIdeal.nD Cert.BinIdeal.τ).loc Cert.BinIdeal.main_arg4)
      ∧ r.2.mem ((c.tc : Thread Cert.BinIdeal.nD Cert.BinIdeal.τ).loc Cert.BinIdeal.main_arg5) = m ((c.tc : Thread Cert.BinIdeal.nD Cert.BinIdeal.τ).loc Cert.BinIdeal.main_arg5))
      ∧ r.2.sem = fun _ => 0)

def quiescent_BinRefIdeal [hBinRefIdeal : Cert.BinRefIdeal.Facts] : Prop :=
  ∀ (m : (ℓ : Loc Cert.BinRefIdeal.nD Cert.BinRefIdeal.τ Cert.BinRefIdeal.sig) → Buf (Elt Ideal) ℓ) (g : Dev Cert.BinRefIdeal.nD → PrngReg), Pre_BinRefIdeal m →
    θ_run (Cert.BinRefIdeal.defs (F := Ideal)) (onTc (τ := Cert.BinRefIdeal.τ) (Cert.BinRefIdeal.main (F := Ideal))) ⟨m, fun _ => 0, g⟩ (fun r => (∀ c : Dev Cert.BinRefIdeal.nD,
      r.2.mem ((c.tc : Thread Cert.BinRefIdeal.nD Cert.BinRefIdeal.τ).loc Cert.BinRefIdeal.main_arg0) = m ((c.tc : Thread Cert.BinRefIdeal.nD Cert.BinRefIdeal.τ).loc Cert.BinRefIdeal.main_arg0)
      ∧ r.2.mem ((c.tc : Thread Cert.BinRefIdeal.nD Cert.BinRefIdeal.τ).loc Cert.BinRefIdeal.main_arg1) = m ((c.tc : Thread Cert.BinRefIdeal.nD Cert.BinRefIdeal.τ).loc Cert.BinRefIdeal.main_arg1)
      ∧ r.2.mem ((c.tc : Thread Cert.BinRefIdeal.nD Cert.BinRefIdeal.τ).loc Cert.BinRefIdeal.main_arg2) = m ((c.tc : Thread Cert.BinRefIdeal.nD Cert.BinRefIdeal.τ).loc Cert.BinRefIdeal.main_arg2)
      ∧ r.2.mem ((c.tc : Thread Cert.BinRefIdeal.nD Cert.BinRefIdeal.τ).loc Cert.BinRefIdeal.main_arg3) = m ((c.tc : Thread Cert.BinRefIdeal.nD Cert.BinRefIdeal.τ).loc Cert.BinRefIdeal.main_arg3)
      ∧ r.2.mem ((c.tc : Thread Cert.BinRefIdeal.nD Cert.BinRefIdeal.τ).loc Cert.BinRefIdeal.main_arg4) = m ((c.tc : Thread Cert.BinRefIdeal.nD Cert.BinRefIdeal.τ).loc Cert.BinRefIdeal.main_arg4)
      ∧ r.2.mem ((c.tc : Thread Cert.BinRefIdeal.nD Cert.BinRefIdeal.τ).loc Cert.BinRefIdeal.main_arg5) = m ((c.tc : Thread Cert.BinRefIdeal.nD Cert.BinRefIdeal.τ).loc Cert.BinRefIdeal.main_arg5))
      ∧ r.2.sem = fun _ => 0)

def quiescent_BinRefIdeal_pre_finite_bin [hBinRefIdeal : Cert.BinRefIdeal.Facts] [hPre_finite_bin : Cert.Pre_finite_bin.Facts] : Prop :=
  ∀ (m : (ℓ : Loc Cert.BinRefIdeal.nD Cert.BinRefIdeal.τ Cert.BinRefIdeal.sig) → Buf (Elt Ideal) ℓ) (g : Dev Cert.BinRefIdeal.nD → PrngReg), Pre_BinRefIdeal_finite_bin m →
    θ_run (Cert.BinRefIdeal.defs (F := Ideal)) (onTc (τ := Cert.BinRefIdeal.τ) (Cert.BinRefIdeal.main (F := Ideal))) ⟨m, fun _ => 0, g⟩ (fun r => (∀ c : Dev Cert.BinRefIdeal.nD,
      r.2.mem ((c.tc : Thread Cert.BinRefIdeal.nD Cert.BinRefIdeal.τ).loc Cert.BinRefIdeal.main_arg0) = m ((c.tc : Thread Cert.BinRefIdeal.nD Cert.BinRefIdeal.τ).loc Cert.BinRefIdeal.main_arg0)
      ∧ r.2.mem ((c.tc : Thread Cert.BinRefIdeal.nD Cert.BinRefIdeal.τ).loc Cert.BinRefIdeal.main_arg1) = m ((c.tc : Thread Cert.BinRefIdeal.nD Cert.BinRefIdeal.τ).loc Cert.BinRefIdeal.main_arg1)
      ∧ r.2.mem ((c.tc : Thread Cert.BinRefIdeal.nD Cert.BinRefIdeal.τ).loc Cert.BinRefIdeal.main_arg2) = m ((c.tc : Thread Cert.BinRefIdeal.nD Cert.BinRefIdeal.τ).loc Cert.BinRefIdeal.main_arg2)
      ∧ r.2.mem ((c.tc : Thread Cert.BinRefIdeal.nD Cert.BinRefIdeal.τ).loc Cert.BinRefIdeal.main_arg3) = m ((c.tc : Thread Cert.BinRefIdeal.nD Cert.BinRefIdeal.τ).loc Cert.BinRefIdeal.main_arg3)
      ∧ r.2.mem ((c.tc : Thread Cert.BinRefIdeal.nD Cert.BinRefIdeal.τ).loc Cert.BinRefIdeal.main_arg4) = m ((c.tc : Thread Cert.BinRefIdeal.nD Cert.BinRefIdeal.τ).loc Cert.BinRefIdeal.main_arg4)
      ∧ r.2.mem ((c.tc : Thread Cert.BinRefIdeal.nD Cert.BinRefIdeal.τ).loc Cert.BinRefIdeal.main_arg5) = m ((c.tc : Thread Cert.BinRefIdeal.nD Cert.BinRefIdeal.τ).loc Cert.BinRefIdeal.main_arg5))
      ∧ r.2.sem = fun _ => 0)

def quiescent_Slot [hSlot : Cert.Slot.Facts] : Prop :=
  ∀ (m : (ℓ : Loc Cert.Slot.nD Cert.Slot.τ Cert.Slot.sig) → Buf (Elt Bits) ℓ) (g : Dev Cert.Slot.nD → PrngReg), Pre_Slot m →
    θ_run (Cert.Slot.defs (F := Bits)) (onTc (τ := Cert.Slot.τ) (Cert.Slot.main (F := Bits))) ⟨m, fun _ => 0, g⟩ (fun r => (∀ c : Dev Cert.Slot.nD,
      r.2.mem ((c.tc : Thread Cert.Slot.nD Cert.Slot.τ).loc Cert.Slot.main_arg0) = m ((c.tc : Thread Cert.Slot.nD Cert.Slot.τ).loc Cert.Slot.main_arg0)
      ∧ r.2.mem ((c.tc : Thread Cert.Slot.nD Cert.Slot.τ).loc Cert.Slot.main_arg1) = m ((c.tc : Thread Cert.Slot.nD Cert.Slot.τ).loc Cert.Slot.main_arg1))
      ∧ r.2.sem = fun _ => 0)

def quiescent_SlotIdeal [hSlotIdeal : Cert.SlotIdeal.Facts] : Prop :=
  ∀ (m : (ℓ : Loc Cert.SlotIdeal.nD Cert.SlotIdeal.τ Cert.SlotIdeal.sig) → Buf (Elt Ideal) ℓ) (g : Dev Cert.SlotIdeal.nD → PrngReg), Pre_SlotIdeal m →
    θ_run (Cert.SlotIdeal.defs (F := Ideal)) (onTc (τ := Cert.SlotIdeal.τ) (Cert.SlotIdeal.main (F := Ideal))) ⟨m, fun _ => 0, g⟩ (fun r => (∀ c : Dev Cert.SlotIdeal.nD,
      r.2.mem ((c.tc : Thread Cert.SlotIdeal.nD Cert.SlotIdeal.τ).loc Cert.SlotIdeal.main_arg0) = m ((c.tc : Thread Cert.SlotIdeal.nD Cert.SlotIdeal.τ).loc Cert.SlotIdeal.main_arg0)
      ∧ r.2.mem ((c.tc : Thread Cert.SlotIdeal.nD Cert.SlotIdeal.τ).loc Cert.SlotIdeal.main_arg1) = m ((c.tc : Thread Cert.SlotIdeal.nD Cert.SlotIdeal.τ).loc Cert.SlotIdeal.main_arg1))
      ∧ r.2.sem = fun _ => 0)

def quiescent_SlotRefIdeal [hSlotRefIdeal : Cert.SlotRefIdeal.Facts] : Prop :=
  ∀ (m : (ℓ : Loc Cert.SlotRefIdeal.nD Cert.SlotRefIdeal.τ Cert.SlotRefIdeal.sig) → Buf (Elt Ideal) ℓ) (g : Dev Cert.SlotRefIdeal.nD → PrngReg), Pre_SlotRefIdeal m →
    θ_run (Cert.SlotRefIdeal.defs (F := Ideal)) (onTc (τ := Cert.SlotRefIdeal.τ) (Cert.SlotRefIdeal.main (F := Ideal))) ⟨m, fun _ => 0, g⟩ (fun r => (∀ c : Dev Cert.SlotRefIdeal.nD,
      r.2.mem ((c.tc : Thread Cert.SlotRefIdeal.nD Cert.SlotRefIdeal.τ).loc Cert.SlotRefIdeal.main_arg0) = m ((c.tc : Thread Cert.SlotRefIdeal.nD Cert.SlotRefIdeal.τ).loc Cert.SlotRefIdeal.main_arg0)
      ∧ r.2.mem ((c.tc : Thread Cert.SlotRefIdeal.nD Cert.SlotRefIdeal.τ).loc Cert.SlotRefIdeal.main_arg1) = m ((c.tc : Thread Cert.SlotRefIdeal.nD Cert.SlotRefIdeal.τ).loc Cert.SlotRefIdeal.main_arg1))
      ∧ r.2.sem = fun _ => 0)

def quiescent_Slotw [hSlotw : Cert.Slotw.Facts] : Prop :=
  ∀ (m : (ℓ : Loc Cert.Slotw.nD Cert.Slotw.τ Cert.Slotw.sig) → Buf (Elt Bits) ℓ) (g : Dev Cert.Slotw.nD → PrngReg), Pre_Slotw m →
    θ_run (Cert.Slotw.defs (F := Bits)) (onTc (τ := Cert.Slotw.τ) (Cert.Slotw.main (F := Bits))) ⟨m, fun _ => 0, g⟩ (fun r => (∀ c : Dev Cert.Slotw.nD,
      r.2.mem ((c.tc : Thread Cert.Slotw.nD Cert.Slotw.τ).loc Cert.Slotw.main_arg0) = m ((c.tc : Thread Cert.Slotw.nD Cert.Slotw.τ).loc Cert.Slotw.main_arg0)
      ∧ r.2.mem ((c.tc : Thread Cert.Slotw.nD Cert.Slotw.τ).loc Cert.Slotw.main_arg1) = m ((c.tc : Thread Cert.Slotw.nD Cert.Slotw.τ).loc Cert.Slotw.main_arg1))
      ∧ r.2.sem = fun _ => 0)

def quiescent_SlotwIdeal [hSlotwIdeal : Cert.SlotwIdeal.Facts] : Prop :=
  ∀ (m : (ℓ : Loc Cert.SlotwIdeal.nD Cert.SlotwIdeal.τ Cert.SlotwIdeal.sig) → Buf (Elt Ideal) ℓ) (g : Dev Cert.SlotwIdeal.nD → PrngReg), Pre_SlotwIdeal m →
    θ_run (Cert.SlotwIdeal.defs (F := Ideal)) (onTc (τ := Cert.SlotwIdeal.τ) (Cert.SlotwIdeal.main (F := Ideal))) ⟨m, fun _ => 0, g⟩ (fun r => (∀ c : Dev Cert.SlotwIdeal.nD,
      r.2.mem ((c.tc : Thread Cert.SlotwIdeal.nD Cert.SlotwIdeal.τ).loc Cert.SlotwIdeal.main_arg0) = m ((c.tc : Thread Cert.SlotwIdeal.nD Cert.SlotwIdeal.τ).loc Cert.SlotwIdeal.main_arg0)
      ∧ r.2.mem ((c.tc : Thread Cert.SlotwIdeal.nD Cert.SlotwIdeal.τ).loc Cert.SlotwIdeal.main_arg1) = m ((c.tc : Thread Cert.SlotwIdeal.nD Cert.SlotwIdeal.τ).loc Cert.SlotwIdeal.main_arg1))
      ∧ r.2.sem = fun _ => 0)

def quiescent_SlotwRefIdeal [hSlotwRefIdeal : Cert.SlotwRefIdeal.Facts] : Prop :=
  ∀ (m : (ℓ : Loc Cert.SlotwRefIdeal.nD Cert.SlotwRefIdeal.τ Cert.SlotwRefIdeal.sig) → Buf (Elt Ideal) ℓ) (g : Dev Cert.SlotwRefIdeal.nD → PrngReg), Pre_SlotwRefIdeal m →
    θ_run (Cert.SlotwRefIdeal.defs (F := Ideal)) (onTc (τ := Cert.SlotwRefIdeal.τ) (Cert.SlotwRefIdeal.main (F := Ideal))) ⟨m, fun _ => 0, g⟩ (fun r => (∀ c : Dev Cert.SlotwRefIdeal.nD,
      r.2.mem ((c.tc : Thread Cert.SlotwRefIdeal.nD Cert.SlotwRefIdeal.τ).loc Cert.SlotwRefIdeal.main_arg0) = m ((c.tc : Thread Cert.SlotwRefIdeal.nD Cert.SlotwRefIdeal.τ).loc Cert.SlotwRefIdeal.main_arg0)
      ∧ r.2.mem ((c.tc : Thread Cert.SlotwRefIdeal.nD Cert.SlotwRefIdeal.τ).loc Cert.SlotwRefIdeal.main_arg1) = m ((c.tc : Thread Cert.SlotwRefIdeal.nD Cert.SlotwRefIdeal.τ).loc Cert.SlotwRefIdeal.main_arg1))
      ∧ r.2.sem = fun _ => 0)

def quiescent_Slotb [hSlotb : Cert.Slotb.Facts] : Prop :=
  ∀ (m : (ℓ : Loc Cert.Slotb.nD Cert.Slotb.τ Cert.Slotb.sig) → Buf (Elt Bits) ℓ) (g : Dev Cert.Slotb.nD → PrngReg), Pre_Slotb m →
    θ_run (Cert.Slotb.defs (F := Bits)) (onTc (τ := Cert.Slotb.τ) (Cert.Slotb.main (F := Bits))) ⟨m, fun _ => 0, g⟩ (fun r => (∀ c : Dev Cert.Slotb.nD,
      r.2.mem ((c.tc : Thread Cert.Slotb.nD Cert.Slotb.τ).loc Cert.Slotb.main_arg0) = m ((c.tc : Thread Cert.Slotb.nD Cert.Slotb.τ).loc Cert.Slotb.main_arg0)
      ∧ r.2.mem ((c.tc : Thread Cert.Slotb.nD Cert.Slotb.τ).loc Cert.Slotb.main_arg1) = m ((c.tc : Thread Cert.Slotb.nD Cert.Slotb.τ).loc Cert.Slotb.main_arg1)
      ∧ r.2.mem ((c.tc : Thread Cert.Slotb.nD Cert.Slotb.τ).loc Cert.Slotb.main_arg2) = m ((c.tc : Thread Cert.Slotb.nD Cert.Slotb.τ).loc Cert.Slotb.main_arg2))
      ∧ r.2.sem = fun _ => 0)

def quiescent_SlotbIdeal [hSlotbIdeal : Cert.SlotbIdeal.Facts] : Prop :=
  ∀ (m : (ℓ : Loc Cert.SlotbIdeal.nD Cert.SlotbIdeal.τ Cert.SlotbIdeal.sig) → Buf (Elt Ideal) ℓ) (g : Dev Cert.SlotbIdeal.nD → PrngReg), Pre_SlotbIdeal m →
    θ_run (Cert.SlotbIdeal.defs (F := Ideal)) (onTc (τ := Cert.SlotbIdeal.τ) (Cert.SlotbIdeal.main (F := Ideal))) ⟨m, fun _ => 0, g⟩ (fun r => (∀ c : Dev Cert.SlotbIdeal.nD,
      r.2.mem ((c.tc : Thread Cert.SlotbIdeal.nD Cert.SlotbIdeal.τ).loc Cert.SlotbIdeal.main_arg0) = m ((c.tc : Thread Cert.SlotbIdeal.nD Cert.SlotbIdeal.τ).loc Cert.SlotbIdeal.main_arg0)
      ∧ r.2.mem ((c.tc : Thread Cert.SlotbIdeal.nD Cert.SlotbIdeal.τ).loc Cert.SlotbIdeal.main_arg1) = m ((c.tc : Thread Cert.SlotbIdeal.nD Cert.SlotbIdeal.τ).loc Cert.SlotbIdeal.main_arg1)
      ∧ r.2.mem ((c.tc : Thread Cert.SlotbIdeal.nD Cert.SlotbIdeal.τ).loc Cert.SlotbIdeal.main_arg2) = m ((c.tc : Thread Cert.SlotbIdeal.nD Cert.SlotbIdeal.τ).loc Cert.SlotbIdeal.main_arg2))
      ∧ r.2.sem = fun _ => 0)

def quiescent_SlotbRefIdeal [hSlotbRefIdeal : Cert.SlotbRefIdeal.Facts] : Prop :=
  ∀ (m : (ℓ : Loc Cert.SlotbRefIdeal.nD Cert.SlotbRefIdeal.τ Cert.SlotbRefIdeal.sig) → Buf (Elt Ideal) ℓ) (g : Dev Cert.SlotbRefIdeal.nD → PrngReg), Pre_SlotbRefIdeal m →
    θ_run (Cert.SlotbRefIdeal.defs (F := Ideal)) (onTc (τ := Cert.SlotbRefIdeal.τ) (Cert.SlotbRefIdeal.main (F := Ideal))) ⟨m, fun _ => 0, g⟩ (fun r => (∀ c : Dev Cert.SlotbRefIdeal.nD,
      r.2.mem ((c.tc : Thread Cert.SlotbRefIdeal.nD Cert.SlotbRefIdeal.τ).loc Cert.SlotbRefIdeal.main_arg0) = m ((c.tc : Thread Cert.SlotbRefIdeal.nD Cert.SlotbRefIdeal.τ).loc Cert.SlotbRefIdeal.main_arg0)
      ∧ r.2.mem ((c.tc : Thread Cert.SlotbRefIdeal.nD Cert.SlotbRefIdeal.τ).loc Cert.SlotbRefIdeal.main_arg1) = m ((c.tc : Thread Cert.SlotbRefIdeal.nD Cert.SlotbRefIdeal.τ).loc Cert.SlotbRefIdeal.main_arg1)
      ∧ r.2.mem ((c.tc : Thread Cert.SlotbRefIdeal.nD Cert.SlotbRefIdeal.τ).loc Cert.SlotbRefIdeal.main_arg2) = m ((c.tc : Thread Cert.SlotbRefIdeal.nD Cert.SlotbRefIdeal.τ).loc Cert.SlotbRefIdeal.main_arg2))
      ∧ r.2.sem = fun _ => 0)

def preserves_Gmlp_GmlpIdeal : Prop :=
  IdealRules.named_const.Statement Cert.GmlpIdeal.κ "cubic" .f32 0x3D372713#32 ((8943 / 200000 : ℝ) : EReal)
  ∧ IdealRules.named_const.Statement Cert.GmlpIdeal.κ "cubic3" .f32 0x3E095D4F#32 ((26829 / 200000 : ℝ) : EReal)

def preserves_Mem_MemIdeal : Prop :=
  True

def preserves_Down_DownIdeal : Prop :=
  True

def preserves_Pair_PairIdeal : Prop :=
  True

def preserves_Up_UpIdeal : Prop :=
  True

def preserves_Gate_GateIdeal : Prop :=
  True

def preserves_Join_JoinIdeal : Prop :=
  True

def preserves_Proj_ProjIdeal : Prop :=
  True

def preserves_Blend_BlendIdeal : Prop :=
  True

def preserves_Dout_DoutIdeal : Prop :=
  True

def preserves_Outtok_OuttokIdeal : Prop :=
  True

def preserves_Outmem_OutmemIdeal : Prop :=
  True

def preserves_Intok_IntokIdeal : Prop :=
  True

def preserves_Inmem_InmemIdeal : Prop :=
  True

def preserves_Din_DinIdeal : Prop :=
  True

def preserves_Gated_GatedIdeal : Prop :=
  True

def preserves_Recall_RecallIdeal : Prop :=
  True

def preserves_Kv_KvIdeal : Prop :=
  True

def preserves_Kin_KinIdeal : Prop :=
  True

def preserves_Btok_BtokIdeal : Prop :=
  True

def preserves_Bproj_BprojIdeal : Prop :=
  True

def preserves_Bin_BinIdeal : Prop :=
  True

def preserves_Slot_SlotIdeal : Prop :=
  True

def preserves_Slotw_SlotwIdeal : Prop :=
  True

def preserves_Slotb_SlotbIdeal : Prop :=
  True

def algebraic_GmlpIdeal_GmlpRefIdeal_pre_finite_gmlp [hGmlpIdeal : Cert.GmlpIdeal.Facts] [hGmlpRefIdeal : Cert.GmlpRefIdeal.Facts] [hPre_finite_gmlp : Cert.Pre_finite_gmlp.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal_finite_gmlp m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v3_0)) (v1 : (c : Dev Cert.GmlpIdeal.nD) → Buf (Elt Ideal) ((c.tc : Thread Cert.GmlpIdeal.nD Cert.GmlpIdeal.τ).loc Cert.GmlpIdeal.main_v3_1)) (v2 : (c : Dev Cert.GmlpIdeal.nD) → Buf (Elt Ideal) ((c.tc : Thread Cert.GmlpIdeal.nD Cert.GmlpIdeal.τ).loc Cert.GmlpIdeal.main_v3_2)) (v3 : (c : Dev Cert.GmlpIdeal.nD) → Buf (Elt Ideal) ((c.tc : Thread Cert.GmlpIdeal.nD Cert.GmlpIdeal.τ).loc Cert.GmlpIdeal.main_v3_3)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v3_0) = v0 c
          ∧ r.2.mem ((c.tc : Thread Cert.GmlpIdeal.nD Cert.GmlpIdeal.τ).loc Cert.GmlpIdeal.main_v3_1) = v1 c
          ∧ r.2.mem ((c.tc : Thread Cert.GmlpIdeal.nD Cert.GmlpIdeal.τ).loc Cert.GmlpIdeal.main_v3_2) = v2 c
          ∧ r.2.mem ((c.tc : Thread Cert.GmlpIdeal.nD Cert.GmlpIdeal.τ).loc Cert.GmlpIdeal.main_v3_3) = v3 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v112) = v0 c
          ∧ r.2.mem ((c.tc : Thread Cert.GmlpRefIdeal.nD Cert.GmlpRefIdeal.τ).loc Cert.GmlpRefIdeal.main_v73) = v1 c
          ∧ r.2.mem ((c.tc : Thread Cert.GmlpRefIdeal.nD Cert.GmlpRefIdeal.τ).loc Cert.GmlpRefIdeal.main_v114) = v2 c
          ∧ r.2.mem ((c.tc : Thread Cert.GmlpRefIdeal.nD Cert.GmlpRefIdeal.τ).loc Cert.GmlpRefIdeal.main_v115) = v3 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def algebraic_MemIdeal_MemReferIdeal_pre_finite_mem [hMemIdeal : Cert.MemIdeal.Facts] [hMemReferIdeal : Cert.MemReferIdeal.Facts] [hPre_finite_mem : Cert.Pre_finite_mem.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferIdeal.nD Cert.MemReferIdeal.τ Cert.MemReferIdeal.sig) → Buf (Elt Ideal) ℓ) (g' : Dev Cert.MemReferIdeal.nD → PrngReg), Pre_MemIdeal_finite_mem m →
    (∀ c : Dev Cert.MemIdeal.nD,
      m' ((c.tc : Thread Cert.MemReferIdeal.nD Cert.MemReferIdeal.τ).loc Cert.MemReferIdeal.main_arg0) = m ((c.tc : Thread Cert.MemIdeal.nD Cert.MemIdeal.τ).loc Cert.MemIdeal.main_arg0)
      ∧ m' ((c.tc : Thread Cert.MemReferIdeal.nD Cert.MemReferIdeal.τ).loc Cert.MemReferIdeal.main_arg1) = m ((c.tc : Thread Cert.MemIdeal.nD Cert.MemIdeal.τ).loc Cert.MemIdeal.main_arg1)
      ∧ m' ((c.tc : Thread Cert.MemReferIdeal.nD Cert.MemReferIdeal.τ).loc Cert.MemReferIdeal.main_arg2) = m ((c.tc : Thread Cert.MemIdeal.nD Cert.MemIdeal.τ).loc Cert.MemIdeal.main_arg2)) →
    ∃ (v0 : (c : Dev Cert.MemIdeal.nD) → Buf (Elt Ideal) ((c.tc : Thread Cert.MemIdeal.nD Cert.MemIdeal.τ).loc Cert.MemIdeal.main_v0_0)) (v1 : (c : Dev Cert.MemIdeal.nD) → Buf (Elt Ideal) ((c.tc : Thread Cert.MemIdeal.nD Cert.MemIdeal.τ).loc Cert.MemIdeal.main_v0_1)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v0_0) = v0 c
          ∧ r.2.mem ((c.tc : Thread Cert.MemIdeal.nD Cert.MemIdeal.τ).loc Cert.MemIdeal.main_v0_1) = v1 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ θ_run (Cert.MemReferIdeal.defs (F := Ideal)) (onTc (τ := Cert.MemReferIdeal.τ) (Cert.MemReferIdeal.main (F := Ideal))) ⟨m', fun _ => 0, g'⟩ (fun r => ∀ c : Dev Cert.MemReferIdeal.nD,
          r.2.mem ((c.tc : Thread Cert.MemReferIdeal.nD Cert.MemReferIdeal.τ).loc Cert.MemReferIdeal.main_v68) = v0 c
          ∧ r.2.mem ((c.tc : Thread Cert.MemReferIdeal.nD Cert.MemReferIdeal.τ).loc Cert.MemReferIdeal.main_v67) = v1 c
          ∧ r.2.mem ((c.tc : Thread Cert.MemReferIdeal.nD Cert.MemReferIdeal.τ).loc Cert.MemReferIdeal.main_arg0) = m' ((c.tc : Thread Cert.MemReferIdeal.nD Cert.MemReferIdeal.τ).loc Cert.MemReferIdeal.main_arg0)
          ∧ r.2.mem ((c.tc : Thread Cert.MemReferIdeal.nD Cert.MemReferIdeal.τ).loc Cert.MemReferIdeal.main_arg1) = m' ((c.tc : Thread Cert.MemReferIdeal.nD Cert.MemReferIdeal.τ).loc Cert.MemReferIdeal.main_arg1)
          ∧ r.2.mem ((c.tc : Thread Cert.MemReferIdeal.nD Cert.MemReferIdeal.τ).loc Cert.MemReferIdeal.main_arg2) = m' ((c.tc : Thread Cert.MemReferIdeal.nD Cert.MemReferIdeal.τ).loc Cert.MemReferIdeal.main_arg2))

def algebraic_DownIdeal_DownRefIdeal_pre_finite_down [hDownIdeal : Cert.DownIdeal.Facts] [hDownRefIdeal : Cert.DownRefIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_finite_down m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v5_0)) (v1 : (c : Dev Cert.DownIdeal.nD) → Buf (Elt Ideal) ((c.tc : Thread Cert.DownIdeal.nD Cert.DownIdeal.τ).loc Cert.DownIdeal.main_v5_1)) (v2 : (c : Dev Cert.DownIdeal.nD) → Buf (Elt Ideal) ((c.tc : Thread Cert.DownIdeal.nD Cert.DownIdeal.τ).loc Cert.DownIdeal.main_v5_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5_0) = v0 c
          ∧ r.2.mem ((c.tc : Thread Cert.DownIdeal.nD Cert.DownIdeal.τ).loc Cert.DownIdeal.main_v5_1) = v1 c
          ∧ r.2.mem ((c.tc : Thread Cert.DownIdeal.nD Cert.DownIdeal.τ).loc Cert.DownIdeal.main_v5_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v17) = v0 c
          ∧ r.2.mem ((c.tc : Thread Cert.DownRefIdeal.nD Cert.DownRefIdeal.τ).loc Cert.DownRefIdeal.main_v18) = v1 c
          ∧ r.2.mem ((c.tc : Thread Cert.DownRefIdeal.nD Cert.DownRefIdeal.τ).loc Cert.DownRefIdeal.main_v12) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m' ((c.tc : Thread Cert.PairRefIdeal.nD Cert.PairRefIdeal.τ).loc Cert.PairRefIdeal.main_arg0) = m ((c.tc : Thread Cert.PairIdeal.nD Cert.PairIdeal.τ).loc Cert.PairIdeal.main_arg0)
      ∧ m' ((c.tc : Thread Cert.PairRefIdeal.nD Cert.PairRefIdeal.τ).loc Cert.PairRefIdeal.main_arg1) = m ((c.tc : Thread Cert.PairIdeal.nD Cert.PairIdeal.τ).loc Cert.PairIdeal.main_arg1)
      ∧ m' ((c.tc : Thread Cert.PairRefIdeal.nD Cert.PairRefIdeal.τ).loc Cert.PairRefIdeal.main_arg2) = m ((c.tc : Thread Cert.PairIdeal.nD Cert.PairIdeal.τ).loc Cert.PairIdeal.main_arg2)) →
    ∃ (v0 : (c : Dev Cert.PairIdeal.nD) → Buf (Elt Ideal) ((c.tc : Thread Cert.PairIdeal.nD Cert.PairIdeal.τ).loc Cert.PairIdeal.main_v0_0)) (v1 : (c : Dev Cert.PairIdeal.nD) → Buf (Elt Ideal) ((c.tc : Thread Cert.PairIdeal.nD Cert.PairIdeal.τ).loc Cert.PairIdeal.main_v0_1)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v0_0) = v0 c
          ∧ r.2.mem ((c.tc : Thread Cert.PairIdeal.nD Cert.PairIdeal.τ).loc Cert.PairIdeal.main_v0_1) = v1 c
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0)
          ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
          ∧ r.2.mem ((c.tc : Thread Cert.PairIdeal.nD Cert.PairIdeal.τ).loc Cert.PairIdeal.main_arg2) = m ((c.tc : Thread Cert.PairIdeal.nD Cert.PairIdeal.τ).loc Cert.PairIdeal.main_arg2))
      ∧ θ_run (Cert.PairRefIdeal.defs (F := Ideal)) (onTc (τ := Cert.PairRefIdeal.τ) (Cert.PairRefIdeal.main (F := Ideal))) ⟨m', fun _ => 0, g'⟩ (fun r => ∀ c : Dev Cert.PairRefIdeal.nD,
          r.2.mem ((c.tc : Thread Cert.PairRefIdeal.nD Cert.PairRefIdeal.τ).loc Cert.PairRefIdeal.main_v10) = v0 c
          ∧ r.2.mem ((c.tc : Thread Cert.PairRefIdeal.nD Cert.PairRefIdeal.τ).loc Cert.PairRefIdeal.main_v8) = v1 c
          ∧ r.2.mem ((c.tc : Thread Cert.PairRefIdeal.nD Cert.PairRefIdeal.τ).loc Cert.PairRefIdeal.main_arg0) = m' ((c.tc : Thread Cert.PairRefIdeal.nD Cert.PairRefIdeal.τ).loc Cert.PairRefIdeal.main_arg0)
          ∧ r.2.mem ((c.tc : Thread Cert.PairRefIdeal.nD Cert.PairRefIdeal.τ).loc Cert.PairRefIdeal.main_arg1) = m' ((c.tc : Thread Cert.PairRefIdeal.nD Cert.PairRefIdeal.τ).loc Cert.PairRefIdeal.main_arg1)
          ∧ r.2.mem ((c.tc : Thread Cert.PairRefIdeal.nD Cert.PairRefIdeal.τ).loc Cert.PairRefIdeal.main_arg2) = m' ((c.tc : Thread Cert.PairRefIdeal.nD Cert.PairRefIdeal.τ).loc Cert.PairRefIdeal.main_arg2))

def algebraic_UpIdeal_UpRefIdeal_pre_finite_up [hUpIdeal : Cert.UpIdeal.Facts] [hUpRefIdeal : Cert.UpRefIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_finite_up m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)) (v2 : (c : Dev Cert.UpIdeal.nD) → Buf (Elt Ideal) ((c.tc : Thread Cert.UpIdeal.nD Cert.UpIdeal.τ).loc Cert.UpIdeal.main_v1_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_v1_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v45) = v0 c
          ∧ r.2.mem ((c.tc : Thread Cert.UpRefIdeal.nD Cert.UpRefIdeal.τ).loc Cert.UpRefIdeal.main_v46) = v1 c
          ∧ r.2.mem ((c.tc : Thread Cert.UpRefIdeal.nD Cert.UpRefIdeal.τ).loc Cert.UpRefIdeal.main_v47) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6))

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v5) = v0 c
          ∧ r.2.mem ((c.tc : Thread Cert.GateRefIdeal.nD Cert.GateRefIdeal.τ).loc Cert.GateRefIdeal.main_v6) = v1 c
          ∧ r.2.mem ((c.tc : Thread Cert.GateRefIdeal.nD Cert.GateRefIdeal.τ).loc Cert.GateRefIdeal.main_v9) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m' ((c.tc : Thread Cert.JoinRefIdeal.nD Cert.JoinRefIdeal.τ).loc Cert.JoinRefIdeal.main_arg0) = m ((c.tc : Thread Cert.JoinIdeal.nD Cert.JoinIdeal.τ).loc Cert.JoinIdeal.main_arg0)
      ∧ m' ((c.tc : Thread Cert.JoinRefIdeal.nD Cert.JoinRefIdeal.τ).loc Cert.JoinRefIdeal.main_arg1) = m ((c.tc : Thread Cert.JoinIdeal.nD Cert.JoinIdeal.τ).loc Cert.JoinIdeal.main_arg1)
      ∧ m' ((c.tc : Thread Cert.JoinRefIdeal.nD Cert.JoinRefIdeal.τ).loc Cert.JoinRefIdeal.main_arg2) = m ((c.tc : Thread Cert.JoinIdeal.nD Cert.JoinIdeal.τ).loc Cert.JoinIdeal.main_arg2)
      ∧ m' ((c.tc : Thread Cert.JoinRefIdeal.nD Cert.JoinRefIdeal.τ).loc Cert.JoinRefIdeal.main_arg3) = m ((c.tc : Thread Cert.JoinIdeal.nD Cert.JoinIdeal.τ).loc Cert.JoinIdeal.main_arg3)) →
    ∃ (v0 : (c : Dev Cert.JoinIdeal.nD) → Buf (Elt Ideal) ((c.tc : Thread Cert.JoinIdeal.nD Cert.JoinIdeal.τ).loc Cert.JoinIdeal.main_v1_0)) (v1 : (c : Dev Cert.JoinIdeal.nD) → Buf (Elt Ideal) ((c.tc : Thread Cert.JoinIdeal.nD Cert.JoinIdeal.τ).loc Cert.JoinIdeal.main_v1_1)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v1_0) = v0 c
          ∧ r.2.mem ((c.tc : Thread Cert.JoinIdeal.nD Cert.JoinIdeal.τ).loc Cert.JoinIdeal.main_v1_1) = v1 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3))
      ∧ θ_run (Cert.JoinRefIdeal.defs (F := Ideal)) (onTc (τ := Cert.JoinRefIdeal.τ) (Cert.JoinRefIdeal.main (F := Ideal))) ⟨m', fun _ => 0, g'⟩ (fun r => ∀ c : Dev Cert.JoinRefIdeal.nD,
          r.2.mem ((c.tc : Thread Cert.JoinRefIdeal.nD Cert.JoinRefIdeal.τ).loc Cert.JoinRefIdeal.main_v5) = v0 c
          ∧ r.2.mem ((c.tc : Thread Cert.JoinRefIdeal.nD Cert.JoinRefIdeal.τ).loc Cert.JoinRefIdeal.main_v19) = v1 c
          ∧ r.2.mem ((c.tc : Thread Cert.JoinRefIdeal.nD Cert.JoinRefIdeal.τ).loc Cert.JoinRefIdeal.main_arg0) = m' ((c.tc : Thread Cert.JoinRefIdeal.nD Cert.JoinRefIdeal.τ).loc Cert.JoinRefIdeal.main_arg0)
          ∧ r.2.mem ((c.tc : Thread Cert.JoinRefIdeal.nD Cert.JoinRefIdeal.τ).loc Cert.JoinRefIdeal.main_arg1) = m' ((c.tc : Thread Cert.JoinRefIdeal.nD Cert.JoinRefIdeal.τ).loc Cert.JoinRefIdeal.main_arg1)
          ∧ r.2.mem ((c.tc : Thread Cert.JoinRefIdeal.nD Cert.JoinRefIdeal.τ).loc Cert.JoinRefIdeal.main_arg2) = m' ((c.tc : Thread Cert.JoinRefIdeal.nD Cert.JoinRefIdeal.τ).loc Cert.JoinRefIdeal.main_arg2)
          ∧ r.2.mem ((c.tc : Thread Cert.JoinRefIdeal.nD Cert.JoinRefIdeal.τ).loc Cert.JoinRefIdeal.main_arg3) = m' ((c.tc : Thread Cert.JoinRefIdeal.nD Cert.JoinRefIdeal.τ).loc Cert.JoinRefIdeal.main_arg3))

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def algebraic_BlendIdeal_BlendRefIdeal [hBlendIdeal : Cert.BlendIdeal.Facts] [hBlendRefIdeal : Cert.BlendRefIdeal.Facts] : Prop :=
  ∀ (m : (ℓ : Loc Cert.BlendIdeal.nD Cert.BlendIdeal.τ Cert.BlendIdeal.sig) → Buf (Elt Ideal) ℓ) (g : Dev Cert.BlendIdeal.nD → PrngReg)
    (m' : (ℓ : Loc Cert.BlendRefIdeal.nD Cert.BlendRefIdeal.τ Cert.BlendRefIdeal.sig) → Buf (Elt Ideal) ℓ) (g' : Dev Cert.BlendRefIdeal.nD → PrngReg), Pre_BlendIdeal m →
    (∀ c : Dev Cert.BlendIdeal.nD,
      m' ((c.tc : Thread Cert.BlendRefIdeal.nD Cert.BlendRefIdeal.τ).loc Cert.BlendRefIdeal.main_arg0) = m ((c.tc : Thread Cert.BlendIdeal.nD Cert.BlendIdeal.τ).loc Cert.BlendIdeal.main_arg0)
      ∧ m' ((c.tc : Thread Cert.BlendRefIdeal.nD Cert.BlendRefIdeal.τ).loc Cert.BlendRefIdeal.main_arg1) = m ((c.tc : Thread Cert.BlendIdeal.nD Cert.BlendIdeal.τ).loc Cert.BlendIdeal.main_arg1)
      ∧ m' ((c.tc : Thread Cert.BlendRefIdeal.nD Cert.BlendRefIdeal.τ).loc Cert.BlendRefIdeal.main_arg2) = m ((c.tc : Thread Cert.BlendIdeal.nD Cert.BlendIdeal.τ).loc Cert.BlendIdeal.main_arg2)
      ∧ m' ((c.tc : Thread Cert.BlendRefIdeal.nD Cert.BlendRefIdeal.τ).loc Cert.BlendRefIdeal.main_arg3) = m ((c.tc : Thread Cert.BlendIdeal.nD Cert.BlendIdeal.τ).loc Cert.BlendIdeal.main_arg3)
      ∧ m' ((c.tc : Thread Cert.BlendRefIdeal.nD Cert.BlendRefIdeal.τ).loc Cert.BlendRefIdeal.main_arg4) = m ((c.tc : Thread Cert.BlendIdeal.nD Cert.BlendIdeal.τ).loc Cert.BlendIdeal.main_arg4)) →
    ∃ (v0 : (c : Dev Cert.BlendIdeal.nD) → Buf (Elt Ideal) ((c.tc : Thread Cert.BlendIdeal.nD Cert.BlendIdeal.τ).loc Cert.BlendIdeal.main_v1_0)) (v1 : (c : Dev Cert.BlendIdeal.nD) → Buf (Elt Ideal) ((c.tc : Thread Cert.BlendIdeal.nD Cert.BlendIdeal.τ).loc Cert.BlendIdeal.main_v1_1)),
      θ_run (Cert.BlendIdeal.defs (F := Ideal)) (onTc (τ := Cert.BlendIdeal.τ) (Cert.BlendIdeal.main (F := Ideal))) ⟨m, fun _ => 0, g⟩ (fun r => ∀ c : Dev Cert.BlendIdeal.nD,
          r.2.mem ((c.tc : Thread Cert.BlendIdeal.nD Cert.BlendIdeal.τ).loc Cert.BlendIdeal.main_v1_0) = v0 c
          ∧ r.2.mem ((c.tc : Thread Cert.BlendIdeal.nD Cert.BlendIdeal.τ).loc Cert.BlendIdeal.main_v1_1) = v1 c
          ∧ r.2.mem ((c.tc : Thread Cert.BlendIdeal.nD Cert.BlendIdeal.τ).loc Cert.BlendIdeal.main_arg0) = m ((c.tc : Thread Cert.BlendIdeal.nD Cert.BlendIdeal.τ).loc Cert.BlendIdeal.main_arg0)
          ∧ r.2.mem ((c.tc : Thread Cert.BlendIdeal.nD Cert.BlendIdeal.τ).loc Cert.BlendIdeal.main_arg1) = m ((c.tc : Thread Cert.BlendIdeal.nD Cert.BlendIdeal.τ).loc Cert.BlendIdeal.main_arg1)
          ∧ r.2.mem ((c.tc : Thread Cert.BlendIdeal.nD Cert.BlendIdeal.τ).loc Cert.BlendIdeal.main_arg2) = m ((c.tc : Thread Cert.BlendIdeal.nD Cert.BlendIdeal.τ).loc Cert.BlendIdeal.main_arg2)
          ∧ r.2.mem ((c.tc : Thread Cert.BlendIdeal.nD Cert.BlendIdeal.τ).loc Cert.BlendIdeal.main_arg3) = m ((c.tc : Thread Cert.BlendIdeal.nD Cert.BlendIdeal.τ).loc Cert.BlendIdeal.main_arg3)
          ∧ r.2.mem ((c.tc : Thread Cert.BlendIdeal.nD Cert.BlendIdeal.τ).loc Cert.BlendIdeal.main_arg4) = m ((c.tc : Thread Cert.BlendIdeal.nD Cert.BlendIdeal.τ).loc Cert.BlendIdeal.main_arg4))
      ∧ θ_run (Cert.BlendRefIdeal.defs (F := Ideal)) (onTc (τ := Cert.BlendRefIdeal.τ) (Cert.BlendRefIdeal.main (F := Ideal))) ⟨m', fun _ => 0, g'⟩ (fun r => ∀ c : Dev Cert.BlendRefIdeal.nD,
          r.2.mem ((c.tc : Thread Cert.BlendRefIdeal.nD Cert.BlendRefIdeal.τ).loc Cert.BlendRefIdeal.main_v6) = v0 c
          ∧ r.2.mem ((c.tc : Thread Cert.BlendRefIdeal.nD Cert.BlendRefIdeal.τ).loc Cert.BlendRefIdeal.main_v20) = v1 c
          ∧ r.2.mem ((c.tc : Thread Cert.BlendRefIdeal.nD Cert.BlendRefIdeal.τ).loc Cert.BlendRefIdeal.main_arg0) = m' ((c.tc : Thread Cert.BlendRefIdeal.nD Cert.BlendRefIdeal.τ).loc Cert.BlendRefIdeal.main_arg0)
          ∧ r.2.mem ((c.tc : Thread Cert.BlendRefIdeal.nD Cert.BlendRefIdeal.τ).loc Cert.BlendRefIdeal.main_arg1) = m' ((c.tc : Thread Cert.BlendRefIdeal.nD Cert.BlendRefIdeal.τ).loc Cert.BlendRefIdeal.main_arg1)
          ∧ r.2.mem ((c.tc : Thread Cert.BlendRefIdeal.nD Cert.BlendRefIdeal.τ).loc Cert.BlendRefIdeal.main_arg2) = m' ((c.tc : Thread Cert.BlendRefIdeal.nD Cert.BlendRefIdeal.τ).loc Cert.BlendRefIdeal.main_arg2)
          ∧ r.2.mem ((c.tc : Thread Cert.BlendRefIdeal.nD Cert.BlendRefIdeal.τ).loc Cert.BlendRefIdeal.main_arg3) = m' ((c.tc : Thread Cert.BlendRefIdeal.nD Cert.BlendRefIdeal.τ).loc Cert.BlendRefIdeal.main_arg3)
          ∧ r.2.mem ((c.tc : Thread Cert.BlendRefIdeal.nD Cert.BlendRefIdeal.τ).loc Cert.BlendRefIdeal.main_arg4) = m' ((c.tc : Thread Cert.BlendRefIdeal.nD Cert.BlendRefIdeal.τ).loc Cert.BlendRefIdeal.main_arg4))

def algebraic_DoutIdeal_DoutRefIdeal [hDoutIdeal : Cert.DoutIdeal.Facts] [hDoutRefIdeal : Cert.DoutRefIdeal.Facts] : Prop :=
  ∀ (m : (ℓ : Loc Cert.DoutIdeal.nD Cert.DoutIdeal.τ Cert.DoutIdeal.sig) → Buf (Elt Ideal) ℓ) (g : Dev Cert.DoutIdeal.nD → PrngReg)
    (m' : (ℓ : Loc Cert.DoutRefIdeal.nD Cert.DoutRefIdeal.τ Cert.DoutRefIdeal.sig) → Buf (Elt Ideal) ℓ) (g' : Dev Cert.DoutRefIdeal.nD → PrngReg), Pre_DoutIdeal m →
    (∀ c : Dev Cert.DoutIdeal.nD,
      m' ((c.tc : Thread Cert.DoutRefIdeal.nD Cert.DoutRefIdeal.τ).loc Cert.DoutRefIdeal.main_arg0) = m ((c.tc : Thread Cert.DoutIdeal.nD Cert.DoutIdeal.τ).loc Cert.DoutIdeal.main_arg0)
      ∧ m' ((c.tc : Thread Cert.DoutRefIdeal.nD Cert.DoutRefIdeal.τ).loc Cert.DoutRefIdeal.main_arg1) = m ((c.tc : Thread Cert.DoutIdeal.nD Cert.DoutIdeal.τ).loc Cert.DoutIdeal.main_arg1)) →
    ∃ (v0 : (c : Dev Cert.DoutIdeal.nD) → Buf (Elt Ideal) ((c.tc : Thread Cert.DoutIdeal.nD Cert.DoutIdeal.τ).loc Cert.DoutIdeal.main_v0)),
      θ_run (Cert.DoutIdeal.defs (F := Ideal)) (onTc (τ := Cert.DoutIdeal.τ) (Cert.DoutIdeal.main (F := Ideal))) ⟨m, fun _ => 0, g⟩ (fun r => ∀ c : Dev Cert.DoutIdeal.nD,
          r.2.mem ((c.tc : Thread Cert.DoutIdeal.nD Cert.DoutIdeal.τ).loc Cert.DoutIdeal.main_v0) = v0 c
          ∧ r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
          ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1))
      ∧ θ_run (Cert.DoutRefIdeal.defs (F := Ideal)) (onTc (τ := Cert.DoutRefIdeal.τ) (Cert.DoutRefIdeal.main (F := Ideal))) ⟨m', fun _ => 0, g'⟩ (fun r => ∀ c : Dev Cert.DoutRefIdeal.nD,
          r.2.mem ((c.tc : Thread Cert.DoutRefIdeal.nD Cert.DoutRefIdeal.τ).loc Cert.DoutRefIdeal.main_v6) = v0 c
          ∧ r.2.mem ((c.tc : Thread Cert.DoutRefIdeal.nD Cert.DoutRefIdeal.τ).loc Cert.DoutRefIdeal.main_arg0) = m' ((c.tc : Thread Cert.DoutRefIdeal.nD Cert.DoutRefIdeal.τ).loc Cert.DoutRefIdeal.main_arg0)
          ∧ r.2.mem ((c.tc : Thread Cert.DoutRefIdeal.nD Cert.DoutRefIdeal.τ).loc Cert.DoutRefIdeal.main_arg1) = m' ((c.tc : Thread Cert.DoutRefIdeal.nD Cert.DoutRefIdeal.τ).loc Cert.DoutRefIdeal.main_arg1))

def algebraic_OuttokIdeal_OuttokRefIdeal [hOuttokIdeal : Cert.OuttokIdeal.Facts] [hOuttokRefIdeal : Cert.OuttokRefIdeal.Facts] : Prop :=
  ∀ (m : (ℓ : Loc Cert.OuttokIdeal.nD Cert.OuttokIdeal.τ Cert.OuttokIdeal.sig) → Buf (Elt Ideal) ℓ) (g : Dev Cert.OuttokIdeal.nD → PrngReg)
    (m' : (ℓ : Loc Cert.OuttokRefIdeal.nD Cert.OuttokRefIdeal.τ Cert.OuttokRefIdeal.sig) → Buf (Elt Ideal) ℓ) (g' : Dev Cert.OuttokRefIdeal.nD → PrngReg), Pre_OuttokIdeal m →
    (∀ c : Dev Cert.OuttokIdeal.nD,
      m' ((c.tc : Thread Cert.OuttokRefIdeal.nD Cert.OuttokRefIdeal.τ).loc Cert.OuttokRefIdeal.main_arg0) = m ((c.tc : Thread Cert.OuttokIdeal.nD Cert.OuttokIdeal.τ).loc Cert.OuttokIdeal.main_arg0)
      ∧ m' ((c.tc : Thread Cert.OuttokRefIdeal.nD Cert.OuttokRefIdeal.τ).loc Cert.OuttokRefIdeal.main_arg1) = m ((c.tc : Thread Cert.OuttokIdeal.nD Cert.OuttokIdeal.τ).loc Cert.OuttokIdeal.main_arg1)) →
    ∃ (v0 : (c : Dev Cert.OuttokIdeal.nD) → Buf (Elt Ideal) ((c.tc : Thread Cert.OuttokIdeal.nD Cert.OuttokIdeal.τ).loc Cert.OuttokIdeal.main_v0)),
      θ_run (Cert.OuttokIdeal.defs (F := Ideal)) (onTc (τ := Cert.OuttokIdeal.τ) (Cert.OuttokIdeal.main (F := Ideal))) ⟨m, fun _ => 0, g⟩ (fun r => ∀ c : Dev Cert.OuttokIdeal.nD,
          r.2.mem ((c.tc : Thread Cert.OuttokIdeal.nD Cert.OuttokIdeal.τ).loc Cert.OuttokIdeal.main_v0) = v0 c
          ∧ r.2.mem ((c.tc : Thread Cert.OuttokIdeal.nD Cert.OuttokIdeal.τ).loc Cert.OuttokIdeal.main_arg0) = m ((c.tc : Thread Cert.OuttokIdeal.nD Cert.OuttokIdeal.τ).loc Cert.OuttokIdeal.main_arg0)
          ∧ r.2.mem ((c.tc : Thread Cert.OuttokIdeal.nD Cert.OuttokIdeal.τ).loc Cert.OuttokIdeal.main_arg1) = m ((c.tc : Thread Cert.OuttokIdeal.nD Cert.OuttokIdeal.τ).loc Cert.OuttokIdeal.main_arg1))
      ∧ θ_run (Cert.OuttokRefIdeal.defs (F := Ideal)) (onTc (τ := Cert.OuttokRefIdeal.τ) (Cert.OuttokRefIdeal.main (F := Ideal))) ⟨m', fun _ => 0, g'⟩ (fun r => ∀ c : Dev Cert.OuttokRefIdeal.nD,
          r.2.mem ((c.tc : Thread Cert.OuttokRefIdeal.nD Cert.OuttokRefIdeal.τ).loc Cert.OuttokRefIdeal.main_v5) = v0 c
          ∧ r.2.mem ((c.tc : Thread Cert.OuttokRefIdeal.nD Cert.OuttokRefIdeal.τ).loc Cert.OuttokRefIdeal.main_arg0) = m' ((c.tc : Thread Cert.OuttokRefIdeal.nD Cert.OuttokRefIdeal.τ).loc Cert.OuttokRefIdeal.main_arg0)
          ∧ r.2.mem ((c.tc : Thread Cert.OuttokRefIdeal.nD Cert.OuttokRefIdeal.τ).loc Cert.OuttokRefIdeal.main_arg1) = m' ((c.tc : Thread Cert.OuttokRefIdeal.nD Cert.OuttokRefIdeal.τ).loc Cert.OuttokRefIdeal.main_arg1))

def algebraic_OutmemIdeal_OutmemRefIdeal [hOutmemIdeal : Cert.OutmemIdeal.Facts] [hOutmemRefIdeal : Cert.OutmemRefIdeal.Facts] : Prop :=
  ∀ (m : (ℓ : Loc Cert.OutmemIdeal.nD Cert.OutmemIdeal.τ Cert.OutmemIdeal.sig) → Buf (Elt Ideal) ℓ) (g : Dev Cert.OutmemIdeal.nD → PrngReg)
    (m' : (ℓ : Loc Cert.OutmemRefIdeal.nD Cert.OutmemRefIdeal.τ Cert.OutmemRefIdeal.sig) → Buf (Elt Ideal) ℓ) (g' : Dev Cert.OutmemRefIdeal.nD → PrngReg), Pre_OutmemIdeal m →
    (∀ c : Dev Cert.OutmemIdeal.nD,
      m' ((c.tc : Thread Cert.OutmemRefIdeal.nD Cert.OutmemRefIdeal.τ).loc Cert.OutmemRefIdeal.main_arg0) = m ((c.tc : Thread Cert.OutmemIdeal.nD Cert.OutmemIdeal.τ).loc Cert.OutmemIdeal.main_arg0)
      ∧ m' ((c.tc : Thread Cert.OutmemRefIdeal.nD Cert.OutmemRefIdeal.τ).loc Cert.OutmemRefIdeal.main_arg1) = m ((c.tc : Thread Cert.OutmemIdeal.nD Cert.OutmemIdeal.τ).loc Cert.OutmemIdeal.main_arg1)) →
    ∃ (v0 : (c : Dev Cert.OutmemIdeal.nD) → Buf (Elt Ideal) ((c.tc : Thread Cert.OutmemIdeal.nD Cert.OutmemIdeal.τ).loc Cert.OutmemIdeal.main_v0)),
      θ_run (Cert.OutmemIdeal.defs (F := Ideal)) (onTc (τ := Cert.OutmemIdeal.τ) (Cert.OutmemIdeal.main (F := Ideal))) ⟨m, fun _ => 0, g⟩ (fun r => ∀ c : Dev Cert.OutmemIdeal.nD,
          r.2.mem ((c.tc : Thread Cert.OutmemIdeal.nD Cert.OutmemIdeal.τ).loc Cert.OutmemIdeal.main_v0) = v0 c
          ∧ r.2.mem ((c.tc : Thread Cert.OutmemIdeal.nD Cert.OutmemIdeal.τ).loc Cert.OutmemIdeal.main_arg0) = m ((c.tc : Thread Cert.OutmemIdeal.nD Cert.OutmemIdeal.τ).loc Cert.OutmemIdeal.main_arg0)
          ∧ r.2.mem ((c.tc : Thread Cert.OutmemIdeal.nD Cert.OutmemIdeal.τ).loc Cert.OutmemIdeal.main_arg1) = m ((c.tc : Thread Cert.OutmemIdeal.nD Cert.OutmemIdeal.τ).loc Cert.OutmemIdeal.main_arg1))
      ∧ θ_run (Cert.OutmemRefIdeal.defs (F := Ideal)) (onTc (τ := Cert.OutmemRefIdeal.τ) (Cert.OutmemRefIdeal.main (F := Ideal))) ⟨m', fun _ => 0, g'⟩ (fun r => ∀ c : Dev Cert.OutmemRefIdeal.nD,
          r.2.mem ((c.tc : Thread Cert.OutmemRefIdeal.nD Cert.OutmemRefIdeal.τ).loc Cert.OutmemRefIdeal.main_v5) = v0 c
          ∧ r.2.mem ((c.tc : Thread Cert.OutmemRefIdeal.nD Cert.OutmemRefIdeal.τ).loc Cert.OutmemRefIdeal.main_arg0) = m' ((c.tc : Thread Cert.OutmemRefIdeal.nD Cert.OutmemRefIdeal.τ).loc Cert.OutmemRefIdeal.main_arg0)
          ∧ r.2.mem ((c.tc : Thread Cert.OutmemRefIdeal.nD Cert.OutmemRefIdeal.τ).loc Cert.OutmemRefIdeal.main_arg1) = m' ((c.tc : Thread Cert.OutmemRefIdeal.nD Cert.OutmemRefIdeal.τ).loc Cert.OutmemRefIdeal.main_arg1))

def algebraic_IntokIdeal_IntokRefIdeal [hIntokIdeal : Cert.IntokIdeal.Facts] [hIntokRefIdeal : Cert.IntokRefIdeal.Facts] : Prop :=
  ∀ (m : (ℓ : Loc Cert.IntokIdeal.nD Cert.IntokIdeal.τ Cert.IntokIdeal.sig) → Buf (Elt Ideal) ℓ) (g : Dev Cert.IntokIdeal.nD → PrngReg)
    (m' : (ℓ : Loc Cert.IntokRefIdeal.nD Cert.IntokRefIdeal.τ Cert.IntokRefIdeal.sig) → Buf (Elt Ideal) ℓ) (g' : Dev Cert.IntokRefIdeal.nD → PrngReg), Pre_IntokIdeal m →
    (∀ c : Dev Cert.IntokIdeal.nD,
      m' ((c.tc : Thread Cert.IntokRefIdeal.nD Cert.IntokRefIdeal.τ).loc Cert.IntokRefIdeal.main_arg0) = m ((c.tc : Thread Cert.IntokIdeal.nD Cert.IntokIdeal.τ).loc Cert.IntokIdeal.main_arg0)
      ∧ m' ((c.tc : Thread Cert.IntokRefIdeal.nD Cert.IntokRefIdeal.τ).loc Cert.IntokRefIdeal.main_arg1) = m ((c.tc : Thread Cert.IntokIdeal.nD Cert.IntokIdeal.τ).loc Cert.IntokIdeal.main_arg1)) →
    ∃ (v0 : (c : Dev Cert.IntokIdeal.nD) → Buf (Elt Ideal) ((c.tc : Thread Cert.IntokIdeal.nD Cert.IntokIdeal.τ).loc Cert.IntokIdeal.main_v0)),
      θ_run (Cert.IntokIdeal.defs (F := Ideal)) (onTc (τ := Cert.IntokIdeal.τ) (Cert.IntokIdeal.main (F := Ideal))) ⟨m, fun _ => 0, g⟩ (fun r => ∀ c : Dev Cert.IntokIdeal.nD,
          r.2.mem ((c.tc : Thread Cert.IntokIdeal.nD Cert.IntokIdeal.τ).loc Cert.IntokIdeal.main_v0) = v0 c
          ∧ r.2.mem ((c.tc : Thread Cert.IntokIdeal.nD Cert.IntokIdeal.τ).loc Cert.IntokIdeal.main_arg0) = m ((c.tc : Thread Cert.IntokIdeal.nD Cert.IntokIdeal.τ).loc Cert.IntokIdeal.main_arg0)
          ∧ r.2.mem ((c.tc : Thread Cert.IntokIdeal.nD Cert.IntokIdeal.τ).loc Cert.IntokIdeal.main_arg1) = m ((c.tc : Thread Cert.IntokIdeal.nD Cert.IntokIdeal.τ).loc Cert.IntokIdeal.main_arg1))
      ∧ θ_run (Cert.IntokRefIdeal.defs (F := Ideal)) (onTc (τ := Cert.IntokRefIdeal.τ) (Cert.IntokRefIdeal.main (F := Ideal))) ⟨m', fun _ => 0, g'⟩ (fun r => ∀ c : Dev Cert.IntokRefIdeal.nD,
          r.2.mem ((c.tc : Thread Cert.IntokRefIdeal.nD Cert.IntokRefIdeal.τ).loc Cert.IntokRefIdeal.main_v5) = v0 c
          ∧ r.2.mem ((c.tc : Thread Cert.IntokRefIdeal.nD Cert.IntokRefIdeal.τ).loc Cert.IntokRefIdeal.main_arg0) = m' ((c.tc : Thread Cert.IntokRefIdeal.nD Cert.IntokRefIdeal.τ).loc Cert.IntokRefIdeal.main_arg0)
          ∧ r.2.mem ((c.tc : Thread Cert.IntokRefIdeal.nD Cert.IntokRefIdeal.τ).loc Cert.IntokRefIdeal.main_arg1) = m' ((c.tc : Thread Cert.IntokRefIdeal.nD Cert.IntokRefIdeal.τ).loc Cert.IntokRefIdeal.main_arg1))

def algebraic_InmemIdeal_InmemRefIdeal [hInmemIdeal : Cert.InmemIdeal.Facts] [hInmemRefIdeal : Cert.InmemRefIdeal.Facts] : Prop :=
  ∀ (m : (ℓ : Loc Cert.InmemIdeal.nD Cert.InmemIdeal.τ Cert.InmemIdeal.sig) → Buf (Elt Ideal) ℓ) (g : Dev Cert.InmemIdeal.nD → PrngReg)
    (m' : (ℓ : Loc Cert.InmemRefIdeal.nD Cert.InmemRefIdeal.τ Cert.InmemRefIdeal.sig) → Buf (Elt Ideal) ℓ) (g' : Dev Cert.InmemRefIdeal.nD → PrngReg), Pre_InmemIdeal m →
    (∀ c : Dev Cert.InmemIdeal.nD,
      m' ((c.tc : Thread Cert.InmemRefIdeal.nD Cert.InmemRefIdeal.τ).loc Cert.InmemRefIdeal.main_arg0) = m ((c.tc : Thread Cert.InmemIdeal.nD Cert.InmemIdeal.τ).loc Cert.InmemIdeal.main_arg0)
      ∧ m' ((c.tc : Thread Cert.InmemRefIdeal.nD Cert.InmemRefIdeal.τ).loc Cert.InmemRefIdeal.main_arg1) = m ((c.tc : Thread Cert.InmemIdeal.nD Cert.InmemIdeal.τ).loc Cert.InmemIdeal.main_arg1)) →
    ∃ (v0 : (c : Dev Cert.InmemIdeal.nD) → Buf (Elt Ideal) ((c.tc : Thread Cert.InmemIdeal.nD Cert.InmemIdeal.τ).loc Cert.InmemIdeal.main_v0)),
      θ_run (Cert.InmemIdeal.defs (F := Ideal)) (onTc (τ := Cert.InmemIdeal.τ) (Cert.InmemIdeal.main (F := Ideal))) ⟨m, fun _ => 0, g⟩ (fun r => ∀ c : Dev Cert.InmemIdeal.nD,
          r.2.mem ((c.tc : Thread Cert.InmemIdeal.nD Cert.InmemIdeal.τ).loc Cert.InmemIdeal.main_v0) = v0 c
          ∧ r.2.mem ((c.tc : Thread Cert.InmemIdeal.nD Cert.InmemIdeal.τ).loc Cert.InmemIdeal.main_arg0) = m ((c.tc : Thread Cert.InmemIdeal.nD Cert.InmemIdeal.τ).loc Cert.InmemIdeal.main_arg0)
          ∧ r.2.mem ((c.tc : Thread Cert.InmemIdeal.nD Cert.InmemIdeal.τ).loc Cert.InmemIdeal.main_arg1) = m ((c.tc : Thread Cert.InmemIdeal.nD Cert.InmemIdeal.τ).loc Cert.InmemIdeal.main_arg1))
      ∧ θ_run (Cert.InmemRefIdeal.defs (F := Ideal)) (onTc (τ := Cert.InmemRefIdeal.τ) (Cert.InmemRefIdeal.main (F := Ideal))) ⟨m', fun _ => 0, g'⟩ (fun r => ∀ c : Dev Cert.InmemRefIdeal.nD,
          r.2.mem ((c.tc : Thread Cert.InmemRefIdeal.nD Cert.InmemRefIdeal.τ).loc Cert.InmemRefIdeal.main_v5) = v0 c
          ∧ r.2.mem ((c.tc : Thread Cert.InmemRefIdeal.nD Cert.InmemRefIdeal.τ).loc Cert.InmemRefIdeal.main_arg0) = m' ((c.tc : Thread Cert.InmemRefIdeal.nD Cert.InmemRefIdeal.τ).loc Cert.InmemRefIdeal.main_arg0)
          ∧ r.2.mem ((c.tc : Thread Cert.InmemRefIdeal.nD Cert.InmemRefIdeal.τ).loc Cert.InmemRefIdeal.main_arg1) = m' ((c.tc : Thread Cert.InmemRefIdeal.nD Cert.InmemRefIdeal.τ).loc Cert.InmemRefIdeal.main_arg1))

def algebraic_DinIdeal_DinRefIdeal_pre_finite_din [hDinIdeal : Cert.DinIdeal.Facts] [hDinRefIdeal : Cert.DinRefIdeal.Facts] [hPre_finite_din : Cert.Pre_finite_din.Facts] : Prop :=
  ∀ (m : (ℓ : Loc Cert.DinIdeal.nD Cert.DinIdeal.τ Cert.DinIdeal.sig) → Buf (Elt Ideal) ℓ) (g : Dev Cert.DinIdeal.nD → PrngReg)
    (m' : (ℓ : Loc Cert.DinRefIdeal.nD Cert.DinRefIdeal.τ Cert.DinRefIdeal.sig) → Buf (Elt Ideal) ℓ) (g' : Dev Cert.DinRefIdeal.nD → PrngReg), Pre_DinIdeal_finite_din m →
    (∀ c : Dev Cert.DinIdeal.nD,
      m' ((c.tc : Thread Cert.DinRefIdeal.nD Cert.DinRefIdeal.τ).loc Cert.DinRefIdeal.main_arg0) = m ((c.tc : Thread Cert.DinIdeal.nD Cert.DinIdeal.τ).loc Cert.DinIdeal.main_arg0)
      ∧ m' ((c.tc : Thread Cert.DinRefIdeal.nD Cert.DinRefIdeal.τ).loc Cert.DinRefIdeal.main_arg1) = m ((c.tc : Thread Cert.DinIdeal.nD Cert.DinIdeal.τ).loc Cert.DinIdeal.main_arg1)
      ∧ m' ((c.tc : Thread Cert.DinRefIdeal.nD Cert.DinRefIdeal.τ).loc Cert.DinRefIdeal.main_arg2) = m ((c.tc : Thread Cert.DinIdeal.nD Cert.DinIdeal.τ).loc Cert.DinIdeal.main_arg2)
      ∧ m' ((c.tc : Thread Cert.DinRefIdeal.nD Cert.DinRefIdeal.τ).loc Cert.DinRefIdeal.main_arg3) = m ((c.tc : Thread Cert.DinIdeal.nD Cert.DinIdeal.τ).loc Cert.DinIdeal.main_arg3)
      ∧ m' ((c.tc : Thread Cert.DinRefIdeal.nD Cert.DinRefIdeal.τ).loc Cert.DinRefIdeal.main_arg4) = m ((c.tc : Thread Cert.DinIdeal.nD Cert.DinIdeal.τ).loc Cert.DinIdeal.main_arg4)
      ∧ m' ((c.tc : Thread Cert.DinRefIdeal.nD Cert.DinRefIdeal.τ).loc Cert.DinRefIdeal.main_arg5) = m ((c.tc : Thread Cert.DinIdeal.nD Cert.DinIdeal.τ).loc Cert.DinIdeal.main_arg5)) →
    ∃ (v0 : (c : Dev Cert.DinIdeal.nD) → Buf (Elt Ideal) ((c.tc : Thread Cert.DinIdeal.nD Cert.DinIdeal.τ).loc Cert.DinIdeal.main_v1_0)) (v1 : (c : Dev Cert.DinIdeal.nD) → Buf (Elt Ideal) ((c.tc : Thread Cert.DinIdeal.nD Cert.DinIdeal.τ).loc Cert.DinIdeal.main_v1_1)) (v2 : (c : Dev Cert.DinIdeal.nD) → Buf (Elt Ideal) ((c.tc : Thread Cert.DinIdeal.nD Cert.DinIdeal.τ).loc Cert.DinIdeal.main_v1_2)),
      θ_run (Cert.DinIdeal.defs (F := Ideal)) (onTc (τ := Cert.DinIdeal.τ) (Cert.DinIdeal.main (F := Ideal))) ⟨m, fun _ => 0, g⟩ (fun r => ∀ c : Dev Cert.DinIdeal.nD,
          r.2.mem ((c.tc : Thread Cert.DinIdeal.nD Cert.DinIdeal.τ).loc Cert.DinIdeal.main_v1_0) = v0 c
          ∧ r.2.mem ((c.tc : Thread Cert.DinIdeal.nD Cert.DinIdeal.τ).loc Cert.DinIdeal.main_v1_1) = v1 c
          ∧ r.2.mem ((c.tc : Thread Cert.DinIdeal.nD Cert.DinIdeal.τ).loc Cert.DinIdeal.main_v1_2) = v2 c
          ∧ r.2.mem ((c.tc : Thread Cert.DinIdeal.nD Cert.DinIdeal.τ).loc Cert.DinIdeal.main_arg0) = m ((c.tc : Thread Cert.DinIdeal.nD Cert.DinIdeal.τ).loc Cert.DinIdeal.main_arg0)
          ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
          ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
          ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
          ∧ r.2.mem ((c.tc : Thread Cert.DinIdeal.nD Cert.DinIdeal.τ).loc Cert.DinIdeal.main_arg4) = m ((c.tc : Thread Cert.DinIdeal.nD Cert.DinIdeal.τ).loc Cert.DinIdeal.main_arg4)
          ∧ r.2.mem ((c.tc : Thread Cert.DinIdeal.nD Cert.DinIdeal.τ).loc Cert.DinIdeal.main_arg5) = m ((c.tc : Thread Cert.DinIdeal.nD Cert.DinIdeal.τ).loc Cert.DinIdeal.main_arg5))
      ∧ θ_run (Cert.DinRefIdeal.defs (F := Ideal)) (onTc (τ := Cert.DinRefIdeal.τ) (Cert.DinRefIdeal.main (F := Ideal))) ⟨m', fun _ => 0, g'⟩ (fun r => ∀ c : Dev Cert.DinRefIdeal.nD,
          r.2.mem ((c.tc : Thread Cert.DinRefIdeal.nD Cert.DinRefIdeal.τ).loc Cert.DinRefIdeal.main_v43) = v0 c
          ∧ r.2.mem ((c.tc : Thread Cert.DinRefIdeal.nD Cert.DinRefIdeal.τ).loc Cert.DinRefIdeal.main_v44) = v1 c
          ∧ r.2.mem ((c.tc : Thread Cert.DinRefIdeal.nD Cert.DinRefIdeal.τ).loc Cert.DinRefIdeal.main_v45) = v2 c
          ∧ r.2.mem ((c.tc : Thread Cert.DinRefIdeal.nD Cert.DinRefIdeal.τ).loc Cert.DinRefIdeal.main_arg0) = m' ((c.tc : Thread Cert.DinRefIdeal.nD Cert.DinRefIdeal.τ).loc Cert.DinRefIdeal.main_arg0)
          ∧ r.2.mem ((c.tc : Thread Cert.DinRefIdeal.nD Cert.DinRefIdeal.τ).loc Cert.DinRefIdeal.main_arg1) = m' ((c.tc : Thread Cert.DinRefIdeal.nD Cert.DinRefIdeal.τ).loc Cert.DinRefIdeal.main_arg1)
          ∧ r.2.mem ((c.tc : Thread Cert.DinRefIdeal.nD Cert.DinRefIdeal.τ).loc Cert.DinRefIdeal.main_arg2) = m' ((c.tc : Thread Cert.DinRefIdeal.nD Cert.DinRefIdeal.τ).loc Cert.DinRefIdeal.main_arg2)
          ∧ r.2.mem ((c.tc : Thread Cert.DinRefIdeal.nD Cert.DinRefIdeal.τ).loc Cert.DinRefIdeal.main_arg3) = m' ((c.tc : Thread Cert.DinRefIdeal.nD Cert.DinRefIdeal.τ).loc Cert.DinRefIdeal.main_arg3)
          ∧ r.2.mem ((c.tc : Thread Cert.DinRefIdeal.nD Cert.DinRefIdeal.τ).loc Cert.DinRefIdeal.main_arg4) = m' ((c.tc : Thread Cert.DinRefIdeal.nD Cert.DinRefIdeal.τ).loc Cert.DinRefIdeal.main_arg4)
          ∧ r.2.mem ((c.tc : Thread Cert.DinRefIdeal.nD Cert.DinRefIdeal.τ).loc Cert.DinRefIdeal.main_arg5) = m' ((c.tc : Thread Cert.DinRefIdeal.nD Cert.DinRefIdeal.τ).loc Cert.DinRefIdeal.main_arg5))

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)) →
    ∃ (v0 : (c : Dev Cert.GatedIdeal.nD) → Buf (Elt Ideal) ((c.tc : Thread Cert.GatedIdeal.nD Cert.GatedIdeal.τ).loc Cert.GatedIdeal.main_v3)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v3) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v48) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3))

def algebraic_RecallIdeal_RecallRefIdeal_pre_finite_recall [hRecallIdeal : Cert.RecallIdeal.Facts] [hRecallRefIdeal : Cert.RecallRefIdeal.Facts] [hPre_finite_recall : Cert.Pre_finite_recall.Facts] : Prop :=
  ∀ (m : (ℓ : Loc Cert.RecallIdeal.nD Cert.RecallIdeal.τ Cert.RecallIdeal.sig) → Buf (Elt Ideal) ℓ) (g : Dev Cert.RecallIdeal.nD → PrngReg)
    (m' : (ℓ : Loc Cert.RecallRefIdeal.nD Cert.RecallRefIdeal.τ Cert.RecallRefIdeal.sig) → Buf (Elt Ideal) ℓ) (g' : Dev Cert.RecallRefIdeal.nD → PrngReg), Pre_RecallIdeal_finite_recall m →
    (∀ c : Dev Cert.RecallIdeal.nD,
      m' ((c.tc : Thread Cert.RecallRefIdeal.nD Cert.RecallRefIdeal.τ).loc Cert.RecallRefIdeal.main_arg0) = m ((c.tc : Thread Cert.RecallIdeal.nD Cert.RecallIdeal.τ).loc Cert.RecallIdeal.main_arg0)
      ∧ m' ((c.tc : Thread Cert.RecallRefIdeal.nD Cert.RecallRefIdeal.τ).loc Cert.RecallRefIdeal.main_arg1) = m ((c.tc : Thread Cert.RecallIdeal.nD Cert.RecallIdeal.τ).loc Cert.RecallIdeal.main_arg1)) →
    ∃ (v0 : (c : Dev Cert.RecallIdeal.nD) → Buf (Elt Ideal) ((c.tc : Thread Cert.RecallIdeal.nD Cert.RecallIdeal.τ).loc Cert.RecallIdeal.main_v0)),
      θ_run (Cert.RecallIdeal.defs (F := Ideal)) (onTc (τ := Cert.RecallIdeal.τ) (Cert.RecallIdeal.main (F := Ideal))) ⟨m, fun _ => 0, g⟩ (fun r => ∀ c : Dev Cert.RecallIdeal.nD,
          r.2.mem ((c.tc : Thread Cert.RecallIdeal.nD Cert.RecallIdeal.τ).loc Cert.RecallIdeal.main_v0) = v0 c
          ∧ r.2.mem ((c.tc : Thread Cert.RecallIdeal.nD Cert.RecallIdeal.τ).loc Cert.RecallIdeal.main_arg0) = m ((c.tc : Thread Cert.RecallIdeal.nD Cert.RecallIdeal.τ).loc Cert.RecallIdeal.main_arg0)
          ∧ r.2.mem ((c.tc : Thread Cert.RecallIdeal.nD Cert.RecallIdeal.τ).loc Cert.RecallIdeal.main_arg1) = m ((c.tc : Thread Cert.RecallIdeal.nD Cert.RecallIdeal.τ).loc Cert.RecallIdeal.main_arg1))
      ∧ θ_run (Cert.RecallRefIdeal.defs (F := Ideal)) (onTc (τ := Cert.RecallRefIdeal.τ) (Cert.RecallRefIdeal.main (F := Ideal))) ⟨m', fun _ => 0, g'⟩ (fun r => ∀ c : Dev Cert.RecallRefIdeal.nD,
          r.2.mem ((c.tc : Thread Cert.RecallRefIdeal.nD Cert.RecallRefIdeal.τ).loc Cert.RecallRefIdeal.main_v23) = v0 c
          ∧ r.2.mem ((c.tc : Thread Cert.RecallRefIdeal.nD Cert.RecallRefIdeal.τ).loc Cert.RecallRefIdeal.main_arg0) = m' ((c.tc : Thread Cert.RecallRefIdeal.nD Cert.RecallRefIdeal.τ).loc Cert.RecallRefIdeal.main_arg0)
          ∧ r.2.mem ((c.tc : Thread Cert.RecallRefIdeal.nD Cert.RecallRefIdeal.τ).loc Cert.RecallRefIdeal.main_arg1) = m' ((c.tc : Thread Cert.RecallRefIdeal.nD Cert.RecallRefIdeal.τ).loc Cert.RecallRefIdeal.main_arg1))

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v3) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def algebraic_KinIdeal_KinRefIdeal_pre_finite_kin [hKinIdeal : Cert.KinIdeal.Facts] [hKinRefIdeal : Cert.KinRefIdeal.Facts] [hPre_finite_kin : Cert.Pre_finite_kin.Facts] : Prop :=
  ∀ (m : (ℓ : Loc Cert.KinIdeal.nD Cert.KinIdeal.τ Cert.KinIdeal.sig) → Buf (Elt Ideal) ℓ) (g : Dev Cert.KinIdeal.nD → PrngReg)
    (m' : (ℓ : Loc Cert.KinRefIdeal.nD Cert.KinRefIdeal.τ Cert.KinRefIdeal.sig) → Buf (Elt Ideal) ℓ) (g' : Dev Cert.KinRefIdeal.nD → PrngReg), Pre_KinIdeal_finite_kin m →
    (∀ c : Dev Cert.KinIdeal.nD,
      m' ((c.tc : Thread Cert.KinRefIdeal.nD Cert.KinRefIdeal.τ).loc Cert.KinRefIdeal.main_arg0) = m ((c.tc : Thread Cert.KinIdeal.nD Cert.KinIdeal.τ).loc Cert.KinIdeal.main_arg0)
      ∧ m' ((c.tc : Thread Cert.KinRefIdeal.nD Cert.KinRefIdeal.τ).loc Cert.KinRefIdeal.main_arg1) = m ((c.tc : Thread Cert.KinIdeal.nD Cert.KinIdeal.τ).loc Cert.KinIdeal.main_arg1)
      ∧ m' ((c.tc : Thread Cert.KinRefIdeal.nD Cert.KinRefIdeal.τ).loc Cert.KinRefIdeal.main_arg2) = m ((c.tc : Thread Cert.KinIdeal.nD Cert.KinIdeal.τ).loc Cert.KinIdeal.main_arg2)
      ∧ m' ((c.tc : Thread Cert.KinRefIdeal.nD Cert.KinRefIdeal.τ).loc Cert.KinRefIdeal.main_arg3) = m ((c.tc : Thread Cert.KinIdeal.nD Cert.KinIdeal.τ).loc Cert.KinIdeal.main_arg3)
      ∧ m' ((c.tc : Thread Cert.KinRefIdeal.nD Cert.KinRefIdeal.τ).loc Cert.KinRefIdeal.main_arg4) = m ((c.tc : Thread Cert.KinIdeal.nD Cert.KinIdeal.τ).loc Cert.KinIdeal.main_arg4)
      ∧ m' ((c.tc : Thread Cert.KinRefIdeal.nD Cert.KinRefIdeal.τ).loc Cert.KinRefIdeal.main_arg5) = m ((c.tc : Thread Cert.KinIdeal.nD Cert.KinIdeal.τ).loc Cert.KinIdeal.main_arg5)) →
    ∃ (v0 : (c : Dev Cert.KinIdeal.nD) → Buf (Elt Ideal) ((c.tc : Thread Cert.KinIdeal.nD Cert.KinIdeal.τ).loc Cert.KinIdeal.main_v1_0)) (v1 : (c : Dev Cert.KinIdeal.nD) → Buf (Elt Ideal) ((c.tc : Thread Cert.KinIdeal.nD Cert.KinIdeal.τ).loc Cert.KinIdeal.main_v1_1)) (v2 : (c : Dev Cert.KinIdeal.nD) → Buf (Elt Ideal) ((c.tc : Thread Cert.KinIdeal.nD Cert.KinIdeal.τ).loc Cert.KinIdeal.main_v1_2)),
      θ_run (Cert.KinIdeal.defs (F := Ideal)) (onTc (τ := Cert.KinIdeal.τ) (Cert.KinIdeal.main (F := Ideal))) ⟨m, fun _ => 0, g⟩ (fun r => ∀ c : Dev Cert.KinIdeal.nD,
          r.2.mem ((c.tc : Thread Cert.KinIdeal.nD Cert.KinIdeal.τ).loc Cert.KinIdeal.main_v1_0) = v0 c
          ∧ r.2.mem ((c.tc : Thread Cert.KinIdeal.nD Cert.KinIdeal.τ).loc Cert.KinIdeal.main_v1_1) = v1 c
          ∧ r.2.mem ((c.tc : Thread Cert.KinIdeal.nD Cert.KinIdeal.τ).loc Cert.KinIdeal.main_v1_2) = v2 c
          ∧ r.2.mem ((c.tc : Thread Cert.KinIdeal.nD Cert.KinIdeal.τ).loc Cert.KinIdeal.main_arg0) = m ((c.tc : Thread Cert.KinIdeal.nD Cert.KinIdeal.τ).loc Cert.KinIdeal.main_arg0)
          ∧ r.2.mem ((c.tc : Thread Cert.KinIdeal.nD Cert.KinIdeal.τ).loc Cert.KinIdeal.main_arg1) = m ((c.tc : Thread Cert.KinIdeal.nD Cert.KinIdeal.τ).loc Cert.KinIdeal.main_arg1)
          ∧ r.2.mem ((c.tc : Thread Cert.KinIdeal.nD Cert.KinIdeal.τ).loc Cert.KinIdeal.main_arg2) = m ((c.tc : Thread Cert.KinIdeal.nD Cert.KinIdeal.τ).loc Cert.KinIdeal.main_arg2)
          ∧ r.2.mem ((c.tc : Thread Cert.KinIdeal.nD Cert.KinIdeal.τ).loc Cert.KinIdeal.main_arg3) = m ((c.tc : Thread Cert.KinIdeal.nD Cert.KinIdeal.τ).loc Cert.KinIdeal.main_arg3)
          ∧ r.2.mem ((c.tc : Thread Cert.KinIdeal.nD Cert.KinIdeal.τ).loc Cert.KinIdeal.main_arg4) = m ((c.tc : Thread Cert.KinIdeal.nD Cert.KinIdeal.τ).loc Cert.KinIdeal.main_arg4)
          ∧ r.2.mem ((c.tc : Thread Cert.KinIdeal.nD Cert.KinIdeal.τ).loc Cert.KinIdeal.main_arg5) = m ((c.tc : Thread Cert.KinIdeal.nD Cert.KinIdeal.τ).loc Cert.KinIdeal.main_arg5))
      ∧ θ_run (Cert.KinRefIdeal.defs (F := Ideal)) (onTc (τ := Cert.KinRefIdeal.τ) (Cert.KinRefIdeal.main (F := Ideal))) ⟨m', fun _ => 0, g'⟩ (fun r => ∀ c : Dev Cert.KinRefIdeal.nD,
          r.2.mem ((c.tc : Thread Cert.KinRefIdeal.nD Cert.KinRefIdeal.τ).loc Cert.KinRefIdeal.main_v40) = v0 c
          ∧ r.2.mem ((c.tc : Thread Cert.KinRefIdeal.nD Cert.KinRefIdeal.τ).loc Cert.KinRefIdeal.main_v41) = v1 c
          ∧ r.2.mem ((c.tc : Thread Cert.KinRefIdeal.nD Cert.KinRefIdeal.τ).loc Cert.KinRefIdeal.main_v42) = v2 c
          ∧ r.2.mem ((c.tc : Thread Cert.KinRefIdeal.nD Cert.KinRefIdeal.τ).loc Cert.KinRefIdeal.main_arg0) = m' ((c.tc : Thread Cert.KinRefIdeal.nD Cert.KinRefIdeal.τ).loc Cert.KinRefIdeal.main_arg0)
          ∧ r.2.mem ((c.tc : Thread Cert.KinRefIdeal.nD Cert.KinRefIdeal.τ).loc Cert.KinRefIdeal.main_arg1) = m' ((c.tc : Thread Cert.KinRefIdeal.nD Cert.KinRefIdeal.τ).loc Cert.KinRefIdeal.main_arg1)
          ∧ r.2.mem ((c.tc : Thread Cert.KinRefIdeal.nD Cert.KinRefIdeal.τ).loc Cert.KinRefIdeal.main_arg2) = m' ((c.tc : Thread Cert.KinRefIdeal.nD Cert.KinRefIdeal.τ).loc Cert.KinRefIdeal.main_arg2)
          ∧ r.2.mem ((c.tc : Thread Cert.KinRefIdeal.nD Cert.KinRefIdeal.τ).loc Cert.KinRefIdeal.main_arg3) = m' ((c.tc : Thread Cert.KinRefIdeal.nD Cert.KinRefIdeal.τ).loc Cert.KinRefIdeal.main_arg3)
          ∧ r.2.mem ((c.tc : Thread Cert.KinRefIdeal.nD Cert.KinRefIdeal.τ).loc Cert.KinRefIdeal.main_arg4) = m' ((c.tc : Thread Cert.KinRefIdeal.nD Cert.KinRefIdeal.τ).loc Cert.KinRefIdeal.main_arg4)
          ∧ r.2.mem ((c.tc : Thread Cert.KinRefIdeal.nD Cert.KinRefIdeal.τ).loc Cert.KinRefIdeal.main_arg5) = m' ((c.tc : Thread Cert.KinRefIdeal.nD Cert.KinRefIdeal.τ).loc Cert.KinRefIdeal.main_arg5))

def algebraic_BtokIdeal_BtokRefIdeal [hBtokIdeal : Cert.BtokIdeal.Facts] [hBtokRefIdeal : Cert.BtokRefIdeal.Facts] : Prop :=
  ∀ (m : (ℓ : Loc Cert.BtokIdeal.nD Cert.BtokIdeal.τ Cert.BtokIdeal.sig) → Buf (Elt Ideal) ℓ) (g : Dev Cert.BtokIdeal.nD → PrngReg)
    (m' : (ℓ : Loc Cert.BtokRefIdeal.nD Cert.BtokRefIdeal.τ Cert.BtokRefIdeal.sig) → Buf (Elt Ideal) ℓ) (g' : Dev Cert.BtokRefIdeal.nD → PrngReg), Pre_BtokIdeal m →
    (∀ c : Dev Cert.BtokIdeal.nD,
      m' ((c.tc : Thread Cert.BtokRefIdeal.nD Cert.BtokRefIdeal.τ).loc Cert.BtokRefIdeal.main_arg0) = m ((c.tc : Thread Cert.BtokIdeal.nD Cert.BtokIdeal.τ).loc Cert.BtokIdeal.main_arg0)
      ∧ m' ((c.tc : Thread Cert.BtokRefIdeal.nD Cert.BtokRefIdeal.τ).loc Cert.BtokRefIdeal.main_arg1) = m ((c.tc : Thread Cert.BtokIdeal.nD Cert.BtokIdeal.τ).loc Cert.BtokIdeal.main_arg1)) →
    ∃ (v0 : (c : Dev Cert.BtokIdeal.nD) → Buf (Elt Ideal) ((c.tc : Thread Cert.BtokIdeal.nD Cert.BtokIdeal.τ).loc Cert.BtokIdeal.main_v0)),
      θ_run (Cert.BtokIdeal.defs (F := Ideal)) (onTc (τ := Cert.BtokIdeal.τ) (Cert.BtokIdeal.main (F := Ideal))) ⟨m, fun _ => 0, g⟩ (fun r => ∀ c : Dev Cert.BtokIdeal.nD,
          r.2.mem ((c.tc : Thread Cert.BtokIdeal.nD Cert.BtokIdeal.τ).loc Cert.BtokIdeal.main_v0) = v0 c
          ∧ r.2.mem ((c.tc : Thread Cert.BtokIdeal.nD Cert.BtokIdeal.τ).loc Cert.BtokIdeal.main_arg0) = m ((c.tc : Thread Cert.BtokIdeal.nD Cert.BtokIdeal.τ).loc Cert.BtokIdeal.main_arg0)
          ∧ r.2.mem ((c.tc : Thread Cert.BtokIdeal.nD Cert.BtokIdeal.τ).loc Cert.BtokIdeal.main_arg1) = m ((c.tc : Thread Cert.BtokIdeal.nD Cert.BtokIdeal.τ).loc Cert.BtokIdeal.main_arg1))
      ∧ θ_run (Cert.BtokRefIdeal.defs (F := Ideal)) (onTc (τ := Cert.BtokRefIdeal.τ) (Cert.BtokRefIdeal.main (F := Ideal))) ⟨m', fun _ => 0, g'⟩ (fun r => ∀ c : Dev Cert.BtokRefIdeal.nD,
          r.2.mem ((c.tc : Thread Cert.BtokRefIdeal.nD Cert.BtokRefIdeal.τ).loc Cert.BtokRefIdeal.main_v4) = v0 c
          ∧ r.2.mem ((c.tc : Thread Cert.BtokRefIdeal.nD Cert.BtokRefIdeal.τ).loc Cert.BtokRefIdeal.main_arg0) = m' ((c.tc : Thread Cert.BtokRefIdeal.nD Cert.BtokRefIdeal.τ).loc Cert.BtokRefIdeal.main_arg0)
          ∧ r.2.mem ((c.tc : Thread Cert.BtokRefIdeal.nD Cert.BtokRefIdeal.τ).loc Cert.BtokRefIdeal.main_arg1) = m' ((c.tc : Thread Cert.BtokRefIdeal.nD Cert.BtokRefIdeal.τ).loc Cert.BtokRefIdeal.main_arg1))

def algebraic_BprojIdeal_BprojRefIdeal [hBprojIdeal : Cert.BprojIdeal.Facts] [hBprojRefIdeal : Cert.BprojRefIdeal.Facts] : Prop :=
  ∀ (m : (ℓ : Loc Cert.BprojIdeal.nD Cert.BprojIdeal.τ Cert.BprojIdeal.sig) → Buf (Elt Ideal) ℓ) (g : Dev Cert.BprojIdeal.nD → PrngReg)
    (m' : (ℓ : Loc Cert.BprojRefIdeal.nD Cert.BprojRefIdeal.τ Cert.BprojRefIdeal.sig) → Buf (Elt Ideal) ℓ) (g' : Dev Cert.BprojRefIdeal.nD → PrngReg), Pre_BprojIdeal m →
    (∀ c : Dev Cert.BprojIdeal.nD,
      m' ((c.tc : Thread Cert.BprojRefIdeal.nD Cert.BprojRefIdeal.τ).loc Cert.BprojRefIdeal.main_arg0) = m ((c.tc : Thread Cert.BprojIdeal.nD Cert.BprojIdeal.τ).loc Cert.BprojIdeal.main_arg0)
      ∧ m' ((c.tc : Thread Cert.BprojRefIdeal.nD Cert.BprojRefIdeal.τ).loc Cert.BprojRefIdeal.main_arg1) = m ((c.tc : Thread Cert.BprojIdeal.nD Cert.BprojIdeal.τ).loc Cert.BprojIdeal.main_arg1)) →
    ∃ (v0 : (c : Dev Cert.BprojIdeal.nD) → Buf (Elt Ideal) ((c.tc : Thread Cert.BprojIdeal.nD Cert.BprojIdeal.τ).loc Cert.BprojIdeal.main_v0)),
      θ_run (Cert.BprojIdeal.defs (F := Ideal)) (onTc (τ := Cert.BprojIdeal.τ) (Cert.BprojIdeal.main (F := Ideal))) ⟨m, fun _ => 0, g⟩ (fun r => ∀ c : Dev Cert.BprojIdeal.nD,
          r.2.mem ((c.tc : Thread Cert.BprojIdeal.nD Cert.BprojIdeal.τ).loc Cert.BprojIdeal.main_v0) = v0 c
          ∧ r.2.mem ((c.tc : Thread Cert.BprojIdeal.nD Cert.BprojIdeal.τ).loc Cert.BprojIdeal.main_arg0) = m ((c.tc : Thread Cert.BprojIdeal.nD Cert.BprojIdeal.τ).loc Cert.BprojIdeal.main_arg0)
          ∧ r.2.mem ((c.tc : Thread Cert.BprojIdeal.nD Cert.BprojIdeal.τ).loc Cert.BprojIdeal.main_arg1) = m ((c.tc : Thread Cert.BprojIdeal.nD Cert.BprojIdeal.τ).loc Cert.BprojIdeal.main_arg1))
      ∧ θ_run (Cert.BprojRefIdeal.defs (F := Ideal)) (onTc (τ := Cert.BprojRefIdeal.τ) (Cert.BprojRefIdeal.main (F := Ideal))) ⟨m', fun _ => 0, g'⟩ (fun r => ∀ c : Dev Cert.BprojRefIdeal.nD,
          r.2.mem ((c.tc : Thread Cert.BprojRefIdeal.nD Cert.BprojRefIdeal.τ).loc Cert.BprojRefIdeal.main_v4) = v0 c
          ∧ r.2.mem ((c.tc : Thread Cert.BprojRefIdeal.nD Cert.BprojRefIdeal.τ).loc Cert.BprojRefIdeal.main_arg0) = m' ((c.tc : Thread Cert.BprojRefIdeal.nD Cert.BprojRefIdeal.τ).loc Cert.BprojRefIdeal.main_arg0)
          ∧ r.2.mem ((c.tc : Thread Cert.BprojRefIdeal.nD Cert.BprojRefIdeal.τ).loc Cert.BprojRefIdeal.main_arg1) = m' ((c.tc : Thread Cert.BprojRefIdeal.nD Cert.BprojRefIdeal.τ).loc Cert.BprojRefIdeal.main_arg1))

def algebraic_BinIdeal_BinRefIdeal_pre_finite_bin [hBinIdeal : Cert.BinIdeal.Facts] [hBinRefIdeal : Cert.BinRefIdeal.Facts] [hPre_finite_bin : Cert.Pre_finite_bin.Facts] : Prop :=
  ∀ (m : (ℓ : Loc Cert.BinIdeal.nD Cert.BinIdeal.τ Cert.BinIdeal.sig) → Buf (Elt Ideal) ℓ) (g : Dev Cert.BinIdeal.nD → PrngReg)
    (m' : (ℓ : Loc Cert.BinRefIdeal.nD Cert.BinRefIdeal.τ Cert.BinRefIdeal.sig) → Buf (Elt Ideal) ℓ) (g' : Dev Cert.BinRefIdeal.nD → PrngReg), Pre_BinIdeal_finite_bin m →
    (∀ c : Dev Cert.BinIdeal.nD,
      m' ((c.tc : Thread Cert.BinRefIdeal.nD Cert.BinRefIdeal.τ).loc Cert.BinRefIdeal.main_arg0) = m ((c.tc : Thread Cert.BinIdeal.nD Cert.BinIdeal.τ).loc Cert.BinIdeal.main_arg0)
      ∧ m' ((c.tc : Thread Cert.BinRefIdeal.nD Cert.BinRefIdeal.τ).loc Cert.BinRefIdeal.main_arg1) = m ((c.tc : Thread Cert.BinIdeal.nD Cert.BinIdeal.τ).loc Cert.BinIdeal.main_arg1)
      ∧ m' ((c.tc : Thread Cert.BinRefIdeal.nD Cert.BinRefIdeal.τ).loc Cert.BinRefIdeal.main_arg2) = m ((c.tc : Thread Cert.BinIdeal.nD Cert.BinIdeal.τ).loc Cert.BinIdeal.main_arg2)
      ∧ m' ((c.tc : Thread Cert.BinRefIdeal.nD Cert.BinRefIdeal.τ).loc Cert.BinRefIdeal.main_arg3) = m ((c.tc : Thread Cert.BinIdeal.nD Cert.BinIdeal.τ).loc Cert.BinIdeal.main_arg3)
      ∧ m' ((c.tc : Thread Cert.BinRefIdeal.nD Cert.BinRefIdeal.τ).loc Cert.BinRefIdeal.main_arg4) = m ((c.tc : Thread Cert.BinIdeal.nD Cert.BinIdeal.τ).loc Cert.BinIdeal.main_arg4)
      ∧ m' ((c.tc : Thread Cert.BinRefIdeal.nD Cert.BinRefIdeal.τ).loc Cert.BinRefIdeal.main_arg5) = m ((c.tc : Thread Cert.BinIdeal.nD Cert.BinIdeal.τ).loc Cert.BinIdeal.main_arg5)) →
    ∃ (v0 : (c : Dev Cert.BinIdeal.nD) → Buf (Elt Ideal) ((c.tc : Thread Cert.BinIdeal.nD Cert.BinIdeal.τ).loc Cert.BinIdeal.main_v1_0)) (v1 : (c : Dev Cert.BinIdeal.nD) → Buf (Elt Ideal) ((c.tc : Thread Cert.BinIdeal.nD Cert.BinIdeal.τ).loc Cert.BinIdeal.main_v1_1)) (v2 : (c : Dev Cert.BinIdeal.nD) → Buf (Elt Ideal) ((c.tc : Thread Cert.BinIdeal.nD Cert.BinIdeal.τ).loc Cert.BinIdeal.main_v1_2)),
      θ_run (Cert.BinIdeal.defs (F := Ideal)) (onTc (τ := Cert.BinIdeal.τ) (Cert.BinIdeal.main (F := Ideal))) ⟨m, fun _ => 0, g⟩ (fun r => ∀ c : Dev Cert.BinIdeal.nD,
          r.2.mem ((c.tc : Thread Cert.BinIdeal.nD Cert.BinIdeal.τ).loc Cert.BinIdeal.main_v1_0) = v0 c
          ∧ r.2.mem ((c.tc : Thread Cert.BinIdeal.nD Cert.BinIdeal.τ).loc Cert.BinIdeal.main_v1_1) = v1 c
          ∧ r.2.mem ((c.tc : Thread Cert.BinIdeal.nD Cert.BinIdeal.τ).loc Cert.BinIdeal.main_v1_2) = v2 c
          ∧ r.2.mem ((c.tc : Thread Cert.BinIdeal.nD Cert.BinIdeal.τ).loc Cert.BinIdeal.main_arg0) = m ((c.tc : Thread Cert.BinIdeal.nD Cert.BinIdeal.τ).loc Cert.BinIdeal.main_arg0)
          ∧ r.2.mem ((c.tc : Thread Cert.BinIdeal.nD Cert.BinIdeal.τ).loc Cert.BinIdeal.main_arg1) = m ((c.tc : Thread Cert.BinIdeal.nD Cert.BinIdeal.τ).loc Cert.BinIdeal.main_arg1)
          ∧ r.2.mem ((c.tc : Thread Cert.BinIdeal.nD Cert.BinIdeal.τ).loc Cert.BinIdeal.main_arg2) = m ((c.tc : Thread Cert.BinIdeal.nD Cert.BinIdeal.τ).loc Cert.BinIdeal.main_arg2)
          ∧ r.2.mem ((c.tc : Thread Cert.BinIdeal.nD Cert.BinIdeal.τ).loc Cert.BinIdeal.main_arg3) = m ((c.tc : Thread Cert.BinIdeal.nD Cert.BinIdeal.τ).loc Cert.BinIdeal.main_arg3)
          ∧ r.2.mem ((c.tc : Thread Cert.BinIdeal.nD Cert.BinIdeal.τ).loc Cert.BinIdeal.main_arg4) = m ((c.tc : Thread Cert.BinIdeal.nD Cert.BinIdeal.τ).loc Cert.BinIdeal.main_arg4)
          ∧ r.2.mem ((c.tc : Thread Cert.BinIdeal.nD Cert.BinIdeal.τ).loc Cert.BinIdeal.main_arg5) = m ((c.tc : Thread Cert.BinIdeal.nD Cert.BinIdeal.τ).loc Cert.BinIdeal.main_arg5))
      ∧ θ_run (Cert.BinRefIdeal.defs (F := Ideal)) (onTc (τ := Cert.BinRefIdeal.τ) (Cert.BinRefIdeal.main (F := Ideal))) ⟨m', fun _ => 0, g'⟩ (fun r => ∀ c : Dev Cert.BinRefIdeal.nD,
          r.2.mem ((c.tc : Thread Cert.BinRefIdeal.nD Cert.BinRefIdeal.τ).loc Cert.BinRefIdeal.main_v43) = v0 c
          ∧ r.2.mem ((c.tc : Thread Cert.BinRefIdeal.nD Cert.BinRefIdeal.τ).loc Cert.BinRefIdeal.main_v44) = v1 c
          ∧ r.2.mem ((c.tc : Thread Cert.BinRefIdeal.nD Cert.BinRefIdeal.τ).loc Cert.BinRefIdeal.main_v45) = v2 c
          ∧ r.2.mem ((c.tc : Thread Cert.BinRefIdeal.nD Cert.BinRefIdeal.τ).loc Cert.BinRefIdeal.main_arg0) = m' ((c.tc : Thread Cert.BinRefIdeal.nD Cert.BinRefIdeal.τ).loc Cert.BinRefIdeal.main_arg0)
          ∧ r.2.mem ((c.tc : Thread Cert.BinRefIdeal.nD Cert.BinRefIdeal.τ).loc Cert.BinRefIdeal.main_arg1) = m' ((c.tc : Thread Cert.BinRefIdeal.nD Cert.BinRefIdeal.τ).loc Cert.BinRefIdeal.main_arg1)
          ∧ r.2.mem ((c.tc : Thread Cert.BinRefIdeal.nD Cert.BinRefIdeal.τ).loc Cert.BinRefIdeal.main_arg2) = m' ((c.tc : Thread Cert.BinRefIdeal.nD Cert.BinRefIdeal.τ).loc Cert.BinRefIdeal.main_arg2)
          ∧ r.2.mem ((c.tc : Thread Cert.BinRefIdeal.nD Cert.BinRefIdeal.τ).loc Cert.BinRefIdeal.main_arg3) = m' ((c.tc : Thread Cert.BinRefIdeal.nD Cert.BinRefIdeal.τ).loc Cert.BinRefIdeal.main_arg3)
          ∧ r.2.mem ((c.tc : Thread Cert.BinRefIdeal.nD Cert.BinRefIdeal.τ).loc Cert.BinRefIdeal.main_arg4) = m' ((c.tc : Thread Cert.BinRefIdeal.nD Cert.BinRefIdeal.τ).loc Cert.BinRefIdeal.main_arg4)
          ∧ r.2.mem ((c.tc : Thread Cert.BinRefIdeal.nD Cert.BinRefIdeal.τ).loc Cert.BinRefIdeal.main_arg5) = m' ((c.tc : Thread Cert.BinRefIdeal.nD Cert.BinRefIdeal.τ).loc Cert.BinRefIdeal.main_arg5))

def algebraic_SlotIdeal_SlotRefIdeal [hSlotIdeal : Cert.SlotIdeal.Facts] [hSlotRefIdeal : Cert.SlotRefIdeal.Facts] : Prop :=
  ∀ (m : (ℓ : Loc Cert.SlotIdeal.nD Cert.SlotIdeal.τ Cert.SlotIdeal.sig) → Buf (Elt Ideal) ℓ) (g : Dev Cert.SlotIdeal.nD → PrngReg)
    (m' : (ℓ : Loc Cert.SlotRefIdeal.nD Cert.SlotRefIdeal.τ Cert.SlotRefIdeal.sig) → Buf (Elt Ideal) ℓ) (g' : Dev Cert.SlotRefIdeal.nD → PrngReg), Pre_SlotIdeal m →
    (∀ c : Dev Cert.SlotIdeal.nD,
      m' ((c.tc : Thread Cert.SlotRefIdeal.nD Cert.SlotRefIdeal.τ).loc Cert.SlotRefIdeal.main_arg0) = m ((c.tc : Thread Cert.SlotIdeal.nD Cert.SlotIdeal.τ).loc Cert.SlotIdeal.main_arg0)
      ∧ m' ((c.tc : Thread Cert.SlotRefIdeal.nD Cert.SlotRefIdeal.τ).loc Cert.SlotRefIdeal.main_arg1) = m ((c.tc : Thread Cert.SlotIdeal.nD Cert.SlotIdeal.τ).loc Cert.SlotIdeal.main_arg1)) →
    ∃ (v0 : (c : Dev Cert.SlotIdeal.nD) → Buf (Elt Ideal) ((c.tc : Thread Cert.SlotIdeal.nD Cert.SlotIdeal.τ).loc Cert.SlotIdeal.main_v0)),
      θ_run (Cert.SlotIdeal.defs (F := Ideal)) (onTc (τ := Cert.SlotIdeal.τ) (Cert.SlotIdeal.main (F := Ideal))) ⟨m, fun _ => 0, g⟩ (fun r => ∀ c : Dev Cert.SlotIdeal.nD,
          r.2.mem ((c.tc : Thread Cert.SlotIdeal.nD Cert.SlotIdeal.τ).loc Cert.SlotIdeal.main_v0) = v0 c
          ∧ r.2.mem ((c.tc : Thread Cert.SlotIdeal.nD Cert.SlotIdeal.τ).loc Cert.SlotIdeal.main_arg0) = m ((c.tc : Thread Cert.SlotIdeal.nD Cert.SlotIdeal.τ).loc Cert.SlotIdeal.main_arg0)
          ∧ r.2.mem ((c.tc : Thread Cert.SlotIdeal.nD Cert.SlotIdeal.τ).loc Cert.SlotIdeal.main_arg1) = m ((c.tc : Thread Cert.SlotIdeal.nD Cert.SlotIdeal.τ).loc Cert.SlotIdeal.main_arg1))
      ∧ θ_run (Cert.SlotRefIdeal.defs (F := Ideal)) (onTc (τ := Cert.SlotRefIdeal.τ) (Cert.SlotRefIdeal.main (F := Ideal))) ⟨m', fun _ => 0, g'⟩ (fun r => ∀ c : Dev Cert.SlotRefIdeal.nD,
          r.2.mem ((c.tc : Thread Cert.SlotRefIdeal.nD Cert.SlotRefIdeal.τ).loc Cert.SlotRefIdeal.main_v4) = v0 c
          ∧ r.2.mem ((c.tc : Thread Cert.SlotRefIdeal.nD Cert.SlotRefIdeal.τ).loc Cert.SlotRefIdeal.main_arg0) = m' ((c.tc : Thread Cert.SlotRefIdeal.nD Cert.SlotRefIdeal.τ).loc Cert.SlotRefIdeal.main_arg0)
          ∧ r.2.mem ((c.tc : Thread Cert.SlotRefIdeal.nD Cert.SlotRefIdeal.τ).loc Cert.SlotRefIdeal.main_arg1) = m' ((c.tc : Thread Cert.SlotRefIdeal.nD Cert.SlotRefIdeal.τ).loc Cert.SlotRefIdeal.main_arg1))

def algebraic_SlotwIdeal_SlotwRefIdeal [hSlotwIdeal : Cert.SlotwIdeal.Facts] [hSlotwRefIdeal : Cert.SlotwRefIdeal.Facts] : Prop :=
  ∀ (m : (ℓ : Loc Cert.SlotwIdeal.nD Cert.SlotwIdeal.τ Cert.SlotwIdeal.sig) → Buf (Elt Ideal) ℓ) (g : Dev Cert.SlotwIdeal.nD → PrngReg)
    (m' : (ℓ : Loc Cert.SlotwRefIdeal.nD Cert.SlotwRefIdeal.τ Cert.SlotwRefIdeal.sig) → Buf (Elt Ideal) ℓ) (g' : Dev Cert.SlotwRefIdeal.nD → PrngReg), Pre_SlotwIdeal m →
    (∀ c : Dev Cert.SlotwIdeal.nD,
      m' ((c.tc : Thread Cert.SlotwRefIdeal.nD Cert.SlotwRefIdeal.τ).loc Cert.SlotwRefIdeal.main_arg0) = m ((c.tc : Thread Cert.SlotwIdeal.nD Cert.SlotwIdeal.τ).loc Cert.SlotwIdeal.main_arg0)
      ∧ m' ((c.tc : Thread Cert.SlotwRefIdeal.nD Cert.SlotwRefIdeal.τ).loc Cert.SlotwRefIdeal.main_arg1) = m ((c.tc : Thread Cert.SlotwIdeal.nD Cert.SlotwIdeal.τ).loc Cert.SlotwIdeal.main_arg1)) →
    ∃ (v0 : (c : Dev Cert.SlotwIdeal.nD) → Buf (Elt Ideal) ((c.tc : Thread Cert.SlotwIdeal.nD Cert.SlotwIdeal.τ).loc Cert.SlotwIdeal.main_v0)),
      θ_run (Cert.SlotwIdeal.defs (F := Ideal)) (onTc (τ := Cert.SlotwIdeal.τ) (Cert.SlotwIdeal.main (F := Ideal))) ⟨m, fun _ => 0, g⟩ (fun r => ∀ c : Dev Cert.SlotwIdeal.nD,
          r.2.mem ((c.tc : Thread Cert.SlotwIdeal.nD Cert.SlotwIdeal.τ).loc Cert.SlotwIdeal.main_v0) = v0 c
          ∧ r.2.mem ((c.tc : Thread Cert.SlotwIdeal.nD Cert.SlotwIdeal.τ).loc Cert.SlotwIdeal.main_arg0) = m ((c.tc : Thread Cert.SlotwIdeal.nD Cert.SlotwIdeal.τ).loc Cert.SlotwIdeal.main_arg0)
          ∧ r.2.mem ((c.tc : Thread Cert.SlotwIdeal.nD Cert.SlotwIdeal.τ).loc Cert.SlotwIdeal.main_arg1) = m ((c.tc : Thread Cert.SlotwIdeal.nD Cert.SlotwIdeal.τ).loc Cert.SlotwIdeal.main_arg1))
      ∧ θ_run (Cert.SlotwRefIdeal.defs (F := Ideal)) (onTc (τ := Cert.SlotwRefIdeal.τ) (Cert.SlotwRefIdeal.main (F := Ideal))) ⟨m', fun _ => 0, g'⟩ (fun r => ∀ c : Dev Cert.SlotwRefIdeal.nD,
          r.2.mem ((c.tc : Thread Cert.SlotwRefIdeal.nD Cert.SlotwRefIdeal.τ).loc Cert.SlotwRefIdeal.main_v4) = v0 c
          ∧ r.2.mem ((c.tc : Thread Cert.SlotwRefIdeal.nD Cert.SlotwRefIdeal.τ).loc Cert.SlotwRefIdeal.main_arg0) = m' ((c.tc : Thread Cert.SlotwRefIdeal.nD Cert.SlotwRefIdeal.τ).loc Cert.SlotwRefIdeal.main_arg0)
          ∧ r.2.mem ((c.tc : Thread Cert.SlotwRefIdeal.nD Cert.SlotwRefIdeal.τ).loc Cert.SlotwRefIdeal.main_arg1) = m' ((c.tc : Thread Cert.SlotwRefIdeal.nD Cert.SlotwRefIdeal.τ).loc Cert.SlotwRefIdeal.main_arg1))

def algebraic_SlotbIdeal_SlotbRefIdeal [hSlotbIdeal : Cert.SlotbIdeal.Facts] [hSlotbRefIdeal : Cert.SlotbRefIdeal.Facts] : Prop :=
  ∀ (m : (ℓ : Loc Cert.SlotbIdeal.nD Cert.SlotbIdeal.τ Cert.SlotbIdeal.sig) → Buf (Elt Ideal) ℓ) (g : Dev Cert.SlotbIdeal.nD → PrngReg)
    (m' : (ℓ : Loc Cert.SlotbRefIdeal.nD Cert.SlotbRefIdeal.τ Cert.SlotbRefIdeal.sig) → Buf (Elt Ideal) ℓ) (g' : Dev Cert.SlotbRefIdeal.nD → PrngReg), Pre_SlotbIdeal m →
    (∀ c : Dev Cert.SlotbIdeal.nD,
      m' ((c.tc : Thread Cert.SlotbRefIdeal.nD Cert.SlotbRefIdeal.τ).loc Cert.SlotbRefIdeal.main_arg0) = m ((c.tc : Thread Cert.SlotbIdeal.nD Cert.SlotbIdeal.τ).loc Cert.SlotbIdeal.main_arg0)
      ∧ m' ((c.tc : Thread Cert.SlotbRefIdeal.nD Cert.SlotbRefIdeal.τ).loc Cert.SlotbRefIdeal.main_arg1) = m ((c.tc : Thread Cert.SlotbIdeal.nD Cert.SlotbIdeal.τ).loc Cert.SlotbIdeal.main_arg1)
      ∧ m' ((c.tc : Thread Cert.SlotbRefIdeal.nD Cert.SlotbRefIdeal.τ).loc Cert.SlotbRefIdeal.main_arg2) = m ((c.tc : Thread Cert.SlotbIdeal.nD Cert.SlotbIdeal.τ).loc Cert.SlotbIdeal.main_arg2)) →
    ∃ (v0 : (c : Dev Cert.SlotbIdeal.nD) → Buf (Elt Ideal) ((c.tc : Thread Cert.SlotbIdeal.nD Cert.SlotbIdeal.τ).loc Cert.SlotbIdeal.main_v0)),
      θ_run (Cert.SlotbIdeal.defs (F := Ideal)) (onTc (τ := Cert.SlotbIdeal.τ) (Cert.SlotbIdeal.main (F := Ideal))) ⟨m, fun _ => 0, g⟩ (fun r => ∀ c : Dev Cert.SlotbIdeal.nD,
          r.2.mem ((c.tc : Thread Cert.SlotbIdeal.nD Cert.SlotbIdeal.τ).loc Cert.SlotbIdeal.main_v0) = v0 c
          ∧ r.2.mem ((c.tc : Thread Cert.SlotbIdeal.nD Cert.SlotbIdeal.τ).loc Cert.SlotbIdeal.main_arg0) = m ((c.tc : Thread Cert.SlotbIdeal.nD Cert.SlotbIdeal.τ).loc Cert.SlotbIdeal.main_arg0)
          ∧ r.2.mem ((c.tc : Thread Cert.SlotbIdeal.nD Cert.SlotbIdeal.τ).loc Cert.SlotbIdeal.main_arg1) = m ((c.tc : Thread Cert.SlotbIdeal.nD Cert.SlotbIdeal.τ).loc Cert.SlotbIdeal.main_arg1)
          ∧ r.2.mem ((c.tc : Thread Cert.SlotbIdeal.nD Cert.SlotbIdeal.τ).loc Cert.SlotbIdeal.main_arg2) = m ((c.tc : Thread Cert.SlotbIdeal.nD Cert.SlotbIdeal.τ).loc Cert.SlotbIdeal.main_arg2))
      ∧ θ_run (Cert.SlotbRefIdeal.defs (F := Ideal)) (onTc (τ := Cert.SlotbRefIdeal.τ) (Cert.SlotbRefIdeal.main (F := Ideal))) ⟨m', fun _ => 0, g'⟩ (fun r => ∀ c : Dev Cert.SlotbRefIdeal.nD,
          r.2.mem ((c.tc : Thread Cert.SlotbRefIdeal.nD Cert.SlotbRefIdeal.τ).loc Cert.SlotbRefIdeal.main_v6) = v0 c
          ∧ r.2.mem ((c.tc : Thread Cert.SlotbRefIdeal.nD Cert.SlotbRefIdeal.τ).loc Cert.SlotbRefIdeal.main_arg0) = m' ((c.tc : Thread Cert.SlotbRefIdeal.nD Cert.SlotbRefIdeal.τ).loc Cert.SlotbRefIdeal.main_arg0)
          ∧ r.2.mem ((c.tc : Thread Cert.SlotbRefIdeal.nD Cert.SlotbRefIdeal.τ).loc Cert.SlotbRefIdeal.main_arg1) = m' ((c.tc : Thread Cert.SlotbRefIdeal.nD Cert.SlotbRefIdeal.τ).loc Cert.SlotbRefIdeal.main_arg1)
          ∧ r.2.mem ((c.tc : Thread Cert.SlotbRefIdeal.nD Cert.SlotbRefIdeal.τ).loc Cert.SlotbRefIdeal.main_arg2) = m' ((c.tc : Thread Cert.SlotbRefIdeal.nD Cert.SlotbRefIdeal.τ).loc Cert.SlotbRefIdeal.main_arg2))

def Claim : Prop :=
  ∃ (hGmlp : Cert.Gmlp.Facts) (hGmlpIdeal : Cert.GmlpIdeal.Facts) (hGmlpRefIdeal : Cert.GmlpRefIdeal.Facts) (hMem : Cert.Mem.Facts) (hMemIdeal : Cert.MemIdeal.Facts) (hMemReferIdeal : Cert.MemReferIdeal.Facts) (hDown : Cert.Down.Facts) (hDownIdeal : Cert.DownIdeal.Facts) (hDownRefIdeal : Cert.DownRefIdeal.Facts) (hPair : Cert.Pair.Facts) (hPairIdeal : Cert.PairIdeal.Facts) (hPairRefIdeal : Cert.PairRefIdeal.Facts) (hUp : Cert.Up.Facts) (hUpIdeal : Cert.UpIdeal.Facts) (hUpRefIdeal : Cert.UpRefIdeal.Facts) (hGate : Cert.Gate.Facts) (hGateIdeal : Cert.GateIdeal.Facts) (hGateRefIdeal : Cert.GateRefIdeal.Facts) (hJoin : Cert.Join.Facts) (hJoinIdeal : Cert.JoinIdeal.Facts) (hJoinRefIdeal : Cert.JoinRefIdeal.Facts) (hProj : Cert.Proj.Facts) (hProjIdeal : Cert.ProjIdeal.Facts) (hProjRefIdeal : Cert.ProjRefIdeal.Facts) (hBlend : Cert.Blend.Facts) (hBlendIdeal : Cert.BlendIdeal.Facts) (hBlendRefIdeal : Cert.BlendRefIdeal.Facts) (hDout : Cert.Dout.Facts) (hDoutIdeal : Cert.DoutIdeal.Facts) (hDoutRefIdeal : Cert.DoutRefIdeal.Facts) (hOuttok : Cert.Outtok.Facts) (hOuttokIdeal : Cert.OuttokIdeal.Facts) (hOuttokRefIdeal : Cert.OuttokRefIdeal.Facts) (hOutmem : Cert.Outmem.Facts) (hOutmemIdeal : Cert.OutmemIdeal.Facts) (hOutmemRefIdeal : Cert.OutmemRefIdeal.Facts) (hIntok : Cert.Intok.Facts) (hIntokIdeal : Cert.IntokIdeal.Facts) (hIntokRefIdeal : Cert.IntokRefIdeal.Facts) (hInmem : Cert.Inmem.Facts) (hInmemIdeal : Cert.InmemIdeal.Facts) (hInmemRefIdeal : Cert.InmemRefIdeal.Facts) (hDin : Cert.Din.Facts) (hDinIdeal : Cert.DinIdeal.Facts) (hDinRefIdeal : Cert.DinRefIdeal.Facts) (hGated : Cert.Gated.Facts) (hGatedIdeal : Cert.GatedIdeal.Facts) (hGatedRefIdeal : Cert.GatedRefIdeal.Facts) (hRecall : Cert.Recall.Facts) (hRecallIdeal : Cert.RecallIdeal.Facts) (hRecallRefIdeal : Cert.RecallRefIdeal.Facts) (hKv : Cert.Kv.Facts) (hKvIdeal : Cert.KvIdeal.Facts) (hKvRefIdeal : Cert.KvRefIdeal.Facts) (hKin : Cert.Kin.Facts) (hKinIdeal : Cert.KinIdeal.Facts) (hKinRefIdeal : Cert.KinRefIdeal.Facts) (hBtok : Cert.Btok.Facts) (hBtokIdeal : Cert.BtokIdeal.Facts) (hBtokRefIdeal : Cert.BtokRefIdeal.Facts) (hBproj : Cert.Bproj.Facts) (hBprojIdeal : Cert.BprojIdeal.Facts) (hBprojRefIdeal : Cert.BprojRefIdeal.Facts) (hBin : Cert.Bin.Facts) (hBinIdeal : Cert.BinIdeal.Facts) (hBinRefIdeal : Cert.BinRefIdeal.Facts) (hSlot : Cert.Slot.Facts) (hSlotIdeal : Cert.SlotIdeal.Facts) (hSlotRefIdeal : Cert.SlotRefIdeal.Facts) (hSlotw : Cert.Slotw.Facts) (hSlotwIdeal : Cert.SlotwIdeal.Facts) (hSlotwRefIdeal : Cert.SlotwRefIdeal.Facts) (hSlotb : Cert.Slotb.Facts) (hSlotbIdeal : Cert.SlotbIdeal.Facts) (hSlotbRefIdeal : Cert.SlotbRefIdeal.Facts) (hPre_finite_gmlp : Cert.Pre_finite_gmlp.Facts) (hPre_finite_mem : Cert.Pre_finite_mem.Facts) (hPre_finite_down : Cert.Pre_finite_down.Facts) (hPre_finite_up : Cert.Pre_finite_up.Facts) (hPre_finite_din : Cert.Pre_finite_din.Facts) (hPre_finite_recall : Cert.Pre_finite_recall.Facts) (hPre_finite_kin : Cert.Pre_finite_kin.Facts) (hPre_finite_bin : Cert.Pre_finite_bin.Facts),
    quiescent_Gmlp (hGmlp := hGmlp)
    ∧ quiescent_GmlpIdeal (hGmlpIdeal := hGmlpIdeal)
    ∧ quiescent_GmlpIdeal_pre_finite_gmlp (hGmlpIdeal := hGmlpIdeal) (hPre_finite_gmlp := hPre_finite_gmlp)
    ∧ quiescent_GmlpRefIdeal (hGmlpRefIdeal := hGmlpRefIdeal)
    ∧ quiescent_GmlpRefIdeal_pre_finite_gmlp (hGmlpRefIdeal := hGmlpRefIdeal) (hPre_finite_gmlp := hPre_finite_gmlp)
    ∧ quiescent_Mem (hMem := hMem)
    ∧ quiescent_MemIdeal (hMemIdeal := hMemIdeal)
    ∧ quiescent_MemIdeal_pre_finite_mem (hMemIdeal := hMemIdeal) (hPre_finite_mem := hPre_finite_mem)
    ∧ quiescent_MemReferIdeal (hMemReferIdeal := hMemReferIdeal)
    ∧ quiescent_MemReferIdeal_pre_finite_mem (hMemReferIdeal := hMemReferIdeal) (hPre_finite_mem := hPre_finite_mem)
    ∧ quiescent_Down (hDown := hDown)
    ∧ quiescent_DownIdeal (hDownIdeal := hDownIdeal)
    ∧ quiescent_DownIdeal_pre_finite_down (hDownIdeal := hDownIdeal) (hPre_finite_down := hPre_finite_down)
    ∧ quiescent_DownRefIdeal (hDownRefIdeal := hDownRefIdeal)
    ∧ quiescent_DownRefIdeal_pre_finite_down (hDownRefIdeal := hDownRefIdeal) (hPre_finite_down := hPre_finite_down)
    ∧ quiescent_Pair (hPair := hPair)
    ∧ quiescent_PairIdeal (hPairIdeal := hPairIdeal)
    ∧ quiescent_PairRefIdeal (hPairRefIdeal := hPairRefIdeal)
    ∧ quiescent_Up (hUp := hUp)
    ∧ quiescent_UpIdeal (hUpIdeal := hUpIdeal)
    ∧ quiescent_UpIdeal_pre_finite_up (hUpIdeal := hUpIdeal) (hPre_finite_up := hPre_finite_up)
    ∧ quiescent_UpRefIdeal (hUpRefIdeal := hUpRefIdeal)
    ∧ quiescent_UpRefIdeal_pre_finite_up (hUpRefIdeal := hUpRefIdeal) (hPre_finite_up := hPre_finite_up)
    ∧ quiescent_Gate (hGate := hGate)
    ∧ quiescent_GateIdeal (hGateIdeal := hGateIdeal)
    ∧ quiescent_GateRefIdeal (hGateRefIdeal := hGateRefIdeal)
    ∧ quiescent_Join (hJoin := hJoin)
    ∧ quiescent_JoinIdeal (hJoinIdeal := hJoinIdeal)
    ∧ quiescent_JoinRefIdeal (hJoinRefIdeal := hJoinRefIdeal)
    ∧ quiescent_Proj (hProj := hProj)
    ∧ quiescent_ProjIdeal (hProjIdeal := hProjIdeal)
    ∧ quiescent_ProjRefIdeal (hProjRefIdeal := hProjRefIdeal)
    ∧ quiescent_Blend (hBlend := hBlend)
    ∧ quiescent_BlendIdeal (hBlendIdeal := hBlendIdeal)
    ∧ quiescent_BlendRefIdeal (hBlendRefIdeal := hBlendRefIdeal)
    ∧ quiescent_Dout (hDout := hDout)
    ∧ quiescent_DoutIdeal (hDoutIdeal := hDoutIdeal)
    ∧ quiescent_DoutRefIdeal (hDoutRefIdeal := hDoutRefIdeal)
    ∧ quiescent_Outtok (hOuttok := hOuttok)
    ∧ quiescent_OuttokIdeal (hOuttokIdeal := hOuttokIdeal)
    ∧ quiescent_OuttokRefIdeal (hOuttokRefIdeal := hOuttokRefIdeal)
    ∧ quiescent_Outmem (hOutmem := hOutmem)
    ∧ quiescent_OutmemIdeal (hOutmemIdeal := hOutmemIdeal)
    ∧ quiescent_OutmemRefIdeal (hOutmemRefIdeal := hOutmemRefIdeal)
    ∧ quiescent_Intok (hIntok := hIntok)
    ∧ quiescent_IntokIdeal (hIntokIdeal := hIntokIdeal)
    ∧ quiescent_IntokRefIdeal (hIntokRefIdeal := hIntokRefIdeal)
    ∧ quiescent_Inmem (hInmem := hInmem)
    ∧ quiescent_InmemIdeal (hInmemIdeal := hInmemIdeal)
    ∧ quiescent_InmemRefIdeal (hInmemRefIdeal := hInmemRefIdeal)
    ∧ quiescent_Din (hDin := hDin)
    ∧ quiescent_DinIdeal (hDinIdeal := hDinIdeal)
    ∧ quiescent_DinIdeal_pre_finite_din (hDinIdeal := hDinIdeal) (hPre_finite_din := hPre_finite_din)
    ∧ quiescent_DinRefIdeal (hDinRefIdeal := hDinRefIdeal)
    ∧ quiescent_DinRefIdeal_pre_finite_din (hDinRefIdeal := hDinRefIdeal) (hPre_finite_din := hPre_finite_din)
    ∧ quiescent_Gated (hGated := hGated)
    ∧ quiescent_GatedIdeal (hGatedIdeal := hGatedIdeal)
    ∧ quiescent_GatedRefIdeal (hGatedRefIdeal := hGatedRefIdeal)
    ∧ quiescent_Recall (hRecall := hRecall)
    ∧ quiescent_RecallIdeal (hRecallIdeal := hRecallIdeal)
    ∧ quiescent_RecallIdeal_pre_finite_recall (hRecallIdeal := hRecallIdeal) (hPre_finite_recall := hPre_finite_recall)
    ∧ quiescent_RecallRefIdeal (hRecallRefIdeal := hRecallRefIdeal)
    ∧ quiescent_RecallRefIdeal_pre_finite_recall (hRecallRefIdeal := hRecallRefIdeal) (hPre_finite_recall := hPre_finite_recall)
    ∧ quiescent_Kv (hKv := hKv)
    ∧ quiescent_KvIdeal (hKvIdeal := hKvIdeal)
    ∧ quiescent_KvRefIdeal (hKvRefIdeal := hKvRefIdeal)
    ∧ quiescent_Kin (hKin := hKin)
    ∧ quiescent_KinIdeal (hKinIdeal := hKinIdeal)
    ∧ quiescent_KinIdeal_pre_finite_kin (hKinIdeal := hKinIdeal) (hPre_finite_kin := hPre_finite_kin)
    ∧ quiescent_KinRefIdeal (hKinRefIdeal := hKinRefIdeal)
    ∧ quiescent_KinRefIdeal_pre_finite_kin (hKinRefIdeal := hKinRefIdeal) (hPre_finite_kin := hPre_finite_kin)
    ∧ quiescent_Btok (hBtok := hBtok)
    ∧ quiescent_BtokIdeal (hBtokIdeal := hBtokIdeal)
    ∧ quiescent_BtokRefIdeal (hBtokRefIdeal := hBtokRefIdeal)
    ∧ quiescent_Bproj (hBproj := hBproj)
    ∧ quiescent_BprojIdeal (hBprojIdeal := hBprojIdeal)
    ∧ quiescent_BprojRefIdeal (hBprojRefIdeal := hBprojRefIdeal)
    ∧ quiescent_Bin (hBin := hBin)
    ∧ quiescent_BinIdeal (hBinIdeal := hBinIdeal)
    ∧ quiescent_BinIdeal_pre_finite_bin (hBinIdeal := hBinIdeal) (hPre_finite_bin := hPre_finite_bin)
    ∧ quiescent_BinRefIdeal (hBinRefIdeal := hBinRefIdeal)
    ∧ quiescent_BinRefIdeal_pre_finite_bin (hBinRefIdeal := hBinRefIdeal) (hPre_finite_bin := hPre_finite_bin)
    ∧ quiescent_Slot (hSlot := hSlot)
    ∧ quiescent_SlotIdeal (hSlotIdeal := hSlotIdeal)
    ∧ quiescent_SlotRefIdeal (hSlotRefIdeal := hSlotRefIdeal)
    ∧ quiescent_Slotw (hSlotw := hSlotw)
    ∧ quiescent_SlotwIdeal (hSlotwIdeal := hSlotwIdeal)
    ∧ quiescent_SlotwRefIdeal (hSlotwRefIdeal := hSlotwRefIdeal)
    ∧ quiescent_Slotb (hSlotb := hSlotb)
    ∧ quiescent_SlotbIdeal (hSlotbIdeal := hSlotbIdeal)
    ∧ quiescent_SlotbRefIdeal (hSlotbRefIdeal := hSlotbRefIdeal)
    ∧ preserves_Gmlp_GmlpIdeal
    ∧ preserves_Mem_MemIdeal
    ∧ preserves_Down_DownIdeal
    ∧ preserves_Pair_PairIdeal
    ∧ preserves_Up_UpIdeal
    ∧ preserves_Gate_GateIdeal
    ∧ preserves_Join_JoinIdeal
    ∧ preserves_Proj_ProjIdeal
    ∧ preserves_Blend_BlendIdeal
    ∧ preserves_Dout_DoutIdeal
    ∧ preserves_Outtok_OuttokIdeal
    ∧ preserves_Outmem_OutmemIdeal
    ∧ preserves_Intok_IntokIdeal
    ∧ preserves_Inmem_InmemIdeal
    ∧ preserves_Din_DinIdeal
    ∧ preserves_Gated_GatedIdeal
    ∧ preserves_Recall_RecallIdeal
    ∧ preserves_Kv_KvIdeal
    ∧ preserves_Kin_KinIdeal
    ∧ preserves_Btok_BtokIdeal
    ∧ preserves_Bproj_BprojIdeal
    ∧ preserves_Bin_BinIdeal
    ∧ preserves_Slot_SlotIdeal
    ∧ preserves_Slotw_SlotwIdeal
    ∧ preserves_Slotb_SlotbIdeal
    ∧ algebraic_GmlpIdeal_GmlpRefIdeal_pre_finite_gmlp (hGmlpIdeal := hGmlpIdeal) (hGmlpRefIdeal := hGmlpRefIdeal) (hPre_finite_gmlp := hPre_finite_gmlp)
    ∧ algebraic_MemIdeal_MemReferIdeal_pre_finite_mem (hMemIdeal := hMemIdeal) (hMemReferIdeal := hMemReferIdeal) (hPre_finite_mem := hPre_finite_mem)
    ∧ algebraic_DownIdeal_DownRefIdeal_pre_finite_down (hDownIdeal := hDownIdeal) (hDownRefIdeal := hDownRefIdeal) (hPre_finite_down := hPre_finite_down)
    ∧ algebraic_PairIdeal_PairRefIdeal (hPairIdeal := hPairIdeal) (hPairRefIdeal := hPairRefIdeal)
    ∧ algebraic_UpIdeal_UpRefIdeal_pre_finite_up (hUpIdeal := hUpIdeal) (hUpRefIdeal := hUpRefIdeal) (hPre_finite_up := hPre_finite_up)
    ∧ algebraic_GateIdeal_GateRefIdeal (hGateIdeal := hGateIdeal) (hGateRefIdeal := hGateRefIdeal)
    ∧ algebraic_JoinIdeal_JoinRefIdeal (hJoinIdeal := hJoinIdeal) (hJoinRefIdeal := hJoinRefIdeal)
    ∧ algebraic_ProjIdeal_ProjRefIdeal (hProjIdeal := hProjIdeal) (hProjRefIdeal := hProjRefIdeal)
    ∧ algebraic_BlendIdeal_BlendRefIdeal (hBlendIdeal := hBlendIdeal) (hBlendRefIdeal := hBlendRefIdeal)
    ∧ algebraic_DoutIdeal_DoutRefIdeal (hDoutIdeal := hDoutIdeal) (hDoutRefIdeal := hDoutRefIdeal)
    ∧ algebraic_OuttokIdeal_OuttokRefIdeal (hOuttokIdeal := hOuttokIdeal) (hOuttokRefIdeal := hOuttokRefIdeal)
    ∧ algebraic_OutmemIdeal_OutmemRefIdeal (hOutmemIdeal := hOutmemIdeal) (hOutmemRefIdeal := hOutmemRefIdeal)
    ∧ algebraic_IntokIdeal_IntokRefIdeal (hIntokIdeal := hIntokIdeal) (hIntokRefIdeal := hIntokRefIdeal)
    ∧ algebraic_InmemIdeal_InmemRefIdeal (hInmemIdeal := hInmemIdeal) (hInmemRefIdeal := hInmemRefIdeal)
    ∧ algebraic_DinIdeal_DinRefIdeal_pre_finite_din (hDinIdeal := hDinIdeal) (hDinRefIdeal := hDinRefIdeal) (hPre_finite_din := hPre_finite_din)
    ∧ algebraic_GatedIdeal_GatedRefIdeal (hGatedIdeal := hGatedIdeal) (hGatedRefIdeal := hGatedRefIdeal)
    ∧ algebraic_RecallIdeal_RecallRefIdeal_pre_finite_recall (hRecallIdeal := hRecallIdeal) (hRecallRefIdeal := hRecallRefIdeal) (hPre_finite_recall := hPre_finite_recall)
    ∧ algebraic_KvIdeal_KvRefIdeal (hKvIdeal := hKvIdeal) (hKvRefIdeal := hKvRefIdeal)
    ∧ algebraic_KinIdeal_KinRefIdeal_pre_finite_kin (hKinIdeal := hKinIdeal) (hKinRefIdeal := hKinRefIdeal) (hPre_finite_kin := hPre_finite_kin)
    ∧ algebraic_BtokIdeal_BtokRefIdeal (hBtokIdeal := hBtokIdeal) (hBtokRefIdeal := hBtokRefIdeal)
    ∧ algebraic_BprojIdeal_BprojRefIdeal (hBprojIdeal := hBprojIdeal) (hBprojRefIdeal := hBprojRefIdeal)
    ∧ algebraic_BinIdeal_BinRefIdeal_pre_finite_bin (hBinIdeal := hBinIdeal) (hBinRefIdeal := hBinRefIdeal) (hPre_finite_bin := hPre_finite_bin)
    ∧ algebraic_SlotIdeal_SlotRefIdeal (hSlotIdeal := hSlotIdeal) (hSlotRefIdeal := hSlotRefIdeal)
    ∧ algebraic_SlotwIdeal_SlotwRefIdeal (hSlotwIdeal := hSlotwIdeal) (hSlotwRefIdeal := hSlotwRefIdeal)
    ∧ algebraic_SlotbIdeal_SlotbRefIdeal (hSlotbIdeal := hSlotbIdeal) (hSlotbRefIdeal := hSlotbRefIdeal)
-- ==== Pre_finite_bin.lean ====
abbrev S8192x768 : Shape := ⟨2, ![8192, 768]⟩
abbrev S8192x256 : Shape := ⟨2, ![8192, 256]⟩
abbrev S2x1024x1024 : Shape := ⟨3, ![2, 1024, 1024]⟩
abbrev S8192x1024 : Shape := ⟨2, ![8192, 1024]⟩
abbrev S1024 : Shape := ⟨1, ![1024]⟩
abbrev S_ : Shape := ⟨0, ![]⟩

class Facts : Prop where
  bcast_S_S8192x768 : S_.BroadcastsInDim S8192x768 (![] : Fin 0 → Fin S8192x768.rank)
  bcast_S_S8192x256 : S_.BroadcastsInDim S8192x256 (![] : Fin 0 → Fin S8192x256.rank)
  bcast_S_S2x1024x1024 : S_.BroadcastsInDim S2x1024x1024 (![] : Fin 0 → Fin S2x1024x1024.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x768 .f32) (main_arg1 : FVec F S8192x256 .bf16) (main_arg2 : FVec F S2x1024x1024 .bf16) (main_arg3 : FVec F S8192x1024 .f32) (main_arg4 : FVec F S8192x1024 .f32) (main_arg5 : FVec F S1024 .f32) : IVec S8192x768 1 × IVec S8192x256 1 × IVec S2x1024x1024 1 × IVec S8192x1024 1 × IVec S8192x1024 1 × IVec S1024 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_v3 : FVec F S8192x256 .bf16 := Host.absf main_arg1
  let main_cst_0 : FVec F S_ .bf16 := constant S_ .bf16 0x7F80#16
  let main_v4 : FVec F S8192x256 .bf16 := broadcastInDim S8192x256 ![] bcast_S_S8192x256 main_cst_0
  let main_v5 : IVec S8192x256 1 := cmpf .olt main_v3 main_v4
  let main_v6 : FVec F S2x1024x1024 .bf16 := Host.absf main_arg2
  let main_cst_1 : FVec F S_ .bf16 := constant S_ .bf16 0x7F80#16
  let main_v7 : FVec F S2x1024x1024 .bf16 := broadcastInDim S2x1024x1024 ![] bcast_S_S2x1024x1024 main_cst_1
  let main_v8 : IVec S2x1024x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite_din.lean ====
abbrev S8192x1536 : Shape := ⟨2, ![8192, 1536]⟩
abbrev S8192x256 : Shape := ⟨2, ![8192, 256]⟩
abbrev S2x1024x1792 : Shape := ⟨3, ![2, 1024, 1792]⟩
abbrev S8192x1024 : Shape := ⟨2, ![8192, 1024]⟩
abbrev S1024 : Shape := ⟨1, ![1024]⟩
abbrev S_ : Shape := ⟨0, ![]⟩

class Facts : Prop where
  bcast_S_S8192x1536 : S_.BroadcastsInDim S8192x1536 (![] : Fin 0 → Fin S8192x1536.rank)
  bcast_S_S8192x256 : S_.BroadcastsInDim S8192x256 (![] : Fin 0 → Fin S8192x256.rank)
  bcast_S_S2x1024x1792 : S_.BroadcastsInDim S2x1024x1792 (![] : Fin 0 → Fin S2x1024x1792.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1536 .bf16) (main_arg1 : FVec F S8192x256 .bf16) (main_arg2 : FVec F S2x1024x1792 .bf16) (main_arg3 : FVec F S8192x1024 .f32) (main_arg4 : FVec F S8192x1024 .f32) (main_arg5 : FVec F S1024 .f32) : IVec S8192x1536 1 × IVec S8192x256 1 × IVec S2x1024x1792 1 × IVec S8192x1024 1 × IVec S8192x1024 1 × IVec S1024 1 :=
  let main_v0 : FVec F S8192x1536 .bf16 := Host.absf main_arg0
  let main_cst : FVec F S_ .bf16 := constant S_ .bf16 0x7F80#16
  let main_v1 : FVec F S8192x1536 .bf16 := broadcastInDim S8192x1536 ![] bcast_S_S8192x1536 main_cst
  let main_v2 : IVec S8192x1536 1 := cmpf .olt main_v0 main_v1
  let main_v3 : FVec F S8192x256 .bf16 := Host.absf main_arg1
  let main_cst_0 : FVec F S_ .bf16 := constant S_ .bf16 0x7F80#16
  let main_v4 : FVec F S8192x256 .bf16 := broadcastInDim S8192x256 ![] bcast_S_S8192x256 main_cst_0
  let main_v5 : IVec S8192x256 1 := cmpf .olt main_v3 main_v4
  let main_v6 : FVec F S2x1024x1792 .bf16 := Host.absf main_arg2
  let main_cst_1 : FVec F S_ .bf16 := constant S_ .bf16 0x7F80#16
  let main_v7 : FVec F S2x1024x1792 .bf16 := broadcastInDim S2x1024x1792 ![] bcast_S_S2x1024x1792 main_cst_1
  let main_v8 : IVec S2x1024x1792 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite_down.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) : IVec S8192x1024 1 × IVec S2816x1024 1 × IVec S8192x2816 1 × IVec S8192x2816 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S8192x2816 .bf16 := Host.absf main_arg2
  let main_cst_1 : FVec F S_ .bf16 := constant S_ .bf16 0x7F80#16
  let main_v7 : FVec F S8192x2816 .bf16 := broadcastInDim S8192x2816 ![] bcast_S_S8192x2816 main_cst_1
  let main_v8 : IVec S8192x2816 1 := cmpf .olt main_v6 main_v7
  let main_v9 : FVec F S8192x2816 .bf16 := Host.absf main_arg3
  let main_cst_2 : FVec F S_ .bf16 := constant S_ .bf16 0x7F80#16
  let main_v10 : FVec F S8192x2816 .bf16 := broadcastInDim S8192x2816 ![] bcast_S_S8192x2816 main_cst_2
  let main_v11 : IVec S8192x2816 1 := cmpf .olt main_v9 main_v10
  (main_v2, main_v5, main_v8, main_v11)
-- ==== Pre_finite_gmlp.lean ====
abbrev S8192x1792 : Shape := ⟨2, ![8192, 1792]⟩
abbrev S8192x1024 : Shape := ⟨2, ![8192, 1024]⟩
abbrev S768 : Shape := ⟨1, ![768]⟩
abbrev S6x128x128 : Shape := ⟨3, ![6, 128, 128]⟩
abbrev S6x128 : Shape := ⟨2, ![6, 128]⟩
abbrev S_ : Shape := ⟨0, ![]⟩

class Facts : Prop where
  bcast_S_S8192x1792 : S_.BroadcastsInDim S8192x1792 (![] : Fin 0 → Fin S8192x1792.rank)
  bcast_S_S8192x1024 : S_.BroadcastsInDim S8192x1024 (![] : Fin 0 → Fin S8192x1024.rank)
  bcast_S_S768 : S_.BroadcastsInDim S768 (![] : Fin 0 → Fin S768.rank)
  bcast_S_S6x128x128 : S_.BroadcastsInDim S6x128x128 (![] : Fin 0 → Fin S6x128x128.rank)
  bcast_S_S6x128 : S_.BroadcastsInDim S6x128 (![] : Fin 0 → Fin S6x128.rank)

variable [Facts]

def fn {F : FTy → Type} [FloatOps F] (main_arg0 : FVec F S8192x1792 .f32) (main_arg1 : FVec F S8192x1024 .f32) (main_arg2 : FVec F S768 .f32) (main_arg3 : FVec F S6x128x128 .f32) (main_arg4 : FVec F S6x128 .f32) : IVec S8192x1792 1 × IVec S8192x1024 1 × IVec S768 1 × IVec S6x128x128 1 × IVec S6x128 1 :=
  let main_v0 : FVec F S8192x1792 .f32 := Host.absf main_arg0
  let main_cst : FVec F S_ .f32 := constant S_ .f32 0x7F800000#32
  let main_v1 : FVec F S8192x1792 .f32 := broadcastInDim S8192x1792 ![] bcast_S_S8192x1792 main_cst
  let main_v2 : IVec S8192x1792 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S768 .f32 := Host.absf main_arg2
  let main_cst_1 : FVec F S_ .f32 := constant S_ .f32 0x7F800000#32
  let main_v7 : FVec F S768 .f32 := broadcastInDim S768 ![] bcast_S_S768 main_cst_1
  let main_v8 : IVec S768 1 := cmpf .olt main_v6 main_v7
  let main_v9 : FVec F S6x128x128 .f32 := Host.absf main_arg3
  let main_cst_2 : FVec F S_ .f32 := constant S_ .f32 0x7F800000#32
  let main_v10 : FVec F S6x128x128 .f32 := broadcastInDim S6x128x128 ![] bcast_S_S6x128x128 main_cst_2
  let main_v11 : IVec S6x128x128 1 := cmpf .olt main_v9 main_v10
  let main_v12 : FVec F S6x128 .f32 := Host.absf main_arg4
  let main_cst_3 : FVec F S_ .f32 := constant S_ .f32 0x7F800000#32
  let main_v13 : FVec F S6x128 .f32 := broadcastInDim S6x128 ![] bcast_S_S6x128 main_cst_3
  let main_v14 : IVec S6x128 1 := cmpf .olt main_v12 main_v13
  (main_v2, main_v5, main_v8, main_v11, main_v14)
-- ==== Pre_finite_kin.lean ====
abbrev S8192x768 : Shape := ⟨2, ![8192, 768]⟩
abbrev S1024x1536 : Shape := ⟨2, ![1024, 1536]⟩
abbrev S8192x1024 : Shape := ⟨2, ![8192, 1024]⟩
abbrev S1024 : Shape := ⟨1, ![1024]⟩
abbrev S_ : Shape := ⟨0, ![]⟩

class Facts : Prop where
  bcast_S_S8192x768 : S_.BroadcastsInDim S8192x768 (![] : Fin 0 → Fin S8192x768.rank)
  bcast_S_S1024x1536 : S_.BroadcastsInDim S1024x1536 (![] : Fin 0 → Fin S1024x1536.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x768 .f32) (main_arg1 : FVec F S8192x768 .f32) (main_arg2 : FVec F S1024x1536 .bf16) (main_arg3 : FVec F S8192x1024 .f32) (main_arg4 : FVec F S8192x1024 .f32) (main_arg5 : FVec F S1024 .f32) : IVec S8192x768 1 × IVec S8192x768 1 × IVec S1024x1536 1 × IVec S8192x1024 1 × IVec S8192x1024 1 × IVec S1024 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_v3 : FVec F S8192x768 .f32 := Host.absf main_arg1
  let main_cst_0 : FVec F S_ .f32 := constant S_ .f32 0x7F800000#32
  let main_v4 : FVec F S8192x768 .f32 := broadcastInDim S8192x768 ![] bcast_S_S8192x768 main_cst_0
  let main_v5 : IVec S8192x768 1 := cmpf .olt main_v3 main_v4
  let main_v6 : FVec F S1024x1536 .bf16 := Host.absf main_arg2
  let main_cst_1 : FVec F S_ .bf16 := constant S_ .bf16 0x7F80#16
  let main_v7 : FVec F S1024x1536 .bf16 := broadcastInDim S1024x1536 ![] bcast_S_S1024x1536 main_cst_1
  let main_v8 : IVec S1024x1536 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite_mem.lean ====
abbrev S8192x1792 : Shape := ⟨2, ![8192, 1792]⟩
abbrev S256x512 : Shape := ⟨2, ![256, 512]⟩
abbrev S8192x1024 : Shape := ⟨2, ![8192, 1024]⟩
abbrev S_ : Shape := ⟨0, ![]⟩

class Facts : Prop where
  bcast_S_S8192x1792 : S_.BroadcastsInDim S8192x1792 (![] : Fin 0 → Fin S8192x1792.rank)
  bcast_S_S256x512 : S_.BroadcastsInDim S256x512 (![] : Fin 0 → Fin S256x512.rank)
  bcast_S_S8192x1024 : S_.BroadcastsInDim S8192x1024 (![] : Fin 0 → Fin S8192x1024.rank)

variable [Facts]

def fn {F : FTy → Type} [FloatOps F] (main_arg0 : FVec F S8192x1792 .f32) (main_arg1 : FVec F S256x512 .f32) (main_arg2 : FVec F S8192x1024 .f32) : IVec S8192x1792 1 × IVec S256x512 1 × IVec S8192x1024 1 :=
  let main_v0 : FVec F S8192x1792 .f32 := Host.absf main_arg0
  let main_cst : FVec F S_ .f32 := constant S_ .f32 0x7F800000#32
  let main_v1 : FVec F S8192x1792 .f32 := broadcastInDim S8192x1792 ![] bcast_S_S8192x1792 main_cst
  let main_v2 : IVec S8192x1792 1 := cmpf .olt main_v0 main_v1
  let main_v3 : FVec F S256x512 .f32 := Host.absf main_arg1
  let main_cst_0 : FVec F S_ .f32 := constant S_ .f32 0x7F800000#32
  let main_v4 : FVec F S256x512 .f32 := broadcastInDim S256x512 ![] bcast_S_S256x512 main_cst_0
  let main_v5 : IVec S256x512 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite_recall.lean ====
abbrev S8192x1792 : Shape := ⟨2, ![8192, 1792]⟩
abbrev S256x512 : Shape := ⟨2, ![256, 512]⟩
abbrev S_ : Shape := ⟨0, ![]⟩

class Facts : Prop where
  bcast_S_S8192x1792 : S_.BroadcastsInDim S8192x1792 (![] : Fin 0 → Fin S8192x1792.rank)
  bcast_S_S256x512 : S_.BroadcastsInDim S256x512 (![] : Fin 0 → Fin S256x512.rank)

variable [Facts]

def fn {F : FTy → Type} [FloatOps F] (main_arg0 : FVec F S8192x1792 .f32) (main_arg1 : FVec F S256x512 .f32) : IVec S8192x1792 1 × IVec S256x512 1 :=
  let main_v0 : FVec F S8192x1792 .f32 := Host.absf main_arg0
  let main_cst : FVec F S_ .f32 := constant S_ .f32 0x7F800000#32
  let main_v1 : FVec F S8192x1792 .f32 := broadcastInDim S8192x1792 ![] bcast_S_S8192x1792 main_cst
  let main_v2 : IVec S8192x1792 1 := cmpf .olt main_v0 main_v1
  let main_v3 : FVec F S256x512 .f32 := Host.absf main_arg1
  let main_cst_0 : FVec F S_ .f32 := constant S_ .f32 0x7F800000#32
  let main_v4 : FVec F S256x512 .f32 := broadcastInDim S256x512 ![] bcast_S_S256x512 main_cst_0
  let main_v5 : IVec S256x512 1 := cmpf .olt main_v3 main_v4
  (main_v2, main_v5)
-- ==== Pre_finite_up.lean ====
abbrev S8192x2816 : Shape := ⟨2, ![8192, 2816]⟩
abbrev S1024x2816 : Shape := ⟨2, ![1024, 2816]⟩
abbrev S8192x1024 : Shape := ⟨2, ![8192, 1024]⟩
abbrev S1024 : Shape := ⟨1, ![1024]⟩
abbrev S_ : Shape := ⟨0, ![]⟩

class Facts : Prop where
  bcast_S_S8192x2816 : S_.BroadcastsInDim S8192x2816 (![] : Fin 0 → Fin S8192x2816.rank)
  bcast_S_S1024x2816 : S_.BroadcastsInDim S1024x2816 (![] : Fin 0 → Fin S1024x2816.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn_part1 {F : FTy → Type} [FloatOps F] (main_arg6 : FVec F S1024 .f32) (main_v2 : IVec S8192x2816 1) (main_v5 : IVec S1024x2816 1) (main_v8 : IVec S8192x2816 1) (main_v11 : IVec S1024x2816 1) (main_v14 : IVec S8192x1024 1) (main_v17 : IVec S8192x1024 1) : IVec S8192x2816 1 × IVec S1024x2816 1 × IVec S8192x2816 1 × IVec S1024x2816 1 × IVec S8192x1024 1 × IVec S8192x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S8192x2816 .bf16) (main_arg1 : FVec F S1024x2816 .bf16) (main_arg2 : FVec F S8192x2816 .bf16) (main_arg3 : FVec F S1024x2816 .bf16) (main_arg4 : FVec F S8192x1024 .f32) (main_arg5 : FVec F S8192x1024 .f32) (main_arg6 : FVec F S1024 .f32) : IVec S8192x2816 1 × IVec S1024x2816 1 × IVec S8192x2816 1 × IVec S1024x2816 1 × IVec S8192x1024 1 × IVec S8192x1024 1 × IVec S1024 1 :=
  let main_v0 : FVec F S8192x2816 .bf16 := Host.absf main_arg0
  let main_cst : FVec F S_ .bf16 := constant S_ .bf16 0x7F80#16
  let main_v1 : FVec F S8192x2816 .bf16 := broadcastInDim S8192x2816 ![] bcast_S_S8192x2816 main_cst
  let main_v2 : IVec S8192x2816 1 := cmpf .olt main_v0 main_v1
  let main_v3 : FVec F S1024x2816 .bf16 := Host.absf main_arg1
  let main_cst_0 : FVec F S_ .bf16 := constant S_ .bf16 0x7F80#16
  let main_v4 : FVec F S1024x2816 .bf16 := broadcastInDim S1024x2816 ![] bcast_S_S1024x2816 main_cst_0
  let main_v5 : IVec S1024x2816 1 := cmpf .olt main_v3 main_v4
  let main_v6 : FVec F S8192x2816 .bf16 := Host.absf main_arg2
  let main_cst_1 : FVec F S_ .bf16 := constant S_ .bf16 0x7F80#16
  let main_v7 : FVec F S8192x2816 .bf16 := broadcastInDim S8192x2816 ![] bcast_S_S8192x2816 main_cst_1
  let main_v8 : IVec S8192x2816 1 := cmpf .olt main_v6 main_v7
  let main_v9 : FVec F S1024x2816 .bf16 := Host.absf main_arg3
  let main_cst_2 : FVec F S_ .bf16 := constant S_ .bf16 0x7F80#16
  let main_v10 : FVec F S1024x2816 .bf16 := broadcastInDim S1024x2816 ![] bcast_S_S1024x2816 main_cst_2
  let main_v11 : IVec S1024x2816 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  fn_part1 (F := F) main_arg6 main_v2 main_v5 main_v8 main_v11 main_v14 main_v17
-- ==== Gmlp.lean ====
abbrev S8192x1792 : Shape := ⟨2, ![8192, 1792]⟩
abbrev S8192x1024 : Shape := ⟨2, ![8192, 1024]⟩
abbrev S768 : Shape := ⟨1, ![768]⟩
abbrev S6x128x128 : Shape := ⟨3, ![6, 128, 128]⟩
abbrev S6x128 : Shape := ⟨2, ![6, 128]⟩
abbrev S6x128x1 : Shape := ⟨3, ![6, 128, 1]⟩
abbrev S1x768 : Shape := ⟨2, ![1, 768]⟩
abbrev S8192x1536 : Shape := ⟨2, ![8192, 1536]⟩
abbrev S512x1536 : Shape := ⟨2, ![512, 1536]⟩
abbrev S512x768 : Shape := ⟨2, ![512, 768]⟩
abbrev S128x128 : Shape := ⟨2, ![128, 128]⟩
abbrev S512 : Shape := ⟨1, ![512]⟩
abbrev S512x1 : Shape := ⟨2, ![512, 1]⟩
abbrev S1x128x128 : Shape := ⟨3, ![1, 128, 128]⟩
abbrev S128 : Shape := ⟨1, ![128]⟩
abbrev S128x1 : Shape := ⟨2, ![128, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x1792, .f32⟩
  | .hbm, ⟨1, _⟩ => ⟨S8192x1024, .f32⟩
  | .hbm, ⟨2, _⟩ => ⟨S768, .f32⟩
  | .hbm, ⟨3, _⟩ => ⟨S6x128x128, .f32⟩
  | .hbm, ⟨4, _⟩ => ⟨S6x128, .f32⟩
  | .hbm, ⟨5, _⟩ => ⟨S6x128x1, .f32⟩
  | .hbm, ⟨6, _⟩ => ⟨S6x128x128, .f32⟩
  | .hbm, ⟨7, _⟩ => ⟨S1x768, .f32⟩
  | .hbm, ⟨8, _⟩ => ⟨S8192x1536, .bf16⟩
  | .hbm, ⟨9, _⟩ => ⟨S6x128x128, .f32⟩
  | .hbm, ⟨10, _⟩ => ⟨S6x128x128, .f32⟩
  | .hbm, ⟨11, _⟩ => ⟨S1x768, .f32⟩
  | .local _ .vmem, ⟨0, _⟩ => ⟨S512x1536, .f32⟩
  | .local _ .vmem, ⟨1, _⟩ => ⟨S512x1536, .f32⟩
  | .local _ .vmem, ⟨2, _⟩ => ⟨S512x768, .f32⟩
  | .local _ .vmem, ⟨3, _⟩ => ⟨S512x768, .f32⟩
  | .local _ .vmem, ⟨4, _⟩ => ⟨S1x768, .f32⟩
  | .local _ .vmem, ⟨5, _⟩ => ⟨S6x128x128, .f32⟩
  | .local _ .vmem, ⟨6, _⟩ => ⟨S6x128x128, .f32⟩
  | .local _ .vmem, ⟨7, _⟩ => ⟨S512x1536, .bf16⟩
  | .local _ .vmem, ⟨8, _⟩ => ⟨S512x1536, .bf16⟩
  | .local _ .vmem, ⟨9, _⟩ => ⟨S6x128x128, .f32⟩
  | .local _ .vmem, ⟨10, _⟩ => ⟨S6x128x128, .f32⟩
  | .local _ .vmem, ⟨11, _⟩ => ⟨S1x768, .f32⟩
  | .local _ .vmem, ⟨12, _⟩ => ⟨S512x768, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GmlpIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== GmlpRefIdeal.lean ====
abbrev S8192x1792 : Shape := ⟨2, ![8192, 1792]⟩
abbrev S8192x1024 : Shape := ⟨2, ![8192, 1024]⟩
abbrev S768 : Shape := ⟨1, ![768]⟩
abbrev S6x128x128 : Shape := ⟨3, ![6, 128, 128]⟩
abbrev S6x128 : Shape := ⟨2, ![6, 128]⟩
abbrev S8192x1536 : Shape := ⟨2, ![8192, 1536]⟩
abbrev S_ : Shape := ⟨0, ![]⟩
abbrev S8192x768 : Shape := ⟨2, ![8192, 768]⟩
abbrev S8192 : Shape := ⟨1, ![8192]⟩
abbrev S8192x1 : Shape := ⟨2, ![8192, 1]⟩
abbrev S1x768 : Shape := ⟨2, ![1, 768]⟩
abbrev S64x128x6x128 : Shape := ⟨4, ![64, 128, 6, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S6x64x128x128 : Shape := ⟨4, ![6, 64, 128, 128]⟩
abbrev S128x6 : Shape := ⟨2, ![128, 6]⟩
abbrev S1x128x6x1 : Shape := ⟨4, ![1, 128, 6, 1]⟩
abbrev S6x128x1 : Shape := ⟨3, ![6, 128, 1]⟩

abbrev nBuf : Space → Nat
  | .hbm => 188
  | .vmem => 0
  | .smem => 0
  | _ => 0

abbrev hbmTy0_0 (i : Nat) : BufTy := match i % 128 with
  | 0 => ⟨S8192x1792, .f32⟩
  | 1 => ⟨S8192x1024, .f32⟩
  | 2 => ⟨S768, .f32⟩
  | 3 => ⟨S6x128x128, .f32⟩
  | 4 => ⟨S6x128, .f32⟩
  | 5 => ⟨S8192x1536, .f32⟩
  | 6 => ⟨S8192x1536, .f32⟩
  | 7 => ⟨S8192x1536, .f32⟩
  | 8 => ⟨S8192x1536, .f32⟩
  | 9 => ⟨S_, .f32⟩
  | 10 => ⟨S8192x1536, .f32⟩
  | 11 => ⟨S8192x1536, .f32⟩
  | 12 => ⟨S_, .f32⟩
  | 13 => ⟨S8192x1536, .f32⟩
  | 14 => ⟨S8192x1536, .f32⟩
  | 15 => ⟨S_, .f32⟩
  | 16 => ⟨S8192x1536, .f32⟩
  | 17 => ⟨S8192x1536, .f32⟩
  | 18 => ⟨S8192x1536, .f32⟩
  | 19 => ⟨S_, .f32⟩
  | 20 => ⟨S8192x1536, .f32⟩
  | 21 => ⟨S8192x1536, .f32⟩
  | 22 => ⟨S8192x1536, .f32⟩
  | 23 => ⟨S_, .f32⟩
  | 24 => ⟨S8192x1536, .f32⟩
  | 25 => ⟨S8192x1536, .f32⟩
  | 26 => ⟨S_, .f32⟩
  | 27 => ⟨S8192x1536, .f32⟩
  | 28 => ⟨S8192x1536, .f32⟩
  | 29 => ⟨S8192x1536, .f32⟩
  | 30 => ⟨S_, .f32⟩
  | 31 => ⟨S8192x1536, .f32⟩
  | 32 => ⟨S8192x1536, .f32⟩
  | 33 => ⟨S_, .f32⟩
  | 34 => ⟨S8192x1536, .f32⟩
  | 35 => ⟨S8192x1536, .f32⟩
  | 36 => ⟨S8192x1536, .f32⟩
  | 37 => ⟨S8192x768, .f32⟩
  | 38 => ⟨S8192x768, .f32⟩
  | 39 => ⟨S8192x768, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x768, .f32⟩
  | 55 => ⟨S8192x768, .f32⟩
  | 56 => ⟨S1x768, .f32⟩
  | 57 => ⟨S8192x768, .f32⟩
  | 58 => ⟨S8192x768, .f32⟩
  | 59 => ⟨S64x128x6x128, .f32⟩
  | 60 => ⟨S128, .i32⟩
  | 61 => ⟨S1x128, .i32⟩
  | 62 => ⟨S_, .i32⟩
  | 63 => ⟨S_, .i32⟩
  | 64 => ⟨S1x128, .i32⟩
  | 65 => ⟨S1x128, .i32⟩
  | 66 => ⟨S1x128, .i32⟩
  | 67 => ⟨S_, .i32⟩
  | 68 => ⟨S1x128, .i32⟩
  | 69 => ⟨S1x128, .i1⟩
  | 70 => ⟨S1x128, .i32⟩
  | 71 => ⟨S1x128, .i32⟩
  | 72 => ⟨S_, .i32⟩
  | 73 => ⟨S1x128, .i32⟩
  | 74 => ⟨S1x128, .i1⟩
  | 75 => ⟨S1x128, .i1⟩
  | 76 => ⟨S_, .i32⟩
  | 77 => ⟨S1x128, .i32⟩
  | 78 => ⟨S1x128, .i32⟩
  | 79 => ⟨S1x128, .i32⟩
  | 80 => ⟨S128x1, .i32⟩
  | 81 => ⟨S_, .i32⟩
  | 82 => ⟨S_, .i32⟩
  | 83 => ⟨S128x1, .i32⟩
  | 84 => ⟨S128x1, .i32⟩
  | 85 => ⟨S128x1, .i32⟩
  | 86 => ⟨S_, .i32⟩
  | 87 => ⟨S128x1, .i32⟩
  | 88 => ⟨S128x1, .i1⟩
  | 89 => ⟨S128x1, .i32⟩
  | 90 => ⟨S128x1, .i32⟩
  | 91 => ⟨S_, .i32⟩
  | 92 => ⟨S128x1, .i32⟩
  | 93 => ⟨S128x1, .i1⟩
  | 94 => ⟨S128x1, .i1⟩
  | 95 => ⟨S_, .i32⟩
  | 96 => ⟨S128x1, .i32⟩
  | 97 => ⟨S128x1, .i32⟩
  | 98 => ⟨S128x1, .i32⟩
  | 99 => ⟨S128x128, .i32⟩
  | 100 => ⟨S128x128, .i32⟩
  | 101 => ⟨S128x128, .i1⟩
  | 102 => ⟨S1x128x128, .i1⟩
  | 103 => ⟨S_, .f32⟩
  | 104 => ⟨S_, .f32⟩
  | 105 => ⟨S6x128x128, .i1⟩
  | 106 => ⟨S6x128x128, .f32⟩
  | 107 => ⟨S6x128x128, .f32⟩
  | 108 => ⟨S_, .f32⟩
  | 109 => ⟨S6x128x128, .f32⟩
  | 110 => ⟨S6x64x128x128, .f32⟩
  | 111 => ⟨S64x128x6x128, .f32⟩
  | 112 => ⟨S128x6, .f32⟩
  | 113 => ⟨S1x128x6x1, .f32⟩
  | 114 => ⟨S64x128x6x128, .f32⟩
  | 115 => ⟨S64x128x6x128, .f32⟩
  | 116 => ⟨S8192x768, .f32⟩
  | 117 => ⟨S8192x768, .f32⟩
  | 118 => ⟨S8192x768, .f32⟩
  | 119 => ⟨S8192x768, .f32⟩
  | 120 => ⟨S8192x768, .f32⟩
  | 121 => ⟨S64x128x6x128, .f32⟩
  | 122 => ⟨S_, .f32⟩
  | 123 => ⟨S128x6, .f32⟩
  | 124 => ⟨S1x128x6x1, .f32⟩
  | 125 => ⟨S_, .f32⟩
  | 126 => ⟨S128x6, .f32⟩
  | 127 => ⟨S6x128, .f32⟩
  | _ => ⟨S8192x1792, .f32⟩

abbrev hbmTy0_1 (i : Nat) : BufTy := match i % 128 with
  | 0 => ⟨S6x64x128x128, .f32⟩
  | 1 => ⟨S6x128x128, .f32⟩
  | 2 => ⟨S6x64x128x128, .f32⟩
  | 3 => ⟨S64x128x6x128, .f32⟩
  | 4 => ⟨S_, .f32⟩
  | 5 => ⟨S6x128x128, .f32⟩
  | 6 => ⟨S6x128x128, .f32⟩
  | 7 => ⟨S8192x768, .f32⟩
  | 8 => ⟨S8192x768, .f32⟩
  | 9 => ⟨S_, .f32⟩
  | 10 => ⟨S768, .f32⟩
  | 11 => ⟨S1x768, .f32⟩
  | 12 => ⟨S8192x768, .f32⟩
  | 13 => ⟨S8192x768, .f32⟩
  | 14 => ⟨S_, .f32⟩
  | 15 => ⟨S768, .f32⟩
  | 16 => ⟨S8192x768, .f32⟩
  | 17 => ⟨S_, .f32⟩
  | 18 => ⟨S8192, .f32⟩
  | 19 => ⟨S8192x1, .f32⟩
  | 20 => ⟨S8192x768, .f32⟩
  | 21 => ⟨S8192x768, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192, .f32⟩
  | 28 => ⟨S8192x768, .f32⟩
  | 29 => ⟨S8192x768, .f32⟩
  | 30 => ⟨S8192x768, .f32⟩
  | 31 => ⟨S8192x768, .f32⟩
  | 32 => ⟨S8192x768, .f32⟩
  | 33 => ⟨S_, .f32⟩
  | 34 => ⟨S8192x1536, .f32⟩
  | 35 => ⟨S_, .f32⟩
  | 36 => ⟨S8192x1536, .f32⟩
  | 37 => ⟨S8192x1536, .f32⟩
  | 38 => ⟨S8192x1536, .f32⟩
  | 39 => ⟨S8192x1536, .f32⟩
  | 40 => ⟨S_, .f32⟩
  | 41 => ⟨S8192x1536, .f32⟩
  | 42 => ⟨S8192x1536, .f32⟩
  | 43 => ⟨S8192x1536, .f32⟩
  | 44 => ⟨S_, .f32⟩
  | 45 => ⟨S8192x1536, .f32⟩
  | 46 => ⟨S8192x1536, .f32⟩
  | 47 => ⟨S8192x1536, .f32⟩
  | 48 => ⟨S_, .f32⟩
  | 49 => ⟨S8192x1536, .f32⟩
  | 50 => ⟨S8192x1536, .f32⟩
  | 51 => ⟨S_, .f32⟩
  | 52 => ⟨S8192x1536, .f32⟩
  | 53 => ⟨S8192x1536, .f32⟩
  | 54 => ⟨S8192x1536, .f32⟩
  | 55 => ⟨S8192x1536, .f32⟩
  | 56 => ⟨S8192x1536, .bf16⟩
  | 57 => ⟨S6x128x1, .f32⟩
  | 58 => ⟨S6x128x128, .f32⟩
  | 59 => ⟨S1x768, .f32⟩
  | _ => ⟨S8192x1792, .f32⟩

abbrev hbmTy (i : Nat) : BufTy := match i / 128 with
  | 0 => hbmTy0_0 i
  | 1 => hbmTy0_1 i
  | _ => ⟨S8192x1792, .f32⟩

abbrev bufTy : (tb : Table) → Fin (tcTables nBuf tb) → BufTy
  | .hbm, ⟨i, _⟩ => hbmTy i
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_c : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c_0 : Ref sig .tc := ⟨.hbm, 76, rfl⟩
abbrev main_call0_v12 : Ref sig .tc := ⟨.hbm, 77, rfl⟩
abbrev main_call0_v13 : Ref sig .tc := ⟨.hbm, 78, rfl⟩
abbrev main_v45 : Ref sig .tc := ⟨.hbm, 79, rfl⟩
abbrev main_v46 : Ref sig .tc := ⟨.hbm, 80, rfl⟩
abbrev main_c_11 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_c : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_0 : Ref sig .tc := ⟨.hbm, 95, rfl⟩
abbrev main_call1_v12 : Ref sig .tc := ⟨.hbm, 96, rfl⟩
abbrev main_call1_v13 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_cst_12 : Ref sig .tc := ⟨.hbm, 103, rfl⟩
abbrev main_call2_v0 : Ref sig .tc := ⟨.hbm, 104, rfl⟩
abbrev main_v52_1 : Ref sig .tc := ⟨.hbm, 105, rfl⟩
abbrev main_call2_v2 : Ref sig .tc := ⟨.hbm, 106, rfl⟩
abbrev main_v52_0 : Ref sig .tc := ⟨.hbm, 107, rfl⟩
abbrev main_call2_cst : Ref sig .tc := ⟨.hbm, 108, rfl⟩
abbrev main_v52_2 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_cst_13 : Ref sig .tc := ⟨.hbm, 122, rfl⟩
abbrev main_v65 : Ref sig .tc := ⟨.hbm, 123, rfl⟩
abbrev main_v66 : Ref sig .tc := ⟨.hbm, 124, rfl⟩
abbrev main_cst_14 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_call3_cst : Ref sig .tc := ⟨.hbm, 132, rfl⟩
abbrev main_call3_v0 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_cst_15 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_16 : Ref sig .tc := ⟨.hbm, 142, rfl⟩
abbrev main_v80 : Ref sig .tc := ⟨.hbm, 143, rfl⟩
abbrev main_v81 : Ref sig .tc := ⟨.hbm, 144, rfl⟩
abbrev main_cst_17 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_cst_18 : Ref sig .tc := ⟨.hbm, 151, rfl⟩
abbrev main_v87 : Ref sig .tc := ⟨.hbm, 152, rfl⟩
abbrev main_v88 : Ref sig .tc := ⟨.hbm, 153, rfl⟩
abbrev main_cst_19 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_cst_20 : Ref sig .tc := ⟨.hbm, 161, rfl⟩
abbrev main_v95 : Ref sig .tc := ⟨.hbm, 162, rfl⟩
abbrev main_cst_21 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_cst_22 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_cst_23 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_cst_24 : Ref sig .tc := ⟨.hbm, 176, rfl⟩
abbrev main_v106 : Ref sig .tc := ⟨.hbm, 177, rfl⟩
abbrev main_v107 : Ref sig .tc := ⟨.hbm, 178, rfl⟩
abbrev main_cst_25 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩

abbrev nD : Nat := 1
abbrev τ : Topo := Topo.v7x

variable {F : FTy → Type} [FloatOps F]
-- ==== Mem.lean ====
abbrev S8192x1792 : Shape := ⟨2, ![8192, 1792]⟩
abbrev S256x512 : Shape := ⟨2, ![256, 512]⟩
abbrev S8192x1024 : Shape := ⟨2, ![8192, 1024]⟩
abbrev S8192x256 : Shape := ⟨2, ![8192, 256]⟩
abbrev S512x256 : Shape := ⟨2, ![512, 256]⟩
abbrev S256x256 : Shape := ⟨2, ![256, 256]⟩
abbrev S1x256 : Shape := ⟨2, ![1, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1792, .f32⟩
  | .hbm, ⟨1, _⟩ => ⟨S256x512, .f32⟩
  | .hbm, ⟨2, _⟩ => ⟨S8192x1024, .f32⟩
  | .hbm, ⟨3, _⟩ => ⟨S8192x256, .bf16⟩
  | .hbm, ⟨4, _⟩ => ⟨S256x512, .f32⟩
  | .local _ .vmem, ⟨0, _⟩ => ⟨S512x256, .f32⟩
  | .local _ .vmem, ⟨1, _⟩ => ⟨S512x256, .f32⟩
  | .local _ .vmem, ⟨2, _⟩ => ⟨S256x512, .f32⟩
  | .local _ .vmem, ⟨3, _⟩ => ⟨S512x256, .f32⟩
  | .local _ .vmem, ⟨4, _⟩ => ⟨S512x256, .f32⟩
  | .local _ .vmem, ⟨5, _⟩ => ⟨S512x256, .bf16⟩
  | .local _ .vmem, ⟨6, _⟩ => ⟨S512x256, .bf16⟩
  | .local _ .vmem, ⟨7, _⟩ => ⟨S256x512, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemReferIdeal.lean ====
abbrev S8192x1792 : Shape := ⟨2, ![8192, 1792]⟩
abbrev S256x512 : Shape := ⟨2, ![256, 512]⟩
abbrev S8192x1024 : Shape := ⟨2, ![8192, 1024]⟩
abbrev S8192x256 : Shape := ⟨2, ![8192, 256]⟩
abbrev S256x256 : Shape := ⟨2, ![256, 256]⟩
abbrev S8192x4x64 : Shape := ⟨3, ![8192, 4, 64]⟩
abbrev S256x4x64 : Shape := ⟨3, ![256, 4, 64]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x64x8192 : Shape := ⟨3, ![4, 64, 8192]⟩
abbrev S4x64x256 : Shape := ⟨3, ![4, 64, 256]⟩
abbrev S4x256x64 : Shape := ⟨3, ![4, 256, 64]⟩
abbrev S4x8192x64 : Shape := ⟨3, ![4, 8192, 64]⟩

abbrev nBuf : Space → Nat
  | .hbm => 86
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S256x512, .f32⟩
  | .hbm, ⟨2, _⟩ => ⟨S8192x1024, .f32⟩
  | .hbm, ⟨3, _⟩ => ⟨S8192x256, .f32⟩
  | .hbm, ⟨4, _⟩ => ⟨S256x256, .f32⟩
  | .hbm, ⟨5, _⟩ => ⟨S256x256, .f32⟩
  | .hbm, ⟨6, _⟩ => ⟨S8192x4x64, .f32⟩
  | .hbm, ⟨7, _⟩ => ⟨S256x4x64, .f32⟩
  | .hbm, ⟨8, _⟩ => ⟨S256x4x64, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x64x8192, .f32⟩
  | .hbm, ⟨52, _⟩ => ⟨S8192x4x64, .f32⟩
  | .hbm, ⟨53, _⟩ => ⟨S8192x256, .f32⟩
  | .hbm, ⟨54, _⟩ => ⟨S8192x256, .f32⟩
  | .hbm, ⟨55, _⟩ => ⟨S8192x4x64, .f32⟩
  | .hbm, ⟨56, _⟩ => ⟨S4x64x8192, .f32⟩
  | .hbm, ⟨57, _⟩ => ⟨S4x8192x256, .f32⟩
  | .hbm, ⟨58, _⟩ => ⟨S4x64x256, .f32⟩
  | .hbm, ⟨59, _⟩ => ⟨S256x4x64, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S_, .f32⟩
  | .hbm, ⟨70, _⟩ => ⟨S4x8192, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192x256, .f32⟩
  | .hbm, ⟨76, _⟩ => ⟨S4x8192x256, .f32⟩
  | .hbm, ⟨77, _⟩ => ⟨S4x256x64, .f32⟩
  | .hbm, ⟨78, _⟩ => ⟨S256x4x64, .f32⟩
  | .hbm, ⟨79, _⟩ => ⟨S4x8192x64, .f32⟩
  | .hbm, ⟨80, _⟩ => ⟨S8192x4x64, .f32⟩
  | .hbm, ⟨81, _⟩ => ⟨S256x256, .f32⟩
  | .hbm, ⟨82, _⟩ => ⟨S256x256, .f32⟩
  | .hbm, ⟨83, _⟩ => ⟨S8192x256, .f32⟩
  | .hbm, ⟨84, _⟩ => ⟨S256x512, .f32⟩
  | .hbm, ⟨85, _⟩ => ⟨S8192x256, .bf16⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Down.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 20
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .bf16⟩
  | .hbm, ⟨17, _⟩ => ⟨S8192x2816, .bf16⟩
  | .hbm, ⟨18, _⟩ => ⟨S8192x2816, .bf16⟩
  | .hbm, ⟨19, _⟩ => ⟨S2816x1024, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S1408x1024, .f32⟩
  | .local _ .vmem, ⟨15, _⟩ => ⟨S1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1408x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DownRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S1024x2816 : Shape := ⟨2, ![1024, 2816]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S1024x2816, .f32⟩
  | .hbm, ⟨30, _⟩ => ⟨S2816x1024, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .bf16⟩
  | .hbm, ⟨39, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Pair.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S1024x2816, .f32⟩
  | .hbm, ⟨4, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | .local _ .vmem, ⟨7, _⟩ => ⟨S1024x1408, .f32⟩
  | .local _ .vmem, ⟨8, _⟩ => ⟨S1024x1408, .f32⟩
  | .local _ .vmem, ⟨9, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== PairRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S2816x1024, .f32⟩
  | .hbm, ⟨12, _⟩ => ⟨S1024x2816, .f32⟩
  | .hbm, ⟨13, _⟩ => ⟨S2816x1024, .f32⟩
  | .hbm, ⟨14, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Up.lean ====
abbrev S8192x2816 : Shape := ⟨2, ![8192, 2816]⟩
abbrev S1024x2816 : Shape := ⟨2, ![1024, 2816]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x2816, .bf16⟩
  | .hbm, ⟨3, _⟩ => ⟨S1024x2816, .bf16⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x2816, .bf16⟩
  | .local _ .vmem, ⟨4, _⟩ => ⟨S512x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== UpRefIdeal.lean ====
abbrev S8192x2816 : Shape := ⟨2, ![8192, 2816]⟩
abbrev S1024x2816 : Shape := ⟨2, ![1024, 2816]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x2816, .bf16⟩
  | .hbm, ⟨3, _⟩ => ⟨S1024x2816, .bf16⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x2816, .f32⟩
  | .hbm, ⟨28, _⟩ => ⟨S8192x2816, .f32⟩
  | .hbm, ⟨29, _⟩ => ⟨S1024x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .bf16⟩
  | .hbm, ⟨63, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Gate.lean ====
abbrev S8192x1024 : Shape := ⟨2, ![8192, 1024]⟩
abbrev S1024x2816 : Shape := ⟨2, ![1024, 2816]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S1024x2816, .f32⟩
  | .hbm, ⟨7, _⟩ => ⟨S8192x2816, .f32⟩
  | .hbm, ⟨8, _⟩ => ⟨S8192x2816, .bf16⟩
  | .hbm, ⟨9, _⟩ => ⟨S8192x2816, .bf16⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Join.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== JoinRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proj.lean ====
abbrev S8192x1024 : Shape := ⟨2, ![8192, 1024]⟩
abbrev S2x1024x1792 : Shape := ⟨3, ![2, 1024, 1792]⟩
abbrev S8192x1792 : Shape := ⟨2, ![8192, 1792]⟩
abbrev S512x1024 : Shape := ⟨2, ![512, 1024]⟩
abbrev S1x1024x896 : Shape := ⟨3, ![1, 1024, 896]⟩
abbrev S512x896 : Shape := ⟨2, ![512, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x1792, .bf16⟩
  | .hbm, ⟨2, _⟩ => ⟨S8192x1792, .f32⟩
  | .local _ .vmem, ⟨0, _⟩ => ⟨S512x1024, .bf16⟩
  | .local _ .vmem, ⟨1, _⟩ => ⟨S512x1024, .bf16⟩
  | .local _ .vmem, ⟨2, _⟩ => ⟨S1x1024x896, .bf16⟩
  | .local _ .vmem, ⟨3, _⟩ => ⟨S1x1024x896, .bf16⟩
  | .local _ .vmem, ⟨4, _⟩ => ⟨S512x896, .f32⟩
  | .local _ .vmem, ⟨5, _⟩ => ⟨S512x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S8192x1024 : Shape := ⟨2, ![8192, 1024]⟩
abbrev S2x1024x1792 : Shape := ⟨3, ![2, 1024, 1792]⟩
abbrev S1x1024x1792 : Shape := ⟨3, ![1, 1024, 1792]⟩
abbrev S1024x1792 : Shape := ⟨2, ![1024, 1792]⟩
abbrev S8192x1792 : Shape := ⟨2, ![8192, 1792]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1792, .bf16⟩
  | .hbm, ⟨2, _⟩ => ⟨S8192x1024, .f32⟩
  | .hbm, ⟨3, _⟩ => ⟨S1x1024x1792, .bf16⟩
  | .hbm, ⟨4, _⟩ => ⟨S1024x1792, .bf16⟩
  | .hbm, ⟨5, _⟩ => ⟨S1024x1792, .f32⟩
  | .hbm, ⟨6, _⟩ => ⟨S8192x1792, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Blend.lean ====
abbrev S8192x768 : Shape := ⟨2, ![8192, 768]⟩
abbrev S8192x256 : Shape := ⟨2, ![8192, 256]⟩
abbrev S2x1024x1024 : Shape := ⟨3, ![2, 1024, 1024]⟩
abbrev S8192x1024 : Shape := ⟨2, ![8192, 1024]⟩
abbrev S1024 : Shape := ⟨1, ![1024]⟩
abbrev S1x1024 : Shape := ⟨2, ![1, 1024]⟩
abbrev S512x768 : Shape := ⟨2, ![512, 768]⟩
abbrev S1x768x1024 : Shape := ⟨3, ![1, 768, 1024]⟩
abbrev S512x256 : Shape := ⟨2, ![512, 256]⟩
abbrev S1x256x1024 : Shape := ⟨3, ![1, 256, 1024]⟩
abbrev S512x1024 : Shape := ⟨2, ![512, 1024]⟩
abbrev S768x1024 : Shape := ⟨2, ![768, 1024]⟩
abbrev S256x1024 : Shape := ⟨2, ![256, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x768, .bf16⟩
  | .hbm, ⟨1, _⟩ => ⟨S8192x256, .bf16⟩
  | .hbm, ⟨2, _⟩ => ⟨S2x1024x1024, .bf16⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x768, .bf16⟩
  | .local _ .vmem, ⟨1, _⟩ => ⟨S512x768, .bf16⟩
  | .local _ .vmem, ⟨2, _⟩ => ⟨S1x768x1024, .bf16⟩
  | .local _ .vmem, ⟨3, _⟩ => ⟨S512x256, .bf16⟩
  | .local _ .vmem, ⟨4, _⟩ => ⟨S512x256, .bf16⟩
  | .local _ .vmem, ⟨5, _⟩ => ⟨S1x256x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== BlendRefIdeal.lean ====
abbrev S8192x768 : Shape := ⟨2, ![8192, 768]⟩
abbrev S8192x256 : Shape := ⟨2, ![8192, 256]⟩
abbrev S2x1024x1024 : Shape := ⟨3, ![2, 1024, 1024]⟩
abbrev S8192x1024 : Shape := ⟨2, ![8192, 1024]⟩
abbrev S1024 : Shape := ⟨1, ![1024]⟩
abbrev S1x1024x1024 : Shape := ⟨3, ![1, 1024, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x256, .bf16⟩
  | .hbm, ⟨2, _⟩ => ⟨S2x1024x1024, .bf16⟩
  | .hbm, ⟨3, _⟩ => ⟨S8192x1024, .f32⟩
  | .hbm, ⟨4, _⟩ => ⟨S1024, .f32⟩
  | .hbm, ⟨5, _⟩ => ⟨S8192x1024, .bf16⟩
  | .hbm, ⟨6, _⟩ => ⟨S8192x1024, .f32⟩
  | .hbm, ⟨7, _⟩ => ⟨S1x1024x1024, .bf16⟩
  | .hbm, ⟨8, _⟩ => ⟨S1024x1024, .bf16⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Dout.lean ====
abbrev S8192x1024 : Shape := ⟨2, ![8192, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DoutRefIdeal.lean ====
abbrev S8192x1024 : Shape := ⟨2, ![8192, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S_, .f32⟩
  | .hbm, ⟨3, _⟩ => ⟨S8192x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Outtok.lean ====
abbrev S8192x768 : Shape := ⟨2, ![8192, 768]⟩
abbrev S8192x1024 : Shape := ⟨2, ![8192, 1024]⟩
abbrev S768x1024 : Shape := ⟨2, ![768, 1024]⟩
abbrev S1024x768 : Shape := ⟨2, ![1024, 768]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S768x1024, .f32⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OuttokRefIdeal.lean ====
abbrev S8192x768 : Shape := ⟨2, ![8192, 768]⟩
abbrev S8192x1024 : Shape := ⟨2, ![8192, 1024]⟩
abbrev S_ : Shape := ⟨0, ![]⟩
abbrev S768x1024 : Shape := ⟨2, ![768, 1024]⟩
abbrev S1024x768 : Shape := ⟨2, ![1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S_, .f32⟩
  | .hbm, ⟨3, _⟩ => ⟨S768x1024, .f32⟩
  | .hbm, ⟨4, _⟩ => ⟨S8192x768, .f32⟩
  | .hbm, ⟨5, _⟩ => ⟨S8192x1024, .f32⟩
  | .hbm, ⟨6, _⟩ => ⟨S8192x1024, .f32⟩
  | .hbm, ⟨7, _⟩ => ⟨S1024x768, .f32⟩
  | .hbm, ⟨8, _⟩ => ⟨S768x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Outmem.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutmemRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Intok.lean ====
abbrev S8192x1024 : Shape := ⟨2, ![8192, 1024]⟩
abbrev S8192x1536 : Shape := ⟨2, ![8192, 1536]⟩
abbrev S1024x1536 : Shape := ⟨2, ![1024, 1536]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== IntokRefIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Inmem.lean ====
abbrev S8192x1024 : Shape := ⟨2, ![8192, 1024]⟩
abbrev S8192x256 : Shape := ⟨2, ![8192, 256]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1024x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InmemRefIdeal.lean ====
abbrev S8192x1024 : Shape := ⟨2, ![8192, 1024]⟩
abbrev S8192x256 : Shape := ⟨2, ![8192, 256]⟩
abbrev S_ : Shape := ⟨0, ![]⟩
abbrev S1024x256 : Shape := ⟨2, ![1024, 256]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S_, .f32⟩
  | .hbm, ⟨3, _⟩ => ⟨S1024x256, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S256x1024, .f32⟩
  | .hbm, ⟨8, _⟩ => ⟨S1024x256, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Din.lean ====
abbrev S8192x1536 : Shape := ⟨2, ![8192, 1536]⟩
abbrev S8192x256 : Shape := ⟨2, ![8192, 256]⟩
abbrev S2x1024x1792 : Shape := ⟨3, ![2, 1024, 1792]⟩
abbrev S8192x1024 : Shape := ⟨2, ![8192, 1024]⟩
abbrev S1024 : Shape := ⟨1, ![1024]⟩
abbrev S1x1024 : Shape := ⟨2, ![1, 1024]⟩
abbrev S512x1536 : Shape := ⟨2, ![512, 1536]⟩
abbrev S1x1024x1536 : Shape := ⟨3, ![1, 1024, 1536]⟩
abbrev S512x256 : Shape := ⟨2, ![512, 256]⟩
abbrev S1x1024x256 : Shape := ⟨3, ![1, 1024, 256]⟩
abbrev S512x1024 : Shape := ⟨2, ![512, 1024]⟩
abbrev S1024x1536 : Shape := ⟨2, ![1024, 1536]⟩
abbrev S1024x256 : Shape := ⟨2, ![1024, 256]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x1536, .bf16⟩
  | .hbm, ⟨1, _⟩ => ⟨S8192x256, .bf16⟩
  | .hbm, ⟨2, _⟩ => ⟨S2x1024x1792, .bf16⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1x1024x1536, .bf16⟩
  | .local _ .vmem, ⟨3, _⟩ => ⟨S512x256, .bf16⟩
  | .local _ .vmem, ⟨4, _⟩ => ⟨S512x256, .bf16⟩
  | .local _ .vmem, ⟨5, _⟩ => ⟨S1x1024x256, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![c0_i32.toNat, arg0.toNat, c6_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== DinRefIdeal.lean ====
abbrev S8192x1536 : Shape := ⟨2, ![8192, 1536]⟩
abbrev S8192x256 : Shape := ⟨2, ![8192, 256]⟩
abbrev S2x1024x1792 : Shape := ⟨3, ![2, 1024, 1792]⟩
abbrev S8192x1024 : Shape := ⟨2, ![8192, 1024]⟩
abbrev S1024 : Shape := ⟨1, ![1024]⟩
abbrev S8192x1792 : Shape := ⟨2, ![8192, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1024x1792 : Shape := ⟨3, ![1, 1024, 1792]⟩
abbrev S1024x1792 : Shape := ⟨2, ![1024, 1792]⟩

abbrev nBuf : Space → Nat
  | .hbm => 61
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x256, .bf16⟩
  | .hbm, ⟨2, _⟩ => ⟨S2x1024x1792, .bf16⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S8192x1792, .bf16⟩
  | .hbm, ⟨7, _⟩ => ⟨S8192x1792, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024x1792, .bf16⟩
  | .hbm, ⟨29, _⟩ => ⟨S1024x1792, .bf16⟩
  | .hbm, ⟨30, _⟩ => ⟨S1024x1792, .f32⟩
  | .hbm, ⟨31, _⟩ => ⟨S8192x1792, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S1x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Gated.lean ====
abbrev S8192x1792 : Shape := ⟨2, ![8192, 1792]⟩
abbrev S768 : Shape := ⟨1, ![768]⟩
abbrev S6x128x128 : Shape := ⟨3, ![6, 128, 128]⟩
abbrev S6x128 : Shape := ⟨2, ![6, 128]⟩
abbrev S6x128x1 : Shape := ⟨3, ![6, 128, 1]⟩
abbrev S1x768 : Shape := ⟨2, ![1, 768]⟩
abbrev S8192x768 : Shape := ⟨2, ![8192, 768]⟩
abbrev S512x1536 : Shape := ⟨2, ![512, 1536]⟩
abbrev S512x768 : Shape := ⟨2, ![512, 768]⟩
abbrev S128x128 : Shape := ⟨2, ![128, 128]⟩
abbrev S512 : Shape := ⟨1, ![512]⟩
abbrev S512x1 : Shape := ⟨2, ![512, 1]⟩
abbrev S1x128x128 : Shape := ⟨3, ![1, 128, 128]⟩

abbrev nBuf : Space → Nat
  | .hbm => 8
  | .vmem => 7
  | .smem => 0
  | _ => 0

abbrev bufTy : (tb : Table) → Fin (tcTables nBuf tb) → BufTy
  | .hbm, ⟨0, _⟩ => ⟨S8192x1792, .f32⟩
  | .hbm, ⟨1, _⟩ => ⟨S768, .f32⟩
  | .hbm, ⟨2, _⟩ => ⟨S6x128x128, .f32⟩
  | .hbm, ⟨3, _⟩ => ⟨S6x128, .f32⟩
  | .hbm, ⟨4, _⟩ => ⟨S6x128x1, .f32⟩
  | .hbm, ⟨5, _⟩ => ⟨S6x128x128, .f32⟩
  | .hbm, ⟨6, _⟩ => ⟨S1x768, .f32⟩
  | .hbm, ⟨7, _⟩ => ⟨S8192x768, .bf16⟩
  | .local _ .vmem, ⟨0, _⟩ => ⟨S512x1536, .f32⟩
  | .local _ .vmem, ⟨1, _⟩ => ⟨S512x1536, .f32⟩
  | .local _ .vmem, ⟨2, _⟩ => ⟨S1x768, .f32⟩
  | .local _ .vmem, ⟨3, _⟩ => ⟨S6x128x128, .f32⟩
  | .local _ .vmem, ⟨4, _⟩ => ⟨S6x128x128, .f32⟩
  | .local _ .vmem, ⟨5, _⟩ => ⟨S512x768, .bf16⟩
  | .local _ .vmem, ⟨6, _⟩ => ⟨S512x768, .bf16⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatedRefIdeal.lean ====
abbrev S8192x1792 : Shape := ⟨2, ![8192, 1792]⟩
abbrev S768 : Shape := ⟨1, ![768]⟩
abbrev S6x128x128 : Shape := ⟨3, ![6, 128, 128]⟩
abbrev S6x128 : Shape := ⟨2, ![6, 128]⟩
abbrev S8192x1536 : Shape := ⟨2, ![8192, 1536]⟩
abbrev S_ : Shape := ⟨0, ![]⟩
abbrev S8192x768 : Shape := ⟨2, ![8192, 768]⟩
abbrev S8192 : Shape := ⟨1, ![8192]⟩
abbrev S8192x1 : Shape := ⟨2, ![8192, 1]⟩
abbrev S1x768 : Shape := ⟨2, ![1, 768]⟩
abbrev S64x128x6x128 : Shape := ⟨4, ![64, 128, 6, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S6x64x128x128 : Shape := ⟨4, ![6, 64, 128, 128]⟩
abbrev S128x6 : Shape := ⟨2, ![128, 6]⟩
abbrev S1x128x6x1 : Shape := ⟨4, ![1, 128, 6, 1]⟩

abbrev nBuf : Space → Nat
  | .hbm => 98
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S768, .f32⟩
  | .hbm, ⟨2, _⟩ => ⟨S6x128x128, .f32⟩
  | .hbm, ⟨3, _⟩ => ⟨S6x128, .f32⟩
  | .hbm, ⟨4, _⟩ => ⟨S8192x1536, .f32⟩
  | .hbm, ⟨5, _⟩ => ⟨S8192x1536, .f32⟩
  | .hbm, ⟨6, _⟩ => ⟨S8192x1536, .f32⟩
  | .hbm, ⟨7, _⟩ => ⟨S_, .f32⟩
  | .hbm, ⟨8, _⟩ => ⟨S8192x1536, .f32⟩
  | .hbm, ⟨9, _⟩ => ⟨S8192x1536, .f32⟩
  | .hbm, ⟨10, _⟩ => ⟨S8192x1536, .f32⟩
  | .hbm, ⟨11, _⟩ => ⟨S_, .f32⟩
  | .hbm, ⟨12, _⟩ => ⟨S8192x1536, .f32⟩
  | .hbm, ⟨13, _⟩ => ⟨S8192x1536, .f32⟩
  | .hbm, ⟨14, _⟩ => ⟨S8192x1536, .f32⟩
  | .hbm, ⟨15, _⟩ => ⟨S_, .f32⟩
  | .hbm, ⟨16, _⟩ => ⟨S8192x1536, .f32⟩
  | .hbm, ⟨17, _⟩ => ⟨S8192x1536, .f32⟩
  | .hbm, ⟨18, _⟩ => ⟨S_, .f32⟩
  | .hbm, ⟨19, _⟩ => ⟨S8192x1536, .f32⟩
  | .hbm, ⟨20, _⟩ => ⟨S8192x1536, .f32⟩
  | .hbm, ⟨21, _⟩ => ⟨S8192x1536, .f32⟩
  | .hbm, ⟨22, _⟩ => ⟨S8192x768, .f32⟩
  | .hbm, ⟨23, _⟩ => ⟨S8192x768, .f32⟩
  | .hbm, ⟨24, _⟩ => ⟨S8192x768, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x768, .f32⟩
  | .hbm, ⟨36, _⟩ => ⟨S8192x768, .f32⟩
  | .hbm, ⟨37, _⟩ => ⟨S1x768, .f32⟩
  | .hbm, ⟨38, _⟩ => ⟨S8192x768, .f32⟩
  | .hbm, ⟨39, _⟩ => ⟨S8192x768, .f32⟩
  | .hbm, ⟨40, _⟩ => ⟨S64x128x6x128, .f32⟩
  | .hbm, ⟨41, _⟩ => ⟨S128, .i32⟩
  | .hbm, ⟨42, _⟩ => ⟨S1x128, .i32⟩
  | .hbm, ⟨43, _⟩ => ⟨S_, .i32⟩
  | .hbm, ⟨44, _⟩ => ⟨S_, .i32⟩
  | .hbm, ⟨45, _⟩ => ⟨S1x128, .i32⟩
  | .hbm, ⟨46, _⟩ => ⟨S1x128, .i32⟩
  | .hbm, ⟨47, _⟩ => ⟨S1x128, .i32⟩
  | .hbm, ⟨48, _⟩ => ⟨S_, .i32⟩
  | .hbm, ⟨49, _⟩ => ⟨S1x128, .i32⟩
  | .hbm, ⟨50, _⟩ => ⟨S1x128, .i1⟩
  | .hbm, ⟨51, _⟩ => ⟨S1x128, .i32⟩
  | .hbm, ⟨52, _⟩ => ⟨S1x128, .i32⟩
  | .hbm, ⟨53, _⟩ => ⟨S_, .i32⟩
  | .hbm, ⟨54, _⟩ => ⟨S1x128, .i32⟩
  | .hbm, ⟨55, _⟩ => ⟨S1x128, .i1⟩
  | .hbm, ⟨56, _⟩ => ⟨S1x128, .i1⟩
  | .hbm, ⟨57, _⟩ => ⟨S_, .i32⟩
  | .hbm, ⟨58, _⟩ => ⟨S1x128, .i32⟩
  | .hbm, ⟨59, _⟩ => ⟨S1x128, .i32⟩
  | .hbm, ⟨60, _⟩ => ⟨S1x128, .i32⟩
  | .hbm, ⟨61, _⟩ => ⟨S128x1, .i32⟩
  | .hbm, ⟨62, _⟩ => ⟨S_, .i32⟩
  | .hbm, ⟨63, _⟩ => ⟨S_, .i32⟩
  | .hbm, ⟨64, _⟩ => ⟨S128x1, .i32⟩
  | .hbm, ⟨65, _⟩ => ⟨S128x1, .i32⟩
  | .hbm, ⟨66, _⟩ => ⟨S128x1, .i32⟩
  | .hbm, ⟨67, _⟩ => ⟨S_, .i32⟩
  | .hbm, ⟨68, _⟩ => ⟨S128x1, .i32⟩
  | .hbm, ⟨69, _⟩ => ⟨S128x1, .i1⟩
  | .hbm, ⟨70, _⟩ => ⟨S128x1, .i32⟩
  | .hbm, ⟨71, _⟩ => ⟨S128x1, .i32⟩
  | .hbm, ⟨72, _⟩ => ⟨S_, .i32⟩
  | .hbm, ⟨73, _⟩ => ⟨S128x1, .i32⟩
  | .hbm, ⟨74, _⟩ => ⟨S128x1, .i1⟩
  | .hbm, ⟨75, _⟩ => ⟨S128x1, .i1⟩
  | .hbm, ⟨76, _⟩ => ⟨S_, .i32⟩
  | .hbm, ⟨77, _⟩ => ⟨S128x1, .i32⟩
  | .hbm, ⟨78, _⟩ => ⟨S128x1, .i32⟩
  | .hbm, ⟨79, _⟩ => ⟨S128x1, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S1x128x128, .i1⟩
  | .hbm, ⟨84, _⟩ => ⟨S_, .f32⟩
  | .hbm, ⟨85, _⟩ => ⟨S_, .f32⟩
  | .hbm, ⟨86, _⟩ => ⟨S6x128x128, .i1⟩
  | .hbm, ⟨87, _⟩ => ⟨S6x128x128, .f32⟩
  | .hbm, ⟨88, _⟩ => ⟨S6x128x128, .f32⟩
  | .hbm, ⟨89, _⟩ => ⟨S6x64x128x128, .f32⟩
  | .hbm, ⟨90, _⟩ => ⟨S64x128x6x128, .f32⟩
  | .hbm, ⟨91, _⟩ => ⟨S128x6, .f32⟩
  | .hbm, ⟨92, _⟩ => ⟨S1x128x6x1, .f32⟩
  | .hbm, ⟨93, _⟩ => ⟨S64x128x6x128, .f32⟩
  | .hbm, ⟨94, _⟩ => ⟨S64x128x6x128, .f32⟩
  | .hbm, ⟨95, _⟩ => ⟨S8192x768, .f32⟩
  | .hbm, ⟨96, _⟩ => ⟨S8192x768, .f32⟩
  | .hbm, ⟨97, _⟩ => ⟨S8192x768, .bf16⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v32 : Ref sig .tc := ⟨.hbm, 60, rfl⟩
abbrev main_v33 : Ref sig .tc := ⟨.hbm, 61, rfl⟩
abbrev main_c_6 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_c : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_0 : Ref sig .tc := ⟨.hbm, 76, rfl⟩
abbrev main_call1_v12 : Ref sig .tc := ⟨.hbm, 77, rfl⟩
abbrev main_call1_v13 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_7 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩

abbrev nD : Nat := 1
abbrev τ : Topo := Topo.v7x

variable {F : FTy → Type} [FloatOps F]
-- ==== Recall.lean ====
abbrev S8192x1792 : Shape := ⟨2, ![8192, 1792]⟩
abbrev S256x512 : Shape := ⟨2, ![256, 512]⟩
abbrev S8192x256 : Shape := ⟨2, ![8192, 256]⟩
abbrev S512x256 : Shape := ⟨2, ![512, 256]⟩
abbrev S256x256 : Shape := ⟨2, ![256, 256]⟩
abbrev S1x256 : Shape := ⟨2, ![1, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1792, .f32⟩
  | .hbm, ⟨1, _⟩ => ⟨S256x512, .f32⟩
  | .hbm, ⟨2, _⟩ => ⟨S8192x256, .bf16⟩
  | .local _ .vmem, ⟨0, _⟩ => ⟨S512x256, .f32⟩
  | .local _ .vmem, ⟨1, _⟩ => ⟨S512x256, .f32⟩
  | .local _ .vmem, ⟨2, _⟩ => ⟨S256x512, .f32⟩
  | .local _ .vmem, ⟨3, _⟩ => ⟨S512x256, .bf16⟩
  | .local _ .vmem, ⟨4, _⟩ => ⟨S512x256, .bf16⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RecallRefIdeal.lean ====
abbrev S8192x1792 : Shape := ⟨2, ![8192, 1792]⟩
abbrev S256x512 : Shape := ⟨2, ![256, 512]⟩
abbrev S8192x256 : Shape := ⟨2, ![8192, 256]⟩
abbrev S256x256 : Shape := ⟨2, ![256, 256]⟩
abbrev S8192x4x64 : Shape := ⟨3, ![8192, 4, 64]⟩
abbrev S256x4x64 : Shape := ⟨3, ![256, 4, 64]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x64x8192 : Shape := ⟨3, ![4, 64, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S256x512, .f32⟩
  | .hbm, ⟨2, _⟩ => ⟨S8192x256, .f32⟩
  | .hbm, ⟨3, _⟩ => ⟨S256x256, .f32⟩
  | .hbm, ⟨4, _⟩ => ⟨S256x256, .f32⟩
  | .hbm, ⟨5, _⟩ => ⟨S8192x4x64, .f32⟩
  | .hbm, ⟨6, _⟩ => ⟨S256x4x64, .f32⟩
  | .hbm, ⟨7, _⟩ => ⟨S256x4x64, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x64x8192, .f32⟩
  | .hbm, ⟨27, _⟩ => ⟨S8192x4x64, .f32⟩
  | .hbm, ⟨28, _⟩ => ⟨S8192x256, .f32⟩
  | .hbm, ⟨29, _⟩ => ⟨S8192x256, .bf16⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kv.lean ====
abbrev S8192x1024 : Shape := ⟨2, ![8192, 1024]⟩
abbrev S1024x1536 : Shape := ⟨2, ![1024, 1536]⟩
abbrev S8192x1536 : Shape := ⟨2, ![8192, 1536]⟩
abbrev S512x1024 : Shape := ⟨2, ![512, 1024]⟩
abbrev S1024x768 : Shape := ⟨2, ![1024, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1024x768, .bf16⟩
  | .local _ .vmem, ⟨4, _⟩ => ⟨S512x768, .bf16⟩
  | .local _ .vmem, ⟨5, _⟩ => ⟨S512x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRefIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | .hbm, ⟨5, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kin.lean ====
abbrev S8192x768 : Shape := ⟨2, ![8192, 768]⟩
abbrev S1024x1536 : Shape := ⟨2, ![1024, 1536]⟩
abbrev S8192x1024 : Shape := ⟨2, ![8192, 1024]⟩
abbrev S1024 : Shape := ⟨1, ![1024]⟩
abbrev S1x1024 : Shape := ⟨2, ![1, 1024]⟩
abbrev S512x768 : Shape := ⟨2, ![512, 768]⟩
abbrev S1024x768 : Shape := ⟨2, ![1024, 768]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S1024x1536, .bf16⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x768, .f32⟩
  | .local _ .vmem, ⟨1, _⟩ => ⟨S512x768, .f32⟩
  | .local _ .vmem, ⟨2, _⟩ => ⟨S1024x768, .bf16⟩
  | .local _ .vmem, ⟨3, _⟩ => ⟨S512x768, .f32⟩
  | .local _ .vmem, ⟨4, _⟩ => ⟨S512x768, .f32⟩
  | .local _ .vmem, ⟨5, _⟩ => ⟨S1024x768, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KinRefIdeal.lean ====
abbrev S8192x768 : Shape := ⟨2, ![8192, 768]⟩
abbrev S1024x1536 : Shape := ⟨2, ![1024, 1536]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩

abbrev nBuf : Space → Nat
  | .hbm => 58
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S1024x1536, .bf16⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x1536, .f32⟩
  | .hbm, ⟨27, _⟩ => ⟨S8192x1536, .f32⟩
  | .hbm, ⟨28, _⟩ => ⟨S8192x1536, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S1x1024, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Btok.lean ====
abbrev S8192x1024 : Shape := ⟨2, ![8192, 1024]⟩
abbrev S8192x768 : Shape := ⟨2, ![8192, 768]⟩
abbrev S1024x768 : Shape := ⟨2, ![1024, 768]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x768, .f32⟩
  | .hbm, ⟨2, _⟩ => ⟨S1024x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BtokRefIdeal.lean ====
abbrev S8192x1024 : Shape := ⟨2, ![8192, 1024]⟩
abbrev S8192x768 : Shape := ⟨2, ![8192, 768]⟩
abbrev S_ : Shape := ⟨0, ![]⟩
abbrev S1024x768 : Shape := ⟨2, ![1024, 768]⟩
abbrev S768x1024 : Shape := ⟨2, ![768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .f32⟩
  | .hbm, ⟨2, _⟩ => ⟨S_, .f32⟩
  | .hbm, ⟨3, _⟩ => ⟨S1024x768, .f32⟩
  | .hbm, ⟨4, _⟩ => ⟨S8192x1024, .f32⟩
  | .hbm, ⟨5, _⟩ => ⟨S8192x768, .f32⟩
  | .hbm, ⟨6, _⟩ => ⟨S768x1024, .f32⟩
  | .hbm, ⟨7, _⟩ => ⟨S1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Bproj.lean ====
abbrev S8192x1024 : Shape := ⟨2, ![8192, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BprojRefIdeal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Bin.lean ====
abbrev S8192x768 : Shape := ⟨2, ![8192, 768]⟩
abbrev S8192x256 : Shape := ⟨2, ![8192, 256]⟩
abbrev S2x1024x1024 : Shape := ⟨3, ![2, 1024, 1024]⟩
abbrev S8192x1024 : Shape := ⟨2, ![8192, 1024]⟩
abbrev S1024 : Shape := ⟨1, ![1024]⟩
abbrev S1x1024 : Shape := ⟨2, ![1, 1024]⟩
abbrev S512x768 : Shape := ⟨2, ![512, 768]⟩
abbrev S1x1024x768 : Shape := ⟨3, ![1, 1024, 768]⟩
abbrev S512x256 : Shape := ⟨2, ![512, 256]⟩
abbrev S1x1024x256 : Shape := ⟨3, ![1, 1024, 256]⟩
abbrev S512x1024 : Shape := ⟨2, ![512, 1024]⟩
abbrev S1024x768 : Shape := ⟨2, ![1024, 768]⟩
abbrev S1024x256 : Shape := ⟨2, ![1024, 256]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x768, .f32⟩
  | .hbm, ⟨1, _⟩ => ⟨S8192x256, .bf16⟩
  | .hbm, ⟨2, _⟩ => ⟨S2x1024x1024, .bf16⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x768, .f32⟩
  | .local _ .vmem, ⟨1, _⟩ => ⟨S512x768, .f32⟩
  | .local _ .vmem, ⟨2, _⟩ => ⟨S1x1024x768, .bf16⟩
  | .local _ .vmem, ⟨3, _⟩ => ⟨S512x256, .bf16⟩
  | .local _ .vmem, ⟨4, _⟩ => ⟨S512x256, .bf16⟩
  | .local _ .vmem, ⟨5, _⟩ => ⟨S1x1024x256, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== BinRefIdeal.lean ====
abbrev S8192x768 : Shape := ⟨2, ![8192, 768]⟩
abbrev S8192x256 : Shape := ⟨2, ![8192, 256]⟩
abbrev S2x1024x1024 : Shape := ⟨3, ![2, 1024, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x256, .bf16⟩
  | .hbm, ⟨2, _⟩ => ⟨S2x1024x1024, .bf16⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S8192x256, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024x1024, .bf16⟩
  | .hbm, ⟨29, _⟩ => ⟨S1024x1024, .bf16⟩
  | .hbm, ⟨30, _⟩ => ⟨S1024x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S1x1024, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Slot.lean ====
abbrev S256x1024 : Shape := ⟨2, ![256, 1024]⟩
abbrev S4x1024x512 : Shape := ⟨3, ![4, 1024, 512]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S4x1024x512, .bf16⟩
  | .hbm, ⟨2, _⟩ => ⟨S256x512, .f32⟩
  | .local _ .vmem, ⟨0, _⟩ => ⟨S256x1024, .bf16⟩
  | .local _ .vmem, ⟨1, _⟩ => ⟨S1x1024x512, .bf16⟩
  | .local _ .vmem, ⟨2, _⟩ => ⟨S256x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== SlotRefIdeal.lean ====
abbrev S256x1024 : Shape := ⟨2, ![256, 1024]⟩
abbrev S4x1024x512 : Shape := ⟨3, ![4, 1024, 512]⟩
abbrev S1x1024x512 : Shape := ⟨3, ![1, 1024, 512]⟩
abbrev S1024x512 : Shape := ⟨2, ![1024, 512]⟩
abbrev S256x512 : Shape := ⟨2, ![256, 512]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S4x1024x512, .bf16⟩
  | .hbm, ⟨2, _⟩ => ⟨S256x1024, .f32⟩
  | .hbm, ⟨3, _⟩ => ⟨S1x1024x512, .bf16⟩
  | .hbm, ⟨4, _⟩ => ⟨S1024x512, .bf16⟩
  | .hbm, ⟨5, _⟩ => ⟨S1024x512, .f32⟩
  | .hbm, ⟨6, _⟩ => ⟨S256x512, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Slotw.lean ====
abbrev S256x1024 : Shape := ⟨2, ![256, 1024]⟩
abbrev S256x512 : Shape := ⟨2, ![256, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S1024x512, .f32⟩
  | .local _ .vmem, ⟨0, _⟩ => ⟨S256x1024, .bf16⟩
  | .local _ .vmem, ⟨1, _⟩ => ⟨S256x512, .f32⟩
  | .local _ .vmem, ⟨2, _⟩ => ⟨S1024x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SlotwRefIdeal.lean ====
abbrev S256x1024 : Shape := ⟨2, ![256, 1024]⟩
abbrev S256x512 : Shape := ⟨2, ![256, 512]⟩
abbrev S_ : Shape := ⟨0, ![]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S_, .f32⟩
  | .hbm, ⟨3, _⟩ => ⟨S1024x512, .f32⟩
  | .hbm, ⟨4, _⟩ => ⟨S256x1024, .f32⟩
  | .hbm, ⟨5, _⟩ => ⟨S256x512, .f32⟩
  | .hbm, ⟨6, _⟩ => ⟨S512x1024, .f32⟩
  | .hbm, ⟨7, _⟩ => ⟨S1024x512, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Slotb.lean ====
abbrev S256x512 : Shape := ⟨2, ![256, 512]⟩
abbrev S4x1024x512 : Shape := ⟨3, ![4, 1024, 512]⟩
abbrev S256x1024 : Shape := ⟨2, ![256, 1024]⟩
abbrev S1x1024x512 : Shape := ⟨3, ![1, 1024, 512]⟩
abbrev S1024x512 : Shape := ⟨2, ![1024, 512]⟩

abbrev nBuf : Space → Nat
  | .hbm => 4
  | .vmem => 4
  | .smem => 0
  | _ => 0

abbrev bufTy : (tb : Table) → Fin (tcTables nBuf tb) → BufTy
  | .hbm, ⟨0, _⟩ => ⟨S256x512, .f32⟩
  | .hbm, ⟨1, _⟩ => ⟨S4x1024x512, .bf16⟩
  | .hbm, ⟨2, _⟩ => ⟨S256x1024, .f32⟩
  | .hbm, ⟨3, _⟩ => ⟨S256x1024, .f32⟩
  | .local _ .vmem, ⟨0, _⟩ => ⟨S256x512, .f32⟩
  | .local _ .vmem, ⟨1, _⟩ => ⟨S1x1024x512, .bf16⟩
  | .local _ .vmem, ⟨2, _⟩ => ⟨S256x1024, .f32⟩
  | .local _ .vmem, ⟨3, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== SlotbRefIdeal.lean ====
abbrev S256x512 : Shape := ⟨2, ![256, 512]⟩
abbrev S4x1024x512 : Shape := ⟨3, ![4, 1024, 512]⟩
abbrev S256x1024 : Shape := ⟨2, ![256, 1024]⟩
abbrev S_ : Shape := ⟨0, ![]⟩
abbrev S1x1024x512 : Shape := ⟨3, ![1, 1024, 512]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S4x1024x512, .bf16⟩
  | .hbm, ⟨2, _⟩ => ⟨S256x1024, .f32⟩
  | .hbm, ⟨3, _⟩ => ⟨S_, .f32⟩
  | .hbm, ⟨4, _⟩ => ⟨S256x1024, .f32⟩
  | .hbm, ⟨5, _⟩ => ⟨S1x1024x512, .bf16⟩
  | .hbm, ⟨6, _⟩ => ⟨S1024x512, .bf16⟩
  | .hbm, ⟨7, _⟩ => ⟨S1024x512, .f32⟩
  | .hbm, ⟨8, _⟩ => ⟨S256x512, .f32⟩
  | .hbm, ⟨9, _⟩ => ⟨S256x1024, .f32⟩
  | .hbm, ⟨10, _⟩ => ⟨S256x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Reals.lean ====
/- Real numbers among the extended reals: the constants that the programs print, sums of real numbers, and the reading of
   a check "every magnitude is below infinity" as "every element is a real number". -/
module

public import Idealize.ShloMosaic.Lib.Pointwise
public import Mathlib.Analysis.SpecialFunctions.Trigonometric.DerivHyp

@[expose] public section

open Idealize.ShloMosaic
open scoped BigOperators

noncomputable section

namespace Cert.Reals

/-- A sum of real numbers, taken among the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The bf16 pattern of infinity is the top. -/
theorem top_bf16 : Ideal.ofBits .bf16 0x7F80#16 = (⊤ : EReal) := by
  simp [Ideal.ofBits, Ideal.ieee]

/-- The f32 pattern of infinity is the top. -/
theorem top_f32 : Ideal.ofBits .f32 0x7F800000#32 = (⊤ : EReal) := by
  simp [Ideal.ofBits, Ideal.ieee]

/-- The f32 pattern of minus infinity is the bottom. -/
theorem bot_f32 : Ideal.ofBits .f32 0xFF800000#32 = (⊥ : EReal) := by
  simp [Ideal.ofBits, Ideal.ieee]

/-- One half. -/
theorem half_f32 : Ideal.ofBits .f32 0x3F000000#32 = (((1 : ℝ) / 2 : ℝ) : EReal) := by
  simp [Ideal.ofBits, Ideal.ieee, -EReal.coe_mul]; norm_num

/-- Minus one half. -/
theorem neg_half_f32 : Ideal.ofBits .f32 0xBF000000#32 = ((-((1 : ℝ) / 2) : ℝ) : EReal) := by
  simp [Ideal.ofBits, Ideal.ieee, -EReal.coe_mul, -EReal.coe_neg]; norm_num

/-- One, as a real number. -/
theorem one_f32 : Ideal.ofBits .f32 0x3F800000#32 = ((1 : ℝ) : EReal) := by
  simp [Ideal.ofBits, Ideal.ieee, -EReal.coe_mul]; norm_num

/-- Three. -/
theorem three_f32 : Ideal.ofBits .f32 0x40400000#32 = ((3 : ℝ) : EReal) := by
  simp [Ideal.ofBits, Ideal.ieee, -EReal.coe_mul]; norm_num

/-- One eighth. -/
theorem eighth_f32 : Ideal.ofBits .f32 0x3E000000#32 = (((1 : ℝ) / 8 : ℝ) : EReal) := by
  simp [Ideal.ofBits, Ideal.ieee, -EReal.coe_mul]; norm_num

/-- 1024. -/
theorem n1024_f32 : Ideal.ofBits .f32 0x44800000#32 = ((1024 : ℝ) : EReal) := by
  simp [Ideal.ofBits, Ideal.ieee, -EReal.coe_mul]; norm_num

/-- 768. -/
theorem n768_f32 : Ideal.ofBits .f32 0x44400000#32 = ((768 : ℝ) : EReal) := by
  simp [Ideal.ofBits, Ideal.ieee, -EReal.coe_mul]; norm_num

/-- The addend under the square root of a normalization. -/
def eps : ℝ := 8796093 / 2 ^ 43

theorem eps_pos : 0 < eps := by unfold eps; positivity

theorem eps_f32 : Ideal.ofBits .f32 0x358637BD#32 = (eps : EReal) := by
  unfold eps
  simp [Ideal.ofBits, Ideal.ieee, -EReal.coe_mul]; norm_num

/-- The factor under the hyperbolic tangent of the activation. -/
def geluC : ℝ := 13386282 / 2 ^ 24

theorem gelu_f32 : Ideal.ofBits .f32 0x3F4C422A#32 = (geluC : EReal) := by
  unfold geluC
  simp [Ideal.ofBits, Ideal.ieee, -EReal.coe_mul]; norm_num

/-- A magnitude below infinity belongs to a real number. -/
theorem real_of_olt {x : EReal} (h : Ideal.cmp .olt (max x (-x)) ⊤ = 1#1) : ∃ r : ℝ, x = (r : EReal) := by
  have h' : max x (-x) < ⊤ := by
    by_contra hn
    simp [Ideal.cmp, hn] at h
  induction x using EReal.rec with
  | bot => simp at h'
  | coe r => exact ⟨r, rfl⟩
  | top => simp at h'

/-- An array all of whose elements are real numbers, as the coercion of a real array. -/
theorem lift {ι : Type} {x : ι → EReal} (h : ∀ i, ∃ r : ℝ, x i = (r : EReal)) : ∃ X : ι → ℝ, x = fun i => (X i : EReal) :=
  ⟨fun i => (h i).choose, funext fun i => (h i).choose_spec⟩

/-- The logistic function written with one hyperbolic tangent. -/
theorem half_tanh (x : ℝ) : 1 / 2 * Real.tanh (1 / 2 * x) + 1 / 2 = 1 / (1 + Real.exp (-x)) := by
  have h := Real.exp_pos (1 / 2 * x)
  have e : Real.exp (-x) = (Real.exp (1 / 2 * x) * Real.exp (1 / 2 * x))⁻¹ := by
    rw [← Real.exp_add, ← Real.exp_neg]; congr 1; ring
  rw [Real.tanh_eq_sinh_div_cosh, Real.sinh_eq, Real.cosh_eq, e, Real.exp_neg]
  field_simp
  ring

/-- The logistic function as a host's lines spell it, at a real number. -/
theorem logistic_lines (x : ℝ) : Ideal.div 1 (1 + Ideal.exp (-(x : EReal))) = ((1 / (1 + Real.exp (-x)) : ℝ) : EReal) := by
  have h : (1 + Real.exp (-x)) ≠ 0 := by positivity
  rw [← EReal.coe_neg, Ideal.exp_coe, ← EReal.coe_one, ← EReal.coe_add, Ideal.div_coe h, ← EReal.coe_mul, one_mul]

/-- The same with the one read as a real number. -/
theorem logistic_lines' (x : ℝ) : Ideal.div ((1 : ℝ) : EReal) (((1 : ℝ) : EReal) + Ideal.exp (-(x : EReal))) = ((1 / (1 + Real.exp (-x)) : ℝ) : EReal) := by
  rw [EReal.coe_one, logistic_lines]

/-- A host's logistic lines and the half-angle form agree at every extended real: at the infinities both are one or zero. -/
theorem half_tanh_ext (x : EReal) : ((1 / 2 : ℝ) : EReal) * Ideal.tanh (((1 / 2 : ℝ) : EReal) * x) + ((1 / 2 : ℝ) : EReal)
    = Ideal.div ((1 : ℝ) : EReal) (((1 : ℝ) : EReal) + Ideal.exp (-x)) := by
  have hp : (0 : ℝ) < 1 / 2 := by norm_num
  induction x with
  | bot =>
    rw [EReal.coe_mul_bot_of_pos hp, Ideal.tanh_bot, EReal.neg_bot, Ideal.exp_top, EReal.coe_add_top, Ideal.div, if_neg EReal.top_ne_zero, EReal.inv_top, mul_zero,
      ← EReal.coe_one, ← EReal.coe_neg, ← EReal.coe_mul, ← EReal.coe_add]
    norm_num
  | top =>
    rw [EReal.coe_mul_top_of_pos hp, Ideal.tanh_top, EReal.neg_top, Ideal.exp_bot, add_zero, mul_one, ← EReal.coe_add, Ideal.div_coe one_ne_zero, ← EReal.coe_mul]
    norm_num
  | coe r => rw [logistic_lines', ← EReal.coe_mul, Ideal.tanh_coe, ← EReal.coe_mul, ← EReal.coe_add, half_tanh]

/-- A quotient of real numbers. -/
theorem div_real {x y : ℝ} (h : y ≠ 0) : Ideal.div (x : EReal) (y : EReal) = ((x / y : ℝ) : EReal) := by
  rw [Ideal.div_coe h, ← EReal.coe_mul]; congr 1; field_simp

/-- The reciprocal square root of a positive number. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- The square of the reciprocal square root. -/
theorem rsqrt_sq {x : ℝ} (h : 0 < x) : (Real.sqrt x)⁻¹ * (Real.sqrt x)⁻¹ = 1 / x := by
  rw [← mul_inv, Real.mul_self_sqrt h.le, one_div]

/-- The largest of a nonempty row of real numbers is a real number. -/
theorem fold_max_real {n : ℕ} (f : Fin (n + 1) → ℝ) :
    ∃ μ : ℝ, Finset.univ.fold max (Ideal.ofBits .f32 0xFF800000#32) (fun x => ((f x : ℝ) : EReal)) = ((μ : ℝ) : EReal) := by
  rw [bot_f32]
  obtain ⟨i, -, hi⟩ := Finset.exists_mem_eq_sup (Finset.univ : Finset (Fin (n + 1))) Finset.univ_nonempty (fun x => ((f x : ℝ) : EReal))
  exact ⟨f i, hi⟩

/-- A sum of exponentials over a nonempty row is positive. -/
theorem sum_exp_pos {n : ℕ} (f : Fin (n + 1) → ℝ) : 0 < ∑ x, Real.exp (f x) :=
  Finset.sum_pos (fun x _ => Real.exp_pos _) Finset.univ_nonempty

/-- A common shift of the scores leaves the weights. -/
theorem softmax_shift {n : ℕ} (f : Fin (n + 1) → ℝ) (μ : ℝ) (j : Fin (n + 1)) :
    Real.exp (f j - μ) * (1 / ∑ x, Real.exp (f x - μ)) = Real.exp (f j) / ∑ x, Real.exp (f x) := by
  have h : ∀ x, Real.exp (f x - μ) = Real.exp (f x) * Real.exp (-μ) := fun x => by rw [← Real.exp_add]; congr 1
  have p := sum_exp_pos f
  have e := Real.exp_pos (-μ)
  simp only [h, ← Finset.sum_mul]
  field_simp

end Cert.Reals
-- ==== Proof.PairValue.lean ====
/- The weight gradients of the two up-projections, `hᵀ·dg` and `hᵀ·du`: what each grid point adds to its output block,
   what the two output arrays end holding, and that the reference's two products are the same sums. -/
module

public import proofs.«01_k».proof.Proof.Gen.PairIdeal.Value
public import proofs.«01_k».proof.Proof.Gen.PairRefIdeal.Run
public import proofs.«01_k».proof.Defs
public import Idealize.ShloMosaic.Lib.Pointwise
public import Idealize.ShloMosaic.Lib.Pipeline.ValueKit

@[expose] public section

set_option maxRecDepth 16384

noncomputable section

namespace Cert.PairIdeal.Value

open Cert.PairIdeal Cert.PairIdeal.Gen Idealize.ShloMosaic Idealize.ShloMosaic.TcCoe Idealize.SL.Sem
open scoped BigOperators

variable (m : (ℓ : Loc nD τ sig) → Buf (Elt Ideal) ℓ)

/-- The block of `h` at grid point `n`: rows `1024·(n mod 8) …`, all columns. -/
theorem iblk0_apply (c : Dev nD) (n : ℕ) (h : n < cfg0.N) (r : Fin 1024) (l : Fin 1024) :
    iblk m c 0 ⟨n, h⟩ (ix2 r l) = m ((c : Thread nD τ).loc main_arg0) (ix2 ⟨n % 8 * 1024 + r.val, by omega⟩ l) := by
  have e : ∀ t : Fin cfg0.N, win0_0.index t = ![t.val % 8, 0] := by decide +kernel
  blk_ext [iblk, V, e]

/-- The blocks of the two cotangents at grid point `n`: rows `1024·(n mod 8) …`, columns `1408·(n / 8) …`. -/
theorem iblk1_apply (c : Dev nD) (n : ℕ) (h : n < cfg0.N) (r : Fin 1024) (l : Fin 1408) :
    iblk m c 1 ⟨n, h⟩ (ix2 r l)
      = m ((c : Thread nD τ).loc main_arg1) (ix2 ⟨n % 8 * 1024 + r.val, by omega⟩ ⟨n / 8 % 2 * 1408 + l.val, by omega⟩) := by
  have e : ∀ t : Fin cfg0.N, win0_1.index t = ![t.val % 8, t.val / 8 % 2] := by decide +kernel
  blk_ext [iblk, V, e]

theorem iblk2_apply (c : Dev nD) (n : ℕ) (h : n < cfg0.N) (r : Fin 1024) (l : Fin 1408) :
    iblk m c 2 ⟨n, h⟩ (ix2 r l)
      = m ((c : Thread nD τ).loc main_arg2) (ix2 ⟨n % 8 * 1024 + r.val, by omega⟩ ⟨n / 8 % 2 * 1408 + l.val, by omega⟩) := by
  have e : ∀ t : Fin cfg0.N, win0_2.index t = ![t.val % 8, t.val / 8 % 2] := by decide +kernel
  blk_ext [iblk, V, e]

/-- A step adds the product of the two blocks, summed over the block's rows, to the output block. -/
theorem pay3_apply (x : Vec Ideal S1024x1024 .bf16) (a : Vec Ideal S1024x1408 .f32) (y : Vec Ideal S1024x1408 .bf16) (r : Fin 1024) (l : Fin 1408) :
    k0_pay3 x a y (ix2 r l) = a (ix2 r l) + ∑ k : Fin 1024, x (ix2 k r) * y (ix2 k l) := by
  pointwise [k0_pay3]

theorem pay4_apply (x : Vec Ideal S1024x1024 .bf16) (a : Vec Ideal S1024x1408 .f32) (y : Vec Ideal S1024x1408 .bf16) (r : Fin 1024) (l : Fin 1408) :
    k0_pay4 x a y (ix2 r l) = a (ix2 r l) + ∑ k : Fin 1024, x (ix2 k r) * y (ix2 k l) := by
  pointwise [k0_pay4]

/-- What point `n` adds at a place of its output block: the rows of `h` and of the cotangent `d` it was given. -/
def add (x : Vec Ideal S8192x1024 .bf16) (d : Vec Ideal S8192x2816 .bf16) (n : ℕ) (i : S1024x1408.Idx) : EReal :=
  ∑ k : Fin 1024, x (ix2 ⟨n % 8 * 1024 + k.val, by omega⟩ (i 0)) * d (ix2 ⟨n % 8 * 1024 + k.val, by omega⟩ ⟨n / 8 % 2 * 1408 + (i 1).val, by have : (i 1).val < 1408 := (i 1).isLt; omega⟩)

/-- The whole product at an index of the array: all 8192 rows. -/
def prod (x : Vec Ideal S8192x1024 .bf16) (d : Vec Ideal S8192x2816 .bf16) : Vec Ideal S1024x2816 .f32 := fun i =>
  ∑ k : Fin 8192, x (ix2 k (i 0)) * d (ix2 k (i 1))

/-- Eight points' additions are the whole product. -/
theorem adds_eq (x : Vec Ideal S8192x1024 .bf16) (d : Vec Ideal S8192x2816 .bf16) (i : S1024x2816.Idx) :
    ∑ s ∈ Finset.range 8, add x d (8 * run3Of i + s) (loc3Of i) = prod x d i := by
  have h0 : (i 0).val < 1024 := (i 0).isLt
  have h1 : (i 1).val < 2816 := (i 1).isLt
  rw [← Fin.sum_univ_eq_sum_range (fun s => add x d (8 * run3Of i + s) (loc3Of i))]
  unfold prod
  refine Eq.trans ?_ (Fin.sum_mul_add_fin 8 1024 (fun l : Fin 8192 => x (ix2 l (i 0)) * d (ix2 l (i 1))))
  refine Finset.sum_congr rfl fun s _ => Finset.sum_congr rfl fun k _ => ?_
  have hs := s.isLt
  have e : (8 * run3Of i + s.val) % 8 = s.val := by omega
  have hr : run3Of i = (i 1).val / 1408 := by
    show 2 * ((i 0).val / 1024 - 0) + 1 * ((i 1).val / 1408 - 0) = _
    omega
  have e' : (8 * run3Of i + s.val) / 8 = (i 1).val / 1408 := by omega
  congr 1
  · refine congrArg x (Shape.idx_ext₂ ?_ ?_) <;> dsimp <;> omega
  · refine congrArg d (Shape.idx_ext₂ ?_ ?_) <;> dsimp <;> simp only [e, e'] <;> omega

theorem zero1 (i : S1024x1408.Idx) : k0_pay1 (F := Ideal) i = 0 := by pointwise [k0_pay1]
theorem zero2 (i : S1024x1408.Idx) : k0_pay2 (F := Ideal) i = 0 := by pointwise [k0_pay2]

theorem step3_apply (c : Dev nD) (n : ℕ) (h : n < cfg0.N) (acc : Vec Ideal S1024x1408 .f32) (i : S1024x1408.Idx) :
    step3 m c n h acc i = acc i + add (m ((c : Thread nD τ).loc main_arg0)) (m ((c : Thread nD τ).loc main_arg1)) n i := by
  obtain ⟨r, l, rfl⟩ : ∃ (r : Fin 1024) (l : Fin 1408), i = ix2 r l := ⟨i 0, i 1, eq_ix2 i⟩
  unfold step3 add
  rw [pay3_apply]
  simp only [iblk0_apply, iblk1_apply]
  rfl

theorem step4_apply (c : Dev nD) (n : ℕ) (h : n < cfg0.N) (acc : Vec Ideal S1024x1408 .f32) (i : S1024x1408.Idx) :
    step4 m c n h acc i = acc i + add (m ((c : Thread nD τ).loc main_arg0)) (m ((c : Thread nD τ).loc main_arg2)) n i := by
  obtain ⟨r, l, rfl⟩ : ∃ (r : Fin 1024) (l : Fin 1408), i = ix2 r l := ⟨i 0, i 1, eq_ix2 i⟩
  unfold step4 add
  rw [pay4_apply]
  simp only [iblk0_apply, iblk2_apply]
  rfl

theorem run_lt (i : S1024x2816.Idx) : 8 * run3Of i + 7 < cfg0.N := by
  have h0 : (i 0).val < 1024 := (i 0).isLt
  have h1 : (i 1).val < 2816 := (i 1).isLt
  rw [show cfg0.N = 16 from N_0]; show 8 * (2 * ((i 0).val / 1024 - 0) + 1 * ((i 1).val / 1408 - 0)) + 7 < 16
  omega

/-- The first output array ends holding the whole product `hᵀ·dg`. -/
theorem G3_eq (c : Dev nD) : G3 m c = prod (m ((c : Thread nD τ).loc main_arg0)) (m ((c : Thread nD τ).loc main_arg1)) := by
  funext i
  unfold G3
  rw [dif_pos (run_lt i), Pipeline.accAt_add_apply (reset3 m c) (step3 m c) (fun _ => (0 : EReal)) (add (m ((c : Thread nD τ).loc main_arg0)) (m ((c : Thread nD τ).loc main_arg1))) _ 7
    (fun h j => (step3_apply m c _ h _ j).trans (by rw [zero1])) (fun n h acc j _ _ => step3_apply m c n h acc j) 7 le_rfl, zero_add]
  exact adds_eq _ _ i

/-- The second ends holding `hᵀ·du`. -/
theorem G4_eq (c : Dev nD) : G4 m c = prod (m ((c : Thread nD τ).loc main_arg0)) (m ((c : Thread nD τ).loc main_arg2)) := by
  funext i
  unfold G4
  rw [dif_pos (run_lt i), Pipeline.accAt_add_apply (reset4 m c) (step4 m c) (fun _ => (0 : EReal)) (add (m ((c : Thread nD τ).loc main_arg0)) (m ((c : Thread nD τ).loc main_arg2))) _ 7
    (fun h j => (step4_apply m c _ h _ j).trans (by rw [zero2])) (fun n h acc j _ _ => step4_apply m c n h acc j) 7 le_rfl, zero_add]
  exact adds_eq _ _ i

end Cert.PairIdeal.Value

/-! ## The claim -/

namespace Cert.Proof

open Idealize.ShloMosaic Idealize.ShloMosaic.TcCoe Idealize.SL.Sem

theorem pair_ref (x : FVec Ideal Cert.PairRefIdeal.S8192x1024 .bf16) (d : FVec Ideal Cert.PairRefIdeal.S8192x2816 .bf16) :
    transpose Cert.PairRefIdeal.S1024x2816 [1, 0] (Host.dotGeneral Cert.PairRefIdeal.dot_S8192x2816_S8192x1024_S2816x1024_0_0_1_1_n_n none (extf .f32 d Cert.PairRefIdeal.Gen.bitsLt_bf16_f32) (extf .f32 x Cert.PairRefIdeal.Gen.bitsLt_bf16_f32)) Cert.PairRefIdeal.Gen.transposes_S2816x1024_S1024x2816_1_0
      = (Cert.PairIdeal.Value.prod x d : FVec Ideal Cert.PairRefIdeal.S1024x2816 .f32) := by
  funext i
  obtain ⟨r, l, rfl⟩ : ∃ (r : Fin 1024) (l : Fin 2816), i = ix2 r l := ⟨i 0, i 1, eq_ix2 i⟩
  unfold Cert.PairIdeal.Value.prod
  pointwise []
  exact Finset.sum_congr rfl fun k _ => mul_comm _ _

theorem algebraic_pair : algebraic_PairIdeal_PairRefIdeal (hPairIdeal := Cert.PairIdeal.Gen.facts) (hPairRefIdeal := Cert.PairRefIdeal.Gen.facts) := by
  intro m g m' g' _ hm
  refine ⟨fun c => Cert.PairIdeal.Value.prod (m ((c.tc : Thread _ _).loc Cert.PairIdeal.main_arg0)) (m ((c.tc : Thread _ _).loc Cert.PairIdeal.main_arg1)),
    fun c => Cert.PairIdeal.Value.prod (m ((c.tc : Thread _ _).loc Cert.PairIdeal.main_arg0)) (m ((c.tc : Thread _ _).loc Cert.PairIdeal.main_arg2)), ?_, ?_⟩
  · refine (θ_run _ _ _).mono (fun r h c => ?_) (Cert.PairIdeal.Value.run m g)
    obtain ⟨h3, h4, h⟩ := h c
    exact ⟨h3.trans (Cert.PairIdeal.Value.G3_eq m c), h4.trans (Cert.PairIdeal.Value.G4_eq m c), h⟩
  · refine (θ_run _ _ _).mono (fun r h c => ?_) (Cert.PairRefIdeal.Value.run m' g')
    obtain ⟨h3, h4, h⟩ := h c
    obtain ⟨e0, e1, e2⟩ := hm c
    rw [e0, e1, pair_ref] at h3
    rw [e0, e2, pair_ref] at h4
    exact ⟨h3, h4, h⟩

end Cert.Proof

end
-- ==== Proof.DownValue.lean ====
/- The down-projection's backward call: the cotangents of the gate and of the up product, and the weight gradient. What the
   kernel leaves in its three output arrays, as real numbers, and that the reference's chain-rule lines are the same. -/
module

public import proofs.«01_k».proof.Proof.Gen.DownIdeal.Value
public import proofs.«01_k».proof.Proof.Gen.DownRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.DownIdeal.Value

open Cert.DownIdeal Cert.DownIdeal.Gen Idealize.ShloMosaic Idealize.ShloMosaic.TcCoe Idealize.SL.Sem
open scoped BigOperators

/-! ## The gradient in real numbers -/

/-- The logistic function. -/
def sg (x : ℝ) : ℝ := 1 / (1 + Real.exp (-x))

/-- The cotangent of the gated activation at a row and a column. -/
def da (D : S8192x1024.Idx → ℝ) (W : S2816x1024.Idx → ℝ) (r : Fin 8192) (l : Fin 2816) : ℝ :=
  (∑ k : Fin 1024, D (ix2 r k) * W (ix2 l k)) * (1 / 2)

/-- The gate's cotangent. -/
def dgR (D : S8192x1024.Idx → ℝ) (W : S2816x1024.Idx → ℝ) (G U : S8192x2816.Idx → ℝ) : FVec Ideal S8192x2816 .bf16 := fun i =>
  ((da D W (i 0) (i 1) * U i * (sg (G i) * (1 + G i * (1 - sg (G i)))) : ℝ) : EReal)

/-- The up product's cotangent. -/
def duR (D : S8192x1024.Idx → ℝ) (W : S2816x1024.Idx → ℝ) (G : S8192x2816.Idx → ℝ) : FVec Ideal S8192x2816 .bf16 := fun i =>
  ((da D W (i 0) (i 1) * (G i * sg (G i)) : ℝ) : EReal)

/-- One row's part of the weight gradient. -/
def wterm (D : S8192x1024.Idx → ℝ) (G U : S8192x2816.Idx → ℝ) (r : Fin 8192) (l : Fin 2816) (k : Fin 1024) : ℝ :=
  G (ix2 r l) * sg (G (ix2 r l)) * U (ix2 r l) * D (ix2 r k)

/-- The weight gradient. -/
def dwR (D : S8192x1024.Idx → ℝ) (G U : S8192x2816.Idx → ℝ) : FVec Ideal S2816x1024 .f32 := fun i =>
  (((∑ r : Fin 8192, wterm D G U r (i 0) (i 1)) * (1 / 2) : ℝ) : EReal)

/-! ## The kernel's blocks -/

variable (m : (ℓ : Loc nD τ sig) → Buf (Elt Ideal) ℓ)

theorem iblk0_apply (c : Dev nD) (n : ℕ) (h : n < cfg0.N) (r : Fin 512) (l : Fin 1024) :
    iblk m c 0 ⟨n, h⟩ (ix2 r l) = m ((c : Thread nD τ).loc main_arg0) (ix2 ⟨n % 16 * 512 + r.val, by omega⟩ l) := by
  have e : ∀ t : Fin cfg0.N, win0_0.index t = ![t.val % 16, 0] := by decide +kernel
  blk_ext [iblk, V, e]

theorem iblk1_apply (c : Dev nD) (n : ℕ) (h : n < cfg0.N) (r : Fin 1408) (l : Fin 1024) :
    iblk m c 1 ⟨n, h⟩ (ix2 r l) = m ((c : Thread nD τ).loc main_arg1) (ix2 ⟨n / 16 % 2 * 1408 + r.val, by omega⟩ l) := by
  have e : ∀ t : Fin cfg0.N, win0_1.index t = ![t.val / 16 % 2, 0] := by decide +kernel
  blk_ext [iblk, V, e]

theorem iblk2_apply (c : Dev nD) (n : ℕ) (h : n < cfg0.N) (r : Fin 512) (l : Fin 1408) :
    iblk m c 2 ⟨n, h⟩ (ix2 r l)
      = m ((c : Thread nD τ).loc main_arg2) (ix2 ⟨n % 16 * 512 + r.val, by omega⟩ ⟨n / 16 % 2 * 1408 + l.val, by omega⟩) := by
  have e : ∀ t : Fin cfg0.N, win0_2.index t = ![t.val % 16, t.val / 16 % 2] := by decide +kernel
  blk_ext [iblk, V, e]

theorem iblk3_apply (c : Dev nD) (n : ℕ) (h : n < cfg0.N) (r : Fin 512) (l : Fin 1408) :
    iblk m c 3 ⟨n, h⟩ (ix2 r l)
      = m ((c : Thread nD τ).loc main_arg3) (ix2 ⟨n % 16 * 512 + r.val, by omega⟩ ⟨n / 16 % 2 * 1408 + l.val, by omega⟩) := by
  have e : ∀ t : Fin cfg0.N, win0_3.index t = ![t.val % 16, t.val / 16 % 2] := by decide +kernel
  blk_ext [iblk, V, e]

/-- The gated activation that the call takes as its fifth operand, from the host's lines. -/
theorem V_act (c : Dev nD) (G U : S8192x2816.Idx → ℝ)
    (hG : m ((c : Thread nD τ).loc main_arg2) = fun i => ((G i : ℝ) : EReal)) (hU : m ((c : Thread nD τ).loc main_arg3) = fun i => ((U i : ℝ) : EReal)) (r : Fin 8192) (l : Fin 2816) :
    V m c main_v4 (ix2 r l) = (((G (ix2 r l) * sg (G (ix2 r l)) * U (ix2 r l)) : ℝ) : EReal) := by
  have e : V m c main_v4 = truncf (F := Ideal) .bf16 (mulf (mulf (extf .f32 (m ((c : Thread nD τ).loc main_arg2)) bitsLt_bf16_f32) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 (m ((c : Thread nD τ).loc main_arg2)) bitsLt_bf16_f32)))))) (extf .f32 (m ((c : Thread nD τ).loc main_arg3)) bitsLt_bf16_f32)) bitsLt_bf16_f32 := by
    entry_read
    rfl
  rw [e, hG, hU]
  pointwise []
  rw [Reals.logistic_lines]
  simp only [← EReal.coe_mul]
  rfl

/-- A grid point's block of the gate's cotangent. -/
theorem pay5_apply (d : FVec Ideal S512x1024 .bf16) (w : FVec Ideal S1408x1024 .bf16) (g u : FVec Ideal S512x1408 .bf16) (r : Fin 512) (l : Fin 1408)
    (D : Fin 1024 → ℝ) (W : Fin 1024 → ℝ) (G U : ℝ) (hd : ∀ k, d (ix2 r k) = ((D k : ℝ) : EReal)) (hw : ∀ k, w (ix2 l k) = ((W k : ℝ) : EReal))
    (hg : g (ix2 r l) = ((G : ℝ) : EReal)) (hu : u (ix2 r l) = ((U : ℝ) : EReal)) :
    k0_pay5 (F := Ideal) d w g u (ix2 r l) = (((∑ k, D k * W k) * (1 / 2) * U * (sg G * (1 + G * (1 - sg G))) : ℝ) : EReal) := by
  pointwise [k0_pay5, k0_pay2, k0_pay3, k0_pay4]
  simp only [hd, hw, hg, hu, Reals.half_f32, ← EReal.coe_one, ← EReal.coe_mul, Reals.coe_sum, Ideal.tanh_coe, ← EReal.coe_add, ← EReal.coe_sub, Reals.half_tanh]
  rfl

/-- A grid point's block of the up product's cotangent. -/
theorem pay6_apply (d : FVec Ideal S512x1024 .bf16) (w : FVec Ideal S1408x1024 .bf16) (g : FVec Ideal S512x1408 .bf16) (r : Fin 512) (l : Fin 1408)
    (D : Fin 1024 → ℝ) (W : Fin 1024 → ℝ) (G : ℝ) (hd : ∀ k, d (ix2 r k) = ((D k : ℝ) : EReal)) (hw : ∀ k, w (ix2 l k) = ((W k : ℝ) : EReal))
    (hg : g (ix2 r l) = ((G : ℝ) : EReal)) :
    k0_pay6 (F := Ideal) d w g (ix2 r l) = (((∑ k, D k * W k) * (1 / 2) * (G * sg G) : ℝ) : EReal) := by
  pointwise [k0_pay6, k0_pay2, k0_pay3, k0_pay4]
  simp only [hd, hw, hg, Reals.half_f32, ← EReal.coe_one, ← EReal.coe_mul, Reals.coe_sum, Ideal.tanh_coe, ← EReal.coe_add, ← EReal.coe_sub, Reals.half_tanh]
  rfl

/-- A grid point's addition to the weight gradient's block. -/
theorem pay1_apply (d : FVec Ideal S512x1024 .bf16) (acc : FVec Ideal S1408x1024 .f32) (a : FVec Ideal S512x1408 .bf16) (l : Fin 1408) (k : Fin 1024)
    (D A : Fin 512 → ℝ) (hd : ∀ r, d (ix2 r k) = ((D r : ℝ) : EReal)) (ha : ∀ r, a (ix2 r l) = ((A r : ℝ) : EReal)) :
    k0_pay1 (F := Ideal) d acc a (ix2 l k) = acc (ix2 l k) + (((∑ r, A r * D r) * (1 / 2) : ℝ) : EReal) := by
  pointwise [k0_pay1]
  simp only [hd, ha, Reals.half_f32, ← EReal.coe_mul, Reals.coe_sum]

theorem zero7 (i : S1408x1024.Idx) : k0_pay7 (F := Ideal) i = 0 := by pointwise [k0_pay7]

/-! ## The kernel's output arrays -/

/-- The arguments as real arrays. -/
structure Real4 (c : Dev nD) (D : S8192x1024.Idx → ℝ) (W : S2816x1024.Idx → ℝ) (G U : S8192x2816.Idx → ℝ) : Prop where
  d : m ((c : Thread nD τ).loc main_arg0) = fun i => ((D i : ℝ) : EReal)
  w : m ((c : Thread nD τ).loc main_arg1) = fun i => ((W i : ℝ) : EReal)
  g : m ((c : Thread nD τ).loc main_arg2) = fun i => ((G i : ℝ) : EReal)
  u : m ((c : Thread nD τ).loc main_arg3) = fun i => ((U i : ℝ) : EReal)

variable (c : Dev nD) {D : S8192x1024.Idx → ℝ} {W : S2816x1024.Idx → ℝ} {G U : S8192x2816.Idx → ℝ} (H : Real4 m c D W G U)

include H

theorem iblk4_apply (n : ℕ) (h : n < cfg0.N) (r : Fin 512) (l : Fin 1408) :
    iblk m c 4 ⟨n, h⟩ (ix2 r l)
      = (((G (ix2 ⟨n % 16 * 512 + r.val, by omega⟩ ⟨n / 16 % 2 * 1408 + l.val, by omega⟩) * sg (G (ix2 ⟨n % 16 * 512 + r.val, by omega⟩ ⟨n / 16 % 2 * 1408 + l.val, by omega⟩)) * U (ix2 ⟨n % 16 * 512 + r.val, by omega⟩ ⟨n / 16 % 2 * 1408 + l.val, by omega⟩)) : ℝ) : EReal) := by
  have e : ∀ t : Fin cfg0.N, win0_4.index t = ![t.val % 16, t.val / 16 % 2] := by decide +kernel
  rw [← V_act m c G U H.g H.u]
  generalize hV : V m c main_v4 = v
  unfold iblk
  rw [show V m c (Pipeline.arrRef spec0 4) = v from hV]
  blk_ext [e]

omit H in
/-- What every grid point leaves in its block of the gate's cotangent. -/
theorem outs5 (t : Fin cfg0.N) : (outsAt0 m c t.val t.isLt).1 = k0_pay5 (F := Ideal) (iblk m c 0 t) (iblk m c 1 t) (iblk m c 2 t) (iblk m c 3 t) := by
  by_cases h0 : t.val % 16 = 0
  · rw [outsAt0_A m c t h0]
    frame_out
  · rw [outsAt0_B m c t h0]
    frame_out

omit H in
/-- What every grid point leaves in its block of the up product's cotangent. -/
theorem outs6 (t : Fin cfg0.N) : (outsAt0 m c t.val t.isLt).2.1 = k0_pay6 (F := Ideal) (iblk m c 0 t) (iblk m c 1 t) (iblk m c 2 t) := by
  by_cases h0 : t.val % 16 = 0
  · rw [outsAt0_A m c t h0]
    frame_out
  · rw [outsAt0_B m c t h0]
    frame_out

omit H in
/-- The weight gradient's block after the first point of a run. -/
theorem outs7_A (t : Fin cfg0.N) (h0 : t.val % 16 = 0) :
    (outsAt0 m c t.val t.isLt).2.2 = k0_pay1 (F := Ideal) (iblk m c 0 t) (k0_pay7 (F := Ideal)) (iblk m c 4 t) := by
  rw [outsAt0_A m c t h0]
  frame_out

omit H in
/-- The weight gradient's block after a later point: what the point before left, and this point's addition. -/
theorem outs7_B (t : Fin cfg0.N) (h0 : ¬t.val % 16 = 0) :
    (outsAt0 m c t.val t.isLt).2.2 = k0_pay1 (F := Ideal) (iblk m c 0 t) ((outsAt0 m c (t.val - 1) (Nat.lt_of_le_of_lt (Nat.sub_le _ _) t.isLt)).2.2) (iblk m c 4 t) := by
  rw [outsAt0_B m c t h0]
  frame_out

theorem arr5 : (dats m 0 c).arrAt 5 cfg0.N = dgR D W G U := by
  refine (dats m 0 c).arrAt_eq_of_covers 5 _ (by decide +kernel) fun t hf y => ?_
  have e : ∀ t : Fin cfg0.N, win0_5.index t = ![t.val % 16, t.val / 16 % 2] := by decide +kernel
  blk_simp
  rw [after0_5, outs5]
  obtain ⟨r, l, rfl⟩ : ∃ (r : Fin 512) (l : Fin 1408), y = ix2 r l := ⟨y 0, y 1, eq_ix2 y⟩
  have he : (win0_5.blk t).view.emb (ix2 r l) = ix2 (⟨t.val % 16 * 512 + r.val, by omega⟩ : Fin 8192) (⟨t.val / 16 % 2 * 1408 + l.val, by omega⟩ : Fin 2816) := by
    refine Shape.idx_ext₂ ?_ ?_ <;> blk_simp <;> rw [e] <;> rfl
  rw [he, pay5_apply _ _ _ _ r l _ _ _ _ (fun k => (iblk0_apply m c t.val t.isLt r k).trans (congrFun H.d _)) (fun k => (iblk1_apply m c t.val t.isLt l k).trans (congrFun H.w _))
    ((iblk2_apply m c t.val t.isLt r l).trans (congrFun H.g _)) ((iblk3_apply m c t.val t.isLt r l).trans (congrFun H.u _))]
  rfl

theorem arr6 : (dats m 0 c).arrAt 6 cfg0.N = duR D W G := by
  refine (dats m 0 c).arrAt_eq_of_covers 6 _ (by decide +kernel) fun t hf y => ?_
  have e : ∀ t : Fin cfg0.N, win0_6.index t = ![t.val % 16, t.val / 16 % 2] := by decide +kernel
  blk_simp
  rw [after0_6, outs6]
  obtain ⟨r, l, rfl⟩ : ∃ (r : Fin 512) (l : Fin 1408), y = ix2 r l := ⟨y 0, y 1, eq_ix2 y⟩
  have he : (win0_6.blk t).view.emb (ix2 r l) = ix2 (⟨t.val % 16 * 512 + r.val, by omega⟩ : Fin 8192) (⟨t.val / 16 % 2 * 1408 + l.val, by omega⟩ : Fin 2816) := by
    refine Shape.idx_ext₂ ?_ ?_ <;> blk_simp <;> rw [e] <;> rfl
  rw [he, pay6_apply _ _ _ r l _ _ _ (fun k => (iblk0_apply m c t.val t.isLt r k).trans (congrFun H.d _)) (fun k => (iblk1_apply m c t.val t.isLt l k).trans (congrFun H.w _))
    ((iblk2_apply m c t.val t.isLt r l).trans (congrFun H.g _))]
  rfl

/-- The part of the weight gradient that grid point `n` adds at a place of its block. -/
def wadd (D : S8192x1024.Idx → ℝ) (G U : S8192x2816.Idx → ℝ) (n : ℕ) (l : Fin 1408) (k : Fin 1024) : ℝ :=
  (∑ r : Fin 512, wterm D G U ⟨n % 16 * 512 + r.val, by omega⟩ ⟨n / 16 % 2 * 1408 + l.val, by omega⟩ k) * (1 / 2)

theorem step7 (n : ℕ) (h : n < cfg0.N) (acc : FVec Ideal S1408x1024 .f32) (j : S1408x1024.Idx) :
    k0_pay1 (F := Ideal) (iblk m c 0 ⟨n, h⟩) acc (iblk m c 4 ⟨n, h⟩) j = acc j + ((wadd D G U n (j 0) (j 1) : ℝ) : EReal) := by
  obtain ⟨l, k, rfl⟩ : ∃ (l : Fin 1408) (k : Fin 1024), j = ix2 l k := ⟨j 0, j 1, eq_ix2 j⟩
  rw [pay1_apply _ _ _ l k _ _ (fun r => (iblk0_apply m c n h r k).trans (congrFun H.d _)) (fun r => iblk4_apply m c H n h r l)]
  rfl

theorem arr7 : (dats m 0 c).arrAt 7 cfg0.N = dwR D G U := by
  refine (dats m 0 c).arrAt_eq_of_covers 7 _ (by decide +kernel) fun t hf y => ?_
  have e : ∀ t : Fin cfg0.N, win0_7.index t = ![t.val / 16 % 2, 0] := by decide +kernel
  blk_simp
  rw [after0_7]
  obtain ⟨l, k, rfl⟩ : ∃ (l : Fin 1408) (k : Fin 1024), y = ix2 l k := ⟨y 0, y 1, eq_ix2 y⟩
  have he : (win0_7.blk t).view.emb (ix2 l k) = ix2 (⟨t.val / 16 % 2 * 1408 + l.val, by omega⟩ : Fin 2816) k := by
    refine Shape.idx_ext₂ ?_ ?_ <;> blk_simp <;> rw [e] <;> simp
  rw [he]
  have hr := (flush0_7 t).mp hf
  have hN : t.val < 32 := lt_of_lt_of_eq t.isLt N_0
  rw [Pipeline.eq_sum_fin_of_reset_step_apply_of_flush (fun n h => (outsAt0 m c n h).2.2) 16 (fun _ => (0 : EReal)) (fun t j => ((wadd D G U t.val (j 0) (j 1) : ℝ) : EReal))
    (fun t h0 j => by
      show (outsAt0 m c t.val t.isLt).2.2 j = _
      rw [outs7_A m c t h0, step7 m c H t.val t.isLt, zero7])
    (fun t h0 j => by
      show (outsAt0 m c t.val t.isLt).2.2 j = _
      rw [outs7_B m c t h0, step7 m c H t.val t.isLt]) t hr]
  rw [zero_add, Reals.coe_sum]
  unfold dwR wadd
  refine congrArg _ ?_
  rw [← Finset.sum_mul]
  refine congrArg (· * _) ?_
  refine Eq.trans ?_ (Fin.sum_mul_add_fin 16 512 (fun r : Fin 8192 => wterm D G U r ⟨t.val / 16 % 2 * 1408 + l.val, by omega⟩ k))
  refine Finset.sum_congr rfl fun s _ => Finset.sum_congr rfl fun q _ => ?_
  have hs := s.isLt
  have e1 : (16 * (t.val / 16) + s.val) % 16 = s.val := by omega
  have e2 : (16 * (t.val / 16) + s.val) / 16 = t.val / 16 := by omega
  show wterm D G U ⟨(16 * (t.val / 16) + s.val) % 16 * 512 + q.val, _⟩ ⟨(16 * (t.val / 16) + s.val) / 16 % 2 * 1408 + l.val, _⟩ k = _
  simp only [e1, e2]

end Cert.DownIdeal.Value

/-! ## The claim -/

namespace Cert.Proof

open Idealize.ShloMosaic Idealize.ShloMosaic.TcCoe Idealize.SL.Sem

/-- The shape facts that the finiteness check states. -/
theorem facts_down : Cert.Pre_finite_down.Facts where
  bcast_S_S8192x1024 := by decide
  bcast_S_S2816x1024 := by decide
  bcast_S_S8192x2816 := by decide

/-- The precondition makes every argument a real array. -/
theorem down_real (m : (ℓ : Loc Cert.DownIdeal.nD Cert.DownIdeal.τ Cert.DownIdeal.sig) → Buf (Elt Ideal) ℓ)
    (h : Pre_DownIdeal_finite_down (hPre_finite_down := facts_down) m) (c : Dev Cert.DownIdeal.nD) :
    ∃ D W G U, Cert.DownIdeal.Value.Real4 m c D W G U := by
  obtain ⟨h0, h1, h2, h3⟩ := h c
  have q : ∀ {S : Shape} (x : FVec Ideal S .bf16), (∀ i, Ideal.cmp .olt (max (x i) (-(x i))) (Ideal.ofBits .bf16 0x7F80#16) = 1#1) → ∃ X : S.Idx → ℝ, x = fun i => ((X i : ℝ) : EReal) :=
    fun x hx => Cert.Reals.lift fun i => Cert.Reals.real_of_olt (by rw [← Cert.Reals.top_bf16]; exact hx i)
  obtain ⟨D, hD⟩ := q _ (fun i => congrFun h0 i)
  obtain ⟨W, hW⟩ := q _ (fun i => congrFun h1 i)
  obtain ⟨G, hG⟩ := q _ (fun i => congrFun h2 i)
  obtain ⟨U, hU⟩ := q _ (fun i => congrFun h3 i)
  exact ⟨D, W, G, U, hD, hW, hG, hU⟩

theorem algebraic_down : algebraic_DownIdeal_DownRefIdeal_pre_finite_down (hDownIdeal := Cert.DownIdeal.Gen.facts) (hDownRefIdeal := Cert.DownRefIdeal.Gen.facts) (hPre_finite_down := facts_down) := by
  intro m g m' g' hp hm
  choose D W G U H using down_real m hp
  refine ⟨fun c => Cert.DownIdeal.Value.dgR (D c) (W c) (G c) (U c), fun c => Cert.DownIdeal.Value.duR (D c) (W c) (G c), fun c => Cert.DownIdeal.Value.dwR (D c) (G c) (U c), ?_, ?_⟩
  · refine (θ_run _ _ _).mono (fun r h c => ?_) (Cert.DownIdeal.Value.run_blocks m g)
    obtain ⟨h5, h6, h7, h⟩ := h c
    exact ⟨h5.trans (Cert.DownIdeal.Value.arr5 m c (H c)), h6.trans (Cert.DownIdeal.Value.arr6 m c (H c)), h7.trans (Cert.DownIdeal.Value.arr7 m c (H c)), h⟩
  · refine (θ_run _ _ _).mono (fun r h c => ?_) (Cert.DownRefIdeal.Value.run m' g')
    obtain ⟨h5, h6, h7, h⟩ := h c
    obtain ⟨e0, e1, e2, e3⟩ := hm c
    have d := e0.trans (H c).d
    have w := e1.trans (H c).w
    have gg := e2.trans (H c).g
    have u := e3.trans (H c).u
    refine ⟨h5.trans ?_, h6.trans ?_, h7.trans ?_, h⟩
    · rw [d, w, gg, u]
      funext i
      obtain ⟨r, l, rfl⟩ : ∃ (r : Fin 8192) (l : Fin 2816), i = ix2 r l := ⟨i 0, i 1, eq_ix2 i⟩
      pointwise []
      simp only [Cert.Reals.logistic_lines', Cert.Reals.half_f32, ← EReal.coe_one, ← EReal.coe_mul, Cert.Reals.coe_sum, ← EReal.coe_add, ← EReal.coe_sub]
      refine congrArg _ ?_
      have q : ∀ k, 1 / 2 * D c (ix2 r k) * W c (ix2 l k) = D c (ix2 r k) * W c (ix2 l k) * (1 / 2) := fun k => by ring
      simp only [q, ← Finset.sum_mul, Cert.DownIdeal.Value.da, Cert.DownIdeal.Value.sg, ix2_0, ix2_1]
      ring
    · rw [d, w, gg]
      funext i
      obtain ⟨r, l, rfl⟩ : ∃ (r : Fin 8192) (l : Fin 2816), i = ix2 r l := ⟨i 0, i 1, eq_ix2 i⟩
      pointwise []
      simp only [Cert.Reals.logistic_lines', Cert.Reals.half_f32, ← EReal.coe_one, ← EReal.coe_mul, Cert.Reals.coe_sum, ← EReal.coe_add, ← EReal.coe_sub]
      refine congrArg _ ?_
      have q : ∀ k, 1 / 2 * D c (ix2 r k) * W c (ix2 l k) = D c (ix2 r k) * W c (ix2 l k) * (1 / 2) := fun k => by ring
      simp only [q, ← Finset.sum_mul, Cert.DownIdeal.Value.da, Cert.DownIdeal.Value.sg, ix2_0, ix2_1]
      ring
    · rw [d, gg, u]
      funext i
      obtain ⟨l, k, rfl⟩ : ∃ (l : Fin 2816) (k : Fin 1024), i = ix2 l k := ⟨i 0, i 1, eq_ix2 i⟩
      pointwise []
      simp only [Cert.Reals.logistic_lines', Cert.Reals.half_f32, ← EReal.coe_one, ← EReal.coe_mul, Cert.Reals.coe_sum, ← EReal.coe_add, ← EReal.coe_sub]
      refine congrArg _ ?_
      rw [Finset.sum_mul]
      refine Finset.sum_congr rfl fun x _ => ?_
      simp only [Cert.DownIdeal.Value.wterm, Cert.DownIdeal.Value.sg, ix2_0, ix2_1]
      ring

end Cert.Proof
-- ==== Proof.UpValue.lean ====
/- The up-projections' backward call: the two products with the up weights, the normalization's gradient with the residual
   added, and the gain's gradient. What the kernel leaves in its three output arrays, as real numbers, and that the
   reference's chain-rule lines are the same. -/
module

public import proofs.«01_k».proof.Proof.Gen.UpIdeal.Value
public import proofs.«01_k».proof.Proof.Gen.UpRefIdeal.Run
public import proofs.«01_k».proof.Proof.Gen.UpRefIdeal.Read
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.UpIdeal.Value

open Cert.UpIdeal Cert.UpIdeal.Gen Idealize.ShloMosaic Idealize.ShloMosaic.TcCoe Idealize.SL.Sem
open scoped BigOperators

/-! ## The gradient in real numbers -/

/-- A row's mean square, with the addend that keeps it positive. -/
def ms (x : Fin 1024 → ℝ) : ℝ := (∑ k, x k * x k) / 1024 + Reals.eps

theorem ms_pos (x : Fin 1024 → ℝ) : 0 < ms x :=
  add_pos_of_nonneg_of_pos (div_nonneg (Finset.sum_nonneg fun k _ => mul_self_nonneg _) (by norm_num)) Reals.eps_pos

/-- A row's scale. -/
def rs (x : Fin 1024 → ℝ) : ℝ := (Real.sqrt (ms x))⁻¹

/-- The cotangent of the normalized row, at one place. -/
def dh (a u : Fin 2816 → ℝ) (wa wu : Fin 2816 → ℝ) : ℝ := (∑ k, a k * wa k) + ∑ k, u k * wu k

/-- The row's gradient at one place: `h` the normalized row's cotangent, `g` the gain, `x` the row, `o` the residual's part. -/
def dxR (h g x : Fin 1024 → ℝ) (o : ℝ) (l : Fin 1024) : ℝ :=
  rs x * (h l * g l - x l * rs x * ((∑ k, h k * g k * (x k * rs x)) / 1024)) + o

/-- The reference's way of writing it. -/
theorem dxR_eq (h g x : Fin 1024 → ℝ) (o : ℝ) (l : Fin 1024) (q : ℝ) (hq : q = (∑ k, x k * (h k * g k)) * (-(1 / 2) * (rs x / ms x)) / 1024) :
    o + h l * g l * rs x + x l * q + q * x l = dxR h g x o l := by
  subst hq
  have e := Reals.rsqrt_sq (ms_pos x)
  have p := (ms_pos x).ne'
  unfold dxR
  have s : ∑ k, h k * g k * (x k * rs x) = (∑ k, x k * (h k * g k)) * rs x := by
    rw [Finset.sum_mul]; exact Finset.sum_congr rfl fun k _ => by ring
  have d : rs x / ms x = rs x * (rs x * rs x) := by rw [show rs x * rs x = 1 / ms x from e]; ring
  rw [s, d]
  ring

/-! ## The kernel's payloads -/

section Payloads
variable (a u : FVec Ideal S512x2816 .bf16) (wa wu : FVec Ideal S1024x2816 .bf16) (x o : FVec Ideal S512x1024 .f32) (g : FVec Ideal S1x1024 .f32)
  {A U : Fin 512 → Fin 2816 → ℝ} {WA WU : Fin 1024 → Fin 2816 → ℝ} {X O : Fin 512 → Fin 1024 → ℝ} {G : Fin 1024 → ℝ}
  (ha : ∀ r k, a (ix2 r k) = ((A r k : ℝ) : EReal)) (hu : ∀ r k, u (ix2 r k) = ((U r k : ℝ) : EReal))
  (hwa : ∀ r k, wa (ix2 r k) = ((WA r k : ℝ) : EReal)) (hwu : ∀ r k, wu (ix2 r k) = ((WU r k : ℝ) : EReal))
  (hx : ∀ r k, x (ix2 r k) = ((X r k : ℝ) : EReal)) (ho : ∀ r k, o (ix2 r k) = ((O r k : ℝ) : EReal))
  (hg : ∀ k, g (ix2 0 k) = ((G k : ℝ) : EReal)) (r : Fin 512) (l : Fin 1024)

include ha hu hwa hwu in
theorem pay4_apply : k0_pay4 (F := Ideal) a wa u wu (ix2 r l) = ((dh (A r) (U r) (WA l) (WU l) : ℝ) : EReal) := by
  pointwise [k0_pay4]
  simp only [ha, hu, hwa, hwu, ← EReal.coe_mul, Reals.coe_sum, ← EReal.coe_add]
  rfl

include hx in
theorem pay5_apply : k0_pay5 (F := Ideal) x (ix2 r 0) = ((rs (X r) : ℝ) : EReal) := by
  have p := ms_pos (X r)
  unfold ms at p
  pointwise [k0_pay5]
  simp only [hx, ← EReal.coe_mul, Reals.coe_sum, Reals.n1024_f32, Reals.eps_f32]
  rw [Reals.div_real (by norm_num), ← EReal.coe_add, Reals.rsqrt_real p]
  rfl

include hx in
theorem pay6_apply : k0_pay6 (F := Ideal) x (ix2 r l) = ((X r l * rs (X r) : ℝ) : EReal) := by
  have e := pay5_apply x hx r
  generalize hy : k0_pay5 (F := Ideal) x = y at e
  unfold k0_pay6
  rw [hy]
  pointwise []
  rw [e, hx, ← EReal.coe_mul]

include ha hu hwa hwu hx ho hg in
theorem pay7_apply : k0_pay7 (F := Ideal) a wa u wu x g o (ix2 r l)
    = ((dxR (fun l => dh (A r) (U r) (WA l) (WU l)) G (X r) (O r l) l : ℝ) : EReal) := by
  have e4 := fun l => pay4_apply a u wa wu ha hu hwa hwu r l
  have e5 := pay5_apply x hx r
  have e6 := fun l => pay6_apply x hx r l
  unfold k0_pay7
  generalize k0_pay4 (F := Ideal) a wa u wu = y4 at e4 ⊢
  generalize k0_pay5 (F := Ideal) x = y5 at e5 ⊢
  generalize k0_pay6 (F := Ideal) x = y6 at e6 ⊢
  pointwise []
  simp only [e4, e5, e6, ho, hg, Reals.n1024_f32, ← EReal.coe_mul, Reals.coe_sum]
  rw [Reals.div_real (by norm_num), ← EReal.coe_mul, ← EReal.coe_sub, ← EReal.coe_mul, ← EReal.coe_add]
  rfl

include ha hu hwa hwu hx in
theorem pay3_apply (acc : FVec Ideal S1x1024 .f32) : k0_pay3 (F := Ideal) (k0_pay4 a wa u wu) (k0_pay6 x) acc (ix2 0 l)
    = acc (ix2 0 l) + ((∑ r : Fin 512, dh (A r) (U r) (WA l) (WU l) * (X r l * rs (X r)) : ℝ) : EReal) := by
  have e4 := fun r l => pay4_apply a u wa wu ha hu hwa hwu r l
  have e6 := fun r l => pay6_apply x hx r l
  generalize k0_pay4 (F := Ideal) a wa u wu = y4 at e4 ⊢
  generalize k0_pay6 (F := Ideal) x = y6 at e6 ⊢
  pointwise [k0_pay3]
  simp only [e4, e6, ← EReal.coe_mul, Reals.coe_sum]

end Payloads

theorem zero9 (i : S1x1024.Idx) : k0_pay2 (F := Ideal) i = 0 := by pointwise [k0_pay2]

/-! ## The kernel's blocks and what each grid point leaves -/

variable (m : (ℓ : Loc nD τ sig) → Buf (Elt Ideal) ℓ) (c : Dev nD)

theorem outs7 (t : Fin cfg0.N) : (outsAt0 m c t.val t.isLt).1 = k0_pay7 (F := Ideal) (iblk m c 0 t) (iblk m c 1 t) (iblk m c 2 t) (iblk m c 3 t) (iblk m c 5 t) (iblk m c 6 t) (iblk m c 4 t) := by
  by_cases h0 : t.val % 16 = 0
  · rw [outsAt0_A m c t h0]
    frame_out
  · rw [outsAt0_B m c t h0]
    frame_out

theorem outs8 (t : Fin cfg0.N) : (outsAt0 m c t.val t.isLt).2.1 = k0_pay1 (F := Ideal) (k0_pay7 (iblk m c 0 t) (iblk m c 1 t) (iblk m c 2 t) (iblk m c 3 t) (iblk m c 5 t) (iblk m c 6 t) (iblk m c 4 t)) := by
  by_cases h0 : t.val % 16 = 0
  · rw [outsAt0_A m c t h0]
    frame_out
  · rw [outsAt0_B m c t h0]
    frame_out

theorem outs9_A (t : Fin cfg0.N) (h0 : t.val % 16 = 0) :
    (outsAt0 m c t.val t.isLt).2.2 = k0_pay3 (F := Ideal) (k0_pay4 (iblk m c 0 t) (iblk m c 1 t) (iblk m c 2 t) (iblk m c 3 t)) (k0_pay6 (iblk m c 5 t)) (k0_pay2 (F := Ideal)) := by
  rw [outsAt0_A m c t h0]
  frame_out

theorem outs9_B (t : Fin cfg0.N) (h0 : ¬t.val % 16 = 0) :
    (outsAt0 m c t.val t.isLt).2.2 = k0_pay3 (F := Ideal) (k0_pay4 (iblk m c 0 t) (iblk m c 1 t) (iblk m c 2 t) (iblk m c 3 t)) (k0_pay6 (iblk m c 5 t)) ((outsAt0 m c (t.val - 1) (Nat.lt_of_le_of_lt (Nat.sub_le _ _) t.isLt)).2.2) := by
  rw [outsAt0_B m c t h0]
  frame_out

/-- The arguments as real arrays. -/
structure Real7 (A U : S8192x2816.Idx → ℝ) (WA WU : S1024x2816.Idx → ℝ) (O X : S8192x1024.Idx → ℝ) (G : S1024.Idx → ℝ) : Prop where
  a : m ((c : Thread nD τ).loc main_arg0) = fun i => ((A i : ℝ) : EReal)
  wa : m ((c : Thread nD τ).loc main_arg1) = fun i => ((WA i : ℝ) : EReal)
  u : m ((c : Thread nD τ).loc main_arg2) = fun i => ((U i : ℝ) : EReal)
  wu : m ((c : Thread nD τ).loc main_arg3) = fun i => ((WU i : ℝ) : EReal)
  o : m ((c : Thread nD τ).loc main_arg4) = fun i => ((O i : ℝ) : EReal)
  x : m ((c : Thread nD τ).loc main_arg5) = fun i => ((X i : ℝ) : EReal)
  g : m ((c : Thread nD τ).loc main_arg6) = fun i => ((G i : ℝ) : EReal)

/-- The row of a grid point's block, in the whole array. -/
def row (n : ℕ) (r : Fin 512) : Fin 8192 := ⟨n % 16 * 512 + r.val, by omega⟩

theorem iblk0_apply (n : ℕ) (h : n < cfg0.N) (r : Fin 512) (l : Fin 2816) :
    iblk m c 0 ⟨n, h⟩ (ix2 r l) = m ((c : Thread nD τ).loc main_arg0) (ix2 (row n r) l) := by
  have e : ∀ t : Fin cfg0.N, win0_0.index t = ![t.val % 16, 0] := by decide +kernel
  unfold row
  blk_ext [iblk, V, e]

theorem iblk1_apply (n : ℕ) (h : n < cfg0.N) (r : Fin 1024) (l : Fin 2816) :
    iblk m c 1 ⟨n, h⟩ (ix2 r l) = m ((c : Thread nD τ).loc main_arg1) (ix2 r l) := by
  have e : ∀ t : Fin cfg0.N, win0_1.index t = ![0, 0] := by decide +kernel
  blk_ext [iblk, V, e]

theorem iblk2_apply (n : ℕ) (h : n < cfg0.N) (r : Fin 512) (l : Fin 2816) :
    iblk m c 2 ⟨n, h⟩ (ix2 r l) = m ((c : Thread nD τ).loc main_arg2) (ix2 (row n r) l) := by
  have e : ∀ t : Fin cfg0.N, win0_2.index t = ![t.val % 16, 0] := by decide +kernel
  unfold row
  blk_ext [iblk, V, e]

theorem iblk3_apply (n : ℕ) (h : n < cfg0.N) (r : Fin 1024) (l : Fin 2816) :
    iblk m c 3 ⟨n, h⟩ (ix2 r l) = m ((c : Thread nD τ).loc main_arg3) (ix2 r l) := by
  have e : ∀ t : Fin cfg0.N, win0_3.index t = ![0, 0] := by decide +kernel
  blk_ext [iblk, V, e]

theorem iblk4_apply (n : ℕ) (h : n < cfg0.N) (r : Fin 512) (l : Fin 1024) :
    iblk m c 4 ⟨n, h⟩ (ix2 r l) = m ((c : Thread nD τ).loc main_arg4) (ix2 (row n r) l) := by
  have e : ∀ t : Fin cfg0.N, win0_4.index t = ![t.val % 16, 0] := by decide +kernel
  unfold row
  blk_ext [iblk, V, e]

theorem iblk5_apply (n : ℕ) (h : n < cfg0.N) (r : Fin 512) (l : Fin 1024) :
    iblk m c 5 ⟨n, h⟩ (ix2 r l) = m ((c : Thread nD τ).loc main_arg5) (ix2 (row n r) l) := by
  have e : ∀ t : Fin cfg0.N, win0_5.index t = ![t.val % 16, 0] := by decide +kernel
  unfold row
  blk_ext [iblk, V, e]

theorem iblk6_apply (n : ℕ) (h : n < cfg0.N) (l : Fin 1024) :
    iblk m c 6 ⟨n, h⟩ (ix2 0 l) = m ((c : Thread nD τ).loc main_arg6) (ix1 l) := by
  have e : ∀ t : Fin cfg0.N, win0_6.index t = ![0, 0] := by decide +kernel
  have q : V m c main_v0 (ix2 0 l) = m ((c : Thread nD τ).loc main_arg6) (ix1 l) := by
    rw [show V m c main_v0 = shapeCast (α := EReal) S1x1024 (m ((c : Thread nD τ).loc main_arg6)) shapeCasts_S1024_S1x1024 by entry_read; rfl]
    pointwise []
  rw [← q]
  generalize hV : V m c main_v0 = v
  unfold iblk
  rw [show V m c (Pipeline.arrRef spec0 6) = v from hV]
  blk_ext [e]

/-! ## The kernel's output arrays -/

/-- The normalized rows' cotangent, from the whole arrays. -/
def dhA (A U : S8192x2816.Idx → ℝ) (WA WU : S1024x2816.Idx → ℝ) (r : Fin 8192) (l : Fin 1024) : ℝ :=
  dh (fun k => A (ix2 r k)) (fun k => U (ix2 r k)) (fun k => WA (ix2 l k)) (fun k => WU (ix2 l k))

/-- The input's gradient at a row and a column. -/
def dxA (A U : S8192x2816.Idx → ℝ) (WA WU : S1024x2816.Idx → ℝ) (O X : S8192x1024.Idx → ℝ) (G : S1024.Idx → ℝ) (r : Fin 8192) (l : Fin 1024) : ℝ :=
  dxR (dhA A U WA WU r) (fun k => G (ix1 k)) (fun k => X (ix2 r k)) (O (ix2 r l)) l

/-- The input's gradient, an extended real array. -/
def dxF (A U : S8192x2816.Idx → ℝ) (WA WU : S1024x2816.Idx → ℝ) (O X : S8192x1024.Idx → ℝ) (G : S1024.Idx → ℝ) : S8192x1024.Idx → EReal := fun i =>
  ((dxA A U WA WU O X G (i 0) (i 1) : ℝ) : EReal)

/-- The gain's gradient: one row's part, and the sum over the rows. -/
def gterm (A U : S8192x2816.Idx → ℝ) (WA WU : S1024x2816.Idx → ℝ) (X : S8192x1024.Idx → ℝ) (l : Fin 1024) (r : Fin 8192) : ℝ :=
  dhA A U WA WU r l * (X (ix2 r l) * rs fun k => X (ix2 r k))

def dgainF (A U : S8192x2816.Idx → ℝ) (WA WU : S1024x2816.Idx → ℝ) (X : S8192x1024.Idx → ℝ) : S1x1024.Idx → EReal := fun i =>
  ((∑ r : Fin 8192, gterm A U WA WU X (i 1) r : ℝ) : EReal)

variable {A U : S8192x2816.Idx → ℝ} {WA WU : S1024x2816.Idx → ℝ} {O X : S8192x1024.Idx → ℝ} {G : S1024.Idx → ℝ} (H : Real7 m c A U WA WU O X G)

include H

theorem block_dx (n : ℕ) (h : n < cfg0.N) (r : Fin 512) (l : Fin 1024) :
    k0_pay7 (F := Ideal) (iblk m c 0 ⟨n, h⟩) (iblk m c 1 ⟨n, h⟩) (iblk m c 2 ⟨n, h⟩) (iblk m c 3 ⟨n, h⟩) (iblk m c 5 ⟨n, h⟩) (iblk m c 6 ⟨n, h⟩) (iblk m c 4 ⟨n, h⟩) (ix2 r l)
      = ((dxA A U WA WU O X G (row n r) l : ℝ) : EReal) := by
  rw [pay7_apply _ _ _ _ _ _ _ (fun r k => (iblk0_apply m c n h r k).trans (congrFun H.a _)) (fun r k => (iblk2_apply m c n h r k).trans (congrFun H.u _))
    (fun r k => (iblk1_apply m c n h r k).trans (congrFun H.wa _)) (fun r k => (iblk3_apply m c n h r k).trans (congrFun H.wu _))
    (fun r k => (iblk5_apply m c n h r k).trans (congrFun H.x _)) (fun r k => (iblk4_apply m c n h r k).trans (congrFun H.o _))
    (fun k => (iblk6_apply m c n h k).trans (congrFun H.g _))]
  rfl

theorem arr7 : (dats m 0 c).arrAt 7 cfg0.N = dxF A U WA WU O X G := by
  refine (dats m 0 c).arrAt_eq_of_covers 7 _ (by decide +kernel) fun t hf y => ?_
  have e : ∀ t : Fin cfg0.N, win0_7.index t = ![t.val % 16, 0] := by decide +kernel
  blk_simp
  rw [after0_7, outs7]
  obtain ⟨r, l, rfl⟩ : ∃ (r : Fin 512) (l : Fin 1024), y = ix2 r l := ⟨y 0, y 1, eq_ix2 y⟩
  have he : (win0_7.blk t).view.emb (ix2 r l) = ix2 (row t.val r) l := by
    refine Shape.idx_ext₂ ?_ ?_ <;> blk_simp <;> rw [e] <;> simp [row]
  rw [he, block_dx m c H t.val t.isLt r l]
  rfl

theorem arr8 : (dats m 0 c).arrAt 8 cfg0.N = dxF A U WA WU O X G := by
  refine (dats m 0 c).arrAt_eq_of_covers 8 _ (by decide +kernel) fun t hf y => ?_
  have e : ∀ t : Fin cfg0.N, win0_8.index t = ![t.val % 16, 0] := by decide +kernel
  blk_simp
  rw [after0_8, outs8]
  obtain ⟨r, l, rfl⟩ : ∃ (r : Fin 512) (l : Fin 1024), y = ix2 r l := ⟨y 0, y 1, eq_ix2 y⟩
  have he : (win0_8.blk t).view.emb (ix2 r l) = ix2 (row t.val r) l := by
    refine Shape.idx_ext₂ ?_ ?_ <;> blk_simp <;> rw [e] <;> simp [row]
  rw [he]
  exact block_dx m c H t.val t.isLt r l

/-- The part of the gain's gradient that grid point `n` adds. -/
def gadd (A U : S8192x2816.Idx → ℝ) (WA WU : S1024x2816.Idx → ℝ) (X : S8192x1024.Idx → ℝ) (n : ℕ) (l : Fin 1024) : ℝ :=
  ∑ r : Fin 512, gterm A U WA WU X l (row n r)

theorem step9 (n : ℕ) (h : n < cfg0.N) (acc : FVec Ideal S1x1024 .f32) (j : S1x1024.Idx) :
    k0_pay3 (F := Ideal) (k0_pay4 (iblk m c 0 ⟨n, h⟩) (iblk m c 1 ⟨n, h⟩) (iblk m c 2 ⟨n, h⟩) (iblk m c 3 ⟨n, h⟩)) (k0_pay6 (iblk m c 5 ⟨n, h⟩)) acc j
      = acc j + ((gadd A U WA WU X n (j 1) : ℝ) : EReal) := by
  obtain ⟨z, l, rfl⟩ : ∃ (z : Fin 1) (l : Fin 1024), j = ix2 z l := ⟨j 0, j 1, eq_ix2 j⟩
  obtain rfl : z = 0 := Subsingleton.elim _ _
  rw [pay3_apply _ _ _ _ _ (fun r k => (iblk0_apply m c n h r k).trans (congrFun H.a _)) (fun r k => (iblk2_apply m c n h r k).trans (congrFun H.u _))
    (fun r k => (iblk1_apply m c n h r k).trans (congrFun H.wa _)) (fun r k => (iblk3_apply m c n h r k).trans (congrFun H.wu _))
    (fun r k => (iblk5_apply m c n h r k).trans (congrFun H.x _))]
  rfl

theorem arr9 : (dats m 0 c).arrAt 9 cfg0.N = dgainF A U WA WU X := by
  refine (dats m 0 c).arrAt_eq_of_covers 9 _ (by decide +kernel) fun t hf y => ?_
  have e : ∀ t : Fin cfg0.N, win0_9.index t = ![0, 0] := by decide +kernel
  blk_simp
  rw [after0_9]
  obtain ⟨z, l, rfl⟩ : ∃ (z : Fin 1) (l : Fin 1024), y = ix2 z l := ⟨y 0, y 1, eq_ix2 y⟩
  have he : (win0_9.blk t).view.emb (ix2 z l) = ix2 z l := by
    refine Shape.idx_ext₂ ?_ ?_ <;> blk_simp <;> rw [e] <;> simp
  rw [he]
  have hr := (flush0_9 t).mp hf
  have hN : t.val < 16 := lt_of_lt_of_eq t.isLt N_0
  rw [Pipeline.eq_sum_fin_of_reset_step_apply_of_flush (fun n h => (outsAt0 m c n h).2.2) 16 (fun _ => (0 : EReal)) (fun t j => ((gadd A U WA WU X t.val (j 1) : ℝ) : EReal))
    (fun t h0 j => by
      show (outsAt0 m c t.val t.isLt).2.2 j = _
      rw [outs9_A m c t h0, step9 m c H t.val t.isLt, zero9])
    (fun t h0 j => by
      show (outsAt0 m c t.val t.isLt).2.2 j = _
      rw [outs9_B m c t h0, step9 m c H t.val t.isLt]) t hr]
  rw [zero_add, Reals.coe_sum]
  unfold dgainF gadd
  refine congrArg _ ?_
  refine Eq.trans ?_ (Fin.sum_mul_add_fin 16 512 (gterm A U WA WU X l))
  refine Finset.sum_congr rfl fun s _ => Finset.sum_congr rfl fun q _ => ?_
  have hs := s.isLt
  refine congrArg (gterm A U WA WU X l) (Fin.ext ?_)
  show (16 * (t.val / 16) + s.val) % 16 * 512 + q.val = s.val * 512 + q.val
  omega

end Cert.UpIdeal.Value

/-! ## The reference's lines -/

namespace Cert.UpRefIdeal.Read

open Cert.UpRefIdeal Cert.UpRefIdeal.Gen Idealize.ShloMosaic Idealize.ShloMosaic.TcCoe Idealize.SL.Sem
open scoped BigOperators

variable {A U : S8192x2816.Idx → ℝ} {WA WU : S1024x2816.Idx → ℝ} {O X : S8192x1024.Idx → ℝ} {G : S1024.Idx → ℝ}

/-- The coercion of a real array. -/
abbrev up {S : Shape} {φ : FTy} (X : S.Idx → ℝ) : FVec Ideal S φ := fun i => ((X i : ℝ) : EReal)

theorem v6_at (r : Fin 8192) : val_main_v6 (F := Ideal) (up (φ := .f32) X) (ix2 r 0) = ((Cert.UpIdeal.Value.ms (fun k => X (ix2 r k)) : ℝ) : EReal) := by
  pointwise [val_main_v6, val_main_v5, val_main_v4, val_main_v3, val_main_v2, val_main_v1, val_main_v0, val_main_cst, val_main_cst_0, val_main_cst_1]
  simp only [up, ← EReal.coe_mul, Reals.coe_sum, Reals.n1024_f32, Reals.eps_f32]
  rw [Reals.div_real (by norm_num), ← EReal.coe_add]
  rfl

theorem v7_at (r : Fin 8192) : val_main_v7 (F := Ideal) (up (φ := .f32) X) (ix2 r 0) = ((Cert.UpIdeal.Value.rs (fun k => X (ix2 r k)) : ℝ) : EReal) := by
  have e := v6_at (X := X) r
  unfold val_main_v7
  generalize val_main_v6 (F := Ideal) (up (φ := .f32) X) = y at e ⊢
  pointwise []
  rw [e, Reals.rsqrt_real (Cert.UpIdeal.Value.ms_pos _)]
  rfl

theorem v10_at (r : Fin 8192) : val_main_v10 (F := Ideal) (up (φ := .f32) X) (ix2 r 0)
    = ((-(1 / 2) * (Cert.UpIdeal.Value.rs (fun k => X (ix2 r k)) / Cert.UpIdeal.Value.ms (fun k => X (ix2 r k))) : ℝ) : EReal) := by
  have e6 := v6_at (X := X) r
  have e7 := v7_at (X := X) r
  unfold val_main_v10 val_main_v8
  generalize val_main_v6 (F := Ideal) (up (φ := .f32) X) = y at e6 ⊢
  generalize val_main_v7 (F := Ideal) (up (φ := .f32) X) = y at e7 ⊢
  pointwise [val_main_v9, val_main_cst_2]
  rw [e6, e7, Reals.neg_half_f32, Reals.div_real (Cert.UpIdeal.Value.ms_pos _).ne', ← EReal.coe_mul]

theorem v24_at (r : Fin 8192) (l : Fin 1024) : val_main_v24 (F := Ideal) (up (φ := .bf16) A) (up (φ := .bf16) WA) (up (φ := .bf16) U) (up (φ := .bf16) WU) (ix2 r l)
    = ((Cert.UpIdeal.Value.dhA A U WA WU r l : ℝ) : EReal) := by
  pointwise [val_main_v24, val_main_v23, val_main_v22, val_main_v21, val_main_v20, val_main_v18, val_main_v16]
  simp only [up, ← EReal.coe_mul, Reals.coe_sum, ← EReal.coe_add]
  rw [add_comm]
  rfl

theorem v29_at (r : Fin 8192) (l : Fin 1024) : val_main_v29 (F := Ideal) (up (φ := .bf16) A) (up (φ := .bf16) WA) (up (φ := .bf16) U) (up (φ := .bf16) WU) (up (φ := .f32) G) (ix2 r l)
    = ((Cert.UpIdeal.Value.dhA A U WA WU r l * G (ix1 l) : ℝ) : EReal) := by
  have e := v24_at (A := A) (U := U) (WA := WA) (WU := WU) r l
  unfold val_main_v29
  generalize val_main_v24 (F := Ideal) (up (φ := .bf16) A) (up (φ := .bf16) WA) (up (φ := .bf16) U) (up (φ := .bf16) WU) = y at e ⊢
  pointwise [val_main_v28, val_main_v13]
  rw [e, ← EReal.coe_mul]

/-- The factor that the mean square's gradient gives a row. -/
theorem v41_at (r : Fin 8192) (l : Fin 1024) : val_main_v41 (F := Ideal) (up (φ := .bf16) A) (up (φ := .bf16) WA) (up (φ := .bf16) U) (up (φ := .bf16) WU) (up (φ := .f32) X) (up (φ := .f32) G) (ix2 r l)
    = (((∑ k, X (ix2 r k) * (Cert.UpIdeal.Value.dhA A U WA WU r k * G (ix1 k))) * (-(1 / 2) * (Cert.UpIdeal.Value.rs (fun k => X (ix2 r k)) / Cert.UpIdeal.Value.ms (fun k => X (ix2 r k)))) / 1024 : ℝ) : EReal) := by
  have e29 := fun k => v29_at (A := A) (U := U) (WA := WA) (WU := WU) (G := G) r k
  have e10 := v10_at (X := X) r
  unfold val_main_v41 val_main_v40 val_main_v39 val_main_v37 val_main_v33 val_main_v32 val_main_v31
  generalize val_main_v29 (F := Ideal) (up (φ := .bf16) A) (up (φ := .bf16) WA) (up (φ := .bf16) U) (up (φ := .bf16) WU) (up (φ := .f32) G) = y at e29 ⊢
  generalize val_main_v10 (F := Ideal) (up (φ := .f32) X) = y at e10 ⊢
  pointwise [val_main_v38, val_main_cst_5, val_main_cst_6, val_main_cst_7]
  simp only [e29, up, ← EReal.coe_mul, Reals.coe_sum, Reals.n1024_f32]
  rw [Fin.sum_univ_one]
  rw [show y (ix2 r 0) = _ from e10, ← EReal.coe_mul, Reals.div_real (by norm_num)]

theorem v45_at (r : Fin 8192) (l : Fin 1024) : val_main_v45 (F := Ideal) (up (φ := .bf16) A) (up (φ := .bf16) WA) (up (φ := .bf16) U) (up (φ := .bf16) WU) (up (φ := .f32) O) (up (φ := .f32) X) (up (φ := .f32) G) (ix2 r l)
    = ((Cert.UpIdeal.Value.dxA A U WA WU O X G r l : ℝ) : EReal) := by
  have e29 := v29_at (A := A) (U := U) (WA := WA) (WU := WU) (G := G) r l
  have e7 := v7_at (X := X) r
  have e41 := v41_at (A := A) (U := U) (WA := WA) (WU := WU) (X := X) (G := G) r l
  unfold val_main_v45 val_main_v44 val_main_v43 val_main_v42 val_main_v36 val_main_v35 val_main_v34
  generalize val_main_v29 (F := Ideal) (up (φ := .bf16) A) (up (φ := .bf16) WA) (up (φ := .bf16) U) (up (φ := .bf16) WU) (up (φ := .f32) G) = y29 at e29 ⊢
  generalize val_main_v41 (F := Ideal) (up (φ := .bf16) A) (up (φ := .bf16) WA) (up (φ := .bf16) U) (up (φ := .bf16) WU) (up (φ := .f32) X) (up (φ := .f32) G) = y41 at e41 ⊢
  generalize val_main_v7 (F := Ideal) (up (φ := .f32) X) = y7 at e7 ⊢
  pointwise []
  simp only [e29, e7, e41, up, ← EReal.coe_mul, ← EReal.coe_add]
  exact congrArg _ (Cert.UpIdeal.Value.dxR_eq _ (fun k => G (ix1 k)) _ _ l _ rfl)

theorem v47_at (l : Fin 1024) : val_main_v47 (F := Ideal) (up (φ := .bf16) A) (up (φ := .bf16) WA) (up (φ := .bf16) U) (up (φ := .bf16) WU) (up (φ := .f32) X) (ix2 0 l)
    = ((∑ r : Fin 8192, Cert.UpIdeal.Value.gterm A U WA WU X l r : ℝ) : EReal) := by
  have e24 := fun r l => v24_at (A := A) (U := U) (WA := WA) (WU := WU) r l
  have e7 := fun r => v7_at (X := X) r
  unfold val_main_v47 val_main_v30 val_main_v27 val_main_v26 val_main_v25 val_main_v12 val_main_v11
  generalize val_main_v24 (F := Ideal) (up (φ := .bf16) A) (up (φ := .bf16) WA) (up (φ := .bf16) U) (up (φ := .bf16) WU) = y24 at e24 ⊢
  generalize val_main_v7 (F := Ideal) (up (φ := .f32) X) = y7 at e7 ⊢
  pointwise [val_main_cst_3, val_main_cst_4]
  simp only [e24, e7, up, ← EReal.coe_mul, Reals.coe_sum]
  rw [Fin.sum_univ_one]
  exact congrArg _ (Finset.sum_congr rfl fun r _ => mul_comm _ _)

end Cert.UpRefIdeal.Read

/-! ## The claim -/

namespace Cert.Proof

open Idealize.ShloMosaic Idealize.ShloMosaic.TcCoe Idealize.SL.Sem

/-- The shape facts that the finiteness check states. -/
theorem facts_up : Cert.Pre_finite_up.Facts := by constructor <;> decide

/-- The precondition makes every argument a real array. -/
theorem up_real (m : (ℓ : Loc Cert.UpIdeal.nD Cert.UpIdeal.τ Cert.UpIdeal.sig) → Buf (Elt Ideal) ℓ)
    (h : Pre_UpIdeal_finite_up (hPre_finite_up := facts_up) m) (c : Dev Cert.UpIdeal.nD) :
    ∃ A U WA WU O X G, Cert.UpIdeal.Value.Real7 m c A U WA WU O X G := by
  obtain ⟨h0, h1, h2, h3, h4, h5, h6⟩ := h c
  have q : ∀ {S : Shape} (x : FVec Ideal S .bf16), (∀ i, Ideal.cmp .olt (max (x i) (-(x i))) (Ideal.ofBits .bf16 0x7F80#16) = 1#1) → ∃ X : S.Idx → ℝ, x = fun i => ((X i : ℝ) : EReal) :=
    fun x hx => Cert.Reals.lift fun i => Cert.Reals.real_of_olt (by rw [← Cert.Reals.top_bf16]; exact hx i)
  have q' : ∀ {S : Shape} (x : FVec Ideal S .f32), (∀ i, Ideal.cmp .olt (max (x i) (-(x i))) (Ideal.ofBits .f32 0x7F800000#32) = 1#1) → ∃ X : S.Idx → ℝ, x = fun i => ((X i : ℝ) : EReal) :=
    fun x hx => Cert.Reals.lift fun i => Cert.Reals.real_of_olt (by rw [← Cert.Reals.top_f32]; exact hx i)
  obtain ⟨A, hA⟩ := q _ (fun i => congrFun h0 i)
  obtain ⟨WA, hWA⟩ := q _ (fun i => congrFun h1 i)
  obtain ⟨U, hU⟩ := q _ (fun i => congrFun h2 i)
  obtain ⟨WU, hWU⟩ := q _ (fun i => congrFun h3 i)
  obtain ⟨O, hO⟩ := q' _ (fun i => congrFun h4 i)
  obtain ⟨X, hX⟩ := q' _ (fun i => congrFun h5 i)
  obtain ⟨G, hG⟩ := q' _ (fun i => congrFun h6 i)
  exact ⟨A, U, WA, WU, O, X, G, hA, hWA, hU, hWU, hO, hX, hG⟩

theorem algebraic_up : algebraic_UpIdeal_UpRefIdeal_pre_finite_up (hUpIdeal := Cert.UpIdeal.Gen.facts) (hUpRefIdeal := Cert.UpRefIdeal.Gen.facts) (hPre_finite_up := facts_up) := by
  intro m g m' g' hp hm
  choose A U WA WU O X G H using up_real m hp
  refine ⟨fun c => Cert.UpIdeal.Value.dxF (A c) (U c) (WA c) (WU c) (O c) (X c) (G c), fun c => Cert.UpIdeal.Value.dxF (A c) (U c) (WA c) (WU c) (O c) (X c) (G c), fun c => Cert.UpIdeal.Value.dgainF (A c) (U c) (WA c) (WU c) (X c), ?_, ?_⟩
  · refine (θ_run _ _ _).mono (fun r h c => ?_) (Cert.UpIdeal.Value.run_blocks m g)
    obtain ⟨h7, h8, h9, h⟩ := h c
    exact ⟨h7.trans (Cert.UpIdeal.Value.arr7 m c (H c)), h8.trans (Cert.UpIdeal.Value.arr8 m c (H c)), h9.trans (Cert.UpIdeal.Value.arr9 m c (H c)), h⟩
  · refine (θ_run _ _ _).mono (fun r h c => ?_) (Cert.UpRefIdeal.Value.run m' g')
    obtain ⟨h7, h8, h9, h⟩ := h c
    obtain ⟨e0, e1, e2, e3, e4, e5, e6⟩ := hm c
    replace e0 := e0.trans (H c).a
    replace e1 := e1.trans (H c).wa
    replace e2 := e2.trans (H c).u
    replace e3 := e3.trans (H c).wu
    replace e4 := e4.trans (H c).o
    replace e5 := e5.trans (H c).x
    replace e6 := e6.trans (H c).g
    have p : Cert.UpRefIdeal.Value.res_main_v45 m' c = Cert.UpIdeal.Value.dxF (A c) (U c) (WA c) (WU c) (O c) (X c) (G c) := by
      rw [Cert.UpRefIdeal.Read.val_main_v45_eq, e0, e1, e2, e3, e4, e5, e6]
      funext i
      obtain ⟨r, l, rfl⟩ : ∃ (r : Fin 8192) (l : Fin 1024), i = ix2 r l := ⟨i 0, i 1, eq_ix2 i⟩
      exact Cert.UpRefIdeal.Read.v45_at r l
    refine ⟨h7.trans p, h8.trans ?_, h9.trans ?_, h⟩
    · refine Eq.trans ?_ p
      rw [Cert.UpRefIdeal.Read.val_main_v45_eq, Cert.UpRefIdeal.Read.val_main_v46_eq]
      rfl
    · rw [Cert.UpRefIdeal.Read.val_main_v47_eq, e0, e1, e2, e3, e5]
      funext i
      obtain ⟨z, l, rfl⟩ : ∃ (z : Fin 1) (l : Fin 1024), i = ix2 z l := ⟨i 0, i 1, eq_ix2 i⟩
      obtain rfl : z = 0 := Subsingleton.elim _ _
      exact Cert.UpRefIdeal.Read.v47_at l

end Cert.Proof
-- ==== Proof.MemKernel.lean ====
/- The memory attention's backward call: the cotangents of the queries and of the memory's keys and values. What the kernel
   leaves in its two output arrays, as real numbers. -/
module

public import proofs.«01_k».proof.Proof.Gen.MemIdeal.Value
public import proofs.«01_k».proof.Proof.Reals
public import Idealize.ShloMosaic.Lib.Pointwise
public import Idealize.ShloMosaic.Lib.Claim
public import Idealize.ShloMosaic.Lib.Pipeline.ValueKit
public import Idealize.ShloMosaic.Lib.Pipeline.ReadBack
@[expose] public section
set_option maxRecDepth 16384
noncomputable section
namespace Cert.MemIdeal.Value
open Cert.MemIdeal Cert.MemIdeal.Gen Idealize.ShloMosaic Idealize.ShloMosaic.TcCoe Idealize.SL.Sem
open scoped BigOperators
variable (m : (ℓ : Loc nD τ sig) → Buf (Elt Ideal) ℓ)

/-! ## The gradient in real numbers

A row of queries `q`, a row of cotangents `o`, the keys `K` and the values `V`, all over the 256 lanes of four heads; lane `l`
belongs to head `l / 64`. -/

/-- A head's score of a slot. -/
def score (q : Fin 256 → ℝ) (K : Fin 256 → Fin 256 → ℝ) (h : ℕ) (j : Fin 256) : ℝ := (∑ l : Fin 256, q l * (if l.val / 64 = h then K j l else 0)) * (1 / 8)

/-- A head's weight of a slot. -/
def prob (q : Fin 256 → ℝ) (K : Fin 256 → Fin 256 → ℝ) (h : ℕ) (j : Fin 256) : ℝ := Real.exp (score q K h j) / ∑ x : Fin 256, Real.exp (score q K h x)

/-- The cotangent of a head's weight of a slot. -/
def dprob (o : Fin 256 → ℝ) (V : Fin 256 → Fin 256 → ℝ) (h : ℕ) (j : Fin 256) : ℝ := ∑ l : Fin 256, o l * (if l.val / 64 = h then V j l else 0)

/-- The cotangent of a head's score of a slot, before the scale. -/
def dsc (q o : Fin 256 → ℝ) (K V : Fin 256 → Fin 256 → ℝ) (h : ℕ) (j : Fin 256) : ℝ :=
  prob q K h j * (dprob o V h j - ∑ x : Fin 256, prob q K h x * dprob o V h x) * (1 / 8)

/-- The cotangent of a query's lane. -/
def dqv (q o : Fin 256 → ℝ) (K V : Fin 256 → Fin 256 → ℝ) (l : Fin 256) : ℝ := ∑ j : Fin 256, dsc q o K V (l.val / 64) j * K j l

/-! ## One head's lines as vectors -/

/-- The lanes from `lo` below `hi`. -/
def lanes (lo hi : BitVec 32) : IVec S1x256 1 :=
  andi (cmpi .sge (iota .tc S1x256 32 [1] iota_S1x256_d1_w32) (broadcast S1x256 lo)) (cmpi .slt (iota .tc S1x256 32 [1] iota_S1x256_d1_w32) (broadcast S1x256 hi))

/-- An operand with the other lanes at zero. -/
def keepB (M : IVec S1x256 1) (x : FVec Ideal S256x256 .bf16) : FVec Ideal S256x256 .bf16 :=
  select (broadcastTo S256x256 (shapeCast S1x256 M shapeCasts_S1x256_S1x256) broadcasts_S1x256_S256x256) x (broadcast S256x256 (Scalar.ofBits (F := Ideal) .bf16 0x0000#16))

/-- A product with the other lanes at zero. -/
def keepF (M : IVec S1x256 1) (x : FVec Ideal S256x256 .f32) : FVec Ideal S256x256 .f32 :=
  select (broadcastTo S256x256 (shapeCast S1x256 M shapeCasts_S1x256_S1x256) broadcasts_S1x256_S256x256) x (broadcast S256x256 (Scalar.ofBits (F := Ideal) .f32 0x00000000#32))

/-- The scaled scores. -/
def scores (q : FVec Ideal S512x256 .bf16) (k : FVec Ideal S256x256 .bf16) : FVec Ideal S512x256 .f32 :=
  mulf (matmul dot_S512x256_S256x256_S512x256_1_1_0_0_n_n none q k (constant S512x256 .f32 0x00000000#32)) (broadcast S512x256 (Scalar.ofBits (F := Ideal) .f32 0x3E000000#32))

/-- The scores less their row's largest. -/
def shifted (s : FVec Ideal S512x256 .f32) : FVec Ideal S512x256 .f32 :=
  subf s (broadcastTo S512x256 (shapeCast S512x1 (multiReduction .maximumf [1] S512 s 0xFF800000#32 reduces_S512x256_S512 (.inl rfl) rfl) shapeCasts_S512_S512x1) broadcasts_S512x1_S512x256)

/-- The weights of the slots. -/
def weights (s : FVec Ideal S512x256 .f32) : FVec Ideal S512x256 .f32 := k0_pay12 (F := Ideal) (shifted s)

/-- The scores' cotangent, from the weights and from the weights' cotangent. -/
def dscore (p dp : FVec Ideal S512x256 .f32) : FVec Ideal S512x256 .bf16 :=
  truncf .bf16 (mulf (mulf p (subf dp (broadcastTo S512x256 (shapeCast S512x1 (multiReduction .add [1] S512 (mulf p dp) 0x00000000#32 reduces_S512x256_S512 (.inl rfl) rfl) shapeCasts_S512_S512x1) broadcasts_S512x1_S512x256))) (broadcast S512x256 (Scalar.ofBits (F := Ideal) .f32 0x3E000000#32))) bitsLt_bf16_f32

/-- A head's weights. -/
def headP (M : IVec S1x256 1) (q : FVec Ideal S512x256 .bf16) (k : FVec Ideal S256x256 .bf16) : FVec Ideal S512x256 .f32 := weights (scores q (keepB M k))

/-- A head's scores' cotangent. -/
def headDs (M : IVec S1x256 1) (q o : FVec Ideal S512x256 .bf16) (k v : FVec Ideal S256x256 .bf16) : FVec Ideal S512x256 .bf16 :=
  dscore (headP M q k) (matmul dot_S512x256_S256x256_S512x256_1_1_0_0_n_n none o (keepB M v) (constant S512x256 .f32 0x00000000#32))

/-- A head's addition to the queries' cotangent. -/
def headDq (M : IVec S1x256 1) (q o : FVec Ideal S512x256 .bf16) (k v : FVec Ideal S256x256 .bf16) (acc : FVec Ideal S512x256 .f32) : FVec Ideal S512x256 .f32 :=
  addf acc (matmul dot_S512x256_S256x256_S512x256_1_0_0_1_n_n none (headDs M q o k v) (keepB M k) (constant S512x256 .f32 0x00000000#32))

/-- A head's addition to the keys' cotangent. -/
def headDk (M : IVec S1x256 1) (q o : FVec Ideal S512x256 .bf16) (k v : FVec Ideal S256x256 .bf16) (acc : FVec Ideal S256x256 .f32) : FVec Ideal S256x256 .f32 :=
  addf acc (keepF M (matmul dot_S512x256_S512x256_S256x256_0_0_1_1_n_n none (headDs M q o k v) q (constant S256x256 .f32 0x00000000#32)))

/-- A head's addition to the values' cotangent. -/
def headDv (M : IVec S1x256 1) (q o : FVec Ideal S512x256 .bf16) (k : FVec Ideal S256x256 .bf16) (acc : FVec Ideal S256x256 .f32) : FVec Ideal S256x256 .f32 :=
  addf acc (keepF M (matmul dot_S512x256_S512x256_S256x256_0_0_1_1_n_n none (truncf .bf16 (headP M q k) bitsLt_bf16_f32) o (constant S256x256 .f32 0x00000000#32)))

/-- The four heads' lanes. -/
abbrev M0 : IVec S1x256 1 := lanes 0#32 64#32
abbrev M1 : IVec S1x256 1 := lanes 64#32 128#32
abbrev M2 : IVec S1x256 1 := lanes 128#32 192#32
abbrev M3 : IVec S1x256 1 := lanes 192#32 256#32

/-- A block's first half. -/
abbrev loHalf (x : FVec Ideal S256x512 .f32) : FVec Ideal S256x256 .f32 := View.ld (Val := Elt Ideal) (e' := .f32) x (Rect.unit ![0, 0] ![256, 256] inb_S256x512_S256x256_0_0)
/-- A block's second half. -/
abbrev hiHalf (x : FVec Ideal S256x512 .f32) : FVec Ideal S256x256 .f32 := View.ld (Val := Elt Ideal) (e' := .f32) x (Rect.unit ![0, 256] ![256, 256] inb_S256x512_S256x256_0_256)

/-- A block of the memory's first half: the keys. -/
def keys (x : FVec Ideal S256x512 .f32) : FVec Ideal S256x256 .bf16 := k0_pay3 (F := Ideal) (loHalf x)
/-- A block of the memory's second half: the values. -/
def vals (x : FVec Ideal S256x512 .f32) : FVec Ideal S256x256 .bf16 := k0_pay4 (F := Ideal) (hiHalf x)

/-- A block's queries' cotangent. -/
def blkDq (q o : FVec Ideal S512x256 .bf16) (k v : FVec Ideal S256x256 .bf16) : FVec Ideal S512x256 .bf16 :=
  truncf .bf16 (headDq M3 q o k v (headDq M2 q o k v (headDq M1 q o k v (headDq M0 q o k v (k0_pay6 (F := Ideal)))))) bitsLt_bf16_f32
/-- A block's addition to the keys' cotangent. -/
def blkDk (q o : FVec Ideal S512x256 .bf16) (k v : FVec Ideal S256x256 .bf16) : FVec Ideal S256x256 .f32 :=
  headDk M3 q o k v (headDk M2 q o k v (headDk M1 q o k v (headDk M0 q o k v (k0_pay7 (F := Ideal)))))
/-- A block's addition to the values' cotangent. -/
def blkDv (q o : FVec Ideal S512x256 .bf16) (k : FVec Ideal S256x256 .bf16) : FVec Ideal S256x256 .f32 :=
  headDv M3 q o k (headDv M2 q o k (headDv M1 q o k (headDv M0 q o k (k0_pay8 (F := Ideal)))))

theorem outs3 (c : Dev nD) (t : Fin cfg0.N) :
    (outsAt0 m c t.val t.isLt).1 = blkDq (k0_pay2 (F := Ideal) (iblk m c 0 t)) (k0_pay5 (F := Ideal) (iblk m c 2 t)) (keys (iblk m c 1 t)) (vals (iblk m c 1 t)) := by
  by_cases h0 : t.val % 16 = 0
  · rw [outsAt0_A m c t h0]
    frame_out
    rfl
  · rw [outsAt0_B m c t h0]
    frame_out
    rfl

/-- What a later point leaves of the memory's cotangent. -/
theorem outs4_B (c : Dev nD) (t : Fin cfg0.N) (h0 : ¬t.val % 16 = 0) :
    (outsAt0 m c t.val t.isLt).2 = View.canon [⟨Rect.unit ![0, 256] ![256, 256] inb_S256x512_S256x256_0_256,
        addf (F := Ideal) (shapeCast S256x256 (hiHalf (outsAt0 m c (t.val - 1) (Nat.lt_of_le_of_lt (Nat.sub_le _ _) t.isLt)).2) shapeCasts_S256x256_S256x256) (blkDv (k0_pay2 (F := Ideal) (iblk m c 0 t)) (k0_pay5 (F := Ideal) (iblk m c 2 t)) (keys (iblk m c 1 t)))⟩,
      ⟨Rect.unit ![0, 0] ![256, 256] inb_S256x512_S256x256_0_0,
        addf (F := Ideal) (shapeCast S256x256 (loHalf (outsAt0 m c (t.val - 1) (Nat.lt_of_le_of_lt (Nat.sub_le _ _) t.isLt)).2) shapeCasts_S256x256_S256x256) (blkDk (k0_pay2 (F := Ideal) (iblk m c 0 t)) (k0_pay5 (F := Ideal) (iblk m c 2 t)) (keys (iblk m c 1 t)) (vals (iblk m c 1 t)))⟩] := by
  rw [outsAt0_B m c t h0]
  frame_out
  rfl

/-- What a run's first point leaves of the memory's cotangent: the point's addition to zero. -/
theorem outs4_A (c : Dev nD) (t : Fin cfg0.N) (h0 : t.val % 16 = 0) :
    (outsAt0 m c t.val t.isLt).2 = View.canon [⟨Rect.unit ![0, 256] ![256, 256] inb_S256x512_S256x256_0_256,
        addf (F := Ideal) (shapeCast S256x256 (hiHalf (k0_pay1 (F := Ideal))) shapeCasts_S256x256_S256x256) (blkDv (k0_pay2 (F := Ideal) (iblk m c 0 t)) (k0_pay5 (F := Ideal) (iblk m c 2 t)) (keys (iblk m c 1 t)))⟩,
      ⟨Rect.unit ![0, 0] ![256, 256] inb_S256x512_S256x256_0_0,
        addf (F := Ideal) (shapeCast S256x256 (loHalf (k0_pay1 (F := Ideal))) shapeCasts_S256x256_S256x256) (blkDk (k0_pay2 (F := Ideal) (iblk m c 0 t)) (k0_pay5 (F := Ideal) (iblk m c 2 t)) (keys (iblk m c 1 t)) (vals (iblk m c 1 t)))⟩,
      ⟨Rect.unit ![0, 0] ![256, 512] inb_S256x512_S256x512_0_0, k0_pay1 (F := Ideal)⟩] := by
  rw [outsAt0_A m c t h0]
  frame_open
  simp (disch := decide) only [↓ View.readCov_skip, ↓ View.readCov_cons_toLoadRect, ↓ View.readCov_fill]
  frame_out
  rfl

/-! ## The vectors read as real numbers -/

theorem keepB_apply (M : IVec S1x256 1) (h : ℕ) (hM : ∀ l : Fin 256, M (ix2 0 l) = if l.val / 64 = h then 1#1 else 0#1) (x : FVec Ideal S256x256 .bf16) (X : S256x256.Idx → ℝ)
    (hx : x = fun i => ((X i : ℝ) : EReal)) (j l : Fin 256) : keepB M x (ix2 j l) = (((if l.val / 64 = h then X (ix2 j l) else 0) : ℝ) : EReal) := by
  subst hx
  pointwise [keepB]
  rw [hM]
  split_ifs
  · exact Scalar.select_of_eq_one rfl _ _
  · exact Scalar.select_of_eq_zero rfl _ _

theorem keepF_apply (M : IVec S1x256 1) (h : ℕ) (hM : ∀ l : Fin 256, M (ix2 0 l) = if l.val / 64 = h then 1#1 else 0#1) (x : FVec Ideal S256x256 .f32) (X : ℝ) (j l : Fin 256)
    (hx : x (ix2 j l) = ((X : ℝ) : EReal)) : keepF M x (ix2 j l) = (((if l.val / 64 = h then X else 0) : ℝ) : EReal) := by
  pointwise [keepF]
  rw [hM, hx]
  split_ifs
  · exact Scalar.select_of_eq_one rfl _ _
  · exact Scalar.select_of_eq_zero rfl _ _

theorem lanes0 : ∀ l : Fin 256, M0 (ix2 0 l) = if l.val / 64 = 0 then 1#1 else 0#1 := by
  intro l
  pointwise [lanes]
  revert l
  decide +kernel
theorem lanes1 : ∀ l : Fin 256, M1 (ix2 0 l) = if l.val / 64 = 1 then 1#1 else 0#1 := by
  intro l
  pointwise [lanes]
  revert l
  decide +kernel
theorem lanes2 : ∀ l : Fin 256, M2 (ix2 0 l) = if l.val / 64 = 2 then 1#1 else 0#1 := by
  intro l
  pointwise [lanes]
  revert l
  decide +kernel
theorem lanes3 : ∀ l : Fin 256, M3 (ix2 0 l) = if l.val / 64 = 3 then 1#1 else 0#1 := by
  intro l
  pointwise [lanes]
  revert l
  decide +kernel

/-- The weights of a row of real scores: the row's largest score cancels. -/
theorem weights_apply (s : FVec Ideal S512x256 .f32) (r : Fin 512) (f : Fin 256 → ℝ) (hs : ∀ j, s (ix2 r j) = ((f j : ℝ) : EReal)) (j : Fin 256) :
    weights s (ix2 r j) = ((Real.exp (f j) / ∑ x : Fin 256, Real.exp (f x) : ℝ) : EReal) := by
  obtain ⟨μ, hμ⟩ := Reals.fold_max_real f
  have hsh : ∀ x, shifted s (ix2 r x) = ((f x - μ : ℝ) : EReal) := fun x => by
    pointwise [shifted]
    simp only [hs, hμ, ← EReal.coe_sub]
  pointwise [weights, k0_pay12]
  simp only [hsh, Ideal.exp_coe, Reals.coe_sum, ← EReal.coe_one, Reals.div_real (Reals.sum_exp_pos (fun x => f x - μ)).ne', ← EReal.coe_mul]
  rw [Reals.softmax_shift]

variable (q o : FVec Ideal S512x256 .bf16) (k v : FVec Ideal S256x256 .bf16) (Q O : S512x256.Idx → ℝ) (K V : S256x256.Idx → ℝ)

section Head

variable (hq : q = fun i => ((Q i : ℝ) : EReal)) (ho : o = fun i => ((O i : ℝ) : EReal)) (hk : k = fun i => ((K i : ℝ) : EReal)) (hv : v = fun i => ((V i : ℝ) : EReal))
variable (M : IVec S1x256 1) (h : ℕ) (hM : ∀ l : Fin 256, M (ix2 0 l) = if l.val / 64 = h then 1#1 else 0#1)

include hq hk hM

theorem headP_apply (r : Fin 512) (j : Fin 256) : headP M q k (ix2 r j) = ((prob (fun l => Q (ix2 r l)) (fun j l => K (ix2 j l)) h j : ℝ) : EReal) := by
  refine weights_apply _ r (fun j => score (fun l => Q (ix2 r l)) (fun j l => K (ix2 j l)) h j) (fun j => ?_) j
  pointwise [scores]
  simp only [keepB_apply M h hM k K hk, hq, Reals.eighth_f32, ← EReal.coe_mul, Reals.coe_sum]
  rfl

include ho hv

theorem headDs_apply (r : Fin 512) (j : Fin 256) :
    headDs M q o k v (ix2 r j) = ((dsc (fun l => Q (ix2 r l)) (fun l => O (ix2 r l)) (fun j l => K (ix2 j l)) (fun j l => V (ix2 j l)) h j : ℝ) : EReal) := by
  pointwise [headDs, dscore]
  simp only [headP_apply q k Q K hq hk M h hM, keepB_apply M h hM v V hv, ho, Reals.eighth_f32, ← EReal.coe_mul, Reals.coe_sum, ← EReal.coe_sub]
  rfl

theorem headDq_apply (acc : FVec Ideal S512x256 .f32) (r : Fin 512) (l : Fin 256) :
    headDq M q o k v acc (ix2 r l) = acc (ix2 r l) + (((if l.val / 64 = h then dqv (fun l => Q (ix2 r l)) (fun l => O (ix2 r l)) (fun j l => K (ix2 j l)) (fun j l => V (ix2 j l)) l else 0) : ℝ) : EReal) := by
  pointwise [headDq]
  simp only [headDs_apply q o k v Q O K V hq ho hk hv M h hM, keepB_apply M h hM k K hk, ← EReal.coe_mul, Reals.coe_sum]
  split_ifs with e
  · subst e
    rfl
  · simp

theorem headDk_apply (acc : FVec Ideal S256x256 .f32) (j l : Fin 256) :
    headDk M q o k v acc (ix2 j l) = acc (ix2 j l) + (((if l.val / 64 = h then ∑ r : Fin 512, dsc (fun l => Q (ix2 r l)) (fun l => O (ix2 r l)) (fun j l => K (ix2 j l)) (fun j l => V (ix2 j l)) (l.val / 64) j * Q (ix2 r l) else 0) : ℝ) : EReal) := by
  pointwise [headDk]
  rw [keepF_apply M h hM _ (∑ r : Fin 512, dsc (fun l => Q (ix2 r l)) (fun l => O (ix2 r l)) (fun j l => K (ix2 j l)) (fun j l => V (ix2 j l)) h j * Q (ix2 r l))]
  · split_ifs with e
    · rw [e]
    · rfl
  · pointwise []
    simp only [headDs_apply q o k v Q O K V hq ho hk hv M h hM, congrFun hq, ← EReal.coe_mul, Reals.coe_sum]

omit hv in
theorem headDv_apply (acc : FVec Ideal S256x256 .f32) (j l : Fin 256) :
    headDv M q o k acc (ix2 j l) = acc (ix2 j l) + (((if l.val / 64 = h then ∑ r : Fin 512, prob (fun l => Q (ix2 r l)) (fun j l => K (ix2 j l)) (l.val / 64) j * O (ix2 r l) else 0) : ℝ) : EReal) := by
  pointwise [headDv]
  rw [keepF_apply M h hM _ (∑ r : Fin 512, prob (fun l => Q (ix2 r l)) (fun j l => K (ix2 j l)) h j * O (ix2 r l))]
  · split_ifs with e
    · rw [e]
    · rfl
  · pointwise []
    simp only [headP_apply q k Q K hq hk M h hM, ho, ← EReal.coe_mul, Reals.coe_sum]

end Head

/-- Of four additions, each to the lanes of one head, a lane takes one. -/
theorem four (l : Fin 256) (x : ℝ) : (0 : EReal) + (((if l.val / 64 = 0 then x else 0) : ℝ) : EReal) + (((if l.val / 64 = 1 then x else 0) : ℝ) : EReal) + (((if l.val / 64 = 2 then x else 0) : ℝ) : EReal) + (((if l.val / 64 = 3 then x else 0) : ℝ) : EReal) = ((x : ℝ) : EReal) := by
  have : l.val / 64 = 0 ∨ l.val / 64 = 1 ∨ l.val / 64 = 2 ∨ l.val / 64 = 3 := by omega
  rcases this with e | e | e | e <;> simp [e]

section Block

variable (hq : q = fun i => ((Q i : ℝ) : EReal)) (ho : o = fun i => ((O i : ℝ) : EReal)) (hk : k = fun i => ((K i : ℝ) : EReal)) (hv : v = fun i => ((V i : ℝ) : EReal))

include hq ho hk

theorem blkDv_apply (j l : Fin 256) : blkDv q o k (ix2 j l) = ((∑ r : Fin 512, prob (fun l => Q (ix2 r l)) (fun j l => K (ix2 j l)) (l.val / 64) j * O (ix2 r l) : ℝ) : EReal) := by
  unfold blkDv
  rw [headDv_apply q o k Q O K hq ho hk M3 3 lanes3, headDv_apply q o k Q O K hq ho hk M2 2 lanes2, headDv_apply q o k Q O K hq ho hk M1 1 lanes1, headDv_apply q o k Q O K hq ho hk M0 0 lanes0,
    show k0_pay8 (F := Ideal) (ix2 j l) = 0 by pointwise [k0_pay8]]
  exact four l _

include hv

theorem blkDq_apply (r : Fin 512) (l : Fin 256) :
    blkDq q o k v (ix2 r l) = ((dqv (fun l => Q (ix2 r l)) (fun l => O (ix2 r l)) (fun j l => K (ix2 j l)) (fun j l => V (ix2 j l)) l : ℝ) : EReal) := by
  pointwise [blkDq]
  rw [headDq_apply q o k v Q O K V hq ho hk hv M3 3 lanes3, headDq_apply q o k v Q O K V hq ho hk hv M2 2 lanes2, headDq_apply q o k v Q O K V hq ho hk hv M1 1 lanes1, headDq_apply q o k v Q O K V hq ho hk hv M0 0 lanes0,
    show k0_pay6 (F := Ideal) (ix2 r l) = 0 by pointwise [k0_pay6]]
  exact four l _

theorem blkDk_apply (j l : Fin 256) :
    blkDk q o k v (ix2 j l) = ((∑ r : Fin 512, dsc (fun l => Q (ix2 r l)) (fun l => O (ix2 r l)) (fun j l => K (ix2 j l)) (fun j l => V (ix2 j l)) (l.val / 64) j * Q (ix2 r l) : ℝ) : EReal) := by
  unfold blkDk
  rw [headDk_apply q o k v Q O K V hq ho hk hv M3 3 lanes3, headDk_apply q o k v Q O K V hq ho hk hv M2 2 lanes2, headDk_apply q o k v Q O K V hq ho hk hv M1 1 lanes1, headDk_apply q o k v Q O K V hq ho hk hv M0 0 lanes0,
    show k0_pay7 (F := Ideal) (ix2 j l) = 0 by pointwise [k0_pay7]]
  exact four l _

end Block

/-! ## The arguments as real arrays -/

/-- A row's queries. -/
def qrow (P : S8192x1792.Idx → ℝ) (r : Fin 8192) : Fin 256 → ℝ := fun l => P (ix2 r ⟨1536 + l.val, by omega⟩)

/-- A row's cotangents. -/
def orow (Y : S8192x1024.Idx → ℝ) (r : Fin 8192) : Fin 256 → ℝ := fun l => Y (ix2 r ⟨768 + l.val, by omega⟩)

/-- The memory's keys. -/
def kmat (Z : S256x512.Idx → ℝ) : Fin 256 → Fin 256 → ℝ := fun j l => Z (ix2 j ⟨l.val, by omega⟩)

/-- The memory's values. -/
def vmat (Z : S256x512.Idx → ℝ) : Fin 256 → Fin 256 → ℝ := fun j l => Z (ix2 j ⟨256 + l.val, by omega⟩)

/-- The queries' cotangent. -/
def dqR (P : S8192x1792.Idx → ℝ) (Z : S256x512.Idx → ℝ) (Y : S8192x1024.Idx → ℝ) : FVec Ideal S8192x256 .bf16 := fun i =>
  ((dqv (qrow P (i 0)) (orow Y (i 0)) (kmat Z) (vmat Z) (i 1) : ℝ) : EReal)

/-- One row's part of the memory's cotangent. -/
def mterm (P : S8192x1792.Idx → ℝ) (Z : S256x512.Idx → ℝ) (Y : S8192x1024.Idx → ℝ) (r : Fin 8192) (j : Fin 256) (l : Fin 512) : ℝ :=
  if h : l.val < 256 then dsc (qrow P r) (orow Y r) (kmat Z) (vmat Z) (l.val / 64) j * qrow P r ⟨l.val, h⟩
  else prob (qrow P r) (kmat Z) ((l.val - 256) / 64) j * orow Y r ⟨l.val - 256, by omega⟩

/-- The memory's cotangent. -/
def dmR (P : S8192x1792.Idx → ℝ) (Z : S256x512.Idx → ℝ) (Y : S8192x1024.Idx → ℝ) : FVec Ideal S256x512 .f32 := fun i =>
  ((∑ r : Fin 8192, mterm P Z Y r (i 0) (i 1) : ℝ) : EReal)

theorem iblk0_apply (c : Dev nD) (n : ℕ) (h : n < cfg0.N) (r : Fin 512) (l : Fin 256) :
    iblk m c 0 ⟨n, h⟩ (ix2 r l) = m ((c : Thread nD τ).loc main_arg0) (ix2 ⟨n % 16 * 512 + r.val, by omega⟩ ⟨1536 + l.val, by omega⟩) := by
  have e : ∀ t : Fin cfg0.N, win0_0.index t = ![t.val % 16, 6] := by decide +kernel
  blk_ext [iblk, V, e]

theorem iblk1_apply (c : Dev nD) (n : ℕ) (h : n < cfg0.N) (r : Fin 256) (l : Fin 512) :
    iblk m c 1 ⟨n, h⟩ (ix2 r l) = m ((c : Thread nD τ).loc main_arg1) (ix2 r l) := by
  have e : ∀ t : Fin cfg0.N, win0_1.index t = ![0, 0] := by decide +kernel
  blk_ext [iblk, V, e]

theorem iblk2_apply (c : Dev nD) (n : ℕ) (h : n < cfg0.N) (r : Fin 512) (l : Fin 256) :
    iblk m c 2 ⟨n, h⟩ (ix2 r l) = m ((c : Thread nD τ).loc main_arg2) (ix2 ⟨n % 16 * 512 + r.val, by omega⟩ ⟨768 + l.val, by omega⟩) := by
  have e : ∀ t : Fin cfg0.N, win0_2.index t = ![t.val % 16, 3] := by decide +kernel
  blk_ext [iblk, V, e]

/-- The arguments as real arrays. -/
structure Real3 (c : Dev nD) (P : S8192x1792.Idx → ℝ) (Z : S256x512.Idx → ℝ) (Y : S8192x1024.Idx → ℝ) : Prop where
  p : m ((c : Thread nD τ).loc main_arg0) = fun i => ((P i : ℝ) : EReal)
  z : m ((c : Thread nD τ).loc main_arg1) = fun i => ((Z i : ℝ) : EReal)
  y : m ((c : Thread nD τ).loc main_arg2) = fun i => ((Y i : ℝ) : EReal)

section Arrays

variable (c : Dev nD) {P : S8192x1792.Idx → ℝ} {Z : S256x512.Idx → ℝ} {Y : S8192x1024.Idx → ℝ} (H : Real3 m c P Z Y)

include H

/-- A grid point's queries. -/
theorem blkQ (n : ℕ) (h : n < cfg0.N) : k0_pay2 (F := Ideal) (iblk m c 0 ⟨n, h⟩) = fun i => ((qrow P ⟨n % 16 * 512 + (i 0).val, by have := (i 0).isLt; change (i 0).val < 512 at this; omega⟩ (i 1) : ℝ) : EReal) := by
  funext i
  obtain ⟨r, l, rfl⟩ : ∃ (r : Fin 512) (l : Fin 256), i = ix2 r l := ⟨i 0, i 1, eq_ix2 i⟩
  pointwise [k0_pay2]
  rw [iblk0_apply, H.p]
  rfl

/-- A grid point's cotangents. -/
theorem blkO (n : ℕ) (h : n < cfg0.N) : k0_pay5 (F := Ideal) (iblk m c 2 ⟨n, h⟩) = fun i => ((orow Y ⟨n % 16 * 512 + (i 0).val, by have := (i 0).isLt; change (i 0).val < 512 at this; omega⟩ (i 1) : ℝ) : EReal) := by
  funext i
  obtain ⟨r, l, rfl⟩ : ∃ (r : Fin 512) (l : Fin 256), i = ix2 r l := ⟨i 0, i 1, eq_ix2 i⟩
  pointwise [k0_pay5]
  rw [iblk2_apply, H.y]
  rfl

/-- The keys at a grid point. -/
theorem blkK (n : ℕ) (h : n < cfg0.N) : keys (iblk m c 1 ⟨n, h⟩) = fun i => ((kmat Z (i 0) (i 1) : ℝ) : EReal) := by
  funext i
  obtain ⟨j, l, rfl⟩ : ∃ (j l : Fin 256), i = ix2 j l := ⟨i 0, i 1, eq_ix2 i⟩
  pointwise [keys, loHalf, k0_pay3]
  rw [iblk1_apply, H.z]
  rfl

/-- The values at a grid point. -/
theorem blkV (n : ℕ) (h : n < cfg0.N) : vals (iblk m c 1 ⟨n, h⟩) = fun i => ((vmat Z (i 0) (i 1) : ℝ) : EReal) := by
  funext i
  obtain ⟨j, l, rfl⟩ : ∃ (j l : Fin 256), i = ix2 j l := ⟨i 0, i 1, eq_ix2 i⟩
  pointwise [vals, hiHalf, k0_pay4]
  rw [iblk1_apply, H.z]
  rfl

theorem arr3 : (dats m 0 c).arrAt 3 cfg0.N = dqR P Z Y := by
  refine (dats m 0 c).arrAt_eq_of_covers 3 _ (by decide +kernel) fun t hf y => ?_
  have e : ∀ t : Fin cfg0.N, win0_3.index t = ![t.val % 16, 0] := by decide +kernel
  blk_simp
  rw [after0_3, outs3]
  obtain ⟨r, l, rfl⟩ : ∃ (r : Fin 512) (l : Fin 256), y = ix2 r l := ⟨y 0, y 1, eq_ix2 y⟩
  have he : (win0_3.blk t).view.emb (ix2 r l) = ix2 (⟨t.val % 16 * 512 + r.val, by omega⟩ : Fin 8192) l := by
    refine Shape.idx_ext₂ ?_ ?_ <;> blk_simp <;> rw [e] <;> simp
  rw [he, blkDq_apply _ _ _ _ _ _ _ _ (blkQ m c H t.val t.isLt) (blkO m c H t.val t.isLt) (blkK m c H t.val t.isLt) (blkV m c H t.val t.isLt)]
  rfl

omit H in
/-- A block stored as two halves reads as the half that holds the lane. -/
theorem halves (A B : FVec Ideal S256x256 .f32) (L : List (View.Piece (Elt Ideal) S256x512 .f32)) (j : Fin 256) (l : Fin 512) :
    View.canon (⟨Rect.unit ![0, 256] ![256, 256] inb_S256x512_S256x256_0_256, B⟩ :: ⟨Rect.unit ![0, 0] ![256, 256] inb_S256x512_S256x256_0_0, A⟩ :: L) (ix2 j l)
      = if h : l.val < 256 then A (ix2 j ⟨l.val, h⟩) else B (ix2 j ⟨l.val - 256, by omega⟩) := by
  split_ifs with h
  · rw [View.canon_cons_of_not_mem]
    · have e : (ix2 j l : S256x512.Idx) = (Rect.unit ![0, 0] ![256, 256] inb_S256x512_S256x256_0_0).emb (ix2 j (⟨l.val, h⟩ : Fin 256)) := by
        refine Shape.idx_ext₂ ?_ ?_ <;> rw [Rect.emb_apply] <;> simp [Rect.unit]
      rw [e, View.canon_cons_emb]
    · intro hm
      have := (Rect.mem_set_unit (inb := inb_S256x512_S256x256_0_256)).mp hm 1
      simp at this
      omega
  · have e : (ix2 j l : S256x512.Idx) = (Rect.unit ![0, 256] ![256, 256] inb_S256x512_S256x256_0_256).emb (ix2 j (⟨l.val - 256, by omega⟩ : Fin 256)) := by
      refine Shape.idx_ext₂ ?_ ?_ <;> rw [Rect.emb_apply] <;> simp [Rect.unit]
      omega
    rw [e, View.canon_cons_emb]

/-- The part of the memory's cotangent that a grid point adds at a place. -/
def madd (P : S8192x1792.Idx → ℝ) (Z : S256x512.Idx → ℝ) (Y : S8192x1024.Idx → ℝ) (n : ℕ) (j : Fin 256) (l : Fin 512) : ℝ :=
  ∑ r : Fin 512, mterm P Z Y ⟨n % 16 * 512 + r.val, by omega⟩ j l

theorem step4 (n : ℕ) (h : n < cfg0.N) (acc : FVec Ideal S256x512 .f32) (L : List (View.Piece (Elt Ideal) S256x512 .f32)) (i : S256x512.Idx) :
    View.canon (⟨Rect.unit ![0, 256] ![256, 256] inb_S256x512_S256x256_0_256,
        addf (F := Ideal) (shapeCast S256x256 (hiHalf acc) shapeCasts_S256x256_S256x256) (blkDv (k0_pay2 (F := Ideal) (iblk m c 0 ⟨n, h⟩)) (k0_pay5 (F := Ideal) (iblk m c 2 ⟨n, h⟩)) (keys (iblk m c 1 ⟨n, h⟩)))⟩ ::
      ⟨Rect.unit ![0, 0] ![256, 256] inb_S256x512_S256x256_0_0,
        addf (F := Ideal) (shapeCast S256x256 (loHalf acc) shapeCasts_S256x256_S256x256) (blkDk (k0_pay2 (F := Ideal) (iblk m c 0 ⟨n, h⟩)) (k0_pay5 (F := Ideal) (iblk m c 2 ⟨n, h⟩)) (keys (iblk m c 1 ⟨n, h⟩)) (vals (iblk m c 1 ⟨n, h⟩)))⟩ :: L) i
      = acc i + ((madd P Z Y n (i 0) (i 1) : ℝ) : EReal) := by
  obtain ⟨j, l, rfl⟩ : ∃ (j : Fin 256) (l : Fin 512), i = ix2 j l := ⟨i 0, i 1, eq_ix2 i⟩
  rw [halves]
  split_ifs with hl
  · pointwise [loHalf]
    rw [blkDk_apply _ _ _ _ _ _ _ _ (blkQ m c H n h) (blkO m c H n h) (blkK m c H n h) (blkV m c H n h)]
    unfold madd mterm
    simp only [ix2_0, ix2_1, hl, dif_pos]
  · pointwise [hiHalf]
    rw [blkDv_apply _ _ _ _ _ _ (blkQ m c H n h) (blkO m c H n h) (blkK m c H n h)]
    unfold madd mterm
    have e : (⟨256 + (l.val - 256), by omega⟩ : Fin 512) = l := Fin.ext (by simp; omega)
    simp only [ix2_0, ix2_1, hl, dif_neg, not_false_eq_true, e]

theorem arr4 : (dats m 0 c).arrAt 4 cfg0.N = dmR P Z Y := by
  refine (dats m 0 c).arrAt_eq_of_covers 4 _ (by decide +kernel) fun t hf y => ?_
  have e : ∀ t : Fin cfg0.N, win0_4.index t = ![0, 0] := by decide +kernel
  blk_simp
  rw [after0_4]
  obtain ⟨j, l, rfl⟩ : ∃ (j : Fin 256) (l : Fin 512), y = ix2 j l := ⟨y 0, y 1, eq_ix2 y⟩
  have he : (win0_4.blk t).view.emb (ix2 j l) = ix2 j l := by
    refine Shape.idx_ext₂ ?_ ?_ <;> blk_simp <;> rw [e] <;> simp
  rw [he]
  have hr := (flush0_4 t).mp hf
  have hN : t.val < 16 := lt_of_lt_of_eq t.isLt N_0
  rw [Pipeline.eq_sum_fin_of_reset_step_apply_of_flush (fun n h => (outsAt0 m c n h).2) 16 (fun _ => (0 : EReal)) (fun t j => ((madd P Z Y t.val (j 0) (j 1) : ℝ) : EReal))
    (fun t h0 j => by
      show (outsAt0 m c t.val t.isLt).2 j = _
      rw [outs4_A m c t h0, step4 m c H t.val t.isLt]
      pointwise [k0_pay1])
    (fun t h0 j => by
      show (outsAt0 m c t.val t.isLt).2 j = _
      rw [outs4_B m c t h0, step4 m c H t.val t.isLt]) t hr]
  rw [zero_add, Reals.coe_sum]
  unfold dmR madd
  refine congrArg _ ?_
  refine Eq.trans ?_ (Fin.sum_mul_add_fin 16 512 (fun r : Fin 8192 => mterm P Z Y r j l))
  refine Finset.sum_congr rfl fun s _ => Finset.sum_congr rfl fun q _ => ?_
  have hs := s.isLt
  have e1 : (16 * (t.val / 16) + s.val) % 16 = s.val := by omega
  show mterm P Z Y ⟨(16 * (t.val / 16) + s.val) % 16 * 512 + q.val, _⟩ j l = _
  simp only [e1]

end Arrays

end Cert.MemIdeal.Value
-- ==== Proof.MemValue.lean ====
/- The memory attention's backward call: that the reference's chain-rule lines are the kernel's arrays. -/
module

public import proofs.«01_k».proof.Proof.MemKernel
public import proofs.«01_k».proof.Proof.Gen.MemReferIdeal.Run
public import proofs.«01_k».proof.Proof.Gen.MemReferIdeal.Read
public import proofs.«01_k».proof.Defs

@[expose] public section

set_option maxRecDepth 16384

noncomputable section

namespace Cert.MemReferIdeal.Read

open Cert.MemReferIdeal Cert.MemReferIdeal.Gen Idealize.ShloMosaic Idealize.ShloMosaic.TcCoe Idealize.SL.Sem
open Cert.MemIdeal.Value (qrow orow kmat vmat score prob dprob dsc dqv)
open scoped BigOperators

variable {P : S8192x1792.Idx → ℝ} {Z : S256x512.Idx → ℝ} {Y : S8192x1024.Idx → ℝ}

/-- The coercion of a real array. -/
abbrev up {S : Shape} {φ : FTy} (X : S.Idx → ℝ) : FVec Ideal S φ := fun i => ((X i : ℝ) : EReal)

/-- A lane of a head among the heads' lanes. -/
def hl (h : Fin 4) (k : Fin 64) : Fin 256 := ⟨h.val * 64 + k.val, by omega⟩

theorem hl_div (h : Fin 4) (k : Fin 64) : (hl h k).val / 64 = h.val := by
  show (h.val * 64 + k.val) / 64 = h.val
  omega

theorem hl_self (l : Fin 256) : hl ⟨l.val / 64, by omega⟩ ⟨l.val % 64, by omega⟩ = l := Fin.ext (by show l.val / 64 * 64 + l.val % 64 = l.val; omega)

/-- A sum over the lanes that keeps one head's is the head's sum. -/
theorem head_sum (f K : Fin 256 → ℝ) (h : Fin 4) : ∑ l : Fin 256, f l * (if l.val / 64 = h.val then K l else 0) = ∑ k : Fin 64, f (hl h k) * K (hl h k) := by
  rw [← Fin.sum_mul_add_fin 4 64 (fun l : Fin 256 => f l * (if l.val / 64 = h.val then K l else 0))]
  rw [Finset.sum_eq_single h]
  · refine Finset.sum_congr rfl fun k _ => ?_
    have e : (h.val * 64 + k.val) / 64 = h.val := by omega
    simp only [e, if_true]
    rfl
  · intro b _ hb
    refine Finset.sum_eq_zero fun k _ => ?_
    have e : (b.val * 64 + k.val) / 64 = b.val := by omega
    simp only [e, if_neg (fun hh => hb (Fin.ext hh)), mul_zero]
  · intro hh
    exact absurd (Finset.mem_univ _) hh

theorem v3_at (r : Fin 8192) (h : Fin 4) (k : Fin 64) : val_main_v3 (F := Ideal) (up (φ := .f32) P) (ix3 r h k) = ((qrow P r (hl h k) : ℝ) : EReal) := by
  pointwise [val_main_v3, val_main_v0]
  rfl

theorem v4_at (j : Fin 256) (h : Fin 4) (k : Fin 64) : val_main_v4 (F := Ideal) (up (φ := .f32) Z) (ix3 j h k) = ((kmat Z j (hl h k) : ℝ) : EReal) := by
  pointwise [val_main_v4, val_main_v1]
  rfl

theorem v5_at (j : Fin 256) (h : Fin 4) (k : Fin 64) : val_main_v5 (F := Ideal) (up (φ := .f32) Z) (ix3 j h k) = ((vmat Z j (hl h k) : ℝ) : EReal) := by
  pointwise [val_main_v5, val_main_v2]
  rfl

theorem v42_at (r : Fin 8192) (h : Fin 4) (k : Fin 64) : val_main_v42 (F := Ideal) (up (φ := .f32) Y) (ix3 h k r) = ((orow Y r (hl h k) : ℝ) : EReal) := by
  pointwise [val_main_v42, val_main_v41, val_main_v40]
  rfl

theorem v8_at (h : Fin 4) (r : Fin 8192) (j : Fin 256) : val_main_v8 (F := Ideal) (up (φ := .f32) P) (up (φ := .f32) Z) (ix3 h r j) = ((score (qrow P r) (kmat Z) h j : ℝ) : EReal) := by
  have e3 := v3_at (P := P) r h
  have e4 := v4_at (Z := Z) j h
  unfold val_main_v8 val_main_v6
  generalize val_main_v3 (F := Ideal) (up (φ := .f32) P) = y at e3 ⊢
  generalize val_main_v4 (F := Ideal) (up (φ := .f32) Z) = y at e4 ⊢
  pointwise [val_main_v7, val_main_cst]
  simp only [e3, e4, ← EReal.coe_mul, Reals.coe_sum, Reals.eighth_f32]
  unfold score
  rw [head_sum]

/-- The exponentials of a row, up to a common shift. -/
theorem v29_at (h : Fin 4) (r : Fin 8192) : ∃ μ : ℝ, ∀ j : Fin 256, val_main_v29 (F := Ideal) (up (φ := .f32) P) (up (φ := .f32) Z) (ix3 h r j) = ((Real.exp (score (qrow P r) (kmat Z) h j - μ) : ℝ) : EReal) := by
  have e8 := v8_at (P := P) (Z := Z) h r
  obtain ⟨μ, hμ⟩ := Reals.fold_max_real (fun j => score (qrow P r) (kmat Z) h j)
  refine ⟨μ, fun j => ?_⟩
  have e9 : val_main_v9 (F := Ideal) (up (φ := .f32) P) (up (φ := .f32) Z) (ix2 h r) = ((μ : ℝ) : EReal) := by
    unfold val_main_v9
    generalize val_main_v8 (F := Ideal) (up (φ := .f32) P) (up (φ := .f32) Z) = y at e8 ⊢
    pointwise [val_main_cst_0]
    simp only [e8]
    exact hμ
  have e2 : ∀ i, val_main_cst_2 (F := Ideal) i = (⊥ : EReal) := fun i => Reals.bot_f32
  rw [val_main_v29_apply, val_main_v28_apply, val_main_v27_apply, val_main_v26_apply, val_main_v16_apply, val_main_v15_apply, e2, show idx_main_v26 (idx_main_v27 (ix3 h r j)) = ix2 h r from Shape.idx_ext₂ rfl rfl, e8, e9]
  show Ideal.exp (((score (qrow P r) (kmat Z) h j : ℝ) : EReal) - max ⊥ ((μ : ℝ) : EReal)) = _
  rw [max_eq_right bot_le, ← EReal.coe_sub, Ideal.exp_coe]

/-- The cotangent of a weight. -/
theorem v43_at (h : Fin 4) (r : Fin 8192) (j : Fin 256) : val_main_v43 (F := Ideal) (up (φ := .f32) Z) (up (φ := .f32) Y) (ix3 h r j) = ((dprob (orow Y r) (vmat Z) h j : ℝ) : EReal) := by
  have e5 := v5_at (Z := Z) j h
  have e42 := v42_at (Y := Y) r h
  unfold val_main_v43
  generalize val_main_v5 (F := Ideal) (up (φ := .f32) Z) = y at e5 ⊢
  generalize val_main_v42 (F := Ideal) (up (φ := .f32) Y) = y at e42 ⊢
  pointwise []
  simp only [e5, e42, ← EReal.coe_mul, Reals.coe_sum]
  unfold dprob
  rw [head_sum]

/-- The softmax's gradient, with the shift that the exponentials carry. -/
theorem grad_shift (f d : Fin 256 → ℝ) (μ : ℝ) (j : Fin 256) (Z : ℝ) (hZ : Z = ∑ x, Real.exp (f x - μ)) :
    (d j / Z + -∑ x, d x * (1 / (Z * Z)) * Real.exp (f x - μ)) * Real.exp (f j - μ)
      = Real.exp (f j) / (∑ x, Real.exp (f x)) * (d j - ∑ x, Real.exp (f x) / (∑ y, Real.exp (f y)) * d x) := by
  have p : 0 < Z := hZ ▸ Reals.sum_exp_pos (fun x => f x - μ)
  have q : ∀ x, Real.exp (f x) / (∑ y, Real.exp (f y)) = Real.exp (f x - μ) / Z := fun x => by
    rw [← Reals.softmax_shift f μ x, ← hZ]; ring
  simp only [q]
  have e : ∑ x, d x * (1 / (Z * Z)) * Real.exp (f x - μ) = (∑ x, Real.exp (f x - μ) / Z * d x) / Z := by
    rw [Finset.sum_div]
    refine Finset.sum_congr rfl fun x _ => ?_
    field_simp
  rw [e]
  field_simp
  ring

/-- The weights. -/
theorem v33_at (h : Fin 4) (r : Fin 8192) (j : Fin 256) : val_main_v33 (F := Ideal) (up (φ := .f32) P) (up (φ := .f32) Z) (ix3 h r j) = ((prob (qrow P r) (kmat Z) h j : ℝ) : EReal) := by
  obtain ⟨μ, e29⟩ := v29_at (P := P) (Z := Z) h r
  unfold val_main_v33 val_main_v32 val_main_v31 val_main_v30
  generalize val_main_v29 (F := Ideal) (up (φ := .f32) P) (up (φ := .f32) Z) = y at e29 ⊢
  pointwise [val_main_cst_8]
  simp only [e29, Reals.coe_sum]
  rw [Reals.div_real (Reals.sum_exp_pos _).ne']
  refine congrArg _ ?_
  unfold prob
  rw [← Reals.softmax_shift _ μ]
  ring

/-- The scores' cotangents. -/
theorem v59_at (h : Fin 4) (r : Fin 8192) (j : Fin 256) : val_main_v59 (F := Ideal) (up (φ := .f32) P) (up (φ := .f32) Z) (up (φ := .f32) Y) (ix3 h r j) = ((dsc (qrow P r) (orow Y r) (kmat Z) (vmat Z) h j : ℝ) : EReal) := by
  obtain ⟨μ, hy⟩ := v29_at (P := P) (Z := Z) h r
  have hd := v43_at (Y := Y) (Z := Z) h r
  have pz := Reals.sum_exp_pos (fun x => score (qrow P r) (kmat Z) h x - μ)
  have hz : val_main_v30 (F := Ideal) (up (φ := .f32) P) (up (φ := .f32) Z) (ix2 h r) = ((∑ x, Real.exp (score (qrow P r) (kmat Z) h x - μ) : ℝ) : EReal) := by
    unfold val_main_v30
    generalize val_main_v29 (F := Ideal) (up (φ := .f32) P) (up (φ := .f32) Z) = y at hy ⊢
    pointwise [val_main_cst_8]
    simp only [hy, Reals.coe_sum]
  generalize hzz : ∑ x, Real.exp (score (qrow P r) (kmat Z) h x - μ) = z at hz pz
  have h48 : ∀ j, val_main_v48 (F := Ideal) (up (φ := .f32) P) (up (φ := .f32) Z) (up (φ := .f32) Y) (ix3 h r j) = ((dprob (orow Y r) (vmat Z) h j * (1 / (z * z)) * Real.exp (score (qrow P r) (kmat Z) h j - μ) : ℝ) : EReal) := fun j => by
    have e9 : ∀ i, val_main_cst_9 (F := Ideal) i = ((1 : ℝ) : EReal) := fun i => Reals.one_f32
    rw [val_main_v48_apply, val_main_v47_apply, val_main_v46_apply, val_main_v36_apply, val_main_v35_apply, e9, val_main_v34_apply, val_main_v31_apply, hy, hd,
      show idx_main_v31 (idx_main_v46 (ix3 h r j)) = ix2 h r from Shape.idx_ext₂ rfl rfl, hz]
    show ((dprob (orow Y r) (vmat Z) h j : ℝ) : EReal) * Ideal.div ((1 : ℝ) : EReal) (((z : ℝ) : EReal) * ((z : ℝ) : EReal)) * ((Real.exp (score (qrow P r) (kmat Z) h j - μ) : ℝ) : EReal) = _
    rw [← EReal.coe_mul, Reals.div_real (mul_pos pz pz).ne', ← EReal.coe_mul, ← EReal.coe_mul]
  have hw : val_main_v54 (F := Ideal) (up (φ := .f32) P) (up (φ := .f32) Z) (up (φ := .f32) Y) (ix2 h r) = ((-∑ x, dprob (orow Y r) (vmat Z) h x * (1 / (z * z)) * Real.exp (score (qrow P r) (kmat Z) h x - μ) : ℝ) : EReal) := by
    unfold val_main_v54 val_main_v51 val_main_v50 val_main_v49
    generalize val_main_v48 (F := Ideal) (up (φ := .f32) P) (up (φ := .f32) Z) (up (φ := .f32) Y) = y at h48 ⊢
    pointwise [val_main_cst_10, val_main_cst_11]
    simp only [h48, Reals.coe_sum, Fin.sum_univ_one, ← EReal.coe_neg]
  have e12 : ∀ i, val_main_cst_12 (F := Ideal) i = (((1 : ℝ) / 8 : ℝ) : EReal) := fun i => Reals.eighth_f32
  rw [val_main_v59_apply, val_main_v58_apply, e12, val_main_v57_apply, val_main_v56_apply, val_main_v55_apply, val_main_v53_apply, val_main_v52_apply, val_main_v31_apply, hy, hd,
    show idx_main_v31 (idx_main_v52 (ix3 h r j)) = ix2 h r from Shape.idx_ext₂ rfl rfl, show idx_main_v55 (ix3 h r j) = ix2 h r from Shape.idx_ext₂ rfl rfl, hz, hw]
  show (Ideal.div ((dprob (orow Y r) (vmat Z) h j : ℝ) : EReal) ((z : ℝ) : EReal) + ((-∑ x, dprob (orow Y r) (vmat Z) h x * (1 / (z * z)) * Real.exp (score (qrow P r) (kmat Z) h x - μ) : ℝ) : EReal))
    * ((Real.exp (score (qrow P r) (kmat Z) h j - μ) : ℝ) : EReal) * (((1 : ℝ) / 8 : ℝ) : EReal) = _
  rw [Reals.div_real pz.ne', ← EReal.coe_add, ← EReal.coe_mul, ← EReal.coe_mul]
  refine congrArg _ ?_
  unfold dsc prob
  rw [grad_shift _ _ μ j z hzz.symm]

theorem v45_at (j : Fin 256) (h : Fin 4) (k : Fin 64) : val_main_v45 (F := Ideal) (up (φ := .f32) P) (up (φ := .f32) Z) (up (φ := .f32) Y) (ix3 j h k)
    = ((∑ r : Fin 8192, prob (qrow P r) (kmat Z) h j * orow Y r (hl h k) : ℝ) : EReal) := by
  have e33 := fun r => v33_at (P := P) (Z := Z) h r j
  have e42 := fun r => v42_at (Y := Y) r h k
  unfold val_main_v45 val_main_v44
  generalize val_main_v33 (F := Ideal) (up (φ := .f32) P) (up (φ := .f32) Z) = y at e33 ⊢
  generalize val_main_v42 (F := Ideal) (up (φ := .f32) Y) = y at e42 ⊢
  pointwise []
  simp only [e33, e42, ← EReal.coe_mul, Reals.coe_sum]
  exact congrArg _ (Finset.sum_congr rfl fun r _ => mul_comm _ _)

theorem v61_at (j : Fin 256) (h : Fin 4) (k : Fin 64) : val_main_v61 (F := Ideal) (up (φ := .f32) P) (up (φ := .f32) Z) (up (φ := .f32) Y) (ix3 j h k)
    = ((∑ r : Fin 8192, dsc (qrow P r) (orow Y r) (kmat Z) (vmat Z) h j * qrow P r (hl h k) : ℝ) : EReal) := by
  have e59 := fun r => v59_at (P := P) (Z := Z) (Y := Y) h r j
  have e3 := fun r => v3_at (P := P) r h k
  unfold val_main_v61 val_main_v60
  generalize val_main_v59 (F := Ideal) (up (φ := .f32) P) (up (φ := .f32) Z) (up (φ := .f32) Y) = y at e59 ⊢
  generalize val_main_v3 (F := Ideal) (up (φ := .f32) P) = y at e3 ⊢
  pointwise []
  simp only [e59, e3, ← EReal.coe_mul, Reals.coe_sum]

theorem v63_at (r : Fin 8192) (h : Fin 4) (k : Fin 64) : val_main_v63 (F := Ideal) (up (φ := .f32) P) (up (φ := .f32) Z) (up (φ := .f32) Y) (ix3 r h k)
    = ((∑ j : Fin 256, dsc (qrow P r) (orow Y r) (kmat Z) (vmat Z) h j * kmat Z j (hl h k) : ℝ) : EReal) := by
  have e59 := fun j => v59_at (P := P) (Z := Z) (Y := Y) h r j
  have e4 := fun j => v4_at (Z := Z) j h k
  unfold val_main_v63 val_main_v62
  generalize val_main_v59 (F := Ideal) (up (φ := .f32) P) (up (φ := .f32) Z) (up (φ := .f32) Y) = y at e59 ⊢
  generalize val_main_v4 (F := Ideal) (up (φ := .f32) Z) = y at e4 ⊢
  pointwise []
  simp only [e59, e4, ← EReal.coe_mul, Reals.coe_sum]

/-- The queries' cotangent. -/
theorem v68_at (r : Fin 8192) (l : Fin 256) : val_main_v68 (F := Ideal) (up (φ := .f32) P) (up (φ := .f32) Z) (up (φ := .f32) Y) (ix2 r l)
    = ((dqv (qrow P r) (orow Y r) (kmat Z) (vmat Z) l : ℝ) : EReal) := by
  have e := v63_at (P := P) (Z := Z) (Y := Y) r ⟨l.val / 64, by omega⟩ ⟨l.val % 64, by omega⟩
  rw [hl_self] at e
  unfold val_main_v68 val_main_v66
  generalize val_main_v63 (F := Ideal) (up (φ := .f32) P) (up (φ := .f32) Z) (up (φ := .f32) Y) = y at e ⊢
  pointwise []
  rw [e]
  rfl

/-- The memory's cotangent. -/
theorem v67_at (j : Fin 256) (l : Fin 512) : val_main_v67 (F := Ideal) (up (φ := .f32) P) (up (φ := .f32) Z) (up (φ := .f32) Y) (ix2 j l)
    = ((∑ r : Fin 8192, Cert.MemIdeal.Value.mterm P Z Y r j l : ℝ) : EReal) := by
  have e61 := fun l : Fin 256 => v61_at (P := P) (Z := Z) (Y := Y) j ⟨l.val / 64, by omega⟩ ⟨l.val % 64, by omega⟩
  have e45 := fun l : Fin 256 => v45_at (P := P) (Z := Z) (Y := Y) j ⟨l.val / 64, by omega⟩ ⟨l.val % 64, by omega⟩
  simp only [hl_self] at e61 e45
  unfold val_main_v67 val_main_v65 val_main_v64
  generalize val_main_v61 (F := Ideal) (up (φ := .f32) P) (up (φ := .f32) Z) (up (φ := .f32) Y) = y at e61 ⊢
  generalize val_main_v45 (F := Ideal) (up (φ := .f32) P) (up (φ := .f32) Z) (up (φ := .f32) Y) = y at e45 ⊢
  pointwise []
  unfold Cert.MemIdeal.Value.mterm
  by_cases h : l.val < 256
  · simp only [h, dif_pos]
    exact e61 ⟨l.val, h⟩
  · simp only [h, dif_neg, not_false_eq_true]
    exact e45 ⟨l.val - 256, by omega⟩

end Cert.MemReferIdeal.Read

/-! ## The claim -/

namespace Cert.Proof

open Idealize.ShloMosaic Idealize.ShloMosaic.TcCoe Idealize.SL.Sem

/-- The shape facts that the finiteness check states. -/
theorem facts_mem : Cert.Pre_finite_mem.Facts where
  bcast_S_S8192x1792 := by decide
  bcast_S_S256x512 := by decide
  bcast_S_S8192x1024 := by decide

/-- The precondition makes every argument a real array. -/
theorem mem_real (m : (ℓ : Loc Cert.MemIdeal.nD Cert.MemIdeal.τ Cert.MemIdeal.sig) → Buf (Elt Ideal) ℓ)
    (h : Pre_MemIdeal_finite_mem (hPre_finite_mem := facts_mem) m) (c : Dev Cert.MemIdeal.nD) :
    ∃ P Z Y, Cert.MemIdeal.Value.Real3 m c P Z Y := by
  obtain ⟨h0, h1, h2⟩ := h c
  have q : ∀ {S : Shape} (x : FVec Ideal S .f32), (∀ i, Ideal.cmp .olt (max (x i) (-(x i))) (Ideal.ofBits .f32 0x7F800000#32) = 1#1) → ∃ X : S.Idx → ℝ, x = fun i => ((X i : ℝ) : EReal) :=
    fun x hx => Cert.Reals.lift fun i => Cert.Reals.real_of_olt (by rw [← Cert.Reals.top_f32]; exact hx i)
  obtain ⟨P, hP⟩ := q _ (fun i => congrFun h0 i)
  obtain ⟨Z, hZ⟩ := q _ (fun i => congrFun h1 i)
  obtain ⟨Y, hY⟩ := q _ (fun i => congrFun h2 i)
  exact ⟨P, Z, Y, hP, hZ, hY⟩

theorem algebraic_mem : algebraic_MemIdeal_MemReferIdeal_pre_finite_mem (hMemIdeal := Cert.MemIdeal.Gen.facts) (hMemReferIdeal := Cert.MemReferIdeal.Gen.facts) (hPre_finite_mem := facts_mem) := by
  intro m g m' g' hp hm
  choose P Z Y H using mem_real m hp
  refine ⟨fun c => Cert.MemIdeal.Value.dqR (P c) (Z c) (Y c), fun c => Cert.MemIdeal.Value.dmR (P c) (Z c) (Y c), ?_, ?_⟩
  · refine (θ_run _ _ _).mono (fun r h c => ?_) (Cert.MemIdeal.Value.run_blocks m g)
    obtain ⟨h3, h4, h⟩ := h c
    exact ⟨h3.trans (Cert.MemIdeal.Value.arr3 m c (H c)), h4.trans (Cert.MemIdeal.Value.arr4 m c (H c)), h⟩
  · refine (θ_run _ _ _).mono (fun r h c => ?_) (Cert.MemReferIdeal.Value.run m' g')
    obtain ⟨h3, h4, h⟩ := h c
    obtain ⟨e0, e1, e2⟩ := hm c
    have e0 := e0.trans (H c).p
    have e1 := e1.trans (H c).z
    have e2 := e2.trans (H c).y
    refine ⟨h3.trans ?_, h4.trans ?_, h⟩
    · rw [Cert.MemReferIdeal.Read.val_main_v68_eq, e0, e1, e2]
      funext i
      obtain ⟨r, l, rfl⟩ : ∃ (r : Fin 8192) (l : Fin 256), i = ix2 r l := ⟨i 0, i 1, eq_ix2 i⟩
      exact Cert.MemReferIdeal.Read.v68_at r l
    · rw [Cert.MemReferIdeal.Read.val_main_v67_eq, e0, e1, e2]
      funext i
      obtain ⟨j, l, rfl⟩ : ∃ (j : Fin 256) (l : Fin 512), i = ix2 j l := ⟨i 0, i 1, eq_ix2 i⟩
      exact Cert.MemReferIdeal.Read.v67_at j l

end Cert.Proof
-- ==== Proof.GmlpKernel.lean ====
/- The gated unit's backward call: the cotangents of the projection, of the mixing weights and biases, and of the norm's gain. What
   the kernel leaves in its four output arrays, as vectors of one grid point. -/
module

public import proofs.«01_k».proof.Proof.Gen.GmlpIdeal.Value
public import proofs.«01_k».proof.Proof.Reals
public import Idealize.ShloMosaic.Lib.Pointwise
public import Idealize.ShloMosaic.Lib.Claim
public import Idealize.ShloMosaic.Lib.Pipeline.ValueKit
public import Idealize.ShloMosaic.Lib.Pipeline.ReadBack
@[expose] public section
set_option maxRecDepth 16384
noncomputable section
namespace Cert.GmlpIdeal.Value
open Cert.GmlpIdeal Cert.GmlpIdeal.Gen Idealize.ShloMosaic Idealize.ShloMosaic.TcCoe Idealize.SL.Sem
open scoped BigOperators
variable (m : (ℓ : Loc nD τ sig) → Buf (Elt Ideal) ℓ)

/-! ## One window of one group, as vectors -/

/-- The bounded argument's tanh. -/
def thV {S : Shape} (x : FVec Ideal S .f32) : FVec Ideal S .f32 :=
  tanh (mulf (broadcast S (Scalar.ofBits (F := Ideal) .f32 0x3F4C422A#32)) (addf x (mulf (broadcast S (Named.named (F := Ideal) κ "cubic" 0x3D372713#32)) (mulf (mulf x x) x))))

/-- The activation. -/
def gelV {S : Shape} (x : FVec Ideal S .f32) : FVec Ideal S .f32 :=
  mulf (mulf (broadcast S (Scalar.ofBits (F := Ideal) .f32 0x3F000000#32)) x) (addf (broadcast S (Scalar.ofBits (F := Ideal) .f32 0x3F800000#32)) (thV x))

/-- The activation's slope. -/
def slopeV {S : Shape} (x : FVec Ideal S .f32) : FVec Ideal S .f32 :=
  addf (mulf (broadcast S (Scalar.ofBits (F := Ideal) .f32 0x3F000000#32)) (addf (broadcast S (Scalar.ofBits (F := Ideal) .f32 0x3F800000#32)) (thV x)))
    (mulf (mulf (mulf (broadcast S (Scalar.ofBits (F := Ideal) .f32 0x3F000000#32)) x) (subf (broadcast S (Scalar.ofBits (F := Ideal) .f32 0x3F800000#32)) (mulf (thV x) (thV x))))
      (mulf (broadcast S (Scalar.ofBits (F := Ideal) .f32 0x3F4C422A#32))
        (addf (broadcast S (Scalar.ofBits (F := Ideal) .f32 0x3F800000#32)) (mulf (broadcast S (Named.named (F := Ideal) κ "cubic3" 0x3E095D4F#32)) (mulf x x)))))

/-- The places a row of the mixing weights may read: those of its own half and of the half before. -/
def maskV : IVec S128x128 1 := k0_pay9 (iota .tc S128x128 32 [0] iota_S128x128_d0_w32) k0_pay5 64#32 k0_pay6 k0_pay7 k0_pay8

theorem inbU (g : Fin 6) (w : Fin 4) : ∀ a, (![128 * w.val, 128 * g.val] : Fin 2 → Nat) a + S128x128.size a ≤ S512x1536.size a := by revert g w; decide
theorem inbD (g : Fin 6) (w : Fin 4) : ∀ a, (![128 * w.val, 128 * g.val] : Fin 2 → Nat) a + S128x128.size a ≤ S512x768.size a := by revert g w; decide
theorem inbW (g : Fin 6) : ∀ a, (![g.val, 0, 0] : Fin 3 → Nat) a + S1x128x128.size a ≤ S6x128x128.size a := by revert g; decide
theorem slcD (g : Fin 6) (w : Fin 4) : S512x768.Slices ![128 * w.val, 128 * g.val] S128x128 := by revert g w; decide

/-- A window of a group of the projection's first half. -/
abbrev blkU (P : FVec Ideal S512x1536 .f32) (g : Fin 6) (w : Fin 4) : FVec Ideal S128x128 .f32 := View.ld (Val := Elt Ideal) (e' := .f32) P (Rect.unit ![128 * w.val, 128 * g.val] ![128, 128] (inbU g w))
/-- A window of a group of the cotangent. -/
abbrev blkD (D : FVec Ideal S512x768 .f32) (g : Fin 6) (w : Fin 4) : FVec Ideal S128x128 .f32 := View.ld (Val := Elt Ideal) (e' := .f32) D (Rect.unit ![128 * w.val, 128 * g.val] ![128, 128] (inbD g w))
/-- A group of a stack of six. -/
abbrev blkW (W : FVec Ideal S6x128x128 .f32) (g : Fin 6) : FVec Ideal S1x128x128 .f32 := View.ld (Val := Elt Ideal) (e' := .f32) W (Rect.unit ![g.val, 0, 0] ![1, 128, 128] (inbW g))
/-- The projection's second half. -/
abbrev half2 (P : FVec Ideal S512x1536 .f32) : FVec Ideal S512x768 .f32 := View.ld (Val := Elt Ideal) (e' := .f32) P (Rect.unit ![0, 768] ![512, 768] inb_S512x1536_S512x768_0_768)

/-- A group's mixing weights, zero off the mask. -/
def wmV (W : FVec Ideal S6x128x128 .f32) (g : Fin 6) : FVec Ideal S128x128 .bf16 :=
  truncf .bf16 (select maskV (shapeCast S128x128 (blkW W g) shapeCasts_S1x128x128_S128x128) (broadcast S128x128 (Scalar.ofBits (F := Ideal) .f32 0x00000000#32))) bitsLt_bf16_f32

/-- A window of a group of the normed second half. -/
def vnV (vn : FVec Ideal S512x768 .bf16) (g : Fin 6) (w : Fin 4) : FVec Ideal S128x128 .bf16 := extractStridedSlice S128x128 ![128 * w.val, 128 * g.val] vn (slcD g w)

/-- A window's mixed values. -/
def mixV (W B : FVec Ideal S6x128x128 .f32) (vn : FVec Ideal S512x768 .bf16) (g : Fin 6) (w : Fin 4) : FVec Ideal S128x128 .f32 :=
  addf (matmul dot_S128x128_S128x128_S128x128_1_0_0_1_n_n none (wmV W g) (vnV vn g w) (constant S128x128 .f32 0x00000000#32)) (shapeCast S128x128 (blkW B g) shapeCasts_S1x128x128_S128x128)

/-- A window's cotangent of the first half. -/
def dpV (P : FVec Ideal S512x1536 .f32) (D : FVec Ideal S512x768 .f32) (W B : FVec Ideal S6x128x128 .f32) (vn : FVec Ideal S512x768 .bf16) (g : Fin 6) (w : Fin 4) : FVec Ideal S128x128 .bf16 :=
  truncf .bf16 (mulf (mulf (blkD D g w) (mixV W B vn g w)) (slopeV (blkU P g w))) bitsLt_bf16_f32

/-- A window's cotangent of the mixed values. -/
def dmixV (P : FVec Ideal S512x1536 .f32) (D : FVec Ideal S512x768 .f32) (g : Fin 6) (w : Fin 4) : FVec Ideal S128x128 .f32 := mulf (blkD D g w) (gelV (blkU P g w))

/-- A window's cotangent of the normed values. -/
def dvnV (P : FVec Ideal S512x1536 .f32) (D : FVec Ideal S512x768 .f32) (W : FVec Ideal S6x128x128 .f32) (g : Fin 6) (w : Fin 4) : FVec Ideal S128x128 .f32 :=
  shapeCast S128x128 (matmul dot_S128x128_S128x128_S128x128_0_0_1_1_n_n none (wmV W g) (truncf .bf16 (dmixV P D g w) bitsLt_bf16_f32) (constant S128x128 .f32 0x00000000#32)) shapeCasts_S128x128_S128x128

/-- A window's addition to a group's cotangent of the mixing weights. -/
def dwStep (P : FVec Ideal S512x1536 .f32) (D : FVec Ideal S512x768 .f32) (vn : FVec Ideal S512x768 .bf16) (g : Fin 6) (acc : FVec Ideal S128x128 .f32) (w : Fin 4) : FVec Ideal S128x128 .f32 :=
  addf acc (matmul dot_S128x128_S128x128_S128x128_1_1_0_0_n_n none (truncf .bf16 (dmixV P D g w) bitsLt_bf16_f32) (vnV vn g w) (constant S128x128 .f32 0x00000000#32))

/-- A window's addition to a group's cotangent of the biases, before the sum over the lanes. -/
def dbStep (P : FVec Ideal S512x1536 .f32) (D : FVec Ideal S512x768 .f32) (g : Fin 6) (acc : FVec Ideal S128x128 .f32) (w : Fin 4) : FVec Ideal S128x128 .f32 :=
  addf acc (dmixV P D g w)

/-- Zero at every place. -/
abbrev zeroV : FVec Ideal S128x128 .f32 := broadcast S128x128 (Scalar.ofBits (F := Ideal) .f32 0x00000000#32)

/-- A group's new sum of cotangents of the mixing weights. -/
def dwV (P : FVec Ideal S512x1536 .f32) (D : FVec Ideal S512x768 .f32) (vn : FVec Ideal S512x768 .bf16) (prev : FVec Ideal S6x128x128 .f32) (g : Fin 6) : FVec Ideal S1x128x128 .f32 :=
  shapeCast S1x128x128 (addf (shapeCast S128x128 (blkW prev g) shapeCasts_S1x128x128_S128x128)
    (select maskV (dwStep P D vn g (dwStep P D vn g (dwStep P D vn g (dwStep P D vn g zeroV 0) 1) 2) 3) zeroV)) shapeCasts_S128x128_S1x128x128

/-- A group's new sum of cotangents of the biases. -/
def dbV (P : FVec Ideal S512x1536 .f32) (D : FVec Ideal S512x768 .f32) (prev : FVec Ideal S6x128x128 .f32) (g : Fin 6) : FVec Ideal S1x128x128 .f32 :=
  shapeCast S1x128x128 (addf (shapeCast S128x128 (blkW prev g) shapeCasts_S1x128x128_S128x128)
    (broadcastTo S128x128 (shapeCast S128x1 (shapeCast S128x1 (multiReduction .add [1] S128 (dbStep P D g (dbStep P D g (dbStep P D g (dbStep P D g zeroV 0) 1) 2) 3) 0x00000000#32 reduces_S128x128_S128 (.inl rfl) rfl)
      shapeCasts_S128_S128x1) shapeCasts_S128x1_S128x1) broadcasts_S128x1_S128x128)) shapeCasts_S128x128_S1x128x128

/-- The windows of the groups, the last first. -/
def order : List (Fin 6 × Fin 4) := [(5, 3), (5, 2), (5, 1), (5, 0), (4, 3), (4, 2), (4, 1), (4, 0), (3, 3), (3, 2), (3, 1), (3, 0), (2, 3), (2, 2), (2, 1), (2, 0), (1, 3), (1, 2), (1, 1), (1, 0), (0, 3), (0, 2), (0, 1), (0, 0)]

/-- The groups, the last first. -/
def groups : List (Fin 6) := [5, 4, 3, 2, 1, 0]

/-- The windows' cotangents of the normed values, in their places. -/
def dvnL (P : FVec Ideal S512x1536 .f32) (D : FVec Ideal S512x768 .f32) (W : FVec Ideal S6x128x128 .f32) : List (View.Piece (Elt Ideal) S512x768 .f32) :=
  order.map fun x => ⟨Rect.unit ![128 * x.2.val, 128 * x.1.val] ![128, 128] (inbD x.1 x.2), dvnV P D W x.1 x.2⟩

/-- The windows' cotangents of the first half, in their places. -/
def dpL (P : FVec Ideal S512x1536 .f32) (D : FVec Ideal S512x768 .f32) (W B : FVec Ideal S6x128x128 .f32) (vn : FVec Ideal S512x768 .bf16) : List (View.Piece (Elt Ideal) S512x1536 .bf16) :=
  order.map fun x => ⟨Rect.unit ![128 * x.2.val, 128 * x.1.val] ![128, 128] (inbU x.1 x.2), dpV P D W B vn x.1 x.2⟩

/-- The groups' sums of cotangents of the mixing weights, in their places. -/
def dwL (P : FVec Ideal S512x1536 .f32) (D : FVec Ideal S512x768 .f32) (vn : FVec Ideal S512x768 .bf16) (prev : FVec Ideal S6x128x128 .f32) : List (View.Piece (Elt Ideal) S6x128x128 .f32) :=
  groups.map fun g => ⟨Rect.unit ![g.val, 0, 0] ![1, 128, 128] (inbW g), dwV P D vn prev g⟩

/-- The groups' sums of cotangents of the biases, in their places. -/
def dbL (P : FVec Ideal S512x1536 .f32) (D : FVec Ideal S512x768 .f32) (prev : FVec Ideal S6x128x128 .f32) : List (View.Piece (Elt Ideal) S6x128x128 .f32) :=
  groups.map fun g => ⟨Rect.unit ![g.val, 0, 0] ![1, 128, 128] (inbW g), dbV P D prev g⟩

/-- The cotangent of the normed values, as the kernel reads it back. -/
def dvnA (P : FVec Ideal S512x1536 .f32) (D : FVec Ideal S512x768 .f32) (W : FVec Ideal S6x128x128 .f32) : FVec Ideal S512x768 .f32 := View.canon (dvnL P D W)

/-- The cotangent of the second half. -/
def dvV (P : FVec Ideal S512x1536 .f32) (G : FVec Ideal S1x768 .f32) (dvn : FVec Ideal S512x768 .f32) : FVec Ideal S512x768 .bf16 :=
  k0_pay1 (F := Ideal) (k0_pay314 (F := Ideal) (half2 P) (k0_pay309 (F := Ideal) (k0_pay11 (F := Ideal) (half2 P)) (k0_pay12 (F := Ideal) (half2 P)) (k0_pay13 (F := Ideal) G) dvn)
    (k0_pay311 (F := Ideal) (half2 P)) (k0_pay312 (F := Ideal) (half2 P)) (k0_pay313 (F := Ideal) (half2 P)))

/-- The scratch read back whole. -/
theorem scratch_read {sig' : RefSig} {κ' : Kind} {sp : Space} (v : View sig' κ' sp S512x768 .f32) (L L' : List (View.Piece (Elt Ideal) S512x768 .f32)) (h : L = L') :
    v.readCov L (Rect.unit ![0, 0] ![512, 768] inb_S512x768_S512x768_0_0).toLoadRect = View.canon L' := by
  subst h
  rw [View.readCov_eq_canon']
  exact View.ld_unit_zero (Val := Elt Ideal) (e := .f32) (by decide) _ (View.canon L)

section Run

variable (c : Dev nD) (t : Fin cfg0.N)

theorem outs7_B (h0 : ¬t.val % 16 = 0) :
    (outsAt0 m c t.val t.isLt).2.2.1 = View.canon (dbL (X0_0 m c t) (X0_1 m c t) (outsAt0 m c (t.val - 1) (Nat.lt_of_le_of_lt (Nat.sub_le _ _) t.isLt)).2.2.1) := by
  rw [outsAt0_B m c t h0]
  frame_out
  rfl

theorem outs6_B (h0 : ¬t.val % 16 = 0) :
    (outsAt0 m c t.val t.isLt).2.1 = View.canon (dwL (X0_0 m c t) (X0_1 m c t) (k0_pay14 (F := Ideal) (half2 (X0_0 m c t)) (iblk m c 2 t)) (outsAt0 m c (t.val - 1) (Nat.lt_of_le_of_lt (Nat.sub_le _ _) t.isLt)).2.1) := by
  rw [outsAt0_B m c t h0]
  frame_out
  rfl

theorem outs8_B (h0 : ¬t.val % 16 = 0) :
    (outsAt0 m c t.val t.isLt).2.2.2 = k0_pay308 (F := Ideal) (k0_pay12 (F := Ideal) (half2 (X0_0 m c t))) (dvnA (X0_0 m c t) (X0_1 m c t) (iblk m c 3 t))
      (outsAt0 m c (t.val - 1) (Nat.lt_of_le_of_lt (Nat.sub_le _ _) t.isLt)).2.2.2 := by
  rw [outsAt0_B m c t h0]
  frame_out
  refine congrArg₂ (k0_pay308 (F := Ideal) (k0_pay12 (F := Ideal) (half2 (X0_0 m c t)))) (scratch_read _ _ _ ?_) ?_
  · rfl
  · rfl

theorem outs5 : (outsAt0 m c t.val t.isLt).1 = View.canon (⟨Rect.unit ![0, 768] ![512, 768] inb_S512x1536_S512x768_0_768, dvV (X0_0 m c t) (iblk m c 2 t) (dvnA (X0_0 m c t) (X0_1 m c t) (iblk m c 3 t))⟩ ::
      dpL (X0_0 m c t) (X0_1 m c t) (iblk m c 3 t) (iblk m c 4 t) (k0_pay14 (F := Ideal) (half2 (X0_0 m c t)) (iblk m c 2 t))) := by
  by_cases h0 : t.val % 16 = 0
  · rw [outsAt0_A m c t h0]
    frame_out
    refine congrArg View.canon (congrArg₂ List.cons (congrArg (fun z => (⟨Rect.unit ![0, 768] ![512, 768] inb_S512x1536_S512x768_0_768, dvV (X0_0 m c t) (iblk m c 2 t) z⟩ : View.Piece (Elt Ideal) S512x1536 .bf16)) (scratch_read _ _ _ ?_)) ?_)
    · rfl
    · rfl
  · rw [outsAt0_B m c t h0]
    frame_out
    refine congrArg View.canon (congrArg₂ List.cons (congrArg (fun z => (⟨Rect.unit ![0, 768] ![512, 768] inb_S512x1536_S512x768_0_768, dvV (X0_0 m c t) (iblk m c 2 t) z⟩ : View.Piece (Elt Ideal) S512x1536 .bf16)) (scratch_read _ _ _ ?_)) ?_)
    · rfl
    · rfl

theorem outs7_A (h0 : t.val % 16 = 0) :
    (outsAt0 m c t.val t.isLt).2.2.1 = View.canon (dbL (X0_0 m c t) (X0_1 m c t) (k0_pay3 (F := Ideal)) ++ [⟨Rect.unit ![0, 0, 0] ![6, 128, 128] inb_S6x128x128_S6x128x128_0_0_0, k0_pay3 (F := Ideal)⟩]) := by
  rw [outsAt0_A m c t h0]
  frame_open
  simp (disch := decide) only [↓ View.readCov_skip, ↓ View.readCov_cons_toLoadRect, ↓ View.readCov_fill]
  frame_out
  rfl

theorem outs6_A (h0 : t.val % 16 = 0) :
    (outsAt0 m c t.val t.isLt).2.1 = View.canon (dwL (X0_0 m c t) (X0_1 m c t) (k0_pay14 (F := Ideal) (half2 (X0_0 m c t)) (iblk m c 2 t)) (k0_pay2 (F := Ideal)) ++ [⟨Rect.unit ![0, 0, 0] ![6, 128, 128] inb_S6x128x128_S6x128x128_0_0_0, k0_pay2 (F := Ideal)⟩]) := by
  rw [outsAt0_A m c t h0]
  frame_open
  simp (disch := decide) only [↓ View.readCov_skip, ↓ View.readCov_cons_toLoadRect, ↓ View.readCov_fill]
  frame_out
  rfl

theorem outs8_A (h0 : t.val % 16 = 0) :
    (outsAt0 m c t.val t.isLt).2.2.2 = k0_pay308 (F := Ideal) (k0_pay12 (F := Ideal) (half2 (X0_0 m c t))) (dvnA (X0_0 m c t) (X0_1 m c t) (iblk m c 3 t)) (k0_pay4 (F := Ideal)) := by
  rw [outsAt0_A m c t h0]
  frame_open
  simp (disch := decide) only [↓ View.readCov_skip, ↓ View.readCov_cons_toLoadRect, ↓ View.readCov_fill]
  frame_out
  refine congrArg₂ (k0_pay308 (F := Ideal) (k0_pay12 (F := Ideal) (half2 (X0_0 m c t)))) (scratch_read _ _ _ ?_) ?_
  · rfl
  · rfl

end Run
end Cert.GmlpIdeal.Value
-- ==== Proof.GmlpArrays.lean ====
/- The gated unit's backward call: the vectors that the kernel leaves, as real numbers. -/
module

public import proofs.«01_k».proof.Proof.GmlpKernel
@[expose] public section
set_option maxRecDepth 16384
noncomputable section
namespace Cert.GmlpIdeal.Value
open Cert.GmlpIdeal Cert.GmlpIdeal.Gen Idealize.ShloMosaic Idealize.ShloMosaic.TcCoe Idealize.SL.Sem
open scoped BigOperators
variable (m : (ℓ : Loc nD τ sig) → Buf (Elt Ideal) ℓ)

/-! ## The gradient in real numbers

Rows in windows of 128, lanes in groups of 128: a lane's values in one window are mixed by the group's weights. -/

/-- The hyperbolic tangent in the activation. -/
def gth (x : ℝ) : ℝ := Real.tanh (Reals.geluC * (x + 8943 / 200000 * (x * x * x)))

/-- The activation. -/
def gelu (x : ℝ) : ℝ := 1 / 2 * x * (1 + gth x)

/-- The activation's slope. -/
def slope (x : ℝ) : ℝ := 1 / 2 * (1 + gth x) + 1 / 2 * x * (1 - gth x * gth x) * (Reals.geluC * (1 + 26829 / 200000 * (x * x)))

/-- A lane's group. -/
def grp (l : Fin 768) : Fin 6 := ⟨l.val / 128, by omega⟩
/-- A lane's place in its group. -/
def lan (l : Fin 768) : Fin 128 := ⟨l.val % 128, by omega⟩
/-- A row's place in its window. -/
def pos (r : Fin 8192) : Fin 128 := ⟨r.val % 128, by omega⟩
/-- A row's window. -/
def wnd (r : Fin 8192) : Fin 64 := ⟨r.val / 128, by omega⟩
/-- A place of a window as a row. -/
def at_ (n : Fin 64) (s : Fin 128) : Fin 8192 := ⟨n.val * 128 + s.val, by omega⟩
/-- A place of a group as a lane. -/
def cl (g : Fin 6) (b : Fin 128) : Fin 768 := ⟨128 * g.val + b.val, by omega⟩
/-- A place of one of a grid point's windows as one of its rows. -/
def rw' (w : Fin 4) (a : Fin 128) : Fin 512 := ⟨128 * w.val + a.val, by omega⟩
/-- A grid point's row as a row of the array. -/
def row (n : ℕ) (r : Fin 512) : Fin 8192 := ⟨n % 16 * 512 + r.val, by omega⟩
/-- One of a grid point's windows. -/
def win (n : ℕ) (w : Fin 4) : Fin 64 := ⟨n % 16 * 4 + w.val, by omega⟩

theorem grp_cl (g : Fin 6) (b : Fin 128) : grp (cl g b) = g := by apply Fin.ext; simp only [grp, cl]; omega
theorem lan_cl (g : Fin 6) (b : Fin 128) : lan (cl g b) = b := by apply Fin.ext; simp only [lan, cl]; omega
theorem cl_grp (l : Fin 768) : cl (grp l) (lan l) = l := by apply Fin.ext; simp only [grp, cl, lan]; omega
theorem row_rw (n : ℕ) (w : Fin 4) (a : Fin 128) : row n (rw' w a) = at_ (win n w) a := by apply Fin.ext; simp only [row, rw', at_, win]; omega
theorem wnd_at (n : Fin 64) (a : Fin 128) : wnd (at_ n a) = n := by apply Fin.ext; simp only [wnd, at_]; omega
theorem pos_at (n : Fin 64) (a : Fin 128) : pos (at_ n a) = a := by apply Fin.ext; simp only [pos, at_]; omega
theorem at_pos (r : Fin 8192) : at_ (wnd r) (pos r) = r := by apply Fin.ext; simp only [pos, at_, wnd]; omega

section Maths

variable (P : S8192x1792.Idx → ℝ) (D : S8192x1024.Idx → ℝ) (A : S768.Idx → ℝ) (W : S6x128x128.Idx → ℝ) (B : S6x128.Idx → ℝ)

/-- The projection's first half. -/
def pu (r : Fin 8192) (l : Fin 768) : ℝ := P (ix2 r ⟨l.val, by omega⟩)
/-- The projection's second half. -/
def pv (r : Fin 8192) (l : Fin 768) : ℝ := P (ix2 r ⟨768 + l.val, by omega⟩)
/-- The cotangent. -/
def dyR (r : Fin 8192) (l : Fin 768) : ℝ := D (ix2 r ⟨l.val, by omega⟩)
/-- A row's mean square, and the addend. -/
def varR (r : Fin 8192) : ℝ := (∑ l : Fin 768, gelu (pv P r l) * gelu (pv P r l)) / 768 + Reals.eps
/-- A row's factor. -/
def rsR (r : Fin 8192) : ℝ := (Real.sqrt (varR P r))⁻¹
/-- The second half, normed. -/
def vhR (r : Fin 8192) (l : Fin 768) : ℝ := gelu (pv P r l) * rsR P r
/-- The second half, normed, with the gain. -/
def vnR (r : Fin 8192) (l : Fin 768) : ℝ := vhR P r l * A (ix1 l)
/-- The mixing weights, zero off the mask. -/
def wmR (g : Fin 6) (t s : Fin 128) : ℝ := if s.val / 64 ≤ t.val / 64 then W (ix3 g t s) else 0
/-- The mixed values. -/
def mixR (r : Fin 8192) (l : Fin 768) : ℝ := (∑ s : Fin 128, wmR W (grp l) (pos r) s * vnR P A (at_ (wnd r) s) l) + B (ix2 (grp l) (pos r))
/-- The mixed values' cotangent. -/
def dmR (r : Fin 8192) (l : Fin 768) : ℝ := dyR D r l * gelu (pu P r l)
/-- The first half's cotangent. -/
def dpuR (r : Fin 8192) (l : Fin 768) : ℝ := dyR D r l * mixR P A W B r l * slope (pu P r l)
/-- The normed values' cotangent. -/
def dvnR (r : Fin 8192) (l : Fin 768) : ℝ := ∑ t : Fin 128, wmR W (grp l) t (pos r) * dmR P D (at_ (wnd r) t) l
/-- The second half's cotangent. -/
def dpvR (r : Fin 8192) (l : Fin 768) : ℝ :=
  rsR P r * (dvnR P D W r l * A (ix1 l) - vhR P r l * ((∑ k : Fin 768, dvnR P D W r k * A (ix1 k) * vhR P r k) / 768)) * slope (pv P r l)
/-- A window's part of the mixing weights' cotangent. -/
def dwT (g : Fin 6) (t s : Fin 128) (n : Fin 64) : ℝ := ∑ b : Fin 128, dmR P D (at_ n t) (cl g b) * vnR P A (at_ n s) (cl g b)
/-- A window's part of the biases' cotangent. -/
def dbT (g : Fin 6) (t : Fin 128) (n : Fin 64) : ℝ := ∑ b : Fin 128, dmR P D (at_ n t) (cl g b)
/-- The projection's cotangent. -/
def dpAll (r : Fin 8192) (l : Fin 1536) : ℝ := if h : l.val < 768 then dpuR P D A W B r ⟨l.val, h⟩ else dpvR P D A W r ⟨l.val - 768, by omega⟩

theorem varR_pos (r : Fin 8192) : 0 < varR P r :=
  add_pos_of_nonneg_of_pos (div_nonneg (Finset.sum_nonneg fun l _ => mul_self_nonneg _) (by norm_num)) Reals.eps_pos

end Maths

/-! ## The activation of a vector -/

theorem cubic_named : Named.named (F := Ideal) κ "cubic" (φ := .f32) 0x3D372713#32 = (((8943 / 200000 : ℝ)) : EReal) := by
  show (κ "cubic").getD _ = _
  simp [κ]
theorem cubic3_named : Named.named (F := Ideal) κ "cubic3" (φ := .f32) 0x3E095D4F#32 = (((26829 / 200000 : ℝ)) : EReal) := by
  show (κ "cubic3").getD _ = _
  simp [κ]

theorem thV_apply {S : Shape} (x : FVec Ideal S .f32) (i : S.Idx) (a : ℝ) (h : x i = (a : EReal)) : thV x i = ((gth a : ℝ) : EReal) := by
  show Ideal.tanh (Ideal.ofBits .f32 0x3F4C422A#32 * (x i + Named.named (F := Ideal) κ "cubic" (φ := .f32) 0x3D372713#32 * (x i * x i * x i))) = _
  rw [h, cubic_named, Reals.gelu_f32]
  simp only [← EReal.coe_mul, ← EReal.coe_add, Ideal.tanh_coe]
  rfl

theorem gelV_apply {S : Shape} (x : FVec Ideal S .f32) (i : S.Idx) (a : ℝ) (h : x i = (a : EReal)) : gelV x i = ((gelu a : ℝ) : EReal) := by
  show Ideal.ofBits .f32 0x3F000000#32 * x i * (Ideal.ofBits .f32 0x3F800000#32 + thV x i) = _
  rw [h, thV_apply x i a h, Reals.half_f32, Reals.one_f32]
  simp only [← EReal.coe_mul, ← EReal.coe_add]
  rfl

theorem slopeV_apply {S : Shape} (x : FVec Ideal S .f32) (i : S.Idx) (a : ℝ) (h : x i = (a : EReal)) : slopeV x i = ((slope a : ℝ) : EReal) := by
  show Ideal.ofBits .f32 0x3F000000#32 * (Ideal.ofBits .f32 0x3F800000#32 + thV x i) + Ideal.ofBits .f32 0x3F000000#32 * x i * (Ideal.ofBits .f32 0x3F800000#32 - thV x i * thV x i)
    * (Ideal.ofBits .f32 0x3F4C422A#32 * (Ideal.ofBits .f32 0x3F800000#32 + Named.named (F := Ideal) κ "cubic3" (φ := .f32) 0x3E095D4F#32 * (x i * x i))) = _
  rw [h, thV_apply x i a h, cubic3_named, Reals.half_f32, Reals.one_f32, Reals.gelu_f32]
  simp only [← EReal.coe_mul, ← EReal.coe_add, ← EReal.coe_sub]
  rfl

/-! ## One grid point's blocks -/

/-- A load's index along an axis. -/
theorem unit_idx {S : Shape} (off size : Fin S.rank → ℕ) (inb : ∀ a, off a + size a ≤ S.size a) (j : (Rect.unit off size inb).shape.Idx) (a : Fin S.rank) :
    ((Rect.unit off size inb).idx j a).val = off a + (j a).val := by
  show ((Rect.unit off size inb).emb j a).val = _
  rw [Rect.emb_apply]
  simp [Rect.unit]

theorem blkU_apply (X : FVec Ideal S512x1536 .f32) (g : Fin 6) (w : Fin 4) (a b : Fin 128) : blkU X g w (ix2 a b) = X (ix2 (rw' w a) ⟨(cl g b).val, by omega⟩) :=
  congrArg X (Shape.idx_ext₂ (by rw [unit_idx]; rfl) (by rw [unit_idx]; rfl))

theorem blkD_apply (X : FVec Ideal S512x768 .f32) (g : Fin 6) (w : Fin 4) (a b : Fin 128) : blkD X g w (ix2 a b) = X (ix2 (rw' w a) (cl g b)) :=
  congrArg X (Shape.idx_ext₂ (by rw [unit_idx]; rfl) (by rw [unit_idx]; rfl))

theorem half2_apply (X : FVec Ideal S512x1536 .f32) (r : Fin 512) (l : Fin 768) : half2 X (ix2 r l) = X (ix2 r ⟨768 + l.val, by omega⟩) :=
  congrArg X (Shape.idx_ext₂ (by rw [unit_idx]; simp) (by rw [unit_idx]; simp))

theorem blkW_apply (X : FVec Ideal S6x128x128 .f32) (g : Fin 6) (t s : Fin 128) : blkW X g (ix3 0 t s) = X (ix3 g t s) := by
  refine congrArg X (funext fun a => Fin.ext ?_)
  fin_cases a <;> (rw [unit_idx]; simp)

theorem maskV_apply : ∀ t s : Fin 128, maskV (ix2 t s) = if s.val / 64 ≤ t.val / 64 then 1#1 else 0#1 := by
  intro t s
  pointwise [maskV, k0_pay5, k0_pay6, k0_pay7, k0_pay8, k0_pay9]
  revert t s
  decide +kernel

theorem vnV_apply (vn : FVec Ideal S512x768 .bf16) (g : Fin 6) (w : Fin 4) (a b : Fin 128) : vnV vn g w (ix2 a b) = vn (ix2 (rw' w a) (cl g b)) :=
  congrArg vn (Shape.idx_ext₂ rfl rfl)

/-! ## Stores read back -/

/-- Pieces that agree with one function read as it wherever one of them covers, whatever older pieces follow. -/
theorem canon_pieces {S : Shape} {e : EltTy} (F : S.Idx → Elt Ideal e) :
    ∀ (L : List (View.Piece (Elt Ideal) S e)) (_ : ∀ p ∈ L, ∀ x : p.1.shape.Idx, p.2 x = F (p.1.emb x)) (L' : List (View.Piece (Elt Ideal) S e)) (y : S.Idx)
      (_ : ∃ p ∈ L, y ∈ p.1.set), View.canon (L ++ L') y = F y
  | [], _, _, _, hy => by obtain ⟨p, hp, _⟩ := hy; simp at hp
  | p :: L, hL, L', y, hy => by
    by_cases hm : y ∈ p.1.set
    · obtain ⟨x, rfl⟩ := p.1.exists_idx_of_mem hm
      rw [List.cons_append, show p.1.idx x = p.1.emb x from rfl, View.canon_cons_emb]
      exact hL p (by simp) x
    · rw [List.cons_append, View.canon_cons_of_not_mem _ _ hm]
      refine canon_pieces F L (fun q hq => hL q (by simp [hq])) L' y ?_
      obtain ⟨q, hq, hyq⟩ := hy
      rcases List.mem_cons.mp hq with rfl | hq'
      · exact absurd hyq hm
      · exact ⟨q, hq', hyq⟩

theorem mem_order : ∀ (g : Fin 6) (w : Fin 4), (g, w) ∈ order := by decide
theorem mem_groups : ∀ g : Fin 6, g ∈ groups := by decide

/-- Six stores, one of each group, read as the group's own. -/
theorem canon_groups (F : Fin 6 → FVec Ideal S1x128x128 .f32) (L : List (View.Piece (Elt Ideal) S6x128x128 .f32)) (g : Fin 6) (t s : Fin 128) :
    View.canon (groups.map (fun g => (⟨Rect.unit ![g.val, 0, 0] ![1, 128, 128] (inbW g), F g⟩ : View.Piece (Elt Ideal) S6x128x128 .f32)) ++ L) (ix3 g t s) = F g (ix3 0 t s) := by
  refine canon_pieces (fun i : S6x128x128.Idx => F (i 0) (ix3 0 (i 1) (i 2))) _ ?_ L (ix3 g t s) ?_
  · intro p hp
    obtain ⟨x, _, rfl⟩ := List.mem_map.mp hp
    intro j
    obtain ⟨z, a, b, rfl⟩ : ∃ (z : Fin 1) (a b : Fin 128), j = ix3 z a b := ⟨j 0, j 1, j 2, eq_ix3 j⟩
    obtain rfl : z = 0 := Subsingleton.elim _ _
    rw [show (Rect.unit ![x.val, 0, 0] ![1, 128, 128] (inbW x)).emb (ix3 0 a b) = ix3 x a b from by
      refine funext fun k => Fin.ext ?_
      refine (unit_idx _ _ (inbW x) _ k).trans ?_
      fin_cases k
      · exact Nat.add_zero _
      · exact Nat.zero_add _
      · exact Nat.zero_add _]
    rfl
  · refine ⟨_, List.mem_map.mpr ⟨g, mem_groups g, rfl⟩, ?_⟩
    refine (Rect.mem_set_unit (inb := inbW g)).mpr fun a => ?_
    fin_cases a
    · show g.val ≤ g.val ∧ g.val < g.val + 1
      omega
    · show 0 ≤ t.val ∧ t.val < 0 + 128
      omega
    · show 0 ≤ s.val ∧ s.val < 0 + 128
      omega

/-- One grid point's blocks, read as real numbers. -/
structure Blk (P : S8192x1792.Idx → ℝ) (D : S8192x1024.Idx → ℝ) (A : S768.Idx → ℝ) (W : S6x128x128.Idx → ℝ) (B : S6x128.Idx → ℝ) (n : ℕ)
    (X : FVec Ideal S512x1536 .f32) (Y : FVec Ideal S512x768 .f32) (G : FVec Ideal S1x768 .f32) (Wv Bv : FVec Ideal S6x128x128 .f32) : Prop where
  x : ∀ (r : Fin 512) (l : Fin 1536), X (ix2 r l) = ((P (ix2 (row n r) ⟨l.val, by omega⟩) : ℝ) : EReal)
  y : ∀ (r : Fin 512) (l : Fin 768), Y (ix2 r l) = ((D (ix2 (row n r) ⟨l.val, by omega⟩) : ℝ) : EReal)
  g : ∀ l : Fin 768, G (ix2 0 l) = ((A (ix1 l) : ℝ) : EReal)
  w : ∀ (g : Fin 6) (t s : Fin 128), Wv (ix3 g t s) = ((W (ix3 g t s) : ℝ) : EReal)
  b : ∀ (g : Fin 6) (t s : Fin 128), Bv (ix3 g t s) = ((B (ix2 g t) : ℝ) : EReal)

section Block

variable {P : S8192x1792.Idx → ℝ} {D : S8192x1024.Idx → ℝ} {A : S768.Idx → ℝ} {W : S6x128x128.Idx → ℝ} {B : S6x128.Idx → ℝ} {n : ℕ}
variable {X : FVec Ideal S512x1536 .f32} {Y : FVec Ideal S512x768 .f32} {G : FVec Ideal S1x768 .f32} {Wv Bv : FVec Ideal S6x128x128 .f32}
variable (H : Blk P D A W B n X Y G Wv Bv)

include H

theorem half2_real (r : Fin 512) (l : Fin 768) : half2 X (ix2 r l) = ((pv P (row n r) l : ℝ) : EReal) := by
  rw [half2_apply, H.x]
  rfl

theorem blkU_real (g : Fin 6) (w : Fin 4) (a b : Fin 128) : blkU X g w (ix2 a b) = ((pu P (row n (rw' w a)) (cl g b) : ℝ) : EReal) := by
  rw [blkU_apply, H.x]
  rfl

theorem blkD_real (g : Fin 6) (w : Fin 4) (a b : Fin 128) : blkD Y g w (ix2 a b) = ((dyR D (row n (rw' w a)) (cl g b) : ℝ) : EReal) := by
  rw [blkD_apply, H.y]
  rfl

theorem v_apply (r : Fin 512) (l : Fin 768) : k0_pay10 (F := Ideal) (half2 X) (ix2 r l) = ((gelu (pv P (row n r) l) : ℝ) : EReal) :=
  gelV_apply (half2 X) (ix2 r l) _ (half2_real H r l)

theorem rs_apply (r : Fin 512) : k0_pay11 (F := Ideal) (half2 X) (ix2 r 0) = ((rsR P (row n r) : ℝ) : EReal) := by
  have hv := fun l => v_apply H r l
  unfold k0_pay11
  generalize k0_pay10 (F := Ideal) (half2 X) = v at hv ⊢
  pointwise []
  simp only [hv, ← EReal.coe_mul, Reals.coe_sum, Reals.n768_f32, Reals.eps_f32, Reals.div_real (show (768 : ℝ) ≠ 0 by norm_num), ← EReal.coe_add]
  exact Reals.rsqrt_real (varR_pos P (row n r))

theorem vh_apply (r : Fin 512) (l : Fin 768) : k0_pay12 (F := Ideal) (half2 X) (ix2 r l) = ((vhR P (row n r) l : ℝ) : EReal) := by
  have hv := v_apply H r l
  have hr := rs_apply H r
  unfold k0_pay12
  generalize k0_pay10 (F := Ideal) (half2 X) = v at hv ⊢
  generalize k0_pay11 (F := Ideal) (half2 X) = q at hr ⊢
  pointwise []
  rw [hv, hr, ← EReal.coe_mul]
  rfl

theorem vn_apply (r : Fin 512) (l : Fin 768) : k0_pay14 (F := Ideal) (half2 X) G (ix2 r l) = ((vnR P A (row n r) l : ℝ) : EReal) := by
  have hv := vh_apply H r l
  unfold k0_pay14
  generalize k0_pay12 (F := Ideal) (half2 X) = v at hv ⊢
  pointwise [k0_pay13]
  rw [hv, H.g, ← EReal.coe_mul]
  rfl

theorem wmV_real (g : Fin 6) (t s : Fin 128) : wmV Wv g (ix2 t s) = ((wmR W g t s : ℝ) : EReal) := by
  have hm := maskV_apply t s
  have hw := (blkW_apply Wv g t s).trans (H.w g t s)
  unfold wmV wmR
  generalize maskV = M at hm ⊢
  generalize blkW Wv g = w at hw ⊢
  pointwise []
  rw [hm, hw]
  split_ifs
  · exact Scalar.select_of_eq_one rfl _ _
  · exact Scalar.select_of_eq_zero rfl _ _

theorem mixV_real (g : Fin 6) (w : Fin 4) (a b : Fin 128) :
    mixV Wv Bv (k0_pay14 (F := Ideal) (half2 X) G) g w (ix2 a b) = ((mixR P A W B (row n (rw' w a)) (cl g b) : ℝ) : EReal) := by
  have hm := wmV_real H g a
  have hv : ∀ s, vnV (k0_pay14 (F := Ideal) (half2 X) G) g w (ix2 s b) = ((vnR P A (row n (rw' w s)) (cl g b) : ℝ) : EReal) := fun s => (vnV_apply _ g w s b).trans (vn_apply H _ _)
  have hb := (blkW_apply Bv g a b).trans (H.b g a b)
  unfold mixV
  generalize wmV Wv g = M at hm ⊢
  generalize vnV (k0_pay14 (F := Ideal) (half2 X) G) g w = v at hv ⊢
  generalize blkW Bv g = B' at hb ⊢
  pointwise []
  simp only [hm, hv, hb, ← EReal.coe_mul, Reals.coe_sum, ← EReal.coe_add]
  simp only [mixR, row_rw, wnd_at, pos_at, grp_cl]

theorem dmixV_real (g : Fin 6) (w : Fin 4) (a b : Fin 128) : dmixV X Y g w (ix2 a b) = ((dmR P D (row n (rw' w a)) (cl g b) : ℝ) : EReal) := by
  show blkD Y g w (ix2 a b) * gelV (blkU X g w) (ix2 a b) = _
  rw [blkD_real H, gelV_apply _ _ _ (blkU_real H g w a b), ← EReal.coe_mul]
  rfl

theorem dpV_real (g : Fin 6) (w : Fin 4) (a b : Fin 128) :
    dpV X Y Wv Bv (k0_pay14 (F := Ideal) (half2 X) G) g w (ix2 a b) = ((dpuR P D A W B (row n (rw' w a)) (cl g b) : ℝ) : EReal) := by
  show blkD Y g w (ix2 a b) * mixV Wv Bv (k0_pay14 (F := Ideal) (half2 X) G) g w (ix2 a b) * slopeV (blkU X g w) (ix2 a b) = _
  rw [blkD_real H, mixV_real H, slopeV_apply _ _ _ (blkU_real H g w a b), ← EReal.coe_mul, ← EReal.coe_mul]
  rfl

theorem dvnV_real (g : Fin 6) (w : Fin 4) (a b : Fin 128) : dvnV X Y Wv g w (ix2 a b) = ((dvnR P D W (row n (rw' w a)) (cl g b) : ℝ) : EReal) := by
  have hm := fun t => wmV_real H g t a
  have hd := fun t => dmixV_real H g w t b
  unfold dvnV
  generalize wmV Wv g = M at hm ⊢
  generalize dmixV X Y g w = v at hd ⊢
  pointwise []
  simp only [hm, hd, ← EReal.coe_mul, Reals.coe_sum]
  simp only [dvnR, row_rw, wnd_at, pos_at, grp_cl]

theorem dwStep_real (g : Fin 6) (w : Fin 4) (acc : FVec Ideal S128x128 .f32) (t s : Fin 128) :
    dwStep X Y (k0_pay14 (F := Ideal) (half2 X) G) g acc w (ix2 t s) = acc (ix2 t s) + ((dwT P D A g t s (win n w) : ℝ) : EReal) := by
  have hd := fun b => dmixV_real H g w t b
  have hv : ∀ b, vnV (k0_pay14 (F := Ideal) (half2 X) G) g w (ix2 s b) = ((vnR P A (row n (rw' w s)) (cl g b) : ℝ) : EReal) := fun b => (vnV_apply _ g w s b).trans (vn_apply H _ _)
  unfold dwStep
  generalize dmixV X Y g w = d at hd ⊢
  generalize vnV (k0_pay14 (F := Ideal) (half2 X) G) g w = v at hv ⊢
  pointwise []
  simp only [hd, hv, ← EReal.coe_mul, Reals.coe_sum, row_rw]
  rfl

theorem dwV_real (g : Fin 6) (prev : FVec Ideal S6x128x128 .f32) (t s : Fin 128) :
    dwV X Y (k0_pay14 (F := Ideal) (half2 X) G) prev g (ix3 0 t s) = prev (ix3 g t s) + (((if s.val / 64 ≤ t.val / 64 then ∑ w : Fin 4, dwT P D A g t s (win n w) else 0) : ℝ) : EReal) := by
  have hm := maskV_apply t s
  have hw := blkW_apply prev g t s
  have hs : (dwStep X Y (k0_pay14 (F := Ideal) (half2 X) G) g (dwStep X Y (k0_pay14 (F := Ideal) (half2 X) G) g (dwStep X Y (k0_pay14 (F := Ideal) (half2 X) G) g (dwStep X Y (k0_pay14 (F := Ideal) (half2 X) G) g zeroV 0) 1) 2) 3) (ix2 t s)
      = ((∑ w : Fin 4, dwT P D A g t s (win n w) : ℝ) : EReal) := by
    rw [dwStep_real H, dwStep_real H, dwStep_real H, dwStep_real H, show zeroV (ix2 t s) = ((0 : ℝ) : EReal) by pointwise []; rfl]
    simp only [← EReal.coe_add, Fin.sum_univ_four, zero_add]
  unfold dwV
  generalize maskV = M at hm ⊢
  generalize blkW prev g = w at hw ⊢
  generalize (dwStep X Y (k0_pay14 (F := Ideal) (half2 X) G) g (dwStep X Y (k0_pay14 (F := Ideal) (half2 X) G) g (dwStep X Y (k0_pay14 (F := Ideal) (half2 X) G) g (dwStep X Y (k0_pay14 (F := Ideal) (half2 X) G) g zeroV 0) 1) 2) 3) = S at hs ⊢
  pointwise []
  rw [hm, hw, hs]
  refine congrArg _ ?_
  split_ifs
  · exact Scalar.select_of_eq_one rfl _ _
  · exact Scalar.select_of_eq_zero rfl _ _

theorem dbV_real (g : Fin 6) (prev : FVec Ideal S6x128x128 .f32) (t s : Fin 128) :
    dbV X Y prev g (ix3 0 t s) = prev (ix3 g t s) + ((∑ w : Fin 4, dbT P D g t (win n w) : ℝ) : EReal) := by
  have hw := blkW_apply prev g t s
  have hs : ∀ b, (dbStep X Y g (dbStep X Y g (dbStep X Y g (dbStep X Y g zeroV 0) 1) 2) 3) (ix2 t b) = ((∑ w : Fin 4, dmR P D (row n (rw' w t)) (cl g b) : ℝ) : EReal) := fun b => by
    have e : ∀ (acc : FVec Ideal S128x128 .f32) (w : Fin 4), dbStep X Y g acc w (ix2 t b) = acc (ix2 t b) + ((dmR P D (row n (rw' w t)) (cl g b) : ℝ) : EReal) := fun acc w =>
      congrArg (acc (ix2 t b) + ·) (dmixV_real H g w t b)
    rw [e, e, e, e, show zeroV (ix2 t b) = ((0 : ℝ) : EReal) by pointwise []; rfl]
    simp only [← EReal.coe_add, Fin.sum_univ_four, zero_add]
  unfold dbV
  generalize blkW prev g = w at hw ⊢
  generalize (dbStep X Y g (dbStep X Y g (dbStep X Y g (dbStep X Y g zeroV 0) 1) 2) 3) = S at hs ⊢
  pointwise []
  simp only [hw, hs, Reals.coe_sum]
  refine congrArg _ (congrArg _ ?_)
  rw [Finset.sum_comm]
  simp only [row_rw]
  rfl

theorem dvnA_real (r : Fin 512) (l : Fin 768) : dvnA X Y Wv (ix2 r l) = ((dvnR P D W (row n r) l : ℝ) : EReal) := by
  have key := canon_pieces (fun i : S512x768.Idx => ((dvnR P D W (row n (i 0)) (i 1) : ℝ) : EReal)) (dvnL X Y Wv) ?_ [] (ix2 r l) ?_
  · rw [List.append_nil] at key
    exact key
  · intro p hp
    obtain ⟨x, _, rfl⟩ := List.mem_map.mp hp
    intro j
    obtain ⟨a, b, rfl⟩ : ∃ (a b : Fin 128), j = ix2 a b := ⟨j 0, j 1, eq_ix2 j⟩
    refine (dvnV_real H x.1 x.2 a b).trans ?_
    rw [show (Rect.unit ![128 * x.2.val, 128 * x.1.val] ![128, 128] (inbD x.1 x.2)).emb (ix2 a b) = ix2 (rw' x.2 a) (cl x.1 b) from
      Shape.idx_ext₂ (unit_idx _ _ (inbD x.1 x.2) _ 0) (unit_idx _ _ (inbD x.1 x.2) _ 1)]
    rfl
  · refine ⟨_, List.mem_map.mpr ⟨(grp l, ⟨r.val / 128, by omega⟩), mem_order _ _, rfl⟩, ?_⟩
    refine (Rect.mem_set_unit (inb := inbD (grp l) ⟨r.val / 128, by omega⟩)).mpr fun a => ?_
    fin_cases a
    · show 128 * (r.val / 128) ≤ r.val ∧ r.val < 128 * (r.val / 128) + 128
      omega
    · show 128 * (l.val / 128) ≤ l.val ∧ l.val < 128 * (l.val / 128) + 128
      omega

theorem dvV_real (r : Fin 512) (l : Fin 768) : dvV X G (dvnA X Y Wv) (ix2 r l) = ((dpvR P D A W (row n r) l : ℝ) : EReal) := by
  have hd := fun l => dvnA_real H r l
  have hr := rs_apply H r
  have hv := fun l => vh_apply H r l
  have hg : ∀ l, k0_pay13 (F := Ideal) G (ix2 0 l) = ((A (ix1 l) : ℝ) : EReal) := fun l => by
    pointwise [k0_pay13]
    exact H.g l
  have hs := slopeV_apply (half2 X) (ix2 r l) _ (half2_real H r l)
  have e : dvV X G (dvnA X Y Wv) = mulf (k0_pay309 (F := Ideal) (k0_pay11 (F := Ideal) (half2 X)) (k0_pay12 (F := Ideal) (half2 X)) (k0_pay13 (F := Ideal) G) (dvnA X Y Wv)) (slopeV (half2 X)) := rfl
  rw [e]
  generalize slopeV (half2 X) = S at hs ⊢
  generalize k0_pay11 (F := Ideal) (half2 X) = q at hr ⊢
  generalize k0_pay12 (F := Ideal) (half2 X) = v at hv ⊢
  generalize k0_pay13 (F := Ideal) G = g at hg ⊢
  generalize dvnA X Y Wv = d at hd ⊢
  pointwise [k0_pay309]
  simp only [hs, hr, hv, hg, hd, ← EReal.coe_mul, Reals.coe_sum, Reals.n768_f32, Reals.div_real (show (768 : ℝ) ≠ 0 by norm_num), ← EReal.coe_sub]
  rfl

theorem gain_real (prev : FVec Ideal S1x768 .f32) (l : Fin 768) :
    k0_pay308 (F := Ideal) (k0_pay12 (F := Ideal) (half2 X)) (dvnA X Y Wv) prev (ix2 0 l) = prev (ix2 0 l) + ((∑ r : Fin 512, dvnR P D W (row n r) l * vhR P (row n r) l : ℝ) : EReal) := by
  have hd := fun r => dvnA_real H r l
  have hv := fun r => vh_apply H r l
  generalize k0_pay12 (F := Ideal) (half2 X) = v at hv ⊢
  generalize dvnA X Y Wv = d at hd ⊢
  pointwise [k0_pay308]
  simp only [hv, hd, ← EReal.coe_mul, Reals.coe_sum]

theorem dp_real (r : Fin 512) (l : Fin 1536) :
    View.canon (⟨Rect.unit ![0, 768] ![512, 768] inb_S512x1536_S512x768_0_768, dvV X G (dvnA X Y Wv)⟩ :: dpL X Y Wv Bv (k0_pay14 (F := Ideal) (half2 X) G)) (ix2 r l)
      = ((dpAll P D A W B (row n r) l : ℝ) : EReal) := by
  refine View.canon_apply_of_pieces (Val := Elt Ideal) (e := .bf16) (fun i : S512x1536.Idx => ((dpAll P D A W B (row n (i 0)) (i 1) : ℝ) : EReal)) _ ?_ (ix2 r l) ?_
  · intro p hp
    rcases List.mem_cons.mp hp with rfl | hp
    · intro j
      obtain ⟨a, b, rfl⟩ : ∃ (a : Fin 512) (b : Fin 768), j = ix2 a b := ⟨j 0, j 1, eq_ix2 j⟩
      refine (dvV_real H a b).trans ?_
      rw [show (Rect.unit ![0, 768] ![512, 768] inb_S512x1536_S512x768_0_768).emb (ix2 a b) = ix2 a (⟨768 + b.val, by omega⟩ : Fin 1536) from
        Shape.idx_ext₂ ((unit_idx _ _ inb_S512x1536_S512x768_0_768 _ 0).trans (Nat.zero_add _)) (unit_idx _ _ inb_S512x1536_S512x768_0_768 _ 1)]
      show _ = ((dpAll P D A W B (row n a) ⟨768 + b.val, _⟩ : ℝ) : EReal)
      unfold dpAll
      rw [dif_neg (by simp)]
      refine congrArg _ (congrArg _ (Fin.ext ?_))
      show b.val = 768 + b.val - 768
      omega
    · obtain ⟨x, _, rfl⟩ := List.mem_map.mp hp
      intro j
      obtain ⟨a, b, rfl⟩ : ∃ (a b : Fin 128), j = ix2 a b := ⟨j 0, j 1, eq_ix2 j⟩
      refine (dpV_real H x.1 x.2 a b).trans ?_
      rw [show (Rect.unit ![128 * x.2.val, 128 * x.1.val] ![128, 128] (inbU x.1 x.2)).emb (ix2 a b) = ix2 (rw' x.2 a) (⟨(cl x.1 b).val, by omega⟩ : Fin 1536) from
        Shape.idx_ext₂ (unit_idx _ _ (inbU x.1 x.2) _ 0) (unit_idx _ _ (inbU x.1 x.2) _ 1)]
      show _ = ((dpAll P D A W B (row n (rw' x.2 a)) ⟨(cl x.1 b).val, _⟩ : ℝ) : EReal)
      unfold dpAll
      rw [dif_pos (cl x.1 b).isLt]
  · by_cases hl : l.val < 768
    · refine ⟨_, List.mem_cons_of_mem _ (List.mem_map.mpr ⟨(grp ⟨l.val, hl⟩, ⟨r.val / 128, by omega⟩), mem_order _ _, rfl⟩), ?_⟩
      refine (Rect.mem_set_unit (inb := inbU (grp ⟨l.val, hl⟩) ⟨r.val / 128, by omega⟩)).mpr fun a => ?_
      fin_cases a
      · show 128 * (r.val / 128) ≤ r.val ∧ r.val < 128 * (r.val / 128) + 128
        omega
      · show 128 * (l.val / 128) ≤ l.val ∧ l.val < 128 * (l.val / 128) + 128
        omega
    · refine ⟨_, List.mem_cons_self, ?_⟩
      refine (Rect.mem_set_unit (inb := inb_S512x1536_S512x768_0_768)).mpr fun a => ?_
      fin_cases a
      · show 0 ≤ r.val ∧ r.val < 0 + 512
        omega
      · show 768 ≤ l.val ∧ l.val < 768 + 768
        omega

theorem dw_real (prev : FVec Ideal S6x128x128 .f32) (L : List (View.Piece (Elt Ideal) S6x128x128 .f32)) (g : Fin 6) (t s : Fin 128) :
    View.canon (dwL X Y (k0_pay14 (F := Ideal) (half2 X) G) prev ++ L) (ix3 g t s)
      = prev (ix3 g t s) + (((if s.val / 64 ≤ t.val / 64 then ∑ w : Fin 4, dwT P D A g t s (win n w) else 0) : ℝ) : EReal) :=
  (canon_groups (dwV X Y (k0_pay14 (F := Ideal) (half2 X) G) prev) L g t s).trans (dwV_real H g prev t s)

theorem db_real (prev : FVec Ideal S6x128x128 .f32) (L : List (View.Piece (Elt Ideal) S6x128x128 .f32)) (g : Fin 6) (t s : Fin 128) :
    View.canon (dbL X Y prev ++ L) (ix3 g t s) = prev (ix3 g t s) + ((∑ w : Fin 4, dbT P D g t (win n w) : ℝ) : EReal) :=
  (canon_groups (dbV X Y prev) L g t s).trans (dbV_real H g prev t s)

end Block
/-! ## The arrays -/

theorem X0_apply (c : Dev nD) (n : ℕ) (h : n < cfg0.N) (r : Fin 512) (l : Fin 1536) :
    X0_0 m c ⟨n, h⟩ (ix2 r l) = m ((c : Thread nD τ).loc main_arg0) (ix2 (row n r) ⟨l.val, by omega⟩) := by
  have e : ∀ t : Fin cfg0.N, win0_0.index t = ![t.val % 16, 0] := by decide +kernel
  unfold X0_0 Pipeline.Window.fill row
  rw [dif_pos (moved0_0 _ _)]
  blk_ext [iblk, V, e]

theorem X1_apply (c : Dev nD) (n : ℕ) (h : n < cfg0.N) (r : Fin 512) (l : Fin 768) :
    X0_1 m c ⟨n, h⟩ (ix2 r l) = m ((c : Thread nD τ).loc main_arg1) (ix2 (row n r) ⟨l.val, by omega⟩) := by
  have e : ∀ t : Fin cfg0.N, win0_1.index t = ![t.val % 16, 0] := by decide +kernel
  unfold X0_1 Pipeline.Window.fill row
  rw [dif_pos (moved0_1 _ _)]
  blk_ext [iblk, V, e]

theorem iblk2_apply (c : Dev nD) (n : ℕ) (h : n < cfg0.N) (l : Fin 768) :
    iblk m c 2 ⟨n, h⟩ (ix2 0 l) = m ((c : Thread nD τ).loc main_arg2) (ix1 l) := by
  have e : ∀ t : Fin cfg0.N, win0_2.index t = ![0, 0] := by decide +kernel
  have q : V m c main_v2 (ix2 0 l) = m ((c : Thread nD τ).loc main_arg2) (ix1 l) := by
    rw [show V m c main_v2 = shapeCast (α := EReal) S1x768 (m ((c : Thread nD τ).loc main_arg2)) shapeCasts_S768_S1x768 by entry_read; rfl]
    pointwise []
  rw [← q]
  generalize hV : V m c main_v2 = v
  unfold iblk
  rw [show V m c (Pipeline.arrRef spec0 2) = v from hV]
  blk_ext [e]

theorem iblk3_apply (c : Dev nD) (n : ℕ) (h : n < cfg0.N) (g : Fin 6) (t s : Fin 128) :
    iblk m c 3 ⟨n, h⟩ (ix3 g t s) = m ((c : Thread nD τ).loc main_arg3) (ix3 g t s) := by
  have e : ∀ t : Fin cfg0.N, win0_3.index t = ![0, 0, 0] := by decide +kernel
  blk_ext [iblk, V, e]

theorem iblk4_apply (c : Dev nD) (n : ℕ) (h : n < cfg0.N) (g : Fin 6) (t s : Fin 128) :
    iblk m c 4 ⟨n, h⟩ (ix3 g t s) = m ((c : Thread nD τ).loc main_arg4) (ix2 g t) := by
  have e : ∀ t : Fin cfg0.N, win0_4.index t = ![0, 0, 0] := by decide +kernel
  have q : V m c main_v1 (ix3 g t s) = m ((c : Thread nD τ).loc main_arg4) (ix2 g t) := by
    rw [show V m c main_v1 = broadcastInDim (α := EReal) S6x128x128 ![0, 1, 2] bcast_S6x128x1_S6x128x128_0_1_2 (broadcastInDim (α := EReal) S6x128x1 ![0, 1] bcast_S6x128_S6x128x1_0_1 (m ((c : Thread nD τ).loc main_arg4))) by entry_read; rfl]
    pointwise []
  rw [← q]
  generalize hV : V m c main_v1 = v
  unfold iblk
  rw [show V m c (Pipeline.arrRef spec0 4) = v from hV]
  blk_ext [e]

/-- The arguments as real arrays. -/
structure Real5 (c : Dev nD) (P : S8192x1792.Idx → ℝ) (D : S8192x1024.Idx → ℝ) (A : S768.Idx → ℝ) (W : S6x128x128.Idx → ℝ) (B : S6x128.Idx → ℝ) : Prop where
  p : m ((c : Thread nD τ).loc main_arg0) = fun i => ((P i : ℝ) : EReal)
  d : m ((c : Thread nD τ).loc main_arg1) = fun i => ((D i : ℝ) : EReal)
  a : m ((c : Thread nD τ).loc main_arg2) = fun i => ((A i : ℝ) : EReal)
  w : m ((c : Thread nD τ).loc main_arg3) = fun i => ((W i : ℝ) : EReal)
  b : m ((c : Thread nD τ).loc main_arg4) = fun i => ((B i : ℝ) : EReal)

/-- The projection's cotangent. -/
def dpA (P : S8192x1792.Idx → ℝ) (D : S8192x1024.Idx → ℝ) (A : S768.Idx → ℝ) (W : S6x128x128.Idx → ℝ) (B : S6x128.Idx → ℝ) : FVec Ideal S8192x1536 .bf16 := fun i => ((dpAll P D A W B (i 0) (i 1) : ℝ) : EReal)
/-- The mixing weights' cotangent. -/
def dwA (P : S8192x1792.Idx → ℝ) (D : S8192x1024.Idx → ℝ) (A : S768.Idx → ℝ) : FVec Ideal S6x128x128 .f32 := fun i =>
  (((if (i 2).val / 64 ≤ (i 1).val / 64 then ∑ n : Fin 64, dwT P D A (i 0) (i 1) (i 2) n else 0) : ℝ) : EReal)
/-- The biases' cotangent, the same along the last axis. -/
def dbA (P : S8192x1792.Idx → ℝ) (D : S8192x1024.Idx → ℝ) : FVec Ideal S6x128x128 .f32 := fun i => ((∑ n : Fin 64, dbT P D (i 0) (i 1) n : ℝ) : EReal)
/-- The gain's cotangent. -/
def dgA (P : S8192x1792.Idx → ℝ) (D : S8192x1024.Idx → ℝ) (W : S6x128x128.Idx → ℝ) : FVec Ideal S1x768 .f32 := fun i => ((∑ r : Fin 8192, dvnR P D W r (i 1) * vhR P r (i 1) : ℝ) : EReal)

section Arrays

variable (c : Dev nD) {P : S8192x1792.Idx → ℝ} {D : S8192x1024.Idx → ℝ} {A : S768.Idx → ℝ} {W : S6x128x128.Idx → ℝ} {B : S6x128.Idx → ℝ} (H : Real5 m c P D A W B)

include H

theorem blk (n : ℕ) (h : n < cfg0.N) : Blk P D A W B n (X0_0 m c ⟨n, h⟩) (X0_1 m c ⟨n, h⟩) (iblk m c 2 ⟨n, h⟩) (iblk m c 3 ⟨n, h⟩) (iblk m c 4 ⟨n, h⟩) where
  x r l := by rw [X0_apply, H.p]
  y r l := by rw [X1_apply, H.d]
  g l := by rw [iblk2_apply, H.a]
  w g t s := by rw [iblk3_apply, H.w]
  b g t s := by rw [iblk4_apply, H.b]

theorem arr5 : (dats m 0 c).arrAt 5 cfg0.N = dpA P D A W B := by
  refine (dats m 0 c).arrAt_eq_of_covers 5 _ (by decide +kernel) fun t hf y => ?_
  have e : ∀ t : Fin cfg0.N, win0_5.index t = ![t.val % 16, 0] := by decide +kernel
  blk_simp
  rw [after0_5, outs5]
  obtain ⟨r, l, rfl⟩ : ∃ (r : Fin 512) (l : Fin 1536), y = ix2 r l := ⟨y 0, y 1, eq_ix2 y⟩
  have he : (win0_5.blk t).view.emb (ix2 r l) = ix2 (row t.val r) l := by
    unfold row
    refine Shape.idx_ext₂ ?_ ?_ <;> blk_simp <;> rw [e] <;> simp
  rw [he]
  exact dp_real (blk m c H t.val t.isLt) r l

theorem arr6 : (dats m 0 c).arrAt 6 cfg0.N = dwA P D A := by
  refine (dats m 0 c).arrAt_eq_of_covers 6 _ (by decide +kernel) fun t hf y => ?_
  have hr := (flush0_6 t).mp hf
  have hN : t.val < 16 := lt_of_lt_of_eq t.isLt N_0
  have e : ∀ t : Fin cfg0.N, win0_6.index t = ![0, 0, 0] := by decide +kernel
  blk_simp
  rw [after0_6]
  obtain ⟨g, a, b, rfl⟩ : ∃ (g : Fin 6) (a b : Fin 128), y = ix3 g a b := ⟨y 0, y 1, y 2, eq_ix3 y⟩
  have he : (win0_6.blk t).view.emb (ix3 g a b) = ix3 g a b := by
    funext k
    apply Fin.ext
    blk_simp
    rw [e]
    fin_cases k <;> simp
  rw [he]
  rw [Pipeline.eq_sum_fin_of_reset_step_apply_of_flush (fun n h => (outsAt0 m c n h).2.1) 16 (fun _ => (0 : EReal)) (fun t j => ((if (j 2).val / 64 ≤ (j 1).val / 64 then ∑ w : Fin 4, dwT P D A (j 0) (j 1) (j 2) (win t.val w) else 0 : ℝ) : EReal))
    (fun t h0 j => by
      show (outsAt0 m c t.val t.isLt).2.1 j = _
      obtain ⟨g, a, b, rfl⟩ : ∃ (g : Fin 6) (a b : Fin 128), j = ix3 g a b := ⟨j 0, j 1, j 2, eq_ix3 j⟩
      rw [outs6_A m c t h0, dw_real (blk m c H t.val t.isLt)]
      pointwise [k0_pay2])
    (fun t h0 j => by
      show (outsAt0 m c t.val t.isLt).2.1 j = _
      obtain ⟨g, a, b, rfl⟩ : ∃ (g : Fin 6) (a b : Fin 128), j = ix3 g a b := ⟨j 0, j 1, j 2, eq_ix3 j⟩
      rw [outs6_B m c t h0, ← List.append_nil (dwL _ _ _ _), dw_real (blk m c H t.val t.isLt)]
      rfl) t hr]
  rw [zero_add, Reals.coe_sum]
  refine congrArg _ ?_
  show (∑ s : Fin 16, if b.val / 64 ≤ a.val / 64 then ∑ w : Fin 4, dwT P D A g a b (win (16 * (t.val / 16) + s.val) w) else 0) = if b.val / 64 ≤ a.val / 64 then ∑ n : Fin 64, dwT P D A g a b n else 0
  by_cases hm : b.val / 64 ≤ a.val / 64
  · simp only [if_pos hm]
    refine Eq.trans ?_ (Fin.sum_mul_add_fin 16 4 (fun n : Fin 64 => dwT P D A g a b n))
    refine Finset.sum_congr rfl fun s _ => Finset.sum_congr rfl fun q _ => ?_
    have hs := s.isLt
    refine congrArg _ (Fin.ext ?_)
    show (16 * (t.val / 16) + s.val) % 16 * 4 + q.val = s.val * 4 + q.val
    omega
  · simp only [if_neg hm, Finset.sum_const_zero]

theorem arr7 : (dats m 0 c).arrAt 7 cfg0.N = dbA P D := by
  refine (dats m 0 c).arrAt_eq_of_covers 7 _ (by decide +kernel) fun t hf y => ?_
  have hr := (flush0_7 t).mp hf
  have hN : t.val < 16 := lt_of_lt_of_eq t.isLt N_0
  have e : ∀ t : Fin cfg0.N, win0_7.index t = ![0, 0, 0] := by decide +kernel
  blk_simp
  rw [after0_7]
  obtain ⟨g, a, b, rfl⟩ : ∃ (g : Fin 6) (a b : Fin 128), y = ix3 g a b := ⟨y 0, y 1, y 2, eq_ix3 y⟩
  have he : (win0_7.blk t).view.emb (ix3 g a b) = ix3 g a b := by
    funext k
    apply Fin.ext
    blk_simp
    rw [e]
    fin_cases k <;> simp
  rw [he]
  rw [Pipeline.eq_sum_fin_of_reset_step_apply_of_flush (fun n h => (outsAt0 m c n h).2.2.1) 16 (fun _ => (0 : EReal)) (fun t j => ((∑ w : Fin 4, dbT P D (j 0) (j 1) (win t.val w) : ℝ) : EReal))
    (fun t h0 j => by
      show (outsAt0 m c t.val t.isLt).2.2.1 j = _
      obtain ⟨g, a, b, rfl⟩ : ∃ (g : Fin 6) (a b : Fin 128), j = ix3 g a b := ⟨j 0, j 1, j 2, eq_ix3 j⟩
      rw [outs7_A m c t h0, db_real (blk m c H t.val t.isLt)]
      pointwise [k0_pay3])
    (fun t h0 j => by
      show (outsAt0 m c t.val t.isLt).2.2.1 j = _
      obtain ⟨g, a, b, rfl⟩ : ∃ (g : Fin 6) (a b : Fin 128), j = ix3 g a b := ⟨j 0, j 1, j 2, eq_ix3 j⟩
      rw [outs7_B m c t h0, ← List.append_nil (dbL _ _ _), db_real (blk m c H t.val t.isLt)]
      rfl) t hr]
  rw [zero_add, Reals.coe_sum]
  refine congrArg _ ?_
  refine Eq.trans ?_ (Fin.sum_mul_add_fin 16 4 (fun n : Fin 64 => dbT P D g a n))
  refine Finset.sum_congr rfl fun s _ => Finset.sum_congr rfl fun q _ => ?_
  have hs := s.isLt
  refine congrArg _ (Fin.ext ?_)
  show (16 * (t.val / 16) + s.val) % 16 * 4 + q.val = s.val * 4 + q.val
  omega

theorem arr8 : (dats m 0 c).arrAt 8 cfg0.N = dgA P D W := by
  refine (dats m 0 c).arrAt_eq_of_covers 8 _ (by decide +kernel) fun t hf y => ?_
  have hr := (flush0_8 t).mp hf
  have hN : t.val < 16 := lt_of_lt_of_eq t.isLt N_0
  have e : ∀ t : Fin cfg0.N, win0_8.index t = ![0, 0] := by decide +kernel
  blk_simp
  rw [after0_8]
  obtain ⟨z, l, rfl⟩ : ∃ (z : Fin 1) (l : Fin 768), y = ix2 z l := ⟨y 0, y 1, eq_ix2 y⟩
  have he : (win0_8.blk t).view.emb (ix2 z l) = ix2 z l := by
    refine Shape.idx_ext₂ ?_ ?_ <;> blk_simp <;> rw [e] <;> simp
  rw [he]
  rw [Pipeline.eq_sum_fin_of_reset_step_apply_of_flush (fun n h => (outsAt0 m c n h).2.2.2) 16 (fun _ => (0 : EReal)) (fun t j => ((∑ r : Fin 512, dvnR P D W (row t.val r) (j 1) * vhR P (row t.val r) (j 1) : ℝ) : EReal))
    (fun t h0 j => by
      show (outsAt0 m c t.val t.isLt).2.2.2 j = _
      obtain ⟨z, l, rfl⟩ : ∃ (z : Fin 1) (l : Fin 768), j = ix2 z l := ⟨j 0, j 1, eq_ix2 j⟩
      obtain rfl : z = 0 := Subsingleton.elim _ _
      rw [outs8_A m c t h0, gain_real (blk m c H t.val t.isLt)]
      pointwise [k0_pay4])
    (fun t h0 j => by
      show (outsAt0 m c t.val t.isLt).2.2.2 j = _
      obtain ⟨z, l, rfl⟩ : ∃ (z : Fin 1) (l : Fin 768), j = ix2 z l := ⟨j 0, j 1, eq_ix2 j⟩
      obtain rfl : z = 0 := Subsingleton.elim _ _
      rw [outs8_B m c t h0, gain_real (blk m c H t.val t.isLt)]
      rfl) t hr]
  rw [zero_add, Reals.coe_sum]
  refine congrArg _ ?_
  refine Eq.trans ?_ (Fin.sum_mul_add_fin 16 512 (fun r : Fin 8192 => dvnR P D W r l * vhR P r l))
  refine Finset.sum_congr rfl fun s _ => Finset.sum_congr rfl fun q _ => ?_
  have hs := s.isLt
  have e1 : row (16 * (t.val / 16) + s.val) q = ⟨s.val * 512 + q.val, by omega⟩ := Fin.ext (by
    show (16 * (t.val / 16) + s.val) % 16 * 512 + q.val = s.val * 512 + q.val
    omega)
  show dvnR P D W (row (16 * (t.val / 16) + s.val) q) l * vhR P (row (16 * (t.val / 16) + s.val) q) l = _
  rw [e1]

end Arrays

end Cert.GmlpIdeal.Value
-- ==== Proof.GmlpValue.lean ====
/- The gated mixing's backward call: that the reference's chain-rule lines are the kernel's arrays. -/
module

public import proofs.«01_k».proof.Proof.GmlpArrays
public import proofs.«01_k».proof.Proof.Gen.GmlpRefIdeal.Run
public import proofs.«01_k».proof.Proof.Gen.GmlpRefIdeal.Read
public import proofs.«01_k».proof.Defs
public import Idealize.ShloMosaic.Lib.KernelVsHost

@[expose] public section

set_option maxRecDepth 16384

noncomputable section

namespace Cert.GmlpRefIdeal.Read

open Cert.GmlpRefIdeal Cert.GmlpRefIdeal.Gen Idealize.ShloMosaic Idealize.ShloMosaic.TcCoe Idealize.SL.Sem
open Cert.GmlpIdeal.Value (gth gelu slope grp lan pos wnd at_ cl grp_cl lan_cl cl_grp wnd_at pos_at at_pos pu pv dyR varR rsR vhR vnR wmR mixR dmR dpuR dvnR dpvR dwT dbT dpAll varR_pos)
open scoped BigOperators

variable {P : S8192x1792.Idx → ℝ} {D : S8192x1024.Idx → ℝ} {A : S768.Idx → ℝ} {W : S6x128x128.Idx → ℝ} {B : S6x128.Idx → ℝ}

/-- The coercion of a real array. -/
abbrev up {S : Shape} {φ : FTy} (X : S.Idx → ℝ) : FVec Ideal S φ := fun i => ((X i : ℝ) : EReal)

/-- The projection's lanes that this call reads. -/
def px (P : S8192x1792.Idx → ℝ) (r : Fin 8192) (l : Fin 1536) : ℝ := P (ix2 r ⟨l.val, by omega⟩)
/-- A lane of the first half. -/
def lo (l : Fin 768) : Fin 1536 := ⟨l.val, by omega⟩
/-- A lane of the second half. -/
def hi (l : Fin 768) : Fin 1536 := ⟨768 + l.val, by omega⟩

theorem v0_at (r : Fin 8192) (l : Fin 1536) : val_main_v0 (F := Ideal) (up (φ := .f32) P) (ix2 r l) = ((px P r l : ℝ) : EReal) := by
  rw [val_main_v0_apply, show idx_main_v0 (ix2 r l) = ix2 r ⟨l.val, by omega⟩ from Shape.idx_ext₂ rfl rfl]
  rfl

/-- The numerator of gelu's coefficient. -/
theorem n8943 : Ideal.ofBits .f32 0x460BBC00#32 = ((8943 : ℝ) : EReal) := by
  simp [Ideal.ofBits, Ideal.ieee, -EReal.coe_mul]; norm_num

/-- Its denominator. -/
theorem n200000 : Ideal.ofBits .f32 0x48435000#32 = ((200000 : ℝ) : EReal) := by
  simp [Ideal.ofBits, Ideal.ieee, -EReal.coe_mul]; norm_num

theorem v13_at (r : Fin 8192) (l : Fin 1536) : val_main_v13 (F := Ideal) (up (φ := .f32) P) (ix2 r l) = ((gth (px P r l) : ℝ) : EReal) := by
  have c0 : ∀ i, val_main_cst_0 (F := Ideal) i = ((8943 : ℝ) : EReal) := fun i => n8943
  have c1 : ∀ i, val_main_cst_1 (F := Ideal) i = ((200000 : ℝ) : EReal) := fun i => n200000
  have c2 : ∀ i, val_main_cst_2 (F := Ideal) i = (Reals.geluC : EReal) := fun i => Reals.gelu_f32
  rw [val_main_v13_apply, val_main_v12_apply, val_main_v11_apply, c2, val_main_v10_apply, val_main_v9_apply, val_main_v8_apply, c1, val_main_v7_apply, val_main_v6_apply, c0, val_main_v2_apply, val_main_v1_apply, v0_at]
  show Ideal.tanh ((Reals.geluC : EReal) * (((px P r l : ℝ) : EReal) + Ideal.div (((px P r l : ℝ) : EReal) * ((px P r l : ℝ) : EReal) * ((px P r l : ℝ) : EReal) * ((8943 : ℝ) : EReal)) ((200000 : ℝ) : EReal))) = _
  simp only [← EReal.coe_mul]
  rw [Reals.div_real (by norm_num)]
  simp only [← EReal.coe_mul, ← EReal.coe_add, Ideal.tanh_coe]
  unfold gth
  refine congrArg _ (congrArg Real.tanh ?_)
  ring

theorem v5_at (r : Fin 8192) (l : Fin 1536) : val_main_v5 (F := Ideal) (up (φ := .f32) P) (ix2 r l) = ((3 * (px P r l * px P r l) : ℝ) : EReal) := by
  have c : ∀ i, val_main_cst (F := Ideal) i = ((3 : ℝ) : EReal) := fun i => Reals.three_f32
  rw [val_main_v5_apply, val_main_v4_apply, c, val_main_v3_apply, v0_at]
  show ((3 : ℝ) : EReal) * (((px P r l : ℝ) : EReal) * ((px P r l : ℝ) : EReal)) = _
  simp only [← EReal.coe_mul]

theorem v22_at (r : Fin 8192) (l : Fin 1536) : val_main_v22 (F := Ideal) (up (φ := .f32) P) (ix2 r l) = ((1 / 2 * (1 + gth (px P r l)) : ℝ) : EReal) := by
  have c4 : ∀ i, val_main_cst_5 (F := Ideal) i = ((1 : ℝ) : EReal) := fun i => Reals.one_f32
  have c5 : ∀ i, val_main_cst_6 (F := Ideal) i = (((1 : ℝ) / 2 : ℝ) : EReal) := fun i => Reals.half_f32
  rw [val_main_v22_apply, val_main_v21_apply, c5, val_main_v20_apply, val_main_v19_apply, c4, v13_at]
  show (((1 : ℝ) / 2 : ℝ) : EReal) * (((1 : ℝ) : EReal) + ((gth (px P r l) : ℝ) : EReal)) = _
  simp only [← EReal.coe_mul, ← EReal.coe_add]

theorem v18_at (r : Fin 8192) (l : Fin 1536) : val_main_v18 (F := Ideal) (up (φ := .f32) P) (ix2 r l) = ((1 - gth (px P r l) * gth (px P r l) : ℝ) : EReal) := by
  have c2 : ∀ i, val_main_cst_3 (F := Ideal) i = ((1 : ℝ) : EReal) := fun i => Reals.one_f32
  have c3 : ∀ i, val_main_cst_4 (F := Ideal) i = ((1 : ℝ) : EReal) := fun i => Reals.one_f32
  rw [val_main_v18_apply, val_main_v17_apply, val_main_v16_apply, c3, val_main_v15_apply, val_main_v14_apply, c2, v13_at]
  show (((1 : ℝ) : EReal) + ((gth (px P r l) : ℝ) : EReal)) * (((1 : ℝ) : EReal) - ((gth (px P r l) : ℝ) : EReal)) = _
  simp only [← EReal.coe_mul, ← EReal.coe_add, ← EReal.coe_sub]
  refine congrArg _ ?_
  ring

theorem v23_at (r : Fin 8192) (l : Fin 1536) : val_main_v23 (F := Ideal) (up (φ := .f32) P) (ix2 r l) = ((gelu (px P r l) : ℝ) : EReal) := by
  rw [val_main_v23_apply, v0_at, v22_at]
  show ((px P r l : ℝ) : EReal) * ((1 / 2 * (1 + gth (px P r l)) : ℝ) : EReal) = _
  simp only [← EReal.coe_mul]
  refine congrArg _ ?_
  unfold gelu
  ring

theorem v24_at (r : Fin 8192) (l : Fin 768) : val_main_v24 (F := Ideal) (up (φ := .f32) P) (ix2 r l) = ((gelu (pu P r l) : ℝ) : EReal) := by
  rw [val_main_v24_apply, show idx_main_v24 (ix2 r l) = ix2 r (lo l) from Shape.idx_ext₂ rfl rfl, v23_at]
  rfl

theorem v25_at (r : Fin 8192) (l : Fin 768) : val_main_v25 (F := Ideal) (up (φ := .f32) P) (ix2 r l) = ((gelu (pv P r l) : ℝ) : EReal) := by
  rw [val_main_v25_apply, show idx_main_v25 (ix2 r l) = ix2 r (hi l) from Shape.idx_ext₂ rfl rfl, v23_at]
  rfl

theorem v32_at (r : Fin 8192) : val_main_v32 (F := Ideal) (up (φ := .f32) P) (ix2 r 0) = ((varR P r : ℝ) : EReal) := by
  have c6 : ∀ i, val_main_cst_7 (F := Ideal) i = ((0 : ℝ) : EReal) := fun i => by pointwise [val_main_cst_7]; rfl
  have c7 : ∀ i, val_main_cst_8 (F := Ideal) i = ((768 : ℝ) : EReal) := fun i => Reals.n768_f32
  have c8 : ∀ i, val_main_cst_9 (F := Ideal) i = (Reals.eps : EReal) := fun i => Reals.eps_f32
  have e24 : ∀ l, val_main_v26 (F := Ideal) (up (φ := .f32) P) (ix2 r l) = ((gelu (pv P r l) * gelu (pv P r l) : ℝ) : EReal) := fun l => by
    rw [val_main_v26_apply, v25_at]
    show ((gelu (pv P r l) : ℝ) : EReal) * ((gelu (pv P r l) : ℝ) : EReal) = _
    rw [← EReal.coe_mul]
  have e25 : val_main_v27 (F := Ideal) (up (φ := .f32) P) (ix1 r) = ((∑ l : Fin 768, gelu (pv P r l) * gelu (pv P r l) : ℝ) : EReal) := by
    unfold val_main_v27
    generalize val_main_v26 (F := Ideal) (up (φ := .f32) P) = y at e24 ⊢
    pointwise [val_main_cst_7]
    simp only [e24, Reals.coe_sum]
  rw [val_main_v32_apply, val_main_v31_apply, c8, val_main_v30_apply, val_main_v29_apply, c7, val_main_v28_apply, show idx_main_v28 (ix2 r 0) = ix1 r from (eq_ix1 _).trans rfl, e25]
  show Ideal.div _ ((768 : ℝ) : EReal) + (Reals.eps : EReal) = _
  rw [Reals.div_real (by norm_num), ← EReal.coe_add]
  rfl

theorem v33_at (r : Fin 8192) : val_main_v33 (F := Ideal) (up (φ := .f32) P) (ix2 r 0) = ((rsR P r : ℝ) : EReal) := by
  rw [val_main_v33_apply, v32_at]
  exact Reals.rsqrt_real (varR_pos P r)

theorem v36_at (r : Fin 8192) : val_main_v36 (F := Ideal) (up (φ := .f32) P) (ix2 r 0) = ((-(1 / 2) * (rsR P r / varR P r) : ℝ) : EReal) := by
  have c9 : ∀ i, val_main_cst_10 (F := Ideal) i = ((-((1 : ℝ) / 2) : ℝ) : EReal) := fun i => Reals.neg_half_f32
  rw [val_main_v36_apply, val_main_v35_apply, c9, val_main_v34_apply, v33_at, v32_at]
  show ((-((1 : ℝ) / 2) : ℝ) : EReal) * Ideal.div ((rsR P r : ℝ) : EReal) ((varR P r : ℝ) : EReal) = _
  rw [Reals.div_real (varR_pos P r).ne', ← EReal.coe_mul]

theorem v38_at (r : Fin 8192) (l : Fin 768) : val_main_v38 (F := Ideal) (up (φ := .f32) P) (ix2 r l) = ((vhR P r l : ℝ) : EReal) := by
  rw [val_main_v38_apply, v25_at, val_main_v37_apply, show idx_main_v37 (ix2 r l) = ix2 r 0 from Shape.idx_ext₂ rfl rfl, v33_at]
  show ((gelu (pv P r l) : ℝ) : EReal) * ((rsR P r : ℝ) : EReal) = _
  rw [← EReal.coe_mul]
  rfl

theorem v41_at (r : Fin 8192) (l : Fin 768) : val_main_v41 (F := Ideal) (up (φ := .f32) P) (up (φ := .f32) A) (ix2 r l) = ((vnR P A r l : ℝ) : EReal) := by
  rw [val_main_v41_apply, v38_at, val_main_v40_apply, val_main_v39_apply, show idx_main_v39 (idx_main_v40 (ix2 r l)) = ix1 l from (eq_ix1 _).trans rfl]
  show ((vhR P r l : ℝ) : EReal) * ((A (ix1 l) : ℝ) : EReal) = _
  rw [← EReal.coe_mul]
  rfl

theorem v42_at (n : Fin 64) (s : Fin 128) (g : Fin 6) (b : Fin 128) : val_main_v42 (F := Ideal) (up (φ := .f32) P) (up (φ := .f32) A) (ix4 n s g b) = ((vnR P A (at_ n s) (cl g b) : ℝ) : EReal) := by
  rw [val_main_v42_apply, show idx_main_v42 (ix4 n s g b) = ix2 (at_ n s) (cl g b) from Shape.idx_ext₂ (by show (((n.val * 128 + s.val) * 6 + g.val) * 128 + b.val) / 768 = n.val * 128 + s.val; omega) (by show (((n.val * 128 + s.val) * 6 + g.val) * 128 + b.val) % 768 = 128 * g.val + b.val; omega), v41_at]

/-! ## The mask, and the mixing -/

theorem v45_at : ∀ s : Fin 128, val_main_v45 (F := Ideal) (ix2 0 s) = BitVec.ofNat 32 (s.val / 64) := by
  intro s
  pointwise [val_main_v45, val_main_call0_v11, val_main_call0_v13, val_main_call0_v2, val_main_call0_v12, val_main_call0_v10, val_main_call0_v9, val_main_call0_v8, val_main_call0_v7, val_main_call0_v6, val_main_call0_v5, val_main_call0_v4, val_main_call0_v3, val_main_call0_v1, val_main_call0_v0, val_main_call0_c, val_main_call0_c_0, val_main_c, val_main_v44, val_main_v43]
  revert s
  decide +kernel

theorem v47_at : ∀ s : Fin 128, val_main_v47 (F := Ideal) (ix2 s 0) = BitVec.ofNat 32 (s.val / 64) := by
  intro s
  pointwise [val_main_v47, val_main_call1_v11, val_main_call1_v13, val_main_call1_v2, val_main_call1_v12, val_main_call1_v10, val_main_call1_v9, val_main_call1_v8, val_main_call1_v7, val_main_call1_v6, val_main_call1_v5, val_main_call1_v4, val_main_call1_v3, val_main_call1_v1, val_main_call1_v0, val_main_call1_c, val_main_call1_c_0, val_main_c_11, val_main_v46, val_main_v43]
  revert s
  decide +kernel

theorem v50_at (t s : Fin 128) : val_main_v50 (F := Ideal) (ix2 t s) = if s.val / 64 ≤ t.val / 64 then 1#1 else 0#1 := by
  rw [val_main_v50_apply, val_main_v48_apply, val_main_v49_apply, show idx_main_v48 (ix2 t s) = ix2 0 s from Shape.idx_ext₂ rfl rfl, show idx_main_v49 (ix2 t s) = ix2 t 0 from Shape.idx_ext₂ rfl rfl, v45_at, v47_at]
  have a : s.val / 64 < 2 := by omega
  have b : t.val / 64 < 2 := by omega
  generalize s.val / 64 = x at a ⊢
  generalize t.val / 64 = y at b ⊢
  interval_cases x <;> interval_cases y <;> decide

theorem v52_1_at (g : Fin 6) (t s : Fin 128) : val_main_v52_1 (F := Ideal) (ix3 g t s) = if s.val / 64 ≤ t.val / 64 then 1#1 else 0#1 := by
  rw [val_main_v52_1_apply, val_main_v51_apply, show idx_main_v51 (idx_main_v52_1 (ix3 g t s)) = ix2 t s from Shape.idx_ext₂ rfl rfl, v50_at]

theorem v52_at (g : Fin 6) (t s : Fin 128) : val_main_v52_0 (F := Ideal) (up (φ := .f32) W) (ix3 g t s) = ((wmR W g t s : ℝ) : EReal) := by
  have z : ∀ i, val_main_call2_v2 (F := Ideal) i = ((0 : ℝ) : EReal) := fun i => by
    pointwise [val_main_call2_v2, val_main_call2_v0, val_main_cst_12]
    show constant (F := Ideal) S_ .f32 0#32 ix0 = _
    pointwise []
    rfl
  rw [val_main_v52_0_apply, v52_1_at, z]
  unfold wmR
  split_ifs
  · exact Scalar.select_of_eq_one rfl _ _
  · exact Scalar.select_of_eq_zero rfl _ _

theorem v53_at (g : Fin 6) (n : Fin 64) (b t : Fin 128) : val_main_v53 (F := Ideal) (up (φ := .f32) P) (up (φ := .f32) A) (up (φ := .f32) W) (ix4 g n b t)
    = ((∑ s : Fin 128, wmR W g t s * vnR P A (at_ n s) (cl g b) : ℝ) : EReal) := by
  have e42 := fun s => v42_at (P := P) (A := A) n s g b
  have e52 := fun s => v52_at (W := W) g t s
  unfold val_main_v53
  generalize val_main_v42 (F := Ideal) (up (φ := .f32) P) (up (φ := .f32) A) = y at e42 ⊢
  generalize val_main_v52_0 (F := Ideal) (up (φ := .f32) W) = z at e52 ⊢
  pointwise []
  simp only [e42, e52, ← EReal.coe_mul, Reals.coe_sum]
  exact congrArg _ (Finset.sum_congr rfl fun s _ => mul_comm _ _)

theorem v57_at (n : Fin 64) (t : Fin 128) (g : Fin 6) (b : Fin 128) : val_main_v57 (F := Ideal) (up (φ := .f32) B) (ix4 n t g b) = ((B (ix2 g t) : ℝ) : EReal) := by
  rw [val_main_v57_apply, val_main_v56_apply, val_main_v55_apply, show idx_main_v55 (idx_main_v56 (idx_main_v57 (ix4 n t g b))) = ix2 g t from Shape.idx_ext₂ rfl rfl]

theorem v58_at (n : Fin 64) (t : Fin 128) (g : Fin 6) (b : Fin 128) : val_main_v58 (F := Ideal) (up (φ := .f32) P) (up (φ := .f32) A) (up (φ := .f32) W) (up (φ := .f32) B) (ix4 n t g b)
    = (((∑ s : Fin 128, wmR W g t s * vnR P A (at_ n s) (cl g b)) + B (ix2 g t) : ℝ) : EReal) := by
  rw [val_main_v58_apply, v57_at, val_main_v54_apply, show idx_main_v54 (ix4 n t g b) = ix4 g n b t from (eq_ix4 _).trans rfl, v53_at]
  exact (EReal.coe_add _ _).symm

/-- Where an entry of a flat array lies among the windows and groups. -/
theorem split_ix (r : Fin 8192) (l : Fin 768) : idx_main_v59 (ix2 r l) = ix4 (wnd r) (pos r) (grp l) (lan l) := by
  refine (eq_ix4 _).trans ?_
  have h0 : idx_main_v59 (ix2 r l) 0 = wnd r := Fin.ext (by show (r.val * 768 + l.val) / 98304 = r.val / 128; omega)
  have h1 : idx_main_v59 (ix2 r l) 1 = pos r := Fin.ext (by show (r.val * 768 + l.val) / 768 % 128 = r.val % 128; omega)
  have h2 : idx_main_v59 (ix2 r l) 2 = grp l := Fin.ext (by show (r.val * 768 + l.val) / 128 % 6 = l.val / 128; omega)
  have h3 : idx_main_v59 (ix2 r l) 3 = lan l := Fin.ext (by show (r.val * 768 + l.val) % 128 = l.val % 128; omega)
  rw [h0, h1, h2, h3]

theorem v59_at (r : Fin 8192) (l : Fin 768) : val_main_v59 (F := Ideal) (up (φ := .f32) P) (up (φ := .f32) A) (up (φ := .f32) W) (up (φ := .f32) B) (ix2 r l) = ((mixR P A W B r l : ℝ) : EReal) := by
  rw [val_main_v59_apply, split_ix, v58_at, cl_grp]
  rfl

theorem v61_at (r : Fin 8192) (l : Fin 768) : val_main_v61 (F := Ideal) (up (φ := .f32) D) (ix2 r l) = ((dyR D r l : ℝ) : EReal) := by
  rw [val_main_v61_apply, show idx_main_v61 (ix2 r l) = ix2 r ⟨l.val, by omega⟩ from Shape.idx_ext₂ rfl rfl]
  rfl

theorem v62_at (r : Fin 8192) (l : Fin 768) : val_main_v62 (F := Ideal) (up (φ := .f32) P) (up (φ := .f32) D) (ix2 r l) = ((dmR P D r l : ℝ) : EReal) := by
  rw [val_main_v62_apply, v24_at, v61_at]
  show ((gelu (pu P r l) : ℝ) : EReal) * ((dyR D r l : ℝ) : EReal) = _
  rw [← EReal.coe_mul, mul_comm]
  rfl

theorem v63_at (r : Fin 8192) (l : Fin 768) : val_main_v63 (F := Ideal) (up (φ := .f32) P) (up (φ := .f32) D) (up (φ := .f32) A) (up (φ := .f32) W) (up (φ := .f32) B) (ix2 r l)
    = ((dyR D r l * mixR P A W B r l : ℝ) : EReal) := by
  rw [val_main_v63_apply, v59_at, v61_at]
  exact (EReal.coe_mul _ _).symm

theorem v64_at (n : Fin 64) (s : Fin 128) (g : Fin 6) (b : Fin 128) : val_main_v64 (F := Ideal) (up (φ := .f32) P) (up (φ := .f32) D) (ix4 n s g b) = ((dmR P D (at_ n s) (cl g b) : ℝ) : EReal) := by
  rw [val_main_v64_apply, show idx_main_v64 (ix4 n s g b) = ix2 (at_ n s) (cl g b) from Shape.idx_ext₂ (by show (((n.val * 128 + s.val) * 6 + g.val) * 128 + b.val) / 768 = n.val * 128 + s.val; omega) (by show (((n.val * 128 + s.val) * 6 + g.val) * 128 + b.val) % 768 = 128 * g.val + b.val; omega), v62_at]

theorem v69_at (g : Fin 6) (n : Fin 64) (b s : Fin 128) : val_main_v69 (F := Ideal) (up (φ := .f32) P) (up (φ := .f32) D) (ix4 g n b s) = ((dmR P D (at_ n s) (cl g b) : ℝ) : EReal) := by
  rw [val_main_v69_apply, show idx_main_v69 (ix4 g n b s) = ix4 n s g b from (eq_ix4 _).trans rfl, v64_at]

theorem v71_at (g : Fin 6) (n : Fin 64) (b s : Fin 128) : val_main_v71 (F := Ideal) (up (φ := .f32) P) (up (φ := .f32) D) (up (φ := .f32) W) (ix4 g n b s)
    = ((∑ t : Fin 128, wmR W g t s * dmR P D (at_ n t) (cl g b) : ℝ) : EReal) := by
  have e69 := fun t => v69_at (P := P) (D := D) g n b t
  have e52 := fun t => v52_at (W := W) g t s
  unfold val_main_v71
  generalize val_main_v69 (F := Ideal) (up (φ := .f32) P) (up (φ := .f32) D) = y at e69 ⊢
  generalize val_main_v52_0 (F := Ideal) (up (φ := .f32) W) = z at e52 ⊢
  pointwise []
  simp only [e69, e52, ← EReal.coe_mul, Reals.coe_sum]
  exact congrArg _ (Finset.sum_congr rfl fun s _ => mul_comm _ _)

theorem v74_at (r : Fin 8192) (l : Fin 768) : val_main_v74 (F := Ideal) (up (φ := .f32) P) (up (φ := .f32) D) (up (φ := .f32) W) (ix2 r l) = ((dvnR P D W r l : ℝ) : EReal) := by
  rw [val_main_v74_apply, show idx_main_v74 (ix2 r l) = ix4 (wnd r) (pos r) (grp l) (lan l) from split_ix r l, val_main_v72_apply, show idx_main_v72 (ix4 (wnd r) (pos r) (grp l) (lan l)) = ix4 (grp l) (wnd r) (lan l) (pos r) from (eq_ix4 _).trans rfl, v71_at, cl_grp]
  rfl

/-! ## The weights', biases' and gain's cotangents -/

theorem v70_at (g : Fin 6) (t s : Fin 128) : val_main_v70 (F := Ideal) (up (φ := .f32) P) (up (φ := .f32) D) (up (φ := .f32) A) (ix3 g t s)
    = ((∑ n : Fin 64, dwT P D A g t s n : ℝ) : EReal) := by
  have e69 := fun n b => v69_at (P := P) (D := D) g n b t
  have e42 := fun n b => v42_at (P := P) (A := A) n s g b
  unfold val_main_v70
  generalize val_main_v69 (F := Ideal) (up (φ := .f32) P) (up (φ := .f32) D) = y at e69 ⊢
  generalize val_main_v42 (F := Ideal) (up (φ := .f32) P) (up (φ := .f32) A) = z at e42 ⊢
  pointwise []
  simp only [e69, e42, ← EReal.coe_mul, Reals.coe_sum]
  rfl

theorem v73_at (g : Fin 6) (t s : Fin 128) : val_main_v73 (F := Ideal) (up (φ := .f32) P) (up (φ := .f32) D) (up (φ := .f32) A) (ix3 g t s)
    = (((if s.val / 64 ≤ t.val / 64 then ∑ n : Fin 64, dwT P D A g t s n else 0) : ℝ) : EReal) := by
  have z : ∀ i, val_main_call3_v0 (F := Ideal) i = ((0 : ℝ) : EReal) := fun i => by
    pointwise [val_main_call3_v0, val_main_call3_cst]
    rfl
  rw [val_main_v73_apply, v52_1_at, z, v70_at]
  split_ifs
  · exact Scalar.select_of_eq_one rfl _ _
  · exact Scalar.select_of_eq_zero rfl _ _

/-- The entries of a four-axis array that a sum over its first and last axes takes to one place. -/
theorem fiber03 {n0 n1 n2 n3 : ℕ} (h : (⟨4, ![n0, n1, n2, n3]⟩ : Shape).ReducesTo [0, 3] ⟨2, ![n1, n2]⟩) (a : Fin n1) (b : Fin n2) (i : (⟨4, ![n0, n1, n2, n3]⟩ : Shape).Idx) :
    h.drop i = ix2 a b ↔ ∃ k : Fin n0 × Fin n3, ix4 k.1 a b k.2 = i := by
  constructor
  · intro e
    refine ⟨(i 0, i 3), ?_⟩
    funext c; apply Fin.ext
    match c with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    exact Shape.idx_ext₂ rfl rfl

/-- A host sum over the first and last of four axes. -/
theorem sum03 {n0 n1 n2 n3 : ℕ} (h : (⟨4, ![n0, n1, n2, n3]⟩ : Shape).ReducesTo [0, 3] ⟨2, ![n1, n2]⟩) (v : (⟨4, ![n0, n1, n2, n3]⟩ : Shape).Idx → EReal) (init : EReal) (a : Fin n1) (b : Fin n2) :
    Ideal.hostReduceAdd h v init (ix2 a b) = init + ∑ k0 : Fin n0, ∑ k1 : Fin n3, v (ix4 k0 a b k1) := by
  refine congrArg (init + ·) ((Finset.sum_filter_eq_sum_of_fiber _ (fun k : Fin n0 × Fin n3 => ix4 k.1 a b k.2) (fun _ _ e => Prod.ext (congrFun e 0) (congrFun e 3)) (fiber03 h a b) v).trans ?_)
  simp only [Fintype.sum_prod_type]

theorem zero_f32 : Ideal.ofBits .f32 0x00000000#32 = ((0 : ℝ) : EReal) := by
  simp [Ideal.ofBits, Ideal.ieee]

theorem v65_at (t : Fin 128) (g : Fin 6) : val_main_v65 (F := Ideal) (up (φ := .f32) P) (up (φ := .f32) D) (ix2 t g) = ((∑ n : Fin 64, dbT P D g t n : ℝ) : EReal) := by
  have e64 := fun n b => v64_at (P := P) (D := D) n t g b
  unfold val_main_v65
  generalize val_main_v64 (F := Ideal) (up (φ := .f32) P) (up (φ := .f32) D) = y at e64 ⊢
  refine (sum03 (n0 := 64) (n1 := 128) (n2 := 6) (n3 := 128) reducesTo_S64x128x6x128_S128x6_d0_3 y (Ideal.ofBits .f32 0x00000000#32) t g).trans ?_
  rw [zero_f32]
  simp only [e64, Reals.coe_sum]
  rw [← EReal.coe_add, zero_add]
  rfl

theorem v67_at (t : Fin 128) (g : Fin 6) : val_main_v67 (F := Ideal) (up (φ := .f32) P) (up (φ := .f32) D) (ix2 t g) = ((∑ n : Fin 64, dbT P D g t n : ℝ) : EReal) := by
  have e66 : ∀ (a : Fin 1) (b : Fin 1), val_main_v66 (F := Ideal) (up (φ := .f32) P) (up (φ := .f32) D) (ix4 a t g b) = ((∑ n : Fin 64, dbT P D g t n : ℝ) : EReal) := fun a b => by
    have ha : a = 0 := Subsingleton.elim _ _
    have hb : b = 0 := Subsingleton.elim _ _
    subst ha hb
    rw [val_main_v66_apply, show idx_main_v66 (ix4 0 t g 0) = ix2 t g from Shape.idx_ext₂ (by show (((0 * 128 + t.val) * 6 + g.val) * 1 + 0) / 6 = t.val; omega) (by show (((0 * 128 + t.val) * 6 + g.val) * 1 + 0) % 6 = g.val; omega), v65_at]
  unfold val_main_v67
  generalize val_main_v66 (F := Ideal) (up (φ := .f32) P) (up (φ := .f32) D) = y at e66 ⊢
  refine (sum03 (n0 := 1) (n1 := 128) (n2 := 6) (n3 := 1) reducesTo_S1x128x6x1_S128x6_d0_3 y (Ideal.ofBits .f32 0x00000000#32) t g).trans ?_
  rw [zero_f32]
  simp only [e66, Fin.sum_univ_one]
  rw [← EReal.coe_add, zero_add]

theorem v114_at (g : Fin 6) (t u : Fin 128) : val_main_v114 (F := Ideal) (up (φ := .f32) P) (up (φ := .f32) D) (ix3 g t u) = ((∑ n : Fin 64, dbT P D g t n : ℝ) : EReal) := by
  rw [val_main_v114_apply, val_main_v113_apply, val_main_v68_apply, show idx_main_v68 (idx_main_v113 (idx_main_v114 (ix3 g t u))) = ix2 t g from Shape.idx_ext₂ rfl rfl, v67_at]

theorem v76_at (l : Fin 768) : val_main_v76 (F := Ideal) (up (φ := .f32) P) (up (φ := .f32) D) (up (φ := .f32) W) (ix1 l) = ((∑ r : Fin 8192, dvnR P D W r l * vhR P r l : ℝ) : EReal) := by
  have e75 : ∀ r, val_main_v75 (F := Ideal) (up (φ := .f32) P) (up (φ := .f32) D) (up (φ := .f32) W) (ix2 r l) = ((dvnR P D W r l * vhR P r l : ℝ) : EReal) := fun r => by
    rw [val_main_v75_apply, v38_at, v74_at]
    refine (EReal.coe_mul _ _).symm.trans ?_
    rw [mul_comm]
  unfold val_main_v76
  generalize val_main_v75 (F := Ideal) (up (φ := .f32) P) (up (φ := .f32) D) (up (φ := .f32) W) = y at e75 ⊢
  pointwise [val_main_cst_15]
  simp only [e75, Reals.coe_sum]

theorem v80_at (l : Fin 768) : val_main_v80 (F := Ideal) (up (φ := .f32) P) (up (φ := .f32) D) (up (φ := .f32) W) (ix1 l) = ((∑ r : Fin 8192, dvnR P D W r l * vhR P r l : ℝ) : EReal) := by
  have e77 : ∀ a : Fin 1, val_main_v77 (F := Ideal) (up (φ := .f32) P) (up (φ := .f32) D) (up (φ := .f32) W) (ix2 a l) = ((∑ r : Fin 8192, dvnR P D W r l * vhR P r l : ℝ) : EReal) := fun a => by
    have ha : a = 0 := Subsingleton.elim _ _
    subst ha
    have e : idx_main_v77 (ix2 0 l) 0 = l := Fin.ext (by show 0 * 768 + l.val = l.val; omega)
    rw [val_main_v77_apply, show idx_main_v77 (ix2 0 l) = ix1 l from (eq_ix1 _).trans (congrArg ix1 e), v76_at]
  unfold val_main_v80
  generalize val_main_v77 (F := Ideal) (up (φ := .f32) P) (up (φ := .f32) D) (up (φ := .f32) W) = y at e77 ⊢
  pointwise [val_main_cst_16]
  simp only [e77, Fin.sum_univ_one]

theorem v115_at (a : Fin 1) (l : Fin 768) : val_main_v115 (F := Ideal) (up (φ := .f32) P) (up (φ := .f32) D) (up (φ := .f32) W) (ix2 a l) = ((∑ r : Fin 8192, dvnR P D W r l * vhR P r l : ℝ) : EReal) := by
  have ha : a = 0 := Subsingleton.elim _ _
  subst ha
  have e : idx_main_v115 (ix2 0 l) 0 = l := Fin.ext (by show 0 * 768 + l.val = l.val; omega)
  rw [val_main_v115_apply, show idx_main_v115 (ix2 0 l) = ix1 l from (eq_ix1 _).trans (congrArg ix1 e), v80_at]

/-! ## The norm's gradient, and the projection's cotangent -/

theorem v79_at (r : Fin 8192) (l : Fin 768) : val_main_v79 (F := Ideal) (up (φ := .f32) P) (up (φ := .f32) D) (up (φ := .f32) A) (up (φ := .f32) W) (ix2 r l) = ((dvnR P D W r l * A (ix1 l) : ℝ) : EReal) := by
  rw [val_main_v79_apply, v74_at, val_main_v78_apply, val_main_v39_apply, show idx_main_v39 (idx_main_v78 (ix2 r l)) = ix1 l from (eq_ix1 _).trans rfl]
  exact (EReal.coe_mul _ _).symm

/-- The inner product of a row with its cotangent. -/
def inner (P : S8192x1792.Idx → ℝ) (D : S8192x1024.Idx → ℝ) (A : S768.Idx → ℝ) (W : S6x128x128.Idx → ℝ) (r : Fin 8192) : ℝ := ∑ l : Fin 768, gelu (pv P r l) * (dvnR P D W r l * A (ix1 l))

theorem v82_at (r : Fin 8192) : val_main_v82 (F := Ideal) (up (φ := .f32) P) (up (φ := .f32) D) (up (φ := .f32) A) (up (φ := .f32) W) (ix1 r) = ((inner P D A W r : ℝ) : EReal) := by
  have e81 : ∀ l, val_main_v81 (F := Ideal) (up (φ := .f32) P) (up (φ := .f32) D) (up (φ := .f32) A) (up (φ := .f32) W) (ix2 r l) = ((gelu (pv P r l) * (dvnR P D W r l * A (ix1 l)) : ℝ) : EReal) := fun l => by
    rw [val_main_v81_apply, v25_at, v79_at]
    exact (EReal.coe_mul _ _).symm
  unfold val_main_v82
  generalize val_main_v81 (F := Ideal) (up (φ := .f32) P) (up (φ := .f32) D) (up (φ := .f32) A) (up (φ := .f32) W) = y at e81 ⊢
  pointwise [val_main_cst_17]
  simp only [e81, Reals.coe_sum]
  rfl

theorem v88_at (r : Fin 8192) : val_main_v88 (F := Ideal) (up (φ := .f32) P) (up (φ := .f32) D) (up (φ := .f32) A) (up (φ := .f32) W) (ix2 r 0) = ((inner P D A W r * (-(1 / 2) * (rsR P r / varR P r)) / 768 : ℝ) : EReal) := by
  have c : ∀ i, val_main_cst_18 (F := Ideal) i = ((768 : ℝ) : EReal) := fun i => Reals.n768_f32
  have e : idx_main_v83 (ix2 r 0) 0 = r := Fin.ext (by show r.val * 1 + 0 = r.val; omega)
  rw [val_main_v88_apply, val_main_v87_apply, c, val_main_v86_apply, v36_at, val_main_v83_apply, show idx_main_v83 (ix2 r 0) = ix1 r from (eq_ix1 _).trans (congrArg ix1 e), v82_at]
  show Ideal.div (((inner P D A W r : ℝ) : EReal) * ((-(1 / 2) * (rsR P r / varR P r) : ℝ) : EReal)) ((768 : ℝ) : EReal) = _
  rw [← EReal.coe_mul, Reals.div_real (by norm_num)]

theorem v90_at (r : Fin 8192) (l : Fin 768) : val_main_v90 (F := Ideal) (up (φ := .f32) P) (up (φ := .f32) D) (up (φ := .f32) A) (up (φ := .f32) W) (ix2 r l) = ((inner P D A W r * (-(1 / 2) * (rsR P r / varR P r)) / 768 : ℝ) : EReal) := by
  have e88 : ∀ a : Fin 1, val_main_v88 (F := Ideal) (up (φ := .f32) P) (up (φ := .f32) D) (up (φ := .f32) A) (up (φ := .f32) W) (ix2 r a) = ((inner P D A W r * (-(1 / 2) * (rsR P r / varR P r)) / 768 : ℝ) : EReal) := fun a => by
    have ha : a = 0 := Subsingleton.elim _ _
    subst ha
    exact v88_at r
  rw [val_main_v90_apply, show idx_main_v90 (ix2 r l) = ix1 r from (eq_ix1 _).trans rfl]
  unfold val_main_v89
  generalize val_main_v88 (F := Ideal) (up (φ := .f32) P) (up (φ := .f32) D) (up (φ := .f32) A) (up (φ := .f32) W) = y at e88 ⊢
  pointwise [val_main_cst_19]
  simp only [e88, Fin.sum_univ_one]

/-- The second half's cotangent before gelu's slope. -/
def dgl (P : S8192x1792.Idx → ℝ) (D : S8192x1024.Idx → ℝ) (A : S768.Idx → ℝ) (W : S6x128x128.Idx → ℝ) (r : Fin 8192) (l : Fin 768) : ℝ :=
  rsR P r * (dvnR P D W r l * A (ix1 l) - vhR P r l * ((∑ k : Fin 768, dvnR P D W r k * A (ix1 k) * vhR P r k) / 768))

theorem norm_grad (r : Fin 8192) (l : Fin 768) :
    dvnR P D W r l * A (ix1 l) * rsR P r + gelu (pv P r l) * (inner P D A W r * (-(1 / 2) * (rsR P r / varR P r)) / 768) + inner P D A W r * (-(1 / 2) * (rsR P r / varR P r)) / 768 * gelu (pv P r l)
      = dgl P D A W r l := by
  have q : rsR P r * rsR P r = 1 / varR P r := Reals.rsqrt_sq (varR_pos P r)
  have s : ∑ k : Fin 768, dvnR P D W r k * A (ix1 k) * vhR P r k = rsR P r * inner P D A W r := by
    unfold inner
    rw [Finset.mul_sum]
    refine Finset.sum_congr rfl fun k _ => ?_
    unfold vhR
    ring
  unfold dgl
  rw [s]
  have e : rsR P r * (dvnR P D W r l * A (ix1 l) - vhR P r l * (rsR P r * inner P D A W r / 768))
      = dvnR P D W r l * A (ix1 l) * rsR P r - gelu (pv P r l) * rsR P r * (rsR P r * rsR P r) * inner P D A W r / 768 := by
    unfold vhR
    ring
  rw [e, q]
  ring

theorem v94_at (r : Fin 8192) (l : Fin 768) : val_main_v94 (F := Ideal) (up (φ := .f32) P) (up (φ := .f32) D) (up (φ := .f32) A) (up (φ := .f32) W) (ix2 r l) = ((dgl P D A W r l : ℝ) : EReal) := by
  rw [val_main_v94_apply, val_main_v93_apply, val_main_v92_apply, val_main_v91_apply, val_main_v85_apply, v79_at, v90_at, v25_at, val_main_v84_apply, show idx_main_v84 (ix2 r l) = ix2 r 0 from Shape.idx_ext₂ rfl rfl, v33_at, ← norm_grad]
  simp only [EReal.coe_add, EReal.coe_mul]
  rfl

/-- The two halves' cotangents side by side, before gelu's slope. -/
def dcat (P : S8192x1792.Idx → ℝ) (D : S8192x1024.Idx → ℝ) (A : S768.Idx → ℝ) (W : S6x128x128.Idx → ℝ) (B : S6x128.Idx → ℝ) (r : Fin 8192) (l : Fin 1536) : ℝ :=
  if h : l.val < 768 then dyR D r ⟨l.val, h⟩ * mixR P A W B r ⟨l.val, h⟩ else dgl P D A W r ⟨l.val - 768, by omega⟩

theorem v97_at (r : Fin 8192) (l : Fin 1536) : val_main_v97 (F := Ideal) (up (φ := .f32) P) (up (φ := .f32) D) (up (φ := .f32) A) (up (φ := .f32) W) (up (φ := .f32) B) (ix2 r l) = ((dcat P D A W B r l : ℝ) : EReal) := by
  have c20 : ∀ i, val_main_cst_20 (F := Ideal) i = ((0 : ℝ) : EReal) := fun i => zero_f32
  have c21 : ∀ i, val_main_cst_21 (F := Ideal) i = ((0 : ℝ) : EReal) := fun i => zero_f32
  have e94 := fun l => v94_at (P := P) (D := D) (A := A) (W := W) r l
  have e63 := fun l => v63_at (P := P) (D := D) (A := A) (W := W) (B := B) r l
  rw [val_main_v97_apply]
  unfold val_main_v95 val_main_v96 dcat
  generalize val_main_v94 (F := Ideal) (up (φ := .f32) P) (up (φ := .f32) D) (up (φ := .f32) A) (up (φ := .f32) W) = y at e94 ⊢
  generalize val_main_v63 (F := Ideal) (up (φ := .f32) P) (up (φ := .f32) D) (up (φ := .f32) A) (up (φ := .f32) W) (up (φ := .f32) B) = z at e63 ⊢
  by_cases h : l.val < 768
  · have p1 : pad S8192x1536 ![0, 768] ![0, 0] ![0, 0] y (val_main_cst_20 (F := Ideal)) pads_S8192x768_S8192x1536_000_76800 h_S_ (ix2 r l) = val_main_cst_20 (F := Ideal) (Shape.Idx.first h_S_) :=
      pad_apply_of_not_inside _ _ _ _ _ _ _ _ 1 (fun hh => by have := hh.1; change 768 ≤ l.val at this; omega)
    have p2 : pad S8192x1536 ![0, 0] ![0, 768] ![0, 0] z (val_main_cst_21 (F := Ideal)) pads_S8192x768_S8192x1536_000_07680 h_S_ (ix2 r l) = z (ix2 r ⟨l.val, h⟩) :=
      pad_apply_of_inside _ _ _ _ _ _ _ _ _ (fun a => by
        match a with
        | ⟨0, _⟩ => show r.val = 0 + r.val * (0 + 1); omega
        | ⟨1, _⟩ => show l.val = 0 + l.val * (0 + 1); omega)
    rw [dif_pos h, p1, p2, c20, e63]
    refine (EReal.coe_add _ _).symm.trans ?_
    rw [zero_add]
  · have p1 : pad S8192x1536 ![0, 768] ![0, 0] ![0, 0] y (val_main_cst_20 (F := Ideal)) pads_S8192x768_S8192x1536_000_76800 h_S_ (ix2 r l) = y (ix2 r ⟨l.val - 768, by omega⟩) :=
      pad_apply_of_inside _ _ _ _ _ _ _ _ _ (fun a => by
        match a with
        | ⟨0, _⟩ => show r.val = 0 + r.val * (0 + 1); omega
        | ⟨1, _⟩ => show l.val = 768 + (l.val - 768) * (0 + 1); omega)
    have p2 : pad S8192x1536 ![0, 0] ![0, 768] ![0, 0] z (val_main_cst_21 (F := Ideal)) pads_S8192x768_S8192x1536_000_07680 h_S_ (ix2 r l) = val_main_cst_21 (F := Ideal) (Shape.Idx.first h_S_) :=
      pad_apply_of_not_inside _ _ _ _ _ _ _ _ 1 (fun hh => by have := hh.2.2; change (l.val - 0) / (0 + 1) < 768 at this; omega)
    rw [dif_neg h, p1, p2, c21, e94]
    refine (EReal.coe_add _ _).symm.trans ?_
    rw [add_zero]

/-- gelu's gradient, as the chain rule writes it. -/
theorem gelu_grad (y x : ℝ) :
    y * (1 / 2 * (1 + gth x)) + Reals.geluC * (1 / 2 * (x * y) * (1 - gth x * gth x)) + Reals.geluC * (1 / 2 * (x * y) * (1 - gth x * gth x)) / 200000 * 8943 * (3 * (x * x)) = y * slope x := by
  unfold Cert.GmlpIdeal.Value.slope
  ring

theorem v112_at (r : Fin 8192) (l : Fin 1536) : val_main_v112 (F := Ideal) (up (φ := .f32) P) (up (φ := .f32) D) (up (φ := .f32) A) (up (φ := .f32) W) (up (φ := .f32) B) (ix2 r l) = ((dpAll P D A W B r l : ℝ) : EReal) := by
  have c22 : ∀ i, val_main_cst_22 (F := Ideal) i = (((1 : ℝ) / 2 : ℝ) : EReal) := fun i => Reals.half_f32
  have c23 : ∀ i, val_main_cst_23 (F := Ideal) i = (Reals.geluC : EReal) := fun i => Reals.gelu_f32
  have c24 : ∀ i, val_main_cst_24 (F := Ideal) i = ((200000 : ℝ) : EReal) := fun i => n200000
  have c25 : ∀ i, val_main_cst_25 (F := Ideal) i = ((8943 : ℝ) : EReal) := fun i => n8943
  have e104 : val_main_v104 (F := Ideal) (up (φ := .f32) P) (up (φ := .f32) D) (up (φ := .f32) A) (up (φ := .f32) W) (up (φ := .f32) B) (ix2 r l)
      = ((Reals.geluC * (1 / 2 * (px P r l * dcat P D A W B r l) * (1 - gth (px P r l) * gth (px P r l))) : ℝ) : EReal) := by
    rw [val_main_v104_apply, val_main_v103_apply, c23, val_main_v102_apply, val_main_v101_apply, val_main_v100_apply, c22, val_main_v98_apply, v18_at, v97_at, v0_at]
    simp only [EReal.coe_mul]
    rfl
  have e107 : val_main_v107 (F := Ideal) (up (φ := .f32) P) (up (φ := .f32) D) (up (φ := .f32) A) (up (φ := .f32) W) (up (φ := .f32) B) (ix2 r l)
      = ((Reals.geluC * (1 / 2 * (px P r l * dcat P D A W B r l) * (1 - gth (px P r l) * gth (px P r l))) / 200000 : ℝ) : EReal) := by
    rw [val_main_v107_apply, val_main_v106_apply, c24, e104]
    exact Reals.div_real (by norm_num)
  have e : val_main_v112 (F := Ideal) (up (φ := .f32) P) (up (φ := .f32) D) (up (φ := .f32) A) (up (φ := .f32) W) (up (φ := .f32) B) (ix2 r l) = ((dcat P D A W B r l * slope (px P r l) : ℝ) : EReal) := by
    rw [val_main_v112_apply, val_main_v111_apply, val_main_v110_apply, val_main_v109_apply, val_main_v108_apply, c25, e107, v5_at, val_main_v105_apply, e104, val_main_v99_apply, v97_at, v22_at, ← gelu_grad]
    simp only [EReal.coe_add, EReal.coe_mul]
    rfl
  rw [e]
  refine congrArg _ ?_
  unfold dcat dpAll
  by_cases h : l.val < 768
  · rw [dif_pos h, dif_pos h]
    rfl
  · rw [dif_neg h, dif_neg h]
    have x : px P r l = pv P r ⟨l.val - 768, by omega⟩ := by
      unfold px pv
      refine congrArg P (Shape.idx_ext₂ rfl ?_)
      show l.val = 768 + (l.val - 768)
      omega
    rw [x]
    rfl

end Cert.GmlpRefIdeal.Read

/-! ## The claim -/

namespace Cert.Proof

open Idealize.ShloMosaic Idealize.ShloMosaic.TcCoe Idealize.SL.Sem

/-- The shape facts that the finiteness check states. -/
theorem facts_gmlp : Cert.Pre_finite_gmlp.Facts where
  bcast_S_S8192x1792 := by decide
  bcast_S_S8192x1024 := by decide
  bcast_S_S768 := by decide
  bcast_S_S6x128x128 := by decide
  bcast_S_S6x128 := by decide

/-- The precondition makes every argument a real array. -/
theorem gmlp_real (m : (ℓ : Loc Cert.GmlpIdeal.nD Cert.GmlpIdeal.τ Cert.GmlpIdeal.sig) → Buf (Elt Ideal) ℓ)
    (h : Pre_GmlpIdeal_finite_gmlp (hPre_finite_gmlp := facts_gmlp) m) (c : Dev Cert.GmlpIdeal.nD) :
    ∃ P D A W B, Cert.GmlpIdeal.Value.Real5 m c P D A W B := by
  obtain ⟨h0, h1, h2, h3, h4⟩ := h c
  have q : ∀ {S : Shape} (x : FVec Ideal S .f32), (∀ i, Ideal.cmp .olt (max (x i) (-(x i))) (Ideal.ofBits .f32 0x7F800000#32) = 1#1) → ∃ X : S.Idx → ℝ, x = fun i => ((X i : ℝ) : EReal) :=
    fun x hx => Cert.Reals.lift fun i => Cert.Reals.real_of_olt (by rw [← Cert.Reals.top_f32]; exact hx i)
  obtain ⟨P, hP⟩ := q _ (fun i => congrFun h0 i)
  obtain ⟨D, hD⟩ := q _ (fun i => congrFun h1 i)
  obtain ⟨A, hA⟩ := q _ (fun i => congrFun h2 i)
  obtain ⟨W, hW⟩ := q _ (fun i => congrFun h3 i)
  obtain ⟨B, hB⟩ := q _ (fun i => congrFun h4 i)
  exact ⟨P, D, A, W, B, hP, hD, hA, hW, hB⟩

theorem algebraic_gmlp : algebraic_GmlpIdeal_GmlpRefIdeal_pre_finite_gmlp (hGmlpIdeal := Cert.GmlpIdeal.Gen.facts) (hGmlpRefIdeal := Cert.GmlpRefIdeal.Gen.facts) (hPre_finite_gmlp := facts_gmlp) := by
  intro m g m' g' hp hm
  choose P D A W B H using gmlp_real m hp
  refine ⟨fun c => Cert.GmlpIdeal.Value.dpA (P c) (D c) (A c) (W c) (B c), fun c => Cert.GmlpIdeal.Value.dwA (P c) (D c) (A c), fun c => Cert.GmlpIdeal.Value.dbA (P c) (D c), fun c => Cert.GmlpIdeal.Value.dgA (P c) (D c) (W c), ?_, ?_⟩
  · refine (θ_run _ _ _).mono (fun r h c => ?_) (Cert.GmlpIdeal.Value.run_blocks m g)
    obtain ⟨h5, h6, h7, h8, h⟩ := h c
    exact ⟨h5.trans (Cert.GmlpIdeal.Value.arr5 m c (H c)), h6.trans (Cert.GmlpIdeal.Value.arr6 m c (H c)), h7.trans (Cert.GmlpIdeal.Value.arr7 m c (H c)), h8.trans (Cert.GmlpIdeal.Value.arr8 m c (H c)), h⟩
  · refine (θ_run _ _ _).mono (fun r h c => ?_) (Cert.GmlpRefIdeal.Value.run m' g')
    obtain ⟨h5, h6, h7, h8, h⟩ := h c
    obtain ⟨e0, e1, e2, e3, e4⟩ := hm c
    have e0 : StableHlo.launchContents m' c (Proc.devRef .tc Cert.GmlpRefIdeal.main_arg0) = fun i => ((P c i : ℝ) : EReal) := e0.trans (H c).p
    have e1 : StableHlo.launchContents m' c (Proc.devRef .tc Cert.GmlpRefIdeal.main_arg1) = fun i => ((D c i : ℝ) : EReal) := e1.trans (H c).d
    have e2 : StableHlo.launchContents m' c (Proc.devRef .tc Cert.GmlpRefIdeal.main_arg2) = fun i => ((A c i : ℝ) : EReal) := e2.trans (H c).a
    have e3 : StableHlo.launchContents m' c (Proc.devRef .tc Cert.GmlpRefIdeal.main_arg3) = fun i => ((W c i : ℝ) : EReal) := e3.trans (H c).w
    have e4 : StableHlo.launchContents m' c (Proc.devRef .tc Cert.GmlpRefIdeal.main_arg4) = fun i => ((B c i : ℝ) : EReal) := e4.trans (H c).b
    refine ⟨h5.trans ?_, h6.trans ?_, h7.trans ?_, h8.trans ?_, h⟩ <;> clear h5 h6 h7 h8 h hm hp
    · rw [Cert.GmlpRefIdeal.Read.val_main_v112_eq, e0, e1, e2, e3, e4]
      funext i
      obtain ⟨r, l, rfl⟩ : ∃ (r : Fin 8192) (l : Fin 1536), i = ix2 r l := ⟨i 0, i 1, eq_ix2 i⟩
      exact Cert.GmlpRefIdeal.Read.v112_at r l
    · rw [Cert.GmlpRefIdeal.Read.val_main_v73_eq, e0, e1, e2]
      funext i
      obtain ⟨g, t, s, rfl⟩ : ∃ (g : Fin 6) (t s : Fin 128), i = ix3 g t s := ⟨i 0, i 1, i 2, eq_ix3 i⟩
      exact Cert.GmlpRefIdeal.Read.v73_at g t s
    · rw [Cert.GmlpRefIdeal.Read.val_main_v114_eq, e0, e1]
      funext i
      obtain ⟨g, t, s, rfl⟩ : ∃ (g : Fin 6) (t s : Fin 128), i = ix3 g t s := ⟨i 0, i 1, i 2, eq_ix3 i⟩
      exact Cert.GmlpRefIdeal.Read.v114_at g t s
    · rw [Cert.GmlpRefIdeal.Read.val_main_v115_eq, e0, e1, e3]
      funext i
      obtain ⟨a, l, rfl⟩ : ∃ (a : Fin 1) (l : Fin 768), i = ix2 a l := ⟨i 0, i 1, eq_ix2 i⟩
      exact Cert.GmlpRefIdeal.Read.v115_at a l

end Cert.Proof
-- ==== Proof.GateValue.lean ====
/- The feed-forward's first call: the gate and the up product, and the gated activation. What the three output arrays hold,
   and that the reference's lines are the same; no number has to be finite. -/
module

public import proofs.«01_k».proof.Proof.Gen.GateIdeal.Value
public import proofs.«01_k».proof.Proof.Gen.GateRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.GateIdeal.Value

open Cert.GateIdeal Cert.GateIdeal.Gen Idealize.ShloMosaic Idealize.ShloMosaic.TcCoe Idealize.SL.Sem
open scoped BigOperators

variable (m : (ℓ : Loc nD τ sig) → Buf (Elt Ideal) ℓ)

/-- The block of `h` at grid point `n`: rows `512·(n mod 16) …`, all columns. -/
theorem iblk0_apply (c : Dev nD) (n : ℕ) (h : n < cfg0.N) (r : Fin 512) (l : Fin 1024) :
    iblk m c 0 ⟨n, h⟩ (ix2 r l) = m ((c : Thread nD τ).loc main_arg0) (ix2 ⟨n % 16 * 512 + r.val, by omega⟩ l) := by
  have e : ∀ t : Fin cfg0.N, win0_0.index t = ![t.val % 16, 0] := by decide +kernel
  blk_ext [iblk, V, e]

/-- The blocks of the two weights: all rows, columns `1408·(n / 16) …`. -/
theorem iblk1_apply (c : Dev nD) (n : ℕ) (h : n < cfg0.N) (r : Fin 1024) (l : Fin 1408) :
    iblk m c 1 ⟨n, h⟩ (ix2 r l) = m ((c : Thread nD τ).loc main_arg1) (ix2 r ⟨n / 16 % 2 * 1408 + l.val, by omega⟩) := by
  have e : ∀ t : Fin cfg0.N, win0_1.index t = ![0, t.val / 16 % 2] := by decide +kernel
  blk_ext [iblk, V, e]

theorem iblk2_apply (c : Dev nD) (n : ℕ) (h : n < cfg0.N) (r : Fin 1024) (l : Fin 1408) :
    iblk m c 2 ⟨n, h⟩ (ix2 r l) = m ((c : Thread nD τ).loc main_arg2) (ix2 r ⟨n / 16 % 2 * 1408 + l.val, by omega⟩) := by
  have e : ∀ t : Fin cfg0.N, win0_2.index t = ![0, t.val / 16 % 2] := by decide +kernel
  blk_ext [iblk, V, e]

/-- The two products of a block, and the gated one. -/
theorem pay3_apply (x : FVec Ideal S512x1024 .bf16) (w : FVec Ideal S1024x1408 .bf16) (r : Fin 512) (l : Fin 1408) :
    k0_pay3 (F := Ideal) x w (ix2 r l) = ∑ k : Fin 1024, x (ix2 r k) * w (ix2 k l) := by
  pointwise [k0_pay3, k0_pay1]

theorem pay4_apply (x : FVec Ideal S512x1024 .bf16) (w : FVec Ideal S1024x1408 .bf16) (r : Fin 512) (l : Fin 1408) :
    k0_pay4 (F := Ideal) x w (ix2 r l) = ∑ k : Fin 1024, x (ix2 r k) * w (ix2 k l) := by
  pointwise [k0_pay4, k0_pay2]

/-- The gated product of two numbers, as the reference writes it. -/
def gated (g u : EReal) : EReal := g * Ideal.div ((1 : ℝ) : EReal) (((1 : ℝ) : EReal) + Ideal.exp (-g)) * u

theorem pay5_apply (x : FVec Ideal S512x1024 .bf16) (w v : FVec Ideal S1024x1408 .bf16) (r : Fin 512) (l : Fin 1408) :
    k0_pay5 (F := Ideal) x w v (ix2 r l) = gated (∑ k : Fin 1024, x (ix2 r k) * w (ix2 k l)) (∑ k : Fin 1024, x (ix2 r k) * v (ix2 k l)) := by
  pointwise [k0_pay5, k0_pay2, k0_pay1]
  rw [Reals.half_f32, Reals.half_tanh_ext]
  rfl

/-- The product at an index of the array. -/
def prod (x : FVec Ideal S8192x1024 .bf16) (w : FVec Ideal S1024x2816 .bf16) (i : S8192x2816.Idx) : EReal :=
  ∑ k : Fin 1024, x (ix2 (i 0) k) * w (ix2 k (i 1))

def prodA (x : FVec Ideal S8192x1024 .bf16) (w : FVec Ideal S1024x2816 .bf16) : FVec Ideal S8192x2816 .bf16 := prod x w

def actA (x : FVec Ideal S8192x1024 .bf16) (w v : FVec Ideal S1024x2816 .bf16) : FVec Ideal S8192x2816 .bf16 := fun i => gated (prod x w i) (prod x v i)

theorem arr3 (c : Dev nD) : (dats m 0 c).arrAt 3 cfg0.N = prodA (m ((c : Thread nD τ).loc main_arg0)) (m ((c : Thread nD τ).loc main_arg1)) := by
  refine (dats m 0 c).arrAt_eq_of_covers 3 _ (by decide +kernel) fun t hf y => ?_
  have e : ∀ t : Fin cfg0.N, win0_3.index t = ![t.val % 16, t.val / 16 % 2] := by decide +kernel
  blk_simp
  rw [after0_3]
  frame_out
  obtain ⟨r, l, rfl⟩ : ∃ (r : Fin 512) (l : Fin 1408), y = ix2 r l := ⟨y 0, y 1, eq_ix2 y⟩
  have he : (win0_3.blk t).view.emb (ix2 r l) = ix2 (⟨t.val % 16 * 512 + r.val, by omega⟩ : Fin 8192) (⟨t.val / 16 % 2 * 1408 + l.val, by omega⟩ : Fin 2816) := by
    refine Shape.idx_ext₂ ?_ ?_ <;> blk_simp <;> rw [e] <;> rfl
  rw [he, pay3_apply]
  simp only [iblk0_apply m c t.val t.isLt, iblk1_apply m c t.val t.isLt]
  rfl

theorem arr4 (c : Dev nD) : (dats m 0 c).arrAt 4 cfg0.N = prodA (m ((c : Thread nD τ).loc main_arg0)) (m ((c : Thread nD τ).loc main_arg2)) := by
  refine (dats m 0 c).arrAt_eq_of_covers 4 _ (by decide +kernel) fun t hf y => ?_
  have e : ∀ t : Fin cfg0.N, win0_4.index t = ![t.val % 16, t.val / 16 % 2] := by decide +kernel
  blk_simp
  rw [after0_4]
  frame_out
  obtain ⟨r, l, rfl⟩ : ∃ (r : Fin 512) (l : Fin 1408), y = ix2 r l := ⟨y 0, y 1, eq_ix2 y⟩
  have he : (win0_4.blk t).view.emb (ix2 r l) = ix2 (⟨t.val % 16 * 512 + r.val, by omega⟩ : Fin 8192) (⟨t.val / 16 % 2 * 1408 + l.val, by omega⟩ : Fin 2816) := by
    refine Shape.idx_ext₂ ?_ ?_ <;> blk_simp <;> rw [e] <;> rfl
  rw [he, pay4_apply]
  simp only [iblk0_apply m c t.val t.isLt, iblk2_apply m c t.val t.isLt]
  rfl

theorem arr5 (c : Dev nD) : (dats m 0 c).arrAt 5 cfg0.N = actA (m ((c : Thread nD τ).loc main_arg0)) (m ((c : Thread nD τ).loc main_arg1)) (m ((c : Thread nD τ).loc main_arg2)) := by
  refine (dats m 0 c).arrAt_eq_of_covers 5 _ (by decide +kernel) fun t hf y => ?_
  have e : ∀ t : Fin cfg0.N, win0_5.index t = ![t.val % 16, t.val / 16 % 2] := by decide +kernel
  blk_simp
  rw [after0_5]
  frame_out
  obtain ⟨r, l, rfl⟩ : ∃ (r : Fin 512) (l : Fin 1408), y = ix2 r l := ⟨y 0, y 1, eq_ix2 y⟩
  have he : (win0_5.blk t).view.emb (ix2 r l) = ix2 (⟨t.val % 16 * 512 + r.val, by omega⟩ : Fin 8192) (⟨t.val / 16 % 2 * 1408 + l.val, by omega⟩ : Fin 2816) := by
    refine Shape.idx_ext₂ ?_ ?_ <;> blk_simp <;> rw [e] <;> rfl
  rw [he, pay5_apply]
  simp only [iblk0_apply m c t.val t.isLt, iblk1_apply m c t.val t.isLt, iblk2_apply m c t.val t.isLt]
  rfl

end Cert.GateIdeal.Value

/-! ## The claim -/

namespace Cert.Proof

open Idealize.ShloMosaic Idealize.ShloMosaic.TcCoe Idealize.SL.Sem

theorem algebraic_gate : algebraic_GateIdeal_GateRefIdeal (hGateIdeal := Cert.GateIdeal.Gen.facts) (hGateRefIdeal := Cert.GateRefIdeal.Gen.facts) := by
  intro m g m' g' _ hm
  refine ⟨fun c => Cert.GateIdeal.Value.prodA (m ((c.tc : Thread _ _).loc Cert.GateIdeal.main_arg0)) (m ((c.tc : Thread _ _).loc Cert.GateIdeal.main_arg1)),
    fun c => Cert.GateIdeal.Value.prodA (m ((c.tc : Thread _ _).loc Cert.GateIdeal.main_arg0)) (m ((c.tc : Thread _ _).loc Cert.GateIdeal.main_arg2)),
    fun c => Cert.GateIdeal.Value.actA (m ((c.tc : Thread _ _).loc Cert.GateIdeal.main_arg0)) (m ((c.tc : Thread _ _).loc Cert.GateIdeal.main_arg1)) (m ((c.tc : Thread _ _).loc Cert.GateIdeal.main_arg2)), ?_, ?_⟩
  · refine (θ_run _ _ _).mono (fun r h c => ?_) (Cert.GateIdeal.Value.run_blocks m g)
    obtain ⟨h3, h4, h5, h⟩ := h c
    exact ⟨h3.trans (Cert.GateIdeal.Value.arr3 m c), h4.trans (Cert.GateIdeal.Value.arr4 m c), h5.trans (Cert.GateIdeal.Value.arr5 m c), h⟩
  · refine (θ_run _ _ _).mono (fun r h c => ?_) (Cert.GateRefIdeal.Value.run m' g')
    obtain ⟨h3, h4, h5, h⟩ := h c
    obtain ⟨e0, e1, e2⟩ := hm c
    refine ⟨h3.trans ?_, h4.trans ?_, h5.trans ?_, h⟩
    · rw [e0, e1]
      funext i
      obtain ⟨r, l, rfl⟩ : ∃ (r : Fin 8192) (l : Fin 2816), i = ix2 r l := ⟨i 0, i 1, eq_ix2 i⟩
      unfold Cert.GateIdeal.Value.prodA Cert.GateIdeal.Value.prod
      pointwise []
    · rw [e0, e2]
      funext i
      obtain ⟨r, l, rfl⟩ : ∃ (r : Fin 8192) (l : Fin 2816), i = ix2 r l := ⟨i 0, i 1, eq_ix2 i⟩
      unfold Cert.GateIdeal.Value.prodA Cert.GateIdeal.Value.prod
      pointwise []
    · rw [e0, e1, e2]
      funext i
      obtain ⟨r, l, rfl⟩ : ∃ (r : Fin 8192) (l : Fin 2816), i = ix2 r l := ⟨i 0, i 1, eq_ix2 i⟩
      unfold Cert.GateIdeal.Value.actA Cert.GateIdeal.Value.gated Cert.GateIdeal.Value.prod
      pointwise []
      rfl

end Cert.Proof

end
-- ==== Proof.JoinValue.lean ====
/- The down-projection with the residual and the next norm: the two output arrays hold the new stream and its normalized
   rows, and the reference's lines are the same; no number has to be finite. -/
module

public import proofs.«01_k».proof.Proof.Gen.JoinIdeal.Value
public import proofs.«01_k».proof.Proof.Gen.JoinRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.JoinIdeal.Value

open Cert.JoinIdeal Cert.JoinIdeal.Gen Idealize.ShloMosaic Idealize.ShloMosaic.TcCoe Idealize.SL.Sem
open scoped BigOperators

variable (m : (ℓ : Loc nD τ sig) → Buf (Elt Ideal) ℓ)

theorem iblk0_apply (c : Dev nD) (n : ℕ) (h : n < cfg0.N) (r : Fin 512) (l : Fin 2816) :
    iblk m c 0 ⟨n, h⟩ (ix2 r l) = m ((c : Thread nD τ).loc main_arg0) (ix2 ⟨n % 16 * 512 + r.val, by omega⟩ l) := by
  have e : ∀ t : Fin cfg0.N, win0_0.index t = ![t.val % 16, 0] := by decide +kernel
  blk_ext [iblk, V, e]

theorem iblk1_apply (c : Dev nD) (n : ℕ) (h : n < cfg0.N) (r : Fin 2816) (l : Fin 1024) :
    iblk m c 1 ⟨n, h⟩ (ix2 r l) = m ((c : Thread nD τ).loc main_arg1) (ix2 r l) := by
  have e : ∀ t : Fin cfg0.N, win0_1.index t = ![0, 0] := by decide +kernel
  blk_ext [iblk, V, e]

theorem iblk2_apply (c : Dev nD) (n : ℕ) (h : n < cfg0.N) (r : Fin 512) (l : Fin 1024) :
    iblk m c 2 ⟨n, h⟩ (ix2 r l) = m ((c : Thread nD τ).loc main_arg2) (ix2 ⟨n % 16 * 512 + r.val, by omega⟩ l) := by
  have e : ∀ t : Fin cfg0.N, win0_2.index t = ![t.val % 16, 0] := by decide +kernel
  blk_ext [iblk, V, e]

/-- The gain's row, which the host gives the kernel as a matrix of one row. -/
theorem iblk3_apply (c : Dev nD) (n : ℕ) (h : n < cfg0.N) (l : Fin 1024) :
    iblk m c 3 ⟨n, h⟩ (ix2 0 l) = m ((c : Thread nD τ).loc main_arg3) (ix1 l) := by
  have e : ∀ t : Fin cfg0.N, win0_3.index t = ![0, 0] := by decide +kernel
  have q : V m c main_v0 (ix2 0 l) = m ((c : Thread nD τ).loc main_arg3) (ix1 l) := by
    rw [show V m c main_v0 = shapeCast (α := EReal) S1x1024 (m ((c : Thread nD τ).loc main_arg3)) shapeCasts_S1024_S1x1024 by entry_read; rfl]
    pointwise []
  rw [← q]
  generalize hV : V m c main_v0 = v
  unfold iblk
  rw [show V m c (Pipeline.arrRef spec0 3) = v from hV]
  blk_ext [e]

/-- Half the product and the residual at a place: `a` the activations' row, `w` the weight's column. -/
def pre (a w : Fin 2816 → EReal) (x : EReal) : EReal := (∑ k, a k * w k) * Ideal.ofBits .f32 0x3F000000#32 + x

/-- A row's normalized element: `y` the row, `g` the gain there. -/
def norm (y : Fin 1024 → EReal) (g : EReal) (l : Fin 1024) : EReal :=
  y l * Ideal.rsqrt (Ideal.div (∑ k, y k * y k) (Ideal.ofBits .f32 0x44800000#32) + Ideal.ofBits .f32 0x358637BD#32) * g

theorem pay1_apply (a : FVec Ideal S512x2816 .bf16) (w : FVec Ideal S2816x1024 .bf16) (x : FVec Ideal S512x1024 .f32) (r : Fin 512) (l : Fin 1024) :
    k0_pay1 (F := Ideal) a w x (ix2 r l) = pre (fun k => a (ix2 r k)) (fun k => w (ix2 k l)) (x (ix2 r l)) := by
  pointwise [k0_pay1]
  rfl

theorem pay2_apply (a : FVec Ideal S512x2816 .bf16) (w : FVec Ideal S2816x1024 .bf16) (x : FVec Ideal S512x1024 .f32) (g : FVec Ideal S1x1024 .f32) (r : Fin 512) (l : Fin 1024) :
    k0_pay2 (F := Ideal) a w x g (ix2 r l) = norm (fun l => pre (fun k => a (ix2 r k)) (fun k => w (ix2 k l)) (x (ix2 r l))) (g (ix2 0 l)) l := by
  have e := fun l => pay1_apply a w x r l
  unfold k0_pay2
  generalize k0_pay1 (F := Ideal) a w x = y at e ⊢
  pointwise []
  simp only [e]
  rfl

/-- The new stream. -/
def out (a : FVec Ideal S8192x2816 .bf16) (w : FVec Ideal S2816x1024 .bf16) (x : FVec Ideal S8192x1024 .f32) : FVec Ideal S8192x1024 .f32 := fun i =>
  pre (fun k => a (ix2 (i 0) k)) (fun k => w (ix2 k (i 1))) (x (ix2 (i 0) (i 1)))

/-- Its normalized rows. -/
def nxt (a : FVec Ideal S8192x2816 .bf16) (w : FVec Ideal S2816x1024 .bf16) (x : FVec Ideal S8192x1024 .f32) (g : FVec Ideal S1024 .f32) : FVec Ideal S8192x1024 .bf16 := fun i =>
  norm (fun l => pre (fun k => a (ix2 (i 0) k)) (fun k => w (ix2 k l)) (x (ix2 (i 0) l))) (g (ix1 (i 1))) (i 1)

theorem arr4 (c : Dev nD) : (dats m 0 c).arrAt 4 cfg0.N = out (m ((c : Thread nD τ).loc main_arg0)) (m ((c : Thread nD τ).loc main_arg1)) (m ((c : Thread nD τ).loc main_arg2)) := by
  refine (dats m 0 c).arrAt_eq_of_covers 4 _ (by decide +kernel) fun t hf y => ?_
  have e : ∀ t : Fin cfg0.N, win0_4.index t = ![t.val % 16, 0] := by decide +kernel
  blk_simp
  rw [after0_4]
  frame_out
  obtain ⟨r, l, rfl⟩ : ∃ (r : Fin 512) (l : Fin 1024), y = ix2 r l := ⟨y 0, y 1, eq_ix2 y⟩
  have he : (win0_4.blk t).view.emb (ix2 r l) = ix2 (⟨t.val % 16 * 512 + r.val, by omega⟩ : Fin 8192) l := by
    refine Shape.idx_ext₂ ?_ ?_ <;> blk_simp <;> rw [e] <;> simp
  rw [he, pay1_apply]
  simp only [iblk0_apply m c t.val t.isLt, iblk1_apply m c t.val t.isLt, iblk2_apply m c t.val t.isLt]
  rfl

theorem arr5 (c : Dev nD) : (dats m 0 c).arrAt 5 cfg0.N = nxt (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have e : ∀ t : Fin cfg0.N, win0_5.index t = ![t.val % 16, 0] := by decide +kernel
  blk_simp
  rw [after0_5]
  frame_out
  obtain ⟨r, l, rfl⟩ : ∃ (r : Fin 512) (l : Fin 1024), y = ix2 r l := ⟨y 0, y 1, eq_ix2 y⟩
  have he : (win0_5.blk t).view.emb (ix2 r l) = ix2 (⟨t.val % 16 * 512 + r.val, by omega⟩ : Fin 8192) l := by
    refine Shape.idx_ext₂ ?_ ?_ <;> blk_simp <;> rw [e] <;> simp
  rw [he, pay2_apply]
  simp only [iblk0_apply m c t.val t.isLt, iblk1_apply m c t.val t.isLt, iblk2_apply m c t.val t.isLt, iblk3_apply m c t.val t.isLt]
  rfl

end Cert.JoinIdeal.Value

/-! ## The claim -/

namespace Cert.Proof

open Idealize.ShloMosaic Idealize.ShloMosaic.TcCoe Idealize.SL.Sem

theorem algebraic_join : algebraic_JoinIdeal_JoinRefIdeal (hJoinIdeal := Cert.JoinIdeal.Gen.facts) (hJoinRefIdeal := Cert.JoinRefIdeal.Gen.facts) := by
  intro m g m' g' _ hm
  refine ⟨fun c => Cert.JoinIdeal.Value.out (m ((c.tc : Thread _ _).loc Cert.JoinIdeal.main_arg0)) (m ((c.tc : Thread _ _).loc Cert.JoinIdeal.main_arg1)) (m ((c.tc : Thread _ _).loc Cert.JoinIdeal.main_arg2)), fun c => Cert.JoinIdeal.Value.nxt (m ((c.tc : Thread _ _).loc Cert.JoinIdeal.main_arg0)) (m ((c.tc : Thread _ _).loc Cert.JoinIdeal.main_arg1)) (m ((c.tc : Thread _ _).loc Cert.JoinIdeal.main_arg2)) (m ((c.tc : Thread _ _).loc Cert.JoinIdeal.main_arg3)), ?_, ?_⟩
  · refine (θ_run _ _ _).mono (fun r h c => ?_) (Cert.JoinIdeal.Value.run_blocks m g)
    obtain ⟨h0, h1, h⟩ := h c
    exact ⟨h0.trans (Cert.JoinIdeal.Value.arr4 m c), h1.trans (Cert.JoinIdeal.Value.arr5 m c), h⟩
  · refine (θ_run _ _ _).mono (fun r h c => ?_) (Cert.JoinRefIdeal.Value.run m' g')
    obtain ⟨h0, h1, h⟩ := h c
    obtain ⟨e0, e1, e2, e3⟩ := hm c
    refine ⟨h0.trans ?_, h1.trans ?_, h⟩
    · rw [e0, e1, e2]
      funext i
      obtain ⟨r, l, rfl⟩ : ∃ (r : Fin 8192) (l : Fin 1024), i = ix2 r l := ⟨i 0, i 1, eq_ix2 i⟩
      unfold Cert.JoinIdeal.Value.out Cert.JoinIdeal.Value.pre
      pointwise []
      rw [add_comm, mul_comm]
    · rw [e0, e1, e2, e3]
      funext i
      obtain ⟨r, l, rfl⟩ : ∃ (r : Fin 8192) (l : Fin 1024), i = ix2 r l := ⟨i 0, i 1, eq_ix2 i⟩
      unfold Cert.JoinIdeal.Value.nxt Cert.JoinIdeal.Value.norm Cert.JoinIdeal.Value.pre
      pointwise []
      have q : ∀ (b : EReal) (s x : EReal), x + b * s = s * b + x := fun b s x => by rw [add_comm, mul_comm]
      simp only [q, ix2_0, ix2_1]

end Cert.Proof

end
-- ==== Proof.ProjValue.lean ====
/- The mixer's input projection, of the first layer: the output array holds the product, and the reference's is the same. -/
module

public import proofs.«01_k».proof.Proof.Gen.ProjIdeal.Value
public import proofs.«01_k».proof.Proof.Gen.ProjRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.ProjIdeal.Value

open Cert.ProjIdeal Cert.ProjIdeal.Gen Idealize.ShloMosaic Idealize.ShloMosaic.TcCoe Idealize.SL.Sem
open scoped BigOperators

variable (m : (ℓ : Loc nD τ sig) → Buf (Elt Ideal) ℓ)

/-- The block of the left array at grid point `n`: rows `512·(n mod 16) …`, all columns. -/
theorem iblk0_apply (c : Dev nD) (n : ℕ) (h : n < cfg0.N) (r : Fin 512) (l : Fin 1024) :
    iblk m c 0 ⟨n, h⟩ (ix2 r l) = m ((c : Thread nD τ).loc main_arg0) (ix2 ⟨n % 16 * 512 + r.val, by omega⟩ l) := by
  have e : ∀ t : Fin cfg0.N, win0_0.index t = ![t.val % 16, 0] := by decide +kernel
  blk_ext [iblk, V, e]

/-- The block of the stacked weights: the first layer's. -/
theorem iblk1_apply (c : Dev nD) (n : ℕ) (h : n < cfg0.N) (r : Fin 1024) (l : Fin 896) :
    iblk m c 1 ⟨n, h⟩ (ix3 0 r l) = m ((c : Thread nD τ).loc main_arg1) (ix3 0 r ⟨n / 16 % 2 * 896 + l.val, by omega⟩) := by
  have e : ∀ t : Fin cfg0.N, win0_1.index t = ![0, 0, t.val / 16 % 2] := by decide +kernel
  blk_ext [iblk, V, e]

/-- A block's product. -/
theorem pay1_apply (x : FVec Ideal S512x1024 .bf16) (w : FVec Ideal S1x1024x896 .bf16) (r : Fin 512) (l : Fin 896) :
    k0_pay1 (F := Ideal) x w (ix2 r l) = ∑ k : Fin 1024, x (ix2 r k) * w (ix3 0 k l) := by
  pointwise [k0_pay1]

/-- The product at an index of the array. -/
def prod (x : FVec Ideal S8192x1024 .bf16) (w : FVec Ideal S2x1024x1792 .bf16) : FVec Ideal S8192x1792 .f32 := fun i =>
  ∑ k : Fin 1024, x (ix2 (i 0) k) * w (ix3 0 k (i 1))

theorem arr2 (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have e : ∀ t : Fin cfg0.N, win0_2.index t = ![t.val % 16, t.val / 16 % 2] := by decide +kernel
  blk_simp
  rw [after0_2]
  frame_out
  obtain ⟨r, l, rfl⟩ : ∃ (r : Fin 512) (l : Fin 896), y = ix2 r l := ⟨y 0, y 1, eq_ix2 y⟩
  have he : (win0_2.blk t).view.emb (ix2 r l) = ix2 (⟨t.val % 16 * 512 + r.val, by omega⟩ : Fin 8192) (⟨t.val / 16 % 2 * 896 + l.val, by omega⟩ : Fin 1792) := by
    refine Shape.idx_ext₂ ?_ ?_ <;> blk_simp <;> rw [e] <;> rfl
  rw [he, pay1_apply]
  simp only [iblk0_apply m c t.val t.isLt, iblk1_apply m c t.val t.isLt]
  rfl

end Cert.ProjIdeal.Value

/-! ## The claim -/

namespace Cert.Proof

open Idealize.ShloMosaic Idealize.ShloMosaic.TcCoe Idealize.SL.Sem

theorem algebraic_proj : algebraic_ProjIdeal_ProjRefIdeal (hProjIdeal := Cert.ProjIdeal.Gen.facts) (hProjRefIdeal := Cert.ProjRefIdeal.Gen.facts) := by
  intro m g m' g' _ hm
  refine ⟨fun c => Cert.ProjIdeal.Value.prod (m ((c.tc : Thread _ _).loc Cert.ProjIdeal.main_arg0)) (m ((c.tc : Thread _ _).loc Cert.ProjIdeal.main_arg1)), ?_, ?_⟩
  · refine (θ_run _ _ _).mono (fun r h c => ?_) (Cert.ProjIdeal.Value.run_blocks m g)
    obtain ⟨h0, h⟩ := h c
    exact ⟨h0.trans (Cert.ProjIdeal.Value.arr2 m c), h⟩
  · refine (θ_run _ _ _).mono (fun r h c => ?_) (Cert.ProjRefIdeal.Value.run m' g')
    obtain ⟨h0, h⟩ := h c
    obtain ⟨e0, e1⟩ := hm c
    refine ⟨h0.trans ?_, h⟩
    rw [e0, e1]
    funext i
    obtain ⟨r, l, rfl⟩ : ∃ (r : Fin 8192) (l : Fin 1792), i = ix2 r l := ⟨i 0, i 1, eq_ix2 i⟩
    unfold Cert.ProjIdeal.Value.prod
    pointwise []

end Cert.Proof

end
-- ==== Proof.BlendValue.lean ====
/- The mixer's output projection, of the first layer, with the residual and the next norm: the two parts of the product are
   the product with the joined rows; no number has to be finite. -/
module

public import proofs.«01_k».proof.Proof.Gen.BlendIdeal.Value
public import proofs.«01_k».proof.Proof.Gen.BlendRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.BlendIdeal.Value

open Cert.BlendIdeal Cert.BlendIdeal.Gen Idealize.ShloMosaic Idealize.ShloMosaic.TcCoe Idealize.SL.Sem
open scoped BigOperators

variable (m : (ℓ : Loc nD τ sig) → Buf (Elt Ideal) ℓ)

theorem iblk0_apply (c : Dev nD) (n : ℕ) (h : n < cfg0.N) (r : Fin 512) (l : Fin 768) :
    iblk m c 0 ⟨n, h⟩ (ix2 r l) = m ((c : Thread nD τ).loc main_arg0) (ix2 ⟨n % 16 * 512 + r.val, by omega⟩ l) := by
  have e : ∀ t : Fin cfg0.N, win0_0.index t = ![t.val % 16, 0] := by decide +kernel
  blk_ext [iblk, V, e]

theorem iblk2_apply (c : Dev nD) (n : ℕ) (h : n < cfg0.N) (r : Fin 512) (l : Fin 256) :
    iblk m c 2 ⟨n, h⟩ (ix2 r l) = m ((c : Thread nD τ).loc main_arg1) (ix2 ⟨n % 16 * 512 + r.val, by omega⟩ l) := by
  have e : ∀ t : Fin cfg0.N, win0_2.index t = ![t.val % 16, 0] := by decide +kernel
  blk_ext [iblk, V, e]

theorem iblk4_apply (c : Dev nD) (n : ℕ) (h : n < cfg0.N) (r : Fin 512) (l : Fin 1024) :
    iblk m c 4 ⟨n, h⟩ (ix2 r l) = m ((c : Thread nD τ).loc main_arg3) (ix2 ⟨n % 16 * 512 + r.val, by omega⟩ l) := by
  have e : ∀ t : Fin cfg0.N, win0_4.index t = ![t.val % 16, 0] := by decide +kernel
  blk_ext [iblk, V, e]

/-- The weight's first 768 rows; their block does not divide the array, but the one block read lies inside. -/
theorem wblk1_apply (c : Dev nD) (n : ℕ) (h : n < cfg0.N) (r : Fin 768) (l : Fin 1024) :
    X0_1 m c ⟨n, h⟩ (ix3 0 r l) = m ((c : Thread nD τ).loc main_arg2) (ix3 0 ⟨r.val, by omega⟩ l) := by
  have e : ∀ t : Fin cfg0.N, win0_1.index t = ![0, 0, 0] := by decide +kernel
  unfold X0_1 Pipeline.Window.fill
  rw [dif_pos (moved0_1 ⟨n, h⟩ _)]
  blk_ext [iblk, V, e]

/-- The weight's last 256 rows. -/
theorem iblk3_apply (c : Dev nD) (n : ℕ) (h : n < cfg0.N) (r : Fin 256) (l : Fin 1024) :
    iblk m c 3 ⟨n, h⟩ (ix3 0 r l) = m ((c : Thread nD τ).loc main_arg2) (ix3 0 ⟨768 + r.val, by omega⟩ l) := by
  have e : ∀ t : Fin cfg0.N, win0_3.index t = ![0, 3, 0] := by decide +kernel
  blk_ext [iblk, V, e]

/-- The gain's row, which the host gives the kernel as a matrix of one row. -/
theorem iblk5_apply (c : Dev nD) (n : ℕ) (h : n < cfg0.N) (l : Fin 1024) :
    iblk m c 5 ⟨n, h⟩ (ix2 0 l) = m ((c : Thread nD τ).loc main_arg4) (ix1 l) := by
  have e : ∀ t : Fin cfg0.N, win0_5.index t = ![0, 0] := by decide +kernel
  have q : V m c main_v0 (ix2 0 l) = m ((c : Thread nD τ).loc main_arg4) (ix1 l) := by
    rw [show V m c main_v0 = shapeCast (α := EReal) S1x1024 (m ((c : Thread nD τ).loc main_arg4)) shapeCasts_S1024_S1x1024 by entry_read; rfl]
    pointwise []
  rw [← q]
  generalize hV : V m c main_v0 = v
  unfold iblk
  rw [show V m c (Pipeline.arrRef spec0 5) = v from hV]
  blk_ext [e]

/-- The two products' sum and the residual at a place. -/
def pre (a v : Fin 768 → EReal) (b w : Fin 256 → EReal) (x : EReal) : EReal := (∑ k, a k * v k) + (∑ k, b k * w k) + x

/-- A row's normalized element: `y` the row, `g` the gain there. -/
def norm (y : Fin 1024 → EReal) (g : EReal) (l : Fin 1024) : EReal :=
  y l * Ideal.rsqrt (Ideal.div (∑ k, y k * y k) (Ideal.ofBits .f32 0x44800000#32) + Ideal.ofBits .f32 0x358637BD#32) * g

theorem pay1_apply (a : FVec Ideal S512x768 .bf16) (v : FVec Ideal S1x768x1024 .bf16) (b : FVec Ideal S512x256 .bf16) (w : FVec Ideal S1x256x1024 .bf16)
    (x : FVec Ideal S512x1024 .f32) (r : Fin 512) (l : Fin 1024) :
    k0_pay1 (F := Ideal) a v b w x (ix2 r l) = pre (fun k => a (ix2 r k)) (fun k => v (ix3 0 k l)) (fun k => b (ix2 r k)) (fun k => w (ix3 0 k l)) (x (ix2 r l)) := by
  pointwise [k0_pay1]
  rfl

theorem pay2_apply (a : FVec Ideal S512x768 .bf16) (v : FVec Ideal S1x768x1024 .bf16) (b : FVec Ideal S512x256 .bf16) (w : FVec Ideal S1x256x1024 .bf16)
    (x : FVec Ideal S512x1024 .f32) (g : FVec Ideal S1x1024 .f32) (r : Fin 512) (l : Fin 1024) :
    k0_pay2 (F := Ideal) a v b w x g (ix2 r l)
      = norm (fun l => pre (fun k => a (ix2 r k)) (fun k => v (ix3 0 k l)) (fun k => b (ix2 r k)) (fun k => w (ix3 0 k l)) (x (ix2 r l))) (g (ix2 0 l)) l := by
  have e := fun l => pay1_apply a v b w x r l
  unfold k0_pay2
  generalize k0_pay1 (F := Ideal) a v b w x = y at e ⊢
  pointwise []
  simp only [e]
  rfl

/-- The new stream at a place. -/
def at_ (a : FVec Ideal S8192x768 .bf16) (b : FVec Ideal S8192x256 .bf16) (w : FVec Ideal S2x1024x1024 .bf16) (x : FVec Ideal S8192x1024 .f32) (r : Fin 8192) (l : Fin 1024) : EReal :=
  pre (fun k => a (ix2 r k)) (fun k => w (ix3 0 ⟨k.val, by omega⟩ l)) (fun k => b (ix2 r k)) (fun k => w (ix3 0 ⟨768 + k.val, by omega⟩ l)) (x (ix2 r l))

/-- The new stream. -/
def out (a : FVec Ideal S8192x768 .bf16) (b : FVec Ideal S8192x256 .bf16) (w : FVec Ideal S2x1024x1024 .bf16) (x : FVec Ideal S8192x1024 .f32) : FVec Ideal S8192x1024 .f32 := fun i =>
  at_ a b w x (i 0) (i 1)

/-- Its normalized rows. -/
def nxt (a : FVec Ideal S8192x768 .bf16) (b : FVec Ideal S8192x256 .bf16) (w : FVec Ideal S2x1024x1024 .bf16) (x : FVec Ideal S8192x1024 .f32) (g : FVec Ideal S1024 .f32) : FVec Ideal S8192x1024 .bf16 := fun i =>
  norm (fun l => at_ a b w x (i 0) l) (g (ix1 (i 1))) (i 1)

theorem outs6 (c : Dev nD) (t : Fin cfg0.N) : (outsAt0 m c t).1 = k0_pay1 (F := Ideal) (iblk m c 0 t) (X0_1 m c t) (iblk m c 2 t) (iblk m c 3 t) (iblk m c 4 t) := by
  unfold outsAt0
  frame_out

theorem outs7 (c : Dev nD) (t : Fin cfg0.N) : (outsAt0 m c t).2 = k0_pay2 (F := Ideal) (iblk m c 0 t) (X0_1 m c t) (iblk m c 2 t) (iblk m c 3 t) (iblk m c 4 t) (iblk m c 5 t) := by
  unfold outsAt0
  frame_out

theorem arr6 (c : Dev nD) : (dats m 0 c).arrAt 6 cfg0.N = out (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have e : ∀ t : Fin cfg0.N, win0_6.index t = ![t.val % 16, 0] := by decide +kernel
  blk_simp
  rw [after0_6, outs6]
  obtain ⟨r, l, rfl⟩ : ∃ (r : Fin 512) (l : Fin 1024), y = ix2 r l := ⟨y 0, y 1, eq_ix2 y⟩
  have he : (win0_6.blk t).view.emb (ix2 r l) = ix2 (⟨t.val % 16 * 512 + r.val, by omega⟩ : Fin 8192) l := by
    refine Shape.idx_ext₂ ?_ ?_ <;> blk_simp <;> rw [e] <;> simp
  rw [he, pay1_apply]
  simp only [wblk1_apply m c t.val t.isLt, iblk0_apply m c t.val t.isLt, iblk2_apply m c t.val t.isLt, iblk3_apply m c t.val t.isLt, iblk4_apply m c t.val t.isLt]
  rfl

theorem arr7 (c : Dev nD) : (dats m 0 c).arrAt 7 cfg0.N = nxt (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have e : ∀ t : Fin cfg0.N, win0_7.index t = ![t.val % 16, 0] := by decide +kernel
  blk_simp
  rw [after0_7, outs7]
  obtain ⟨r, l, rfl⟩ : ∃ (r : Fin 512) (l : Fin 1024), y = ix2 r l := ⟨y 0, y 1, eq_ix2 y⟩
  have he : (win0_7.blk t).view.emb (ix2 r l) = ix2 (⟨t.val % 16 * 512 + r.val, by omega⟩ : Fin 8192) l := by
    refine Shape.idx_ext₂ ?_ ?_ <;> blk_simp <;> rw [e] <;> simp
  rw [he, pay2_apply]
  simp only [wblk1_apply m c t.val t.isLt, iblk0_apply m c t.val t.isLt, iblk2_apply m c t.val t.isLt, iblk3_apply m c t.val t.isLt, iblk4_apply m c t.val t.isLt, iblk5_apply m c t.val t.isLt]
  rfl

end Cert.BlendIdeal.Value

/-! ## The claim -/

namespace Cert.Proof

open Idealize.ShloMosaic Idealize.ShloMosaic.TcCoe Idealize.SL.Sem

theorem algebraic_blend : algebraic_BlendIdeal_BlendRefIdeal (hBlendIdeal := Cert.BlendIdeal.Gen.facts) (hBlendRefIdeal := Cert.BlendRefIdeal.Gen.facts) := by
  intro m g m' g' _ hm
  refine ⟨fun c => Cert.BlendIdeal.Value.out (m ((c.tc : Thread _ _).loc Cert.BlendIdeal.main_arg0)) (m ((c.tc : Thread _ _).loc Cert.BlendIdeal.main_arg1)) (m ((c.tc : Thread _ _).loc Cert.BlendIdeal.main_arg2)) (m ((c.tc : Thread _ _).loc Cert.BlendIdeal.main_arg3)), fun c => Cert.BlendIdeal.Value.nxt (m ((c.tc : Thread _ _).loc Cert.BlendIdeal.main_arg0)) (m ((c.tc : Thread _ _).loc Cert.BlendIdeal.main_arg1)) (m ((c.tc : Thread _ _).loc Cert.BlendIdeal.main_arg2)) (m ((c.tc : Thread _ _).loc Cert.BlendIdeal.main_arg3)) (m ((c.tc : Thread _ _).loc Cert.BlendIdeal.main_arg4)), ?_, ?_⟩
  · refine (θ_run _ _ _).mono (fun r h c => ?_) (Cert.BlendIdeal.Value.run_blocks m g)
    obtain ⟨h0, h1, h⟩ := h c
    exact ⟨h0.trans (Cert.BlendIdeal.Value.arr6 m c), h1.trans (Cert.BlendIdeal.Value.arr7 m c), h⟩
  · refine (θ_run _ _ _).mono (fun r h c => ?_) (Cert.BlendRefIdeal.Value.run m' g')
    obtain ⟨h0, h1, h⟩ := h c
    obtain ⟨e0, e1, e2, e3, e4⟩ := hm c
    refine ⟨h0.trans ?_, h1.trans ?_, h⟩
    · rw [e0, e1, e2, e3]
      funext i
      obtain ⟨r, l, rfl⟩ : ∃ (r : Fin 8192) (l : Fin 1024), i = ix2 r l := ⟨i 0, i 1, eq_ix2 i⟩
      unfold Cert.BlendIdeal.Value.out Cert.BlendIdeal.Value.at_ Cert.BlendIdeal.Value.pre
      pointwise []
      rw [add_comm]
    · rw [e0, e1, e2, e3, e4]
      funext i
      obtain ⟨r, l, rfl⟩ : ∃ (r : Fin 8192) (l : Fin 1024), i = ix2 r l := ⟨i 0, i 1, eq_ix2 i⟩
      unfold Cert.BlendIdeal.Value.nxt Cert.BlendIdeal.Value.norm Cert.BlendIdeal.Value.at_ Cert.BlendIdeal.Value.pre
      pointwise []
      have q : ∀ (x : Cert.BlendIdeal.S8192x1024.Idx → EReal) (k : Fin 1024) (b : EReal), x (ix2 r k) + b = b + x (ix2 r k) := fun _ _ _ => add_comm _ _
      simp only [q (m ((c.tc : Thread _ _).loc Cert.BlendIdeal.main_arg3))]

end Cert.Proof

end
-- ==== Proof.DoutValue.lean ====
/- The output projection's backward call, of the first layer: the cotangent times the transposed weight, and the
   reference's is the same. -/
module

public import proofs.«01_k».proof.Proof.Gen.DoutIdeal.Value
public import proofs.«01_k».proof.Proof.Gen.DoutRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.DoutIdeal.Value

open Cert.DoutIdeal Cert.DoutIdeal.Gen Idealize.ShloMosaic Idealize.ShloMosaic.TcCoe Idealize.SL.Sem
open scoped BigOperators

variable (m : (ℓ : Loc nD τ sig) → Buf (Elt Ideal) ℓ)

/-- The block of the left array at grid point `n`: rows `512·(n mod 16) …`, all columns. -/
theorem iblk0_apply (c : Dev nD) (n : ℕ) (h : n < cfg0.N) (r : Fin 512) (l : Fin 1024) :
    iblk m c 0 ⟨n, h⟩ (ix2 r l) = m ((c : Thread nD τ).loc main_arg0) (ix2 ⟨n % 16 * 512 + r.val, by omega⟩ l) := by
  have e : ∀ t : Fin cfg0.N, win0_0.index t = ![t.val % 16, 0] := by decide +kernel
  blk_ext [iblk, V, e]

/-- The block of the stacked weights: the first layer's. -/
theorem iblk1_apply (c : Dev nD) (n : ℕ) (h : n < cfg0.N) (r : Fin 1024) (l : Fin 1024) :
    iblk m c 1 ⟨n, h⟩ (ix3 0 r l) = m ((c : Thread nD τ).loc main_arg1) (ix3 0 r l) := by
  have e : ∀ t : Fin cfg0.N, win0_1.index t = ![0, 0, 0] := by decide +kernel
  blk_ext [iblk, V, e]

/-- A block's product. -/
theorem pay1_apply (x : FVec Ideal S512x1024 .bf16) (w : FVec Ideal S1x1024x1024 .bf16) (r : Fin 512) (l : Fin 1024) :
    k0_pay1 (F := Ideal) x w (ix2 r l) = ∑ k : Fin 1024, x (ix2 r k) * w (ix3 0 l k) := by
  pointwise [k0_pay1]

/-- The product at an index of the array. -/
def prod (x : FVec Ideal S8192x1024 .bf16) (w : FVec Ideal S2x1024x1024 .bf16) : FVec Ideal S8192x1024 .f32 := fun i =>
  ∑ k : Fin 1024, x (ix2 (i 0) k) * w (ix3 0 (i 1) k)

theorem arr2 (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have e : ∀ t : Fin cfg0.N, win0_2.index t = ![t.val % 16, 0] := by decide +kernel
  blk_simp
  rw [after0_2]
  frame_out
  obtain ⟨r, l, rfl⟩ : ∃ (r : Fin 512) (l : Fin 1024), y = ix2 r l := ⟨y 0, y 1, eq_ix2 y⟩
  have he : (win0_2.blk t).view.emb (ix2 r l) = ix2 (⟨t.val % 16 * 512 + r.val, by omega⟩ : Fin 8192) l := by
    refine Shape.idx_ext₂ ?_ ?_ <;> blk_simp <;> rw [e] <;> simp
  rw [he, pay1_apply]
  simp only [iblk0_apply m c t.val t.isLt, iblk1_apply m c t.val t.isLt]
  rfl

end Cert.DoutIdeal.Value

/-! ## The claim -/

namespace Cert.Proof

open Idealize.ShloMosaic Idealize.ShloMosaic.TcCoe Idealize.SL.Sem

theorem algebraic_dout : algebraic_DoutIdeal_DoutRefIdeal (hDoutIdeal := Cert.DoutIdeal.Gen.facts) (hDoutRefIdeal := Cert.DoutRefIdeal.Gen.facts) := by
  intro m g m' g' _ hm
  refine ⟨fun c => Cert.DoutIdeal.Value.prod (m ((c.tc : Thread _ _).loc Cert.DoutIdeal.main_arg0)) (m ((c.tc : Thread _ _).loc Cert.DoutIdeal.main_arg1)), ?_, ?_⟩
  · refine (θ_run _ _ _).mono (fun r h c => ?_) (Cert.DoutIdeal.Value.run_blocks m g)
    obtain ⟨h0, h⟩ := h c
    exact ⟨h0.trans (Cert.DoutIdeal.Value.arr2 m c), h⟩
  · refine (θ_run _ _ _).mono (fun r h c => ?_) (Cert.DoutRefIdeal.Value.run m' g')
    obtain ⟨h0, h⟩ := h c
    obtain ⟨e0, e1⟩ := hm c
    refine ⟨h0.trans ?_, h⟩
    rw [e0, e1]
    funext i
    obtain ⟨r, l, rfl⟩ : ∃ (r : Fin 8192) (l : Fin 1024), i = ix2 r l := ⟨i 0, i 1, eq_ix2 i⟩
    unfold Cert.DoutIdeal.Value.prod
    pointwise []

end Cert.Proof

end
-- ==== Proof.OuttokValue.lean ====
/- The output projection's weight gradient, its token rows: what each grid point adds to its output block, what the
   output array ends holding, and that the reference's product is the same sum. -/
module

public import proofs.«01_k».proof.Proof.Gen.OuttokIdeal.Value
public import proofs.«01_k».proof.Proof.Gen.OuttokRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.OuttokIdeal.Value

open Cert.OuttokIdeal Cert.OuttokIdeal.Gen Idealize.ShloMosaic Idealize.ShloMosaic.TcCoe Idealize.SL.Sem
open scoped BigOperators

variable (m : (ℓ : Loc nD τ sig) → Buf (Elt Ideal) ℓ)

/-- The block of the left array at grid point `n`: rows `1024·(n mod 8) …`, all columns. -/
theorem iblk0_apply (c : Dev nD) (n : ℕ) (h : n < cfg0.N) (r : Fin 1024) (l : Fin 768) :
    iblk m c 0 ⟨n, h⟩ (ix2 r l) = m ((c : Thread nD τ).loc main_arg0) (ix2 ⟨n % 8 * 1024 + r.val, by omega⟩ l) := by
  have e : ∀ t : Fin cfg0.N, win0_0.index t = ![t.val % 8, 0] := by decide +kernel
  blk_ext [iblk, V, e]

/-- The block of the cotangent: the same rows. -/
theorem iblk1_apply (c : Dev nD) (n : ℕ) (h : n < cfg0.N) (r : Fin 1024) (l : Fin 1024) :
    iblk m c 1 ⟨n, h⟩ (ix2 r l) = m ((c : Thread nD τ).loc main_arg1) (ix2 ⟨n % 8 * 1024 + r.val, by omega⟩ l) := by
  have e : ∀ t : Fin cfg0.N, win0_1.index t = ![t.val % 8, 0] := by decide +kernel
  blk_ext [iblk, V, e]

/-- A step adds the product of the two blocks, summed over the block's rows, to the output block. -/
theorem pay2_apply (a : Vec Ideal S768x1024 .f32) (x : Vec Ideal S1024x768 .bf16) (y : Vec Ideal S1024x1024 .bf16) (r : Fin 768) (l : Fin 1024) :
    k0_pay2 a x y (ix2 r l) = a (ix2 r l) + ∑ k : Fin 1024, x (ix2 k r) * y (ix2 k l) := by
  pointwise [k0_pay2]

/-- What point `n` adds at a place of its output block. -/
def add (x : Vec Ideal S8192x768 .bf16) (d : Vec Ideal S8192x1024 .bf16) (n : ℕ) (i : S768x1024.Idx) : EReal :=
  ∑ k : Fin 1024, x (ix2 ⟨n % 8 * 1024 + k.val, by omega⟩ (i 0)) * d (ix2 ⟨n % 8 * 1024 + k.val, by omega⟩ (i 1))

/-- The whole product at an index of the array: all 8192 rows. -/
def prod (x : Vec Ideal S8192x768 .bf16) (d : Vec Ideal S8192x1024 .bf16) : Vec Ideal S768x1024 .f32 := fun i =>
  ∑ k : Fin 8192, x (ix2 k (i 0)) * d (ix2 k (i 1))

/-- Eight points' additions are the whole product. -/
theorem adds_eq (x : Vec Ideal S8192x768 .bf16) (d : Vec Ideal S8192x1024 .bf16) (i : S768x1024.Idx) :
    ∑ s ∈ Finset.range 8, add x d (8 * run2Of i + s) (loc2Of i) = prod x d i := by
  have h0 : (i 0).val < 768 := (i 0).isLt
  have h1 : (i 1).val < 1024 := (i 1).isLt
  rw [← Fin.sum_univ_eq_sum_range (fun s => add x d (8 * run2Of i + s) (loc2Of i))]
  unfold prod
  refine Eq.trans ?_ (Fin.sum_mul_add_fin 8 1024 (fun l : Fin 8192 => x (ix2 l (i 0)) * d (ix2 l (i 1))))
  refine Finset.sum_congr rfl fun s _ => Finset.sum_congr rfl fun k _ => ?_
  have hs := s.isLt
  have e : (8 * run2Of i + s.val) % 8 = s.val := by omega
  have hr : run2Of i = (i 1).val / 1024 := by
    show 1 * ((i 0).val / 768 - 0) + 1 * ((i 1).val / 1024 - 0) = _
    omega
  have e' : (8 * run2Of i + s.val) / 8 = (i 1).val / 1024 := by omega
  congr 1
  · refine congrArg x (Shape.idx_ext₂ ?_ ?_) <;> dsimp <;> omega
  · refine congrArg d (Shape.idx_ext₂ ?_ ?_) <;> dsimp <;> omega

theorem zero1 (i : S768x1024.Idx) : k0_pay1 (F := Ideal) i = 0 := by pointwise [k0_pay1]

theorem step2_apply (c : Dev nD) (n : ℕ) (h : n < cfg0.N) (acc : Vec Ideal S768x1024 .f32) (i : S768x1024.Idx) :
    step2 m c n h acc i = acc i + add (m ((c : Thread nD τ).loc main_arg0)) (m ((c : Thread nD τ).loc main_arg1)) n i := by
  obtain ⟨r, l, rfl⟩ : ∃ (r : Fin 768) (l : Fin 1024), i = ix2 r l := ⟨i 0, i 1, eq_ix2 i⟩
  unfold step2 add
  rw [pay2_apply]
  simp only [iblk0_apply, iblk1_apply]
  rfl

theorem run_lt (i : S768x1024.Idx) : 8 * run2Of i + 7 < cfg0.N := by
  have h0 : (i 0).val < 768 := (i 0).isLt
  have h1 : (i 1).val < 1024 := (i 1).isLt
  rw [show cfg0.N = 8 from N_0]; show 8 * (1 * ((i 0).val / 768 - 0) + 1 * ((i 1).val / 1024 - 0)) + 7 < 8
  omega

/-- The output array ends holding the whole product. -/
theorem G2_eq (c : Dev nD) : G2 m c = prod (m ((c : Thread nD τ).loc main_arg0)) (m ((c : Thread nD τ).loc main_arg1)) := by
  funext i
  unfold G2
  rw [dif_pos (run_lt i), Pipeline.accAt_add_apply (reset2 m c) (step2 m c) (fun _ => (0 : EReal)) (add (m ((c : Thread nD τ).loc main_arg0)) (m ((c : Thread nD τ).loc main_arg1))) _ 7
    (fun h j => (step2_apply m c _ h _ j).trans (by rw [zero1])) (fun n h acc j _ _ => step2_apply m c n h acc j) 7 le_rfl, zero_add]
  exact adds_eq _ _ i

end Cert.OuttokIdeal.Value

/-! ## The claim -/

namespace Cert.Proof

open Idealize.ShloMosaic Idealize.ShloMosaic.TcCoe Idealize.SL.Sem

theorem algebraic_outtok : algebraic_OuttokIdeal_OuttokRefIdeal (hOuttokIdeal := Cert.OuttokIdeal.Gen.facts) (hOuttokRefIdeal := Cert.OuttokRefIdeal.Gen.facts) := by
  intro m g m' g' _ hm
  refine ⟨fun c => Cert.OuttokIdeal.Value.prod (m ((c.tc : Thread _ _).loc Cert.OuttokIdeal.main_arg0)) (m ((c.tc : Thread _ _).loc Cert.OuttokIdeal.main_arg1)), ?_, ?_⟩
  · refine (θ_run _ _ _).mono (fun r h c => ?_) (Cert.OuttokIdeal.Value.run m g)
    obtain ⟨h0, h⟩ := h c
    exact ⟨h0.trans (Cert.OuttokIdeal.Value.G2_eq m c), h⟩
  · refine (θ_run _ _ _).mono (fun r h c => ?_) (Cert.OuttokRefIdeal.Value.run m' g')
    obtain ⟨h0, h⟩ := h c
    obtain ⟨e0, e1⟩ := hm c
    refine ⟨h0.trans ?_, h⟩
    rw [e0, e1]
    funext i
    obtain ⟨r, l, rfl⟩ : ∃ (r : Fin 768) (l : Fin 1024), i = ix2 r l := ⟨i 0, i 1, eq_ix2 i⟩
    unfold Cert.OuttokIdeal.Value.prod
    pointwise []
    exact Finset.sum_congr rfl fun k _ => mul_comm _ _

end Cert.Proof

end
-- ==== Proof.OutmemValue.lean ====
/- The output projection's weight gradient, its memory rows: what each grid point adds to its output block, what the
   output array ends holding, and that the reference's product is the same sum. -/
module

public import proofs.«01_k».proof.Proof.Gen.OutmemIdeal.Value
public import proofs.«01_k».proof.Proof.Gen.OutmemRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.OutmemIdeal.Value

open Cert.OutmemIdeal Cert.OutmemIdeal.Gen Idealize.ShloMosaic Idealize.ShloMosaic.TcCoe Idealize.SL.Sem
open scoped BigOperators

variable (m : (ℓ : Loc nD τ sig) → Buf (Elt Ideal) ℓ)

/-- The block of the left array at grid point `n`: rows `1024·(n mod 8) …`, all columns. -/
theorem iblk0_apply (c : Dev nD) (n : ℕ) (h : n < cfg0.N) (r : Fin 1024) (l : Fin 256) :
    iblk m c 0 ⟨n, h⟩ (ix2 r l) = m ((c : Thread nD τ).loc main_arg0) (ix2 ⟨n % 8 * 1024 + r.val, by omega⟩ l) := by
  have e : ∀ t : Fin cfg0.N, win0_0.index t = ![t.val % 8, 0] := by decide +kernel
  blk_ext [iblk, V, e]

/-- The block of the cotangent: the same rows. -/
theorem iblk1_apply (c : Dev nD) (n : ℕ) (h : n < cfg0.N) (r : Fin 1024) (l : Fin 1024) :
    iblk m c 1 ⟨n, h⟩ (ix2 r l) = m ((c : Thread nD τ).loc main_arg1) (ix2 ⟨n % 8 * 1024 + r.val, by omega⟩ l) := by
  have e : ∀ t : Fin cfg0.N, win0_1.index t = ![t.val % 8, 0] := by decide +kernel
  blk_ext [iblk, V, e]

/-- A step adds the product of the two blocks, summed over the block's rows, to the output block. -/
theorem pay2_apply (a : Vec Ideal S256x1024 .f32) (x : Vec Ideal S1024x256 .bf16) (y : Vec Ideal S1024x1024 .bf16) (r : Fin 256) (l : Fin 1024) :
    k0_pay2 a x y (ix2 r l) = a (ix2 r l) + ∑ k : Fin 1024, x (ix2 k r) * y (ix2 k l) := by
  pointwise [k0_pay2]

/-- What point `n` adds at a place of its output block. -/
def add (x : Vec Ideal S8192x256 .bf16) (d : Vec Ideal S8192x1024 .bf16) (n : ℕ) (i : S256x1024.Idx) : EReal :=
  ∑ k : Fin 1024, x (ix2 ⟨n % 8 * 1024 + k.val, by omega⟩ (i 0)) * d (ix2 ⟨n % 8 * 1024 + k.val, by omega⟩ (i 1))

/-- The whole product at an index of the array: all 8192 rows. -/
def prod (x : Vec Ideal S8192x256 .bf16) (d : Vec Ideal S8192x1024 .bf16) : Vec Ideal S256x1024 .f32 := fun i =>
  ∑ k : Fin 8192, x (ix2 k (i 0)) * d (ix2 k (i 1))

/-- Eight points' additions are the whole product. -/
theorem adds_eq (x : Vec Ideal S8192x256 .bf16) (d : Vec Ideal S8192x1024 .bf16) (i : S256x1024.Idx) :
    ∑ s ∈ Finset.range 8, add x d (8 * run2Of i + s) (loc2Of i) = prod x d i := by
  have h0 : (i 0).val < 256 := (i 0).isLt
  have h1 : (i 1).val < 1024 := (i 1).isLt
  rw [← Fin.sum_univ_eq_sum_range (fun s => add x d (8 * run2Of i + s) (loc2Of i))]
  unfold prod
  refine Eq.trans ?_ (Fin.sum_mul_add_fin 8 1024 (fun l : Fin 8192 => x (ix2 l (i 0)) * d (ix2 l (i 1))))
  refine Finset.sum_congr rfl fun s _ => Finset.sum_congr rfl fun k _ => ?_
  have hs := s.isLt
  have e : (8 * run2Of i + s.val) % 8 = s.val := by omega
  have hr : run2Of i = (i 1).val / 1024 := by
    show 1 * ((i 0).val / 256 - 0) + 1 * ((i 1).val / 1024 - 0) = _
    omega
  have e' : (8 * run2Of i + s.val) / 8 = (i 1).val / 1024 := by omega
  congr 1
  · refine congrArg x (Shape.idx_ext₂ ?_ ?_) <;> dsimp <;> omega
  · refine congrArg d (Shape.idx_ext₂ ?_ ?_) <;> dsimp <;> omega

theorem zero1 (i : S256x1024.Idx) : k0_pay1 (F := Ideal) i = 0 := by pointwise [k0_pay1]

theorem step2_apply (c : Dev nD) (n : ℕ) (h : n < cfg0.N) (acc : Vec Ideal S256x1024 .f32) (i : S256x1024.Idx) :
    step2 m c n h acc i = acc i + add (m ((c : Thread nD τ).loc main_arg0)) (m ((c : Thread nD τ).loc main_arg1)) n i := by
  obtain ⟨r, l, rfl⟩ : ∃ (r : Fin 256) (l : Fin 1024), i = ix2 r l := ⟨i 0, i 1, eq_ix2 i⟩
  unfold step2 add
  rw [pay2_apply]
  simp only [iblk0_apply, iblk1_apply]
  rfl

theorem run_lt (i : S256x1024.Idx) : 8 * run2Of i + 7 < cfg0.N := by
  have h0 : (i 0).val < 256 := (i 0).isLt
  have h1 : (i 1).val < 1024 := (i 1).isLt
  rw [show cfg0.N = 8 from N_0]; show 8 * (1 * ((i 0).val / 256 - 0) + 1 * ((i 1).val / 1024 - 0)) + 7 < 8
  omega

/-- The output array ends holding the whole product. -/
theorem G2_eq (c : Dev nD) : G2 m c = prod (m ((c : Thread nD τ).loc main_arg0)) (m ((c : Thread nD τ).loc main_arg1)) := by
  funext i
  unfold G2
  rw [dif_pos (run_lt i), Pipeline.accAt_add_apply (reset2 m c) (step2 m c) (fun _ => (0 : EReal)) (add (m ((c : Thread nD τ).loc main_arg0)) (m ((c : Thread nD τ).loc main_arg1))) _ 7
    (fun h j => (step2_apply m c _ h _ j).trans (by rw [zero1])) (fun n h acc j _ _ => step2_apply m c n h acc j) 7 le_rfl, zero_add]
  exact adds_eq _ _ i

end Cert.OutmemIdeal.Value

/-! ## The claim -/

namespace Cert.Proof

open Idealize.ShloMosaic Idealize.ShloMosaic.TcCoe Idealize.SL.Sem

theorem algebraic_outmem : algebraic_OutmemIdeal_OutmemRefIdeal (hOutmemIdeal := Cert.OutmemIdeal.Gen.facts) (hOutmemRefIdeal := Cert.OutmemRefIdeal.Gen.facts) := by
  intro m g m' g' _ hm
  refine ⟨fun c => Cert.OutmemIdeal.Value.prod (m ((c.tc : Thread _ _).loc Cert.OutmemIdeal.main_arg0)) (m ((c.tc : Thread _ _).loc Cert.OutmemIdeal.main_arg1)), ?_, ?_⟩
  · refine (θ_run _ _ _).mono (fun r h c => ?_) (Cert.OutmemIdeal.Value.run m g)
    obtain ⟨h0, h⟩ := h c
    exact ⟨h0.trans (Cert.OutmemIdeal.Value.G2_eq m c), h⟩
  · refine (θ_run _ _ _).mono (fun r h c => ?_) (Cert.OutmemRefIdeal.Value.run m' g')
    obtain ⟨h0, h⟩ := h c
    obtain ⟨e0, e1⟩ := hm c
    refine ⟨h0.trans ?_, h⟩
    rw [e0, e1]
    funext i
    obtain ⟨r, l, rfl⟩ : ∃ (r : Fin 256) (l : Fin 1024), i = ix2 r l := ⟨i 0, i 1, eq_ix2 i⟩
    unfold Cert.OutmemIdeal.Value.prod
    pointwise []
    exact Finset.sum_congr rfl fun k _ => mul_comm _ _

end Cert.Proof

end
-- ==== Proof.IntokValue.lean ====
/- The input projection's weight gradient, its token columns: what each grid point adds to its output block, what the
   output array ends holding, and that the reference's product is the same sum. -/
module

public import proofs.«01_k».proof.Proof.Gen.IntokIdeal.Value
public import proofs.«01_k».proof.Proof.Gen.IntokRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.IntokIdeal.Value

open Cert.IntokIdeal Cert.IntokIdeal.Gen Idealize.ShloMosaic Idealize.ShloMosaic.TcCoe Idealize.SL.Sem
open scoped BigOperators

variable (m : (ℓ : Loc nD τ sig) → Buf (Elt Ideal) ℓ)

/-- The block of the left array at grid point `n`: rows `1024·(n mod 8) …`, all columns. -/
theorem iblk0_apply (c : Dev nD) (n : ℕ) (h : n < cfg0.N) (r : Fin 1024) (l : Fin 1024) :
    iblk m c 0 ⟨n, h⟩ (ix2 r l) = m ((c : Thread nD τ).loc main_arg0) (ix2 ⟨n % 8 * 1024 + r.val, by omega⟩ l) := by
  have e : ∀ t : Fin cfg0.N, win0_0.index t = ![t.val % 8, 0] := by decide +kernel
  blk_ext [iblk, V, e]

/-- The block of the cotangent: the same rows. -/
theorem iblk1_apply (c : Dev nD) (n : ℕ) (h : n < cfg0.N) (r : Fin 1024) (l : Fin 768) :
    iblk m c 1 ⟨n, h⟩ (ix2 r l) = m ((c : Thread nD τ).loc main_arg1) (ix2 ⟨n % 8 * 1024 + r.val, by omega⟩ ⟨n / 8 % 2 * 768 + l.val, by omega⟩) := by
  have e : ∀ t : Fin cfg0.N, win0_1.index t = ![t.val % 8, t.val / 8 % 2] := by decide +kernel
  blk_ext [iblk, V, e]

/-- A step adds the product of the two blocks, summed over the block's rows, to the output block. -/
theorem pay2_apply (a : Vec Ideal S1024x768 .f32) (x : Vec Ideal S1024x1024 .bf16) (y : Vec Ideal S1024x768 .bf16) (r : Fin 1024) (l : Fin 768) :
    k0_pay2 a x y (ix2 r l) = a (ix2 r l) + ∑ k : Fin 1024, x (ix2 k r) * y (ix2 k l) := by
  pointwise [k0_pay2]

/-- What point `n` adds at a place of its output block. -/
def add (x : Vec Ideal S8192x1024 .bf16) (d : Vec Ideal S8192x1536 .bf16) (n : ℕ) (i : S1024x768.Idx) : EReal :=
  ∑ k : Fin 1024, x (ix2 ⟨n % 8 * 1024 + k.val, by omega⟩ (i 0)) * d (ix2 ⟨n % 8 * 1024 + k.val, by omega⟩ ⟨n / 8 % 2 * 768 + (i 1).val, by have : (i 1).val < 768 := (i 1).isLt; omega⟩)

/-- The whole product at an index of the array: all 8192 rows. -/
def prod (x : Vec Ideal S8192x1024 .bf16) (d : Vec Ideal S8192x1536 .bf16) : Vec Ideal S1024x1536 .f32 := fun i =>
  ∑ k : Fin 8192, x (ix2 k (i 0)) * d (ix2 k (i 1))

/-- Eight points' additions are the whole product. -/
theorem adds_eq (x : Vec Ideal S8192x1024 .bf16) (d : Vec Ideal S8192x1536 .bf16) (i : S1024x1536.Idx) :
    ∑ s ∈ Finset.range 8, add x d (8 * run2Of i + s) (loc2Of i) = prod x d i := by
  have h0 : (i 0).val < 1024 := (i 0).isLt
  have h1 : (i 1).val < 1536 := (i 1).isLt
  rw [← Fin.sum_univ_eq_sum_range (fun s => add x d (8 * run2Of i + s) (loc2Of i))]
  unfold prod
  refine Eq.trans ?_ (Fin.sum_mul_add_fin 8 1024 (fun l : Fin 8192 => x (ix2 l (i 0)) * d (ix2 l (i 1))))
  refine Finset.sum_congr rfl fun s _ => Finset.sum_congr rfl fun k _ => ?_
  have hs := s.isLt
  have e : (8 * run2Of i + s.val) % 8 = s.val := by omega
  have hr : run2Of i = (i 1).val / 768 := by
    show 2 * ((i 0).val / 1024 - 0) + 1 * ((i 1).val / 768 - 0) = _
    omega
  have e' : (8 * run2Of i + s.val) / 8 = (i 1).val / 768 := by omega
  congr 1
  · refine congrArg x (Shape.idx_ext₂ ?_ ?_) <;> dsimp <;> omega
  · refine congrArg d (Shape.idx_ext₂ ?_ ?_) <;> dsimp <;> omega

theorem zero1 (i : S1024x768.Idx) : k0_pay1 (F := Ideal) i = 0 := by pointwise [k0_pay1]

theorem step2_apply (c : Dev nD) (n : ℕ) (h : n < cfg0.N) (acc : Vec Ideal S1024x768 .f32) (i : S1024x768.Idx) :
    step2 m c n h acc i = acc i + add (m ((c : Thread nD τ).loc main_arg0)) (m ((c : Thread nD τ).loc main_arg1)) n i := by
  obtain ⟨r, l, rfl⟩ : ∃ (r : Fin 1024) (l : Fin 768), i = ix2 r l := ⟨i 0, i 1, eq_ix2 i⟩
  unfold step2 add
  rw [pay2_apply]
  simp only [iblk0_apply, iblk1_apply]
  rfl

theorem run_lt (i : S1024x1536.Idx) : 8 * run2Of i + 7 < cfg0.N := by
  have h0 : (i 0).val < 1024 := (i 0).isLt
  have h1 : (i 1).val < 1536 := (i 1).isLt
  rw [show cfg0.N = 16 from N_0]; show 8 * (2 * ((i 0).val / 1024 - 0) + 1 * ((i 1).val / 768 - 0)) + 7 < 16
  omega

/-- The output array ends holding the whole product. -/
theorem G2_eq (c : Dev nD) : G2 m c = prod (m ((c : Thread nD τ).loc main_arg0)) (m ((c : Thread nD τ).loc main_arg1)) := by
  funext i
  unfold G2
  rw [dif_pos (run_lt i), Pipeline.accAt_add_apply (reset2 m c) (step2 m c) (fun _ => (0 : EReal)) (add (m ((c : Thread nD τ).loc main_arg0)) (m ((c : Thread nD τ).loc main_arg1))) _ 7
    (fun h j => (step2_apply m c _ h _ j).trans (by rw [zero1])) (fun n h acc j _ _ => step2_apply m c n h acc j) 7 le_rfl, zero_add]
  exact adds_eq _ _ i

end Cert.IntokIdeal.Value

/-! ## The claim -/

namespace Cert.Proof

open Idealize.ShloMosaic Idealize.ShloMosaic.TcCoe Idealize.SL.Sem

theorem algebraic_intok : algebraic_IntokIdeal_IntokRefIdeal (hIntokIdeal := Cert.IntokIdeal.Gen.facts) (hIntokRefIdeal := Cert.IntokRefIdeal.Gen.facts) := by
  intro m g m' g' _ hm
  refine ⟨fun c => Cert.IntokIdeal.Value.prod (m ((c.tc : Thread _ _).loc Cert.IntokIdeal.main_arg0)) (m ((c.tc : Thread _ _).loc Cert.IntokIdeal.main_arg1)), ?_, ?_⟩
  · refine (θ_run _ _ _).mono (fun r h c => ?_) (Cert.IntokIdeal.Value.run m g)
    obtain ⟨h0, h⟩ := h c
    exact ⟨h0.trans (Cert.IntokIdeal.Value.G2_eq m c), h⟩
  · refine (θ_run _ _ _).mono (fun r h c => ?_) (Cert.IntokRefIdeal.Value.run m' g')
    obtain ⟨h0, h⟩ := h c
    obtain ⟨e0, e1⟩ := hm c
    refine ⟨h0.trans ?_, h⟩
    rw [e0, e1]
    funext i
    obtain ⟨r, l, rfl⟩ : ∃ (r : Fin 1024) (l : Fin 1536), i = ix2 r l := ⟨i 0, i 1, eq_ix2 i⟩
    unfold Cert.IntokIdeal.Value.prod
    pointwise []
    exact Finset.sum_congr rfl fun k _ => mul_comm _ _

end Cert.Proof

end
-- ==== Proof.InmemValue.lean ====
/- The input projection's weight gradient, its memory columns: what each grid point adds to its output block, what the
   output array ends holding, and that the reference's product is the same sum. -/
module

public import proofs.«01_k».proof.Proof.Gen.InmemIdeal.Value
public import proofs.«01_k».proof.Proof.Gen.InmemRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.InmemIdeal.Value

open Cert.InmemIdeal Cert.InmemIdeal.Gen Idealize.ShloMosaic Idealize.ShloMosaic.TcCoe Idealize.SL.Sem
open scoped BigOperators

variable (m : (ℓ : Loc nD τ sig) → Buf (Elt Ideal) ℓ)

/-- The block of the left array at grid point `n`: rows `1024·(n mod 8) …`, all columns. -/
theorem iblk0_apply (c : Dev nD) (n : ℕ) (h : n < cfg0.N) (r : Fin 1024) (l : Fin 1024) :
    iblk m c 0 ⟨n, h⟩ (ix2 r l) = m ((c : Thread nD τ).loc main_arg0) (ix2 ⟨n % 8 * 1024 + r.val, by omega⟩ l) := by
  have e : ∀ t : Fin cfg0.N, win0_0.index t = ![t.val % 8, 0] := by decide +kernel
  blk_ext [iblk, V, e]

/-- The block of the cotangent: the same rows. -/
theorem iblk1_apply (c : Dev nD) (n : ℕ) (h : n < cfg0.N) (r : Fin 1024) (l : Fin 256) :
    iblk m c 1 ⟨n, h⟩ (ix2 r l) = m ((c : Thread nD τ).loc main_arg1) (ix2 ⟨n % 8 * 1024 + r.val, by omega⟩ l) := by
  have e : ∀ t : Fin cfg0.N, win0_1.index t = ![t.val % 8, 0] := by decide +kernel
  blk_ext [iblk, V, e]

/-- A step adds the product of the two blocks, summed over the block's rows, to the output block. -/
theorem pay2_apply (a : Vec Ideal S1024x256 .f32) (x : Vec Ideal S1024x1024 .bf16) (y : Vec Ideal S1024x256 .bf16) (r : Fin 1024) (l : Fin 256) :
    k0_pay2 a x y (ix2 r l) = a (ix2 r l) + ∑ k : Fin 1024, x (ix2 k r) * y (ix2 k l) := by
  pointwise [k0_pay2]

/-- What point `n` adds at a place of its output block. -/
def add (x : Vec Ideal S8192x1024 .bf16) (d : Vec Ideal S8192x256 .bf16) (n : ℕ) (i : S1024x256.Idx) : EReal :=
  ∑ k : Fin 1024, x (ix2 ⟨n % 8 * 1024 + k.val, by omega⟩ (i 0)) * d (ix2 ⟨n % 8 * 1024 + k.val, by omega⟩ (i 1))

/-- The whole product at an index of the array: all 8192 rows. -/
def prod (x : Vec Ideal S8192x1024 .bf16) (d : Vec Ideal S8192x256 .bf16) : Vec Ideal S1024x256 .f32 := fun i =>
  ∑ k : Fin 8192, x (ix2 k (i 0)) * d (ix2 k (i 1))

/-- Eight points' additions are the whole product. -/
theorem adds_eq (x : Vec Ideal S8192x1024 .bf16) (d : Vec Ideal S8192x256 .bf16) (i : S1024x256.Idx) :
    ∑ s ∈ Finset.range 8, add x d (8 * run2Of i + s) (loc2Of i) = prod x d i := by
  have h0 : (i 0).val < 1024 := (i 0).isLt
  have h1 : (i 1).val < 256 := (i 1).isLt
  rw [← Fin.sum_univ_eq_sum_range (fun s => add x d (8 * run2Of i + s) (loc2Of i))]
  unfold prod
  refine Eq.trans ?_ (Fin.sum_mul_add_fin 8 1024 (fun l : Fin 8192 => x (ix2 l (i 0)) * d (ix2 l (i 1))))
  refine Finset.sum_congr rfl fun s _ => Finset.sum_congr rfl fun k _ => ?_
  have hs := s.isLt
  have e : (8 * run2Of i + s.val) % 8 = s.val := by omega
  have hr : run2Of i = (i 1).val / 256 := by
    show 1 * ((i 0).val / 1024 - 0) + 1 * ((i 1).val / 256 - 0) = _
    omega
  have e' : (8 * run2Of i + s.val) / 8 = (i 1).val / 256 := by omega
  congr 1
  · refine congrArg x (Shape.idx_ext₂ ?_ ?_) <;> dsimp <;> omega
  · refine congrArg d (Shape.idx_ext₂ ?_ ?_) <;> dsimp <;> omega

theorem zero1 (i : S1024x256.Idx) : k0_pay1 (F := Ideal) i = 0 := by pointwise [k0_pay1]

theorem step2_apply (c : Dev nD) (n : ℕ) (h : n < cfg0.N) (acc : Vec Ideal S1024x256 .f32) (i : S1024x256.Idx) :
    step2 m c n h acc i = acc i + add (m ((c : Thread nD τ).loc main_arg0)) (m ((c : Thread nD τ).loc main_arg1)) n i := by
  obtain ⟨r, l, rfl⟩ : ∃ (r : Fin 1024) (l : Fin 256), i = ix2 r l := ⟨i 0, i 1, eq_ix2 i⟩
  unfold step2 add
  rw [pay2_apply]
  simp only [iblk0_apply, iblk1_apply]
  rfl

theorem run_lt (i : S1024x256.Idx) : 8 * run2Of i + 7 < cfg0.N := by
  have h0 : (i 0).val < 1024 := (i 0).isLt
  have h1 : (i 1).val < 256 := (i 1).isLt
  rw [show cfg0.N = 8 from N_0]; show 8 * (1 * ((i 0).val / 1024 - 0) + 1 * ((i 1).val / 256 - 0)) + 7 < 8
  omega

/-- The output array ends holding the whole product. -/
theorem G2_eq (c : Dev nD) : G2 m c = prod (m ((c : Thread nD τ).loc main_arg0)) (m ((c : Thread nD τ).loc main_arg1)) := by
  funext i
  unfold G2
  rw [dif_pos (run_lt i), Pipeline.accAt_add_apply (reset2 m c) (step2 m c) (fun _ => (0 : EReal)) (add (m ((c : Thread nD τ).loc main_arg0)) (m ((c : Thread nD τ).loc main_arg1))) _ 7
    (fun h j => (step2_apply m c _ h _ j).trans (by rw [zero1])) (fun n h acc j _ _ => step2_apply m c n h acc j) 7 le_rfl, zero_add]
  exact adds_eq _ _ i

end Cert.InmemIdeal.Value

/-! ## The claim -/

namespace Cert.Proof

open Idealize.ShloMosaic Idealize.ShloMosaic.TcCoe Idealize.SL.Sem

theorem algebraic_inmem : algebraic_InmemIdeal_InmemRefIdeal (hInmemIdeal := Cert.InmemIdeal.Gen.facts) (hInmemRefIdeal := Cert.InmemRefIdeal.Gen.facts) := by
  intro m g m' g' _ hm
  refine ⟨fun c => Cert.InmemIdeal.Value.prod (m ((c.tc : Thread _ _).loc Cert.InmemIdeal.main_arg0)) (m ((c.tc : Thread _ _).loc Cert.InmemIdeal.main_arg1)), ?_, ?_⟩
  · refine (θ_run _ _ _).mono (fun r h c => ?_) (Cert.InmemIdeal.Value.run m g)
    obtain ⟨h0, h⟩ := h c
    exact ⟨h0.trans (Cert.InmemIdeal.Value.G2_eq m c), h⟩
  · refine (θ_run _ _ _).mono (fun r h c => ?_) (Cert.InmemRefIdeal.Value.run m' g')
    obtain ⟨h0, h⟩ := h c
    obtain ⟨e0, e1⟩ := hm c
    refine ⟨h0.trans ?_, h⟩
    rw [e0, e1]
    funext i
    obtain ⟨r, l, rfl⟩ : ∃ (r : Fin 1024) (l : Fin 256), i = ix2 r l := ⟨i 0, i 1, eq_ix2 i⟩
    unfold Cert.InmemIdeal.Value.prod
    pointwise []
    exact Finset.sum_congr rfl fun k _ => mul_comm _ _

end Cert.Proof

end
-- ==== Proof.DinValue.lean ====
/- The mixer's input projection, backward, of the first layer: the product with the two joined cotangents, the normalization's
   gradient with the residual added, and the gain's gradient. What the kernel leaves in its three output arrays, as real
   numbers, and that the reference's chain-rule lines are the same. -/
module

public import proofs.«01_k».proof.Proof.Gen.DinIdeal.Value
public import proofs.«01_k».proof.Proof.Gen.DinRefIdeal.Run
public import proofs.«01_k».proof.Proof.Gen.DinRefIdeal.Read
public import proofs.«01_k».proof.Defs
public import proofs.«01_k».proof.Proof.UpValue
public import Idealize.ShloMosaic.Lib.Pointwise
public import Idealize.ShloMosaic.Lib.Claim
public import Idealize.ShloMosaic.Lib.Pipeline.ValueKit

@[expose] public section

set_option maxRecDepth 16384

noncomputable section

namespace Cert.DinIdeal.Value

open Cert.UpIdeal.Value (ms ms_pos rs dxR dxR_eq)
open Cert.DinIdeal Cert.DinIdeal.Gen Idealize.ShloMosaic Idealize.ShloMosaic.TcCoe Idealize.SL.Sem
open scoped BigOperators

/-! ## The gradient in real numbers -/

/-- The cotangent of the normalized row, at one place. -/
def dh (a wa : Fin 1536 → ℝ) (u wu : Fin 256 → ℝ) : ℝ := (∑ k, a k * wa k) + ∑ k, u k * wu k

/-! ## The kernel's payloads -/

section Payloads
variable (a : FVec Ideal S512x1536 .bf16) (wa : FVec Ideal S1x1024x1536 .bf16) (u : FVec Ideal S512x256 .bf16) (wu : FVec Ideal S1x1024x256 .bf16) (x o : FVec Ideal S512x1024 .f32) (g : FVec Ideal S1x1024 .f32)
  {A : Fin 512 → Fin 1536 → ℝ} {U : Fin 512 → Fin 256 → ℝ} {WA : Fin 1024 → Fin 1536 → ℝ} {WU : Fin 1024 → Fin 256 → ℝ} {X O : Fin 512 → Fin 1024 → ℝ} {G : Fin 1024 → ℝ}
  (ha : ∀ r k, a (ix2 r k) = ((A r k : ℝ) : EReal)) (hu : ∀ r k, u (ix2 r k) = ((U r k : ℝ) : EReal))
  (hwa : ∀ r k, wa (ix3 0 r k) = ((WA r k : ℝ) : EReal)) (hwu : ∀ r k, wu (ix3 0 r k) = ((WU r k : ℝ) : EReal))
  (hx : ∀ r k, x (ix2 r k) = ((X r k : ℝ) : EReal)) (ho : ∀ r k, o (ix2 r k) = ((O r k : ℝ) : EReal))
  (hg : ∀ k, g (ix2 0 k) = ((G k : ℝ) : EReal)) (r : Fin 512) (l : Fin 1024)

include ha hu hwa hwu in
theorem pay5_apply : k0_pay5 (F := Ideal) a wa u wu (ix2 r l) = ((dh (A r) (WA l) (U r) (WU l) : ℝ) : EReal) := by
  pointwise [k0_pay5]
  simp only [ha, hu, hwa, hwu, ← EReal.coe_mul, Reals.coe_sum, ← EReal.coe_add]
  rfl

include hx in
theorem pay6_apply : k0_pay6 (F := Ideal) x (ix2 r 0) = ((rs (X r) : ℝ) : EReal) := by
  have p := ms_pos (X r)
  unfold ms at p
  pointwise [k0_pay6]
  simp only [hx, ← EReal.coe_mul, Reals.coe_sum, Reals.n1024_f32, Reals.eps_f32]
  rw [Reals.div_real (by norm_num), ← EReal.coe_add, Reals.rsqrt_real p]
  rfl

include hx in
theorem pay7_apply : k0_pay7 (F := Ideal) x (ix2 r l) = ((X r l * rs (X r) : ℝ) : EReal) := by
  have e := pay6_apply x hx r
  generalize hy : k0_pay6 (F := Ideal) x = y at e
  unfold k0_pay7
  rw [hy]
  pointwise []
  rw [e, hx, ← EReal.coe_mul]

include ha hu hwa hwu hx ho hg in
theorem pay1_apply : k0_pay1 (F := Ideal) (k0_pay8 (F := Ideal) a wa u wu x g) o (ix2 r l)
    = ((dxR (fun l => dh (A r) (WA l) (U r) (WU l)) G (X r) (O r l) l : ℝ) : EReal) := by
  have e4 := fun l => pay5_apply a wa u wu ha hu hwa hwu r l
  have e5 := pay6_apply x hx r
  have e6 := fun l => pay7_apply x hx r l
  unfold k0_pay1 k0_pay8
  generalize k0_pay5 (F := Ideal) a wa u wu = y4 at e4 ⊢
  generalize k0_pay6 (F := Ideal) x = y5 at e5 ⊢
  generalize k0_pay7 (F := Ideal) x = y6 at e6 ⊢
  pointwise []
  simp only [e4, e5, e6, ho, hg, Reals.n1024_f32, ← EReal.coe_mul, Reals.coe_sum]
  rw [Reals.div_real (by norm_num), ← EReal.coe_mul, ← EReal.coe_sub, ← EReal.coe_mul, ← EReal.coe_add]
  rfl

include ha hu hwa hwu hx in
theorem pay4_apply (acc : FVec Ideal S1x1024 .f32) : k0_pay4 (F := Ideal) (k0_pay5 a wa u wu) (k0_pay7 x) acc (ix2 0 l)
    = acc (ix2 0 l) + ((∑ r : Fin 512, dh (A r) (WA l) (U r) (WU l) * (X r l * rs (X r)) : ℝ) : EReal) := by
  have e4 := fun r l => pay5_apply a wa u wu ha hu hwa hwu r l
  have e6 := fun r l => pay7_apply x hx r l
  generalize k0_pay5 (F := Ideal) a wa u wu = y4 at e4 ⊢
  generalize k0_pay7 (F := Ideal) x = y6 at e6 ⊢
  pointwise [k0_pay4]
  simp only [e4, e6, ← EReal.coe_mul, Reals.coe_sum]

end Payloads

theorem zero9 (i : S1x1024.Idx) : k0_pay3 (F := Ideal) i = 0 := by pointwise [k0_pay3]

/-! ## The kernel's blocks and what each grid point leaves -/

variable (m : (ℓ : Loc nD τ sig) → Buf (Elt Ideal) ℓ) (c : Dev nD)

theorem outs7 (t : Fin cfg0.N) : (outsAt0 m c t.val t.isLt).1 = k0_pay1 (F := Ideal) (k0_pay8 (F := Ideal) (iblk m c 0 t) (X0_1 m c t) (iblk m c 2 t) (iblk m c 3 t) (iblk m c 5 t) (iblk m c 6 t)) (iblk m c 4 t) := by
  by_cases h0 : t.val % 16 = 0
  · rw [outsAt0_A m c t h0]
    frame_out
  · rw [outsAt0_B m c t h0]
    frame_out

theorem outs8 (t : Fin cfg0.N) : (outsAt0 m c t.val t.isLt).2.1 = k0_pay2 (F := Ideal) (k0_pay8 (iblk m c 0 t) (X0_1 m c t) (iblk m c 2 t) (iblk m c 3 t) (iblk m c 5 t) (iblk m c 6 t)) (iblk m c 4 t) := by
  by_cases h0 : t.val % 16 = 0
  · rw [outsAt0_A m c t h0]
    frame_out
  · rw [outsAt0_B m c t h0]
    frame_out

theorem outs9_A (t : Fin cfg0.N) (h0 : t.val % 16 = 0) :
    (outsAt0 m c t.val t.isLt).2.2 = k0_pay4 (F := Ideal) (k0_pay5 (iblk m c 0 t) (X0_1 m c t) (iblk m c 2 t) (iblk m c 3 t)) (k0_pay7 (iblk m c 5 t)) (k0_pay3 (F := Ideal)) := by
  rw [outsAt0_A m c t h0]
  frame_out

theorem outs9_B (t : Fin cfg0.N) (h0 : ¬t.val % 16 = 0) :
    (outsAt0 m c t.val t.isLt).2.2 = k0_pay4 (F := Ideal) (k0_pay5 (iblk m c 0 t) (X0_1 m c t) (iblk m c 2 t) (iblk m c 3 t)) (k0_pay7 (iblk m c 5 t)) ((outsAt0 m c (t.val - 1) (Nat.lt_of_le_of_lt (Nat.sub_le _ _) t.isLt)).2.2) := by
  rw [outsAt0_B m c t h0]
  frame_out

/-- The arguments as real arrays. -/
structure Real6 (A : S8192x1536.Idx → ℝ) (U : S8192x256.Idx → ℝ) (W : S2x1024x1792.Idx → ℝ) (O X : S8192x1024.Idx → ℝ) (G : S1024.Idx → ℝ) : Prop where
  a : m ((c : Thread nD τ).loc main_arg0) = fun i => ((A i : ℝ) : EReal)
  u : m ((c : Thread nD τ).loc main_arg1) = fun i => ((U i : ℝ) : EReal)
  w : m ((c : Thread nD τ).loc main_arg2) = fun i => ((W i : ℝ) : EReal)
  o : m ((c : Thread nD τ).loc main_arg3) = fun i => ((O i : ℝ) : EReal)
  x : m ((c : Thread nD τ).loc main_arg4) = fun i => ((X i : ℝ) : EReal)
  g : m ((c : Thread nD τ).loc main_arg5) = fun i => ((G i : ℝ) : EReal)

/-- The row of a grid point's block, in the whole array. -/
def row (n : ℕ) (r : Fin 512) : Fin 8192 := ⟨n % 16 * 512 + r.val, by omega⟩

theorem iblk0_apply (n : ℕ) (h : n < cfg0.N) (r : Fin 512) (l : Fin 1536) :
    iblk m c 0 ⟨n, h⟩ (ix2 r l) = m ((c : Thread nD τ).loc main_arg0) (ix2 (row n r) l) := by
  have e : ∀ t : Fin cfg0.N, win0_0.index t = ![t.val % 16, 0] := by decide +kernel
  unfold row
  blk_ext [iblk, V, e]

/-- The weight's first 1536 columns; their block does not divide the array, but the one block read lies inside. -/
theorem wblk1_apply (n : ℕ) (h : n < cfg0.N) (r : Fin 1024) (l : Fin 1536) :
    X0_1 m c ⟨n, h⟩ (ix3 0 r l) = m ((c : Thread nD τ).loc main_arg2) (ix3 0 r ⟨l.val, by omega⟩) := by
  have e : ∀ t : Fin cfg0.N, win0_1.index t = ![0, 0, 0] := by decide +kernel
  unfold X0_1 Pipeline.Window.fill
  rw [dif_pos (moved0_1 ⟨n, h⟩ _)]
  blk_ext [iblk, V, e]

theorem iblk2_apply (n : ℕ) (h : n < cfg0.N) (r : Fin 512) (l : Fin 256) :
    iblk m c 2 ⟨n, h⟩ (ix2 r l) = m ((c : Thread nD τ).loc main_arg1) (ix2 (row n r) l) := by
  have e : ∀ t : Fin cfg0.N, win0_2.index t = ![t.val % 16, 0] := by decide +kernel
  unfold row
  blk_ext [iblk, V, e]

/-- The weight's last 256 columns. -/
theorem iblk3_apply (n : ℕ) (h : n < cfg0.N) (r : Fin 1024) (l : Fin 256) :
    iblk m c 3 ⟨n, h⟩ (ix3 0 r l) = m ((c : Thread nD τ).loc main_arg2) (ix3 0 r ⟨1536 + l.val, by omega⟩) := by
  have e : ∀ t : Fin cfg0.N, win0_3.index t = ![0, 0, 6] := by decide +kernel
  blk_ext [iblk, V, e]

theorem iblk4_apply (n : ℕ) (h : n < cfg0.N) (r : Fin 512) (l : Fin 1024) :
    iblk m c 4 ⟨n, h⟩ (ix2 r l) = m ((c : Thread nD τ).loc main_arg3) (ix2 (row n r) l) := by
  have e : ∀ t : Fin cfg0.N, win0_4.index t = ![t.val % 16, 0] := by decide +kernel
  unfold row
  blk_ext [iblk, V, e]

theorem iblk5_apply (n : ℕ) (h : n < cfg0.N) (r : Fin 512) (l : Fin 1024) :
    iblk m c 5 ⟨n, h⟩ (ix2 r l) = m ((c : Thread nD τ).loc main_arg4) (ix2 (row n r) l) := by
  have e : ∀ t : Fin cfg0.N, win0_5.index t = ![t.val % 16, 0] := by decide +kernel
  unfold row
  blk_ext [iblk, V, e]

theorem iblk6_apply (n : ℕ) (h : n < cfg0.N) (l : Fin 1024) :
    iblk m c 6 ⟨n, h⟩ (ix2 0 l) = m ((c : Thread nD τ).loc main_arg5) (ix1 l) := by
  have e : ∀ t : Fin cfg0.N, win0_6.index t = ![0, 0] := by decide +kernel
  have q : V m c main_v0 (ix2 0 l) = m ((c : Thread nD τ).loc main_arg5) (ix1 l) := by
    rw [show V m c main_v0 = shapeCast (α := EReal) S1x1024 (m ((c : Thread nD τ).loc main_arg5)) shapeCasts_S1024_S1x1024 by entry_read; rfl]
    pointwise []
  rw [← q]
  generalize hV : V m c main_v0 = v
  unfold iblk
  rw [show V m c (Pipeline.arrRef spec0 6) = v from hV]
  blk_ext [e]

/-! ## The kernel's output arrays -/

/-- The normalized rows' cotangent, from the whole arrays. -/
def dhA (A : S8192x1536.Idx → ℝ) (U : S8192x256.Idx → ℝ) (W : S2x1024x1792.Idx → ℝ) (r : Fin 8192) (l : Fin 1024) : ℝ :=
  dh (fun k => A (ix2 r k)) (fun k => W (ix3 0 l ⟨k.val, by omega⟩)) (fun k => U (ix2 r k)) (fun k => W (ix3 0 l ⟨1536 + k.val, by omega⟩))

/-- The input's gradient at a row and a column. -/
def dxA (A : S8192x1536.Idx → ℝ) (U : S8192x256.Idx → ℝ) (W : S2x1024x1792.Idx → ℝ) (O X : S8192x1024.Idx → ℝ) (G : S1024.Idx → ℝ) (r : Fin 8192) (l : Fin 1024) : ℝ :=
  dxR (dhA A U W r) (fun k => G (ix1 k)) (fun k => X (ix2 r k)) (O (ix2 r l)) l

/-- The input's gradient, an extended real array. -/
def dxF (A : S8192x1536.Idx → ℝ) (U : S8192x256.Idx → ℝ) (W : S2x1024x1792.Idx → ℝ) (O X : S8192x1024.Idx → ℝ) (G : S1024.Idx → ℝ) : S8192x1024.Idx → EReal := fun i =>
  ((dxA A U W O X G (i 0) (i 1) : ℝ) : EReal)

/-- The gain's gradient: one row's part, and the sum over the rows. -/
def gterm (A : S8192x1536.Idx → ℝ) (U : S8192x256.Idx → ℝ) (W : S2x1024x1792.Idx → ℝ) (X : S8192x1024.Idx → ℝ) (l : Fin 1024) (r : Fin 8192) : ℝ :=
  dhA A U W r l * (X (ix2 r l) * rs fun k => X (ix2 r k))

def dgainF (A : S8192x1536.Idx → ℝ) (U : S8192x256.Idx → ℝ) (W : S2x1024x1792.Idx → ℝ) (X : S8192x1024.Idx → ℝ) : S1x1024.Idx → EReal := fun i =>
  ((∑ r : Fin 8192, gterm A U W X (i 1) r : ℝ) : EReal)

variable {A : S8192x1536.Idx → ℝ} {U : S8192x256.Idx → ℝ} {W : S2x1024x1792.Idx → ℝ} {O X : S8192x1024.Idx → ℝ} {G : S1024.Idx → ℝ} (H : Real6 m c A U W O X G)

include H

theorem block_dx (n : ℕ) (h : n < cfg0.N) (r : Fin 512) (l : Fin 1024) :
    k0_pay1 (F := Ideal) (k0_pay8 (F := Ideal) (iblk m c 0 ⟨n, h⟩) (X0_1 m c ⟨n, h⟩) (iblk m c 2 ⟨n, h⟩) (iblk m c 3 ⟨n, h⟩) (iblk m c 5 ⟨n, h⟩) (iblk m c 6 ⟨n, h⟩)) (iblk m c 4 ⟨n, h⟩) (ix2 r l)
      = ((dxA A U W O X G (row n r) l : ℝ) : EReal) := by
  rw [pay1_apply _ _ _ _ _ _ _ (fun r k => (iblk0_apply m c n h r k).trans (congrFun H.a _)) (fun r k => (iblk2_apply m c n h r k).trans (congrFun H.u _))
    (fun r k => (wblk1_apply m c n h r k).trans (congrFun H.w _)) (fun r k => (iblk3_apply m c n h r k).trans (congrFun H.w _))
    (fun r k => (iblk5_apply m c n h r k).trans (congrFun H.x _)) (fun r k => (iblk4_apply m c n h r k).trans (congrFun H.o _))
    (fun k => (iblk6_apply m c n h k).trans (congrFun H.g _))]
  rfl

theorem arr7 : (dats m 0 c).arrAt 7 cfg0.N = dxF A U W O X G := by
  refine (dats m 0 c).arrAt_eq_of_covers 7 _ (by decide +kernel) fun t hf y => ?_
  have e : ∀ t : Fin cfg0.N, win0_7.index t = ![t.val % 16, 0] := by decide +kernel
  blk_simp
  rw [after0_7, outs7]
  obtain ⟨r, l, rfl⟩ : ∃ (r : Fin 512) (l : Fin 1024), y = ix2 r l := ⟨y 0, y 1, eq_ix2 y⟩
  have he : (win0_7.blk t).view.emb (ix2 r l) = ix2 (row t.val r) l := by
    refine Shape.idx_ext₂ ?_ ?_ <;> blk_simp <;> rw [e] <;> simp [row]
  rw [he, block_dx m c H t.val t.isLt r l]
  rfl

theorem arr8 : (dats m 0 c).arrAt 8 cfg0.N = dxF A U W O X G := by
  refine (dats m 0 c).arrAt_eq_of_covers 8 _ (by decide +kernel) fun t hf y => ?_
  have e : ∀ t : Fin cfg0.N, win0_8.index t = ![t.val % 16, 0] := by decide +kernel
  blk_simp
  rw [after0_8, outs8]
  obtain ⟨r, l, rfl⟩ : ∃ (r : Fin 512) (l : Fin 1024), y = ix2 r l := ⟨y 0, y 1, eq_ix2 y⟩
  have he : (win0_8.blk t).view.emb (ix2 r l) = ix2 (row t.val r) l := by
    refine Shape.idx_ext₂ ?_ ?_ <;> blk_simp <;> rw [e] <;> simp [row]
  rw [he]
  exact block_dx m c H t.val t.isLt r l

/-- The part of the gain's gradient that grid point `n` adds. -/
def gadd (A : S8192x1536.Idx → ℝ) (U : S8192x256.Idx → ℝ) (W : S2x1024x1792.Idx → ℝ) (X : S8192x1024.Idx → ℝ) (n : ℕ) (l : Fin 1024) : ℝ :=
  ∑ r : Fin 512, gterm A U W X l (row n r)

theorem step9 (n : ℕ) (h : n < cfg0.N) (acc : FVec Ideal S1x1024 .f32) (j : S1x1024.Idx) :
    k0_pay4 (F := Ideal) (k0_pay5 (iblk m c 0 ⟨n, h⟩) (X0_1 m c ⟨n, h⟩) (iblk m c 2 ⟨n, h⟩) (iblk m c 3 ⟨n, h⟩)) (k0_pay7 (iblk m c 5 ⟨n, h⟩)) acc j
      = acc j + ((gadd A U W X n (j 1) : ℝ) : EReal) := by
  obtain ⟨z, l, rfl⟩ : ∃ (z : Fin 1) (l : Fin 1024), j = ix2 z l := ⟨j 0, j 1, eq_ix2 j⟩
  obtain rfl : z = 0 := Subsingleton.elim _ _
  rw [pay4_apply _ _ _ _ _ (fun r k => (iblk0_apply m c n h r k).trans (congrFun H.a _)) (fun r k => (iblk2_apply m c n h r k).trans (congrFun H.u _))
    (fun r k => (wblk1_apply m c n h r k).trans (congrFun H.w _)) (fun r k => (iblk3_apply m c n h r k).trans (congrFun H.w _))
    (fun r k => (iblk5_apply m c n h r k).trans (congrFun H.x _))]
  rfl

theorem arr9 : (dats m 0 c).arrAt 9 cfg0.N = dgainF A U W X := by
  refine (dats m 0 c).arrAt_eq_of_covers 9 _ (by decide +kernel) fun t hf y => ?_
  have e : ∀ t : Fin cfg0.N, win0_9.index t = ![0, 0] := by decide +kernel
  blk_simp
  rw [after0_9]
  obtain ⟨z, l, rfl⟩ : ∃ (z : Fin 1) (l : Fin 1024), y = ix2 z l := ⟨y 0, y 1, eq_ix2 y⟩
  have he : (win0_9.blk t).view.emb (ix2 z l) = ix2 z l := by
    refine Shape.idx_ext₂ ?_ ?_ <;> blk_simp <;> rw [e] <;> simp
  rw [he]
  have hr := (flush0_9 t).mp hf
  have hN : t.val < 16 := lt_of_lt_of_eq t.isLt N_0
  rw [Pipeline.eq_sum_fin_of_reset_step_apply_of_flush (fun n h => (outsAt0 m c n h).2.2) 16 (fun _ => (0 : EReal)) (fun t j => ((gadd A U W X t.val (j 1) : ℝ) : EReal))
    (fun t h0 j => by
      show (outsAt0 m c t.val t.isLt).2.2 j = _
      rw [outs9_A m c t h0, step9 m c H t.val t.isLt, zero9])
    (fun t h0 j => by
      show (outsAt0 m c t.val t.isLt).2.2 j = _
      rw [outs9_B m c t h0, step9 m c H t.val t.isLt]) t hr]
  rw [zero_add, Reals.coe_sum]
  unfold dgainF gadd
  refine congrArg _ ?_
  refine Eq.trans ?_ (Fin.sum_mul_add_fin 16 512 (gterm A U W X l))
  refine Finset.sum_congr rfl fun s _ => Finset.sum_congr rfl fun q _ => ?_
  have hs := s.isLt
  refine congrArg (gterm A U W X l) (Fin.ext ?_)
  show (16 * (t.val / 16) + s.val) % 16 * 512 + q.val = s.val * 512 + q.val
  omega

end Cert.DinIdeal.Value

/-! ## The reference's lines -/

namespace Cert.DinRefIdeal.Read

open Cert.DinRefIdeal Cert.DinRefIdeal.Gen Idealize.ShloMosaic Idealize.ShloMosaic.TcCoe Idealize.SL.Sem
open scoped BigOperators

variable {A : S8192x1536.Idx → ℝ} {U : S8192x256.Idx → ℝ} {W : S2x1024x1792.Idx → ℝ} {O X : S8192x1024.Idx → ℝ} {G : S1024.Idx → ℝ}

/-- The coercion of a real array. -/
abbrev up {S : Shape} {φ : FTy} (X : S.Idx → ℝ) : FVec Ideal S φ := fun i => ((X i : ℝ) : EReal)

theorem v8_at (r : Fin 8192) : val_main_v8 (F := Ideal) (up (φ := .f32) X) (ix2 r 0) = ((Cert.UpIdeal.Value.ms (fun k => X (ix2 r k)) : ℝ) : EReal) := by
  pointwise [val_main_v8, val_main_v7, val_main_v6, val_main_v5, val_main_v4, val_main_v3, val_main_v2, val_main_cst, val_main_cst_0, val_main_cst_1]
  simp only [up, ← EReal.coe_mul, Reals.coe_sum, Reals.n1024_f32, Reals.eps_f32]
  rw [Reals.div_real (by norm_num), ← EReal.coe_add]
  rfl

theorem v9_at (r : Fin 8192) : val_main_v9 (F := Ideal) (up (φ := .f32) X) (ix2 r 0) = ((Cert.UpIdeal.Value.rs (fun k => X (ix2 r k)) : ℝ) : EReal) := by
  have e := v8_at (X := X) r
  unfold val_main_v9
  generalize val_main_v8 (F := Ideal) (up (φ := .f32) X) = y at e ⊢
  pointwise []
  rw [e, Reals.rsqrt_real (Cert.UpIdeal.Value.ms_pos _)]
  rfl

theorem v12_at (r : Fin 8192) : val_main_v12 (F := Ideal) (up (φ := .f32) X) (ix2 r 0)
    = ((-(1 / 2) * (Cert.UpIdeal.Value.rs (fun k => X (ix2 r k)) / Cert.UpIdeal.Value.ms (fun k => X (ix2 r k))) : ℝ) : EReal) := by
  have e6 := v8_at (X := X) r
  have e7 := v9_at (X := X) r
  unfold val_main_v12 val_main_v10
  generalize val_main_v8 (F := Ideal) (up (φ := .f32) X) = y at e6 ⊢
  generalize val_main_v9 (F := Ideal) (up (φ := .f32) X) = y at e7 ⊢
  pointwise [val_main_v11, val_main_cst_2]
  rw [e6, e7, Reals.neg_half_f32, Reals.div_real (Cert.UpIdeal.Value.ms_pos _).ne', ← EReal.coe_mul]

theorem v22_at (r : Fin 8192) (l : Fin 1024) : val_main_v22 (F := Ideal) (up (φ := .bf16) A) (up (φ := .bf16) U) (up (φ := .bf16) W) (ix2 r l)
    = ((Cert.DinIdeal.Value.dhA A U W r l : ℝ) : EReal) := by
  pointwise [val_main_v22, val_main_v1, val_main_v0, val_main_v20, val_main_v19, val_main_v18]
  simp only [up, ← EReal.coe_mul, Reals.coe_sum, ← EReal.coe_add]
  rfl

theorem v27_at (r : Fin 8192) (l : Fin 1024) : val_main_v27 (F := Ideal) (up (φ := .bf16) A) (up (φ := .bf16) U) (up (φ := .bf16) W) (up (φ := .f32) G) (ix2 r l)
    = ((Cert.DinIdeal.Value.dhA A U W r l * G (ix1 l) : ℝ) : EReal) := by
  have e := v22_at (A := A) (U := U) (W := W) r l
  unfold val_main_v27
  generalize val_main_v22 (F := Ideal) (up (φ := .bf16) A) (up (φ := .bf16) U) (up (φ := .bf16) W) = y at e ⊢
  pointwise [val_main_v26, val_main_v15]
  rw [e, ← EReal.coe_mul]

/-- The factor that the mean square's gradient gives a row. -/
theorem v39_at (r : Fin 8192) (l : Fin 1024) : val_main_v39 (F := Ideal) (up (φ := .bf16) A) (up (φ := .bf16) U) (up (φ := .bf16) W) (up (φ := .f32) X) (up (φ := .f32) G) (ix2 r l)
    = (((∑ k, X (ix2 r k) * (Cert.DinIdeal.Value.dhA A U W r k * G (ix1 k))) * (-(1 / 2) * (Cert.UpIdeal.Value.rs (fun k => X (ix2 r k)) / Cert.UpIdeal.Value.ms (fun k => X (ix2 r k)))) / 1024 : ℝ) : EReal) := by
  have e29 := fun k => v27_at (A := A) (U := U) (W := W) (G := G) r k
  have e10 := v12_at (X := X) r
  unfold val_main_v39 val_main_v38 val_main_v37 val_main_v35 val_main_v31 val_main_v30 val_main_v29
  generalize val_main_v27 (F := Ideal) (up (φ := .bf16) A) (up (φ := .bf16) U) (up (φ := .bf16) W) (up (φ := .f32) G) = y at e29 ⊢
  generalize val_main_v12 (F := Ideal) (up (φ := .f32) X) = y at e10 ⊢
  pointwise [val_main_v36, val_main_cst_5, val_main_cst_6, val_main_cst_7]
  simp only [e29, up, ← EReal.coe_mul, Reals.coe_sum, Reals.n1024_f32]
  rw [Fin.sum_univ_one]
  rw [show y (ix2 r 0) = _ from e10, ← EReal.coe_mul, Reals.div_real (by norm_num)]

theorem v43_at (r : Fin 8192) (l : Fin 1024) : val_main_v43 (F := Ideal) (up (φ := .bf16) A) (up (φ := .bf16) U) (up (φ := .bf16) W) (up (φ := .f32) O) (up (φ := .f32) X) (up (φ := .f32) G) (ix2 r l)
    = ((Cert.DinIdeal.Value.dxA A U W O X G r l : ℝ) : EReal) := by
  have e29 := v27_at (A := A) (U := U) (W := W) (G := G) r l
  have e7 := v9_at (X := X) r
  have e41 := v39_at (A := A) (U := U) (W := W) (X := X) (G := G) r l
  unfold val_main_v43 val_main_v42 val_main_v41 val_main_v40 val_main_v34 val_main_v33 val_main_v32
  generalize val_main_v27 (F := Ideal) (up (φ := .bf16) A) (up (φ := .bf16) U) (up (φ := .bf16) W) (up (φ := .f32) G) = y29 at e29 ⊢
  generalize val_main_v39 (F := Ideal) (up (φ := .bf16) A) (up (φ := .bf16) U) (up (φ := .bf16) W) (up (φ := .f32) X) (up (φ := .f32) G) = y41 at e41 ⊢
  generalize val_main_v9 (F := Ideal) (up (φ := .f32) X) = y7 at e7 ⊢
  pointwise []
  simp only [e29, e7, e41, up, ← EReal.coe_mul, ← EReal.coe_add]
  exact congrArg _ (Cert.UpIdeal.Value.dxR_eq _ (fun k => G (ix1 k)) _ _ l _ rfl)

theorem v45_at (l : Fin 1024) : val_main_v45 (F := Ideal) (up (φ := .bf16) A) (up (φ := .bf16) U) (up (φ := .bf16) W) (up (φ := .f32) X) (ix2 0 l)
    = ((∑ r : Fin 8192, Cert.DinIdeal.Value.gterm A U W X l r : ℝ) : EReal) := by
  have e24 := fun r l => v22_at (A := A) (U := U) (W := W) r l
  have e7 := fun r => v9_at (X := X) r
  unfold val_main_v45 val_main_v28 val_main_v25 val_main_v24 val_main_v23 val_main_v14 val_main_v13
  generalize val_main_v22 (F := Ideal) (up (φ := .bf16) A) (up (φ := .bf16) U) (up (φ := .bf16) W) = y24 at e24 ⊢
  generalize val_main_v9 (F := Ideal) (up (φ := .f32) X) = y7 at e7 ⊢
  pointwise [val_main_cst_3, val_main_cst_4]
  simp only [e24, e7, up, ← EReal.coe_mul, Reals.coe_sum]
  rw [Fin.sum_univ_one]
  exact congrArg _ (Finset.sum_congr rfl fun r _ => mul_comm _ _)

end Cert.DinRefIdeal.Read

/-! ## The claim -/

namespace Cert.Proof

open Idealize.ShloMosaic Idealize.ShloMosaic.TcCoe Idealize.SL.Sem

/-- The shape facts that the finiteness check states. -/
theorem facts_din : Cert.Pre_finite_din.Facts := by constructor <;> decide

/-- The precondition makes every argument a real array. -/
theorem din_real (m : (ℓ : Loc Cert.DinIdeal.nD Cert.DinIdeal.τ Cert.DinIdeal.sig) → Buf (Elt Ideal) ℓ)
    (h : Pre_DinIdeal_finite_din (hPre_finite_din := facts_din) m) (c : Dev Cert.DinIdeal.nD) :
    ∃ A U W O X G, Cert.DinIdeal.Value.Real6 m c A U W O X G := by
  obtain ⟨h0, h1, h2, h3, h4, h5⟩ := h c
  have q : ∀ {S : Shape} (x : FVec Ideal S .bf16), (∀ i, Ideal.cmp .olt (max (x i) (-(x i))) (Ideal.ofBits .bf16 0x7F80#16) = 1#1) → ∃ X : S.Idx → ℝ, x = fun i => ((X i : ℝ) : EReal) :=
    fun x hx => Cert.Reals.lift fun i => Cert.Reals.real_of_olt (by rw [← Cert.Reals.top_bf16]; exact hx i)
  have q' : ∀ {S : Shape} (x : FVec Ideal S .f32), (∀ i, Ideal.cmp .olt (max (x i) (-(x i))) (Ideal.ofBits .f32 0x7F800000#32) = 1#1) → ∃ X : S.Idx → ℝ, x = fun i => ((X i : ℝ) : EReal) :=
    fun x hx => Cert.Reals.lift fun i => Cert.Reals.real_of_olt (by rw [← Cert.Reals.top_f32]; exact hx i)
  obtain ⟨A, hA⟩ := q _ (fun i => congrFun h0 i)
  obtain ⟨U, hU⟩ := q _ (fun i => congrFun h1 i)
  obtain ⟨W, hW⟩ := q _ (fun i => congrFun h2 i)
  obtain ⟨O, hO⟩ := q' _ (fun i => congrFun h3 i)
  obtain ⟨X, hX⟩ := q' _ (fun i => congrFun h4 i)
  obtain ⟨G, hG⟩ := q' _ (fun i => congrFun h5 i)
  exact ⟨A, U, W, O, X, G, hA, hU, hW, hO, hX, hG⟩

theorem algebraic_din : algebraic_DinIdeal_DinRefIdeal_pre_finite_din (hDinIdeal := Cert.DinIdeal.Gen.facts) (hDinRefIdeal := Cert.DinRefIdeal.Gen.facts) (hPre_finite_din := facts_din) := by
  intro m g m' g' hp hm
  choose A U W O X G H using din_real m hp
  refine ⟨fun c => Cert.DinIdeal.Value.dxF (A c) (U c) (W c) (O c) (X c) (G c), fun c => Cert.DinIdeal.Value.dxF (A c) (U c) (W c) (O c) (X c) (G c), fun c => Cert.DinIdeal.Value.dgainF (A c) (U c) (W c) (X c), ?_, ?_⟩
  · refine (θ_run _ _ _).mono (fun r h c => ?_) (Cert.DinIdeal.Value.run_blocks m g)
    obtain ⟨h7, h8, h9, h⟩ := h c
    exact ⟨h7.trans (Cert.DinIdeal.Value.arr7 m c (H c)), h8.trans (Cert.DinIdeal.Value.arr8 m c (H c)), h9.trans (Cert.DinIdeal.Value.arr9 m c (H c)), h⟩
  · refine (θ_run _ _ _).mono (fun r h c => ?_) (Cert.DinRefIdeal.Value.run m' g')
    obtain ⟨h7, h8, h9, h⟩ := h c
    obtain ⟨e0, e1, e2, e3, e4, e5⟩ := hm c
    replace e0 := e0.trans (H c).a
    replace e1 := e1.trans (H c).u
    replace e2 := e2.trans (H c).w
    replace e3 := e3.trans (H c).o
    replace e4 := e4.trans (H c).x
    replace e5 := e5.trans (H c).g
    have p : Cert.DinRefIdeal.Value.res_main_v43 m' c = Cert.DinIdeal.Value.dxF (A c) (U c) (W c) (O c) (X c) (G c) := by
      rw [Cert.DinRefIdeal.Read.val_main_v43_eq, e0, e1, e2, e3, e4, e5]
      funext i
      obtain ⟨r, l, rfl⟩ : ∃ (r : Fin 8192) (l : Fin 1024), i = ix2 r l := ⟨i 0, i 1, eq_ix2 i⟩
      exact Cert.DinRefIdeal.Read.v43_at r l
    refine ⟨h7.trans p, h8.trans ?_, h9.trans ?_, h⟩
    · refine Eq.trans ?_ p
      rw [Cert.DinRefIdeal.Read.val_main_v43_eq, Cert.DinRefIdeal.Read.val_main_v44_eq]
      rfl
    · rw [Cert.DinRefIdeal.Read.val_main_v45_eq, e0, e1, e2, e4]
      funext i
      obtain ⟨z, l, rfl⟩ : ∃ (z : Fin 1) (l : Fin 1024), i = ix2 z l := ⟨i 0, i 1, eq_ix2 i⟩
      obtain rfl : z = 0 := Subsingleton.elim _ _
      exact Cert.DinRefIdeal.Read.v45_at l

end Cert.Proof
-- ==== Proof.KvValue.lean ====
/- The shared keys' and values' projection: the output array holds the product, and the reference's is the same. -/
module

public import proofs.«01_k».proof.Proof.Gen.KvIdeal.Value
public import proofs.«01_k».proof.Proof.Gen.KvRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.KvIdeal.Value

open Cert.KvIdeal Cert.KvIdeal.Gen Idealize.ShloMosaic Idealize.ShloMosaic.TcCoe Idealize.SL.Sem
open scoped BigOperators

variable (m : (ℓ : Loc nD τ sig) → Buf (Elt Ideal) ℓ)

/-- The block of the left array at grid point `n`: rows `512·(n mod 16) …`, all columns. -/
theorem iblk0_apply (c : Dev nD) (n : ℕ) (h : n < cfg0.N) (r : Fin 512) (l : Fin 1024) :
    iblk m c 0 ⟨n, h⟩ (ix2 r l) = m ((c : Thread nD τ).loc main_arg0) (ix2 ⟨n % 16 * 512 + r.val, by omega⟩ l) := by
  have e : ∀ t : Fin cfg0.N, win0_0.index t = ![t.val % 16, 0] := by decide +kernel
  blk_ext [iblk, V, e]

/-- The block of the weights: their columns. -/
theorem iblk1_apply (c : Dev nD) (n : ℕ) (h : n < cfg0.N) (r : Fin 1024) (l : Fin 768) :
    iblk m c 1 ⟨n, h⟩ (ix2 r l) = m ((c : Thread nD τ).loc main_arg1) (ix2 r ⟨n / 16 % 2 * 768 + l.val, by omega⟩) := by
  have e : ∀ t : Fin cfg0.N, win0_1.index t = ![0, t.val / 16 % 2] := by decide +kernel
  blk_ext [iblk, V, e]

/-- A block's product. -/
theorem pay1_apply (x : FVec Ideal S512x1024 .bf16) (w : FVec Ideal S1024x768 .bf16) (r : Fin 512) (l : Fin 768) :
    k0_pay1 (F := Ideal) x w (ix2 r l) = ∑ k : Fin 1024, x (ix2 r k) * w (ix2 k l) := by
  pointwise [k0_pay1]

/-- The product at an index of the array. -/
def prod (x : FVec Ideal S8192x1024 .bf16) (w : FVec Ideal S1024x1536 .bf16) : FVec Ideal S8192x1536 .bf16 := fun i =>
  ∑ k : Fin 1024, x (ix2 (i 0) k) * w (ix2 k (i 1))

theorem arr2 (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have e : ∀ t : Fin cfg0.N, win0_2.index t = ![t.val % 16, t.val / 16 % 2] := by decide +kernel
  blk_simp
  rw [after0_2]
  frame_out
  obtain ⟨r, l, rfl⟩ : ∃ (r : Fin 512) (l : Fin 768), y = ix2 r l := ⟨y 0, y 1, eq_ix2 y⟩
  have he : (win0_2.blk t).view.emb (ix2 r l) = ix2 (⟨t.val % 16 * 512 + r.val, by omega⟩ : Fin 8192) (⟨t.val / 16 % 2 * 768 + l.val, by omega⟩ : Fin 1536) := by
    refine Shape.idx_ext₂ ?_ ?_ <;> blk_simp <;> rw [e] <;> rfl
  rw [he, pay1_apply]
  simp only [iblk0_apply m c t.val t.isLt, iblk1_apply m c t.val t.isLt]
  rfl

end Cert.KvIdeal.Value

/-! ## The claim -/

namespace Cert.Proof

open Idealize.ShloMosaic Idealize.ShloMosaic.TcCoe Idealize.SL.Sem

theorem algebraic_kv : algebraic_KvIdeal_KvRefIdeal (hKvIdeal := Cert.KvIdeal.Gen.facts) (hKvRefIdeal := Cert.KvRefIdeal.Gen.facts) := by
  intro m g m' g' _ hm
  refine ⟨fun c => Cert.KvIdeal.Value.prod (m ((c.tc : Thread _ _).loc Cert.KvIdeal.main_arg0)) (m ((c.tc : Thread _ _).loc Cert.KvIdeal.main_arg1)), ?_, ?_⟩
  · refine (θ_run _ _ _).mono (fun r h c => ?_) (Cert.KvIdeal.Value.run_blocks m g)
    obtain ⟨h0, h⟩ := h c
    exact ⟨h0.trans (Cert.KvIdeal.Value.arr2 m c), h⟩
  · refine (θ_run _ _ _).mono (fun r h c => ?_) (Cert.KvRefIdeal.Value.run m' g')
    obtain ⟨h0, h⟩ := h c
    obtain ⟨e0, e1⟩ := hm c
    refine ⟨h0.trans ?_, h⟩
    rw [e0, e1]
    funext i
    obtain ⟨r, l, rfl⟩ : ∃ (r : Fin 8192) (l : Fin 1536), i = ix2 r l := ⟨i 0, i 1, eq_ix2 i⟩
    unfold Cert.KvIdeal.Value.prod
    pointwise []

end Cert.Proof

end
-- ==== Proof.KinValue.lean ====
/- The shared keys' and values' projection, backward: the product with the two joined cotangents, the normalization's gradient
   with the residual added, and the gain's gradient. What the kernel leaves in its three output arrays, as real numbers, and
   that the reference's chain-rule lines are the same. -/
module

public import proofs.«01_k».proof.Proof.Gen.KinIdeal.Value
public import proofs.«01_k».proof.Proof.Gen.KinRefIdeal.Run
public import proofs.«01_k».proof.Proof.Gen.KinRefIdeal.Read
public import proofs.«01_k».proof.Defs
public import proofs.«01_k».proof.Proof.UpValue
public import Idealize.ShloMosaic.Lib.Pointwise
public import Idealize.ShloMosaic.Lib.Claim
public import Idealize.ShloMosaic.Lib.Pipeline.ValueKit

@[expose] public section

set_option maxRecDepth 16384

noncomputable section

namespace Cert.KinIdeal.Value

open Cert.UpIdeal.Value (ms ms_pos rs dxR dxR_eq)
open Cert.KinIdeal Cert.KinIdeal.Gen Idealize.ShloMosaic Idealize.ShloMosaic.TcCoe Idealize.SL.Sem
open scoped BigOperators

/-! ## The gradient in real numbers -/

/-- The cotangent of the normalized row, at one place. -/
def dh (a wa : Fin 768 → ℝ) (u wu : Fin 768 → ℝ) : ℝ := (∑ k, a k * wa k) + ∑ k, u k * wu k

/-! ## The kernel's payloads -/

section Payloads
variable (a : FVec Ideal S512x768 .f32) (wa : FVec Ideal S1024x768 .bf16) (u : FVec Ideal S512x768 .f32) (wu : FVec Ideal S1024x768 .bf16) (x o : FVec Ideal S512x1024 .f32) (g : FVec Ideal S1x1024 .f32)
  {A : Fin 512 → Fin 768 → ℝ} {U : Fin 512 → Fin 768 → ℝ} {WA : Fin 1024 → Fin 768 → ℝ} {WU : Fin 1024 → Fin 768 → ℝ} {X O : Fin 512 → Fin 1024 → ℝ} {G : Fin 1024 → ℝ}
  (ha : ∀ r k, a (ix2 r k) = ((A r k : ℝ) : EReal)) (hu : ∀ r k, u (ix2 r k) = ((U r k : ℝ) : EReal))
  (hwa : ∀ r k, wa (ix2 r k) = ((WA r k : ℝ) : EReal)) (hwu : ∀ r k, wu (ix2 r k) = ((WU r k : ℝ) : EReal))
  (hx : ∀ r k, x (ix2 r k) = ((X r k : ℝ) : EReal)) (ho : ∀ r k, o (ix2 r k) = ((O r k : ℝ) : EReal))
  (hg : ∀ k, g (ix2 0 k) = ((G k : ℝ) : EReal)) (r : Fin 512) (l : Fin 1024)

include ha hu hwa hwu in
theorem pay4_apply : k0_pay4 (F := Ideal) a wa u wu (ix2 r l) = ((dh (A r) (WA l) (U r) (WU l) : ℝ) : EReal) := by
  pointwise [k0_pay4]
  simp only [ha, hu, hwa, hwu, ← EReal.coe_mul, Reals.coe_sum, ← EReal.coe_add]
  rfl

include hx in
theorem pay5_apply : k0_pay5 (F := Ideal) x (ix2 r 0) = ((rs (X r) : ℝ) : EReal) := by
  have p := ms_pos (X r)
  unfold ms at p
  pointwise [k0_pay5]
  simp only [hx, ← EReal.coe_mul, Reals.coe_sum, Reals.n1024_f32, Reals.eps_f32]
  rw [Reals.div_real (by norm_num), ← EReal.coe_add, Reals.rsqrt_real p]
  rfl

include hx in
theorem pay6_apply : k0_pay6 (F := Ideal) x (ix2 r l) = ((X r l * rs (X r) : ℝ) : EReal) := by
  have e := pay5_apply x hx r
  generalize hy : k0_pay5 (F := Ideal) x = y at e
  unfold k0_pay6
  rw [hy]
  pointwise []
  rw [e, hx, ← EReal.coe_mul]

include ha hu hwa hwu hx ho hg in
theorem pay7_apply : k0_pay7 (F := Ideal) a wa u wu x g o (ix2 r l)
    = ((dxR (fun l => dh (A r) (WA l) (U r) (WU l)) G (X r) (O r l) l : ℝ) : EReal) := by
  have e4 := fun l => pay4_apply a wa u wu ha hu hwa hwu r l
  have e5 := pay5_apply x hx r
  have e6 := fun l => pay6_apply x hx r l
  unfold k0_pay7
  generalize k0_pay4 (F := Ideal) a wa u wu = y4 at e4 ⊢
  generalize k0_pay5 (F := Ideal) x = y5 at e5 ⊢
  generalize k0_pay6 (F := Ideal) x = y6 at e6 ⊢
  pointwise []
  simp only [e4, e5, e6, ho, hg, Reals.n1024_f32, ← EReal.coe_mul, Reals.coe_sum]
  rw [Reals.div_real (by norm_num), ← EReal.coe_mul, ← EReal.coe_sub, ← EReal.coe_mul, ← EReal.coe_add]
  rfl

include ha hu hwa hwu hx in
theorem pay3_apply (acc : FVec Ideal S1x1024 .f32) : k0_pay3 (F := Ideal) (k0_pay4 a wa u wu) (k0_pay6 x) acc (ix2 0 l)
    = acc (ix2 0 l) + ((∑ r : Fin 512, dh (A r) (WA l) (U r) (WU l) * (X r l * rs (X r)) : ℝ) : EReal) := by
  have e4 := fun r l => pay4_apply a wa u wu ha hu hwa hwu r l
  have e6 := fun r l => pay6_apply x hx r l
  generalize k0_pay4 (F := Ideal) a wa u wu = y4 at e4 ⊢
  generalize k0_pay6 (F := Ideal) x = y6 at e6 ⊢
  pointwise [k0_pay3]
  simp only [e4, e6, ← EReal.coe_mul, Reals.coe_sum]

end Payloads

theorem zero9 (i : S1x1024.Idx) : k0_pay2 (F := Ideal) i = 0 := by pointwise [k0_pay2]

/-! ## The kernel's blocks and what each grid point leaves -/

variable (m : (ℓ : Loc nD τ sig) → Buf (Elt Ideal) ℓ) (c : Dev nD)

theorem outs7 (t : Fin cfg0.N) : (outsAt0 m c t.val t.isLt).1 = k0_pay7 (F := Ideal) (iblk m c 0 t) (iblk m c 1 t) (iblk m c 2 t) (iblk m c 3 t) (iblk m c 5 t) (iblk m c 6 t) (iblk m c 4 t) := by
  by_cases h0 : t.val % 16 = 0
  · rw [outsAt0_A m c t h0]
    frame_out
  · rw [outsAt0_B m c t h0]
    frame_out

theorem outs8 (t : Fin cfg0.N) : (outsAt0 m c t.val t.isLt).2.1 = k0_pay1 (F := Ideal) (k0_pay7 (F := Ideal) (iblk m c 0 t) (iblk m c 1 t) (iblk m c 2 t) (iblk m c 3 t) (iblk m c 5 t) (iblk m c 6 t) (iblk m c 4 t)) := by
  by_cases h0 : t.val % 16 = 0
  · rw [outsAt0_A m c t h0]
    frame_out
  · rw [outsAt0_B m c t h0]
    frame_out

theorem outs9_A (t : Fin cfg0.N) (h0 : t.val % 16 = 0) :
    (outsAt0 m c t.val t.isLt).2.2 = k0_pay3 (F := Ideal) (k0_pay4 (iblk m c 0 t) (iblk m c 1 t) (iblk m c 2 t) (iblk m c 3 t)) (k0_pay6 (iblk m c 5 t)) (k0_pay2 (F := Ideal)) := by
  rw [outsAt0_A m c t h0]
  frame_out

theorem outs9_B (t : Fin cfg0.N) (h0 : ¬t.val % 16 = 0) :
    (outsAt0 m c t.val t.isLt).2.2 = k0_pay3 (F := Ideal) (k0_pay4 (iblk m c 0 t) (iblk m c 1 t) (iblk m c 2 t) (iblk m c 3 t)) (k0_pay6 (iblk m c 5 t)) ((outsAt0 m c (t.val - 1) (Nat.lt_of_le_of_lt (Nat.sub_le _ _) t.isLt)).2.2) := by
  rw [outsAt0_B m c t h0]
  frame_out

/-- The arguments as real arrays. -/
structure Real6 (A : S8192x768.Idx → ℝ) (U : S8192x768.Idx → ℝ) (W : S1024x1536.Idx → ℝ) (O X : S8192x1024.Idx → ℝ) (G : S1024.Idx → ℝ) : Prop where
  a : m ((c : Thread nD τ).loc main_arg0) = fun i => ((A i : ℝ) : EReal)
  u : m ((c : Thread nD τ).loc main_arg1) = fun i => ((U i : ℝ) : EReal)
  w : m ((c : Thread nD τ).loc main_arg2) = fun i => ((W i : ℝ) : EReal)
  o : m ((c : Thread nD τ).loc main_arg3) = fun i => ((O i : ℝ) : EReal)
  x : m ((c : Thread nD τ).loc main_arg4) = fun i => ((X i : ℝ) : EReal)
  g : m ((c : Thread nD τ).loc main_arg5) = fun i => ((G i : ℝ) : EReal)

/-- The row of a grid point's block, in the whole array. -/
def row (n : ℕ) (r : Fin 512) : Fin 8192 := ⟨n % 16 * 512 + r.val, by omega⟩

theorem iblk0_apply (n : ℕ) (h : n < cfg0.N) (r : Fin 512) (l : Fin 768) :
    iblk m c 0 ⟨n, h⟩ (ix2 r l) = m ((c : Thread nD τ).loc main_arg0) (ix2 (row n r) l) := by
  have e : ∀ t : Fin cfg0.N, win0_0.index t = ![t.val % 16, 0] := by decide +kernel
  unfold row
  blk_ext [iblk, V, e]

theorem iblk1_apply (n : ℕ) (h : n < cfg0.N) (r : Fin 1024) (l : Fin 768) :
    iblk m c 1 ⟨n, h⟩ (ix2 r l) = m ((c : Thread nD τ).loc main_arg2) (ix2 r ⟨l.val, by omega⟩) := by
  have e : ∀ t : Fin cfg0.N, win0_1.index t = ![0, 0] := by decide +kernel
  blk_ext [iblk, V, e]

theorem iblk2_apply (n : ℕ) (h : n < cfg0.N) (r : Fin 512) (l : Fin 768) :
    iblk m c 2 ⟨n, h⟩ (ix2 r l) = m ((c : Thread nD τ).loc main_arg1) (ix2 (row n r) l) := by
  have e : ∀ t : Fin cfg0.N, win0_2.index t = ![t.val % 16, 0] := by decide +kernel
  unfold row
  blk_ext [iblk, V, e]

/-- The weight's last 768 columns. -/
theorem iblk3_apply (n : ℕ) (h : n < cfg0.N) (r : Fin 1024) (l : Fin 768) :
    iblk m c 3 ⟨n, h⟩ (ix2 r l) = m ((c : Thread nD τ).loc main_arg2) (ix2 r ⟨768 + l.val, by omega⟩) := by
  have e : ∀ t : Fin cfg0.N, win0_3.index t = ![0, 1] := by decide +kernel
  blk_ext [iblk, V, e]

theorem iblk4_apply (n : ℕ) (h : n < cfg0.N) (r : Fin 512) (l : Fin 1024) :
    iblk m c 4 ⟨n, h⟩ (ix2 r l) = m ((c : Thread nD τ).loc main_arg3) (ix2 (row n r) l) := by
  have e : ∀ t : Fin cfg0.N, win0_4.index t = ![t.val % 16, 0] := by decide +kernel
  unfold row
  blk_ext [iblk, V, e]

theorem iblk5_apply (n : ℕ) (h : n < cfg0.N) (r : Fin 512) (l : Fin 1024) :
    iblk m c 5 ⟨n, h⟩ (ix2 r l) = m ((c : Thread nD τ).loc main_arg4) (ix2 (row n r) l) := by
  have e : ∀ t : Fin cfg0.N, win0_5.index t = ![t.val % 16, 0] := by decide +kernel
  unfold row
  blk_ext [iblk, V, e]

theorem iblk6_apply (n : ℕ) (h : n < cfg0.N) (l : Fin 1024) :
    iblk m c 6 ⟨n, h⟩ (ix2 0 l) = m ((c : Thread nD τ).loc main_arg5) (ix1 l) := by
  have e : ∀ t : Fin cfg0.N, win0_6.index t = ![0, 0] := by decide +kernel
  have q : V m c main_v0 (ix2 0 l) = m ((c : Thread nD τ).loc main_arg5) (ix1 l) := by
    rw [show V m c main_v0 = shapeCast (α := EReal) S1x1024 (m ((c : Thread nD τ).loc main_arg5)) shapeCasts_S1024_S1x1024 by entry_read; rfl]
    pointwise []
  rw [← q]
  generalize hV : V m c main_v0 = v
  unfold iblk
  rw [show V m c (Pipeline.arrRef spec0 6) = v from hV]
  blk_ext [e]

/-! ## The kernel's output arrays -/

/-- The normalized rows' cotangent, from the whole arrays. -/
def dhA (A : S8192x768.Idx → ℝ) (U : S8192x768.Idx → ℝ) (W : S1024x1536.Idx → ℝ) (r : Fin 8192) (l : Fin 1024) : ℝ :=
  dh (fun k => A (ix2 r k)) (fun k => W (ix2 l ⟨k.val, by omega⟩)) (fun k => U (ix2 r k)) (fun k => W (ix2 l ⟨768 + k.val, by omega⟩))

/-- The input's gradient at a row and a column. -/
def dxA (A : S8192x768.Idx → ℝ) (U : S8192x768.Idx → ℝ) (W : S1024x1536.Idx → ℝ) (O X : S8192x1024.Idx → ℝ) (G : S1024.Idx → ℝ) (r : Fin 8192) (l : Fin 1024) : ℝ :=
  dxR (dhA A U W r) (fun k => G (ix1 k)) (fun k => X (ix2 r k)) (O (ix2 r l)) l

/-- The input's gradient, an extended real array. -/
def dxF (A : S8192x768.Idx → ℝ) (U : S8192x768.Idx → ℝ) (W : S1024x1536.Idx → ℝ) (O X : S8192x1024.Idx → ℝ) (G : S1024.Idx → ℝ) : S8192x1024.Idx → EReal := fun i =>
  ((dxA A U W O X G (i 0) (i 1) : ℝ) : EReal)

/-- The gain's gradient: one row's part, and the sum over the rows. -/
def gterm (A : S8192x768.Idx → ℝ) (U : S8192x768.Idx → ℝ) (W : S1024x1536.Idx → ℝ) (X : S8192x1024.Idx → ℝ) (l : Fin 1024) (r : Fin 8192) : ℝ :=
  dhA A U W r l * (X (ix2 r l) * rs fun k => X (ix2 r k))

def dgainF (A : S8192x768.Idx → ℝ) (U : S8192x768.Idx → ℝ) (W : S1024x1536.Idx → ℝ) (X : S8192x1024.Idx → ℝ) : S1x1024.Idx → EReal := fun i =>
  ((∑ r : Fin 8192, gterm A U W X (i 1) r : ℝ) : EReal)

variable {A : S8192x768.Idx → ℝ} {U : S8192x768.Idx → ℝ} {W : S1024x1536.Idx → ℝ} {O X : S8192x1024.Idx → ℝ} {G : S1024.Idx → ℝ} (H : Real6 m c A U W O X G)

include H

theorem block_dx (n : ℕ) (h : n < cfg0.N) (r : Fin 512) (l : Fin 1024) :
    k0_pay7 (F := Ideal) (iblk m c 0 ⟨n, h⟩) (iblk m c 1 ⟨n, h⟩) (iblk m c 2 ⟨n, h⟩) (iblk m c 3 ⟨n, h⟩) (iblk m c 5 ⟨n, h⟩) (iblk m c 6 ⟨n, h⟩) (iblk m c 4 ⟨n, h⟩) (ix2 r l)
      = ((dxA A U W O X G (row n r) l : ℝ) : EReal) := by
  rw [pay7_apply _ _ _ _ _ _ _ (fun r k => (iblk0_apply m c n h r k).trans (congrFun H.a _)) (fun r k => (iblk2_apply m c n h r k).trans (congrFun H.u _))
    (fun r k => (iblk1_apply m c n h r k).trans (congrFun H.w _)) (fun r k => (iblk3_apply m c n h r k).trans (congrFun H.w _))
    (fun r k => (iblk5_apply m c n h r k).trans (congrFun H.x _)) (fun r k => (iblk4_apply m c n h r k).trans (congrFun H.o _))
    (fun k => (iblk6_apply m c n h k).trans (congrFun H.g _))]
  rfl

theorem arr7 : (dats m 0 c).arrAt 7 cfg0.N = dxF A U W O X G := by
  refine (dats m 0 c).arrAt_eq_of_covers 7 _ (by decide +kernel) fun t hf y => ?_
  have e : ∀ t : Fin cfg0.N, win0_7.index t = ![t.val % 16, 0] := by decide +kernel
  blk_simp
  rw [after0_7, outs7]
  obtain ⟨r, l, rfl⟩ : ∃ (r : Fin 512) (l : Fin 1024), y = ix2 r l := ⟨y 0, y 1, eq_ix2 y⟩
  have he : (win0_7.blk t).view.emb (ix2 r l) = ix2 (row t.val r) l := by
    refine Shape.idx_ext₂ ?_ ?_ <;> blk_simp <;> rw [e] <;> simp [row]
  rw [he, block_dx m c H t.val t.isLt r l]
  rfl

theorem arr8 : (dats m 0 c).arrAt 8 cfg0.N = dxF A U W O X G := by
  refine (dats m 0 c).arrAt_eq_of_covers 8 _ (by decide +kernel) fun t hf y => ?_
  have e : ∀ t : Fin cfg0.N, win0_8.index t = ![t.val % 16, 0] := by decide +kernel
  blk_simp
  rw [after0_8, outs8]
  obtain ⟨r, l, rfl⟩ : ∃ (r : Fin 512) (l : Fin 1024), y = ix2 r l := ⟨y 0, y 1, eq_ix2 y⟩
  have he : (win0_8.blk t).view.emb (ix2 r l) = ix2 (row t.val r) l := by
    refine Shape.idx_ext₂ ?_ ?_ <;> blk_simp <;> rw [e] <;> simp [row]
  rw [he]
  exact block_dx m c H t.val t.isLt r l

/-- The part of the gain's gradient that grid point `n` adds. -/
def gadd (A : S8192x768.Idx → ℝ) (U : S8192x768.Idx → ℝ) (W : S1024x1536.Idx → ℝ) (X : S8192x1024.Idx → ℝ) (n : ℕ) (l : Fin 1024) : ℝ :=
  ∑ r : Fin 512, gterm A U W X l (row n r)

theorem step9 (n : ℕ) (h : n < cfg0.N) (acc : FVec Ideal S1x1024 .f32) (j : S1x1024.Idx) :
    k0_pay3 (F := Ideal) (k0_pay4 (iblk m c 0 ⟨n, h⟩) (iblk m c 1 ⟨n, h⟩) (iblk m c 2 ⟨n, h⟩) (iblk m c 3 ⟨n, h⟩)) (k0_pay6 (iblk m c 5 ⟨n, h⟩)) acc j
      = acc j + ((gadd A U W X n (j 1) : ℝ) : EReal) := by
  obtain ⟨z, l, rfl⟩ : ∃ (z : Fin 1) (l : Fin 1024), j = ix2 z l := ⟨j 0, j 1, eq_ix2 j⟩
  obtain rfl : z = 0 := Subsingleton.elim _ _
  rw [pay3_apply _ _ _ _ _ (fun r k => (iblk0_apply m c n h r k).trans (congrFun H.a _)) (fun r k => (iblk2_apply m c n h r k).trans (congrFun H.u _))
    (fun r k => (iblk1_apply m c n h r k).trans (congrFun H.w _)) (fun r k => (iblk3_apply m c n h r k).trans (congrFun H.w _))
    (fun r k => (iblk5_apply m c n h r k).trans (congrFun H.x _))]
  rfl

theorem arr9 : (dats m 0 c).arrAt 9 cfg0.N = dgainF A U W X := by
  refine (dats m 0 c).arrAt_eq_of_covers 9 _ (by decide +kernel) fun t hf y => ?_
  have e : ∀ t : Fin cfg0.N, win0_9.index t = ![0, 0] := by decide +kernel
  blk_simp
  rw [after0_9]
  obtain ⟨z, l, rfl⟩ : ∃ (z : Fin 1) (l : Fin 1024), y = ix2 z l := ⟨y 0, y 1, eq_ix2 y⟩
  have he : (win0_9.blk t).view.emb (ix2 z l) = ix2 z l := by
    refine Shape.idx_ext₂ ?_ ?_ <;> blk_simp <;> rw [e] <;> simp
  rw [he]
  have hr := (flush0_9 t).mp hf
  have hN : t.val < 16 := lt_of_lt_of_eq t.isLt N_0
  rw [Pipeline.eq_sum_fin_of_reset_step_apply_of_flush (fun n h => (outsAt0 m c n h).2.2) 16 (fun _ => (0 : EReal)) (fun t j => ((gadd A U W X t.val (j 1) : ℝ) : EReal))
    (fun t h0 j => by
      show (outsAt0 m c t.val t.isLt).2.2 j = _
      rw [outs9_A m c t h0, step9 m c H t.val t.isLt, zero9])
    (fun t h0 j => by
      show (outsAt0 m c t.val t.isLt).2.2 j = _
      rw [outs9_B m c t h0, step9 m c H t.val t.isLt]) t hr]
  rw [zero_add, Reals.coe_sum]
  unfold dgainF gadd
  refine congrArg _ ?_
  refine Eq.trans ?_ (Fin.sum_mul_add_fin 16 512 (gterm A U W X l))
  refine Finset.sum_congr rfl fun s _ => Finset.sum_congr rfl fun q _ => ?_
  have hs := s.isLt
  refine congrArg (gterm A U W X l) (Fin.ext ?_)
  show (16 * (t.val / 16) + s.val) % 16 * 512 + q.val = s.val * 512 + q.val
  omega

end Cert.KinIdeal.Value

/-! ## The reference's lines -/

namespace Cert.KinRefIdeal.Read

open Cert.KinRefIdeal Cert.KinRefIdeal.Gen Idealize.ShloMosaic Idealize.ShloMosaic.TcCoe Idealize.SL.Sem
open scoped BigOperators

variable {A : S8192x768.Idx → ℝ} {U : S8192x768.Idx → ℝ} {W : S1024x1536.Idx → ℝ} {O X : S8192x1024.Idx → ℝ} {G : S1024.Idx → ℝ}

/-- The coercion of a real array. -/
abbrev up {S : Shape} {φ : FTy} (X : S.Idx → ℝ) : FVec Ideal S φ := fun i => ((X i : ℝ) : EReal)

theorem v6_at (r : Fin 8192) : val_main_v6 (F := Ideal) (up (φ := .f32) X) (ix2 r 0) = ((Cert.UpIdeal.Value.ms (fun k => X (ix2 r k)) : ℝ) : EReal) := by
  pointwise [val_main_v6, val_main_v5, val_main_v4, val_main_v3, val_main_v2, val_main_v1, val_main_v0, val_main_cst, val_main_cst_0, val_main_cst_1]
  simp only [up, ← EReal.coe_mul, Reals.coe_sum, Reals.n1024_f32, Reals.eps_f32]
  rw [Reals.div_real (by norm_num), ← EReal.coe_add]
  rfl

theorem v7_at (r : Fin 8192) : val_main_v7 (F := Ideal) (up (φ := .f32) X) (ix2 r 0) = ((Cert.UpIdeal.Value.rs (fun k => X (ix2 r k)) : ℝ) : EReal) := by
  have e := v6_at (X := X) r
  unfold val_main_v7
  generalize val_main_v6 (F := Ideal) (up (φ := .f32) X) = y at e ⊢
  pointwise []
  rw [e, Reals.rsqrt_real (Cert.UpIdeal.Value.ms_pos _)]
  rfl

theorem v10_at (r : Fin 8192) : val_main_v10 (F := Ideal) (up (φ := .f32) X) (ix2 r 0)
    = ((-(1 / 2) * (Cert.UpIdeal.Value.rs (fun k => X (ix2 r k)) / Cert.UpIdeal.Value.ms (fun k => X (ix2 r k))) : ℝ) : EReal) := by
  have e6 := v6_at (X := X) r
  have e7 := v7_at (X := X) r
  unfold val_main_v10 val_main_v8
  generalize val_main_v6 (F := Ideal) (up (φ := .f32) X) = y at e6 ⊢
  generalize val_main_v7 (F := Ideal) (up (φ := .f32) X) = y at e7 ⊢
  pointwise [val_main_v9, val_main_cst_2]
  rw [e6, e7, Reals.neg_half_f32, Reals.div_real (Cert.UpIdeal.Value.ms_pos _).ne', ← EReal.coe_mul]

theorem v19_at (r : Fin 8192) (l : Fin 1024) : val_main_v19 (F := Ideal) (up (φ := .f32) A) (up (φ := .f32) U) (up (φ := .bf16) W) (ix2 r l)
    = ((Cert.KinIdeal.Value.dhA A U W r l : ℝ) : EReal) := by
  have hL : ∀ k : Fin 768, val_main_v18 (F := Ideal) (up (φ := .f32) A) (up (φ := .f32) U) (ix2 r ⟨k.val, by omega⟩) = ((A (ix2 r k) : ℝ) : EReal) := by
    intro k
    unfold val_main_v18
    pointwise []
  have hR : ∀ k : Fin 768, val_main_v18 (F := Ideal) (up (φ := .f32) A) (up (φ := .f32) U) (ix2 r ⟨768 + k.val, by omega⟩) = ((U (ix2 r k) : ℝ) : EReal) := by
    intro k
    unfold val_main_v18
    pointwise []
  unfold val_main_v19
  generalize val_main_v18 (F := Ideal) (up (φ := .f32) A) (up (φ := .f32) U) = y at hL hR ⊢
  pointwise [val_main_v16]
  refine Eq.trans (Fin.sum_univ_add (M := EReal) (a := 768) (b := 768) fun k : Fin 1536 => y (ix2 r k) * up (φ := .bf16) W (ix2 l k)) ?_
  unfold Cert.KinIdeal.Value.dhA Cert.KinIdeal.Value.dh
  rw [EReal.coe_add, ← Reals.coe_sum, ← Reals.coe_sum]
  refine congrArg₂ (· + ·) (Finset.sum_congr rfl fun k _ => ?_) (Finset.sum_congr rfl fun k _ => ?_)
  · rw [EReal.coe_mul]
    exact congrArg₂ (· * ·) (hL k) rfl
  · rw [EReal.coe_mul]
    exact congrArg₂ (· * ·) (hR k) rfl

theorem v24_at (r : Fin 8192) (l : Fin 1024) : val_main_v24 (F := Ideal) (up (φ := .f32) A) (up (φ := .f32) U) (up (φ := .bf16) W) (up (φ := .f32) G) (ix2 r l)
    = ((Cert.KinIdeal.Value.dhA A U W r l * G (ix1 l) : ℝ) : EReal) := by
  have e := v19_at (A := A) (U := U) (W := W) r l
  unfold val_main_v24
  generalize val_main_v19 (F := Ideal) (up (φ := .f32) A) (up (φ := .f32) U) (up (φ := .bf16) W) = y at e ⊢
  pointwise [val_main_v23, val_main_v13]
  rw [e, ← EReal.coe_mul]

/-- The factor that the mean square's gradient gives a row. -/
theorem v36_at (r : Fin 8192) (l : Fin 1024) : val_main_v36 (F := Ideal) (up (φ := .f32) A) (up (φ := .f32) U) (up (φ := .bf16) W) (up (φ := .f32) X) (up (φ := .f32) G) (ix2 r l)
    = (((∑ k, X (ix2 r k) * (Cert.KinIdeal.Value.dhA A U W r k * G (ix1 k))) * (-(1 / 2) * (Cert.UpIdeal.Value.rs (fun k => X (ix2 r k)) / Cert.UpIdeal.Value.ms (fun k => X (ix2 r k)))) / 1024 : ℝ) : EReal) := by
  have e29 := fun k => v24_at (A := A) (U := U) (W := W) (G := G) r k
  have e10 := v10_at (X := X) r
  unfold val_main_v36 val_main_v35 val_main_v34 val_main_v32 val_main_v28 val_main_v27 val_main_v26
  generalize val_main_v24 (F := Ideal) (up (φ := .f32) A) (up (φ := .f32) U) (up (φ := .bf16) W) (up (φ := .f32) G) = y at e29 ⊢
  generalize val_main_v10 (F := Ideal) (up (φ := .f32) X) = y at e10 ⊢
  pointwise [val_main_v33, val_main_cst_5, val_main_cst_6, val_main_cst_7]
  simp only [e29, up, ← EReal.coe_mul, Reals.coe_sum, Reals.n1024_f32]
  rw [Fin.sum_univ_one]
  rw [show y (ix2 r 0) = _ from e10, ← EReal.coe_mul, Reals.div_real (by norm_num)]

theorem v40_at (r : Fin 8192) (l : Fin 1024) : val_main_v40 (F := Ideal) (up (φ := .f32) A) (up (φ := .f32) U) (up (φ := .bf16) W) (up (φ := .f32) O) (up (φ := .f32) X) (up (φ := .f32) G) (ix2 r l)
    = ((Cert.KinIdeal.Value.dxA A U W O X G r l : ℝ) : EReal) := by
  have e29 := v24_at (A := A) (U := U) (W := W) (G := G) r l
  have e7 := v7_at (X := X) r
  have e41 := v36_at (A := A) (U := U) (W := W) (X := X) (G := G) r l
  unfold val_main_v40 val_main_v39 val_main_v38 val_main_v37 val_main_v31 val_main_v30 val_main_v29
  generalize val_main_v24 (F := Ideal) (up (φ := .f32) A) (up (φ := .f32) U) (up (φ := .bf16) W) (up (φ := .f32) G) = y29 at e29 ⊢
  generalize val_main_v36 (F := Ideal) (up (φ := .f32) A) (up (φ := .f32) U) (up (φ := .bf16) W) (up (φ := .f32) X) (up (φ := .f32) G) = y41 at e41 ⊢
  generalize val_main_v7 (F := Ideal) (up (φ := .f32) X) = y7 at e7 ⊢
  pointwise []
  simp only [e29, e7, e41, up, ← EReal.coe_mul, ← EReal.coe_add]
  exact congrArg _ (Cert.UpIdeal.Value.dxR_eq _ (fun k => G (ix1 k)) _ _ l _ rfl)

theorem v42_at (l : Fin 1024) : val_main_v42 (F := Ideal) (up (φ := .f32) A) (up (φ := .f32) U) (up (φ := .bf16) W) (up (φ := .f32) X) (ix2 0 l)
    = ((∑ r : Fin 8192, Cert.KinIdeal.Value.gterm A U W X l r : ℝ) : EReal) := by
  have e24 := fun r l => v19_at (A := A) (U := U) (W := W) r l
  have e7 := fun r => v7_at (X := X) r
  unfold val_main_v42 val_main_v25 val_main_v22 val_main_v21 val_main_v20 val_main_v12 val_main_v11
  generalize val_main_v19 (F := Ideal) (up (φ := .f32) A) (up (φ := .f32) U) (up (φ := .bf16) W) = y24 at e24 ⊢
  generalize val_main_v7 (F := Ideal) (up (φ := .f32) X) = y7 at e7 ⊢
  pointwise [val_main_cst_3, val_main_cst_4]
  simp only [e24, e7, up, ← EReal.coe_mul, Reals.coe_sum]
  rw [Fin.sum_univ_one]
  exact congrArg _ (Finset.sum_congr rfl fun r _ => mul_comm _ _)

end Cert.KinRefIdeal.Read

/-! ## The claim -/

namespace Cert.Proof

open Idealize.ShloMosaic Idealize.ShloMosaic.TcCoe Idealize.SL.Sem

/-- The shape facts that the finiteness check states. -/
theorem facts_kin : Cert.Pre_finite_kin.Facts := by constructor <;> decide

/-- The precondition makes every argument a real array. -/
theorem kin_real (m : (ℓ : Loc Cert.KinIdeal.nD Cert.KinIdeal.τ Cert.KinIdeal.sig) → Buf (Elt Ideal) ℓ)
    (h : Pre_KinIdeal_finite_kin (hPre_finite_kin := facts_kin) m) (c : Dev Cert.KinIdeal.nD) :
    ∃ A U W O X G, Cert.KinIdeal.Value.Real6 m c A U W O X G := by
  obtain ⟨h0, h1, h2, h3, h4, h5⟩ := h c
  have q : ∀ {S : Shape} (x : FVec Ideal S .bf16), (∀ i, Ideal.cmp .olt (max (x i) (-(x i))) (Ideal.ofBits .bf16 0x7F80#16) = 1#1) → ∃ X : S.Idx → ℝ, x = fun i => ((X i : ℝ) : EReal) :=
    fun x hx => Cert.Reals.lift fun i => Cert.Reals.real_of_olt (by rw [← Cert.Reals.top_bf16]; exact hx i)
  have q' : ∀ {S : Shape} (x : FVec Ideal S .f32), (∀ i, Ideal.cmp .olt (max (x i) (-(x i))) (Ideal.ofBits .f32 0x7F800000#32) = 1#1) → ∃ X : S.Idx → ℝ, x = fun i => ((X i : ℝ) : EReal) :=
    fun x hx => Cert.Reals.lift fun i => Cert.Reals.real_of_olt (by rw [← Cert.Reals.top_f32]; exact hx i)
  obtain ⟨A, hA⟩ := q' _ (fun i => congrFun h0 i)
  obtain ⟨U, hU⟩ := q' _ (fun i => congrFun h1 i)
  obtain ⟨W, hW⟩ := q _ (fun i => congrFun h2 i)
  obtain ⟨O, hO⟩ := q' _ (fun i => congrFun h3 i)
  obtain ⟨X, hX⟩ := q' _ (fun i => congrFun h4 i)
  obtain ⟨G, hG⟩ := q' _ (fun i => congrFun h5 i)
  exact ⟨A, U, W, O, X, G, hA, hU, hW, hO, hX, hG⟩

theorem algebraic_kin : algebraic_KinIdeal_KinRefIdeal_pre_finite_kin (hKinIdeal := Cert.KinIdeal.Gen.facts) (hKinRefIdeal := Cert.KinRefIdeal.Gen.facts) (hPre_finite_kin := facts_kin) := by
  intro m g m' g' hp hm
  choose A U W O X G H using kin_real m hp
  refine ⟨fun c => Cert.KinIdeal.Value.dxF (A c) (U c) (W c) (O c) (X c) (G c), fun c => Cert.KinIdeal.Value.dxF (A c) (U c) (W c) (O c) (X c) (G c), fun c => Cert.KinIdeal.Value.dgainF (A c) (U c) (W c) (X c), ?_, ?_⟩
  · refine (θ_run _ _ _).mono (fun r h c => ?_) (Cert.KinIdeal.Value.run_blocks m g)
    obtain ⟨h7, h8, h9, h⟩ := h c
    exact ⟨h7.trans (Cert.KinIdeal.Value.arr7 m c (H c)), h8.trans (Cert.KinIdeal.Value.arr8 m c (H c)), h9.trans (Cert.KinIdeal.Value.arr9 m c (H c)), h⟩
  · refine (θ_run _ _ _).mono (fun r h c => ?_) (Cert.KinRefIdeal.Value.run m' g')
    obtain ⟨h7, h8, h9, h⟩ := h c
    obtain ⟨e0, e1, e2, e3, e4, e5⟩ := hm c
    replace e0 := e0.trans (H c).a
    replace e1 := e1.trans (H c).u
    replace e2 := e2.trans (H c).w
    replace e3 := e3.trans (H c).o
    replace e4 := e4.trans (H c).x
    replace e5 := e5.trans (H c).g
    have p : Cert.KinRefIdeal.Value.res_main_v40 m' c = Cert.KinIdeal.Value.dxF (A c) (U c) (W c) (O c) (X c) (G c) := by
      rw [Cert.KinRefIdeal.Read.val_main_v40_eq, e0, e1, e2, e3, e4, e5]
      funext i
      obtain ⟨r, l, rfl⟩ : ∃ (r : Fin 8192) (l : Fin 1024), i = ix2 r l := ⟨i 0, i 1, eq_ix2 i⟩
      exact Cert.KinRefIdeal.Read.v40_at r l
    refine ⟨h7.trans p, h8.trans ?_, h9.trans ?_, h⟩
    · refine Eq.trans ?_ p
      rw [Cert.KinRefIdeal.Read.val_main_v40_eq, Cert.KinRefIdeal.Read.val_main_v41_eq]
      rfl
    · rw [Cert.KinRefIdeal.Read.val_main_v42_eq, e0, e1, e2, e4]
      funext i
      obtain ⟨z, l, rfl⟩ : ∃ (z : Fin 1) (l : Fin 1024), i = ix2 z l := ⟨i 0, i 1, eq_ix2 i⟩
      obtain rfl : z = 0 := Subsingleton.elim _ _
      exact Cert.KinRefIdeal.Read.v42_at l

end Cert.Proof
-- ==== Proof.BtokValue.lean ====
/- The B layer's input projection: its weight's gradient, the token columns (the shared keys' and values' weights have the
   same call): what each grid point adds to its output block, what the output array ends holding, and that the reference's
   product is the same sum. -/
module

public import proofs.«01_k».proof.Proof.Gen.BtokIdeal.Value
public import proofs.«01_k».proof.Proof.Gen.BtokRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.BtokIdeal.Value

open Cert.BtokIdeal Cert.BtokIdeal.Gen Idealize.ShloMosaic Idealize.ShloMosaic.TcCoe Idealize.SL.Sem
open scoped BigOperators

variable (m : (ℓ : Loc nD τ sig) → Buf (Elt Ideal) ℓ)

/-- The block of the left array at grid point `n`: rows `1024·(n mod 8) …`, all columns. -/
theorem iblk0_apply (c : Dev nD) (n : ℕ) (h : n < cfg0.N) (r : Fin 1024) (l : Fin 1024) :
    iblk m c 0 ⟨n, h⟩ (ix2 r l) = m ((c : Thread nD τ).loc main_arg0) (ix2 ⟨n % 8 * 1024 + r.val, by omega⟩ l) := by
  have e : ∀ t : Fin cfg0.N, win0_0.index t = ![t.val % 8, 0] := by decide +kernel
  blk_ext [iblk, V, e]

/-- The block of the cotangent: the same rows. -/
theorem iblk1_apply (c : Dev nD) (n : ℕ) (h : n < cfg0.N) (r : Fin 1024) (l : Fin 768) :
    iblk m c 1 ⟨n, h⟩ (ix2 r l) = m ((c : Thread nD τ).loc main_arg1) (ix2 ⟨n % 8 * 1024 + r.val, by omega⟩ l) := by
  have e : ∀ t : Fin cfg0.N, win0_1.index t = ![t.val % 8, 0] := by decide +kernel
  blk_ext [iblk, V, e]

/-- A step adds the product of the two blocks, summed over the block's rows, to the output block. -/
theorem pay2_apply (a : Vec Ideal S1024x768 .f32) (x : Vec Ideal S1024x1024 .bf16) (y : Vec Ideal S1024x768 .f32) (r : Fin 1024) (l : Fin 768) :
    k0_pay2 a x y (ix2 r l) = a (ix2 r l) + ∑ k : Fin 1024, x (ix2 k r) * y (ix2 k l) := by
  pointwise [k0_pay2]

/-- What point `n` adds at a place of its output block. -/
def add (x : Vec Ideal S8192x1024 .bf16) (d : Vec Ideal S8192x768 .f32) (n : ℕ) (i : S1024x768.Idx) : EReal :=
  ∑ k : Fin 1024, x (ix2 ⟨n % 8 * 1024 + k.val, by omega⟩ (i 0)) * d (ix2 ⟨n % 8 * 1024 + k.val, by omega⟩ (i 1))

/-- The whole product at an index of the array: all 8192 rows. -/
def prod (x : Vec Ideal S8192x1024 .bf16) (d : Vec Ideal S8192x768 .f32) : Vec Ideal S1024x768 .f32 := fun i =>
  ∑ k : Fin 8192, x (ix2 k (i 0)) * d (ix2 k (i 1))

/-- Eight points' additions are the whole product. -/
theorem adds_eq (x : Vec Ideal S8192x1024 .bf16) (d : Vec Ideal S8192x768 .f32) (i : S1024x768.Idx) :
    ∑ s ∈ Finset.range 8, add x d (8 * run2Of i + s) (loc2Of i) = prod x d i := by
  have h0 : (i 0).val < 1024 := (i 0).isLt
  have h1 : (i 1).val < 768 := (i 1).isLt
  rw [← Fin.sum_univ_eq_sum_range (fun s => add x d (8 * run2Of i + s) (loc2Of i))]
  unfold prod
  refine Eq.trans ?_ (Fin.sum_mul_add_fin 8 1024 (fun l : Fin 8192 => x (ix2 l (i 0)) * d (ix2 l (i 1))))
  refine Finset.sum_congr rfl fun s _ => Finset.sum_congr rfl fun k _ => ?_
  have hs := s.isLt
  have e : (8 * run2Of i + s.val) % 8 = s.val := by omega
  have hr : run2Of i = (i 1).val / 768 := by
    show 1 * ((i 0).val / 1024 - 0) + 1 * ((i 1).val / 768 - 0) = _
    omega
  have e' : (8 * run2Of i + s.val) / 8 = (i 1).val / 768 := by omega
  congr 1
  · refine congrArg x (Shape.idx_ext₂ ?_ ?_) <;> dsimp <;> omega
  · refine congrArg d (Shape.idx_ext₂ ?_ ?_) <;> dsimp <;> omega

theorem zero1 (i : S1024x768.Idx) : k0_pay1 (F := Ideal) i = 0 := by pointwise [k0_pay1]

theorem step2_apply (c : Dev nD) (n : ℕ) (h : n < cfg0.N) (acc : Vec Ideal S1024x768 .f32) (i : S1024x768.Idx) :
    step2 m c n h acc i = acc i + add (m ((c : Thread nD τ).loc main_arg0)) (m ((c : Thread nD τ).loc main_arg1)) n i := by
  obtain ⟨r, l, rfl⟩ : ∃ (r : Fin 1024) (l : Fin 768), i = ix2 r l := ⟨i 0, i 1, eq_ix2 i⟩
  unfold step2 add
  rw [pay2_apply]
  simp only [iblk0_apply, iblk1_apply]
  rfl

theorem run_lt (i : S1024x768.Idx) : 8 * run2Of i + 7 < cfg0.N := by
  have h0 : (i 0).val < 1024 := (i 0).isLt
  have h1 : (i 1).val < 768 := (i 1).isLt
  rw [show cfg0.N = 8 from N_0]; show 8 * (1 * ((i 0).val / 1024 - 0) + 1 * ((i 1).val / 768 - 0)) + 7 < 8
  omega

/-- The output array ends holding the whole product. -/
theorem G2_eq (c : Dev nD) : G2 m c = prod (m ((c : Thread nD τ).loc main_arg0)) (m ((c : Thread nD τ).loc main_arg1)) := by
  funext i
  unfold G2
  rw [dif_pos (run_lt i), Pipeline.accAt_add_apply (reset2 m c) (step2 m c) (fun _ => (0 : EReal)) (add (m ((c : Thread nD τ).loc main_arg0)) (m ((c : Thread nD τ).loc main_arg1))) _ 7
    (fun h j => (step2_apply m c _ h _ j).trans (by rw [zero1])) (fun n h acc j _ _ => step2_apply m c n h acc j) 7 le_rfl, zero_add]
  exact adds_eq _ _ i

end Cert.BtokIdeal.Value

/-! ## The claim -/

namespace Cert.Proof

open Idealize.ShloMosaic Idealize.ShloMosaic.TcCoe Idealize.SL.Sem

theorem algebraic_btok : algebraic_BtokIdeal_BtokRefIdeal (hBtokIdeal := Cert.BtokIdeal.Gen.facts) (hBtokRefIdeal := Cert.BtokRefIdeal.Gen.facts) := by
  intro m g m' g' _ hm
  refine ⟨fun c => Cert.BtokIdeal.Value.prod (m ((c.tc : Thread _ _).loc Cert.BtokIdeal.main_arg0)) (m ((c.tc : Thread _ _).loc Cert.BtokIdeal.main_arg1)), ?_, ?_⟩
  · refine (θ_run _ _ _).mono (fun r h c => ?_) (Cert.BtokIdeal.Value.run m g)
    obtain ⟨h0, h⟩ := h c
    exact ⟨h0.trans (Cert.BtokIdeal.Value.G2_eq m c), h⟩
  · refine (θ_run _ _ _).mono (fun r h c => ?_) (Cert.BtokRefIdeal.Value.run m' g')
    obtain ⟨h0, h⟩ := h c
    obtain ⟨e0, e1⟩ := hm c
    refine ⟨h0.trans ?_, h⟩
    rw [e0, e1]
    funext i
    obtain ⟨r, l, rfl⟩ : ∃ (r : Fin 1024) (l : Fin 768), i = ix2 r l := ⟨i 0, i 1, eq_ix2 i⟩
    unfold Cert.BtokIdeal.Value.prod
    pointwise []
    exact Finset.sum_congr rfl fun k _ => mul_comm _ _

end Cert.Proof

end
-- ==== Proof.BprojValue.lean ====
/- The B layer's input projection, of the first B layer: the output array holds the product, and the reference's is the same. -/
module

public import proofs.«01_k».proof.Proof.Gen.BprojIdeal.Value
public import proofs.«01_k».proof.Proof.Gen.BprojRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.BprojIdeal.Value

open Cert.BprojIdeal Cert.BprojIdeal.Gen Idealize.ShloMosaic Idealize.ShloMosaic.TcCoe Idealize.SL.Sem
open scoped BigOperators

variable (m : (ℓ : Loc nD τ sig) → Buf (Elt Ideal) ℓ)

/-- The block of the left array at grid point `n`: rows `512·(n mod 16) …`, all columns. -/
theorem iblk0_apply (c : Dev nD) (n : ℕ) (h : n < cfg0.N) (r : Fin 512) (l : Fin 1024) :
    iblk m c 0 ⟨n, h⟩ (ix2 r l) = m ((c : Thread nD τ).loc main_arg0) (ix2 ⟨n % 16 * 512 + r.val, by omega⟩ l) := by
  have e : ∀ t : Fin cfg0.N, win0_0.index t = ![t.val % 16, 0] := by decide +kernel
  blk_ext [iblk, V, e]

/-- The block of the stacked weights: the first layer's. -/
theorem iblk1_apply (c : Dev nD) (n : ℕ) (h : n < cfg0.N) (r : Fin 1024) (l : Fin 1024) :
    iblk m c 1 ⟨n, h⟩ (ix3 0 r l) = m ((c : Thread nD τ).loc main_arg1) (ix3 0 r l) := by
  have e : ∀ t : Fin cfg0.N, win0_1.index t = ![0, 0, 0] := by decide +kernel
  blk_ext [iblk, V, e]

/-- A block's product. -/
theorem pay1_apply (x : FVec Ideal S512x1024 .bf16) (w : FVec Ideal S1x1024x1024 .bf16) (r : Fin 512) (l : Fin 1024) :
    k0_pay1 (F := Ideal) x w (ix2 r l) = ∑ k : Fin 1024, x (ix2 r k) * w (ix3 0 k l) := by
  pointwise [k0_pay1]

/-- The product at an index of the array. -/
def prod (x : FVec Ideal S8192x1024 .bf16) (w : FVec Ideal S2x1024x1024 .bf16) : FVec Ideal S8192x1024 .f32 := fun i =>
  ∑ k : Fin 1024, x (ix2 (i 0) k) * w (ix3 0 k (i 1))

theorem arr2 (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have e : ∀ t : Fin cfg0.N, win0_2.index t = ![t.val % 16, 0] := by decide +kernel
  blk_simp
  rw [after0_2]
  frame_out
  obtain ⟨r, l, rfl⟩ : ∃ (r : Fin 512) (l : Fin 1024), y = ix2 r l := ⟨y 0, y 1, eq_ix2 y⟩
  have he : (win0_2.blk t).view.emb (ix2 r l) = ix2 (⟨t.val % 16 * 512 + r.val, by omega⟩ : Fin 8192) l := by
    refine Shape.idx_ext₂ ?_ ?_ <;> blk_simp <;> rw [e] <;> simp
  rw [he, pay1_apply]
  simp only [iblk0_apply m c t.val t.isLt, iblk1_apply m c t.val t.isLt]
  rfl

end Cert.BprojIdeal.Value

/-! ## The claim -/

namespace Cert.Proof

open Idealize.ShloMosaic Idealize.ShloMosaic.TcCoe Idealize.SL.Sem

theorem algebraic_bproj : algebraic_BprojIdeal_BprojRefIdeal (hBprojIdeal := Cert.BprojIdeal.Gen.facts) (hBprojRefIdeal := Cert.BprojRefIdeal.Gen.facts) := by
  intro m g m' g' _ hm
  refine ⟨fun c => Cert.BprojIdeal.Value.prod (m ((c.tc : Thread _ _).loc Cert.BprojIdeal.main_arg0)) (m ((c.tc : Thread _ _).loc Cert.BprojIdeal.main_arg1)), ?_, ?_⟩
  · refine (θ_run _ _ _).mono (fun r h c => ?_) (Cert.BprojIdeal.Value.run_blocks m g)
    obtain ⟨h0, h⟩ := h c
    exact ⟨h0.trans (Cert.BprojIdeal.Value.arr2 m c), h⟩
  · refine (θ_run _ _ _).mono (fun r h c => ?_) (Cert.BprojRefIdeal.Value.run m' g')
    obtain ⟨h0, h⟩ := h c
    obtain ⟨e0, e1⟩ := hm c
    refine ⟨h0.trans ?_, h⟩
    rw [e0, e1]
    funext i
    obtain ⟨r, l, rfl⟩ : ∃ (r : Fin 8192) (l : Fin 1024), i = ix2 r l := ⟨i 0, i 1, eq_ix2 i⟩
    unfold Cert.BprojIdeal.Value.prod
    pointwise []

end Cert.Proof

end
-- ==== Proof.BinValue.lean ====
/- The mixer's input projection, backward, of the first B layer: the product with the two joined cotangents, the normalization's
   gradient with the residual added, and the gain's gradient. What the kernel leaves in its three output arrays, as real
   numbers, and that the reference's chain-rule lines are the same. -/
module

public import proofs.«01_k».proof.Proof.Gen.BinIdeal.Value
public import proofs.«01_k».proof.Proof.Gen.BinRefIdeal.Run
public import proofs.«01_k».proof.Proof.Gen.BinRefIdeal.Read
public import proofs.«01_k».proof.Defs
public import proofs.«01_k».proof.Proof.UpValue
public import Idealize.ShloMosaic.Lib.Pointwise
public import Idealize.ShloMosaic.Lib.Claim
public import Idealize.ShloMosaic.Lib.Pipeline.ValueKit

@[expose] public section

set_option maxRecDepth 16384

noncomputable section

namespace Cert.BinIdeal.Value

open Cert.UpIdeal.Value (ms ms_pos rs dxR dxR_eq)
open Cert.BinIdeal Cert.BinIdeal.Gen Idealize.ShloMosaic Idealize.ShloMosaic.TcCoe Idealize.SL.Sem
open scoped BigOperators

/-! ## The gradient in real numbers -/

/-- The cotangent of the normalized row, at one place. -/
def dh (a wa : Fin 768 → ℝ) (u wu : Fin 256 → ℝ) : ℝ := (∑ k, a k * wa k) + ∑ k, u k * wu k

/-! ## The kernel's payloads -/

section Payloads
variable (a : FVec Ideal S512x768 .f32) (wa : FVec Ideal S1x1024x768 .bf16) (u : FVec Ideal S512x256 .bf16) (wu : FVec Ideal S1x1024x256 .bf16) (x o : FVec Ideal S512x1024 .f32) (g : FVec Ideal S1x1024 .f32)
  {A : Fin 512 → Fin 768 → ℝ} {U : Fin 512 → Fin 256 → ℝ} {WA : Fin 1024 → Fin 768 → ℝ} {WU : Fin 1024 → Fin 256 → ℝ} {X O : Fin 512 → Fin 1024 → ℝ} {G : Fin 1024 → ℝ}
  (ha : ∀ r k, a (ix2 r k) = ((A r k : ℝ) : EReal)) (hu : ∀ r k, u (ix2 r k) = ((U r k : ℝ) : EReal))
  (hwa : ∀ r k, wa (ix3 0 r k) = ((WA r k : ℝ) : EReal)) (hwu : ∀ r k, wu (ix3 0 r k) = ((WU r k : ℝ) : EReal))
  (hx : ∀ r k, x (ix2 r k) = ((X r k : ℝ) : EReal)) (ho : ∀ r k, o (ix2 r k) = ((O r k : ℝ) : EReal))
  (hg : ∀ k, g (ix2 0 k) = ((G k : ℝ) : EReal)) (r : Fin 512) (l : Fin 1024)

include ha hu hwa hwu in
theorem pay5_apply : k0_pay5 (F := Ideal) a wa u wu (ix2 r l) = ((dh (A r) (WA l) (U r) (WU l) : ℝ) : EReal) := by
  pointwise [k0_pay5]
  simp only [ha, hu, hwa, hwu, ← EReal.coe_mul, Reals.coe_sum, ← EReal.coe_add]
  rfl

include hx in
theorem pay6_apply : k0_pay6 (F := Ideal) x (ix2 r 0) = ((rs (X r) : ℝ) : EReal) := by
  have p := ms_pos (X r)
  unfold ms at p
  pointwise [k0_pay6]
  simp only [hx, ← EReal.coe_mul, Reals.coe_sum, Reals.n1024_f32, Reals.eps_f32]
  rw [Reals.div_real (by norm_num), ← EReal.coe_add, Reals.rsqrt_real p]
  rfl

include hx in
theorem pay7_apply : k0_pay7 (F := Ideal) x (ix2 r l) = ((X r l * rs (X r) : ℝ) : EReal) := by
  have e := pay6_apply x hx r
  generalize hy : k0_pay6 (F := Ideal) x = y at e
  unfold k0_pay7
  rw [hy]
  pointwise []
  rw [e, hx, ← EReal.coe_mul]

include ha hu hwa hwu hx ho hg in
theorem pay1_apply : k0_pay1 (F := Ideal) (k0_pay8 (F := Ideal) a wa u wu x g) o (ix2 r l)
    = ((dxR (fun l => dh (A r) (WA l) (U r) (WU l)) G (X r) (O r l) l : ℝ) : EReal) := by
  have e4 := fun l => pay5_apply a wa u wu ha hu hwa hwu r l
  have e5 := pay6_apply x hx r
  have e6 := fun l => pay7_apply x hx r l
  unfold k0_pay1 k0_pay8
  generalize k0_pay5 (F := Ideal) a wa u wu = y4 at e4 ⊢
  generalize k0_pay6 (F := Ideal) x = y5 at e5 ⊢
  generalize k0_pay7 (F := Ideal) x = y6 at e6 ⊢
  pointwise []
  simp only [e4, e5, e6, ho, hg, Reals.n1024_f32, ← EReal.coe_mul, Reals.coe_sum]
  rw [Reals.div_real (by norm_num), ← EReal.coe_mul, ← EReal.coe_sub, ← EReal.coe_mul, ← EReal.coe_add]
  rfl

include ha hu hwa hwu hx in
theorem pay4_apply (acc : FVec Ideal S1x1024 .f32) : k0_pay4 (F := Ideal) (k0_pay5 a wa u wu) (k0_pay7 x) acc (ix2 0 l)
    = acc (ix2 0 l) + ((∑ r : Fin 512, dh (A r) (WA l) (U r) (WU l) * (X r l * rs (X r)) : ℝ) : EReal) := by
  have e4 := fun r l => pay5_apply a wa u wu ha hu hwa hwu r l
  have e6 := fun r l => pay7_apply x hx r l
  generalize k0_pay5 (F := Ideal) a wa u wu = y4 at e4 ⊢
  generalize k0_pay7 (F := Ideal) x = y6 at e6 ⊢
  pointwise [k0_pay4]
  simp only [e4, e6, ← EReal.coe_mul, Reals.coe_sum]

end Payloads

theorem zero9 (i : S1x1024.Idx) : k0_pay3 (F := Ideal) i = 0 := by pointwise [k0_pay3]

/-! ## The kernel's blocks and what each grid point leaves -/

variable (m : (ℓ : Loc nD τ sig) → Buf (Elt Ideal) ℓ) (c : Dev nD)

theorem outs7 (t : Fin cfg0.N) : (outsAt0 m c t.val t.isLt).1 = k0_pay1 (F := Ideal) (k0_pay8 (F := Ideal) (iblk m c 0 t) (X0_1 m c t) (iblk m c 2 t) (iblk m c 3 t) (iblk m c 5 t) (iblk m c 6 t)) (iblk m c 4 t) := by
  by_cases h0 : t.val % 16 = 0
  · rw [outsAt0_A m c t h0]
    frame_out
  · rw [outsAt0_B m c t h0]
    frame_out

theorem outs8 (t : Fin cfg0.N) : (outsAt0 m c t.val t.isLt).2.1 = k0_pay2 (F := Ideal) (k0_pay8 (iblk m c 0 t) (X0_1 m c t) (iblk m c 2 t) (iblk m c 3 t) (iblk m c 5 t) (iblk m c 6 t)) (iblk m c 4 t) := by
  by_cases h0 : t.val % 16 = 0
  · rw [outsAt0_A m c t h0]
    frame_out
  · rw [outsAt0_B m c t h0]
    frame_out

theorem outs9_A (t : Fin cfg0.N) (h0 : t.val % 16 = 0) :
    (outsAt0 m c t.val t.isLt).2.2 = k0_pay4 (F := Ideal) (k0_pay5 (iblk m c 0 t) (X0_1 m c t) (iblk m c 2 t) (iblk m c 3 t)) (k0_pay7 (iblk m c 5 t)) (k0_pay3 (F := Ideal)) := by
  rw [outsAt0_A m c t h0]
  frame_out

theorem outs9_B (t : Fin cfg0.N) (h0 : ¬t.val % 16 = 0) :
    (outsAt0 m c t.val t.isLt).2.2 = k0_pay4 (F := Ideal) (k0_pay5 (iblk m c 0 t) (X0_1 m c t) (iblk m c 2 t) (iblk m c 3 t)) (k0_pay7 (iblk m c 5 t)) ((outsAt0 m c (t.val - 1) (Nat.lt_of_le_of_lt (Nat.sub_le _ _) t.isLt)).2.2) := by
  rw [outsAt0_B m c t h0]
  frame_out

/-- The arguments as real arrays. -/
structure Real6 (A : S8192x768.Idx → ℝ) (U : S8192x256.Idx → ℝ) (W : S2x1024x1024.Idx → ℝ) (O X : S8192x1024.Idx → ℝ) (G : S1024.Idx → ℝ) : Prop where
  a : m ((c : Thread nD τ).loc main_arg0) = fun i => ((A i : ℝ) : EReal)
  u : m ((c : Thread nD τ).loc main_arg1) = fun i => ((U i : ℝ) : EReal)
  w : m ((c : Thread nD τ).loc main_arg2) = fun i => ((W i : ℝ) : EReal)
  o : m ((c : Thread nD τ).loc main_arg3) = fun i => ((O i : ℝ) : EReal)
  x : m ((c : Thread nD τ).loc main_arg4) = fun i => ((X i : ℝ) : EReal)
  g : m ((c : Thread nD τ).loc main_arg5) = fun i => ((G i : ℝ) : EReal)

/-- The row of a grid point's block, in the whole array. -/
def row (n : ℕ) (r : Fin 512) : Fin 8192 := ⟨n % 16 * 512 + r.val, by omega⟩

theorem iblk0_apply (n : ℕ) (h : n < cfg0.N) (r : Fin 512) (l : Fin 768) :
    iblk m c 0 ⟨n, h⟩ (ix2 r l) = m ((c : Thread nD τ).loc main_arg0) (ix2 (row n r) l) := by
  have e : ∀ t : Fin cfg0.N, win0_0.index t = ![t.val % 16, 0] := by decide +kernel
  unfold row
  blk_ext [iblk, V, e]

/-- The weight's first 768 columns; their block does not divide the array, but the one block read lies inside. -/
theorem wblk1_apply (n : ℕ) (h : n < cfg0.N) (r : Fin 1024) (l : Fin 768) :
    X0_1 m c ⟨n, h⟩ (ix3 0 r l) = m ((c : Thread nD τ).loc main_arg2) (ix3 0 r ⟨l.val, by omega⟩) := by
  have e : ∀ t : Fin cfg0.N, win0_1.index t = ![0, 0, 0] := by decide +kernel
  unfold X0_1 Pipeline.Window.fill
  rw [dif_pos (moved0_1 ⟨n, h⟩ _)]
  blk_ext [iblk, V, e]

theorem iblk2_apply (n : ℕ) (h : n < cfg0.N) (r : Fin 512) (l : Fin 256) :
    iblk m c 2 ⟨n, h⟩ (ix2 r l) = m ((c : Thread nD τ).loc main_arg1) (ix2 (row n r) l) := by
  have e : ∀ t : Fin cfg0.N, win0_2.index t = ![t.val % 16, 0] := by decide +kernel
  unfold row
  blk_ext [iblk, V, e]

/-- The weight's last 256 columns. -/
theorem iblk3_apply (n : ℕ) (h : n < cfg0.N) (r : Fin 1024) (l : Fin 256) :
    iblk m c 3 ⟨n, h⟩ (ix3 0 r l) = m ((c : Thread nD τ).loc main_arg2) (ix3 0 r ⟨768 + l.val, by omega⟩) := by
  have e : ∀ t : Fin cfg0.N, win0_3.index t = ![0, 0, 3] := by decide +kernel
  blk_ext [iblk, V, e]

theorem iblk4_apply (n : ℕ) (h : n < cfg0.N) (r : Fin 512) (l : Fin 1024) :
    iblk m c 4 ⟨n, h⟩ (ix2 r l) = m ((c : Thread nD τ).loc main_arg3) (ix2 (row n r) l) := by
  have e : ∀ t : Fin cfg0.N, win0_4.index t = ![t.val % 16, 0] := by decide +kernel
  unfold row
  blk_ext [iblk, V, e]

theorem iblk5_apply (n : ℕ) (h : n < cfg0.N) (r : Fin 512) (l : Fin 1024) :
    iblk m c 5 ⟨n, h⟩ (ix2 r l) = m ((c : Thread nD τ).loc main_arg4) (ix2 (row n r) l) := by
  have e : ∀ t : Fin cfg0.N, win0_5.index t = ![t.val % 16, 0] := by decide +kernel
  unfold row
  blk_ext [iblk, V, e]

theorem iblk6_apply (n : ℕ) (h : n < cfg0.N) (l : Fin 1024) :
    iblk m c 6 ⟨n, h⟩ (ix2 0 l) = m ((c : Thread nD τ).loc main_arg5) (ix1 l) := by
  have e : ∀ t : Fin cfg0.N, win0_6.index t = ![0, 0] := by decide +kernel
  have q : V m c main_v0 (ix2 0 l) = m ((c : Thread nD τ).loc main_arg5) (ix1 l) := by
    rw [show V m c main_v0 = shapeCast (α := EReal) S1x1024 (m ((c : Thread nD τ).loc main_arg5)) shapeCasts_S1024_S1x1024 by entry_read; rfl]
    pointwise []
  rw [← q]
  generalize hV : V m c main_v0 = v
  unfold iblk
  rw [show V m c (Pipeline.arrRef spec0 6) = v from hV]
  blk_ext [e]

/-! ## The kernel's output arrays -/

/-- The normalized rows' cotangent, from the whole arrays. -/
def dhA (A : S8192x768.Idx → ℝ) (U : S8192x256.Idx → ℝ) (W : S2x1024x1024.Idx → ℝ) (r : Fin 8192) (l : Fin 1024) : ℝ :=
  dh (fun k => A (ix2 r k)) (fun k => W (ix3 0 l ⟨k.val, by omega⟩)) (fun k => U (ix2 r k)) (fun k => W (ix3 0 l ⟨768 + k.val, by omega⟩))

/-- The input's gradient at a row and a column. -/
def dxA (A : S8192x768.Idx → ℝ) (U : S8192x256.Idx → ℝ) (W : S2x1024x1024.Idx → ℝ) (O X : S8192x1024.Idx → ℝ) (G : S1024.Idx → ℝ) (r : Fin 8192) (l : Fin 1024) : ℝ :=
  dxR (dhA A U W r) (fun k => G (ix1 k)) (fun k => X (ix2 r k)) (O (ix2 r l)) l

/-- The input's gradient, an extended real array. -/
def dxF (A : S8192x768.Idx → ℝ) (U : S8192x256.Idx → ℝ) (W : S2x1024x1024.Idx → ℝ) (O X : S8192x1024.Idx → ℝ) (G : S1024.Idx → ℝ) : S8192x1024.Idx → EReal := fun i =>
  ((dxA A U W O X G (i 0) (i 1) : ℝ) : EReal)

/-- The gain's gradient: one row's part, and the sum over the rows. -/
def gterm (A : S8192x768.Idx → ℝ) (U : S8192x256.Idx → ℝ) (W : S2x1024x1024.Idx → ℝ) (X : S8192x1024.Idx → ℝ) (l : Fin 1024) (r : Fin 8192) : ℝ :=
  dhA A U W r l * (X (ix2 r l) * rs fun k => X (ix2 r k))

def dgainF (A : S8192x768.Idx → ℝ) (U : S8192x256.Idx → ℝ) (W : S2x1024x1024.Idx → ℝ) (X : S8192x1024.Idx → ℝ) : S1x1024.Idx → EReal := fun i =>
  ((∑ r : Fin 8192, gterm A U W X (i 1) r : ℝ) : EReal)

variable {A : S8192x768.Idx → ℝ} {U : S8192x256.Idx → ℝ} {W : S2x1024x1024.Idx → ℝ} {O X : S8192x1024.Idx → ℝ} {G : S1024.Idx → ℝ} (H : Real6 m c A U W O X G)

include H

theorem block_dx (n : ℕ) (h : n < cfg0.N) (r : Fin 512) (l : Fin 1024) :
    k0_pay1 (F := Ideal) (k0_pay8 (F := Ideal) (iblk m c 0 ⟨n, h⟩) (X0_1 m c ⟨n, h⟩) (iblk m c 2 ⟨n, h⟩) (iblk m c 3 ⟨n, h⟩) (iblk m c 5 ⟨n, h⟩) (iblk m c 6 ⟨n, h⟩)) (iblk m c 4 ⟨n, h⟩) (ix2 r l)
      = ((dxA A U W O X G (row n r) l : ℝ) : EReal) := by
  rw [pay1_apply _ _ _ _ _ _ _ (fun r k => (iblk0_apply m c n h r k).trans (congrFun H.a _)) (fun r k => (iblk2_apply m c n h r k).trans (congrFun H.u _))
    (fun r k => (wblk1_apply m c n h r k).trans (congrFun H.w _)) (fun r k => (iblk3_apply m c n h r k).trans (congrFun H.w _))
    (fun r k => (iblk5_apply m c n h r k).trans (congrFun H.x _)) (fun r k => (iblk4_apply m c n h r k).trans (congrFun H.o _))
    (fun k => (iblk6_apply m c n h k).trans (congrFun H.g _))]
  rfl

theorem arr7 : (dats m 0 c).arrAt 7 cfg0.N = dxF A U W O X G := by
  refine (dats m 0 c).arrAt_eq_of_covers 7 _ (by decide +kernel) fun t hf y => ?_
  have e : ∀ t : Fin cfg0.N, win0_7.index t = ![t.val % 16, 0] := by decide +kernel
  blk_simp
  rw [after0_7, outs7]
  obtain ⟨r, l, rfl⟩ : ∃ (r : Fin 512) (l : Fin 1024), y = ix2 r l := ⟨y 0, y 1, eq_ix2 y⟩
  have he : (win0_7.blk t).view.emb (ix2 r l) = ix2 (row t.val r) l := by
    refine Shape.idx_ext₂ ?_ ?_ <;> blk_simp <;> rw [e] <;> simp [row]
  rw [he, block_dx m c H t.val t.isLt r l]
  rfl

theorem arr8 : (dats m 0 c).arrAt 8 cfg0.N = dxF A U W O X G := by
  refine (dats m 0 c).arrAt_eq_of_covers 8 _ (by decide +kernel) fun t hf y => ?_
  have e : ∀ t : Fin cfg0.N, win0_8.index t = ![t.val % 16, 0] := by decide +kernel
  blk_simp
  rw [after0_8, outs8]
  obtain ⟨r, l, rfl⟩ : ∃ (r : Fin 512) (l : Fin 1024), y = ix2 r l := ⟨y 0, y 1, eq_ix2 y⟩
  have he : (win0_8.blk t).view.emb (ix2 r l) = ix2 (row t.val r) l := by
    refine Shape.idx_ext₂ ?_ ?_ <;> blk_simp <;> rw [e] <;> simp [row]
  rw [he]
  exact block_dx m c H t.val t.isLt r l

/-- The part of the gain's gradient that grid point `n` adds. -/
def gadd (A : S8192x768.Idx → ℝ) (U : S8192x256.Idx → ℝ) (W : S2x1024x1024.Idx → ℝ) (X : S8192x1024.Idx → ℝ) (n : ℕ) (l : Fin 1024) : ℝ :=
  ∑ r : Fin 512, gterm A U W X l (row n r)

theorem step9 (n : ℕ) (h : n < cfg0.N) (acc : FVec Ideal S1x1024 .f32) (j : S1x1024.Idx) :
    k0_pay4 (F := Ideal) (k0_pay5 (iblk m c 0 ⟨n, h⟩) (X0_1 m c ⟨n, h⟩) (iblk m c 2 ⟨n, h⟩) (iblk m c 3 ⟨n, h⟩)) (k0_pay7 (iblk m c 5 ⟨n, h⟩)) acc j
      = acc j + ((gadd A U W X n (j 1) : ℝ) : EReal) := by
  obtain ⟨z, l, rfl⟩ : ∃ (z : Fin 1) (l : Fin 1024), j = ix2 z l := ⟨j 0, j 1, eq_ix2 j⟩
  obtain rfl : z = 0 := Subsingleton.elim _ _
  rw [pay4_apply _ _ _ _ _ (fun r k => (iblk0_apply m c n h r k).trans (congrFun H.a _)) (fun r k => (iblk2_apply m c n h r k).trans (congrFun H.u _))
    (fun r k => (wblk1_apply m c n h r k).trans (congrFun H.w _)) (fun r k => (iblk3_apply m c n h r k).trans (congrFun H.w _))
    (fun r k => (iblk5_apply m c n h r k).trans (congrFun H.x _))]
  rfl

theorem arr9 : (dats m 0 c).arrAt 9 cfg0.N = dgainF A U W X := by
  refine (dats m 0 c).arrAt_eq_of_covers 9 _ (by decide +kernel) fun t hf y => ?_
  have e : ∀ t : Fin cfg0.N, win0_9.index t = ![0, 0] := by decide +kernel
  blk_simp
  rw [after0_9]
  obtain ⟨z, l, rfl⟩ : ∃ (z : Fin 1) (l : Fin 1024), y = ix2 z l := ⟨y 0, y 1, eq_ix2 y⟩
  have he : (win0_9.blk t).view.emb (ix2 z l) = ix2 z l := by
    refine Shape.idx_ext₂ ?_ ?_ <;> blk_simp <;> rw [e] <;> simp
  rw [he]
  have hr := (flush0_9 t).mp hf
  have hN : t.val < 16 := lt_of_lt_of_eq t.isLt N_0
  rw [Pipeline.eq_sum_fin_of_reset_step_apply_of_flush (fun n h => (outsAt0 m c n h).2.2) 16 (fun _ => (0 : EReal)) (fun t j => ((gadd A U W X t.val (j 1) : ℝ) : EReal))
    (fun t h0 j => by
      show (outsAt0 m c t.val t.isLt).2.2 j = _
      rw [outs9_A m c t h0, step9 m c H t.val t.isLt, zero9])
    (fun t h0 j => by
      show (outsAt0 m c t.val t.isLt).2.2 j = _
      rw [outs9_B m c t h0, step9 m c H t.val t.isLt]) t hr]
  rw [zero_add, Reals.coe_sum]
  unfold dgainF gadd
  refine congrArg _ ?_
  refine Eq.trans ?_ (Fin.sum_mul_add_fin 16 512 (gterm A U W X l))
  refine Finset.sum_congr rfl fun s _ => Finset.sum_congr rfl fun q _ => ?_
  have hs := s.isLt
  refine congrArg (gterm A U W X l) (Fin.ext ?_)
  show (16 * (t.val / 16) + s.val) % 16 * 512 + q.val = s.val * 512 + q.val
  omega

end Cert.BinIdeal.Value

/-! ## The reference's lines -/

namespace Cert.BinRefIdeal.Read

open Cert.BinRefIdeal Cert.BinRefIdeal.Gen Idealize.ShloMosaic Idealize.ShloMosaic.TcCoe Idealize.SL.Sem
open scoped BigOperators

variable {A : S8192x768.Idx → ℝ} {U : S8192x256.Idx → ℝ} {W : S2x1024x1024.Idx → ℝ} {O X : S8192x1024.Idx → ℝ} {G : S1024.Idx → ℝ}

/-- The coercion of a real array. -/
abbrev up {S : Shape} {φ : FTy} (X : S.Idx → ℝ) : FVec Ideal S φ := fun i => ((X i : ℝ) : EReal)

theorem v8_at (r : Fin 8192) : val_main_v8 (F := Ideal) (up (φ := .f32) X) (ix2 r 0) = ((Cert.UpIdeal.Value.ms (fun k => X (ix2 r k)) : ℝ) : EReal) := by
  pointwise [val_main_v8, val_main_v7, val_main_v6, val_main_v5, val_main_v4, val_main_v3, val_main_v2, val_main_cst, val_main_cst_0, val_main_cst_1]
  simp only [up, ← EReal.coe_mul, Reals.coe_sum, Reals.n1024_f32, Reals.eps_f32]
  rw [Reals.div_real (by norm_num), ← EReal.coe_add]
  rfl

theorem v9_at (r : Fin 8192) : val_main_v9 (F := Ideal) (up (φ := .f32) X) (ix2 r 0) = ((Cert.UpIdeal.Value.rs (fun k => X (ix2 r k)) : ℝ) : EReal) := by
  have e := v8_at (X := X) r
  unfold val_main_v9
  generalize val_main_v8 (F := Ideal) (up (φ := .f32) X) = y at e ⊢
  pointwise []
  rw [e, Reals.rsqrt_real (Cert.UpIdeal.Value.ms_pos _)]
  rfl

theorem v12_at (r : Fin 8192) : val_main_v12 (F := Ideal) (up (φ := .f32) X) (ix2 r 0)
    = ((-(1 / 2) * (Cert.UpIdeal.Value.rs (fun k => X (ix2 r k)) / Cert.UpIdeal.Value.ms (fun k => X (ix2 r k))) : ℝ) : EReal) := by
  have e6 := v8_at (X := X) r
  have e7 := v9_at (X := X) r
  unfold val_main_v12 val_main_v10
  generalize val_main_v8 (F := Ideal) (up (φ := .f32) X) = y at e6 ⊢
  generalize val_main_v9 (F := Ideal) (up (φ := .f32) X) = y at e7 ⊢
  pointwise [val_main_v11, val_main_cst_2]
  rw [e6, e7, Reals.neg_half_f32, Reals.div_real (Cert.UpIdeal.Value.ms_pos _).ne', ← EReal.coe_mul]

theorem v22_at (r : Fin 8192) (l : Fin 1024) : val_main_v22 (F := Ideal) (up (φ := .f32) A) (up (φ := .bf16) U) (up (φ := .bf16) W) (ix2 r l)
    = ((Cert.BinIdeal.Value.dhA A U W r l : ℝ) : EReal) := by
  pointwise [val_main_v22, val_main_v1, val_main_v0, val_main_v20, val_main_v19, val_main_v18]
  simp only [up, ← EReal.coe_mul, Reals.coe_sum, ← EReal.coe_add]
  rfl

theorem v27_at (r : Fin 8192) (l : Fin 1024) : val_main_v27 (F := Ideal) (up (φ := .f32) A) (up (φ := .bf16) U) (up (φ := .bf16) W) (up (φ := .f32) G) (ix2 r l)
    = ((Cert.BinIdeal.Value.dhA A U W r l * G (ix1 l) : ℝ) : EReal) := by
  have e := v22_at (A := A) (U := U) (W := W) r l
  unfold val_main_v27
  generalize val_main_v22 (F := Ideal) (up (φ := .f32) A) (up (φ := .bf16) U) (up (φ := .bf16) W) = y at e ⊢
  pointwise [val_main_v26, val_main_v15]
  rw [e, ← EReal.coe_mul]

/-- The factor that the mean square's gradient gives a row. -/
theorem v39_at (r : Fin 8192) (l : Fin 1024) : val_main_v39 (F := Ideal) (up (φ := .f32) A) (up (φ := .bf16) U) (up (φ := .bf16) W) (up (φ := .f32) X) (up (φ := .f32) G) (ix2 r l)
    = (((∑ k, X (ix2 r k) * (Cert.BinIdeal.Value.dhA A U W r k * G (ix1 k))) * (-(1 / 2) * (Cert.UpIdeal.Value.rs (fun k => X (ix2 r k)) / Cert.UpIdeal.Value.ms (fun k => X (ix2 r k)))) / 1024 : ℝ) : EReal) := by
  have e29 := fun k => v27_at (A := A) (U := U) (W := W) (G := G) r k
  have e10 := v12_at (X := X) r
  unfold val_main_v39 val_main_v38 val_main_v37 val_main_v35 val_main_v31 val_main_v30 val_main_v29
  generalize val_main_v27 (F := Ideal) (up (φ := .f32) A) (up (φ := .bf16) U) (up (φ := .bf16) W) (up (φ := .f32) G) = y at e29 ⊢
  generalize val_main_v12 (F := Ideal) (up (φ := .f32) X) = y at e10 ⊢
  pointwise [val_main_v36, val_main_cst_5, val_main_cst_6, val_main_cst_7]
  simp only [e29, up, ← EReal.coe_mul, Reals.coe_sum, Reals.n1024_f32]
  rw [Fin.sum_univ_one]
  rw [show y (ix2 r 0) = _ from e10, ← EReal.coe_mul, Reals.div_real (by norm_num)]

theorem v43_at (r : Fin 8192) (l : Fin 1024) : val_main_v43 (F := Ideal) (up (φ := .f32) A) (up (φ := .bf16) U) (up (φ := .bf16) W) (up (φ := .f32) O) (up (φ := .f32) X) (up (φ := .f32) G) (ix2 r l)
    = ((Cert.BinIdeal.Value.dxA A U W O X G r l : ℝ) : EReal) := by
  have e29 := v27_at (A := A) (U := U) (W := W) (G := G) r l
  have e7 := v9_at (X := X) r
  have e41 := v39_at (A := A) (U := U) (W := W) (X := X) (G := G) r l
  unfold val_main_v43 val_main_v42 val_main_v41 val_main_v40 val_main_v34 val_main_v33 val_main_v32
  generalize val_main_v27 (F := Ideal) (up (φ := .f32) A) (up (φ := .bf16) U) (up (φ := .bf16) W) (up (φ := .f32) G) = y29 at e29 ⊢
  generalize val_main_v39 (F := Ideal) (up (φ := .f32) A) (up (φ := .bf16) U) (up (φ := .bf16) W) (up (φ := .f32) X) (up (φ := .f32) G) = y41 at e41 ⊢
  generalize val_main_v9 (F := Ideal) (up (φ := .f32) X) = y7 at e7 ⊢
  pointwise []
  simp only [e29, e7, e41, up, ← EReal.coe_mul, ← EReal.coe_add]
  exact congrArg _ (Cert.UpIdeal.Value.dxR_eq _ (fun k => G (ix1 k)) _ _ l _ rfl)

theorem v45_at (l : Fin 1024) : val_main_v45 (F := Ideal) (up (φ := .f32) A) (up (φ := .bf16) U) (up (φ := .bf16) W) (up (φ := .f32) X) (ix2 0 l)
    = ((∑ r : Fin 8192, Cert.BinIdeal.Value.gterm A U W X l r : ℝ) : EReal) := by
  have e24 := fun r l => v22_at (A := A) (U := U) (W := W) r l
  have e7 := fun r => v9_at (X := X) r
  unfold val_main_v45 val_main_v28 val_main_v25 val_main_v24 val_main_v23 val_main_v14 val_main_v13
  generalize val_main_v22 (F := Ideal) (up (φ := .f32) A) (up (φ := .bf16) U) (up (φ := .bf16) W) = y24 at e24 ⊢
  generalize val_main_v9 (F := Ideal) (up (φ := .f32) X) = y7 at e7 ⊢
  pointwise [val_main_cst_3, val_main_cst_4]
  simp only [e24, e7, up, ← EReal.coe_mul, Reals.coe_sum]
  rw [Fin.sum_univ_one]
  exact congrArg _ (Finset.sum_congr rfl fun r _ => mul_comm _ _)

end Cert.BinRefIdeal.Read

/-! ## The claim -/

namespace Cert.Proof

open Idealize.ShloMosaic Idealize.ShloMosaic.TcCoe Idealize.SL.Sem

/-- The shape facts that the finiteness check states. -/
theorem facts_bin : Cert.Pre_finite_bin.Facts := by constructor <;> decide

/-- The precondition makes every argument a real array. -/
theorem bin_real (m : (ℓ : Loc Cert.BinIdeal.nD Cert.BinIdeal.τ Cert.BinIdeal.sig) → Buf (Elt Ideal) ℓ)
    (h : Pre_BinIdeal_finite_bin (hPre_finite_bin := facts_bin) m) (c : Dev Cert.BinIdeal.nD) :
    ∃ A U W O X G, Cert.BinIdeal.Value.Real6 m c A U W O X G := by
  obtain ⟨h0, h1, h2, h3, h4, h5⟩ := h c
  have q : ∀ {S : Shape} (x : FVec Ideal S .bf16), (∀ i, Ideal.cmp .olt (max (x i) (-(x i))) (Ideal.ofBits .bf16 0x7F80#16) = 1#1) → ∃ X : S.Idx → ℝ, x = fun i => ((X i : ℝ) : EReal) :=
    fun x hx => Cert.Reals.lift fun i => Cert.Reals.real_of_olt (by rw [← Cert.Reals.top_bf16]; exact hx i)
  have q' : ∀ {S : Shape} (x : FVec Ideal S .f32), (∀ i, Ideal.cmp .olt (max (x i) (-(x i))) (Ideal.ofBits .f32 0x7F800000#32) = 1#1) → ∃ X : S.Idx → ℝ, x = fun i => ((X i : ℝ) : EReal) :=
    fun x hx => Cert.Reals.lift fun i => Cert.Reals.real_of_olt (by rw [← Cert.Reals.top_f32]; exact hx i)
  obtain ⟨A, hA⟩ := q' _ (fun i => congrFun h0 i)
  obtain ⟨U, hU⟩ := q _ (fun i => congrFun h1 i)
  obtain ⟨W, hW⟩ := q _ (fun i => congrFun h2 i)
  obtain ⟨O, hO⟩ := q' _ (fun i => congrFun h3 i)
  obtain ⟨X, hX⟩ := q' _ (fun i => congrFun h4 i)
  obtain ⟨G, hG⟩ := q' _ (fun i => congrFun h5 i)
  exact ⟨A, U, W, O, X, G, hA, hU, hW, hO, hX, hG⟩

theorem algebraic_bin : algebraic_BinIdeal_BinRefIdeal_pre_finite_bin (hBinIdeal := Cert.BinIdeal.Gen.facts) (hBinRefIdeal := Cert.BinRefIdeal.Gen.facts) (hPre_finite_bin := facts_bin) := by
  intro m g m' g' hp hm
  choose A U W O X G H using bin_real m hp
  refine ⟨fun c => Cert.BinIdeal.Value.dxF (A c) (U c) (W c) (O c) (X c) (G c), fun c => Cert.BinIdeal.Value.dxF (A c) (U c) (W c) (O c) (X c) (G c), fun c => Cert.BinIdeal.Value.dgainF (A c) (U c) (W c) (X c), ?_, ?_⟩
  · refine (θ_run _ _ _).mono (fun r h c => ?_) (Cert.BinIdeal.Value.run_blocks m g)
    obtain ⟨h7, h8, h9, h⟩ := h c
    exact ⟨h7.trans (Cert.BinIdeal.Value.arr7 m c (H c)), h8.trans (Cert.BinIdeal.Value.arr8 m c (H c)), h9.trans (Cert.BinIdeal.Value.arr9 m c (H c)), h⟩
  · refine (θ_run _ _ _).mono (fun r h c => ?_) (Cert.BinRefIdeal.Value.run m' g')
    obtain ⟨h7, h8, h9, h⟩ := h c
    obtain ⟨e0, e1, e2, e3, e4, e5⟩ := hm c
    replace e0 := e0.trans (H c).a
    replace e1 := e1.trans (H c).u
    replace e2 := e2.trans (H c).w
    replace e3 := e3.trans (H c).o
    replace e4 := e4.trans (H c).x
    replace e5 := e5.trans (H c).g
    have p : Cert.BinRefIdeal.Value.res_main_v43 m' c = Cert.BinIdeal.Value.dxF (A c) (U c) (W c) (O c) (X c) (G c) := by
      rw [Cert.BinRefIdeal.Read.val_main_v43_eq, e0, e1, e2, e3, e4, e5]
      funext i
      obtain ⟨r, l, rfl⟩ : ∃ (r : Fin 8192) (l : Fin 1024), i = ix2 r l := ⟨i 0, i 1, eq_ix2 i⟩
      exact Cert.BinRefIdeal.Read.v43_at r l
    refine ⟨h7.trans p, h8.trans ?_, h9.trans ?_, h⟩
    · refine Eq.trans ?_ p
      rw [Cert.BinRefIdeal.Read.val_main_v43_eq, Cert.BinRefIdeal.Read.val_main_v44_eq]
      rfl
    · rw [Cert.BinRefIdeal.Read.val_main_v45_eq, e0, e1, e2, e4]
      funext i
      obtain ⟨z, l, rfl⟩ : ∃ (z : Fin 1) (l : Fin 1024), i = ix2 z l := ⟨i 0, i 1, eq_ix2 i⟩
      obtain rfl : z = 0 := Subsingleton.elim _ _
      exact Cert.BinRefIdeal.Read.v45_at l

end Cert.Proof
-- ==== Proof.RecallValue.lean ====
/- The memory attention's forward call: what the kernel leaves in its output array, as real numbers, and that the reference's
   softmax lines are the same. The heads' weights are those of the backward call's proof. -/
module

public import proofs.«01_k».proof.Proof.MemValue
public import proofs.«01_k».proof.Proof.Gen.RecallIdeal.Value
public import proofs.«01_k».proof.Proof.Gen.RecallRefIdeal.Run
public import proofs.«01_k».proof.Proof.Gen.RecallRefIdeal.Read
public import proofs.«01_k».proof.Defs

@[expose] public section

set_option maxRecDepth 16384

noncomputable section

namespace Cert.RecallIdeal.Value

open Cert.RecallIdeal Cert.RecallIdeal.Gen Idealize.ShloMosaic Idealize.ShloMosaic.TcCoe Idealize.SL.Sem
open Cert.MemIdeal.Value (score prob qrow kmat vmat keepB headP headP_apply keepB_apply M0 M1 M2 M3 lanes0 lanes1 lanes2 lanes3 four)
open scoped BigOperators

variable (m : (ℓ : Loc nD τ sig) → Buf (Elt Ideal) ℓ)

/-- A lane of a query's answer: the lane's values under its head's weights. -/
def att (q : Fin 256 → ℝ) (K V : Fin 256 → Fin 256 → ℝ) (l : Fin 256) : ℝ := ∑ j : Fin 256, prob q K (l.val / 64) j * V j l

/-- A head's addition to the answers. -/
def headO (M : IVec S1x256 1) (q : FVec Ideal S512x256 .bf16) (k v : FVec Ideal S256x256 .bf16) (acc : FVec Ideal S512x256 .f32) : FVec Ideal S512x256 .f32 :=
  addf acc (matmul dot_S512x256_S256x256_S512x256_1_0_0_1_n_n none (truncf .bf16 (headP M q k) bitsLt_bf16_f32) (keepB M v) (constant S512x256 .f32 0x00000000#32))

/-- A block's answers. -/
def blkO (q : FVec Ideal S512x256 .bf16) (k v : FVec Ideal S256x256 .bf16) : FVec Ideal S512x256 .bf16 :=
  truncf .bf16 (headO M3 q k v (headO M2 q k v (headO M1 q k v (headO M0 q k v (k0_pay5 (F := Ideal)))))) bitsLt_bf16_f32

/-- A block's first half. -/
abbrev loHalf (x : FVec Ideal S256x512 .f32) : FVec Ideal S256x256 .f32 := View.ld (Val := Elt Ideal) (e' := .f32) x (Rect.unit ![0, 0] ![256, 256] inb_S256x512_S256x256_0_0)
/-- A block's second half. -/
abbrev hiHalf (x : FVec Ideal S256x512 .f32) : FVec Ideal S256x256 .f32 := View.ld (Val := Elt Ideal) (e' := .f32) x (Rect.unit ![0, 256] ![256, 256] inb_S256x512_S256x256_0_256)

/-- A block of the memory's first half: the keys. -/
def keys (x : FVec Ideal S256x512 .f32) : FVec Ideal S256x256 .bf16 := k0_pay3 (F := Ideal) (loHalf x)
/-- A block of the memory's second half: the values. -/
def vals (x : FVec Ideal S256x512 .f32) : FVec Ideal S256x256 .bf16 := k0_pay4 (F := Ideal) (hiHalf x)

variable (q : FVec Ideal S512x256 .bf16) (k v : FVec Ideal S256x256 .bf16) (Q : S512x256.Idx → ℝ) (K V : S256x256.Idx → ℝ)
  (hq : q = fun i => ((Q i : ℝ) : EReal)) (hk : k = fun i => ((K i : ℝ) : EReal)) (hv : v = fun i => ((V i : ℝ) : EReal))

include hq hk hv

theorem headO_apply (M : IVec S1x256 1) (h : ℕ) (hM : ∀ l : Fin 256, M (ix2 0 l) = if l.val / 64 = h then 1#1 else 0#1) (acc : FVec Ideal S512x256 .f32) (r : Fin 512) (l : Fin 256) :
    headO M q k v acc (ix2 r l) = acc (ix2 r l) + (((if l.val / 64 = h then att (fun l => Q (ix2 r l)) (fun j l => K (ix2 j l)) (fun j l => V (ix2 j l)) l else 0) : ℝ) : EReal) := by
  have e := headP_apply q k Q K hq hk M h hM r
  have e' := fun j l => keepB_apply M h hM v V hv j l
  unfold headO
  generalize headP M q k = p at e ⊢
  generalize keepB M v = w at e' ⊢
  pointwise []
  simp only [e, e', ← EReal.coe_mul, Reals.coe_sum]
  split_ifs with hl
  · subst hl
    rfl
  · simp

theorem blkO_apply (r : Fin 512) (l : Fin 256) :
    blkO q k v (ix2 r l) = ((att (fun l => Q (ix2 r l)) (fun j l => K (ix2 j l)) (fun j l => V (ix2 j l)) l : ℝ) : EReal) := by
  pointwise [blkO]
  rw [headO_apply q k v Q K V hq hk hv M3 3 lanes3, headO_apply q k v Q K V hq hk hv M2 2 lanes2, headO_apply q k v Q K V hq hk hv M1 1 lanes1, headO_apply q k v Q K V hq hk hv M0 0 lanes0,
    show k0_pay5 (F := Ideal) (ix2 r l) = 0 by pointwise [k0_pay5]]
  exact four l _

omit hq hk hv

/-! ## The output array -/

/-- The answers. -/
def attR (P : S8192x1792.Idx → ℝ) (Z : S256x512.Idx → ℝ) : FVec Ideal S8192x256 .bf16 := fun i =>
  ((att (qrow P (i 0)) (kmat Z) (vmat Z) (i 1) : ℝ) : EReal)

theorem iblk0_apply (c : Dev nD) (n : ℕ) (h : n < cfg0.N) (r : Fin 512) (l : Fin 256) :
    iblk m c 0 ⟨n, h⟩ (ix2 r l) = m ((c : Thread nD τ).loc main_arg0) (ix2 ⟨n % 16 * 512 + r.val, by omega⟩ ⟨1536 + l.val, by omega⟩) := by
  have e : ∀ t : Fin cfg0.N, win0_0.index t = ![t.val % 16, 6] := by decide +kernel
  blk_ext [iblk, V, e]

theorem iblk1_apply (c : Dev nD) (n : ℕ) (h : n < cfg0.N) (r : Fin 256) (l : Fin 512) :
    iblk m c 1 ⟨n, h⟩ (ix2 r l) = m ((c : Thread nD τ).loc main_arg1) (ix2 r l) := by
  have e : ∀ t : Fin cfg0.N, win0_1.index t = ![0, 0] := by decide +kernel
  blk_ext [iblk, V, e]

/-- The arguments as real arrays. -/
structure Real2 (c : Dev nD) (P : S8192x1792.Idx → ℝ) (Z : S256x512.Idx → ℝ) : Prop where
  p : m ((c : Thread nD τ).loc main_arg0) = fun i => ((P i : ℝ) : EReal)
  z : m ((c : Thread nD τ).loc main_arg1) = fun i => ((Z i : ℝ) : EReal)

variable (c : Dev nD) {P : S8192x1792.Idx → ℝ} {Z : S256x512.Idx → ℝ} (H : Real2 m c P Z)

include H

theorem blkQ (n : ℕ) (h : n < cfg0.N) : k0_pay2 (F := Ideal) (iblk m c 0 ⟨n, h⟩) = fun i => ((qrow P ⟨n % 16 * 512 + (i 0).val, by have := (i 0).isLt; change (i 0).val < 512 at this; omega⟩ (i 1) : ℝ) : EReal) := by
  funext i
  obtain ⟨r, l, rfl⟩ : ∃ (r : Fin 512) (l : Fin 256), i = ix2 r l := ⟨i 0, i 1, eq_ix2 i⟩
  pointwise [k0_pay2]
  rw [iblk0_apply, H.p]
  rfl

theorem blkK (n : ℕ) (h : n < cfg0.N) : keys (iblk m c 1 ⟨n, h⟩) = fun i => ((kmat Z (i 0) (i 1) : ℝ) : EReal) := by
  funext i
  obtain ⟨j, l, rfl⟩ : ∃ (j l : Fin 256), i = ix2 j l := ⟨i 0, i 1, eq_ix2 i⟩
  pointwise [keys, loHalf, k0_pay3]
  rw [iblk1_apply, H.z]
  rfl

theorem blkV (n : ℕ) (h : n < cfg0.N) : vals (iblk m c 1 ⟨n, h⟩) = fun i => ((vmat Z (i 0) (i 1) : ℝ) : EReal) := by
  funext i
  obtain ⟨j, l, rfl⟩ : ∃ (j l : Fin 256), i = ix2 j l := ⟨i 0, i 1, eq_ix2 i⟩
  pointwise [vals, hiHalf, k0_pay4]
  rw [iblk1_apply, H.z]
  rfl

omit H in
theorem heads01 (x : FVec Ideal S512x256 .f32) (y z : FVec Ideal S256x256 .f32) : k0_pay8 (F := Ideal) (k0_pay2 x) (k0_pay3 y) (k0_pay4 z) k0_pay5 (k0_pay6 x y) (k0_pay7 z)
    = headO M1 (k0_pay2 x) (k0_pay3 y) (k0_pay4 z) (headO M0 (k0_pay2 x) (k0_pay3 y) (k0_pay4 z) k0_pay5) := rfl

omit H in
theorem heads2 (q : FVec Ideal S512x256 .bf16) (k v : FVec Ideal S256x256 .bf16) (acc : FVec Ideal S512x256 .f32) : k0_pay11 (F := Ideal) q k v acc k0_pay9 k0_pay10 = headO M2 q k v acc := rfl

omit H in
theorem heads3 (q : FVec Ideal S512x256 .bf16) (k v : FVec Ideal S256x256 .bf16) (acc : FVec Ideal S512x256 .f32) : k0_pay1 (F := Ideal) v acc (k0_pay12 q k) = truncf .bf16 (headO M3 q k v acc) bitsLt_bf16_f32 := rfl

omit H in
theorem out2 (x : FVec Ideal S512x256 .f32) (y : FVec Ideal S256x512 .f32) : out0_2 (F := Ideal) x y = blkO (k0_pay2 (F := Ideal) x) (keys y) (vals y) := by
  have e13 : k0_pay13 (F := Ideal) x y = k0_pay2 (F := Ideal) x := by unfold k0_pay13; frame_out
  have e14 : k0_pay14 (F := Ideal) x y = keys y := by unfold k0_pay14 keys; frame_out
  have e15 : k0_pay15 (F := Ideal) x y = vals y := by unfold k0_pay15 vals; frame_out
  have e6 : View.ld (Val := Elt Ideal) (e' := .f32) x r0_0 = x := by frame_out
  unfold out0_2
  rw [e13, e14, e15, e6]
  unfold keys vals
  rw [show k0_pay8 (F := Ideal) (k0_pay2 x) (k0_pay3 (loHalf y)) (k0_pay4 (hiHalf y)) k0_pay5 (k0_pay6 x (View.ld (Val := Elt Ideal) (e' := .f32) y r0_1)) (k0_pay7 (View.ld (Val := Elt Ideal) (e' := .f32) y r0_2)) = _ from heads01 x (loHalf y) (hiHalf y), heads2, heads3]
  frame_out
  rfl

theorem arr2 : (dats m 0 c).arrAt 2 cfg0.N = attR P Z := by
  refine (dats m 0 c).arrAt_eq_of_covers 2 _ (by decide +kernel) fun t hf y => ?_
  have e : ∀ t : Fin cfg0.N, win0_2.index t = ![t.val % 16, 0] := by decide +kernel
  blk_simp
  rw [after0_2, out2]
  obtain ⟨r, l, rfl⟩ : ∃ (r : Fin 512) (l : Fin 256), y = ix2 r l := ⟨y 0, y 1, eq_ix2 y⟩
  have he : (win0_2.blk t).view.emb (ix2 r l) = ix2 (⟨t.val % 16 * 512 + r.val, by omega⟩ : Fin 8192) l := by
    refine Shape.idx_ext₂ ?_ ?_ <;> blk_simp <;> rw [e] <;> simp
  rw [he, blkO_apply _ _ _ _ _ _ (blkQ m c H t.val t.isLt) (blkK m c H t.val t.isLt) (blkV m c H t.val t.isLt)]
  rfl

end Cert.RecallIdeal.Value

/-! ## The reference's lines -/

namespace Cert.RecallRefIdeal.Read

open Cert.RecallRefIdeal Cert.RecallRefIdeal.Gen Idealize.ShloMosaic Idealize.ShloMosaic.TcCoe Idealize.SL.Sem
open Cert.MemIdeal.Value (qrow kmat vmat score prob)
open Cert.MemReferIdeal.Read (hl hl_self head_sum up)
open scoped BigOperators

variable {P : S8192x1792.Idx → ℝ} {Z : S256x512.Idx → ℝ}

theorem v3_at (r : Fin 8192) (h : Fin 4) (k : Fin 64) : val_main_v3 (F := Ideal) (up (φ := .f32) P) (ix3 r h k) = ((qrow P r (hl h k) : ℝ) : EReal) := by
  pointwise [val_main_v3, val_main_v0]
  rfl

theorem v4_at (j : Fin 256) (h : Fin 4) (k : Fin 64) : val_main_v4 (F := Ideal) (up (φ := .f32) Z) (ix3 j h k) = ((kmat Z j (hl h k) : ℝ) : EReal) := by
  pointwise [val_main_v4, val_main_v1]
  rfl

theorem v5_at (j : Fin 256) (h : Fin 4) (k : Fin 64) : val_main_v5 (F := Ideal) (up (φ := .f32) Z) (ix3 j h k) = ((vmat Z j (hl h k) : ℝ) : EReal) := by
  pointwise [val_main_v5, val_main_v2]
  rfl

theorem v8_at (h : Fin 4) (r : Fin 8192) (j : Fin 256) : val_main_v8 (F := Ideal) (up (φ := .f32) P) (up (φ := .f32) Z) (ix3 h r j) = ((score (qrow P r) (kmat Z) h j : ℝ) : EReal) := by
  have e3 := v3_at (P := P) r h
  have e4 := v4_at (Z := Z) j h
  unfold val_main_v8 val_main_v6
  generalize val_main_v3 (F := Ideal) (up (φ := .f32) P) = y at e3 ⊢
  generalize val_main_v4 (F := Ideal) (up (φ := .f32) Z) = y at e4 ⊢
  pointwise [val_main_v7, val_main_cst]
  simp only [e3, e4, ← EReal.coe_mul, Reals.coe_sum, Reals.eighth_f32]
  unfold score
  rw [head_sum]

/-- The exponentials of a row, up to a common shift. -/
theorem v15_at (h : Fin 4) (r : Fin 8192) : ∃ μ : ℝ, ∀ j : Fin 256, val_main_v15 (F := Ideal) (up (φ := .f32) P) (up (φ := .f32) Z) (ix3 h r j) = ((Real.exp (score (qrow P r) (kmat Z) h j - μ) : ℝ) : EReal) := by
  have e8 := v8_at (P := P) (Z := Z) h r
  obtain ⟨μ, hμ⟩ := Reals.fold_max_real (fun j => score (qrow P r) (kmat Z) h j)
  refine ⟨μ, fun j => ?_⟩
  have e9 : val_main_v9 (F := Ideal) (up (φ := .f32) P) (up (φ := .f32) Z) (ix2 h r) = ((μ : ℝ) : EReal) := by
    unfold val_main_v9
    generalize val_main_v8 (F := Ideal) (up (φ := .f32) P) (up (φ := .f32) Z) = y at e8 ⊢
    pointwise [val_main_cst_0]
    simp only [e8]
    exact hμ
  have e1 : ∀ i, val_main_cst_1 (F := Ideal) i = (⊥ : EReal) := fun i => Reals.bot_f32
  rw [val_main_v15_apply, val_main_v14_apply, val_main_v13_apply, val_main_v12_apply, val_main_v11_apply, val_main_v10_apply, e1, show idx_main_v12 (idx_main_v13 (ix3 h r j)) = ix2 h r from Shape.idx_ext₂ rfl rfl, e8, e9]
  show Ideal.exp (((score (qrow P r) (kmat Z) h j : ℝ) : EReal) - max ⊥ ((μ : ℝ) : EReal)) = _
  rw [max_eq_right bot_le, ← EReal.coe_sub, Ideal.exp_coe]

/-- The weights. -/
theorem v19_at (h : Fin 4) (r : Fin 8192) (j : Fin 256) : val_main_v19 (F := Ideal) (up (φ := .f32) P) (up (φ := .f32) Z) (ix3 h r j) = ((prob (qrow P r) (kmat Z) h j : ℝ) : EReal) := by
  obtain ⟨μ, e15⟩ := v15_at (P := P) (Z := Z) h r
  unfold val_main_v19 val_main_v18 val_main_v17 val_main_v16
  generalize val_main_v15 (F := Ideal) (up (φ := .f32) P) (up (φ := .f32) Z) = y at e15 ⊢
  pointwise [val_main_cst_2]
  simp only [e15, Reals.coe_sum]
  rw [Reals.div_real (Reals.sum_exp_pos _).ne']
  refine congrArg _ ?_
  unfold prob
  rw [← Reals.softmax_shift _ μ]
  ring

/-- The answers. -/
theorem v21_at (r : Fin 8192) (h : Fin 4) (k : Fin 64) : val_main_v21 (F := Ideal) (up (φ := .f32) P) (up (φ := .f32) Z) (ix3 r h k)
    = ((∑ j : Fin 256, prob (qrow P r) (kmat Z) h j * vmat Z j (hl h k) : ℝ) : EReal) := by
  have e5 := fun j => v5_at (Z := Z) j h k
  have e19 := v19_at (P := P) (Z := Z) h r
  unfold val_main_v21 val_main_v20
  generalize val_main_v5 (F := Ideal) (up (φ := .f32) Z) = y at e5 ⊢
  generalize val_main_v19 (F := Ideal) (up (φ := .f32) P) (up (φ := .f32) Z) = y at e19 ⊢
  pointwise []
  simp only [e5, e19, ← EReal.coe_mul, Reals.coe_sum]
  exact congrArg _ (Finset.sum_congr rfl fun j _ => mul_comm _ _)

theorem v23_at (r : Fin 8192) (l : Fin 256) : val_main_v23 (F := Ideal) (up (φ := .f32) P) (up (φ := .f32) Z) (ix2 r l)
    = ((Cert.RecallIdeal.Value.att (qrow P r) (kmat Z) (vmat Z) l : ℝ) : EReal) := by
  have e := v21_at (P := P) (Z := Z) r ⟨l.val / 64, by omega⟩ ⟨l.val % 64, by omega⟩
  rw [hl_self] at e
  rw [show val_main_v23 (F := Ideal) (up (φ := .f32) P) (up (φ := .f32) Z) (ix2 r l) = val_main_v22 (F := Ideal) (up (φ := .f32) P) (up (φ := .f32) Z) (ix2 r l) from rfl, val_main_v22_apply,
    show idx_main_v22 (ix2 r l) = ix3 r (⟨l.val / 64, by omega⟩ : Fin 4) (⟨l.val % 64, by omega⟩ : Fin 64) from funext fun a => Fin.ext (match a with
      | ⟨0, _⟩ => (by show (r.val * 256 + l.val) / 256 = r.val; omega)
      | ⟨1, _⟩ => (by show (r.val * 256 + l.val) / 64 % 4 = l.val / 64; omega)
      | ⟨2, _⟩ => (by show (r.val * 256 + l.val) % 64 = l.val % 64; omega)), e]
  rfl

end Cert.RecallRefIdeal.Read

/-! ## The claim -/

namespace Cert.Proof

open Idealize.ShloMosaic Idealize.ShloMosaic.TcCoe Idealize.SL.Sem

/-- The shape facts that the finiteness check states. -/
theorem facts_recall : Cert.Pre_finite_recall.Facts := by constructor <;> decide

/-- The precondition makes every argument a real array. -/
theorem recall_real (m : (ℓ : Loc Cert.RecallIdeal.nD Cert.RecallIdeal.τ Cert.RecallIdeal.sig) → Buf (Elt Ideal) ℓ)
    (h : Pre_RecallIdeal_finite_recall (hPre_finite_recall := facts_recall) m) (c : Dev Cert.RecallIdeal.nD) :
    ∃ P Z, Cert.RecallIdeal.Value.Real2 m c P Z := by
  obtain ⟨h0, h1⟩ := h c
  have q : ∀ {S : Shape} (x : FVec Ideal S .f32), (∀ i, Ideal.cmp .olt (max (x i) (-(x i))) (Ideal.ofBits .f32 0x7F800000#32) = 1#1) → ∃ X : S.Idx → ℝ, x = fun i => ((X i : ℝ) : EReal) :=
    fun x hx => Cert.Reals.lift fun i => Cert.Reals.real_of_olt (by rw [← Cert.Reals.top_f32]; exact hx i)
  obtain ⟨P, hP⟩ := q _ (fun i => congrFun h0 i)
  obtain ⟨Z, hZ⟩ := q _ (fun i => congrFun h1 i)
  exact ⟨P, Z, hP, hZ⟩

theorem algebraic_recall : algebraic_RecallIdeal_RecallRefIdeal_pre_finite_recall (hRecallIdeal := Cert.RecallIdeal.Gen.facts) (hRecallRefIdeal := Cert.RecallRefIdeal.Gen.facts) (hPre_finite_recall := facts_recall) := by
  intro m g m' g' hp hm
  choose P Z H using recall_real m hp
  refine ⟨fun c => Cert.RecallIdeal.Value.attR (P c) (Z c), ?_, ?_⟩
  · refine (θ_run _ _ _).mono (fun r h c => ?_) (Cert.RecallIdeal.Value.run_blocks m g)
    obtain ⟨h2, h⟩ := h c
    exact ⟨h2.trans (Cert.RecallIdeal.Value.arr2 m c (H c)), h⟩
  · refine (θ_run _ _ _).mono (fun r h c => ?_) (Cert.RecallRefIdeal.Value.run m' g')
    obtain ⟨h2, h⟩ := h c
    obtain ⟨e0, e1⟩ := hm c
    have e0 := e0.trans (H c).p
    have e1 := e1.trans (H c).z
    refine ⟨h2.trans ?_, h⟩
    rw [Cert.RecallRefIdeal.Read.val_main_v23_eq, e0, e1]
    funext i
    obtain ⟨r, l, rfl⟩ : ∃ (r : Fin 8192) (l : Fin 256), i = ix2 r l := ⟨i 0, i 1, eq_ix2 i⟩
    exact Cert.RecallRefIdeal.Read.v23_at r l

end Cert.Proof

end
-- ==== Proof.SlotValue.lean ====
/- The memory's keys' and values' projection: the output array holds the product, and the reference's is the same. -/
module

public import proofs.«01_k».proof.Proof.Gen.SlotIdeal.Value
public import proofs.«01_k».proof.Proof.Gen.SlotRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.SlotIdeal.Value

open Cert.SlotIdeal Cert.SlotIdeal.Gen Idealize.ShloMosaic Idealize.ShloMosaic.TcCoe Idealize.SL.Sem
open scoped BigOperators

variable (m : (ℓ : Loc nD τ sig) → Buf (Elt Ideal) ℓ)

/-- The left array, whole at the one grid point. -/
theorem iblk0_apply (c : Dev nD) (n : ℕ) (h : n < cfg0.N) (r : Fin 256) (l : Fin 1024) :
    iblk m c 0 ⟨n, h⟩ (ix2 r l) = m ((c : Thread nD τ).loc main_arg0) (ix2 r l) := by
  have e : ∀ t : Fin cfg0.N, win0_0.index t = ![0, 0] := by decide +kernel
  blk_ext [iblk, V, e]

/-- The block of the stacked weights: the first layer's. -/
theorem iblk1_apply (c : Dev nD) (n : ℕ) (h : n < cfg0.N) (r : Fin 1024) (l : Fin 512) :
    iblk m c 1 ⟨n, h⟩ (ix3 0 r l) = m ((c : Thread nD τ).loc main_arg1) (ix3 0 r l) := by
  have e : ∀ t : Fin cfg0.N, win0_1.index t = ![0, 0, 0] := by decide +kernel
  blk_ext [iblk, V, e]

/-- A block's product. -/
theorem pay1_apply (x : FVec Ideal S256x1024 .bf16) (w : FVec Ideal S1x1024x512 .bf16) (r : Fin 256) (l : Fin 512) :
    k0_pay1 (F := Ideal) x w (ix2 r l) = ∑ k : Fin 1024, x (ix2 r k) * w (ix3 0 k l) := by
  pointwise [k0_pay1]

/-- The product at an index of the array. -/
def prod (x : FVec Ideal S256x1024 .bf16) (w : FVec Ideal S4x1024x512 .bf16) : FVec Ideal S256x512 .f32 := fun i =>
  ∑ k : Fin 1024, x (ix2 (i 0) k) * w (ix3 0 k (i 1))

theorem arr2 (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have e : ∀ t : Fin cfg0.N, win0_2.index t = ![0, 0] := by decide +kernel
  blk_simp
  rw [after0_2]
  frame_out
  obtain ⟨r, l, rfl⟩ : ∃ (r : Fin 256) (l : Fin 512), y = ix2 r l := ⟨y 0, y 1, eq_ix2 y⟩
  have he : (win0_2.blk t).view.emb (ix2 r l) = ix2 r l := by
    refine Shape.idx_ext₂ ?_ ?_ <;> blk_simp <;> rw [e] <;> simp
  rw [he, pay1_apply]
  simp only [iblk0_apply m c t.val t.isLt, iblk1_apply m c t.val t.isLt]
  rfl

end Cert.SlotIdeal.Value

/-! ## The claim -/

namespace Cert.Proof

open Idealize.ShloMosaic Idealize.ShloMosaic.TcCoe Idealize.SL.Sem

theorem algebraic_slot : algebraic_SlotIdeal_SlotRefIdeal (hSlotIdeal := Cert.SlotIdeal.Gen.facts) (hSlotRefIdeal := Cert.SlotRefIdeal.Gen.facts) := by
  intro m g m' g' _ hm
  refine ⟨fun c => Cert.SlotIdeal.Value.prod (m ((c.tc : Thread _ _).loc Cert.SlotIdeal.main_arg0)) (m ((c.tc : Thread _ _).loc Cert.SlotIdeal.main_arg1)), ?_, ?_⟩
  · refine (θ_run _ _ _).mono (fun r h c => ?_) (Cert.SlotIdeal.Value.run_blocks m g)
    obtain ⟨h0, h⟩ := h c
    exact ⟨h0.trans (Cert.SlotIdeal.Value.arr2 m c), h⟩
  · refine (θ_run _ _ _).mono (fun r h c => ?_) (Cert.SlotRefIdeal.Value.run m' g')
    obtain ⟨h0, h⟩ := h c
    obtain ⟨e0, e1⟩ := hm c
    refine ⟨h0.trans ?_, h⟩
    rw [e0, e1]
    funext i
    obtain ⟨r, l, rfl⟩ : ∃ (r : Fin 256) (l : Fin 512), i = ix2 r l := ⟨i 0, i 1, eq_ix2 i⟩
    unfold Cert.SlotIdeal.Value.prod
    pointwise []

end Cert.Proof

end
-- ==== Proof.SlotwValue.lean ====
/- The memory's keys' and values' projection: its weight's gradient, and that the reference's product is the same. -/
module

public import proofs.«01_k».proof.Proof.Gen.SlotwIdeal.Value
public import proofs.«01_k».proof.Proof.Gen.SlotwRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.SlotwIdeal.Value

open Cert.SlotwIdeal Cert.SlotwIdeal.Gen Idealize.ShloMosaic Idealize.ShloMosaic.TcCoe Idealize.SL.Sem
open scoped BigOperators

variable (m : (ℓ : Loc nD τ sig) → Buf (Elt Ideal) ℓ)

/-- The left array, whole at the one grid point. -/
theorem iblk0_apply (c : Dev nD) (n : ℕ) (h : n < cfg0.N) (r : Fin 256) (l : Fin 1024) :
    iblk m c 0 ⟨n, h⟩ (ix2 r l) = m ((c : Thread nD τ).loc main_arg0) (ix2 r l) := by
  have e : ∀ t : Fin cfg0.N, win0_0.index t = ![0, 0] := by decide +kernel
  blk_ext [iblk, V, e]

/-- The cotangent, whole at the one grid point. -/
theorem iblk1_apply (c : Dev nD) (n : ℕ) (h : n < cfg0.N) (r : Fin 256) (l : Fin 512) :
    iblk m c 1 ⟨n, h⟩ (ix2 r l) = m ((c : Thread nD τ).loc main_arg1) (ix2 r l) := by
  have e : ∀ t : Fin cfg0.N, win0_1.index t = ![0, 0] := by decide +kernel
  blk_ext [iblk, V, e]

/-- The product added to what the block holds. -/
theorem pay2_apply (a : FVec Ideal S1024x512 .f32) (x : FVec Ideal S256x1024 .bf16) (y : FVec Ideal S256x512 .f32) (r : Fin 1024) (l : Fin 512) :
    k0_pay2 (F := Ideal) a x y (ix2 r l) = a (ix2 r l) + ∑ k : Fin 256, x (ix2 k r) * y (ix2 k l) := by
  pointwise [k0_pay2]

theorem zero1 (i : S1024x512.Idx) : k0_pay1 (F := Ideal) i = 0 := by pointwise [k0_pay1]

/-- The product at an index of the array. -/
def prod (x : FVec Ideal S256x1024 .bf16) (d : FVec Ideal S256x512 .f32) : FVec Ideal S1024x512 .f32 := fun i =>
  ∑ k : Fin 256, x (ix2 k (i 0)) * d (ix2 k (i 1))

theorem arr2 (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have e : ∀ t : Fin cfg0.N, win0_2.index t = ![0, 0] := by decide +kernel
  blk_simp
  rw [after0_2]
  unfold outsAt0
  frame_out
  obtain ⟨r, l, rfl⟩ : ∃ (r : Fin 1024) (l : Fin 512), y = ix2 r l := ⟨y 0, y 1, eq_ix2 y⟩
  have he : (win0_2.blk t).view.emb (ix2 r l) = ix2 r l := by
    refine Shape.idx_ext₂ ?_ ?_ <;> blk_simp <;> rw [e] <;> simp
  rw [he, pay2_apply, zero1, zero_add]
  simp only [iblk0_apply m c t.val t.isLt, iblk1_apply m c t.val t.isLt]
  rfl

end Cert.SlotwIdeal.Value

/-! ## The claim -/

namespace Cert.Proof

open Idealize.ShloMosaic Idealize.ShloMosaic.TcCoe Idealize.SL.Sem

theorem algebraic_slotw : algebraic_SlotwIdeal_SlotwRefIdeal (hSlotwIdeal := Cert.SlotwIdeal.Gen.facts) (hSlotwRefIdeal := Cert.SlotwRefIdeal.Gen.facts) := by
  intro m g m' g' _ hm
  refine ⟨fun c => Cert.SlotwIdeal.Value.prod (m ((c.tc : Thread _ _).loc Cert.SlotwIdeal.main_arg0)) (m ((c.tc : Thread _ _).loc Cert.SlotwIdeal.main_arg1)), ?_, ?_⟩
  · refine (θ_run _ _ _).mono (fun r h c => ?_) (Cert.SlotwIdeal.Value.run_blocks m g)
    obtain ⟨h0, h⟩ := h c
    exact ⟨h0.trans (Cert.SlotwIdeal.Value.arr2 m c), h⟩
  · refine (θ_run _ _ _).mono (fun r h c => ?_) (Cert.SlotwRefIdeal.Value.run m' g')
    obtain ⟨h0, h⟩ := h c
    obtain ⟨e0, e1⟩ := hm c
    refine ⟨h0.trans ?_, h⟩
    rw [e0, e1]
    funext i
    obtain ⟨r, l, rfl⟩ : ∃ (r : Fin 1024) (l : Fin 512), i = ix2 r l := ⟨i 0, i 1, eq_ix2 i⟩
    unfold Cert.SlotwIdeal.Value.prod
    pointwise []
    exact Finset.sum_congr rfl fun k _ => mul_comm _ _

end Cert.Proof

end
-- ==== Proof.SlotbValue.lean ====
/- The memory's keys' and values' projection backward: the product added to the gradient so far, and that the reference's sum
   is the same. -/
module

public import proofs.«01_k».proof.Proof.Gen.SlotbIdeal.Value
public import proofs.«01_k».proof.Proof.Gen.SlotbRefIdeal.Run
public import proofs.«01_k».proof.Defs
public import proofs.«01_k».proof.Proof.Reals
public import Idealize.ShloMosaic.Lib.Pointwise
public import Idealize.ShloMosaic.Lib.Claim
public import Idealize.ShloMosaic.Lib.Pipeline.ValueKit

@[expose] public section

set_option maxRecDepth 16384

noncomputable section

namespace Cert.SlotbIdeal.Value

open Cert.SlotbIdeal Cert.SlotbIdeal.Gen Idealize.ShloMosaic Idealize.ShloMosaic.TcCoe Idealize.SL.Sem
open scoped BigOperators

variable (m : (ℓ : Loc nD τ sig) → Buf (Elt Ideal) ℓ)

/-- The cotangent, whole at the one grid point. -/
theorem iblk0_apply (c : Dev nD) (n : ℕ) (h : n < cfg0.N) (r : Fin 256) (l : Fin 512) :
    iblk m c 0 ⟨n, h⟩ (ix2 r l) = m ((c : Thread nD τ).loc main_arg0) (ix2 r l) := by
  have e : ∀ t : Fin cfg0.N, win0_0.index t = ![0, 0] := by decide +kernel
  blk_ext [iblk, V, e]

/-- The block of the stacked weights: the first layer's. -/
theorem iblk1_apply (c : Dev nD) (n : ℕ) (h : n < cfg0.N) (r : Fin 1024) (l : Fin 512) :
    iblk m c 1 ⟨n, h⟩ (ix3 0 r l) = m ((c : Thread nD τ).loc main_arg1) (ix3 0 r l) := by
  have e : ∀ t : Fin cfg0.N, win0_1.index t = ![0, 0, 0] := by decide +kernel
  blk_ext [iblk, V, e]

/-- The gradient so far, whole at the one grid point. -/
theorem iblk2_apply (c : Dev nD) (n : ℕ) (h : n < cfg0.N) (r : Fin 256) (l : Fin 1024) :
    iblk m c 2 ⟨n, h⟩ (ix2 r l) = m ((c : Thread nD τ).loc main_arg2) (ix2 r l) := by
  have e : ∀ t : Fin cfg0.N, win0_2.index t = ![0, 0] := by decide +kernel
  blk_ext [iblk, V, e]

/-- A block's product and the gradient so far. -/
theorem pay1_apply (x : FVec Ideal S256x512 .f32) (w : FVec Ideal S1x1024x512 .bf16) (b : FVec Ideal S256x1024 .f32) (r : Fin 256) (l : Fin 1024) :
    k0_pay1 (F := Ideal) x w b (ix2 r l) = (∑ k : Fin 512, x (ix2 r k) * w (ix3 0 l k)) + b (ix2 r l) := by
  pointwise [k0_pay1]

/-- The sum at an index of the array. -/
def prod (x : FVec Ideal S256x512 .f32) (w : FVec Ideal S4x1024x512 .bf16) (b : FVec Ideal S256x1024 .f32) : FVec Ideal S256x1024 .f32 := fun i =>
  (∑ k : Fin 512, x (ix2 (i 0) k) * w (ix3 0 (i 1) k)) + b (ix2 (i 0) (i 1))

theorem arr3 (c : Dev nD) : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  have e : ∀ t : Fin cfg0.N, win0_3.index t = ![0, 0] := by decide +kernel
  blk_simp
  rw [after0_3]
  frame_out
  obtain ⟨r, l, rfl⟩ : ∃ (r : Fin 256) (l : Fin 1024), y = ix2 r l := ⟨y 0, y 1, eq_ix2 y⟩
  have he : (win0_3.blk t).view.emb (ix2 r l) = ix2 r l := by
    refine Shape.idx_ext₂ ?_ ?_ <;> blk_simp <;> rw [e] <;> simp
  rw [he, pay1_apply]
  simp only [iblk0_apply m c t.val t.isLt, iblk1_apply m c t.val t.isLt, iblk2_apply m c t.val t.isLt]
  rfl

end Cert.SlotbIdeal.Value

/-! ## The claim -/

namespace Cert.Proof

open Idealize.ShloMosaic Idealize.ShloMosaic.TcCoe Idealize.SL.Sem

theorem algebraic_slotb : algebraic_SlotbIdeal_SlotbRefIdeal (hSlotbIdeal := Cert.SlotbIdeal.Gen.facts) (hSlotbRefIdeal := Cert.SlotbRefIdeal.Gen.facts) := by
  intro m g m' g' _ hm
  refine ⟨fun c => Cert.SlotbIdeal.Value.prod (m ((c.tc : Thread _ _).loc Cert.SlotbIdeal.main_arg0)) (m ((c.tc : Thread _ _).loc Cert.SlotbIdeal.main_arg1)) (m ((c.tc : Thread _ _).loc Cert.SlotbIdeal.main_arg2)), ?_, ?_⟩
  · refine (θ_run _ _ _).mono (fun r h c => ?_) (Cert.SlotbIdeal.Value.run_blocks m g)
    obtain ⟨h0, h⟩ := h c
    exact ⟨h0.trans (Cert.SlotbIdeal.Value.arr3 m c), h⟩
  · refine (θ_run _ _ _).mono (fun r h c => ?_) (Cert.SlotbRefIdeal.Value.run m' g')
    obtain ⟨h0, h⟩ := h c
    obtain ⟨e0, e1, e2⟩ := hm c
    refine ⟨h0.trans ?_, h⟩
    rw [e0, e1, e2]
    funext i
    obtain ⟨r, l, rfl⟩ : ∃ (r : Fin 256) (l : Fin 1024), i = ix2 r l := ⟨i 0, i 1, eq_ix2 i⟩
    unfold Cert.SlotbIdeal.Value.prod
    pointwise []
    exact add_comm _ _

end Cert.Proof

end
-- ==== Proof.GatedValue.lean ====
/- The gated mixing's forward call: the output array as arithmetic of the arguments' entries, and the reference's, the same. No precondition. -/
module

public import proofs.«01_k».proof.Proof.Gen.GatedIdeal.Value
public import proofs.«01_k».proof.Proof.Gen.GatedRefIdeal.Run
public import proofs.«01_k».proof.Proof.Gen.GatedRefIdeal.Read
public import proofs.«01_k».proof.Defs
public import proofs.«01_k».proof.Proof.Reals
public import Idealize.ShloMosaic.Lib.Pointwise
public import Idealize.ShloMosaic.Lib.Claim
public import Idealize.ShloMosaic.Lib.Pipeline.ValueKit
public import Idealize.ShloMosaic.Lib.Pipeline.ReadBack
public import Idealize.ShloMosaic.Lib.KernelVsHost

@[expose] public section

set_option maxRecDepth 16384

noncomputable section

namespace Cert.GatedIdeal.Value

open Cert.GatedIdeal Cert.GatedIdeal.Gen Idealize.ShloMosaic Idealize.ShloMosaic.TcCoe Idealize.SL.Sem
open scoped BigOperators

variable (m : (ℓ : Loc nD τ sig) → Buf (Elt Ideal) ℓ)

/-! ## One window of one group, as vectors -/

/-- The activation. -/
def gelV {S : Shape} (x : FVec Ideal S .f32) : FVec Ideal S .f32 :=
  mulf (mulf (broadcast S (Scalar.ofBits (F := Ideal) .f32 0x3F000000#32)) x) (addf (broadcast S (Scalar.ofBits (F := Ideal) .f32 0x3F800000#32))
    (tanh (mulf (broadcast S (Scalar.ofBits (F := Ideal) .f32 0x3F4C422A#32)) (addf x (mulf (broadcast S (Scalar.ofBits (F := Ideal) .f32 0x3D372713#32)) (mulf (mulf x x) x))))))

/-- The places a row of the mixing weights may read: those of its own half and of the half before. -/
def maskV : IVec S128x128 1 := k0_pay7 k0_pay3 k0_pay4 k0_pay5 k0_pay6

theorem inbU (g : Fin 6) (w : Fin 4) : ∀ a, (![128 * w.val, 128 * g.val] : Fin 2 → Nat) a + S128x128.size a ≤ S512x1536.size a := by revert g w; decide
theorem inbD (g : Fin 6) (w : Fin 4) : ∀ a, (![128 * w.val, 128 * g.val] : Fin 2 → Nat) a + S128x128.size a ≤ S512x768.size a := by revert g w; decide
theorem inbW (g : Fin 6) : ∀ a, (![g.val, 0, 0] : Fin 3 → Nat) a + S1x128x128.size a ≤ S6x128x128.size a := by revert g; decide
theorem slcD (g : Fin 6) (w : Fin 4) : S512x768.Slices ![128 * w.val, 128 * g.val] S128x128 := by revert g w; decide

/-- A window of a group of the projection's first half. -/
abbrev blkU (P : FVec Ideal S512x1536 .f32) (g : Fin 6) (w : Fin 4) : FVec Ideal S128x128 .f32 := View.ld (Val := Elt Ideal) (e' := .f32) P (Rect.unit ![128 * w.val, 128 * g.val] ![128, 128] (inbU g w))
/-- A group of a stack of six. -/
abbrev blkW (W : FVec Ideal S6x128x128 .f32) (g : Fin 6) : FVec Ideal S1x128x128 .f32 := View.ld (Val := Elt Ideal) (e' := .f32) W (Rect.unit ![g.val, 0, 0] ![1, 128, 128] (inbW g))
/-- The projection's second half. -/
abbrev half2 (P : FVec Ideal S512x1536 .f32) : FVec Ideal S512x768 .f32 := View.ld (Val := Elt Ideal) (e' := .f32) P (Rect.unit ![0, 768] ![512, 768] inb_S512x1536_S512x768_0_768)

/-- A group's mixing weights, zero off the mask. -/
def wmV (W : FVec Ideal S6x128x128 .f32) (g : Fin 6) : FVec Ideal S128x128 .bf16 :=
  truncf .bf16 (select maskV (shapeCast S128x128 (blkW W g) shapeCasts_S1x128x128_S128x128) (broadcast S128x128 (Scalar.ofBits (F := Ideal) .f32 0x00000000#32))) bitsLt_bf16_f32
/-- A window of a group of the normed second half. -/
def vnV (vn : FVec Ideal S512x768 .bf16) (g : Fin 6) (w : Fin 4) : FVec Ideal S128x128 .bf16 := extractStridedSlice S128x128 ![128 * w.val, 128 * g.val] vn (slcD g w)

/-- A window's mixed values. -/
def mixV (W B : FVec Ideal S6x128x128 .f32) (vn : FVec Ideal S512x768 .bf16) (g : Fin 6) (w : Fin 4) : FVec Ideal S128x128 .f32 :=
  addf (matmul dot_S128x128_S128x128_S128x128_1_0_0_1_n_n none (wmV W g) (vnV vn g w) (constant S128x128 .f32 0x00000000#32)) (shapeCast S128x128 (blkW B g) shapeCasts_S1x128x128_S128x128)

/-- A window's output. -/
def outV (P : FVec Ideal S512x1536 .f32) (W B : FVec Ideal S6x128x128 .f32) (vn : FVec Ideal S512x768 .bf16) (g : Fin 6) (w : Fin 4) : FVec Ideal S128x128 .bf16 :=
  truncf .bf16 (mulf (gelV (blkU P g w)) (mixV W B vn g w)) bitsLt_bf16_f32

/-- The windows of the groups, the last first. -/
def order : List (Fin 6 × Fin 4) := [(5, 3), (5, 2), (5, 1), (5, 0), (4, 3), (4, 2), (4, 1), (4, 0), (3, 3), (3, 2), (3, 1), (3, 0), (2, 3), (2, 2), (2, 1), (2, 0), (1, 3), (1, 2), (1, 1), (1, 0), (0, 3), (0, 2), (0, 1), (0, 0)]

/-- The windows' outputs, in their places. -/
def outL (P : FVec Ideal S512x1536 .f32) (W B : FVec Ideal S6x128x128 .f32) (vn : FVec Ideal S512x768 .bf16) : List (View.Piece (Elt Ideal) S512x768 .bf16) :=
  order.map fun x => ⟨Rect.unit ![128 * x.2.val, 128 * x.1.val] ![128, 128] (inbD x.1 x.2), outV P W B vn x.1 x.2⟩

theorem outs4 (c : Dev nD) (t : Fin cfg0.N) :
    outsAt0 m c t = View.canon (outL (X0_0 m c t) (iblk m c 2 t) (iblk m c 3 t) (k0_pay8 (F := Ideal) (half2 (X0_0 m c t)) (iblk m c 1 t))) := by
  unfold outsAt0
  frame_out
  rfl

/-! ## The entries

Rows in windows of 128, lanes in groups of 128: a lane's values in one window are mixed by the group's weights. -/

/-- The activation of a number. -/
def gelu (x : EReal) : EReal :=
  Ideal.ofBits .f32 0x3F000000#32 * x * (1 + Ideal.tanh (Ideal.ofBits .f32 0x3F4C422A#32 * (x + Ideal.ofBits .f32 0x3D372713#32 * (x * x * x))))

/-- A lane's group. -/
def grp (l : Fin 768) : Fin 6 := ⟨l.val / 128, by omega⟩
/-- A lane's place in its group. -/
def lan (l : Fin 768) : Fin 128 := ⟨l.val % 128, by omega⟩
/-- A row's place in its window. -/
def pos (r : Fin 8192) : Fin 128 := ⟨r.val % 128, by omega⟩
/-- A row's window. -/
def wnd (r : Fin 8192) : Fin 64 := ⟨r.val / 128, by omega⟩
/-- A place of a window as a row. -/
def at_ (n : Fin 64) (s : Fin 128) : Fin 8192 := ⟨n.val * 128 + s.val, by omega⟩
/-- A place of a group as a lane. -/
def cl (g : Fin 6) (b : Fin 128) : Fin 768 := ⟨128 * g.val + b.val, by omega⟩
/-- A place of one of a grid point's windows as one of its rows. -/
def rw' (w : Fin 4) (a : Fin 128) : Fin 512 := ⟨128 * w.val + a.val, by omega⟩
/-- A grid point's row as a row of the array. -/
def row (n : ℕ) (r : Fin 512) : Fin 8192 := ⟨n % 16 * 512 + r.val, by omega⟩
/-- One of a grid point's windows. -/
def win (n : ℕ) (w : Fin 4) : Fin 64 := ⟨n % 16 * 4 + w.val, by omega⟩

theorem grp_cl (g : Fin 6) (b : Fin 128) : grp (cl g b) = g := by apply Fin.ext; simp only [grp, cl]; omega
theorem cl_grp (l : Fin 768) : cl (grp l) (lan l) = l := by apply Fin.ext; simp only [grp, cl, lan]; omega
theorem row_rw (n : ℕ) (w : Fin 4) (a : Fin 128) : row n (rw' w a) = at_ (win n w) a := by apply Fin.ext; simp only [row, rw', at_, win]; omega
theorem wnd_at (n : Fin 64) (a : Fin 128) : wnd (at_ n a) = n := by apply Fin.ext; simp only [wnd, at_]; omega
theorem pos_at (n : Fin 64) (a : Fin 128) : pos (at_ n a) = a := by apply Fin.ext; simp only [pos, at_]; omega

section Entries

variable (P : FVec Ideal S8192x1792 .f32) (A : FVec Ideal S768 .f32) (W : FVec Ideal S6x128x128 .f32) (B : FVec Ideal S6x128 .f32)

/-- The projection's first half. -/
def pu (r : Fin 8192) (l : Fin 768) : EReal := P (ix2 r ⟨l.val, by omega⟩)
/-- The projection's second half. -/
def pv (r : Fin 8192) (l : Fin 768) : EReal := P (ix2 r ⟨768 + l.val, by omega⟩)
/-- A row's factor. -/
def rsE (r : Fin 8192) : EReal :=
  Ideal.rsqrt (Ideal.div (∑ l : Fin 768, gelu (pv P r l) * gelu (pv P r l)) (Ideal.ofBits .f32 0x44400000#32) + Ideal.ofBits .f32 0x358637BD#32)
/-- The second half, normed, with the gain. -/
def vnE (r : Fin 8192) (l : Fin 768) : EReal := gelu (pv P r l) * rsE P r * A (ix1 l)
/-- The mixing weights, zero off the mask. -/
def wmE (g : Fin 6) (t s : Fin 128) : EReal := if s.val / 64 ≤ t.val / 64 then W (ix3 g t s) else Ideal.ofBits .f32 0x00000000#32
/-- The mixed values. -/
def mixE (r : Fin 8192) (l : Fin 768) : EReal := (∑ s : Fin 128, wmE W (grp l) (pos r) s * vnE P A (at_ (wnd r) s) l) + B (ix2 (grp l) (pos r))
/-- The output. -/
def outE (r : Fin 8192) (l : Fin 768) : EReal := gelu (pu P r l) * mixE P A W B r l
/-- The output array. -/
def outA : FVec Ideal S8192x768 .bf16 := fun i => outE P A W B (i 0) (i 1)

end Entries

/-! ## One grid point's blocks -/

theorem gelV_apply {S : Shape} (x : FVec Ideal S .f32) (i : S.Idx) : gelV x i = gelu (x i) := by
  show Ideal.ofBits .f32 0x3F000000#32 * x i * (Ideal.ofBits .f32 0x3F800000#32 + Ideal.tanh (Ideal.ofBits .f32 0x3F4C422A#32 * (x i + Ideal.ofBits .f32 0x3D372713#32 * (x i * x i * x i)))) = _
  rw [Reals.one_f32, EReal.coe_one]
  rfl

/-- A load's index along an axis. -/
theorem unit_idx {S : Shape} (off size : Fin S.rank → ℕ) (inb : ∀ a, off a + size a ≤ S.size a) (j : (Rect.unit off size inb).shape.Idx) (a : Fin S.rank) :
    ((Rect.unit off size inb).idx j a).val = off a + (j a).val := by
  show ((Rect.unit off size inb).emb j a).val = _
  rw [Rect.emb_apply]
  simp [Rect.unit]

theorem blkU_apply (X : FVec Ideal S512x1536 .f32) (g : Fin 6) (w : Fin 4) (a b : Fin 128) : blkU X g w (ix2 a b) = X (ix2 (rw' w a) ⟨(cl g b).val, by omega⟩) :=
  congrArg X (Shape.idx_ext₂ (by rw [unit_idx]; rfl) (by rw [unit_idx]; rfl))

theorem half2_apply (X : FVec Ideal S512x1536 .f32) (r : Fin 512) (l : Fin 768) : half2 X (ix2 r l) = X (ix2 r ⟨768 + l.val, by omega⟩) :=
  congrArg X (Shape.idx_ext₂ (by rw [unit_idx]; simp) (by rw [unit_idx]; simp))

theorem blkW_apply (X : FVec Ideal S6x128x128 .f32) (g : Fin 6) (t s : Fin 128) : blkW X g (ix3 0 t s) = X (ix3 g t s) := by
  refine congrArg X (funext fun a => Fin.ext ?_)
  fin_cases a <;> (rw [unit_idx]; simp)

theorem maskV_apply : ∀ t s : Fin 128, maskV (ix2 t s) = if s.val / 64 ≤ t.val / 64 then 1#1 else 0#1 := by
  intro t s
  pointwise [maskV, k0_pay3, k0_pay4, k0_pay5, k0_pay6, k0_pay7]
  revert t s
  decide +kernel

theorem vnV_apply (vn : FVec Ideal S512x768 .bf16) (g : Fin 6) (w : Fin 4) (a b : Fin 128) : vnV vn g w (ix2 a b) = vn (ix2 (rw' w a) (cl g b)) :=
  congrArg vn (Shape.idx_ext₂ rfl rfl)

theorem mem_order : ∀ (g : Fin 6) (w : Fin 4), (g, w) ∈ order := by decide

/-- One grid point's blocks are parts of the arrays. -/
structure Blk (P : FVec Ideal S8192x1792 .f32) (A : FVec Ideal S768 .f32) (W : FVec Ideal S6x128x128 .f32) (B : FVec Ideal S6x128 .f32) (n : ℕ)
    (X : FVec Ideal S512x1536 .f32) (G : FVec Ideal S1x768 .f32) (Wv Bv : FVec Ideal S6x128x128 .f32) : Prop where
  x : ∀ (r : Fin 512) (l : Fin 1536), X (ix2 r l) = P (ix2 (row n r) ⟨l.val, by omega⟩)
  g : ∀ l : Fin 768, G (ix2 0 l) = A (ix1 l)
  w : ∀ (g : Fin 6) (t s : Fin 128), Wv (ix3 g t s) = W (ix3 g t s)
  b : ∀ (g : Fin 6) (t s : Fin 128), Bv (ix3 g t s) = B (ix2 g t)

section Block

variable {P : FVec Ideal S8192x1792 .f32} {A : FVec Ideal S768 .f32} {W : FVec Ideal S6x128x128 .f32} {B : FVec Ideal S6x128 .f32} {n : ℕ}
variable {X : FVec Ideal S512x1536 .f32} {G : FVec Ideal S1x768 .f32} {Wv Bv : FVec Ideal S6x128x128 .f32}
variable (H : Blk P A W B n X G Wv Bv)

include H

theorem vn_apply (r : Fin 512) (l : Fin 768) : k0_pay8 (F := Ideal) (half2 X) G (ix2 r l) = vnE P A (row n r) l := by
  have hx : ∀ l, half2 X (ix2 r l) = pv P (row n r) l := fun l => by
    rw [half2_apply, H.x]
    rfl
  generalize half2 X = v at hx ⊢
  pointwise [k0_pay8]
  simp only [hx, H.g]
  rfl

theorem wmV_apply (g : Fin 6) (t s : Fin 128) : wmV Wv g (ix2 t s) = wmE W g t s := by
  have hm := maskV_apply t s
  have hw := (blkW_apply Wv g t s).trans (H.w g t s)
  unfold wmV wmE
  generalize maskV = M at hm ⊢
  generalize blkW Wv g = w at hw ⊢
  pointwise []
  rw [hm, hw]
  split_ifs
  · exact Scalar.select_of_eq_one rfl _ _
  · exact Scalar.select_of_eq_zero rfl _ _

theorem mixV_apply (g : Fin 6) (w : Fin 4) (a b : Fin 128) :
    mixV Wv Bv (k0_pay8 (F := Ideal) (half2 X) G) g w (ix2 a b) = mixE P A W B (row n (rw' w a)) (cl g b) := by
  have hm := wmV_apply H g a
  have hv : ∀ s, vnV (k0_pay8 (F := Ideal) (half2 X) G) g w (ix2 s b) = vnE P A (row n (rw' w s)) (cl g b) := fun s => (vnV_apply _ g w s b).trans (vn_apply H _ _)
  have hb := (blkW_apply Bv g a b).trans (H.b g a b)
  unfold mixV
  generalize wmV Wv g = M at hm ⊢
  generalize vnV (k0_pay8 (F := Ideal) (half2 X) G) g w = v at hv ⊢
  generalize blkW Bv g = B' at hb ⊢
  pointwise []
  simp only [hm, hv, hb]
  simp only [mixE, row_rw, wnd_at, pos_at, grp_cl]

theorem outV_apply (g : Fin 6) (w : Fin 4) (a b : Fin 128) :
    outV X Wv Bv (k0_pay8 (F := Ideal) (half2 X) G) g w (ix2 a b) = outE P A W B (row n (rw' w a)) (cl g b) := by
  show gelV (blkU X g w) (ix2 a b) * mixV Wv Bv (k0_pay8 (F := Ideal) (half2 X) G) g w (ix2 a b) = _
  rw [gelV_apply, blkU_apply, mixV_apply H, H.x]
  rfl

theorem out_apply (r : Fin 512) (l : Fin 768) :
    View.canon (outL X Wv Bv (k0_pay8 (F := Ideal) (half2 X) G)) (ix2 r l) = outE P A W B (row n r) l := by
  refine View.canon_apply_of_pieces (Val := Elt Ideal) (e := .bf16) (fun i : S512x768.Idx => outE P A W B (row n (i 0)) (i 1)) _ ?_ (ix2 r l) ?_
  · intro p hp
    obtain ⟨x, _, rfl⟩ := List.mem_map.mp hp
    intro j
    obtain ⟨a, b, rfl⟩ : ∃ (a b : Fin 128), j = ix2 a b := ⟨j 0, j 1, eq_ix2 j⟩
    refine (outV_apply H x.1 x.2 a b).trans ?_
    rw [show (Rect.unit ![128 * x.2.val, 128 * x.1.val] ![128, 128] (inbD x.1 x.2)).emb (ix2 a b) = ix2 (rw' x.2 a) (cl x.1 b) from
      Shape.idx_ext₂ (unit_idx _ _ (inbD x.1 x.2) _ 0) (unit_idx _ _ (inbD x.1 x.2) _ 1)]
    rfl
  · refine ⟨_, List.mem_map.mpr ⟨(grp l, ⟨r.val / 128, by omega⟩), mem_order _ _, rfl⟩, ?_⟩
    refine (Rect.mem_set_unit (inb := inbD (grp l) ⟨r.val / 128, by omega⟩)).mpr fun a => ?_
    fin_cases a
    · show 128 * (r.val / 128) ≤ r.val ∧ r.val < 128 * (r.val / 128) + 128
      omega
    · show 128 * (l.val / 128) ≤ l.val ∧ l.val < 128 * (l.val / 128) + 128
      omega

end Block

/-! ## The arrays -/

theorem X0_apply (c : Dev nD) (n : ℕ) (h : n < cfg0.N) (r : Fin 512) (l : Fin 1536) :
    X0_0 m c ⟨n, h⟩ (ix2 r l) = m ((c : Thread nD τ).loc main_arg0) (ix2 (row n r) ⟨l.val, by omega⟩) := by
  have e : ∀ t : Fin cfg0.N, win0_0.index t = ![t.val % 16, 0] := by decide +kernel
  unfold X0_0 Pipeline.Window.fill row
  rw [dif_pos (moved0_0 _ _)]
  blk_ext [iblk, V, e]

theorem iblk1_apply (c : Dev nD) (n : ℕ) (h : n < cfg0.N) (l : Fin 768) :
    iblk m c 1 ⟨n, h⟩ (ix2 0 l) = m ((c : Thread nD τ).loc main_arg1) (ix1 l) := by
  have e : ∀ t : Fin cfg0.N, win0_1.index t = ![0, 0] := by decide +kernel
  have q : V m c main_v2 (ix2 0 l) = m ((c : Thread nD τ).loc main_arg1) (ix1 l) := by
    rw [show V m c main_v2 = shapeCast (α := EReal) S1x768 (m ((c : Thread nD τ).loc main_arg1)) shapeCasts_S768_S1x768 by entry_read; rfl]
    pointwise []
  rw [← q]
  generalize hV : V m c main_v2 = v
  unfold iblk
  rw [show V m c (Pipeline.arrRef spec0 1) = v from hV]
  blk_ext [e]

theorem iblk2_apply (c : Dev nD) (n : ℕ) (h : n < cfg0.N) (g : Fin 6) (t s : Fin 128) :
    iblk m c 2 ⟨n, h⟩ (ix3 g t s) = m ((c : Thread nD τ).loc main_arg2) (ix3 g t s) := by
  have e : ∀ t : Fin cfg0.N, win0_2.index t = ![0, 0, 0] := by decide +kernel
  blk_ext [iblk, V, e]

theorem iblk3_apply (c : Dev nD) (n : ℕ) (h : n < cfg0.N) (g : Fin 6) (t s : Fin 128) :
    iblk m c 3 ⟨n, h⟩ (ix3 g t s) = m ((c : Thread nD τ).loc main_arg3) (ix2 g t) := by
  have e : ∀ t : Fin cfg0.N, win0_3.index t = ![0, 0, 0] := by decide +kernel
  have q : V m c main_v1 (ix3 g t s) = m ((c : Thread nD τ).loc main_arg3) (ix2 g t) := by
    rw [show V m c main_v1 = broadcastInDim (α := EReal) S6x128x128 ![0, 1, 2] bcast_S6x128x1_S6x128x128_0_1_2 (broadcastInDim (α := EReal) S6x128x1 ![0, 1] bcast_S6x128_S6x128x1_0_1 (m ((c : Thread nD τ).loc main_arg3))) by entry_read; rfl]
    pointwise []
  rw [← q]
  generalize hV : V m c main_v1 = v
  unfold iblk
  rw [show V m c (Pipeline.arrRef spec0 3) = v from hV]
  blk_ext [e]

theorem blk (c : Dev nD) (n : ℕ) (h : n < cfg0.N) :
    Blk (m ((c : Thread nD τ).loc main_arg0)) (m ((c : Thread nD τ).loc main_arg1)) (m ((c : Thread nD τ).loc main_arg2)) (m ((c : Thread nD τ).loc main_arg3)) n
      (X0_0 m c ⟨n, h⟩) (iblk m c 1 ⟨n, h⟩) (iblk m c 2 ⟨n, h⟩) (iblk m c 3 ⟨n, h⟩) where
  x r l := X0_apply m c n h r l
  g l := iblk1_apply m c n h l
  w g t s := iblk2_apply m c n h g t s
  b g t s := iblk3_apply m c n h g t s

theorem arr4 (c : Dev nD) : (dats m 0 c).arrAt 4 cfg0.N
    = outA (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have e : ∀ t : Fin cfg0.N, win0_4.index t = ![t.val % 16, 0] := by decide +kernel
  blk_simp
  rw [after0_4, outs4]
  obtain ⟨r, l, rfl⟩ : ∃ (r : Fin 512) (l : Fin 768), y = ix2 r l := ⟨y 0, y 1, eq_ix2 y⟩
  have he : (win0_4.blk t).view.emb (ix2 r l) = ix2 (row t.val r) l := by
    unfold row
    refine Shape.idx_ext₂ ?_ ?_ <;> blk_simp <;> rw [e] <;> simp
  rw [he]
  exact out_apply (blk m c t.val t.isLt) r l

end Cert.GatedIdeal.Value

/-! ## The reference -/

namespace Cert.GatedRefIdeal.Read

open Cert.GatedRefIdeal Cert.GatedRefIdeal.Gen Idealize.ShloMosaic Idealize.ShloMosaic.TcCoe Idealize.SL.Sem
open Cert.GatedIdeal.Value (gelu grp lan pos wnd at_ cl cl_grp pu pv rsE vnE wmE mixE outE outA)
open scoped BigOperators

variable (P : FVec Ideal S8192x1792 .f32) (A : FVec Ideal S768 .f32) (W : FVec Ideal S6x128x128 .f32) (B : FVec Ideal S6x128 .f32)

theorem v13_at (r : Fin 8192) (l : Fin 1536) : val_main_v13 (F := Ideal) P (ix2 r l) = gelu (P (ix2 r ⟨l.val, by omega⟩)) := by
  have e : val_main_v0 (F := Ideal) P (ix2 r l) = P (ix2 r ⟨l.val, by omega⟩) := by
    rw [val_main_v0_apply]
    exact congrArg P (Shape.idx_ext₂ rfl rfl)
  unfold val_main_v13 val_main_v12 val_main_v11 val_main_v10 val_main_v9 val_main_v8 val_main_v7 val_main_v6 val_main_v5 val_main_v4 val_main_v3 val_main_v2 val_main_v1 val_main_cst val_main_cst_0 val_main_cst_1 val_main_cst_2
  generalize val_main_v0 (F := Ideal) P = v at e ⊢
  pointwise []
  rw [e]
  generalize P (ix2 r ⟨l.val, _⟩) = x
  unfold gelu
  rw [← mul_assoc x, mul_comm x]

theorem v14_at (r : Fin 8192) (l : Fin 768) : val_main_v14 (F := Ideal) P (ix2 r l) = gelu (pu P r l) := by
  rw [val_main_v14_apply, show idx_main_v14 (ix2 r l) = ix2 r (⟨l.val, by omega⟩ : Fin 1536) from Shape.idx_ext₂ rfl rfl, v13_at]
  rfl

theorem v15_at (r : Fin 8192) (l : Fin 768) : val_main_v15 (F := Ideal) P (ix2 r l) = gelu (pv P r l) := by
  rw [val_main_v15_apply, show idx_main_v15 (ix2 r l) = ix2 r (⟨768 + l.val, by omega⟩ : Fin 1536) from Shape.idx_ext₂ rfl rfl, v13_at]
  rfl

theorem v23_at (r : Fin 8192) : val_main_v23 (F := Ideal) P (ix2 r 0) = rsE P r := by
  have e := fun l => v15_at P r l
  unfold val_main_v23 val_main_v22 val_main_v21 val_main_v20 val_main_v19 val_main_v18 val_main_v17 val_main_v16 val_main_cst_3 val_main_cst_4 val_main_cst_5
  generalize val_main_v15 (F := Ideal) P = v at e ⊢
  pointwise []
  simp only [e]
  rfl

theorem v28_at (r : Fin 8192) (l : Fin 768) : val_main_v28 (F := Ideal) P A (ix2 r l) = vnE P A r l := by
  have e := v15_at P r l
  have f := v23_at P r
  unfold val_main_v28 val_main_v27 val_main_v26 val_main_v25 val_main_v24
  generalize val_main_v15 (F := Ideal) P = v at e ⊢
  generalize val_main_v23 (F := Ideal) P = w at f ⊢
  pointwise []
  rw [e, f]
  rfl

theorem v29_at (n : Fin 64) (s : Fin 128) (g : Fin 6) (b : Fin 128) : val_main_v29 (F := Ideal) P A (ix4 n s g b) = vnE P A (at_ n s) (cl g b) := by
  rw [val_main_v29_apply, show idx_main_v29 (ix4 n s g b) = ix2 (at_ n s) (cl g b) from Shape.idx_ext₂ (by show (((n.val * 128 + s.val) * 6 + g.val) * 128 + b.val) / 768 = n.val * 128 + s.val; omega) (by show (((n.val * 128 + s.val) * 6 + g.val) * 128 + b.val) % 768 = 128 * g.val + b.val; omega), v28_at]

theorem v32_at : ∀ s : Fin 128, val_main_v32 (F := Ideal) (ix2 0 s) = BitVec.ofNat 32 (s.val / 64) := by
  intro s
  pointwise [val_main_v32, val_main_call0_v13, val_main_call0_v12, val_main_call0_c_0, val_main_call0_v11, val_main_call0_v10, val_main_call0_v9, val_main_call0_c, val_main_call0_v8, val_main_call0_v7, val_main_call0_v6, val_main_call0_v5, val_main_call0_v4, val_main_call0_v3, val_main_call0_v2, val_main_call0_v1, val_main_call0_v0, val_main_c, val_main_v31, val_main_v30]
  revert s
  decide +kernel

theorem v34_at : ∀ s : Fin 128, val_main_v34 (F := Ideal) (ix2 s 0) = BitVec.ofNat 32 (s.val / 64) := by
  intro s
  pointwise [val_main_v34, val_main_call1_v13, val_main_call1_v12, val_main_call1_c_0, val_main_call1_v11, val_main_call1_v10, val_main_call1_v9, val_main_call1_c, val_main_call1_v8, val_main_call1_v7, val_main_call1_v6, val_main_call1_v5, val_main_call1_v4, val_main_call1_v3, val_main_call1_v2, val_main_call1_v1, val_main_call1_v0, val_main_c_6, val_main_v33, val_main_v30]
  revert s
  decide +kernel

theorem v37_at (t s : Fin 128) : val_main_v37 (F := Ideal) (ix2 t s) = if s.val / 64 ≤ t.val / 64 then 1#1 else 0#1 := by
  rw [val_main_v37_apply, val_main_v35_apply, val_main_v36_apply, show idx_main_v35 (ix2 t s) = ix2 0 s from Shape.idx_ext₂ rfl rfl, show idx_main_v36 (ix2 t s) = ix2 t 0 from Shape.idx_ext₂ rfl rfl, v32_at, v34_at]
  have a : s.val / 64 < 2 := by omega
  have b : t.val / 64 < 2 := by omega
  generalize s.val / 64 = x at a ⊢
  generalize t.val / 64 = y at b ⊢
  interval_cases x <;> interval_cases y <;> decide

theorem v39_at (g : Fin 6) (t s : Fin 128) : val_main_v39 (F := Ideal) W (ix3 g t s) = wmE W g t s := by
  have z : ∀ i, val_main_call2_v2 (F := Ideal) i = Ideal.ofBits .f32 0x00000000#32 := fun i => rfl
  have k : val_main_call2_v1 (F := Ideal) (ix3 g t s) = if s.val / 64 ≤ t.val / 64 then 1#1 else 0#1 := by
    rw [val_main_call2_v1_apply, val_main_v38_apply, show idx_main_v38 (idx_main_call2_v1 (ix3 g t s)) = ix2 t s from Shape.idx_ext₂ rfl rfl, v37_at]
  rw [val_main_v39_apply, k, z]
  unfold wmE
  split_ifs
  · exact Scalar.select_of_eq_one rfl _ _
  · exact Scalar.select_of_eq_zero rfl _ _

theorem v40_at (g : Fin 6) (n : Fin 64) (b t : Fin 128) : val_main_v40 (F := Ideal) P A W (ix4 g n b t) = ∑ s : Fin 128, wmE W g t s * vnE P A (at_ n s) (cl g b) := by
  have e1 := fun s => v29_at P A n s g b
  have e2 := fun s => v39_at W g t s
  unfold val_main_v40
  generalize val_main_v29 (F := Ideal) P A = y at e1 ⊢
  generalize val_main_v39 (F := Ideal) W = z at e2 ⊢
  pointwise []
  simp only [e1, e2]
  exact Finset.sum_congr rfl fun s _ => mul_comm _ _

theorem v45_at (n : Fin 64) (t : Fin 128) (g : Fin 6) (b : Fin 128) : val_main_v45 (F := Ideal) P A W B (ix4 n t g b)
    = (∑ s : Fin 128, wmE W g t s * vnE P A (at_ n s) (cl g b)) + B (ix2 g t) := by
  rw [val_main_v45_apply, val_main_v44_apply, val_main_v43_apply, val_main_v42_apply, show idx_main_v42 (idx_main_v43 (idx_main_v44 (ix4 n t g b))) = ix2 g t from Shape.idx_ext₂ rfl rfl,
    val_main_v41_apply, show idx_main_v41 (ix4 n t g b) = ix4 g n b t from (eq_ix4 _).trans rfl, v40_at]
  rfl

theorem v46_at (r : Fin 8192) (l : Fin 768) : val_main_v46 (F := Ideal) P A W B (ix2 r l) = mixE P A W B r l := by
  have s : idx_main_v46 (ix2 r l) = ix4 (wnd r) (pos r) (grp l) (lan l) := by
    refine (eq_ix4 _).trans ?_
    have h0 : idx_main_v46 (ix2 r l) 0 = wnd r := Fin.ext (by show (r.val * 768 + l.val) / 98304 = r.val / 128; omega)
    have h1 : idx_main_v46 (ix2 r l) 1 = pos r := Fin.ext (by show (r.val * 768 + l.val) / 768 % 128 = r.val % 128; omega)
    have h2 : idx_main_v46 (ix2 r l) 2 = grp l := Fin.ext (by show (r.val * 768 + l.val) / 128 % 6 = l.val / 128; omega)
    have h3 : idx_main_v46 (ix2 r l) 3 = lan l := Fin.ext (by show (r.val * 768 + l.val) % 128 = l.val % 128; omega)
    rw [h0, h1, h2, h3]
  rw [val_main_v46_apply, s, v45_at, cl_grp]
  rfl

theorem v48_at (r : Fin 8192) (l : Fin 768) : val_main_v48 (F := Ideal) P A W B (ix2 r l) = outE P A W B r l := by
  rw [val_main_v48_apply, val_main_v47_apply, v14_at, v46_at]
  rfl

end Cert.GatedRefIdeal.Read

/-! ## The claim -/

namespace Cert.Proof

open Idealize.ShloMosaic Idealize.ShloMosaic.TcCoe Idealize.SL.Sem

theorem algebraic_gated : algebraic_GatedIdeal_GatedRefIdeal (hGatedIdeal := Cert.GatedIdeal.Gen.facts) (hGatedRefIdeal := Cert.GatedRefIdeal.Gen.facts) := by
  intro m g m' g' _ hm
  refine ⟨fun c => Cert.GatedIdeal.Value.outA (m ((c.tc : Thread _ _).loc Cert.GatedIdeal.main_arg0)) (m ((c.tc : Thread _ _).loc Cert.GatedIdeal.main_arg1))
    (m ((c.tc : Thread _ _).loc Cert.GatedIdeal.main_arg2)) (m ((c.tc : Thread _ _).loc Cert.GatedIdeal.main_arg3)), ?_, ?_⟩
  · refine (θ_run _ _ _).mono (fun r h c => ?_) (Cert.GatedIdeal.Value.run_blocks m g)
    obtain ⟨h0, h⟩ := h c
    exact ⟨h0.trans (Cert.GatedIdeal.Value.arr4 m c), h⟩
  · refine (θ_run _ _ _).mono (fun r h c => ?_) (Cert.GatedRefIdeal.Value.run m' g')
    obtain ⟨h0, h⟩ := h c
    obtain ⟨e0, e1, e2, e3⟩ := hm c
    refine ⟨h0.trans ?_, h⟩
    clear h0 h hm
    rw [Cert.GatedRefIdeal.Read.val_main_v48_eq, e0, e1, e2, e3]
    funext i
    obtain ⟨r, l, rfl⟩ : ∃ (r : Fin 8192) (l : Fin 768), i = ix2 r l := ⟨i 0, i 1, eq_ix2 i⟩
    exact Cert.GatedRefIdeal.Read.v48_at _ _ _ _ r l

end Cert.Proof

end
-- ==== Proof.lean ====
/- The certificate, assembled: every program runs and leaves its arguments as they were, each idealized program is the
   printed one with at most its named literals restated, and the kernels compute the gradients of their references over
   the reals. -/
module

public import proofs.«01_k».proof.Defs
public import proofs.«01_k».proof.Proof.Gen.Gmlp
public import proofs.«01_k».proof.Proof.Gen.Gmlp.Skeleton
public import proofs.«01_k».proof.Proof.Gen.Gmlp.Launch
public import proofs.«01_k».proof.Proof.Gen.Gmlp.Points
public import proofs.«01_k».proof.Proof.Gen.Gmlp.Frame
public import proofs.«01_k».proof.Proof.Gen.GmlpIdeal
public import proofs.«01_k».proof.Proof.Gen.GmlpIdeal.Skeleton
public import proofs.«01_k».proof.Proof.Gen.GmlpIdeal.Launch
public import proofs.«01_k».proof.Proof.Gen.GmlpIdeal.Points
public import proofs.«01_k».proof.Proof.Gen.GmlpIdeal.Frame
public import proofs.«01_k».proof.Proof.Gen.GmlpRefIdeal
public import proofs.«01_k».proof.Proof.Gen.Mem
public import proofs.«01_k».proof.Proof.Gen.Mem.Skeleton
public import proofs.«01_k».proof.Proof.Gen.Mem.Launch
public import proofs.«01_k».proof.Proof.Gen.Mem.Points
public import proofs.«01_k».proof.Proof.Gen.Mem.Frame
public import proofs.«01_k».proof.Proof.Gen.MemIdeal
public import proofs.«01_k».proof.Proof.Gen.MemIdeal.Skeleton
public import proofs.«01_k».proof.Proof.Gen.MemIdeal.Launch
public import proofs.«01_k».proof.Proof.Gen.MemIdeal.Points
public import proofs.«01_k».proof.Proof.Gen.MemIdeal.Frame
public import proofs.«01_k».proof.Proof.Gen.MemReferIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Pair
public import proofs.«01_k».proof.Proof.Gen.Pair.Skeleton
public import proofs.«01_k».proof.Proof.Gen.Pair.Launch
public import proofs.«01_k».proof.Proof.Gen.Pair.Points
public import proofs.«01_k».proof.Proof.Gen.Pair.Frame
public import proofs.«01_k».proof.Proof.Gen.PairIdeal
public import proofs.«01_k».proof.Proof.Gen.PairIdeal.Skeleton
public import proofs.«01_k».proof.Proof.Gen.PairIdeal.Launch
public import proofs.«01_k».proof.Proof.Gen.PairIdeal.Points
public import proofs.«01_k».proof.Proof.Gen.PairIdeal.Frame
public import proofs.«01_k».proof.Proof.Gen.PairRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.GmlpIdeal.Value
public import proofs.«01_k».proof.Proof.Gen.MemIdeal.Value
public import proofs.«01_k».proof.Proof.Gen.DownIdeal.Value
public import proofs.«01_k».proof.Proof.Gen.PairIdeal.Value
public import proofs.«01_k».proof.Proof.Gen.UpIdeal.Value
public import proofs.«01_k».proof.Proof.Gen.GmlpRefIdeal.Run
public import proofs.«01_k».proof.Proof.Gen.GmlpRefIdeal.Read
public import proofs.«01_k».proof.Proof.Gen.MemReferIdeal.Run
public import proofs.«01_k».proof.Proof.Gen.MemReferIdeal.Read
public import proofs.«01_k».proof.Proof.Gen.DownRefIdeal.Run
public import proofs.«01_k».proof.Proof.Gen.DownRefIdeal.Read
public import proofs.«01_k».proof.Proof.Gen.PairRefIdeal.Run
public import proofs.«01_k».proof.Proof.Gen.PairRefIdeal.Read
public import proofs.«01_k».proof.Proof.Gen.UpRefIdeal.Run
public import proofs.«01_k».proof.Proof.Gen.UpRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateIdeal.Value
public import proofs.«01_k».proof.Proof.Gen.GateRefIdeal.Run
public import proofs.«01_k».proof.Proof.Gen.GateRefIdeal.Read
public import proofs.«01_k».proof.Proof.Gen.Join
public import proofs.«01_k».proof.Proof.Gen.Join.Skeleton
public import proofs.«01_k».proof.Proof.Gen.Join.Launch
public import proofs.«01_k».proof.Proof.Gen.Join.Points
public import proofs.«01_k».proof.Proof.Gen.Join.Frame
public import proofs.«01_k».proof.Proof.Gen.JoinIdeal
public import proofs.«01_k».proof.Proof.Gen.JoinIdeal.Skeleton
public import proofs.«01_k».proof.Proof.Gen.JoinIdeal.Launch
public import proofs.«01_k».proof.Proof.Gen.JoinIdeal.Points
public import proofs.«01_k».proof.Proof.Gen.JoinIdeal.Frame
public import proofs.«01_k».proof.Proof.Gen.JoinRefIdeal
public import proofs.«01_k».proof.Proof.Gen.JoinIdeal.Value
public import proofs.«01_k».proof.Proof.Gen.JoinRefIdeal.Run
public import proofs.«01_k».proof.Proof.Gen.JoinRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Blend
public import proofs.«01_k».proof.Proof.Gen.Blend.Skeleton
public import proofs.«01_k».proof.Proof.Gen.Blend.Launch
public import proofs.«01_k».proof.Proof.Gen.Blend.Points
public import proofs.«01_k».proof.Proof.Gen.Blend.Frame
public import proofs.«01_k».proof.Proof.Gen.BlendIdeal
public import proofs.«01_k».proof.Proof.Gen.BlendIdeal.Skeleton
public import proofs.«01_k».proof.Proof.Gen.BlendIdeal.Launch
public import proofs.«01_k».proof.Proof.Gen.BlendIdeal.Points
public import proofs.«01_k».proof.Proof.Gen.BlendIdeal.Frame
public import proofs.«01_k».proof.Proof.Gen.BlendRefIdeal
public import proofs.«01_k».proof.Proof.Gen.BlendIdeal.Value
public import proofs.«01_k».proof.Proof.Gen.BlendRefIdeal.Run
public import proofs.«01_k».proof.Proof.Gen.BlendRefIdeal.Read
public import proofs.«01_k».proof.Proof.Gen.Dout
public import proofs.«01_k».proof.Proof.Gen.Dout.Skeleton
public import proofs.«01_k».proof.Proof.Gen.Dout.Launch
public import proofs.«01_k».proof.Proof.Gen.Dout.Points
public import proofs.«01_k».proof.Proof.Gen.Dout.Frame
public import proofs.«01_k».proof.Proof.Gen.DoutIdeal
public import proofs.«01_k».proof.Proof.Gen.DoutIdeal.Skeleton
public import proofs.«01_k».proof.Proof.Gen.DoutIdeal.Launch
public import proofs.«01_k».proof.Proof.Gen.DoutIdeal.Points
public import proofs.«01_k».proof.Proof.Gen.DoutIdeal.Frame
public import proofs.«01_k».proof.Proof.Gen.DoutRefIdeal
public import proofs.«01_k».proof.Proof.Gen.DoutIdeal.Value
public import proofs.«01_k».proof.Proof.Gen.DoutRefIdeal.Run
public import proofs.«01_k».proof.Proof.Gen.DoutRefIdeal.Read
public import proofs.«01_k».proof.Proof.Gen.Outtok
public import proofs.«01_k».proof.Proof.Gen.Outtok.Skeleton
public import proofs.«01_k».proof.Proof.Gen.Outtok.Launch
public import proofs.«01_k».proof.Proof.Gen.Outtok.Points
public import proofs.«01_k».proof.Proof.Gen.Outtok.Frame
public import proofs.«01_k».proof.Proof.Gen.OuttokIdeal
public import proofs.«01_k».proof.Proof.Gen.OuttokIdeal.Skeleton
public import proofs.«01_k».proof.Proof.Gen.OuttokIdeal.Launch
public import proofs.«01_k».proof.Proof.Gen.OuttokIdeal.Points
public import proofs.«01_k».proof.Proof.Gen.OuttokIdeal.Frame
public import proofs.«01_k».proof.Proof.Gen.OuttokRefIdeal
public import proofs.«01_k».proof.Proof.Gen.OuttokIdeal.Value
public import proofs.«01_k».proof.Proof.Gen.OuttokRefIdeal.Run
public import proofs.«01_k».proof.Proof.Gen.OuttokRefIdeal.Read
public import proofs.«01_k».proof.Proof.Gen.Outmem
public import proofs.«01_k».proof.Proof.Gen.Outmem.Skeleton
public import proofs.«01_k».proof.Proof.Gen.Outmem.Launch
public import proofs.«01_k».proof.Proof.Gen.Outmem.Points
public import proofs.«01_k».proof.Proof.Gen.Outmem.Frame
public import proofs.«01_k».proof.Proof.Gen.OutmemIdeal
public import proofs.«01_k».proof.Proof.Gen.OutmemIdeal.Skeleton
public import proofs.«01_k».proof.Proof.Gen.OutmemIdeal.Launch
public import proofs.«01_k».proof.Proof.Gen.OutmemIdeal.Points
public import proofs.«01_k».proof.Proof.Gen.OutmemIdeal.Frame
public import proofs.«01_k».proof.Proof.Gen.OutmemRefIdeal
public import proofs.«01_k».proof.Proof.Gen.OutmemIdeal.Value
public import proofs.«01_k».proof.Proof.Gen.OutmemRefIdeal.Run
public import proofs.«01_k».proof.Proof.Gen.OutmemRefIdeal.Read
public import proofs.«01_k».proof.Proof.Gen.Intok
public import proofs.«01_k».proof.Proof.Gen.Intok.Skeleton
public import proofs.«01_k».proof.Proof.Gen.Intok.Launch
public import proofs.«01_k».proof.Proof.Gen.Intok.Points
public import proofs.«01_k».proof.Proof.Gen.Intok.Frame
public import proofs.«01_k».proof.Proof.Gen.IntokIdeal
public import proofs.«01_k».proof.Proof.Gen.IntokIdeal.Skeleton
public import proofs.«01_k».proof.Proof.Gen.IntokIdeal.Launch
public import proofs.«01_k».proof.Proof.Gen.IntokIdeal.Points
public import proofs.«01_k».proof.Proof.Gen.IntokIdeal.Frame
public import proofs.«01_k».proof.Proof.Gen.IntokRefIdeal
public import proofs.«01_k».proof.Proof.Gen.IntokIdeal.Value
public import proofs.«01_k».proof.Proof.Gen.IntokRefIdeal.Run
public import proofs.«01_k».proof.Proof.Gen.IntokRefIdeal.Read
public import proofs.«01_k».proof.Proof.Gen.Inmem
public import proofs.«01_k».proof.Proof.Gen.Inmem.Skeleton
public import proofs.«01_k».proof.Proof.Gen.Inmem.Launch
public import proofs.«01_k».proof.Proof.Gen.Inmem.Points
public import proofs.«01_k».proof.Proof.Gen.Inmem.Frame
public import proofs.«01_k».proof.Proof.Gen.InmemIdeal
public import proofs.«01_k».proof.Proof.Gen.InmemIdeal.Skeleton
public import proofs.«01_k».proof.Proof.Gen.InmemIdeal.Launch
public import proofs.«01_k».proof.Proof.Gen.InmemIdeal.Points
public import proofs.«01_k».proof.Proof.Gen.InmemIdeal.Frame
public import proofs.«01_k».proof.Proof.Gen.InmemRefIdeal
public import proofs.«01_k».proof.Proof.Gen.InmemIdeal.Value
public import proofs.«01_k».proof.Proof.Gen.InmemRefIdeal.Run
public import proofs.«01_k».proof.Proof.Gen.InmemRefIdeal.Read
public import proofs.«01_k».proof.Proof.Gen.Din
public import proofs.«01_k».proof.Proof.Gen.Din.Skeleton
public import proofs.«01_k».proof.Proof.Gen.Din.Launch
public import proofs.«01_k».proof.Proof.Gen.Din.Points
public import proofs.«01_k».proof.Proof.Gen.Din.Frame
public import proofs.«01_k».proof.Proof.Gen.DinIdeal
public import proofs.«01_k».proof.Proof.Gen.DinIdeal.Skeleton
public import proofs.«01_k».proof.Proof.Gen.DinIdeal.Launch
public import proofs.«01_k».proof.Proof.Gen.DinIdeal.Points
public import proofs.«01_k».proof.Proof.Gen.DinIdeal.Frame
public import proofs.«01_k».proof.Proof.Gen.DinRefIdeal
public import proofs.«01_k».proof.Proof.Gen.DinIdeal.Value
public import proofs.«01_k».proof.Proof.Gen.DinRefIdeal.Run
public import proofs.«01_k».proof.Proof.Gen.DinRefIdeal.Read
public import proofs.«01_k».proof.Proof.Gen.Gated
public import proofs.«01_k».proof.Proof.Gen.Gated.Skeleton
public import proofs.«01_k».proof.Proof.Gen.Gated.Launch
public import proofs.«01_k».proof.Proof.Gen.Gated.Points
public import proofs.«01_k».proof.Proof.Gen.Gated.Frame
public import proofs.«01_k».proof.Proof.Gen.GatedIdeal
public import proofs.«01_k».proof.Proof.Gen.GatedIdeal.Skeleton
public import proofs.«01_k».proof.Proof.Gen.GatedIdeal.Launch
public import proofs.«01_k».proof.Proof.Gen.GatedIdeal.Points
public import proofs.«01_k».proof.Proof.Gen.GatedIdeal.Frame
public import proofs.«01_k».proof.Proof.Gen.GatedRefIdeal
public import proofs.«01_k».proof.Proof.Gen.GatedIdeal.Value
public import proofs.«01_k».proof.Proof.Gen.GatedRefIdeal.Run
public import proofs.«01_k».proof.Proof.Gen.GatedRefIdeal.Read
public import proofs.«01_k».proof.Proof.Gen.Recall
public import proofs.«01_k».proof.Proof.Gen.Recall.Skeleton
public import proofs.«01_k».proof.Proof.Gen.Recall.Launch
public import proofs.«01_k».proof.Proof.Gen.Recall.Points
public import proofs.«01_k».proof.Proof.Gen.Recall.Frame
public import proofs.«01_k».proof.Proof.Gen.RecallIdeal
public import proofs.«01_k».proof.Proof.Gen.RecallIdeal.Skeleton
public import proofs.«01_k».proof.Proof.Gen.RecallIdeal.Launch
public import proofs.«01_k».proof.Proof.Gen.RecallIdeal.Points
public import proofs.«01_k».proof.Proof.Gen.RecallIdeal.Frame
public import proofs.«01_k».proof.Proof.Gen.RecallRefIdeal
public import proofs.«01_k».proof.Proof.Gen.RecallIdeal.Value
public import proofs.«01_k».proof.Proof.Gen.RecallRefIdeal.Run
public import proofs.«01_k».proof.Proof.Gen.RecallRefIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.KvIdeal.Value
public import proofs.«01_k».proof.Proof.Gen.KvRefIdeal.Run
public import proofs.«01_k».proof.Proof.Gen.KvRefIdeal.Read
public import proofs.«01_k».proof.Proof.Gen.Kin
public import proofs.«01_k».proof.Proof.Gen.Kin.Skeleton
public import proofs.«01_k».proof.Proof.Gen.Kin.Launch
public import proofs.«01_k».proof.Proof.Gen.Kin.Points
public import proofs.«01_k».proof.Proof.Gen.Kin.Frame
public import proofs.«01_k».proof.Proof.Gen.KinIdeal
public import proofs.«01_k».proof.Proof.Gen.KinIdeal.Skeleton
public import proofs.«01_k».proof.Proof.Gen.KinIdeal.Launch
public import proofs.«01_k».proof.Proof.Gen.KinIdeal.Points
public import proofs.«01_k».proof.Proof.Gen.KinIdeal.Frame
public import proofs.«01_k».proof.Proof.Gen.KinRefIdeal
public import proofs.«01_k».proof.Proof.Gen.KinIdeal.Value
public import proofs.«01_k».proof.Proof.Gen.KinRefIdeal.Run
public import proofs.«01_k».proof.Proof.Gen.KinRefIdeal.Read
public import proofs.«01_k».proof.Proof.Gen.Btok
public import proofs.«01_k».proof.Proof.Gen.Btok.Skeleton
public import proofs.«01_k».proof.Proof.Gen.Btok.Launch
public import proofs.«01_k».proof.Proof.Gen.Btok.Points
public import proofs.«01_k».proof.Proof.Gen.Btok.Frame
public import proofs.«01_k».proof.Proof.Gen.BtokIdeal
public import proofs.«01_k».proof.Proof.Gen.BtokIdeal.Skeleton
public import proofs.«01_k».proof.Proof.Gen.BtokIdeal.Launch
public import proofs.«01_k».proof.Proof.Gen.BtokIdeal.Points
public import proofs.«01_k».proof.Proof.Gen.BtokIdeal.Frame
public import proofs.«01_k».proof.Proof.Gen.BtokRefIdeal
public import proofs.«01_k».proof.Proof.Gen.BtokIdeal.Value
public import proofs.«01_k».proof.Proof.Gen.BtokRefIdeal.Run
public import proofs.«01_k».proof.Proof.Gen.BtokRefIdeal.Read
public import proofs.«01_k».proof.Proof.Gen.Bproj
public import proofs.«01_k».proof.Proof.Gen.Bproj.Skeleton
public import proofs.«01_k».proof.Proof.Gen.Bproj.Launch
public import proofs.«01_k».proof.Proof.Gen.Bproj.Points
public import proofs.«01_k».proof.Proof.Gen.Bproj.Frame
public import proofs.«01_k».proof.Proof.Gen.BprojIdeal
public import proofs.«01_k».proof.Proof.Gen.BprojIdeal.Skeleton
public import proofs.«01_k».proof.Proof.Gen.BprojIdeal.Launch
public import proofs.«01_k».proof.Proof.Gen.BprojIdeal.Points
public import proofs.«01_k».proof.Proof.Gen.BprojIdeal.Frame
public import proofs.«01_k».proof.Proof.Gen.BprojRefIdeal
public import proofs.«01_k».proof.Proof.Gen.BprojIdeal.Value
public import proofs.«01_k».proof.Proof.Gen.BprojRefIdeal.Run
public import proofs.«01_k».proof.Proof.Gen.BprojRefIdeal.Read
public import proofs.«01_k».proof.Proof.Gen.Bin
public import proofs.«01_k».proof.Proof.Gen.Bin.Skeleton
public import proofs.«01_k».proof.Proof.Gen.Bin.Launch
public import proofs.«01_k».proof.Proof.Gen.Bin.Points
public import proofs.«01_k».proof.Proof.Gen.Bin.Frame
public import proofs.«01_k».proof.Proof.Gen.BinIdeal
public import proofs.«01_k».proof.Proof.Gen.BinIdeal.Skeleton
public import proofs.«01_k».proof.Proof.Gen.BinIdeal.Launch
public import proofs.«01_k».proof.Proof.Gen.BinIdeal.Points
public import proofs.«01_k».proof.Proof.Gen.BinIdeal.Frame
public import proofs.«01_k».proof.Proof.Gen.BinRefIdeal
public import proofs.«01_k».proof.Proof.Gen.BinIdeal.Value
public import proofs.«01_k».proof.Proof.Gen.BinRefIdeal.Run
public import proofs.«01_k».proof.Proof.Gen.BinRefIdeal.Read
public import proofs.«01_k».proof.Proof.Gen.Slot
public import proofs.«01_k».proof.Proof.Gen.Slot.Skeleton
public import proofs.«01_k».proof.Proof.Gen.Slot.Launch
public import proofs.«01_k».proof.Proof.Gen.Slot.Points
public import proofs.«01_k».proof.Proof.Gen.Slot.Frame
public import proofs.«01_k».proof.Proof.Gen.SlotIdeal
public import proofs.«01_k».proof.Proof.Gen.SlotIdeal.Skeleton
public import proofs.«01_k».proof.Proof.Gen.SlotIdeal.Launch
public import proofs.«01_k».proof.Proof.Gen.SlotIdeal.Points
public import proofs.«01_k».proof.Proof.Gen.SlotIdeal.Frame
public import proofs.«01_k».proof.Proof.Gen.SlotRefIdeal
public import proofs.«01_k».proof.Proof.Gen.SlotIdeal.Value
public import proofs.«01_k».proof.Proof.Gen.SlotRefIdeal.Run
public import proofs.«01_k».proof.Proof.Gen.SlotRefIdeal.Read
public import proofs.«01_k».proof.Proof.Gen.Slotw
public import proofs.«01_k».proof.Proof.Gen.Slotw.Skeleton
public import proofs.«01_k».proof.Proof.Gen.Slotw.Launch
public import proofs.«01_k».proof.Proof.Gen.Slotw.Points
public import proofs.«01_k».proof.Proof.Gen.Slotw.Frame
public import proofs.«01_k».proof.Proof.Gen.SlotwIdeal
public import proofs.«01_k».proof.Proof.Gen.SlotwIdeal.Skeleton
public import proofs.«01_k».proof.Proof.Gen.SlotwIdeal.Launch
public import proofs.«01_k».proof.Proof.Gen.SlotwIdeal.Points
public import proofs.«01_k».proof.Proof.Gen.SlotwIdeal.Frame
public import proofs.«01_k».proof.Proof.Gen.SlotwRefIdeal
public import proofs.«01_k».proof.Proof.Gen.SlotwIdeal.Value
public import proofs.«01_k».proof.Proof.Gen.SlotwRefIdeal.Run
public import proofs.«01_k».proof.Proof.Gen.SlotwRefIdeal.Read
public import proofs.«01_k».proof.Proof.Gen.Slotb
public import proofs.«01_k».proof.Proof.Gen.Slotb.Skeleton
public import proofs.«01_k».proof.Proof.Gen.Slotb.Launch
public import proofs.«01_k».proof.Proof.Gen.Slotb.Points
public import proofs.«01_k».proof.Proof.Gen.Slotb.Frame
public import proofs.«01_k».proof.Proof.Gen.SlotbIdeal
public import proofs.«01_k».proof.Proof.Gen.SlotbIdeal.Skeleton
public import proofs.«01_k».proof.Proof.Gen.SlotbIdeal.Launch
public import proofs.«01_k».proof.Proof.Gen.SlotbIdeal.Points
public import proofs.«01_k».proof.Proof.Gen.SlotbIdeal.Frame
public import proofs.«01_k».proof.Proof.Gen.SlotbRefIdeal
public import proofs.«01_k».proof.Proof.Gen.SlotbIdeal.Value
public import proofs.«01_k».proof.Proof.Gen.SlotbRefIdeal.Run
public import proofs.«01_k».proof.Proof.Gen.SlotbRefIdeal.Read
public import proofs.«01_k».proof.Proof.Reals
public import proofs.«01_k».proof.Proof.PairValue
public import proofs.«01_k».proof.Proof.DownValue
public import proofs.«01_k».proof.Proof.UpValue
public import proofs.«01_k».proof.Proof.MemValue
public import proofs.«01_k».proof.Proof.GmlpValue
public import proofs.«01_k».proof.Proof.GateValue
public import proofs.«01_k».proof.Proof.JoinValue
public import proofs.«01_k».proof.Proof.ProjValue
public import proofs.«01_k».proof.Proof.BlendValue
public import proofs.«01_k».proof.Proof.DoutValue
public import proofs.«01_k».proof.Proof.OuttokValue
public import proofs.«01_k».proof.Proof.OutmemValue
public import proofs.«01_k».proof.Proof.IntokValue
public import proofs.«01_k».proof.Proof.InmemValue
public import proofs.«01_k».proof.Proof.DinValue
public import proofs.«01_k».proof.Proof.KvValue
public import proofs.«01_k».proof.Proof.KinValue
public import proofs.«01_k».proof.Proof.BtokValue
public import proofs.«01_k».proof.Proof.BprojValue
public import proofs.«01_k».proof.Proof.BinValue
public import proofs.«01_k».proof.Proof.RecallValue
public import proofs.«01_k».proof.Proof.SlotValue
public import proofs.«01_k».proof.Proof.SlotwValue
public import proofs.«01_k».proof.Proof.SlotbValue
public import proofs.«01_k».proof.Proof.GatedValue
public import Idealize.ShloMosaic.Lib.Quiescent
public import Idealize.ShloMosaic.Adequacy
public import Idealize.ShloMosaic.Init

@[expose] public section

noncomputable section

namespace Cert.Proof

open Idealize.ShloMosaic Idealize.SL.Sem

/-- `GmlpRefIdeal` runs and keeps its arguments: its run read past its 4 results; it declares no counter. -/
theorem kept_GmlpRefIdeal : Cert.quiescent_GmlpRefIdeal (hGmlpRefIdeal := Cert.GmlpRefIdeal.Gen.facts) := fun m ρ _ =>
  (θ_run Cert.GmlpRefIdeal.defs _ _).mono (fun r h => ⟨fun c => (h c).2.2.2.2, sem_eq_zero_of_no_sems (by decide) r.2⟩)
    (Cert.GmlpRefIdeal.Value.run (F := Ideal) m ρ)

/-- `MemReferIdeal` runs and keeps its arguments: its run read past its 2 results; it declares no counter. -/
theorem kept_MemReferIdeal : Cert.quiescent_MemReferIdeal (hMemReferIdeal := Cert.MemReferIdeal.Gen.facts) := fun m ρ _ =>
  (θ_run Cert.MemReferIdeal.defs _ _).mono (fun r h => ⟨fun c => (h c).2.2, sem_eq_zero_of_no_sems (by decide) r.2⟩)
    (Cert.MemReferIdeal.Value.run (F := Ideal) m ρ)

/-- `DownRefIdeal` runs and keeps its arguments: its run read past its 3 results; it declares no counter. -/
theorem kept_DownRefIdeal : Cert.quiescent_DownRefIdeal (hDownRefIdeal := Cert.DownRefIdeal.Gen.facts) := fun m ρ _ =>
  (θ_run Cert.DownRefIdeal.defs _ _).mono (fun r h => ⟨fun c => (h c).2.2.2, sem_eq_zero_of_no_sems (by decide) r.2⟩)
    (Cert.DownRefIdeal.Value.run (F := Ideal) m ρ)

/-- `PairRefIdeal` runs and keeps its arguments: its run read past its 2 results; it declares no counter. -/
theorem kept_PairRefIdeal : Cert.quiescent_PairRefIdeal (hPairRefIdeal := Cert.PairRefIdeal.Gen.facts) := fun m ρ _ =>
  (θ_run Cert.PairRefIdeal.defs _ _).mono (fun r h => ⟨fun c => (h c).2.2, sem_eq_zero_of_no_sems (by decide) r.2⟩)
    (Cert.PairRefIdeal.Value.run (F := Ideal) m ρ)

/-- `UpRefIdeal` runs and keeps its arguments: its run read past its 3 results; it declares no counter. -/
theorem kept_UpRefIdeal : Cert.quiescent_UpRefIdeal (hUpRefIdeal := Cert.UpRefIdeal.Gen.facts) := fun m ρ _ =>
  (θ_run Cert.UpRefIdeal.defs _ _).mono (fun r h => ⟨fun c => (h c).2.2.2, sem_eq_zero_of_no_sems (by decide) r.2⟩)
    (Cert.UpRefIdeal.Value.run (F := Ideal) m ρ)

/-- `GateRefIdeal` runs and keeps its arguments: its run read past its 3 results; it declares no counter. -/
theorem kept_GateRefIdeal : Cert.quiescent_GateRefIdeal (hGateRefIdeal := Cert.GateRefIdeal.Gen.facts) := fun m ρ _ =>
  (θ_run Cert.GateRefIdeal.defs _ _).mono (fun r h => ⟨fun c => (h c).2.2.2, sem_eq_zero_of_no_sems (by decide) r.2⟩)
    (Cert.GateRefIdeal.Value.run (F := Ideal) m ρ)

/-- `JoinRefIdeal` runs and keeps its arguments: its run read past its 2 results; it declares no counter. -/
theorem kept_JoinRefIdeal : Cert.quiescent_JoinRefIdeal (hJoinRefIdeal := Cert.JoinRefIdeal.Gen.facts) := fun m ρ _ =>
  (θ_run Cert.JoinRefIdeal.defs _ _).mono (fun r h => ⟨fun c => (h c).2.2, sem_eq_zero_of_no_sems (by decide) r.2⟩)
    (Cert.JoinRefIdeal.Value.run (F := Ideal) m ρ)

/-- `ProjRefIdeal` runs and keeps its arguments: its run read past its 1 results; it declares no counter. -/
theorem kept_ProjRefIdeal : Cert.quiescent_ProjRefIdeal (hProjRefIdeal := Cert.ProjRefIdeal.Gen.facts) := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- `BlendRefIdeal` runs and keeps its arguments: its run read past its 2 results; it declares no counter. -/
theorem kept_BlendRefIdeal : Cert.quiescent_BlendRefIdeal (hBlendRefIdeal := Cert.BlendRefIdeal.Gen.facts) := fun m ρ _ =>
  (θ_run Cert.BlendRefIdeal.defs _ _).mono (fun r h => ⟨fun c => (h c).2.2, sem_eq_zero_of_no_sems (by decide) r.2⟩)
    (Cert.BlendRefIdeal.Value.run (F := Ideal) m ρ)

/-- `DoutRefIdeal` runs and keeps its arguments: its run read past its 1 results; it declares no counter. -/
theorem kept_DoutRefIdeal : Cert.quiescent_DoutRefIdeal (hDoutRefIdeal := Cert.DoutRefIdeal.Gen.facts) := fun m ρ _ =>
  (θ_run Cert.DoutRefIdeal.defs _ _).mono (fun r h => ⟨fun c => (h c).2, sem_eq_zero_of_no_sems (by decide) r.2⟩)
    (Cert.DoutRefIdeal.Value.run (F := Ideal) m ρ)

/-- `OuttokRefIdeal` runs and keeps its arguments: its run read past its 1 results; it declares no counter. -/
theorem kept_OuttokRefIdeal : Cert.quiescent_OuttokRefIdeal (hOuttokRefIdeal := Cert.OuttokRefIdeal.Gen.facts) := fun m ρ _ =>
  (θ_run Cert.OuttokRefIdeal.defs _ _).mono (fun r h => ⟨fun c => (h c).2, sem_eq_zero_of_no_sems (by decide) r.2⟩)
    (Cert.OuttokRefIdeal.Value.run (F := Ideal) m ρ)

/-- `OutmemRefIdeal` runs and keeps its arguments: its run read past its 1 results; it declares no counter. -/
theorem kept_OutmemRefIdeal : Cert.quiescent_OutmemRefIdeal (hOutmemRefIdeal := Cert.OutmemRefIdeal.Gen.facts) := fun m ρ _ =>
  (θ_run Cert.OutmemRefIdeal.defs _ _).mono (fun r h => ⟨fun c => (h c).2, sem_eq_zero_of_no_sems (by decide) r.2⟩)
    (Cert.OutmemRefIdeal.Value.run (F := Ideal) m ρ)

/-- `IntokRefIdeal` runs and keeps its arguments: its run read past its 1 results; it declares no counter. -/
theorem kept_IntokRefIdeal : Cert.quiescent_IntokRefIdeal (hIntokRefIdeal := Cert.IntokRefIdeal.Gen.facts) := fun m ρ _ =>
  (θ_run Cert.IntokRefIdeal.defs _ _).mono (fun r h => ⟨fun c => (h c).2, sem_eq_zero_of_no_sems (by decide) r.2⟩)
    (Cert.IntokRefIdeal.Value.run (F := Ideal) m ρ)

/-- `InmemRefIdeal` runs and keeps its arguments: its run read past its 1 results; it declares no counter. -/
theorem kept_InmemRefIdeal : Cert.quiescent_InmemRefIdeal (hInmemRefIdeal := Cert.InmemRefIdeal.Gen.facts) := fun m ρ _ =>
  (θ_run Cert.InmemRefIdeal.defs _ _).mono (fun r h => ⟨fun c => (h c).2, sem_eq_zero_of_no_sems (by decide) r.2⟩)
    (Cert.InmemRefIdeal.Value.run (F := Ideal) m ρ)

/-- `DinRefIdeal` runs and keeps its arguments: its run read past its 3 results; it declares no counter. -/
theorem kept_DinRefIdeal : Cert.quiescent_DinRefIdeal (hDinRefIdeal := Cert.DinRefIdeal.Gen.facts) := fun m ρ _ =>
  (θ_run Cert.DinRefIdeal.defs _ _).mono (fun r h => ⟨fun c => (h c).2.2.2, sem_eq_zero_of_no_sems (by decide) r.2⟩)
    (Cert.DinRefIdeal.Value.run (F := Ideal) m ρ)

/-- `GatedRefIdeal` runs and keeps its arguments: its run read past its 1 results; it declares no counter. -/
theorem kept_GatedRefIdeal : Cert.quiescent_GatedRefIdeal (hGatedRefIdeal := Cert.GatedRefIdeal.Gen.facts) := fun m ρ _ =>
  (θ_run Cert.GatedRefIdeal.defs _ _).mono (fun r h => ⟨fun c => (h c).2, sem_eq_zero_of_no_sems (by decide) r.2⟩)
    (Cert.GatedRefIdeal.Value.run (F := Ideal) m ρ)

/-- `RecallRefIdeal` runs and keeps its arguments: its run read past its 1 results; it declares no counter. -/
theorem kept_RecallRefIdeal : Cert.quiescent_RecallRefIdeal (hRecallRefIdeal := Cert.RecallRefIdeal.Gen.facts) := fun m ρ _ =>
  (θ_run Cert.RecallRefIdeal.defs _ _).mono (fun r h => ⟨fun c => (h c).2, sem_eq_zero_of_no_sems (by decide) r.2⟩)
    (Cert.RecallRefIdeal.Value.run (F := Ideal) m ρ)

/-- `KvRefIdeal` runs and keeps its arguments: its run read past its 1 results; it declares no counter. -/
theorem kept_KvRefIdeal : Cert.quiescent_KvRefIdeal (hKvRefIdeal := Cert.KvRefIdeal.Gen.facts) := fun m ρ _ =>
  (θ_run Cert.KvRefIdeal.defs _ _).mono (fun r h => ⟨fun c => (h c).2, sem_eq_zero_of_no_sems (by decide) r.2⟩)
    (Cert.KvRefIdeal.Value.run (F := Ideal) m ρ)

/-- `KinRefIdeal` runs and keeps its arguments: its run read past its 3 results; it declares no counter. -/
theorem kept_KinRefIdeal : Cert.quiescent_KinRefIdeal (hKinRefIdeal := Cert.KinRefIdeal.Gen.facts) := fun m ρ _ =>
  (θ_run Cert.KinRefIdeal.defs _ _).mono (fun r h => ⟨fun c => (h c).2.2.2, sem_eq_zero_of_no_sems (by decide) r.2⟩)
    (Cert.KinRefIdeal.Value.run (F := Ideal) m ρ)

/-- `BtokRefIdeal` runs and keeps its arguments: its run read past its 1 results; it declares no counter. -/
theorem kept_BtokRefIdeal : Cert.quiescent_BtokRefIdeal (hBtokRefIdeal := Cert.BtokRefIdeal.Gen.facts) := fun m ρ _ =>
  (θ_run Cert.BtokRefIdeal.defs _ _).mono (fun r h => ⟨fun c => (h c).2, sem_eq_zero_of_no_sems (by decide) r.2⟩)
    (Cert.BtokRefIdeal.Value.run (F := Ideal) m ρ)

/-- `BprojRefIdeal` runs and keeps its arguments: its run read past its 1 results; it declares no counter. -/
theorem kept_BprojRefIdeal : Cert.quiescent_BprojRefIdeal (hBprojRefIdeal := Cert.BprojRefIdeal.Gen.facts) := fun m ρ _ =>
  (θ_run Cert.BprojRefIdeal.defs _ _).mono (fun r h => ⟨fun c => (h c).2, sem_eq_zero_of_no_sems (by decide) r.2⟩)
    (Cert.BprojRefIdeal.Value.run (F := Ideal) m ρ)

/-- `BinRefIdeal` runs and keeps its arguments: its run read past its 3 results; it declares no counter. -/
theorem kept_BinRefIdeal : Cert.quiescent_BinRefIdeal (hBinRefIdeal := Cert.BinRefIdeal.Gen.facts) := fun m ρ _ =>
  (θ_run Cert.BinRefIdeal.defs _ _).mono (fun r h => ⟨fun c => (h c).2.2.2, sem_eq_zero_of_no_sems (by decide) r.2⟩)
    (Cert.BinRefIdeal.Value.run (F := Ideal) m ρ)

/-- `SlotRefIdeal` runs and keeps its arguments: its run read past its 1 results; it declares no counter. -/
theorem kept_SlotRefIdeal : Cert.quiescent_SlotRefIdeal (hSlotRefIdeal := Cert.SlotRefIdeal.Gen.facts) := fun m ρ _ =>
  (θ_run Cert.SlotRefIdeal.defs _ _).mono (fun r h => ⟨fun c => (h c).2, sem_eq_zero_of_no_sems (by decide) r.2⟩)
    (Cert.SlotRefIdeal.Value.run (F := Ideal) m ρ)

/-- `SlotwRefIdeal` runs and keeps its arguments: its run read past its 1 results; it declares no counter. -/
theorem kept_SlotwRefIdeal : Cert.quiescent_SlotwRefIdeal (hSlotwRefIdeal := Cert.SlotwRefIdeal.Gen.facts) := fun m ρ _ =>
  (θ_run Cert.SlotwRefIdeal.defs _ _).mono (fun r h => ⟨fun c => (h c).2, sem_eq_zero_of_no_sems (by decide) r.2⟩)
    (Cert.SlotwRefIdeal.Value.run (F := Ideal) m ρ)

/-- `SlotbRefIdeal` runs and keeps its arguments: its run read past its 1 results; it declares no counter. -/
theorem kept_SlotbRefIdeal : Cert.quiescent_SlotbRefIdeal (hSlotbRefIdeal := Cert.SlotbRefIdeal.Gen.facts) := fun m ρ _ =>
  (θ_run Cert.SlotbRefIdeal.defs _ _).mono (fun r h => ⟨fun c => (h c).2, sem_eq_zero_of_no_sems (by decide) r.2⟩)
    (Cert.SlotbRefIdeal.Value.run (F := Ideal) m ρ)

/-- Everything certified. -/
theorem claim : Cert.Claim := ⟨Cert.Gmlp.Gen.facts, Cert.GmlpIdeal.Gen.facts, Cert.GmlpRefIdeal.Gen.facts, Cert.Mem.Gen.facts, Cert.MemIdeal.Gen.facts, Cert.MemReferIdeal.Gen.facts, Cert.Down.Gen.facts, Cert.DownIdeal.Gen.facts, Cert.DownRefIdeal.Gen.facts, Cert.Pair.Gen.facts, Cert.PairIdeal.Gen.facts, Cert.PairRefIdeal.Gen.facts, Cert.Up.Gen.facts, Cert.UpIdeal.Gen.facts, Cert.UpRefIdeal.Gen.facts, Cert.Gate.Gen.facts, Cert.GateIdeal.Gen.facts, Cert.GateRefIdeal.Gen.facts, Cert.Join.Gen.facts, Cert.JoinIdeal.Gen.facts, Cert.JoinRefIdeal.Gen.facts, Cert.Proj.Gen.facts, Cert.ProjIdeal.Gen.facts, Cert.ProjRefIdeal.Gen.facts, Cert.Blend.Gen.facts, Cert.BlendIdeal.Gen.facts, Cert.BlendRefIdeal.Gen.facts, Cert.Dout.Gen.facts, Cert.DoutIdeal.Gen.facts, Cert.DoutRefIdeal.Gen.facts, Cert.Outtok.Gen.facts, Cert.OuttokIdeal.Gen.facts, Cert.OuttokRefIdeal.Gen.facts, Cert.Outmem.Gen.facts, Cert.OutmemIdeal.Gen.facts, Cert.OutmemRefIdeal.Gen.facts, Cert.Intok.Gen.facts, Cert.IntokIdeal.Gen.facts, Cert.IntokRefIdeal.Gen.facts, Cert.Inmem.Gen.facts, Cert.InmemIdeal.Gen.facts, Cert.InmemRefIdeal.Gen.facts, Cert.Din.Gen.facts, Cert.DinIdeal.Gen.facts, Cert.DinRefIdeal.Gen.facts, Cert.Gated.Gen.facts, Cert.GatedIdeal.Gen.facts, Cert.GatedRefIdeal.Gen.facts, Cert.Recall.Gen.facts, Cert.RecallIdeal.Gen.facts, Cert.RecallRefIdeal.Gen.facts, Cert.Kv.Gen.facts, Cert.KvIdeal.Gen.facts, Cert.KvRefIdeal.Gen.facts, Cert.Kin.Gen.facts, Cert.KinIdeal.Gen.facts, Cert.KinRefIdeal.Gen.facts, Cert.Btok.Gen.facts, Cert.BtokIdeal.Gen.facts, Cert.BtokRefIdeal.Gen.facts, Cert.Bproj.Gen.facts, Cert.BprojIdeal.Gen.facts, Cert.BprojRefIdeal.Gen.facts, Cert.Bin.Gen.facts, Cert.BinIdeal.Gen.facts, Cert.BinRefIdeal.Gen.facts, Cert.Slot.Gen.facts, Cert.SlotIdeal.Gen.facts, Cert.SlotRefIdeal.Gen.facts, Cert.Slotw.Gen.facts, Cert.SlotwIdeal.Gen.facts, Cert.SlotwRefIdeal.Gen.facts, Cert.Slotb.Gen.facts, Cert.SlotbIdeal.Gen.facts, Cert.SlotbRefIdeal.Gen.facts, facts_gmlp, facts_mem, facts_down, facts_up, facts_din, facts_recall, facts_kin, facts_bin,
  fun m ρ _ => Cert.Gmlp.Gen.frame m ρ,
  fun m ρ _ => Cert.GmlpIdeal.Gen.frame m ρ,
  fun m ρ _ => Cert.GmlpIdeal.Gen.frame m ρ,
  kept_GmlpRefIdeal,
  fun m ρ _ => kept_GmlpRefIdeal m ρ trivial,
  fun m ρ _ => Cert.Mem.Gen.frame m ρ,
  fun m ρ _ => Cert.MemIdeal.Gen.frame m ρ,
  fun m ρ _ => Cert.MemIdeal.Gen.frame m ρ,
  kept_MemReferIdeal,
  fun m ρ _ => kept_MemReferIdeal m ρ trivial,
  fun m ρ _ => Cert.Down.Gen.frame m ρ,
  fun m ρ _ => Cert.DownIdeal.Gen.frame m ρ,
  fun m ρ _ => Cert.DownIdeal.Gen.frame m ρ,
  kept_DownRefIdeal,
  fun m ρ _ => kept_DownRefIdeal m ρ trivial,
  fun m ρ _ => Cert.Pair.Gen.frame m ρ,
  fun m ρ _ => Cert.PairIdeal.Gen.frame m ρ,
  kept_PairRefIdeal,
  fun m ρ _ => Cert.Up.Gen.frame m ρ,
  fun m ρ _ => Cert.UpIdeal.Gen.frame m ρ,
  fun m ρ _ => Cert.UpIdeal.Gen.frame m ρ,
  kept_UpRefIdeal,
  fun m ρ _ => kept_UpRefIdeal m ρ trivial,
  fun m ρ _ => Cert.Gate.Gen.frame m ρ,
  fun m ρ _ => Cert.GateIdeal.Gen.frame m ρ,
  kept_GateRefIdeal,
  fun m ρ _ => Cert.Join.Gen.frame m ρ,
  fun m ρ _ => Cert.JoinIdeal.Gen.frame m ρ,
  kept_JoinRefIdeal,
  fun m ρ _ => Cert.Proj.Gen.frame m ρ,
  fun m ρ _ => Cert.ProjIdeal.Gen.frame m ρ,
  kept_ProjRefIdeal,
  fun m ρ _ => Cert.Blend.Gen.frame m ρ,
  fun m ρ _ => Cert.BlendIdeal.Gen.frame m ρ,
  kept_BlendRefIdeal,
  fun m ρ _ => Cert.Dout.Gen.frame m ρ,
  fun m ρ _ => Cert.DoutIdeal.Gen.frame m ρ,
  kept_DoutRefIdeal,
  fun m ρ _ => Cert.Outtok.Gen.frame m ρ,
  fun m ρ _ => Cert.OuttokIdeal.Gen.frame m ρ,
  kept_OuttokRefIdeal,
  fun m ρ _ => Cert.Outmem.Gen.frame m ρ,
  fun m ρ _ => Cert.OutmemIdeal.Gen.frame m ρ,
  kept_OutmemRefIdeal,
  fun m ρ _ => Cert.Intok.Gen.frame m ρ,
  fun m ρ _ => Cert.IntokIdeal.Gen.frame m ρ,
  kept_IntokRefIdeal,
  fun m ρ _ => Cert.Inmem.Gen.frame m ρ,
  fun m ρ _ => Cert.InmemIdeal.Gen.frame m ρ,
  kept_InmemRefIdeal,
  fun m ρ _ => Cert.Din.Gen.frame m ρ,
  fun m ρ _ => Cert.DinIdeal.Gen.frame m ρ,
  fun m ρ _ => Cert.DinIdeal.Gen.frame m ρ,
  kept_DinRefIdeal,
  fun m ρ _ => kept_DinRefIdeal m ρ trivial,
  fun m ρ _ => Cert.Gated.Gen.frame m ρ,
  fun m ρ _ => Cert.GatedIdeal.Gen.frame m ρ,
  kept_GatedRefIdeal,
  fun m ρ _ => Cert.Recall.Gen.frame m ρ,
  fun m ρ _ => Cert.RecallIdeal.Gen.frame m ρ,
  fun m ρ _ => Cert.RecallIdeal.Gen.frame m ρ,
  kept_RecallRefIdeal,
  fun m ρ _ => kept_RecallRefIdeal m ρ trivial,
  fun m ρ _ => Cert.Kv.Gen.frame m ρ,
  fun m ρ _ => Cert.KvIdeal.Gen.frame m ρ,
  kept_KvRefIdeal,
  fun m ρ _ => Cert.Kin.Gen.frame m ρ,
  fun m ρ _ => Cert.KinIdeal.Gen.frame m ρ,
  fun m ρ _ => Cert.KinIdeal.Gen.frame m ρ,
  kept_KinRefIdeal,
  fun m ρ _ => kept_KinRefIdeal m ρ trivial,
  fun m ρ _ => Cert.Btok.Gen.frame m ρ,
  fun m ρ _ => Cert.BtokIdeal.Gen.frame m ρ,
  kept_BtokRefIdeal,
  fun m ρ _ => Cert.Bproj.Gen.frame m ρ,
  fun m ρ _ => Cert.BprojIdeal.Gen.frame m ρ,
  kept_BprojRefIdeal,
  fun m ρ _ => Cert.Bin.Gen.frame m ρ,
  fun m ρ _ => Cert.BinIdeal.Gen.frame m ρ,
  fun m ρ _ => Cert.BinIdeal.Gen.frame m ρ,
  kept_BinRefIdeal,
  fun m ρ _ => kept_BinRefIdeal m ρ trivial,
  fun m ρ _ => Cert.Slot.Gen.frame m ρ,
  fun m ρ _ => Cert.SlotIdeal.Gen.frame m ρ,
  kept_SlotRefIdeal,
  fun m ρ _ => Cert.Slotw.Gen.frame m ρ,
  fun m ρ _ => Cert.SlotwIdeal.Gen.frame m ρ,
  kept_SlotwRefIdeal,
  fun m ρ _ => Cert.Slotb.Gen.frame m ρ,
  fun m ρ _ => Cert.SlotbIdeal.Gen.frame m ρ,
  kept_SlotbRefIdeal,
  ⟨IdealRules.named_const.statement Cert.GmlpIdeal.κ "cubic" .f32 0x3D372713#32 _ rfl,
    IdealRules.named_const.statement Cert.GmlpIdeal.κ "cubic3" .f32 0x3E095D4F#32 _ rfl⟩,
  trivial,
  trivial,
  trivial,
  trivial,
  trivial,
  trivial,
  trivial,
  trivial,
  trivial,
  trivial,
  trivial,
  trivial,
  trivial,
  trivial,
  trivial,
  trivial,
  trivial,
  trivial,
  trivial,
  trivial,
  trivial,
  trivial,
  trivial,
  trivial,
  algebraic_gmlp,
  algebraic_mem,
  algebraic_down,
  algebraic_pair,
  algebraic_up,
  algebraic_gate,
  algebraic_join,
  algebraic_proj,
  algebraic_blend,
  algebraic_dout,
  algebraic_outtok,
  algebraic_outmem,
  algebraic_intok,
  algebraic_inmem,
  algebraic_din,
  algebraic_gated,
  algebraic_recall,
  algebraic_kv,
  algebraic_kin,
  algebraic_btok,
  algebraic_bproj,
  algebraic_bin,
  algebraic_slot,
  algebraic_slotw,
  algebraic_slotb⟩

end Cert.Proof

end
